-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def Pre_OutArg (m : (ℓ : Loc Cert.OutArg.nD Cert.OutArg.τ Cert.OutArg.sig) → Buf (Elt Bits) ℓ) : Prop :=
  True

def Pre_OutArgIdeal (m : (ℓ : Loc Cert.OutArgIdeal.nD Cert.OutArgIdeal.τ Cert.OutArgIdeal.sig) → Buf (Elt Ideal) ℓ) : Prop :=
  True

def Pre_OutArgReferenceIdeal (m : (ℓ : Loc Cert.OutArgReferenceIdeal.nD Cert.OutArgReferenceIdeal.τ Cert.OutArgReferenceIdeal.sig) → Buf (Elt Ideal) ℓ) : Prop :=
  True

def Pre_OutWeights (m : (ℓ : Loc Cert.OutWeights.nD Cert.OutWeights.τ Cert.OutWeights.sig) → Buf (Elt Bits) ℓ) : Prop :=
  True

def Pre_OutWeightsIdeal (m : (ℓ : Loc Cert.OutWeightsIdeal.nD Cert.OutWeightsIdeal.τ Cert.OutWeightsIdeal.sig) → Buf (Elt Ideal) ℓ) : Prop :=
  True

def Pre_OutWeightsReferenceIdeal (m : (ℓ : Loc Cert.OutWeightsReferenceIdeal.nD Cert.OutWeightsReferenceIdeal.τ Cert.OutWeightsReferenceIdeal.sig) → Buf (Elt Ideal) ℓ) : Prop :=
  True

def Pre_CrossArg (m : (ℓ : Loc Cert.CrossArg.nD Cert.CrossArg.τ Cert.CrossArg.sig) → Buf (Elt Bits) ℓ) : Prop :=
  True

def Pre_CrossArgIdeal (m : (ℓ : Loc Cert.CrossArgIdeal.nD Cert.CrossArgIdeal.τ Cert.CrossArgIdeal.sig) → Buf (Elt Ideal) ℓ) : Prop :=
  True

def Pre_CrossArgReferenceIdeal (m : (ℓ : Loc Cert.CrossArgReferenceIdeal.nD Cert.CrossArgReferenceIdeal.τ Cert.CrossArgReferenceIdeal.sig) → Buf (Elt Ideal) ℓ) : Prop :=
  True

def Pre_CrossWeights (m : (ℓ : Loc Cert.CrossWeights.nD Cert.CrossWeights.τ Cert.CrossWeights.sig) → Buf (Elt Bits) ℓ) : Prop :=
  True

def Pre_CrossWeightsIdeal (m : (ℓ : Loc Cert.CrossWeightsIdeal.nD Cert.CrossWeightsIdeal.τ Cert.CrossWeightsIdeal.sig) → Buf (Elt Ideal) ℓ) : Prop :=
  True

def Pre_CrossWeightsReferenceIdeal (m : (ℓ : Loc Cert.CrossWeightsReferenceIdeal.nD Cert.CrossWeightsReferenceIdeal.τ Cert.CrossWeightsReferenceIdeal.sig) → Buf (Elt Ideal) ℓ) : Prop :=
  True

def Pre_InWeights (m : (ℓ : Loc Cert.InWeights.nD Cert.InWeights.τ Cert.InWeights.sig) → Buf (Elt Bits) ℓ) : Prop :=
  True

def Pre_InWeightsIdeal (m : (ℓ : Loc Cert.InWeightsIdeal.nD Cert.InWeightsIdeal.τ Cert.InWeightsIdeal.sig) → Buf (Elt Ideal) ℓ) : Prop :=
  True

def Pre_InWeightsReferenceIdeal (m : (ℓ : Loc Cert.InWeightsReferenceIdeal.nD Cert.InWeightsReferenceIdeal.τ Cert.InWeightsReferenceIdeal.sig) → Buf (Elt Ideal) ℓ) : Prop :=
  True

def Pre_InC (m : (ℓ : Loc Cert.InC.nD Cert.InC.τ Cert.InC.sig) → Buf (Elt Bits) ℓ) : Prop :=
  True

def Pre_InCIdeal (m : (ℓ : Loc Cert.InCIdeal.nD Cert.InCIdeal.τ Cert.InCIdeal.sig) → Buf (Elt Ideal) ℓ) : Prop :=
  True

def Pre_InCReferenceIdeal (m : (ℓ : Loc Cert.InCReferenceIdeal.nD Cert.InCReferenceIdeal.τ Cert.InCReferenceIdeal.sig) → Buf (Elt Ideal) ℓ) : Prop :=
  True

def Pre_OutC (m : (ℓ : Loc Cert.OutC.nD Cert.OutC.τ Cert.OutC.sig) → Buf (Elt Bits) ℓ) : Prop :=
  True

def Pre_OutCIdeal (m : (ℓ : Loc Cert.OutCIdeal.nD Cert.OutCIdeal.τ Cert.OutCIdeal.sig) → Buf (Elt Ideal) ℓ) : Prop :=
  True

def Pre_OutCReferenceIdeal (m : (ℓ : Loc Cert.OutCReferenceIdeal.nD Cert.OutCReferenceIdeal.τ Cert.OutCReferenceIdeal.sig) → Buf (Elt Ideal) ℓ) : Prop :=
  True

def Pre_CrossQ (m : (ℓ : Loc Cert.CrossQ.nD Cert.CrossQ.τ Cert.CrossQ.sig) → Buf (Elt Bits) ℓ) : Prop :=
  True

def Pre_CrossQIdeal (m : (ℓ : Loc Cert.CrossQIdeal.nD Cert.CrossQIdeal.τ Cert.CrossQIdeal.sig) → Buf (Elt Ideal) ℓ) : Prop :=
  True

def Pre_CrossQReferenceIdeal (m : (ℓ : Loc Cert.CrossQReferenceIdeal.nD Cert.CrossQReferenceIdeal.τ Cert.CrossQReferenceIdeal.sig) → Buf (Elt Ideal) ℓ) : Prop :=
  True

def Pre_CrossO (m : (ℓ : Loc Cert.CrossO.nD Cert.CrossO.τ Cert.CrossO.sig) → Buf (Elt Bits) ℓ) : Prop :=
  True

def Pre_CrossOIdeal (m : (ℓ : Loc Cert.CrossOIdeal.nD Cert.CrossOIdeal.τ Cert.CrossOIdeal.sig) → Buf (Elt Ideal) ℓ) : Prop :=
  True

def Pre_CrossOReferenceIdeal (m : (ℓ : Loc Cert.CrossOReferenceIdeal.nD Cert.CrossOReferenceIdeal.τ Cert.CrossOReferenceIdeal.sig) → Buf (Elt Ideal) ℓ) : Prop :=
  True

def Pre_Cross (m : (ℓ : Loc Cert.Cross.nD Cert.Cross.τ Cert.Cross.sig) → Buf (Elt Bits) ℓ) : Prop :=
  True

def Pre_CrossIdeal (m : (ℓ : Loc Cert.CrossIdeal.nD Cert.CrossIdeal.τ Cert.CrossIdeal.sig) → Buf (Elt Ideal) ℓ) : Prop :=
  True

def Pre_CrossIdeal_finite_cross [hPre_finite_cross : Cert.Pre_finite_cross.Facts] (m : (ℓ : Loc Cert.CrossIdeal.nD Cert.CrossIdeal.τ Cert.CrossIdeal.sig) → Buf (Elt Ideal) ℓ) : Prop :=
  ∀ c : Dev Cert.CrossIdeal.nD,
    (Cert.Pre_finite_cross.fn (F := Ideal) (m ((c.tc : Thread Cert.CrossIdeal.nD Cert.CrossIdeal.τ).loc Cert.CrossIdeal.main_arg0)) (m ((c.tc : Thread Cert.CrossIdeal.nD Cert.CrossIdeal.τ).loc Cert.CrossIdeal.main_arg1)) (m ((c.tc : Thread Cert.CrossIdeal.nD Cert.CrossIdeal.τ).loc Cert.CrossIdeal.main_arg2))).1 = (fun _ => 1#1)
    ∧ (Cert.Pre_finite_cross.fn (F := Ideal) (m ((c.tc : Thread Cert.CrossIdeal.nD Cert.CrossIdeal.τ).loc Cert.CrossIdeal.main_arg0)) (m ((c.tc : Thread Cert.CrossIdeal.nD Cert.CrossIdeal.τ).loc Cert.CrossIdeal.main_arg1)) (m ((c.tc : Thread Cert.CrossIdeal.nD Cert.CrossIdeal.τ).loc Cert.CrossIdeal.main_arg2))).2 = (fun _ => 1#1)

def Pre_CrossReferenceIdeal (m : (ℓ : Loc Cert.CrossReferenceIdeal.nD Cert.CrossReferenceIdeal.τ Cert.CrossReferenceIdeal.sig) → Buf (Elt Ideal) ℓ) : Prop :=
  True

def Pre_CrossReferenceIdeal_finite_cross [hPre_finite_cross : Cert.Pre_finite_cross.Facts] (m : (ℓ : Loc Cert.CrossReferenceIdeal.nD Cert.CrossReferenceIdeal.τ Cert.CrossReferenceIdeal.sig) → Buf (Elt Ideal) ℓ) : Prop :=
  ∀ c : Dev Cert.CrossReferenceIdeal.nD,
    (Cert.Pre_finite_cross.fn (F := Ideal) (m ((c.tc : Thread Cert.CrossReferenceIdeal.nD Cert.CrossReferenceIdeal.τ).loc Cert.CrossReferenceIdeal.main_arg0)) (m ((c.tc : Thread Cert.CrossReferenceIdeal.nD Cert.CrossReferenceIdeal.τ).loc Cert.CrossReferenceIdeal.main_arg1)) (m ((c.tc : Thread Cert.CrossReferenceIdeal.nD Cert.CrossReferenceIdeal.τ).loc Cert.CrossReferenceIdeal.main_arg2))).1 = (fun _ => 1#1)
    ∧ (Cert.Pre_finite_cross.fn (F := Ideal) (m ((c.tc : Thread Cert.CrossReferenceIdeal.nD Cert.CrossReferenceIdeal.τ).loc Cert.CrossReferenceIdeal.main_arg0)) (m ((c.tc : Thread Cert.CrossReferenceIdeal.nD Cert.CrossReferenceIdeal.τ).loc Cert.CrossReferenceIdeal.main_arg1)) (m ((c.tc : Thread Cert.CrossReferenceIdeal.nD Cert.CrossReferenceIdeal.τ).loc Cert.CrossReferenceIdeal.main_arg2))).2 = (fun _ => 1#1)

def Pre_CrossGrad (m : (ℓ : Loc Cert.CrossGrad.nD Cert.CrossGrad.τ Cert.CrossGrad.sig) → Buf (Elt Bits) ℓ) : Prop :=
  True

def Pre_CrossGradIdeal (m : (ℓ : Loc Cert.CrossGradIdeal.nD Cert.CrossGradIdeal.τ Cert.CrossGradIdeal.sig) → Buf (Elt Ideal) ℓ) : Prop :=
  True

def Pre_CrossGradIdeal_finite_cross_grad [hPre_finite_cross_grad : Cert.Pre_finite_cross_grad.Facts] (m : (ℓ : Loc Cert.CrossGradIdeal.nD Cert.CrossGradIdeal.τ Cert.CrossGradIdeal.sig) → Buf (Elt Ideal) ℓ) : Prop :=
  ∀ c : Dev Cert.CrossGradIdeal.nD,
    (Cert.Pre_finite_cross_grad.fn (F := Ideal) (m ((c.tc : Thread Cert.CrossGradIdeal.nD Cert.CrossGradIdeal.τ).loc Cert.CrossGradIdeal.main_arg0)) (m ((c.tc : Thread Cert.CrossGradIdeal.nD Cert.CrossGradIdeal.τ).loc Cert.CrossGradIdeal.main_arg1)) (m ((c.tc : Thread Cert.CrossGradIdeal.nD Cert.CrossGradIdeal.τ).loc Cert.CrossGradIdeal.main_arg2)) (m ((c.tc : Thread Cert.CrossGradIdeal.nD Cert.CrossGradIdeal.τ).loc Cert.CrossGradIdeal.main_arg3))).1 = (fun _ => 1#1)
    ∧ (Cert.Pre_finite_cross_grad.fn (F := Ideal) (m ((c.tc : Thread Cert.CrossGradIdeal.nD Cert.CrossGradIdeal.τ).loc Cert.CrossGradIdeal.main_arg0)) (m ((c.tc : Thread Cert.CrossGradIdeal.nD Cert.CrossGradIdeal.τ).loc Cert.CrossGradIdeal.main_arg1)) (m ((c.tc : Thread Cert.CrossGradIdeal.nD Cert.CrossGradIdeal.τ).loc Cert.CrossGradIdeal.main_arg2)) (m ((c.tc : Thread Cert.CrossGradIdeal.nD Cert.CrossGradIdeal.τ).loc Cert.CrossGradIdeal.main_arg3))).2.1 = (fun _ => 1#1)
    ∧ (Cert.Pre_finite_cross_grad.fn (F := Ideal) (m ((c.tc : Thread Cert.CrossGradIdeal.nD Cert.CrossGradIdeal.τ).loc Cert.CrossGradIdeal.main_arg0)) (m ((c.tc : Thread Cert.CrossGradIdeal.nD Cert.CrossGradIdeal.τ).loc Cert.CrossGradIdeal.main_arg1)) (m ((c.tc : Thread Cert.CrossGradIdeal.nD Cert.CrossGradIdeal.τ).loc Cert.CrossGradIdeal.main_arg2)) (m ((c.tc : Thread Cert.CrossGradIdeal.nD Cert.CrossGradIdeal.τ).loc Cert.CrossGradIdeal.main_arg3))).2.2.1 = (fun _ => 1#1)
    ∧ (Cert.Pre_finite_cross_grad.fn (F := Ideal) (m ((c.tc : Thread Cert.CrossGradIdeal.nD Cert.CrossGradIdeal.τ).loc Cert.CrossGradIdeal.main_arg0)) (m ((c.tc : Thread Cert.CrossGradIdeal.nD Cert.CrossGradIdeal.τ).loc Cert.CrossGradIdeal.main_arg1)) (m ((c.tc : Thread Cert.CrossGradIdeal.nD Cert.CrossGradIdeal.τ).loc Cert.CrossGradIdeal.main_arg2)) (m ((c.tc : Thread Cert.CrossGradIdeal.nD Cert.CrossGradIdeal.τ).loc Cert.CrossGradIdeal.main_arg3))).2.2.2 = (fun _ => 1#1)

def Pre_CrossGradReferenceIdeal (m : (ℓ : Loc Cert.CrossGradReferenceIdeal.nD Cert.CrossGradReferenceIdeal.τ Cert.CrossGradReferenceIdeal.sig) → Buf (Elt Ideal) ℓ) : Prop :=
  True

def Pre_CrossGradReferenceIdeal_finite_cross_grad [hPre_finite_cross_grad : Cert.Pre_finite_cross_grad.Facts] (m : (ℓ : Loc Cert.CrossGradReferenceIdeal.nD Cert.CrossGradReferenceIdeal.τ Cert.CrossGradReferenceIdeal.sig) → Buf (Elt Ideal) ℓ) : Prop :=
  ∀ c : Dev Cert.CrossGradReferenceIdeal.nD,
    (Cert.Pre_finite_cross_grad.fn (F := Ideal) (m ((c.tc : Thread Cert.CrossGradReferenceIdeal.nD Cert.CrossGradReferenceIdeal.τ).loc Cert.CrossGradReferenceIdeal.main_arg0)) (m ((c.tc : Thread Cert.CrossGradReferenceIdeal.nD Cert.CrossGradReferenceIdeal.τ).loc Cert.CrossGradReferenceIdeal.main_arg1)) (m ((c.tc : Thread Cert.CrossGradReferenceIdeal.nD Cert.CrossGradReferenceIdeal.τ).loc Cert.CrossGradReferenceIdeal.main_arg2)) (m ((c.tc : Thread Cert.CrossGradReferenceIdeal.nD Cert.CrossGradReferenceIdeal.τ).loc Cert.CrossGradReferenceIdeal.main_arg3))).1 = (fun _ => 1#1)
    ∧ (Cert.Pre_finite_cross_grad.fn (F := Ideal) (m ((c.tc : Thread Cert.CrossGradReferenceIdeal.nD Cert.CrossGradReferenceIdeal.τ).loc Cert.CrossGradReferenceIdeal.main_arg0)) (m ((c.tc : Thread Cert.CrossGradReferenceIdeal.nD Cert.CrossGradReferenceIdeal.τ).loc Cert.CrossGradReferenceIdeal.main_arg1)) (m ((c.tc : Thread Cert.CrossGradReferenceIdeal.nD Cert.CrossGradReferenceIdeal.τ).loc Cert.CrossGradReferenceIdeal.main_arg2)) (m ((c.tc : Thread Cert.CrossGradReferenceIdeal.nD Cert.CrossGradReferenceIdeal.τ).loc Cert.CrossGradReferenceIdeal.main_arg3))).2.1 = (fun _ => 1#1)
    ∧ (Cert.Pre_finite_cross_grad.fn (F := Ideal) (m ((c.tc : Thread Cert.CrossGradReferenceIdeal.nD Cert.CrossGradReferenceIdeal.τ).loc Cert.CrossGradReferenceIdeal.main_arg0)) (m ((c.tc : Thread Cert.CrossGradReferenceIdeal.nD Cert.CrossGradReferenceIdeal.τ).loc Cert.CrossGradReferenceIdeal.main_arg1)) (m ((c.tc : Thread Cert.CrossGradReferenceIdeal.nD Cert.CrossGradReferenceIdeal.τ).loc Cert.CrossGradReferenceIdeal.main_arg2)) (m ((c.tc : Thread Cert.CrossGradReferenceIdeal.nD Cert.CrossGradReferenceIdeal.τ).loc Cert.CrossGradReferenceIdeal.main_arg3))).2.2.1 = (fun _ => 1#1)
    ∧ (Cert.Pre_finite_cross_grad.fn (F := Ideal) (m ((c.tc : Thread Cert.CrossGradReferenceIdeal.nD Cert.CrossGradReferenceIdeal.τ).loc Cert.CrossGradReferenceIdeal.main_arg0)) (m ((c.tc : Thread Cert.CrossGradReferenceIdeal.nD Cert.CrossGradReferenceIdeal.τ).loc Cert.CrossGradReferenceIdeal.main_arg1)) (m ((c.tc : Thread Cert.CrossGradReferenceIdeal.nD Cert.CrossGradReferenceIdeal.τ).loc Cert.CrossGradReferenceIdeal.main_arg2)) (m ((c.tc : Thread Cert.CrossGradReferenceIdeal.nD Cert.CrossGradReferenceIdeal.τ).loc Cert.CrossGradReferenceIdeal.main_arg3))).2.2.2 = (fun _ => 1#1)

def Pre_MemKeys (m : (ℓ : Loc Cert.MemKeys.nD Cert.MemKeys.τ Cert.MemKeys.sig) → Buf (Elt Bits) ℓ) : Prop :=
  True

def Pre_MemKeysIdeal (m : (ℓ : Loc Cert.MemKeysIdeal.nD Cert.MemKeysIdeal.τ Cert.MemKeysIdeal.sig) → Buf (Elt Ideal) ℓ) : Prop :=
  True

def Pre_MemKeysReferenceIdeal (m : (ℓ : Loc Cert.MemKeysReferenceIdeal.nD Cert.MemKeysReferenceIdeal.τ Cert.MemKeysReferenceIdeal.sig) → Buf (Elt Ideal) ℓ) : Prop :=
  True

def Pre_MemArg (m : (ℓ : Loc Cert.MemArg.nD Cert.MemArg.τ Cert.MemArg.sig) → Buf (Elt Bits) ℓ) : Prop :=
  True

def Pre_MemArgIdeal (m : (ℓ : Loc Cert.MemArgIdeal.nD Cert.MemArgIdeal.τ Cert.MemArgIdeal.sig) → Buf (Elt Ideal) ℓ) : Prop :=
  True

def Pre_MemArgReferenceIdeal (m : (ℓ : Loc Cert.MemArgReferenceIdeal.nD Cert.MemArgReferenceIdeal.τ Cert.MemArgReferenceIdeal.sig) → Buf (Elt Ideal) ℓ) : Prop :=
  True

def Pre_MemWeights (m : (ℓ : Loc Cert.MemWeights.nD Cert.MemWeights.τ Cert.MemWeights.sig) → Buf (Elt Bits) ℓ) : Prop :=
  True

def Pre_MemWeightsIdeal (m : (ℓ : Loc Cert.MemWeightsIdeal.nD Cert.MemWeightsIdeal.τ Cert.MemWeightsIdeal.sig) → Buf (Elt Ideal) ℓ) : Prop :=
  True

def Pre_MemWeightsReferenceIdeal (m : (ℓ : Loc Cert.MemWeightsReferenceIdeal.nD Cert.MemWeightsReferenceIdeal.τ Cert.MemWeightsReferenceIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def Pre_MemNorm (m : (ℓ : Loc Cert.MemNorm.nD Cert.MemNorm.τ Cert.MemNorm.sig) → Buf (Elt Bits) ℓ) : Prop :=
  True

def Pre_MemNormIdeal (m : (ℓ : Loc Cert.MemNormIdeal.nD Cert.MemNormIdeal.τ Cert.MemNormIdeal.sig) → Buf (Elt Ideal) ℓ) : Prop :=
  True

def Pre_MemNormReferenceIdeal (m : (ℓ : Loc Cert.MemNormReferenceIdeal.nD Cert.MemNormReferenceIdeal.τ Cert.MemNormReferenceIdeal.sig) → Buf (Elt Ideal) ℓ) : Prop :=
  True

def Pre_NormGrad (m : (ℓ : Loc Cert.NormGrad.nD Cert.NormGrad.τ Cert.NormGrad.sig) → Buf (Elt Bits) ℓ) : Prop :=
  True

def Pre_NormGradIdeal (m : (ℓ : Loc Cert.NormGradIdeal.nD Cert.NormGradIdeal.τ Cert.NormGradIdeal.sig) → Buf (Elt Ideal) ℓ) : Prop :=
  True

def Pre_NormGradReferenceIdeal (m : (ℓ : Loc Cert.NormGradReferenceIdeal.nD Cert.NormGradReferenceIdeal.τ Cert.NormGradReferenceIdeal.sig) → Buf (Elt Ideal) ℓ) : Prop :=
  True

def Pre_MemNormGrad (m : (ℓ : Loc Cert.MemNormGrad.nD Cert.MemNormGrad.τ Cert.MemNormGrad.sig) → Buf (Elt Bits) ℓ) : Prop :=
  True

def Pre_MemNormGradIdeal (m : (ℓ : Loc Cert.MemNormGradIdeal.nD Cert.MemNormGradIdeal.τ Cert.MemNormGradIdeal.sig) → Buf (Elt Ideal) ℓ) : Prop :=
  True

def Pre_MemNormGradReferenceIdeal (m : (ℓ : Loc Cert.MemNormGradReferenceIdeal.nD Cert.MemNormGradReferenceIdeal.τ Cert.MemNormGradReferenceIdeal.sig) → Buf (Elt Ideal) ℓ) : Prop :=
  True

def Pre_GateFwd (m : (ℓ : Loc Cert.GateFwd.nD Cert.GateFwd.τ Cert.GateFwd.sig) → Buf (Elt Bits) ℓ) : Prop :=
  True

def Pre_GateFwdIdeal (m : (ℓ : Loc Cert.GateFwdIdeal.nD Cert.GateFwdIdeal.τ Cert.GateFwdIdeal.sig) → Buf (Elt Ideal) ℓ) : Prop :=
  True

def Pre_GateFwdReferenceIdeal (m : (ℓ : Loc Cert.GateFwdReferenceIdeal.nD Cert.GateFwdReferenceIdeal.τ Cert.GateFwdReferenceIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossReferenceIdeal (m : (ℓ : Loc Cert.LossReferenceIdeal.nD Cert.LossReferenceIdeal.τ Cert.LossReferenceIdeal.sig) → Buf (Elt Ideal) ℓ) : Prop :=
  True

def Pre_StepAB (m : (ℓ : Loc Cert.StepAB.nD Cert.StepAB.τ Cert.StepAB.sig) → Buf (Elt Bits) ℓ) : Prop :=
  True

def Pre_StepABIdeal (m : (ℓ : Loc Cert.StepABIdeal.nD Cert.StepABIdeal.τ Cert.StepABIdeal.sig) → Buf (Elt Ideal) ℓ) : Prop :=
  True

def Pre_StepABReferenceIdeal (m : (ℓ : Loc Cert.StepABReferenceIdeal.nD Cert.StepABReferenceIdeal.τ Cert.StepABReferenceIdeal.sig) → Buf (Elt Ideal) ℓ) : Prop :=
  True

def Pre_StepC (m : (ℓ : Loc Cert.StepC.nD Cert.StepC.τ Cert.StepC.sig) → Buf (Elt Bits) ℓ) : Prop :=
  True

def Pre_StepCIdeal (m : (ℓ : Loc Cert.StepCIdeal.nD Cert.StepCIdeal.τ Cert.StepCIdeal.sig) → Buf (Elt Ideal) ℓ) : Prop :=
  True

def Pre_StepCReferenceIdeal (m : (ℓ : Loc Cert.StepCReferenceIdeal.nD Cert.StepCReferenceIdeal.τ Cert.StepCReferenceIdeal.sig) → Buf (Elt Ideal) ℓ) : Prop :=
  True

def Pre_StepOut (m : (ℓ : Loc Cert.StepOut.nD Cert.StepOut.τ Cert.StepOut.sig) → Buf (Elt Bits) ℓ) : Prop :=
  True

def Pre_StepOutIdeal (m : (ℓ : Loc Cert.StepOutIdeal.nD Cert.StepOutIdeal.τ Cert.StepOutIdeal.sig) → Buf (Elt Ideal) ℓ) : Prop :=
  True

def Pre_StepOutReferenceIdeal (m : (ℓ : Loc Cert.StepOutReferenceIdeal.nD Cert.StepOutReferenceIdeal.τ Cert.StepOutReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_OutArg [hOutArg : Cert.OutArg.Facts] : Prop :=
  ∀ (m : (ℓ : Loc Cert.OutArg.nD Cert.OutArg.τ Cert.OutArg.sig) → Buf (Elt Bits) ℓ) (g : Dev Cert.OutArg.nD → PrngReg), Pre_OutArg m →
    θ_run (Cert.OutArg.defs (F := Bits)) (onTc (τ := Cert.OutArg.τ) (Cert.OutArg.main (F := Bits))) ⟨m, fun _ => 0, g⟩ (fun r => (∀ c : Dev Cert.OutArg.nD,
      r.2.mem ((c.tc : Thread Cert.OutArg.nD Cert.OutArg.τ).loc Cert.OutArg.main_arg0) = m ((c.tc : Thread Cert.OutArg.nD Cert.OutArg.τ).loc Cert.OutArg.main_arg0)
      ∧ r.2.mem ((c.tc : Thread Cert.OutArg.nD Cert.OutArg.τ).loc Cert.OutArg.main_arg1) = m ((c.tc : Thread Cert.OutArg.nD Cert.OutArg.τ).loc Cert.OutArg.main_arg1))
      ∧ r.2.sem = fun _ => 0)

def quiescent_OutArgIdeal [hOutArgIdeal : Cert.OutArgIdeal.Facts] : Prop :=
  ∀ (m : (ℓ : Loc Cert.OutArgIdeal.nD Cert.OutArgIdeal.τ Cert.OutArgIdeal.sig) → Buf (Elt Ideal) ℓ) (g : Dev Cert.OutArgIdeal.nD → PrngReg), Pre_OutArgIdeal m →
    θ_run (Cert.OutArgIdeal.defs (F := Ideal)) (onTc (τ := Cert.OutArgIdeal.τ) (Cert.OutArgIdeal.main (F := Ideal))) ⟨m, fun _ => 0, g⟩ (fun r => (∀ c : Dev Cert.OutArgIdeal.nD,
      r.2.mem ((c.tc : Thread Cert.OutArgIdeal.nD Cert.OutArgIdeal.τ).loc Cert.OutArgIdeal.main_arg0) = m ((c.tc : Thread Cert.OutArgIdeal.nD Cert.OutArgIdeal.τ).loc Cert.OutArgIdeal.main_arg0)
      ∧ r.2.mem ((c.tc : Thread Cert.OutArgIdeal.nD Cert.OutArgIdeal.τ).loc Cert.OutArgIdeal.main_arg1) = m ((c.tc : Thread Cert.OutArgIdeal.nD Cert.OutArgIdeal.τ).loc Cert.OutArgIdeal.main_arg1))
      ∧ r.2.sem = fun _ => 0)

def quiescent_OutArgReferenceIdeal [hOutArgReferenceIdeal : Cert.OutArgReferenceIdeal.Facts] : Prop :=
  ∀ (m : (ℓ : Loc Cert.OutArgReferenceIdeal.nD Cert.OutArgReferenceIdeal.τ Cert.OutArgReferenceIdeal.sig) → Buf (Elt Ideal) ℓ) (g : Dev Cert.OutArgReferenceIdeal.nD → PrngReg), Pre_OutArgReferenceIdeal m →
    θ_run (Cert.OutArgReferenceIdeal.defs (F := Ideal)) (onTc (τ := Cert.OutArgReferenceIdeal.τ) (Cert.OutArgReferenceIdeal.main (F := Ideal))) ⟨m, fun _ => 0, g⟩ (fun r => (∀ c : Dev Cert.OutArgReferenceIdeal.nD,
      r.2.mem ((c.tc : Thread Cert.OutArgReferenceIdeal.nD Cert.OutArgReferenceIdeal.τ).loc Cert.OutArgReferenceIdeal.main_arg0) = m ((c.tc : Thread Cert.OutArgReferenceIdeal.nD Cert.OutArgReferenceIdeal.τ).loc Cert.OutArgReferenceIdeal.main_arg0)
      ∧ r.2.mem ((c.tc : Thread Cert.OutArgReferenceIdeal.nD Cert.OutArgReferenceIdeal.τ).loc Cert.OutArgReferenceIdeal.main_arg1) = m ((c.tc : Thread Cert.OutArgReferenceIdeal.nD Cert.OutArgReferenceIdeal.τ).loc Cert.OutArgReferenceIdeal.main_arg1))
      ∧ r.2.sem = fun _ => 0)

def quiescent_OutWeights [hOutWeights : Cert.OutWeights.Facts] : Prop :=
  ∀ (m : (ℓ : Loc Cert.OutWeights.nD Cert.OutWeights.τ Cert.OutWeights.sig) → Buf (Elt Bits) ℓ) (g : Dev Cert.OutWeights.nD → PrngReg), Pre_OutWeights m →
    θ_run (Cert.OutWeights.defs (F := Bits)) (onTc (τ := Cert.OutWeights.τ) (Cert.OutWeights.main (F := Bits))) ⟨m, fun _ => 0, g⟩ (fun r => (∀ c : Dev Cert.OutWeights.nD,
      r.2.mem ((c.tc : Thread Cert.OutWeights.nD Cert.OutWeights.τ).loc Cert.OutWeights.main_arg0) = m ((c.tc : Thread Cert.OutWeights.nD Cert.OutWeights.τ).loc Cert.OutWeights.main_arg0)
      ∧ r.2.mem ((c.tc : Thread Cert.OutWeights.nD Cert.OutWeights.τ).loc Cert.OutWeights.main_arg1) = m ((c.tc : Thread Cert.OutWeights.nD Cert.OutWeights.τ).loc Cert.OutWeights.main_arg1))
      ∧ r.2.sem = fun _ => 0)

def quiescent_OutWeightsIdeal [hOutWeightsIdeal : Cert.OutWeightsIdeal.Facts] : Prop :=
  ∀ (m : (ℓ : Loc Cert.OutWeightsIdeal.nD Cert.OutWeightsIdeal.τ Cert.OutWeightsIdeal.sig) → Buf (Elt Ideal) ℓ) (g : Dev Cert.OutWeightsIdeal.nD → PrngReg), Pre_OutWeightsIdeal m →
    θ_run (Cert.OutWeightsIdeal.defs (F := Ideal)) (onTc (τ := Cert.OutWeightsIdeal.τ) (Cert.OutWeightsIdeal.main (F := Ideal))) ⟨m, fun _ => 0, g⟩ (fun r => (∀ c : Dev Cert.OutWeightsIdeal.nD,
      r.2.mem ((c.tc : Thread Cert.OutWeightsIdeal.nD Cert.OutWeightsIdeal.τ).loc Cert.OutWeightsIdeal.main_arg0) = m ((c.tc : Thread Cert.OutWeightsIdeal.nD Cert.OutWeightsIdeal.τ).loc Cert.OutWeightsIdeal.main_arg0)
      ∧ r.2.mem ((c.tc : Thread Cert.OutWeightsIdeal.nD Cert.OutWeightsIdeal.τ).loc Cert.OutWeightsIdeal.main_arg1) = m ((c.tc : Thread Cert.OutWeightsIdeal.nD Cert.OutWeightsIdeal.τ).loc Cert.OutWeightsIdeal.main_arg1))
      ∧ r.2.sem = fun _ => 0)

def quiescent_OutWeightsReferenceIdeal [hOutWeightsReferenceIdeal : Cert.OutWeightsReferenceIdeal.Facts] : Prop :=
  ∀ (m : (ℓ : Loc Cert.OutWeightsReferenceIdeal.nD Cert.OutWeightsReferenceIdeal.τ Cert.OutWeightsReferenceIdeal.sig) → Buf (Elt Ideal) ℓ) (g : Dev Cert.OutWeightsReferenceIdeal.nD → PrngReg), Pre_OutWeightsReferenceIdeal m →
    θ_run (Cert.OutWeightsReferenceIdeal.defs (F := Ideal)) (onTc (τ := Cert.OutWeightsReferenceIdeal.τ) (Cert.OutWeightsReferenceIdeal.main (F := Ideal))) ⟨m, fun _ => 0, g⟩ (fun r => (∀ c : Dev Cert.OutWeightsReferenceIdeal.nD,
      r.2.mem ((c.tc : Thread Cert.OutWeightsReferenceIdeal.nD Cert.OutWeightsReferenceIdeal.τ).loc Cert.OutWeightsReferenceIdeal.main_arg0) = m ((c.tc : Thread Cert.OutWeightsReferenceIdeal.nD Cert.OutWeightsReferenceIdeal.τ).loc Cert.OutWeightsReferenceIdeal.main_arg0)
      ∧ r.2.mem ((c.tc : Thread Cert.OutWeightsReferenceIdeal.nD Cert.OutWeightsReferenceIdeal.τ).loc Cert.OutWeightsReferenceIdeal.main_arg1) = m ((c.tc : Thread Cert.OutWeightsReferenceIdeal.nD Cert.OutWeightsReferenceIdeal.τ).loc Cert.OutWeightsReferenceIdeal.main_arg1))
      ∧ r.2.sem = fun _ => 0)

def quiescent_CrossArg [hCrossArg : Cert.CrossArg.Facts] : Prop :=
  ∀ (m : (ℓ : Loc Cert.CrossArg.nD Cert.CrossArg.τ Cert.CrossArg.sig) → Buf (Elt Bits) ℓ) (g : Dev Cert.CrossArg.nD → PrngReg), Pre_CrossArg m →
    θ_run (Cert.CrossArg.defs (F := Bits)) (onTc (τ := Cert.CrossArg.τ) (Cert.CrossArg.main (F := Bits))) ⟨m, fun _ => 0, g⟩ (fun r => (∀ c : Dev Cert.CrossArg.nD,
      r.2.mem ((c.tc : Thread Cert.CrossArg.nD Cert.CrossArg.τ).loc Cert.CrossArg.main_arg0) = m ((c.tc : Thread Cert.CrossArg.nD Cert.CrossArg.τ).loc Cert.CrossArg.main_arg0)
      ∧ r.2.mem ((c.tc : Thread Cert.CrossArg.nD Cert.CrossArg.τ).loc Cert.CrossArg.main_arg1) = m ((c.tc : Thread Cert.CrossArg.nD Cert.CrossArg.τ).loc Cert.CrossArg.main_arg1))
      ∧ r.2.sem = fun _ => 0)

def quiescent_CrossArgIdeal [hCrossArgIdeal : Cert.CrossArgIdeal.Facts] : Prop :=
  ∀ (m : (ℓ : Loc Cert.CrossArgIdeal.nD Cert.CrossArgIdeal.τ Cert.CrossArgIdeal.sig) → Buf (Elt Ideal) ℓ) (g : Dev Cert.CrossArgIdeal.nD → PrngReg), Pre_CrossArgIdeal m →
    θ_run (Cert.CrossArgIdeal.defs (F := Ideal)) (onTc (τ := Cert.CrossArgIdeal.τ) (Cert.CrossArgIdeal.main (F := Ideal))) ⟨m, fun _ => 0, g⟩ (fun r => (∀ c : Dev Cert.CrossArgIdeal.nD,
      r.2.mem ((c.tc : Thread Cert.CrossArgIdeal.nD Cert.CrossArgIdeal.τ).loc Cert.CrossArgIdeal.main_arg0) = m ((c.tc : Thread Cert.CrossArgIdeal.nD Cert.CrossArgIdeal.τ).loc Cert.CrossArgIdeal.main_arg0)
      ∧ r.2.mem ((c.tc : Thread Cert.CrossArgIdeal.nD Cert.CrossArgIdeal.τ).loc Cert.CrossArgIdeal.main_arg1) = m ((c.tc : Thread Cert.CrossArgIdeal.nD Cert.CrossArgIdeal.τ).loc Cert.CrossArgIdeal.main_arg1))
      ∧ r.2.sem = fun _ => 0)

def quiescent_CrossArgReferenceIdeal [hCrossArgReferenceIdeal : Cert.CrossArgReferenceIdeal.Facts] : Prop :=
  ∀ (m : (ℓ : Loc Cert.CrossArgReferenceIdeal.nD Cert.CrossArgReferenceIdeal.τ Cert.CrossArgReferenceIdeal.sig) → Buf (Elt Ideal) ℓ) (g : Dev Cert.CrossArgReferenceIdeal.nD → PrngReg), Pre_CrossArgReferenceIdeal m →
    θ_run (Cert.CrossArgReferenceIdeal.defs (F := Ideal)) (onTc (τ := Cert.CrossArgReferenceIdeal.τ) (Cert.CrossArgReferenceIdeal.main (F := Ideal))) ⟨m, fun _ => 0, g⟩ (fun r => (∀ c : Dev Cert.CrossArgReferenceIdeal.nD,
      r.2.mem ((c.tc : Thread Cert.CrossArgReferenceIdeal.nD Cert.CrossArgReferenceIdeal.τ).loc Cert.CrossArgReferenceIdeal.main_arg0) = m ((c.tc : Thread Cert.CrossArgReferenceIdeal.nD Cert.CrossArgReferenceIdeal.τ).loc Cert.CrossArgReferenceIdeal.main_arg0)
      ∧ r.2.mem ((c.tc : Thread Cert.CrossArgReferenceIdeal.nD Cert.CrossArgReferenceIdeal.τ).loc Cert.CrossArgReferenceIdeal.main_arg1) = m ((c.tc : Thread Cert.CrossArgReferenceIdeal.nD Cert.CrossArgReferenceIdeal.τ).loc Cert.CrossArgReferenceIdeal.main_arg1))
      ∧ r.2.sem = fun _ => 0)

def quiescent_CrossWeights [hCrossWeights : Cert.CrossWeights.Facts] : Prop :=
  ∀ (m : (ℓ : Loc Cert.CrossWeights.nD Cert.CrossWeights.τ Cert.CrossWeights.sig) → Buf (Elt Bits) ℓ) (g : Dev Cert.CrossWeights.nD → PrngReg), Pre_CrossWeights m →
    θ_run (Cert.CrossWeights.defs (F := Bits)) (onTc (τ := Cert.CrossWeights.τ) (Cert.CrossWeights.main (F := Bits))) ⟨m, fun _ => 0, g⟩ (fun r => (∀ c : Dev Cert.CrossWeights.nD,
      r.2.mem ((c.tc : Thread Cert.CrossWeights.nD Cert.CrossWeights.τ).loc Cert.CrossWeights.main_arg0) = m ((c.tc : Thread Cert.CrossWeights.nD Cert.CrossWeights.τ).loc Cert.CrossWeights.main_arg0)
      ∧ r.2.mem ((c.tc : Thread Cert.CrossWeights.nD Cert.CrossWeights.τ).loc Cert.CrossWeights.main_arg1) = m ((c.tc : Thread Cert.CrossWeights.nD Cert.CrossWeights.τ).loc Cert.CrossWeights.main_arg1))
      ∧ r.2.sem = fun _ => 0)

def quiescent_CrossWeightsIdeal [hCrossWeightsIdeal : Cert.CrossWeightsIdeal.Facts] : Prop :=
  ∀ (m : (ℓ : Loc Cert.CrossWeightsIdeal.nD Cert.CrossWeightsIdeal.τ Cert.CrossWeightsIdeal.sig) → Buf (Elt Ideal) ℓ) (g : Dev Cert.CrossWeightsIdeal.nD → PrngReg), Pre_CrossWeightsIdeal m →
    θ_run (Cert.CrossWeightsIdeal.defs (F := Ideal)) (onTc (τ := Cert.CrossWeightsIdeal.τ) (Cert.CrossWeightsIdeal.main (F := Ideal))) ⟨m, fun _ => 0, g⟩ (fun r => (∀ c : Dev Cert.CrossWeightsIdeal.nD,
      r.2.mem ((c.tc : Thread Cert.CrossWeightsIdeal.nD Cert.CrossWeightsIdeal.τ).loc Cert.CrossWeightsIdeal.main_arg0) = m ((c.tc : Thread Cert.CrossWeightsIdeal.nD Cert.CrossWeightsIdeal.τ).loc Cert.CrossWeightsIdeal.main_arg0)
      ∧ r.2.mem ((c.tc : Thread Cert.CrossWeightsIdeal.nD Cert.CrossWeightsIdeal.τ).loc Cert.CrossWeightsIdeal.main_arg1) = m ((c.tc : Thread Cert.CrossWeightsIdeal.nD Cert.CrossWeightsIdeal.τ).loc Cert.CrossWeightsIdeal.main_arg1))
      ∧ r.2.sem = fun _ => 0)

def quiescent_CrossWeightsReferenceIdeal [hCrossWeightsReferenceIdeal : Cert.CrossWeightsReferenceIdeal.Facts] : Prop :=
  ∀ (m : (ℓ : Loc Cert.CrossWeightsReferenceIdeal.nD Cert.CrossWeightsReferenceIdeal.τ Cert.CrossWeightsReferenceIdeal.sig) → Buf (Elt Ideal) ℓ) (g : Dev Cert.CrossWeightsReferenceIdeal.nD → PrngReg), Pre_CrossWeightsReferenceIdeal m →
    θ_run (Cert.CrossWeightsReferenceIdeal.defs (F := Ideal)) (onTc (τ := Cert.CrossWeightsReferenceIdeal.τ) (Cert.CrossWeightsReferenceIdeal.main (F := Ideal))) ⟨m, fun _ => 0, g⟩ (fun r => (∀ c : Dev Cert.CrossWeightsReferenceIdeal.nD,
      r.2.mem ((c.tc : Thread Cert.CrossWeightsReferenceIdeal.nD Cert.CrossWeightsReferenceIdeal.τ).loc Cert.CrossWeightsReferenceIdeal.main_arg0) = m ((c.tc : Thread Cert.CrossWeightsReferenceIdeal.nD Cert.CrossWeightsReferenceIdeal.τ).loc Cert.CrossWeightsReferenceIdeal.main_arg0)
      ∧ r.2.mem ((c.tc : Thread Cert.CrossWeightsReferenceIdeal.nD Cert.CrossWeightsReferenceIdeal.τ).loc Cert.CrossWeightsReferenceIdeal.main_arg1) = m ((c.tc : Thread Cert.CrossWeightsReferenceIdeal.nD Cert.CrossWeightsReferenceIdeal.τ).loc Cert.CrossWeightsReferenceIdeal.main_arg1))
      ∧ r.2.sem = fun _ => 0)

def quiescent_InWeights [hInWeights : Cert.InWeights.Facts] : Prop :=
  ∀ (m : (ℓ : Loc Cert.InWeights.nD Cert.InWeights.τ Cert.InWeights.sig) → Buf (Elt Bits) ℓ) (g : Dev Cert.InWeights.nD → PrngReg), Pre_InWeights m →
    θ_run (Cert.InWeights.defs (F := Bits)) (onTc (τ := Cert.InWeights.τ) (Cert.InWeights.main (F := Bits))) ⟨m, fun _ => 0, g⟩ (fun r => (∀ c : Dev Cert.InWeights.nD,
      r.2.mem ((c.tc : Thread Cert.InWeights.nD Cert.InWeights.τ).loc Cert.InWeights.main_arg0) = m ((c.tc : Thread Cert.InWeights.nD Cert.InWeights.τ).loc Cert.InWeights.main_arg0)
      ∧ r.2.mem ((c.tc : Thread Cert.InWeights.nD Cert.InWeights.τ).loc Cert.InWeights.main_arg1) = m ((c.tc : Thread Cert.InWeights.nD Cert.InWeights.τ).loc Cert.InWeights.main_arg1))
      ∧ r.2.sem = fun _ => 0)

def quiescent_InWeightsIdeal [hInWeightsIdeal : Cert.InWeightsIdeal.Facts] : Prop :=
  ∀ (m : (ℓ : Loc Cert.InWeightsIdeal.nD Cert.InWeightsIdeal.τ Cert.InWeightsIdeal.sig) → Buf (Elt Ideal) ℓ) (g : Dev Cert.InWeightsIdeal.nD → PrngReg), Pre_InWeightsIdeal m →
    θ_run (Cert.InWeightsIdeal.defs (F := Ideal)) (onTc (τ := Cert.InWeightsIdeal.τ) (Cert.InWeightsIdeal.main (F := Ideal))) ⟨m, fun _ => 0, g⟩ (fun r => (∀ c : Dev Cert.InWeightsIdeal.nD,
      r.2.mem ((c.tc : Thread Cert.InWeightsIdeal.nD Cert.InWeightsIdeal.τ).loc Cert.InWeightsIdeal.main_arg0) = m ((c.tc : Thread Cert.InWeightsIdeal.nD Cert.InWeightsIdeal.τ).loc Cert.InWeightsIdeal.main_arg0)
      ∧ r.2.mem ((c.tc : Thread Cert.InWeightsIdeal.nD Cert.InWeightsIdeal.τ).loc Cert.InWeightsIdeal.main_arg1) = m ((c.tc : Thread Cert.InWeightsIdeal.nD Cert.InWeightsIdeal.τ).loc Cert.InWeightsIdeal.main_arg1))
      ∧ r.2.sem = fun _ => 0)

def quiescent_InWeightsReferenceIdeal [hInWeightsReferenceIdeal : Cert.InWeightsReferenceIdeal.Facts] : Prop :=
  ∀ (m : (ℓ : Loc Cert.InWeightsReferenceIdeal.nD Cert.InWeightsReferenceIdeal.τ Cert.InWeightsReferenceIdeal.sig) → Buf (Elt Ideal) ℓ) (g : Dev Cert.InWeightsReferenceIdeal.nD → PrngReg), Pre_InWeightsReferenceIdeal m →
    θ_run (Cert.InWeightsReferenceIdeal.defs (F := Ideal)) (onTc (τ := Cert.InWeightsReferenceIdeal.τ) (Cert.InWeightsReferenceIdeal.main (F := Ideal))) ⟨m, fun _ => 0, g⟩ (fun r => (∀ c : Dev Cert.InWeightsReferenceIdeal.nD,
      r.2.mem ((c.tc : Thread Cert.InWeightsReferenceIdeal.nD Cert.InWeightsReferenceIdeal.τ).loc Cert.InWeightsReferenceIdeal.main_arg0) = m ((c.tc : Thread Cert.InWeightsReferenceIdeal.nD Cert.InWeightsReferenceIdeal.τ).loc Cert.InWeightsReferenceIdeal.main_arg0)
      ∧ r.2.mem ((c.tc : Thread Cert.InWeightsReferenceIdeal.nD Cert.InWeightsReferenceIdeal.τ).loc Cert.InWeightsReferenceIdeal.main_arg1) = m ((c.tc : Thread Cert.InWeightsReferenceIdeal.nD Cert.InWeightsReferenceIdeal.τ).loc Cert.InWeightsReferenceIdeal.main_arg1))
      ∧ r.2.sem = fun _ => 0)

def quiescent_InC [hInC : Cert.InC.Facts] : Prop :=
  ∀ (m : (ℓ : Loc Cert.InC.nD Cert.InC.τ Cert.InC.sig) → Buf (Elt Bits) ℓ) (g : Dev Cert.InC.nD → PrngReg), Pre_InC m →
    θ_run (Cert.InC.defs (F := Bits)) (onTc (τ := Cert.InC.τ) (Cert.InC.main (F := Bits))) ⟨m, fun _ => 0, g⟩ (fun r => (∀ c : Dev Cert.InC.nD,
      r.2.mem ((c.tc : Thread Cert.InC.nD Cert.InC.τ).loc Cert.InC.main_arg0) = m ((c.tc : Thread Cert.InC.nD Cert.InC.τ).loc Cert.InC.main_arg0)
      ∧ r.2.mem ((c.tc : Thread Cert.InC.nD Cert.InC.τ).loc Cert.InC.main_arg1) = m ((c.tc : Thread Cert.InC.nD Cert.InC.τ).loc Cert.InC.main_arg1))
      ∧ r.2.sem = fun _ => 0)

def quiescent_InCIdeal [hInCIdeal : Cert.InCIdeal.Facts] : Prop :=
  ∀ (m : (ℓ : Loc Cert.InCIdeal.nD Cert.InCIdeal.τ Cert.InCIdeal.sig) → Buf (Elt Ideal) ℓ) (g : Dev Cert.InCIdeal.nD → PrngReg), Pre_InCIdeal m →
    θ_run (Cert.InCIdeal.defs (F := Ideal)) (onTc (τ := Cert.InCIdeal.τ) (Cert.InCIdeal.main (F := Ideal))) ⟨m, fun _ => 0, g⟩ (fun r => (∀ c : Dev Cert.InCIdeal.nD,
      r.2.mem ((c.tc : Thread Cert.InCIdeal.nD Cert.InCIdeal.τ).loc Cert.InCIdeal.main_arg0) = m ((c.tc : Thread Cert.InCIdeal.nD Cert.InCIdeal.τ).loc Cert.InCIdeal.main_arg0)
      ∧ r.2.mem ((c.tc : Thread Cert.InCIdeal.nD Cert.InCIdeal.τ).loc Cert.InCIdeal.main_arg1) = m ((c.tc : Thread Cert.InCIdeal.nD Cert.InCIdeal.τ).loc Cert.InCIdeal.main_arg1))
      ∧ r.2.sem = fun _ => 0)

def quiescent_InCReferenceIdeal [hInCReferenceIdeal : Cert.InCReferenceIdeal.Facts] : Prop :=
  ∀ (m : (ℓ : Loc Cert.InCReferenceIdeal.nD Cert.InCReferenceIdeal.τ Cert.InCReferenceIdeal.sig) → Buf (Elt Ideal) ℓ) (g : Dev Cert.InCReferenceIdeal.nD → PrngReg), Pre_InCReferenceIdeal m →
    θ_run (Cert.InCReferenceIdeal.defs (F := Ideal)) (onTc (τ := Cert.InCReferenceIdeal.τ) (Cert.InCReferenceIdeal.main (F := Ideal))) ⟨m, fun _ => 0, g⟩ (fun r => (∀ c : Dev Cert.InCReferenceIdeal.nD,
      r.2.mem ((c.tc : Thread Cert.InCReferenceIdeal.nD Cert.InCReferenceIdeal.τ).loc Cert.InCReferenceIdeal.main_arg0) = m ((c.tc : Thread Cert.InCReferenceIdeal.nD Cert.InCReferenceIdeal.τ).loc Cert.InCReferenceIdeal.main_arg0)
      ∧ r.2.mem ((c.tc : Thread Cert.InCReferenceIdeal.nD Cert.InCReferenceIdeal.τ).loc Cert.InCReferenceIdeal.main_arg1) = m ((c.tc : Thread Cert.InCReferenceIdeal.nD Cert.InCReferenceIdeal.τ).loc Cert.InCReferenceIdeal.main_arg1))
      ∧ r.2.sem = fun _ => 0)

def quiescent_OutC [hOutC : Cert.OutC.Facts] : Prop :=
  ∀ (m : (ℓ : Loc Cert.OutC.nD Cert.OutC.τ Cert.OutC.sig) → Buf (Elt Bits) ℓ) (g : Dev Cert.OutC.nD → PrngReg), Pre_OutC m →
    θ_run (Cert.OutC.defs (F := Bits)) (onTc (τ := Cert.OutC.τ) (Cert.OutC.main (F := Bits))) ⟨m, fun _ => 0, g⟩ (fun r => (∀ c : Dev Cert.OutC.nD,
      r.2.mem ((c.tc : Thread Cert.OutC.nD Cert.OutC.τ).loc Cert.OutC.main_arg0) = m ((c.tc : Thread Cert.OutC.nD Cert.OutC.τ).loc Cert.OutC.main_arg0)
      ∧ r.2.mem ((c.tc : Thread Cert.OutC.nD Cert.OutC.τ).loc Cert.OutC.main_arg1) = m ((c.tc : Thread Cert.OutC.nD Cert.OutC.τ).loc Cert.OutC.main_arg1)
      ∧ r.2.mem ((c.tc : Thread Cert.OutC.nD Cert.OutC.τ).loc Cert.OutC.main_arg2) = m ((c.tc : Thread Cert.OutC.nD Cert.OutC.τ).loc Cert.OutC.main_arg2))
      ∧ r.2.sem = fun _ => 0)

def quiescent_OutCIdeal [hOutCIdeal : Cert.OutCIdeal.Facts] : Prop :=
  ∀ (m : (ℓ : Loc Cert.OutCIdeal.nD Cert.OutCIdeal.τ Cert.OutCIdeal.sig) → Buf (Elt Ideal) ℓ) (g : Dev Cert.OutCIdeal.nD → PrngReg), Pre_OutCIdeal m →
    θ_run (Cert.OutCIdeal.defs (F := Ideal)) (onTc (τ := Cert.OutCIdeal.τ) (Cert.OutCIdeal.main (F := Ideal))) ⟨m, fun _ => 0, g⟩ (fun r => (∀ c : Dev Cert.OutCIdeal.nD,
      r.2.mem ((c.tc : Thread Cert.OutCIdeal.nD Cert.OutCIdeal.τ).loc Cert.OutCIdeal.main_arg0) = m ((c.tc : Thread Cert.OutCIdeal.nD Cert.OutCIdeal.τ).loc Cert.OutCIdeal.main_arg0)
      ∧ r.2.mem ((c.tc : Thread Cert.OutCIdeal.nD Cert.OutCIdeal.τ).loc Cert.OutCIdeal.main_arg1) = m ((c.tc : Thread Cert.OutCIdeal.nD Cert.OutCIdeal.τ).loc Cert.OutCIdeal.main_arg1)
      ∧ r.2.mem ((c.tc : Thread Cert.OutCIdeal.nD Cert.OutCIdeal.τ).loc Cert.OutCIdeal.main_arg2) = m ((c.tc : Thread Cert.OutCIdeal.nD Cert.OutCIdeal.τ).loc Cert.OutCIdeal.main_arg2))
      ∧ r.2.sem = fun _ => 0)

def quiescent_OutCReferenceIdeal [hOutCReferenceIdeal : Cert.OutCReferenceIdeal.Facts] : Prop :=
  ∀ (m : (ℓ : Loc Cert.OutCReferenceIdeal.nD Cert.OutCReferenceIdeal.τ Cert.OutCReferenceIdeal.sig) → Buf (Elt Ideal) ℓ) (g : Dev Cert.OutCReferenceIdeal.nD → PrngReg), Pre_OutCReferenceIdeal m →
    θ_run (Cert.OutCReferenceIdeal.defs (F := Ideal)) (onTc (τ := Cert.OutCReferenceIdeal.τ) (Cert.OutCReferenceIdeal.main (F := Ideal))) ⟨m, fun _ => 0, g⟩ (fun r => (∀ c : Dev Cert.OutCReferenceIdeal.nD,
      r.2.mem ((c.tc : Thread Cert.OutCReferenceIdeal.nD Cert.OutCReferenceIdeal.τ).loc Cert.OutCReferenceIdeal.main_arg0) = m ((c.tc : Thread Cert.OutCReferenceIdeal.nD Cert.OutCReferenceIdeal.τ).loc Cert.OutCReferenceIdeal.main_arg0)
      ∧ r.2.mem ((c.tc : Thread Cert.OutCReferenceIdeal.nD Cert.OutCReferenceIdeal.τ).loc Cert.OutCReferenceIdeal.main_arg1) = m ((c.tc : Thread Cert.OutCReferenceIdeal.nD Cert.OutCReferenceIdeal.τ).loc Cert.OutCReferenceIdeal.main_arg1)
      ∧ r.2.mem ((c.tc : Thread Cert.OutCReferenceIdeal.nD Cert.OutCReferenceIdeal.τ).loc Cert.OutCReferenceIdeal.main_arg2) = m ((c.tc : Thread Cert.OutCReferenceIdeal.nD Cert.OutCReferenceIdeal.τ).loc Cert.OutCReferenceIdeal.main_arg2))
      ∧ r.2.sem = fun _ => 0)

def quiescent_CrossQ [hCrossQ : Cert.CrossQ.Facts] : Prop :=
  ∀ (m : (ℓ : Loc Cert.CrossQ.nD Cert.CrossQ.τ Cert.CrossQ.sig) → Buf (Elt Bits) ℓ) (g : Dev Cert.CrossQ.nD → PrngReg), Pre_CrossQ m →
    θ_run (Cert.CrossQ.defs (F := Bits)) (onTc (τ := Cert.CrossQ.τ) (Cert.CrossQ.main (F := Bits))) ⟨m, fun _ => 0, g⟩ (fun r => (∀ c : Dev Cert.CrossQ.nD,
      r.2.mem ((c.tc : Thread Cert.CrossQ.nD Cert.CrossQ.τ).loc Cert.CrossQ.main_arg0) = m ((c.tc : Thread Cert.CrossQ.nD Cert.CrossQ.τ).loc Cert.CrossQ.main_arg0)
      ∧ r.2.mem ((c.tc : Thread Cert.CrossQ.nD Cert.CrossQ.τ).loc Cert.CrossQ.main_arg1) = m ((c.tc : Thread Cert.CrossQ.nD Cert.CrossQ.τ).loc Cert.CrossQ.main_arg1))
      ∧ r.2.sem = fun _ => 0)

def quiescent_CrossQIdeal [hCrossQIdeal : Cert.CrossQIdeal.Facts] : Prop :=
  ∀ (m : (ℓ : Loc Cert.CrossQIdeal.nD Cert.CrossQIdeal.τ Cert.CrossQIdeal.sig) → Buf (Elt Ideal) ℓ) (g : Dev Cert.CrossQIdeal.nD → PrngReg), Pre_CrossQIdeal m →
    θ_run (Cert.CrossQIdeal.defs (F := Ideal)) (onTc (τ := Cert.CrossQIdeal.τ) (Cert.CrossQIdeal.main (F := Ideal))) ⟨m, fun _ => 0, g⟩ (fun r => (∀ c : Dev Cert.CrossQIdeal.nD,
      r.2.mem ((c.tc : Thread Cert.CrossQIdeal.nD Cert.CrossQIdeal.τ).loc Cert.CrossQIdeal.main_arg0) = m ((c.tc : Thread Cert.CrossQIdeal.nD Cert.CrossQIdeal.τ).loc Cert.CrossQIdeal.main_arg0)
      ∧ r.2.mem ((c.tc : Thread Cert.CrossQIdeal.nD Cert.CrossQIdeal.τ).loc Cert.CrossQIdeal.main_arg1) = m ((c.tc : Thread Cert.CrossQIdeal.nD Cert.CrossQIdeal.τ).loc Cert.CrossQIdeal.main_arg1))
      ∧ r.2.sem = fun _ => 0)

def quiescent_CrossQReferenceIdeal [hCrossQReferenceIdeal : Cert.CrossQReferenceIdeal.Facts] : Prop :=
  ∀ (m : (ℓ : Loc Cert.CrossQReferenceIdeal.nD Cert.CrossQReferenceIdeal.τ Cert.CrossQReferenceIdeal.sig) → Buf (Elt Ideal) ℓ) (g : Dev Cert.CrossQReferenceIdeal.nD → PrngReg), Pre_CrossQReferenceIdeal m →
    θ_run (Cert.CrossQReferenceIdeal.defs (F := Ideal)) (onTc (τ := Cert.CrossQReferenceIdeal.τ) (Cert.CrossQReferenceIdeal.main (F := Ideal))) ⟨m, fun _ => 0, g⟩ (fun r => (∀ c : Dev Cert.CrossQReferenceIdeal.nD,
      r.2.mem ((c.tc : Thread Cert.CrossQReferenceIdeal.nD Cert.CrossQReferenceIdeal.τ).loc Cert.CrossQReferenceIdeal.main_arg0) = m ((c.tc : Thread Cert.CrossQReferenceIdeal.nD Cert.CrossQReferenceIdeal.τ).loc Cert.CrossQReferenceIdeal.main_arg0)
      ∧ r.2.mem ((c.tc : Thread Cert.CrossQReferenceIdeal.nD Cert.CrossQReferenceIdeal.τ).loc Cert.CrossQReferenceIdeal.main_arg1) = m ((c.tc : Thread Cert.CrossQReferenceIdeal.nD Cert.CrossQReferenceIdeal.τ).loc Cert.CrossQReferenceIdeal.main_arg1))
      ∧ r.2.sem = fun _ => 0)

def quiescent_CrossO [hCrossO : Cert.CrossO.Facts] : Prop :=
  ∀ (m : (ℓ : Loc Cert.CrossO.nD Cert.CrossO.τ Cert.CrossO.sig) → Buf (Elt Bits) ℓ) (g : Dev Cert.CrossO.nD → PrngReg), Pre_CrossO m →
    θ_run (Cert.CrossO.defs (F := Bits)) (onTc (τ := Cert.CrossO.τ) (Cert.CrossO.main (F := Bits))) ⟨m, fun _ => 0, g⟩ (fun r => (∀ c : Dev Cert.CrossO.nD,
      r.2.mem ((c.tc : Thread Cert.CrossO.nD Cert.CrossO.τ).loc Cert.CrossO.main_arg0) = m ((c.tc : Thread Cert.CrossO.nD Cert.CrossO.τ).loc Cert.CrossO.main_arg0)
      ∧ r.2.mem ((c.tc : Thread Cert.CrossO.nD Cert.CrossO.τ).loc Cert.CrossO.main_arg1) = m ((c.tc : Thread Cert.CrossO.nD Cert.CrossO.τ).loc Cert.CrossO.main_arg1)
      ∧ r.2.mem ((c.tc : Thread Cert.CrossO.nD Cert.CrossO.τ).loc Cert.CrossO.main_arg2) = m ((c.tc : Thread Cert.CrossO.nD Cert.CrossO.τ).loc Cert.CrossO.main_arg2))
      ∧ r.2.sem = fun _ => 0)

def quiescent_CrossOIdeal [hCrossOIdeal : Cert.CrossOIdeal.Facts] : Prop :=
  ∀ (m : (ℓ : Loc Cert.CrossOIdeal.nD Cert.CrossOIdeal.τ Cert.CrossOIdeal.sig) → Buf (Elt Ideal) ℓ) (g : Dev Cert.CrossOIdeal.nD → PrngReg), Pre_CrossOIdeal m →
    θ_run (Cert.CrossOIdeal.defs (F := Ideal)) (onTc (τ := Cert.CrossOIdeal.τ) (Cert.CrossOIdeal.main (F := Ideal))) ⟨m, fun _ => 0, g⟩ (fun r => (∀ c : Dev Cert.CrossOIdeal.nD,
      r.2.mem ((c.tc : Thread Cert.CrossOIdeal.nD Cert.CrossOIdeal.τ).loc Cert.CrossOIdeal.main_arg0) = m ((c.tc : Thread Cert.CrossOIdeal.nD Cert.CrossOIdeal.τ).loc Cert.CrossOIdeal.main_arg0)
      ∧ r.2.mem ((c.tc : Thread Cert.CrossOIdeal.nD Cert.CrossOIdeal.τ).loc Cert.CrossOIdeal.main_arg1) = m ((c.tc : Thread Cert.CrossOIdeal.nD Cert.CrossOIdeal.τ).loc Cert.CrossOIdeal.main_arg1)
      ∧ r.2.mem ((c.tc : Thread Cert.CrossOIdeal.nD Cert.CrossOIdeal.τ).loc Cert.CrossOIdeal.main_arg2) = m ((c.tc : Thread Cert.CrossOIdeal.nD Cert.CrossOIdeal.τ).loc Cert.CrossOIdeal.main_arg2))
      ∧ r.2.sem = fun _ => 0)

def quiescent_CrossOReferenceIdeal [hCrossOReferenceIdeal : Cert.CrossOReferenceIdeal.Facts] : Prop :=
  ∀ (m : (ℓ : Loc Cert.CrossOReferenceIdeal.nD Cert.CrossOReferenceIdeal.τ Cert.CrossOReferenceIdeal.sig) → Buf (Elt Ideal) ℓ) (g : Dev Cert.CrossOReferenceIdeal.nD → PrngReg), Pre_CrossOReferenceIdeal m →
    θ_run (Cert.CrossOReferenceIdeal.defs (F := Ideal)) (onTc (τ := Cert.CrossOReferenceIdeal.τ) (Cert.CrossOReferenceIdeal.main (F := Ideal))) ⟨m, fun _ => 0, g⟩ (fun r => (∀ c : Dev Cert.CrossOReferenceIdeal.nD,
      r.2.mem ((c.tc : Thread Cert.CrossOReferenceIdeal.nD Cert.CrossOReferenceIdeal.τ).loc Cert.CrossOReferenceIdeal.main_arg0) = m ((c.tc : Thread Cert.CrossOReferenceIdeal.nD Cert.CrossOReferenceIdeal.τ).loc Cert.CrossOReferenceIdeal.main_arg0)
      ∧ r.2.mem ((c.tc : Thread Cert.CrossOReferenceIdeal.nD Cert.CrossOReferenceIdeal.τ).loc Cert.CrossOReferenceIdeal.main_arg1) = m ((c.tc : Thread Cert.CrossOReferenceIdeal.nD Cert.CrossOReferenceIdeal.τ).loc Cert.CrossOReferenceIdeal.main_arg1)
      ∧ r.2.mem ((c.tc : Thread Cert.CrossOReferenceIdeal.nD Cert.CrossOReferenceIdeal.τ).loc Cert.CrossOReferenceIdeal.main_arg2) = m ((c.tc : Thread Cert.CrossOReferenceIdeal.nD Cert.CrossOReferenceIdeal.τ).loc Cert.CrossOReferenceIdeal.main_arg2))
      ∧ r.2.sem = fun _ => 0)

def quiescent_Cross [hCross : Cert.Cross.Facts] : Prop :=
  ∀ (m : (ℓ : Loc Cert.Cross.nD Cert.Cross.τ Cert.Cross.sig) → Buf (Elt Bits) ℓ) (g : Dev Cert.Cross.nD → PrngReg), Pre_Cross m →
    θ_run (Cert.Cross.defs (F := Bits)) (onTc (τ := Cert.Cross.τ) (Cert.Cross.main (F := Bits))) ⟨m, fun _ => 0, g⟩ (fun r => (∀ c : Dev Cert.Cross.nD,
      r.2.mem ((c.tc : Thread Cert.Cross.nD Cert.Cross.τ).loc Cert.Cross.main_arg0) = m ((c.tc : Thread Cert.Cross.nD Cert.Cross.τ).loc Cert.Cross.main_arg0)
      ∧ r.2.mem ((c.tc : Thread Cert.Cross.nD Cert.Cross.τ).loc Cert.Cross.main_arg1) = m ((c.tc : Thread Cert.Cross.nD Cert.Cross.τ).loc Cert.Cross.main_arg1)
      ∧ r.2.mem ((c.tc : Thread Cert.Cross.nD Cert.Cross.τ).loc Cert.Cross.main_arg2) = m ((c.tc : Thread Cert.Cross.nD Cert.Cross.τ).loc Cert.Cross.main_arg2))
      ∧ r.2.sem = fun _ => 0)

def quiescent_CrossIdeal [hCrossIdeal : Cert.CrossIdeal.Facts] : Prop :=
  ∀ (m : (ℓ : Loc Cert.CrossIdeal.nD Cert.CrossIdeal.τ Cert.CrossIdeal.sig) → Buf (Elt Ideal) ℓ) (g : Dev Cert.CrossIdeal.nD → PrngReg), Pre_CrossIdeal m →
    θ_run (Cert.CrossIdeal.defs (F := Ideal)) (onTc (τ := Cert.CrossIdeal.τ) (Cert.CrossIdeal.main (F := Ideal))) ⟨m, fun _ => 0, g⟩ (fun r => (∀ c : Dev Cert.CrossIdeal.nD,
      r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
      ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
      ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2))
      ∧ r.2.sem = fun _ => 0)

def quiescent_CrossIdeal_pre_finite_cross [hCrossIdeal : Cert.CrossIdeal.Facts] [hPre_finite_cross : Cert.Pre_finite_cross.Facts] : Prop :=
  ∀ (m : (ℓ : Loc Cert.CrossIdeal.nD Cert.CrossIdeal.τ Cert.CrossIdeal.sig) → Buf (Elt Ideal) ℓ) (g : Dev Cert.CrossIdeal.nD → PrngReg), Pre_CrossIdeal_finite_cross m →
    θ_run (Cert.CrossIdeal.defs (F := Ideal)) (onTc (τ := Cert.CrossIdeal.τ) (Cert.CrossIdeal.main (F := Ideal))) ⟨m, fun _ => 0, g⟩ (fun r => (∀ c : Dev Cert.CrossIdeal.nD,
      r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
      ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
      ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2))
      ∧ r.2.sem = fun _ => 0)

def quiescent_CrossReferenceIdeal [hCrossReferenceIdeal : Cert.CrossReferenceIdeal.Facts] : Prop :=
  ∀ (m : (ℓ : Loc Cert.CrossReferenceIdeal.nD Cert.CrossReferenceIdeal.τ Cert.CrossReferenceIdeal.sig) → Buf (Elt Ideal) ℓ) (g : Dev Cert.CrossReferenceIdeal.nD → PrngReg), Pre_CrossReferenceIdeal m →
    θ_run (Cert.CrossReferenceIdeal.defs (F := Ideal)) (onTc (τ := Cert.CrossReferenceIdeal.τ) (Cert.CrossReferenceIdeal.main (F := Ideal))) ⟨m, fun _ => 0, g⟩ (fun r => (∀ c : Dev Cert.CrossReferenceIdeal.nD,
      r.2.mem ((c.tc : Thread Cert.CrossReferenceIdeal.nD Cert.CrossReferenceIdeal.τ).loc Cert.CrossReferenceIdeal.main_arg0) = m ((c.tc : Thread Cert.CrossReferenceIdeal.nD Cert.CrossReferenceIdeal.τ).loc Cert.CrossReferenceIdeal.main_arg0)
      ∧ r.2.mem ((c.tc : Thread Cert.CrossReferenceIdeal.nD Cert.CrossReferenceIdeal.τ).loc Cert.CrossReferenceIdeal.main_arg1) = m ((c.tc : Thread Cert.CrossReferenceIdeal.nD Cert.CrossReferenceIdeal.τ).loc Cert.CrossReferenceIdeal.main_arg1)
      ∧ r.2.mem ((c.tc : Thread Cert.CrossReferenceIdeal.nD Cert.CrossReferenceIdeal.τ).loc Cert.CrossReferenceIdeal.main_arg2) = m ((c.tc : Thread Cert.CrossReferenceIdeal.nD Cert.CrossReferenceIdeal.τ).loc Cert.CrossReferenceIdeal.main_arg2))
      ∧ r.2.sem = fun _ => 0)

def quiescent_CrossReferenceIdeal_pre_finite_cross [hCrossReferenceIdeal : Cert.CrossReferenceIdeal.Facts] [hPre_finite_cross : Cert.Pre_finite_cross.Facts] : Prop :=
  ∀ (m : (ℓ : Loc Cert.CrossReferenceIdeal.nD Cert.CrossReferenceIdeal.τ Cert.CrossReferenceIdeal.sig) → Buf (Elt Ideal) ℓ) (g : Dev Cert.CrossReferenceIdeal.nD → PrngReg), Pre_CrossReferenceIdeal_finite_cross m →
    θ_run (Cert.CrossReferenceIdeal.defs (F := Ideal)) (onTc (τ := Cert.CrossReferenceIdeal.τ) (Cert.CrossReferenceIdeal.main (F := Ideal))) ⟨m, fun _ => 0, g⟩ (fun r => (∀ c : Dev Cert.CrossReferenceIdeal.nD,
      r.2.mem ((c.tc : Thread Cert.CrossReferenceIdeal.nD Cert.CrossReferenceIdeal.τ).loc Cert.CrossReferenceIdeal.main_arg0) = m ((c.tc : Thread Cert.CrossReferenceIdeal.nD Cert.CrossReferenceIdeal.τ).loc Cert.CrossReferenceIdeal.main_arg0)
      ∧ r.2.mem ((c.tc : Thread Cert.CrossReferenceIdeal.nD Cert.CrossReferenceIdeal.τ).loc Cert.CrossReferenceIdeal.main_arg1) = m ((c.tc : Thread Cert.CrossReferenceIdeal.nD Cert.CrossReferenceIdeal.τ).loc Cert.CrossReferenceIdeal.main_arg1)
      ∧ r.2.mem ((c.tc : Thread Cert.CrossReferenceIdeal.nD Cert.CrossReferenceIdeal.τ).loc Cert.CrossReferenceIdeal.main_arg2) = m ((c.tc : Thread Cert.CrossReferenceIdeal.nD Cert.CrossReferenceIdeal.τ).loc Cert.CrossReferenceIdeal.main_arg2))
      ∧ r.2.sem = fun _ => 0)

def quiescent_CrossGrad [hCrossGrad : Cert.CrossGrad.Facts] : Prop :=
  ∀ (m : (ℓ : Loc Cert.CrossGrad.nD Cert.CrossGrad.τ Cert.CrossGrad.sig) → Buf (Elt Bits) ℓ) (g : Dev Cert.CrossGrad.nD → PrngReg), Pre_CrossGrad m →
    θ_run (Cert.CrossGrad.defs (F := Bits)) (onTc (τ := Cert.CrossGrad.τ) (Cert.CrossGrad.main (F := Bits))) ⟨m, fun _ => 0, g⟩ (fun r => (∀ c : Dev Cert.CrossGrad.nD,
      r.2.mem ((c.tc : Thread Cert.CrossGrad.nD Cert.CrossGrad.τ).loc Cert.CrossGrad.main_arg0) = m ((c.tc : Thread Cert.CrossGrad.nD Cert.CrossGrad.τ).loc Cert.CrossGrad.main_arg0)
      ∧ r.2.mem ((c.tc : Thread Cert.CrossGrad.nD Cert.CrossGrad.τ).loc Cert.CrossGrad.main_arg1) = m ((c.tc : Thread Cert.CrossGrad.nD Cert.CrossGrad.τ).loc Cert.CrossGrad.main_arg1)
      ∧ r.2.mem ((c.tc : Thread Cert.CrossGrad.nD Cert.CrossGrad.τ).loc Cert.CrossGrad.main_arg2) = m ((c.tc : Thread Cert.CrossGrad.nD Cert.CrossGrad.τ).loc Cert.CrossGrad.main_arg2)
      ∧ r.2.mem ((c.tc : Thread Cert.CrossGrad.nD Cert.CrossGrad.τ).loc Cert.CrossGrad.main_arg3) = m ((c.tc : Thread Cert.CrossGrad.nD Cert.CrossGrad.τ).loc Cert.CrossGrad.main_arg3))
      ∧ r.2.sem = fun _ => 0)

def quiescent_CrossGradIdeal [hCrossGradIdeal : Cert.CrossGradIdeal.Facts] : Prop :=
  ∀ (m : (ℓ : Loc Cert.CrossGradIdeal.nD Cert.CrossGradIdeal.τ Cert.CrossGradIdeal.sig) → Buf (Elt Ideal) ℓ) (g : Dev Cert.CrossGradIdeal.nD → PrngReg), Pre_CrossGradIdeal m →
    θ_run (Cert.CrossGradIdeal.defs (F := Ideal)) (onTc (τ := Cert.CrossGradIdeal.τ) (Cert.CrossGradIdeal.main (F := Ideal))) ⟨m, fun _ => 0, g⟩ (fun r => (∀ c : Dev Cert.CrossGradIdeal.nD,
      r.2.mem ((c.tc : Thread Cert.CrossGradIdeal.nD Cert.CrossGradIdeal.τ).loc Cert.CrossGradIdeal.main_arg0) = m ((c.tc : Thread Cert.CrossGradIdeal.nD Cert.CrossGradIdeal.τ).loc Cert.CrossGradIdeal.main_arg0)
      ∧ r.2.mem ((c.tc : Thread Cert.CrossGradIdeal.nD Cert.CrossGradIdeal.τ).loc Cert.CrossGradIdeal.main_arg1) = m ((c.tc : Thread Cert.CrossGradIdeal.nD Cert.CrossGradIdeal.τ).loc Cert.CrossGradIdeal.main_arg1)
      ∧ r.2.mem ((c.tc : Thread Cert.CrossGradIdeal.nD Cert.CrossGradIdeal.τ).loc Cert.CrossGradIdeal.main_arg2) = m ((c.tc : Thread Cert.CrossGradIdeal.nD Cert.CrossGradIdeal.τ).loc Cert.CrossGradIdeal.main_arg2)
      ∧ r.2.mem ((c.tc : Thread Cert.CrossGradIdeal.nD Cert.CrossGradIdeal.τ).loc Cert.CrossGradIdeal.main_arg3) = m ((c.tc : Thread Cert.CrossGradIdeal.nD Cert.CrossGradIdeal.τ).loc Cert.CrossGradIdeal.main_arg3))
      ∧ r.2.sem = fun _ => 0)

def quiescent_CrossGradIdeal_pre_finite_cross_grad [hCrossGradIdeal : Cert.CrossGradIdeal.Facts] [hPre_finite_cross_grad : Cert.Pre_finite_cross_grad.Facts] : Prop :=
  ∀ (m : (ℓ : Loc Cert.CrossGradIdeal.nD Cert.CrossGradIdeal.τ Cert.CrossGradIdeal.sig) → Buf (Elt Ideal) ℓ) (g : Dev Cert.CrossGradIdeal.nD → PrngReg), Pre_CrossGradIdeal_finite_cross_grad m →
    θ_run (Cert.CrossGradIdeal.defs (F := Ideal)) (onTc (τ := Cert.CrossGradIdeal.τ) (Cert.CrossGradIdeal.main (F := Ideal))) ⟨m, fun _ => 0, g⟩ (fun r => (∀ c : Dev Cert.CrossGradIdeal.nD,
      r.2.mem ((c.tc : Thread Cert.CrossGradIdeal.nD Cert.CrossGradIdeal.τ).loc Cert.CrossGradIdeal.main_arg0) = m ((c.tc : Thread Cert.CrossGradIdeal.nD Cert.CrossGradIdeal.τ).loc Cert.CrossGradIdeal.main_arg0)
      ∧ r.2.mem ((c.tc : Thread Cert.CrossGradIdeal.nD Cert.CrossGradIdeal.τ).loc Cert.CrossGradIdeal.main_arg1) = m ((c.tc : Thread Cert.CrossGradIdeal.nD Cert.CrossGradIdeal.τ).loc Cert.CrossGradIdeal.main_arg1)
      ∧ r.2.mem ((c.tc : Thread Cert.CrossGradIdeal.nD Cert.CrossGradIdeal.τ).loc Cert.CrossGradIdeal.main_arg2) = m ((c.tc : Thread Cert.CrossGradIdeal.nD Cert.CrossGradIdeal.τ).loc Cert.CrossGradIdeal.main_arg2)
      ∧ r.2.mem ((c.tc : Thread Cert.CrossGradIdeal.nD Cert.CrossGradIdeal.τ).loc Cert.CrossGradIdeal.main_arg3) = m ((c.tc : Thread Cert.CrossGradIdeal.nD Cert.CrossGradIdeal.τ).loc Cert.CrossGradIdeal.main_arg3))
      ∧ r.2.sem = fun _ => 0)

def quiescent_CrossGradReferenceIdeal [hCrossGradReferenceIdeal : Cert.CrossGradReferenceIdeal.Facts] : Prop :=
  ∀ (m : (ℓ : Loc Cert.CrossGradReferenceIdeal.nD Cert.CrossGradReferenceIdeal.τ Cert.CrossGradReferenceIdeal.sig) → Buf (Elt Ideal) ℓ) (g : Dev Cert.CrossGradReferenceIdeal.nD → PrngReg), Pre_CrossGradReferenceIdeal m →
    θ_run (Cert.CrossGradReferenceIdeal.defs (F := Ideal)) (onTc (τ := Cert.CrossGradReferenceIdeal.τ) (Cert.CrossGradReferenceIdeal.main (F := Ideal))) ⟨m, fun _ => 0, g⟩ (fun r => (∀ c : Dev Cert.CrossGradReferenceIdeal.nD,
      r.2.mem ((c.tc : Thread Cert.CrossGradReferenceIdeal.nD Cert.CrossGradReferenceIdeal.τ).loc Cert.CrossGradReferenceIdeal.main_arg0) = m ((c.tc : Thread Cert.CrossGradReferenceIdeal.nD Cert.CrossGradReferenceIdeal.τ).loc Cert.CrossGradReferenceIdeal.main_arg0)
      ∧ r.2.mem ((c.tc : Thread Cert.CrossGradReferenceIdeal.nD Cert.CrossGradReferenceIdeal.τ).loc Cert.CrossGradReferenceIdeal.main_arg1) = m ((c.tc : Thread Cert.CrossGradReferenceIdeal.nD Cert.CrossGradReferenceIdeal.τ).loc Cert.CrossGradReferenceIdeal.main_arg1)
      ∧ r.2.mem ((c.tc : Thread Cert.CrossGradReferenceIdeal.nD Cert.CrossGradReferenceIdeal.τ).loc Cert.CrossGradReferenceIdeal.main_arg2) = m ((c.tc : Thread Cert.CrossGradReferenceIdeal.nD Cert.CrossGradReferenceIdeal.τ).loc Cert.CrossGradReferenceIdeal.main_arg2)
      ∧ r.2.mem ((c.tc : Thread Cert.CrossGradReferenceIdeal.nD Cert.CrossGradReferenceIdeal.τ).loc Cert.CrossGradReferenceIdeal.main_arg3) = m ((c.tc : Thread Cert.CrossGradReferenceIdeal.nD Cert.CrossGradReferenceIdeal.τ).loc Cert.CrossGradReferenceIdeal.main_arg3))
      ∧ r.2.sem = fun _ => 0)

def quiescent_CrossGradReferenceIdeal_pre_finite_cross_grad [hCrossGradReferenceIdeal : Cert.CrossGradReferenceIdeal.Facts] [hPre_finite_cross_grad : Cert.Pre_finite_cross_grad.Facts] : Prop :=
  ∀ (m : (ℓ : Loc Cert.CrossGradReferenceIdeal.nD Cert.CrossGradReferenceIdeal.τ Cert.CrossGradReferenceIdeal.sig) → Buf (Elt Ideal) ℓ) (g : Dev Cert.CrossGradReferenceIdeal.nD → PrngReg), Pre_CrossGradReferenceIdeal_finite_cross_grad m →
    θ_run (Cert.CrossGradReferenceIdeal.defs (F := Ideal)) (onTc (τ := Cert.CrossGradReferenceIdeal.τ) (Cert.CrossGradReferenceIdeal.main (F := Ideal))) ⟨m, fun _ => 0, g⟩ (fun r => (∀ c : Dev Cert.CrossGradReferenceIdeal.nD,
      r.2.mem ((c.tc : Thread Cert.CrossGradReferenceIdeal.nD Cert.CrossGradReferenceIdeal.τ).loc Cert.CrossGradReferenceIdeal.main_arg0) = m ((c.tc : Thread Cert.CrossGradReferenceIdeal.nD Cert.CrossGradReferenceIdeal.τ).loc Cert.CrossGradReferenceIdeal.main_arg0)
      ∧ r.2.mem ((c.tc : Thread Cert.CrossGradReferenceIdeal.nD Cert.CrossGradReferenceIdeal.τ).loc Cert.CrossGradReferenceIdeal.main_arg1) = m ((c.tc : Thread Cert.CrossGradReferenceIdeal.nD Cert.CrossGradReferenceIdeal.τ).loc Cert.CrossGradReferenceIdeal.main_arg1)
      ∧ r.2.mem ((c.tc : Thread Cert.CrossGradReferenceIdeal.nD Cert.CrossGradReferenceIdeal.τ).loc Cert.CrossGradReferenceIdeal.main_arg2) = m ((c.tc : Thread Cert.CrossGradReferenceIdeal.nD Cert.CrossGradReferenceIdeal.τ).loc Cert.CrossGradReferenceIdeal.main_arg2)
      ∧ r.2.mem ((c.tc : Thread Cert.CrossGradReferenceIdeal.nD Cert.CrossGradReferenceIdeal.τ).loc Cert.CrossGradReferenceIdeal.main_arg3) = m ((c.tc : Thread Cert.CrossGradReferenceIdeal.nD Cert.CrossGradReferenceIdeal.τ).loc Cert.CrossGradReferenceIdeal.main_arg3))
      ∧ r.2.sem = fun _ => 0)

def quiescent_MemKeys [hMemKeys : Cert.MemKeys.Facts] : Prop :=
  ∀ (m : (ℓ : Loc Cert.MemKeys.nD Cert.MemKeys.τ Cert.MemKeys.sig) → Buf (Elt Bits) ℓ) (g : Dev Cert.MemKeys.nD → PrngReg), Pre_MemKeys m →
    θ_run (Cert.MemKeys.defs (F := Bits)) (onTc (τ := Cert.MemKeys.τ) (Cert.MemKeys.main (F := Bits))) ⟨m, fun _ => 0, g⟩ (fun r => (∀ c : Dev Cert.MemKeys.nD,
      r.2.mem ((c.tc : Thread Cert.MemKeys.nD Cert.MemKeys.τ).loc Cert.MemKeys.main_arg0) = m ((c.tc : Thread Cert.MemKeys.nD Cert.MemKeys.τ).loc Cert.MemKeys.main_arg0)
      ∧ r.2.mem ((c.tc : Thread Cert.MemKeys.nD Cert.MemKeys.τ).loc Cert.MemKeys.main_arg1) = m ((c.tc : Thread Cert.MemKeys.nD Cert.MemKeys.τ).loc Cert.MemKeys.main_arg1))
      ∧ r.2.sem = fun _ => 0)

def quiescent_MemKeysIdeal [hMemKeysIdeal : Cert.MemKeysIdeal.Facts] : Prop :=
  ∀ (m : (ℓ : Loc Cert.MemKeysIdeal.nD Cert.MemKeysIdeal.τ Cert.MemKeysIdeal.sig) → Buf (Elt Ideal) ℓ) (g : Dev Cert.MemKeysIdeal.nD → PrngReg), Pre_MemKeysIdeal m →
    θ_run (Cert.MemKeysIdeal.defs (F := Ideal)) (onTc (τ := Cert.MemKeysIdeal.τ) (Cert.MemKeysIdeal.main (F := Ideal))) ⟨m, fun _ => 0, g⟩ (fun r => (∀ c : Dev Cert.MemKeysIdeal.nD,
      r.2.mem ((c.tc : Thread Cert.MemKeysIdeal.nD Cert.MemKeysIdeal.τ).loc Cert.MemKeysIdeal.main_arg0) = m ((c.tc : Thread Cert.MemKeysIdeal.nD Cert.MemKeysIdeal.τ).loc Cert.MemKeysIdeal.main_arg0)
      ∧ r.2.mem ((c.tc : Thread Cert.MemKeysIdeal.nD Cert.MemKeysIdeal.τ).loc Cert.MemKeysIdeal.main_arg1) = m ((c.tc : Thread Cert.MemKeysIdeal.nD Cert.MemKeysIdeal.τ).loc Cert.MemKeysIdeal.main_arg1))
      ∧ r.2.sem = fun _ => 0)

def quiescent_MemKeysReferenceIdeal [hMemKeysReferenceIdeal : Cert.MemKeysReferenceIdeal.Facts] : Prop :=
  ∀ (m : (ℓ : Loc Cert.MemKeysReferenceIdeal.nD Cert.MemKeysReferenceIdeal.τ Cert.MemKeysReferenceIdeal.sig) → Buf (Elt Ideal) ℓ) (g : Dev Cert.MemKeysReferenceIdeal.nD → PrngReg), Pre_MemKeysReferenceIdeal m →
    θ_run (Cert.MemKeysReferenceIdeal.defs (F := Ideal)) (onTc (τ := Cert.MemKeysReferenceIdeal.τ) (Cert.MemKeysReferenceIdeal.main (F := Ideal))) ⟨m, fun _ => 0, g⟩ (fun r => (∀ c : Dev Cert.MemKeysReferenceIdeal.nD,
      r.2.mem ((c.tc : Thread Cert.MemKeysReferenceIdeal.nD Cert.MemKeysReferenceIdeal.τ).loc Cert.MemKeysReferenceIdeal.main_arg0) = m ((c.tc : Thread Cert.MemKeysReferenceIdeal.nD Cert.MemKeysReferenceIdeal.τ).loc Cert.MemKeysReferenceIdeal.main_arg0)
      ∧ r.2.mem ((c.tc : Thread Cert.MemKeysReferenceIdeal.nD Cert.MemKeysReferenceIdeal.τ).loc Cert.MemKeysReferenceIdeal.main_arg1) = m ((c.tc : Thread Cert.MemKeysReferenceIdeal.nD Cert.MemKeysReferenceIdeal.τ).loc Cert.MemKeysReferenceIdeal.main_arg1))
      ∧ r.2.sem = fun _ => 0)

def quiescent_MemArg [hMemArg : Cert.MemArg.Facts] : Prop :=
  ∀ (m : (ℓ : Loc Cert.MemArg.nD Cert.MemArg.τ Cert.MemArg.sig) → Buf (Elt Bits) ℓ) (g : Dev Cert.MemArg.nD → PrngReg), Pre_MemArg m →
    θ_run (Cert.MemArg.defs (F := Bits)) (onTc (τ := Cert.MemArg.τ) (Cert.MemArg.main (F := Bits))) ⟨m, fun _ => 0, g⟩ (fun r => (∀ c : Dev Cert.MemArg.nD,
      r.2.mem ((c.tc : Thread Cert.MemArg.nD Cert.MemArg.τ).loc Cert.MemArg.main_arg0) = m ((c.tc : Thread Cert.MemArg.nD Cert.MemArg.τ).loc Cert.MemArg.main_arg0)
      ∧ r.2.mem ((c.tc : Thread Cert.MemArg.nD Cert.MemArg.τ).loc Cert.MemArg.main_arg1) = m ((c.tc : Thread Cert.MemArg.nD Cert.MemArg.τ).loc Cert.MemArg.main_arg1))
      ∧ r.2.sem = fun _ => 0)

def quiescent_MemArgIdeal [hMemArgIdeal : Cert.MemArgIdeal.Facts] : Prop :=
  ∀ (m : (ℓ : Loc Cert.MemArgIdeal.nD Cert.MemArgIdeal.τ Cert.MemArgIdeal.sig) → Buf (Elt Ideal) ℓ) (g : Dev Cert.MemArgIdeal.nD → PrngReg), Pre_MemArgIdeal m →
    θ_run (Cert.MemArgIdeal.defs (F := Ideal)) (onTc (τ := Cert.MemArgIdeal.τ) (Cert.MemArgIdeal.main (F := Ideal))) ⟨m, fun _ => 0, g⟩ (fun r => (∀ c : Dev Cert.MemArgIdeal.nD,
      r.2.mem ((c.tc : Thread Cert.MemArgIdeal.nD Cert.MemArgIdeal.τ).loc Cert.MemArgIdeal.main_arg0) = m ((c.tc : Thread Cert.MemArgIdeal.nD Cert.MemArgIdeal.τ).loc Cert.MemArgIdeal.main_arg0)
      ∧ r.2.mem ((c.tc : Thread Cert.MemArgIdeal.nD Cert.MemArgIdeal.τ).loc Cert.MemArgIdeal.main_arg1) = m ((c.tc : Thread Cert.MemArgIdeal.nD Cert.MemArgIdeal.τ).loc Cert.MemArgIdeal.main_arg1))
      ∧ r.2.sem = fun _ => 0)

def quiescent_MemArgReferenceIdeal [hMemArgReferenceIdeal : Cert.MemArgReferenceIdeal.Facts] : Prop :=
  ∀ (m : (ℓ : Loc Cert.MemArgReferenceIdeal.nD Cert.MemArgReferenceIdeal.τ Cert.MemArgReferenceIdeal.sig) → Buf (Elt Ideal) ℓ) (g : Dev Cert.MemArgReferenceIdeal.nD → PrngReg), Pre_MemArgReferenceIdeal m →
    θ_run (Cert.MemArgReferenceIdeal.defs (F := Ideal)) (onTc (τ := Cert.MemArgReferenceIdeal.τ) (Cert.MemArgReferenceIdeal.main (F := Ideal))) ⟨m, fun _ => 0, g⟩ (fun r => (∀ c : Dev Cert.MemArgReferenceIdeal.nD,
      r.2.mem ((c.tc : Thread Cert.MemArgReferenceIdeal.nD Cert.MemArgReferenceIdeal.τ).loc Cert.MemArgReferenceIdeal.main_arg0) = m ((c.tc : Thread Cert.MemArgReferenceIdeal.nD Cert.MemArgReferenceIdeal.τ).loc Cert.MemArgReferenceIdeal.main_arg0)
      ∧ r.2.mem ((c.tc : Thread Cert.MemArgReferenceIdeal.nD Cert.MemArgReferenceIdeal.τ).loc Cert.MemArgReferenceIdeal.main_arg1) = m ((c.tc : Thread Cert.MemArgReferenceIdeal.nD Cert.MemArgReferenceIdeal.τ).loc Cert.MemArgReferenceIdeal.main_arg1))
      ∧ r.2.sem = fun _ => 0)

def quiescent_MemWeights [hMemWeights : Cert.MemWeights.Facts] : Prop :=
  ∀ (m : (ℓ : Loc Cert.MemWeights.nD Cert.MemWeights.τ Cert.MemWeights.sig) → Buf (Elt Bits) ℓ) (g : Dev Cert.MemWeights.nD → PrngReg), Pre_MemWeights m →
    θ_run (Cert.MemWeights.defs (F := Bits)) (onTc (τ := Cert.MemWeights.τ) (Cert.MemWeights.main (F := Bits))) ⟨m, fun _ => 0, g⟩ (fun r => (∀ c : Dev Cert.MemWeights.nD,
      r.2.mem ((c.tc : Thread Cert.MemWeights.nD Cert.MemWeights.τ).loc Cert.MemWeights.main_arg0) = m ((c.tc : Thread Cert.MemWeights.nD Cert.MemWeights.τ).loc Cert.MemWeights.main_arg0)
      ∧ r.2.mem ((c.tc : Thread Cert.MemWeights.nD Cert.MemWeights.τ).loc Cert.MemWeights.main_arg1) = m ((c.tc : Thread Cert.MemWeights.nD Cert.MemWeights.τ).loc Cert.MemWeights.main_arg1))
      ∧ r.2.sem = fun _ => 0)

def quiescent_MemWeightsIdeal [hMemWeightsIdeal : Cert.MemWeightsIdeal.Facts] : Prop :=
  ∀ (m : (ℓ : Loc Cert.MemWeightsIdeal.nD Cert.MemWeightsIdeal.τ Cert.MemWeightsIdeal.sig) → Buf (Elt Ideal) ℓ) (g : Dev Cert.MemWeightsIdeal.nD → PrngReg), Pre_MemWeightsIdeal m →
    θ_run (Cert.MemWeightsIdeal.defs (F := Ideal)) (onTc (τ := Cert.MemWeightsIdeal.τ) (Cert.MemWeightsIdeal.main (F := Ideal))) ⟨m, fun _ => 0, g⟩ (fun r => (∀ c : Dev Cert.MemWeightsIdeal.nD,
      r.2.mem ((c.tc : Thread Cert.MemWeightsIdeal.nD Cert.MemWeightsIdeal.τ).loc Cert.MemWeightsIdeal.main_arg0) = m ((c.tc : Thread Cert.MemWeightsIdeal.nD Cert.MemWeightsIdeal.τ).loc Cert.MemWeightsIdeal.main_arg0)
      ∧ r.2.mem ((c.tc : Thread Cert.MemWeightsIdeal.nD Cert.MemWeightsIdeal.τ).loc Cert.MemWeightsIdeal.main_arg1) = m ((c.tc : Thread Cert.MemWeightsIdeal.nD Cert.MemWeightsIdeal.τ).loc Cert.MemWeightsIdeal.main_arg1))
      ∧ r.2.sem = fun _ => 0)

def quiescent_MemWeightsReferenceIdeal [hMemWeightsReferenceIdeal : Cert.MemWeightsReferenceIdeal.Facts] : Prop :=
  ∀ (m : (ℓ : Loc Cert.MemWeightsReferenceIdeal.nD Cert.MemWeightsReferenceIdeal.τ Cert.MemWeightsReferenceIdeal.sig) → Buf (Elt Ideal) ℓ) (g : Dev Cert.MemWeightsReferenceIdeal.nD → PrngReg), Pre_MemWeightsReferenceIdeal m →
    θ_run (Cert.MemWeightsReferenceIdeal.defs (F := Ideal)) (onTc (τ := Cert.MemWeightsReferenceIdeal.τ) (Cert.MemWeightsReferenceIdeal.main (F := Ideal))) ⟨m, fun _ => 0, g⟩ (fun r => (∀ c : Dev Cert.MemWeightsReferenceIdeal.nD,
      r.2.mem ((c.tc : Thread Cert.MemWeightsReferenceIdeal.nD Cert.MemWeightsReferenceIdeal.τ).loc Cert.MemWeightsReferenceIdeal.main_arg0) = m ((c.tc : Thread Cert.MemWeightsReferenceIdeal.nD Cert.MemWeightsReferenceIdeal.τ).loc Cert.MemWeightsReferenceIdeal.main_arg0)
      ∧ r.2.mem ((c.tc : Thread Cert.MemWeightsReferenceIdeal.nD Cert.MemWeightsReferenceIdeal.τ).loc Cert.MemWeightsReferenceIdeal.main_arg1) = m ((c.tc : Thread Cert.MemWeightsReferenceIdeal.nD Cert.MemWeightsReferenceIdeal.τ).loc Cert.MemWeightsReferenceIdeal.main_arg1))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1))
      ∧ r.2.sem = fun _ => 0)

def quiescent_MemNorm [hMemNorm : Cert.MemNorm.Facts] : Prop :=
  ∀ (m : (ℓ : Loc Cert.MemNorm.nD Cert.MemNorm.τ Cert.MemNorm.sig) → Buf (Elt Bits) ℓ) (g : Dev Cert.MemNorm.nD → PrngReg), Pre_MemNorm m →
    θ_run (Cert.MemNorm.defs (F := Bits)) (onTc (τ := Cert.MemNorm.τ) (Cert.MemNorm.main (F := Bits))) ⟨m, fun _ => 0, g⟩ (fun r => (∀ c : Dev Cert.MemNorm.nD,
      r.2.mem ((c.tc : Thread Cert.MemNorm.nD Cert.MemNorm.τ).loc Cert.MemNorm.main_arg0) = m ((c.tc : Thread Cert.MemNorm.nD Cert.MemNorm.τ).loc Cert.MemNorm.main_arg0)
      ∧ r.2.mem ((c.tc : Thread Cert.MemNorm.nD Cert.MemNorm.τ).loc Cert.MemNorm.main_arg1) = m ((c.tc : Thread Cert.MemNorm.nD Cert.MemNorm.τ).loc Cert.MemNorm.main_arg1))
      ∧ r.2.sem = fun _ => 0)

def quiescent_MemNormIdeal [hMemNormIdeal : Cert.MemNormIdeal.Facts] : Prop :=
  ∀ (m : (ℓ : Loc Cert.MemNormIdeal.nD Cert.MemNormIdeal.τ Cert.MemNormIdeal.sig) → Buf (Elt Ideal) ℓ) (g : Dev Cert.MemNormIdeal.nD → PrngReg), Pre_MemNormIdeal m →
    θ_run (Cert.MemNormIdeal.defs (F := Ideal)) (onTc (τ := Cert.MemNormIdeal.τ) (Cert.MemNormIdeal.main (F := Ideal))) ⟨m, fun _ => 0, g⟩ (fun r => (∀ c : Dev Cert.MemNormIdeal.nD,
      r.2.mem ((c.tc : Thread Cert.MemNormIdeal.nD Cert.MemNormIdeal.τ).loc Cert.MemNormIdeal.main_arg0) = m ((c.tc : Thread Cert.MemNormIdeal.nD Cert.MemNormIdeal.τ).loc Cert.MemNormIdeal.main_arg0)
      ∧ r.2.mem ((c.tc : Thread Cert.MemNormIdeal.nD Cert.MemNormIdeal.τ).loc Cert.MemNormIdeal.main_arg1) = m ((c.tc : Thread Cert.MemNormIdeal.nD Cert.MemNormIdeal.τ).loc Cert.MemNormIdeal.main_arg1))
      ∧ r.2.sem = fun _ => 0)

def quiescent_MemNormReferenceIdeal [hMemNormReferenceIdeal : Cert.MemNormReferenceIdeal.Facts] : Prop :=
  ∀ (m : (ℓ : Loc Cert.MemNormReferenceIdeal.nD Cert.MemNormReferenceIdeal.τ Cert.MemNormReferenceIdeal.sig) → Buf (Elt Ideal) ℓ) (g : Dev Cert.MemNormReferenceIdeal.nD → PrngReg), Pre_MemNormReferenceIdeal m →
    θ_run (Cert.MemNormReferenceIdeal.defs (F := Ideal)) (onTc (τ := Cert.MemNormReferenceIdeal.τ) (Cert.MemNormReferenceIdeal.main (F := Ideal))) ⟨m, fun _ => 0, g⟩ (fun r => (∀ c : Dev Cert.MemNormReferenceIdeal.nD,
      r.2.mem ((c.tc : Thread Cert.MemNormReferenceIdeal.nD Cert.MemNormReferenceIdeal.τ).loc Cert.MemNormReferenceIdeal.main_arg0) = m ((c.tc : Thread Cert.MemNormReferenceIdeal.nD Cert.MemNormReferenceIdeal.τ).loc Cert.MemNormReferenceIdeal.main_arg0)
      ∧ r.2.mem ((c.tc : Thread Cert.MemNormReferenceIdeal.nD Cert.MemNormReferenceIdeal.τ).loc Cert.MemNormReferenceIdeal.main_arg1) = m ((c.tc : Thread Cert.MemNormReferenceIdeal.nD Cert.MemNormReferenceIdeal.τ).loc Cert.MemNormReferenceIdeal.main_arg1))
      ∧ r.2.sem = fun _ => 0)

def quiescent_NormGrad [hNormGrad : Cert.NormGrad.Facts] : Prop :=
  ∀ (m : (ℓ : Loc Cert.NormGrad.nD Cert.NormGrad.τ Cert.NormGrad.sig) → Buf (Elt Bits) ℓ) (g : Dev Cert.NormGrad.nD → PrngReg), Pre_NormGrad m →
    θ_run (Cert.NormGrad.defs (F := Bits)) (onTc (τ := Cert.NormGrad.τ) (Cert.NormGrad.main (F := Bits))) ⟨m, fun _ => 0, g⟩ (fun r => (∀ c : Dev Cert.NormGrad.nD,
      r.2.mem ((c.tc : Thread Cert.NormGrad.nD Cert.NormGrad.τ).loc Cert.NormGrad.main_arg0) = m ((c.tc : Thread Cert.NormGrad.nD Cert.NormGrad.τ).loc Cert.NormGrad.main_arg0)
      ∧ r.2.mem ((c.tc : Thread Cert.NormGrad.nD Cert.NormGrad.τ).loc Cert.NormGrad.main_arg1) = m ((c.tc : Thread Cert.NormGrad.nD Cert.NormGrad.τ).loc Cert.NormGrad.main_arg1)
      ∧ r.2.mem ((c.tc : Thread Cert.NormGrad.nD Cert.NormGrad.τ).loc Cert.NormGrad.main_arg2) = m ((c.tc : Thread Cert.NormGrad.nD Cert.NormGrad.τ).loc Cert.NormGrad.main_arg2)
      ∧ r.2.mem ((c.tc : Thread Cert.NormGrad.nD Cert.NormGrad.τ).loc Cert.NormGrad.main_arg3) = m ((c.tc : Thread Cert.NormGrad.nD Cert.NormGrad.τ).loc Cert.NormGrad.main_arg3))
      ∧ r.2.sem = fun _ => 0)

def quiescent_NormGradIdeal [hNormGradIdeal : Cert.NormGradIdeal.Facts] : Prop :=
  ∀ (m : (ℓ : Loc Cert.NormGradIdeal.nD Cert.NormGradIdeal.τ Cert.NormGradIdeal.sig) → Buf (Elt Ideal) ℓ) (g : Dev Cert.NormGradIdeal.nD → PrngReg), Pre_NormGradIdeal m →
    θ_run (Cert.NormGradIdeal.defs (F := Ideal)) (onTc (τ := Cert.NormGradIdeal.τ) (Cert.NormGradIdeal.main (F := Ideal))) ⟨m, fun _ => 0, g⟩ (fun r => (∀ c : Dev Cert.NormGradIdeal.nD,
      r.2.mem ((c.tc : Thread Cert.NormGradIdeal.nD Cert.NormGradIdeal.τ).loc Cert.NormGradIdeal.main_arg0) = m ((c.tc : Thread Cert.NormGradIdeal.nD Cert.NormGradIdeal.τ).loc Cert.NormGradIdeal.main_arg0)
      ∧ r.2.mem ((c.tc : Thread Cert.NormGradIdeal.nD Cert.NormGradIdeal.τ).loc Cert.NormGradIdeal.main_arg1) = m ((c.tc : Thread Cert.NormGradIdeal.nD Cert.NormGradIdeal.τ).loc Cert.NormGradIdeal.main_arg1)
      ∧ r.2.mem ((c.tc : Thread Cert.NormGradIdeal.nD Cert.NormGradIdeal.τ).loc Cert.NormGradIdeal.main_arg2) = m ((c.tc : Thread Cert.NormGradIdeal.nD Cert.NormGradIdeal.τ).loc Cert.NormGradIdeal.main_arg2)
      ∧ r.2.mem ((c.tc : Thread Cert.NormGradIdeal.nD Cert.NormGradIdeal.τ).loc Cert.NormGradIdeal.main_arg3) = m ((c.tc : Thread Cert.NormGradIdeal.nD Cert.NormGradIdeal.τ).loc Cert.NormGradIdeal.main_arg3))
      ∧ r.2.sem = fun _ => 0)

def quiescent_NormGradReferenceIdeal [hNormGradReferenceIdeal : Cert.NormGradReferenceIdeal.Facts] : Prop :=
  ∀ (m : (ℓ : Loc Cert.NormGradReferenceIdeal.nD Cert.NormGradReferenceIdeal.τ Cert.NormGradReferenceIdeal.sig) → Buf (Elt Ideal) ℓ) (g : Dev Cert.NormGradReferenceIdeal.nD → PrngReg), Pre_NormGradReferenceIdeal m →
    θ_run (Cert.NormGradReferenceIdeal.defs (F := Ideal)) (onTc (τ := Cert.NormGradReferenceIdeal.τ) (Cert.NormGradReferenceIdeal.main (F := Ideal))) ⟨m, fun _ => 0, g⟩ (fun r => (∀ c : Dev Cert.NormGradReferenceIdeal.nD,
      r.2.mem ((c.tc : Thread Cert.NormGradReferenceIdeal.nD Cert.NormGradReferenceIdeal.τ).loc Cert.NormGradReferenceIdeal.main_arg0) = m ((c.tc : Thread Cert.NormGradReferenceIdeal.nD Cert.NormGradReferenceIdeal.τ).loc Cert.NormGradReferenceIdeal.main_arg0)
      ∧ r.2.mem ((c.tc : Thread Cert.NormGradReferenceIdeal.nD Cert.NormGradReferenceIdeal.τ).loc Cert.NormGradReferenceIdeal.main_arg1) = m ((c.tc : Thread Cert.NormGradReferenceIdeal.nD Cert.NormGradReferenceIdeal.τ).loc Cert.NormGradReferenceIdeal.main_arg1)
      ∧ r.2.mem ((c.tc : Thread Cert.NormGradReferenceIdeal.nD Cert.NormGradReferenceIdeal.τ).loc Cert.NormGradReferenceIdeal.main_arg2) = m ((c.tc : Thread Cert.NormGradReferenceIdeal.nD Cert.NormGradReferenceIdeal.τ).loc Cert.NormGradReferenceIdeal.main_arg2)
      ∧ r.2.mem ((c.tc : Thread Cert.NormGradReferenceIdeal.nD Cert.NormGradReferenceIdeal.τ).loc Cert.NormGradReferenceIdeal.main_arg3) = m ((c.tc : Thread Cert.NormGradReferenceIdeal.nD Cert.NormGradReferenceIdeal.τ).loc Cert.NormGradReferenceIdeal.main_arg3))
      ∧ r.2.sem = fun _ => 0)

def quiescent_MemNormGrad [hMemNormGrad : Cert.MemNormGrad.Facts] : Prop :=
  ∀ (m : (ℓ : Loc Cert.MemNormGrad.nD Cert.MemNormGrad.τ Cert.MemNormGrad.sig) → Buf (Elt Bits) ℓ) (g : Dev Cert.MemNormGrad.nD → PrngReg), Pre_MemNormGrad m →
    θ_run (Cert.MemNormGrad.defs (F := Bits)) (onTc (τ := Cert.MemNormGrad.τ) (Cert.MemNormGrad.main (F := Bits))) ⟨m, fun _ => 0, g⟩ (fun r => (∀ c : Dev Cert.MemNormGrad.nD,
      r.2.mem ((c.tc : Thread Cert.MemNormGrad.nD Cert.MemNormGrad.τ).loc Cert.MemNormGrad.main_arg0) = m ((c.tc : Thread Cert.MemNormGrad.nD Cert.MemNormGrad.τ).loc Cert.MemNormGrad.main_arg0)
      ∧ r.2.mem ((c.tc : Thread Cert.MemNormGrad.nD Cert.MemNormGrad.τ).loc Cert.MemNormGrad.main_arg1) = m ((c.tc : Thread Cert.MemNormGrad.nD Cert.MemNormGrad.τ).loc Cert.MemNormGrad.main_arg1)
      ∧ r.2.mem ((c.tc : Thread Cert.MemNormGrad.nD Cert.MemNormGrad.τ).loc Cert.MemNormGrad.main_arg2) = m ((c.tc : Thread Cert.MemNormGrad.nD Cert.MemNormGrad.τ).loc Cert.MemNormGrad.main_arg2)
      ∧ r.2.mem ((c.tc : Thread Cert.MemNormGrad.nD Cert.MemNormGrad.τ).loc Cert.MemNormGrad.main_arg3) = m ((c.tc : Thread Cert.MemNormGrad.nD Cert.MemNormGrad.τ).loc Cert.MemNormGrad.main_arg3))
      ∧ r.2.sem = fun _ => 0)

def quiescent_MemNormGradIdeal [hMemNormGradIdeal : Cert.MemNormGradIdeal.Facts] : Prop :=
  ∀ (m : (ℓ : Loc Cert.MemNormGradIdeal.nD Cert.MemNormGradIdeal.τ Cert.MemNormGradIdeal.sig) → Buf (Elt Ideal) ℓ) (g : Dev Cert.MemNormGradIdeal.nD → PrngReg), Pre_MemNormGradIdeal m →
    θ_run (Cert.MemNormGradIdeal.defs (F := Ideal)) (onTc (τ := Cert.MemNormGradIdeal.τ) (Cert.MemNormGradIdeal.main (F := Ideal))) ⟨m, fun _ => 0, g⟩ (fun r => (∀ c : Dev Cert.MemNormGradIdeal.nD,
      r.2.mem ((c.tc : Thread Cert.MemNormGradIdeal.nD Cert.MemNormGradIdeal.τ).loc Cert.MemNormGradIdeal.main_arg0) = m ((c.tc : Thread Cert.MemNormGradIdeal.nD Cert.MemNormGradIdeal.τ).loc Cert.MemNormGradIdeal.main_arg0)
      ∧ r.2.mem ((c.tc : Thread Cert.MemNormGradIdeal.nD Cert.MemNormGradIdeal.τ).loc Cert.MemNormGradIdeal.main_arg1) = m ((c.tc : Thread Cert.MemNormGradIdeal.nD Cert.MemNormGradIdeal.τ).loc Cert.MemNormGradIdeal.main_arg1)
      ∧ r.2.mem ((c.tc : Thread Cert.MemNormGradIdeal.nD Cert.MemNormGradIdeal.τ).loc Cert.MemNormGradIdeal.main_arg2) = m ((c.tc : Thread Cert.MemNormGradIdeal.nD Cert.MemNormGradIdeal.τ).loc Cert.MemNormGradIdeal.main_arg2)
      ∧ r.2.mem ((c.tc : Thread Cert.MemNormGradIdeal.nD Cert.MemNormGradIdeal.τ).loc Cert.MemNormGradIdeal.main_arg3) = m ((c.tc : Thread Cert.MemNormGradIdeal.nD Cert.MemNormGradIdeal.τ).loc Cert.MemNormGradIdeal.main_arg3))
      ∧ r.2.sem = fun _ => 0)

def quiescent_MemNormGradReferenceIdeal [hMemNormGradReferenceIdeal : Cert.MemNormGradReferenceIdeal.Facts] : Prop :=
  ∀ (m : (ℓ : Loc Cert.MemNormGradReferenceIdeal.nD Cert.MemNormGradReferenceIdeal.τ Cert.MemNormGradReferenceIdeal.sig) → Buf (Elt Ideal) ℓ) (g : Dev Cert.MemNormGradReferenceIdeal.nD → PrngReg), Pre_MemNormGradReferenceIdeal m →
    θ_run (Cert.MemNormGradReferenceIdeal.defs (F := Ideal)) (onTc (τ := Cert.MemNormGradReferenceIdeal.τ) (Cert.MemNormGradReferenceIdeal.main (F := Ideal))) ⟨m, fun _ => 0, g⟩ (fun r => (∀ c : Dev Cert.MemNormGradReferenceIdeal.nD,
      r.2.mem ((c.tc : Thread Cert.MemNormGradReferenceIdeal.nD Cert.MemNormGradReferenceIdeal.τ).loc Cert.MemNormGradReferenceIdeal.main_arg0) = m ((c.tc : Thread Cert.MemNormGradReferenceIdeal.nD Cert.MemNormGradReferenceIdeal.τ).loc Cert.MemNormGradReferenceIdeal.main_arg0)
      ∧ r.2.mem ((c.tc : Thread Cert.MemNormGradReferenceIdeal.nD Cert.MemNormGradReferenceIdeal.τ).loc Cert.MemNormGradReferenceIdeal.main_arg1) = m ((c.tc : Thread Cert.MemNormGradReferenceIdeal.nD Cert.MemNormGradReferenceIdeal.τ).loc Cert.MemNormGradReferenceIdeal.main_arg1)
      ∧ r.2.mem ((c.tc : Thread Cert.MemNormGradReferenceIdeal.nD Cert.MemNormGradReferenceIdeal.τ).loc Cert.MemNormGradReferenceIdeal.main_arg2) = m ((c.tc : Thread Cert.MemNormGradReferenceIdeal.nD Cert.MemNormGradReferenceIdeal.τ).loc Cert.MemNormGradReferenceIdeal.main_arg2)
      ∧ r.2.mem ((c.tc : Thread Cert.MemNormGradReferenceIdeal.nD Cert.MemNormGradReferenceIdeal.τ).loc Cert.MemNormGradReferenceIdeal.main_arg3) = m ((c.tc : Thread Cert.MemNormGradReferenceIdeal.nD Cert.MemNormGradReferenceIdeal.τ).loc Cert.MemNormGradReferenceIdeal.main_arg3))
      ∧ r.2.sem = fun _ => 0)

def quiescent_GateFwd [hGateFwd : Cert.GateFwd.Facts] : Prop :=
  ∀ (m : (ℓ : Loc Cert.GateFwd.nD Cert.GateFwd.τ Cert.GateFwd.sig) → Buf (Elt Bits) ℓ) (g : Dev Cert.GateFwd.nD → PrngReg), Pre_GateFwd m →
    θ_run (Cert.GateFwd.defs (F := Bits)) (onTc (τ := Cert.GateFwd.τ) (Cert.GateFwd.main (F := Bits))) ⟨m, fun _ => 0, g⟩ (fun r => (∀ c : Dev Cert.GateFwd.nD,
      r.2.mem ((c.tc : Thread Cert.GateFwd.nD Cert.GateFwd.τ).loc Cert.GateFwd.main_arg0) = m ((c.tc : Thread Cert.GateFwd.nD Cert.GateFwd.τ).loc Cert.GateFwd.main_arg0)
      ∧ r.2.mem ((c.tc : Thread Cert.GateFwd.nD Cert.GateFwd.τ).loc Cert.GateFwd.main_arg1) = m ((c.tc : Thread Cert.GateFwd.nD Cert.GateFwd.τ).loc Cert.GateFwd.main_arg1)
      ∧ r.2.mem ((c.tc : Thread Cert.GateFwd.nD Cert.GateFwd.τ).loc Cert.GateFwd.main_arg2) = m ((c.tc : Thread Cert.GateFwd.nD Cert.GateFwd.τ).loc Cert.GateFwd.main_arg2)
      ∧ r.2.mem ((c.tc : Thread Cert.GateFwd.nD Cert.GateFwd.τ).loc Cert.GateFwd.main_arg3) = m ((c.tc : Thread Cert.GateFwd.nD Cert.GateFwd.τ).loc Cert.GateFwd.main_arg3)
      ∧ r.2.mem ((c.tc : Thread Cert.GateFwd.nD Cert.GateFwd.τ).loc Cert.GateFwd.main_arg4) = m ((c.tc : Thread Cert.GateFwd.nD Cert.GateFwd.τ).loc Cert.GateFwd.main_arg4))
      ∧ r.2.sem = fun _ => 0)

def quiescent_GateFwdIdeal [hGateFwdIdeal : Cert.GateFwdIdeal.Facts] : Prop :=
  ∀ (m : (ℓ : Loc Cert.GateFwdIdeal.nD Cert.GateFwdIdeal.τ Cert.GateFwdIdeal.sig) → Buf (Elt Ideal) ℓ) (g : Dev Cert.GateFwdIdeal.nD → PrngReg), Pre_GateFwdIdeal m →
    θ_run (Cert.GateFwdIdeal.defs (F := Ideal)) (onTc (τ := Cert.GateFwdIdeal.τ) (Cert.GateFwdIdeal.main (F := Ideal))) ⟨m, fun _ => 0, g⟩ (fun r => (∀ c : Dev Cert.GateFwdIdeal.nD,
      r.2.mem ((c.tc : Thread Cert.GateFwdIdeal.nD Cert.GateFwdIdeal.τ).loc Cert.GateFwdIdeal.main_arg0) = m ((c.tc : Thread Cert.GateFwdIdeal.nD Cert.GateFwdIdeal.τ).loc Cert.GateFwdIdeal.main_arg0)
      ∧ r.2.mem ((c.tc : Thread Cert.GateFwdIdeal.nD Cert.GateFwdIdeal.τ).loc Cert.GateFwdIdeal.main_arg1) = m ((c.tc : Thread Cert.GateFwdIdeal.nD Cert.GateFwdIdeal.τ).loc Cert.GateFwdIdeal.main_arg1)
      ∧ r.2.mem ((c.tc : Thread Cert.GateFwdIdeal.nD Cert.GateFwdIdeal.τ).loc Cert.GateFwdIdeal.main_arg2) = m ((c.tc : Thread Cert.GateFwdIdeal.nD Cert.GateFwdIdeal.τ).loc Cert.GateFwdIdeal.main_arg2)
      ∧ r.2.mem ((c.tc : Thread Cert.GateFwdIdeal.nD Cert.GateFwdIdeal.τ).loc Cert.GateFwdIdeal.main_arg3) = m ((c.tc : Thread Cert.GateFwdIdeal.nD Cert.GateFwdIdeal.τ).loc Cert.GateFwdIdeal.main_arg3)
      ∧ r.2.mem ((c.tc : Thread Cert.GateFwdIdeal.nD Cert.GateFwdIdeal.τ).loc Cert.GateFwdIdeal.main_arg4) = m ((c.tc : Thread Cert.GateFwdIdeal.nD Cert.GateFwdIdeal.τ).loc Cert.GateFwdIdeal.main_arg4))
      ∧ r.2.sem = fun _ => 0)

def quiescent_GateFwdReferenceIdeal [hGateFwdReferenceIdeal : Cert.GateFwdReferenceIdeal.Facts] : Prop :=
  ∀ (m : (ℓ : Loc Cert.GateFwdReferenceIdeal.nD Cert.GateFwdReferenceIdeal.τ Cert.GateFwdReferenceIdeal.sig) → Buf (Elt Ideal) ℓ) (g : Dev Cert.GateFwdReferenceIdeal.nD → PrngReg), Pre_GateFwdReferenceIdeal m →
    θ_run (Cert.GateFwdReferenceIdeal.defs (F := Ideal)) (onTc (τ := Cert.GateFwdReferenceIdeal.τ) (Cert.GateFwdReferenceIdeal.main (F := Ideal))) ⟨m, fun _ => 0, g⟩ (fun r => (∀ c : Dev Cert.GateFwdReferenceIdeal.nD,
      r.2.mem ((c.tc : Thread Cert.GateFwdReferenceIdeal.nD Cert.GateFwdReferenceIdeal.τ).loc Cert.GateFwdReferenceIdeal.main_arg0) = m ((c.tc : Thread Cert.GateFwdReferenceIdeal.nD Cert.GateFwdReferenceIdeal.τ).loc Cert.GateFwdReferenceIdeal.main_arg0)
      ∧ r.2.mem ((c.tc : Thread Cert.GateFwdReferenceIdeal.nD Cert.GateFwdReferenceIdeal.τ).loc Cert.GateFwdReferenceIdeal.main_arg1) = m ((c.tc : Thread Cert.GateFwdReferenceIdeal.nD Cert.GateFwdReferenceIdeal.τ).loc Cert.GateFwdReferenceIdeal.main_arg1)
      ∧ r.2.mem ((c.tc : Thread Cert.GateFwdReferenceIdeal.nD Cert.GateFwdReferenceIdeal.τ).loc Cert.GateFwdReferenceIdeal.main_arg2) = m ((c.tc : Thread Cert.GateFwdReferenceIdeal.nD Cert.GateFwdReferenceIdeal.τ).loc Cert.GateFwdReferenceIdeal.main_arg2)
      ∧ r.2.mem ((c.tc : Thread Cert.GateFwdReferenceIdeal.nD Cert.GateFwdReferenceIdeal.τ).loc Cert.GateFwdReferenceIdeal.main_arg3) = m ((c.tc : Thread Cert.GateFwdReferenceIdeal.nD Cert.GateFwdReferenceIdeal.τ).loc Cert.GateFwdReferenceIdeal.main_arg3)
      ∧ r.2.mem ((c.tc : Thread Cert.GateFwdReferenceIdeal.nD Cert.GateFwdReferenceIdeal.τ).loc Cert.GateFwdReferenceIdeal.main_arg4) = m ((c.tc : Thread Cert.GateFwdReferenceIdeal.nD Cert.GateFwdReferenceIdeal.τ).loc Cert.GateFwdReferenceIdeal.main_arg4))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2))
      ∧ r.2.sem = fun _ => 0)

def quiescent_StepAB [hStepAB : Cert.StepAB.Facts] : Prop :=
  ∀ (m : (ℓ : Loc Cert.StepAB.nD Cert.StepAB.τ Cert.StepAB.sig) → Buf (Elt Bits) ℓ) (g : Dev Cert.StepAB.nD → PrngReg), Pre_StepAB m →
    θ_run (Cert.StepAB.defs (F := Bits)) (onTc (τ := Cert.StepAB.τ) (Cert.StepAB.main (F := Bits))) ⟨m, fun _ => 0, g⟩ (fun r => (∀ c : Dev Cert.StepAB.nD,
      r.2.mem ((c.tc : Thread Cert.StepAB.nD Cert.StepAB.τ).loc Cert.StepAB.main_arg0) = m ((c.tc : Thread Cert.StepAB.nD Cert.StepAB.τ).loc Cert.StepAB.main_arg0)
      ∧ r.2.mem ((c.tc : Thread Cert.StepAB.nD Cert.StepAB.τ).loc Cert.StepAB.main_arg1) = m ((c.tc : Thread Cert.StepAB.nD Cert.StepAB.τ).loc Cert.StepAB.main_arg1)
      ∧ r.2.mem ((c.tc : Thread Cert.StepAB.nD Cert.StepAB.τ).loc Cert.StepAB.main_arg2) = m ((c.tc : Thread Cert.StepAB.nD Cert.StepAB.τ).loc Cert.StepAB.main_arg2)
      ∧ r.2.mem ((c.tc : Thread Cert.StepAB.nD Cert.StepAB.τ).loc Cert.StepAB.main_arg3) = m ((c.tc : Thread Cert.StepAB.nD Cert.StepAB.τ).loc Cert.StepAB.main_arg3))
      ∧ r.2.sem = fun _ => 0)

def quiescent_StepABIdeal [hStepABIdeal : Cert.StepABIdeal.Facts] : Prop :=
  ∀ (m : (ℓ : Loc Cert.StepABIdeal.nD Cert.StepABIdeal.τ Cert.StepABIdeal.sig) → Buf (Elt Ideal) ℓ) (g : Dev Cert.StepABIdeal.nD → PrngReg), Pre_StepABIdeal m →
    θ_run (Cert.StepABIdeal.defs (F := Ideal)) (onTc (τ := Cert.StepABIdeal.τ) (Cert.StepABIdeal.main (F := Ideal))) ⟨m, fun _ => 0, g⟩ (fun r => (∀ c : Dev Cert.StepABIdeal.nD,
      r.2.mem ((c.tc : Thread Cert.StepABIdeal.nD Cert.StepABIdeal.τ).loc Cert.StepABIdeal.main_arg0) = m ((c.tc : Thread Cert.StepABIdeal.nD Cert.StepABIdeal.τ).loc Cert.StepABIdeal.main_arg0)
      ∧ r.2.mem ((c.tc : Thread Cert.StepABIdeal.nD Cert.StepABIdeal.τ).loc Cert.StepABIdeal.main_arg1) = m ((c.tc : Thread Cert.StepABIdeal.nD Cert.StepABIdeal.τ).loc Cert.StepABIdeal.main_arg1)
      ∧ r.2.mem ((c.tc : Thread Cert.StepABIdeal.nD Cert.StepABIdeal.τ).loc Cert.StepABIdeal.main_arg2) = m ((c.tc : Thread Cert.StepABIdeal.nD Cert.StepABIdeal.τ).loc Cert.StepABIdeal.main_arg2)
      ∧ r.2.mem ((c.tc : Thread Cert.StepABIdeal.nD Cert.StepABIdeal.τ).loc Cert.StepABIdeal.main_arg3) = m ((c.tc : Thread Cert.StepABIdeal.nD Cert.StepABIdeal.τ).loc Cert.StepABIdeal.main_arg3))
      ∧ r.2.sem = fun _ => 0)

def quiescent_StepABReferenceIdeal [hStepABReferenceIdeal : Cert.StepABReferenceIdeal.Facts] : Prop :=
  ∀ (m : (ℓ : Loc Cert.StepABReferenceIdeal.nD Cert.StepABReferenceIdeal.τ Cert.StepABReferenceIdeal.sig) → Buf (Elt Ideal) ℓ) (g : Dev Cert.StepABReferenceIdeal.nD → PrngReg), Pre_StepABReferenceIdeal m →
    θ_run (Cert.StepABReferenceIdeal.defs (F := Ideal)) (onTc (τ := Cert.StepABReferenceIdeal.τ) (Cert.StepABReferenceIdeal.main (F := Ideal))) ⟨m, fun _ => 0, g⟩ (fun r => (∀ c : Dev Cert.StepABReferenceIdeal.nD,
      r.2.mem ((c.tc : Thread Cert.StepABReferenceIdeal.nD Cert.StepABReferenceIdeal.τ).loc Cert.StepABReferenceIdeal.main_arg0) = m ((c.tc : Thread Cert.StepABReferenceIdeal.nD Cert.StepABReferenceIdeal.τ).loc Cert.StepABReferenceIdeal.main_arg0)
      ∧ r.2.mem ((c.tc : Thread Cert.StepABReferenceIdeal.nD Cert.StepABReferenceIdeal.τ).loc Cert.StepABReferenceIdeal.main_arg1) = m ((c.tc : Thread Cert.StepABReferenceIdeal.nD Cert.StepABReferenceIdeal.τ).loc Cert.StepABReferenceIdeal.main_arg1)
      ∧ r.2.mem ((c.tc : Thread Cert.StepABReferenceIdeal.nD Cert.StepABReferenceIdeal.τ).loc Cert.StepABReferenceIdeal.main_arg2) = m ((c.tc : Thread Cert.StepABReferenceIdeal.nD Cert.StepABReferenceIdeal.τ).loc Cert.StepABReferenceIdeal.main_arg2)
      ∧ r.2.mem ((c.tc : Thread Cert.StepABReferenceIdeal.nD Cert.StepABReferenceIdeal.τ).loc Cert.StepABReferenceIdeal.main_arg3) = m ((c.tc : Thread Cert.StepABReferenceIdeal.nD Cert.StepABReferenceIdeal.τ).loc Cert.StepABReferenceIdeal.main_arg3))
      ∧ r.2.sem = fun _ => 0)

def quiescent_StepC [hStepC : Cert.StepC.Facts] : Prop :=
  ∀ (m : (ℓ : Loc Cert.StepC.nD Cert.StepC.τ Cert.StepC.sig) → Buf (Elt Bits) ℓ) (g : Dev Cert.StepC.nD → PrngReg), Pre_StepC m →
    θ_run (Cert.StepC.defs (F := Bits)) (onTc (τ := Cert.StepC.τ) (Cert.StepC.main (F := Bits))) ⟨m, fun _ => 0, g⟩ (fun r => (∀ c : Dev Cert.StepC.nD,
      r.2.mem ((c.tc : Thread Cert.StepC.nD Cert.StepC.τ).loc Cert.StepC.main_arg0) = m ((c.tc : Thread Cert.StepC.nD Cert.StepC.τ).loc Cert.StepC.main_arg0)
      ∧ r.2.mem ((c.tc : Thread Cert.StepC.nD Cert.StepC.τ).loc Cert.StepC.main_arg1) = m ((c.tc : Thread Cert.StepC.nD Cert.StepC.τ).loc Cert.StepC.main_arg1)
      ∧ r.2.mem ((c.tc : Thread Cert.StepC.nD Cert.StepC.τ).loc Cert.StepC.main_arg2) = m ((c.tc : Thread Cert.StepC.nD Cert.StepC.τ).loc Cert.StepC.main_arg2)
      ∧ r.2.mem ((c.tc : Thread Cert.StepC.nD Cert.StepC.τ).loc Cert.StepC.main_arg3) = m ((c.tc : Thread Cert.StepC.nD Cert.StepC.τ).loc Cert.StepC.main_arg3))
      ∧ r.2.sem = fun _ => 0)

def quiescent_StepCIdeal [hStepCIdeal : Cert.StepCIdeal.Facts] : Prop :=
  ∀ (m : (ℓ : Loc Cert.StepCIdeal.nD Cert.StepCIdeal.τ Cert.StepCIdeal.sig) → Buf (Elt Ideal) ℓ) (g : Dev Cert.StepCIdeal.nD → PrngReg), Pre_StepCIdeal m →
    θ_run (Cert.StepCIdeal.defs (F := Ideal)) (onTc (τ := Cert.StepCIdeal.τ) (Cert.StepCIdeal.main (F := Ideal))) ⟨m, fun _ => 0, g⟩ (fun r => (∀ c : Dev Cert.StepCIdeal.nD,
      r.2.mem ((c.tc : Thread Cert.StepCIdeal.nD Cert.StepCIdeal.τ).loc Cert.StepCIdeal.main_arg0) = m ((c.tc : Thread Cert.StepCIdeal.nD Cert.StepCIdeal.τ).loc Cert.StepCIdeal.main_arg0)
      ∧ r.2.mem ((c.tc : Thread Cert.StepCIdeal.nD Cert.StepCIdeal.τ).loc Cert.StepCIdeal.main_arg1) = m ((c.tc : Thread Cert.StepCIdeal.nD Cert.StepCIdeal.τ).loc Cert.StepCIdeal.main_arg1)
      ∧ r.2.mem ((c.tc : Thread Cert.StepCIdeal.nD Cert.StepCIdeal.τ).loc Cert.StepCIdeal.main_arg2) = m ((c.tc : Thread Cert.StepCIdeal.nD Cert.StepCIdeal.τ).loc Cert.StepCIdeal.main_arg2)
      ∧ r.2.mem ((c.tc : Thread Cert.StepCIdeal.nD Cert.StepCIdeal.τ).loc Cert.StepCIdeal.main_arg3) = m ((c.tc : Thread Cert.StepCIdeal.nD Cert.StepCIdeal.τ).loc Cert.StepCIdeal.main_arg3))
      ∧ r.2.sem = fun _ => 0)

def quiescent_StepCReferenceIdeal [hStepCReferenceIdeal : Cert.StepCReferenceIdeal.Facts] : Prop :=
  ∀ (m : (ℓ : Loc Cert.StepCReferenceIdeal.nD Cert.StepCReferenceIdeal.τ Cert.StepCReferenceIdeal.sig) → Buf (Elt Ideal) ℓ) (g : Dev Cert.StepCReferenceIdeal.nD → PrngReg), Pre_StepCReferenceIdeal m →
    θ_run (Cert.StepCReferenceIdeal.defs (F := Ideal)) (onTc (τ := Cert.StepCReferenceIdeal.τ) (Cert.StepCReferenceIdeal.main (F := Ideal))) ⟨m, fun _ => 0, g⟩ (fun r => (∀ c : Dev Cert.StepCReferenceIdeal.nD,
      r.2.mem ((c.tc : Thread Cert.StepCReferenceIdeal.nD Cert.StepCReferenceIdeal.τ).loc Cert.StepCReferenceIdeal.main_arg0) = m ((c.tc : Thread Cert.StepCReferenceIdeal.nD Cert.StepCReferenceIdeal.τ).loc Cert.StepCReferenceIdeal.main_arg0)
      ∧ r.2.mem ((c.tc : Thread Cert.StepCReferenceIdeal.nD Cert.StepCReferenceIdeal.τ).loc Cert.StepCReferenceIdeal.main_arg1) = m ((c.tc : Thread Cert.StepCReferenceIdeal.nD Cert.StepCReferenceIdeal.τ).loc Cert.StepCReferenceIdeal.main_arg1)
      ∧ r.2.mem ((c.tc : Thread Cert.StepCReferenceIdeal.nD Cert.StepCReferenceIdeal.τ).loc Cert.StepCReferenceIdeal.main_arg2) = m ((c.tc : Thread Cert.StepCReferenceIdeal.nD Cert.StepCReferenceIdeal.τ).loc Cert.StepCReferenceIdeal.main_arg2)
      ∧ r.2.mem ((c.tc : Thread Cert.StepCReferenceIdeal.nD Cert.StepCReferenceIdeal.τ).loc Cert.StepCReferenceIdeal.main_arg3) = m ((c.tc : Thread Cert.StepCReferenceIdeal.nD Cert.StepCReferenceIdeal.τ).loc Cert.StepCReferenceIdeal.main_arg3))
      ∧ r.2.sem = fun _ => 0)

def quiescent_StepOut [hStepOut : Cert.StepOut.Facts] : Prop :=
  ∀ (m : (ℓ : Loc Cert.StepOut.nD Cert.StepOut.τ Cert.StepOut.sig) → Buf (Elt Bits) ℓ) (g : Dev Cert.StepOut.nD → PrngReg), Pre_StepOut m →
    θ_run (Cert.StepOut.defs (F := Bits)) (onTc (τ := Cert.StepOut.τ) (Cert.StepOut.main (F := Bits))) ⟨m, fun _ => 0, g⟩ (fun r => (∀ c : Dev Cert.StepOut.nD,
      r.2.mem ((c.tc : Thread Cert.StepOut.nD Cert.StepOut.τ).loc Cert.StepOut.main_arg0) = m ((c.tc : Thread Cert.StepOut.nD Cert.StepOut.τ).loc Cert.StepOut.main_arg0)
      ∧ r.2.mem ((c.tc : Thread Cert.StepOut.nD Cert.StepOut.τ).loc Cert.StepOut.main_arg1) = m ((c.tc : Thread Cert.StepOut.nD Cert.StepOut.τ).loc Cert.StepOut.main_arg1)
      ∧ r.2.mem ((c.tc : Thread Cert.StepOut.nD Cert.StepOut.τ).loc Cert.StepOut.main_arg2) = m ((c.tc : Thread Cert.StepOut.nD Cert.StepOut.τ).loc Cert.StepOut.main_arg2)
      ∧ r.2.mem ((c.tc : Thread Cert.StepOut.nD Cert.StepOut.τ).loc Cert.StepOut.main_arg3) = m ((c.tc : Thread Cert.StepOut.nD Cert.StepOut.τ).loc Cert.StepOut.main_arg3))
      ∧ r.2.sem = fun _ => 0)

def quiescent_StepOutIdeal [hStepOutIdeal : Cert.StepOutIdeal.Facts] : Prop :=
  ∀ (m : (ℓ : Loc Cert.StepOutIdeal.nD Cert.StepOutIdeal.τ Cert.StepOutIdeal.sig) → Buf (Elt Ideal) ℓ) (g : Dev Cert.StepOutIdeal.nD → PrngReg), Pre_StepOutIdeal m →
    θ_run (Cert.StepOutIdeal.defs (F := Ideal)) (onTc (τ := Cert.StepOutIdeal.τ) (Cert.StepOutIdeal.main (F := Ideal))) ⟨m, fun _ => 0, g⟩ (fun r => (∀ c : Dev Cert.StepOutIdeal.nD,
      r.2.mem ((c.tc : Thread Cert.StepOutIdeal.nD Cert.StepOutIdeal.τ).loc Cert.StepOutIdeal.main_arg0) = m ((c.tc : Thread Cert.StepOutIdeal.nD Cert.StepOutIdeal.τ).loc Cert.StepOutIdeal.main_arg0)
      ∧ r.2.mem ((c.tc : Thread Cert.StepOutIdeal.nD Cert.StepOutIdeal.τ).loc Cert.StepOutIdeal.main_arg1) = m ((c.tc : Thread Cert.StepOutIdeal.nD Cert.StepOutIdeal.τ).loc Cert.StepOutIdeal.main_arg1)
      ∧ r.2.mem ((c.tc : Thread Cert.StepOutIdeal.nD Cert.StepOutIdeal.τ).loc Cert.StepOutIdeal.main_arg2) = m ((c.tc : Thread Cert.StepOutIdeal.nD Cert.StepOutIdeal.τ).loc Cert.StepOutIdeal.main_arg2)
      ∧ r.2.mem ((c.tc : Thread Cert.StepOutIdeal.nD Cert.StepOutIdeal.τ).loc Cert.StepOutIdeal.main_arg3) = m ((c.tc : Thread Cert.StepOutIdeal.nD Cert.StepOutIdeal.τ).loc Cert.StepOutIdeal.main_arg3))
      ∧ r.2.sem = fun _ => 0)

def quiescent_StepOutReferenceIdeal [hStepOutReferenceIdeal : Cert.StepOutReferenceIdeal.Facts] : Prop :=
  ∀ (m : (ℓ : Loc Cert.StepOutReferenceIdeal.nD Cert.StepOutReferenceIdeal.τ Cert.StepOutReferenceIdeal.sig) → Buf (Elt Ideal) ℓ) (g : Dev Cert.StepOutReferenceIdeal.nD → PrngReg), Pre_StepOutReferenceIdeal m →
    θ_run (Cert.StepOutReferenceIdeal.defs (F := Ideal)) (onTc (τ := Cert.StepOutReferenceIdeal.τ) (Cert.StepOutReferenceIdeal.main (F := Ideal))) ⟨m, fun _ => 0, g⟩ (fun r => (∀ c : Dev Cert.StepOutReferenceIdeal.nD,
      r.2.mem ((c.tc : Thread Cert.StepOutReferenceIdeal.nD Cert.StepOutReferenceIdeal.τ).loc Cert.StepOutReferenceIdeal.main_arg0) = m ((c.tc : Thread Cert.StepOutReferenceIdeal.nD Cert.StepOutReferenceIdeal.τ).loc Cert.StepOutReferenceIdeal.main_arg0)
      ∧ r.2.mem ((c.tc : Thread Cert.StepOutReferenceIdeal.nD Cert.StepOutReferenceIdeal.τ).loc Cert.StepOutReferenceIdeal.main_arg1) = m ((c.tc : Thread Cert.StepOutReferenceIdeal.nD Cert.StepOutReferenceIdeal.τ).loc Cert.StepOutReferenceIdeal.main_arg1)
      ∧ r.2.mem ((c.tc : Thread Cert.StepOutReferenceIdeal.nD Cert.StepOutReferenceIdeal.τ).loc Cert.StepOutReferenceIdeal.main_arg2) = m ((c.tc : Thread Cert.StepOutReferenceIdeal.nD Cert.StepOutReferenceIdeal.τ).loc Cert.StepOutReferenceIdeal.main_arg2)
      ∧ r.2.mem ((c.tc : Thread Cert.StepOutReferenceIdeal.nD Cert.StepOutReferenceIdeal.τ).loc Cert.StepOutReferenceIdeal.main_arg3) = m ((c.tc : Thread Cert.StepOutReferenceIdeal.nD Cert.StepOutReferenceIdeal.τ).loc Cert.StepOutReferenceIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)) (v4 : (c : Dev Cert.KernelIdeal.nD) → Buf (Elt Ideal) ((c.tc : Thread Cert.KernelIdeal.nD Cert.KernelIdeal.τ).loc Cert.KernelIdeal.main_v3_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_v3_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_v71) = v1 c
          ∧ r.2.mem ((c.tc : Thread Cert.ReferenceIdeal.nD Cert.ReferenceIdeal.τ).loc Cert.ReferenceIdeal.main_v108) = v2 c
          ∧ r.2.mem ((c.tc : Thread Cert.ReferenceIdeal.nD Cert.ReferenceIdeal.τ).loc Cert.ReferenceIdeal.main_v109) = v3 c
          ∧ r.2.mem ((c.tc : Thread Cert.ReferenceIdeal.nD Cert.ReferenceIdeal.τ).loc Cert.ReferenceIdeal.main_v110) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_OutArg_OutArgIdeal : Prop :=
  True

def algebraic_OutArgIdeal_OutArgReferenceIdeal [hOutArgIdeal : Cert.OutArgIdeal.Facts] [hOutArgReferenceIdeal : Cert.OutArgReferenceIdeal.Facts] : Prop :=
  ∀ (m : (ℓ : Loc Cert.OutArgIdeal.nD Cert.OutArgIdeal.τ Cert.OutArgIdeal.sig) → Buf (Elt Ideal) ℓ) (g : Dev Cert.OutArgIdeal.nD → PrngReg)
    (m' : (ℓ : Loc Cert.OutArgReferenceIdeal.nD Cert.OutArgReferenceIdeal.τ Cert.OutArgReferenceIdeal.sig) → Buf (Elt Ideal) ℓ) (g' : Dev Cert.OutArgReferenceIdeal.nD → PrngReg), Pre_OutArgIdeal m →
    (∀ c : Dev Cert.OutArgIdeal.nD,
      m' ((c.tc : Thread Cert.OutArgReferenceIdeal.nD Cert.OutArgReferenceIdeal.τ).loc Cert.OutArgReferenceIdeal.main_arg0) = m ((c.tc : Thread Cert.OutArgIdeal.nD Cert.OutArgIdeal.τ).loc Cert.OutArgIdeal.main_arg0)
      ∧ m' ((c.tc : Thread Cert.OutArgReferenceIdeal.nD Cert.OutArgReferenceIdeal.τ).loc Cert.OutArgReferenceIdeal.main_arg1) = m ((c.tc : Thread Cert.OutArgIdeal.nD Cert.OutArgIdeal.τ).loc Cert.OutArgIdeal.main_arg1)) →
    ∃ (v0 : (c : Dev Cert.OutArgIdeal.nD) → Buf (Elt Ideal) ((c.tc : Thread Cert.OutArgIdeal.nD Cert.OutArgIdeal.τ).loc Cert.OutArgIdeal.main_v0)),
      θ_run (Cert.OutArgIdeal.defs (F := Ideal)) (onTc (τ := Cert.OutArgIdeal.τ) (Cert.OutArgIdeal.main (F := Ideal))) ⟨m, fun _ => 0, g⟩ (fun r => ∀ c : Dev Cert.OutArgIdeal.nD,
          r.2.mem ((c.tc : Thread Cert.OutArgIdeal.nD Cert.OutArgIdeal.τ).loc Cert.OutArgIdeal.main_v0) = v0 c
          ∧ r.2.mem ((c.tc : Thread Cert.OutArgIdeal.nD Cert.OutArgIdeal.τ).loc Cert.OutArgIdeal.main_arg0) = m ((c.tc : Thread Cert.OutArgIdeal.nD Cert.OutArgIdeal.τ).loc Cert.OutArgIdeal.main_arg0)
          ∧ r.2.mem ((c.tc : Thread Cert.OutArgIdeal.nD Cert.OutArgIdeal.τ).loc Cert.OutArgIdeal.main_arg1) = m ((c.tc : Thread Cert.OutArgIdeal.nD Cert.OutArgIdeal.τ).loc Cert.OutArgIdeal.main_arg1))
      ∧ θ_run (Cert.OutArgReferenceIdeal.defs (F := Ideal)) (onTc (τ := Cert.OutArgReferenceIdeal.τ) (Cert.OutArgReferenceIdeal.main (F := Ideal))) ⟨m', fun _ => 0, g'⟩ (fun r => ∀ c : Dev Cert.OutArgReferenceIdeal.nD,
          r.2.mem ((c.tc : Thread Cert.OutArgReferenceIdeal.nD Cert.OutArgReferenceIdeal.τ).loc Cert.OutArgReferenceIdeal.main_v5) = v0 c
          ∧ r.2.mem ((c.tc : Thread Cert.OutArgReferenceIdeal.nD Cert.OutArgReferenceIdeal.τ).loc Cert.OutArgReferenceIdeal.main_arg0) = m' ((c.tc : Thread Cert.OutArgReferenceIdeal.nD Cert.OutArgReferenceIdeal.τ).loc Cert.OutArgReferenceIdeal.main_arg0)
          ∧ r.2.mem ((c.tc : Thread Cert.OutArgReferenceIdeal.nD Cert.OutArgReferenceIdeal.τ).loc Cert.OutArgReferenceIdeal.main_arg1) = m' ((c.tc : Thread Cert.OutArgReferenceIdeal.nD Cert.OutArgReferenceIdeal.τ).loc Cert.OutArgReferenceIdeal.main_arg1))

def preserves_OutWeights_OutWeightsIdeal : Prop :=
  True

def algebraic_OutWeightsIdeal_OutWeightsReferenceIdeal [hOutWeightsIdeal : Cert.OutWeightsIdeal.Facts] [hOutWeightsReferenceIdeal : Cert.OutWeightsReferenceIdeal.Facts] : Prop :=
  ∀ (m : (ℓ : Loc Cert.OutWeightsIdeal.nD Cert.OutWeightsIdeal.τ Cert.OutWeightsIdeal.sig) → Buf (Elt Ideal) ℓ) (g : Dev Cert.OutWeightsIdeal.nD → PrngReg)
    (m' : (ℓ : Loc Cert.OutWeightsReferenceIdeal.nD Cert.OutWeightsReferenceIdeal.τ Cert.OutWeightsReferenceIdeal.sig) → Buf (Elt Ideal) ℓ) (g' : Dev Cert.OutWeightsReferenceIdeal.nD → PrngReg), Pre_OutWeightsIdeal m →
    (∀ c : Dev Cert.OutWeightsIdeal.nD,
      m' ((c.tc : Thread Cert.OutWeightsReferenceIdeal.nD Cert.OutWeightsReferenceIdeal.τ).loc Cert.OutWeightsReferenceIdeal.main_arg0) = m ((c.tc : Thread Cert.OutWeightsIdeal.nD Cert.OutWeightsIdeal.τ).loc Cert.OutWeightsIdeal.main_arg0)
      ∧ m' ((c.tc : Thread Cert.OutWeightsReferenceIdeal.nD Cert.OutWeightsReferenceIdeal.τ).loc Cert.OutWeightsReferenceIdeal.main_arg1) = m ((c.tc : Thread Cert.OutWeightsIdeal.nD Cert.OutWeightsIdeal.τ).loc Cert.OutWeightsIdeal.main_arg1)) →
    ∃ (v0 : (c : Dev Cert.OutWeightsIdeal.nD) → Buf (Elt Ideal) ((c.tc : Thread Cert.OutWeightsIdeal.nD Cert.OutWeightsIdeal.τ).loc Cert.OutWeightsIdeal.main_v0)),
      θ_run (Cert.OutWeightsIdeal.defs (F := Ideal)) (onTc (τ := Cert.OutWeightsIdeal.τ) (Cert.OutWeightsIdeal.main (F := Ideal))) ⟨m, fun _ => 0, g⟩ (fun r => ∀ c : Dev Cert.OutWeightsIdeal.nD,
          r.2.mem ((c.tc : Thread Cert.OutWeightsIdeal.nD Cert.OutWeightsIdeal.τ).loc Cert.OutWeightsIdeal.main_v0) = v0 c
          ∧ r.2.mem ((c.tc : Thread Cert.OutWeightsIdeal.nD Cert.OutWeightsIdeal.τ).loc Cert.OutWeightsIdeal.main_arg0) = m ((c.tc : Thread Cert.OutWeightsIdeal.nD Cert.OutWeightsIdeal.τ).loc Cert.OutWeightsIdeal.main_arg0)
          ∧ r.2.mem ((c.tc : Thread Cert.OutWeightsIdeal.nD Cert.OutWeightsIdeal.τ).loc Cert.OutWeightsIdeal.main_arg1) = m ((c.tc : Thread Cert.OutWeightsIdeal.nD Cert.OutWeightsIdeal.τ).loc Cert.OutWeightsIdeal.main_arg1))
      ∧ θ_run (Cert.OutWeightsReferenceIdeal.defs (F := Ideal)) (onTc (τ := Cert.OutWeightsReferenceIdeal.τ) (Cert.OutWeightsReferenceIdeal.main (F := Ideal))) ⟨m', fun _ => 0, g'⟩ (fun r => ∀ c : Dev Cert.OutWeightsReferenceIdeal.nD,
          r.2.mem ((c.tc : Thread Cert.OutWeightsReferenceIdeal.nD Cert.OutWeightsReferenceIdeal.τ).loc Cert.OutWeightsReferenceIdeal.main_v6) = v0 c
          ∧ r.2.mem ((c.tc : Thread Cert.OutWeightsReferenceIdeal.nD Cert.OutWeightsReferenceIdeal.τ).loc Cert.OutWeightsReferenceIdeal.main_arg0) = m' ((c.tc : Thread Cert.OutWeightsReferenceIdeal.nD Cert.OutWeightsReferenceIdeal.τ).loc Cert.OutWeightsReferenceIdeal.main_arg0)
          ∧ r.2.mem ((c.tc : Thread Cert.OutWeightsReferenceIdeal.nD Cert.OutWeightsReferenceIdeal.τ).loc Cert.OutWeightsReferenceIdeal.main_arg1) = m' ((c.tc : Thread Cert.OutWeightsReferenceIdeal.nD Cert.OutWeightsReferenceIdeal.τ).loc Cert.OutWeightsReferenceIdeal.main_arg1))

def preserves_CrossArg_CrossArgIdeal : Prop :=
  True

def algebraic_CrossArgIdeal_CrossArgReferenceIdeal [hCrossArgIdeal : Cert.CrossArgIdeal.Facts] [hCrossArgReferenceIdeal : Cert.CrossArgReferenceIdeal.Facts] : Prop :=
  ∀ (m : (ℓ : Loc Cert.CrossArgIdeal.nD Cert.CrossArgIdeal.τ Cert.CrossArgIdeal.sig) → Buf (Elt Ideal) ℓ) (g : Dev Cert.CrossArgIdeal.nD → PrngReg)
    (m' : (ℓ : Loc Cert.CrossArgReferenceIdeal.nD Cert.CrossArgReferenceIdeal.τ Cert.CrossArgReferenceIdeal.sig) → Buf (Elt Ideal) ℓ) (g' : Dev Cert.CrossArgReferenceIdeal.nD → PrngReg), Pre_CrossArgIdeal m →
    (∀ c : Dev Cert.CrossArgIdeal.nD,
      m' ((c.tc : Thread Cert.CrossArgReferenceIdeal.nD Cert.CrossArgReferenceIdeal.τ).loc Cert.CrossArgReferenceIdeal.main_arg0) = m ((c.tc : Thread Cert.CrossArgIdeal.nD Cert.CrossArgIdeal.τ).loc Cert.CrossArgIdeal.main_arg0)
      ∧ m' ((c.tc : Thread Cert.CrossArgReferenceIdeal.nD Cert.CrossArgReferenceIdeal.τ).loc Cert.CrossArgReferenceIdeal.main_arg1) = m ((c.tc : Thread Cert.CrossArgIdeal.nD Cert.CrossArgIdeal.τ).loc Cert.CrossArgIdeal.main_arg1)) →
    ∃ (v0 : (c : Dev Cert.CrossArgIdeal.nD) → Buf (Elt Ideal) ((c.tc : Thread Cert.CrossArgIdeal.nD Cert.CrossArgIdeal.τ).loc Cert.CrossArgIdeal.main_v0)),
      θ_run (Cert.CrossArgIdeal.defs (F := Ideal)) (onTc (τ := Cert.CrossArgIdeal.τ) (Cert.CrossArgIdeal.main (F := Ideal))) ⟨m, fun _ => 0, g⟩ (fun r => ∀ c : Dev Cert.CrossArgIdeal.nD,
          r.2.mem ((c.tc : Thread Cert.CrossArgIdeal.nD Cert.CrossArgIdeal.τ).loc Cert.CrossArgIdeal.main_v0) = v0 c
          ∧ r.2.mem ((c.tc : Thread Cert.CrossArgIdeal.nD Cert.CrossArgIdeal.τ).loc Cert.CrossArgIdeal.main_arg0) = m ((c.tc : Thread Cert.CrossArgIdeal.nD Cert.CrossArgIdeal.τ).loc Cert.CrossArgIdeal.main_arg0)
          ∧ r.2.mem ((c.tc : Thread Cert.CrossArgIdeal.nD Cert.CrossArgIdeal.τ).loc Cert.CrossArgIdeal.main_arg1) = m ((c.tc : Thread Cert.CrossArgIdeal.nD Cert.CrossArgIdeal.τ).loc Cert.CrossArgIdeal.main_arg1))
      ∧ θ_run (Cert.CrossArgReferenceIdeal.defs (F := Ideal)) (onTc (τ := Cert.CrossArgReferenceIdeal.τ) (Cert.CrossArgReferenceIdeal.main (F := Ideal))) ⟨m', fun _ => 0, g'⟩ (fun r => ∀ c : Dev Cert.CrossArgReferenceIdeal.nD,
          r.2.mem ((c.tc : Thread Cert.CrossArgReferenceIdeal.nD Cert.CrossArgReferenceIdeal.τ).loc Cert.CrossArgReferenceIdeal.main_v5) = v0 c
          ∧ r.2.mem ((c.tc : Thread Cert.CrossArgReferenceIdeal.nD Cert.CrossArgReferenceIdeal.τ).loc Cert.CrossArgReferenceIdeal.main_arg0) = m' ((c.tc : Thread Cert.CrossArgReferenceIdeal.nD Cert.CrossArgReferenceIdeal.τ).loc Cert.CrossArgReferenceIdeal.main_arg0)
          ∧ r.2.mem ((c.tc : Thread Cert.CrossArgReferenceIdeal.nD Cert.CrossArgReferenceIdeal.τ).loc Cert.CrossArgReferenceIdeal.main_arg1) = m' ((c.tc : Thread Cert.CrossArgReferenceIdeal.nD Cert.CrossArgReferenceIdeal.τ).loc Cert.CrossArgReferenceIdeal.main_arg1))

def preserves_CrossWeights_CrossWeightsIdeal : Prop :=
  True

def algebraic_CrossWeightsIdeal_CrossWeightsReferenceIdeal [hCrossWeightsIdeal : Cert.CrossWeightsIdeal.Facts] [hCrossWeightsReferenceIdeal : Cert.CrossWeightsReferenceIdeal.Facts] : Prop :=
  ∀ (m : (ℓ : Loc Cert.CrossWeightsIdeal.nD Cert.CrossWeightsIdeal.τ Cert.CrossWeightsIdeal.sig) → Buf (Elt Ideal) ℓ) (g : Dev Cert.CrossWeightsIdeal.nD → PrngReg)
    (m' : (ℓ : Loc Cert.CrossWeightsReferenceIdeal.nD Cert.CrossWeightsReferenceIdeal.τ Cert.CrossWeightsReferenceIdeal.sig) → Buf (Elt Ideal) ℓ) (g' : Dev Cert.CrossWeightsReferenceIdeal.nD → PrngReg), Pre_CrossWeightsIdeal m →
    (∀ c : Dev Cert.CrossWeightsIdeal.nD,
      m' ((c.tc : Thread Cert.CrossWeightsReferenceIdeal.nD Cert.CrossWeightsReferenceIdeal.τ).loc Cert.CrossWeightsReferenceIdeal.main_arg0) = m ((c.tc : Thread Cert.CrossWeightsIdeal.nD Cert.CrossWeightsIdeal.τ).loc Cert.CrossWeightsIdeal.main_arg0)
      ∧ m' ((c.tc : Thread Cert.CrossWeightsReferenceIdeal.nD Cert.CrossWeightsReferenceIdeal.τ).loc Cert.CrossWeightsReferenceIdeal.main_arg1) = m ((c.tc : Thread Cert.CrossWeightsIdeal.nD Cert.CrossWeightsIdeal.τ).loc Cert.CrossWeightsIdeal.main_arg1)) →
    ∃ (v0 : (c : Dev Cert.CrossWeightsIdeal.nD) → Buf (Elt Ideal) ((c.tc : Thread Cert.CrossWeightsIdeal.nD Cert.CrossWeightsIdeal.τ).loc Cert.CrossWeightsIdeal.main_v0)),
      θ_run (Cert.CrossWeightsIdeal.defs (F := Ideal)) (onTc (τ := Cert.CrossWeightsIdeal.τ) (Cert.CrossWeightsIdeal.main (F := Ideal))) ⟨m, fun _ => 0, g⟩ (fun r => ∀ c : Dev Cert.CrossWeightsIdeal.nD,
          r.2.mem ((c.tc : Thread Cert.CrossWeightsIdeal.nD Cert.CrossWeightsIdeal.τ).loc Cert.CrossWeightsIdeal.main_v0) = v0 c
          ∧ r.2.mem ((c.tc : Thread Cert.CrossWeightsIdeal.nD Cert.CrossWeightsIdeal.τ).loc Cert.CrossWeightsIdeal.main_arg0) = m ((c.tc : Thread Cert.CrossWeightsIdeal.nD Cert.CrossWeightsIdeal.τ).loc Cert.CrossWeightsIdeal.main_arg0)
          ∧ r.2.mem ((c.tc : Thread Cert.CrossWeightsIdeal.nD Cert.CrossWeightsIdeal.τ).loc Cert.CrossWeightsIdeal.main_arg1) = m ((c.tc : Thread Cert.CrossWeightsIdeal.nD Cert.CrossWeightsIdeal.τ).loc Cert.CrossWeightsIdeal.main_arg1))
      ∧ θ_run (Cert.CrossWeightsReferenceIdeal.defs (F := Ideal)) (onTc (τ := Cert.CrossWeightsReferenceIdeal.τ) (Cert.CrossWeightsReferenceIdeal.main (F := Ideal))) ⟨m', fun _ => 0, g'⟩ (fun r => ∀ c : Dev Cert.CrossWeightsReferenceIdeal.nD,
          r.2.mem ((c.tc : Thread Cert.CrossWeightsReferenceIdeal.nD Cert.CrossWeightsReferenceIdeal.τ).loc Cert.CrossWeightsReferenceIdeal.main_v6) = v0 c
          ∧ r.2.mem ((c.tc : Thread Cert.CrossWeightsReferenceIdeal.nD Cert.CrossWeightsReferenceIdeal.τ).loc Cert.CrossWeightsReferenceIdeal.main_arg0) = m' ((c.tc : Thread Cert.CrossWeightsReferenceIdeal.nD Cert.CrossWeightsReferenceIdeal.τ).loc Cert.CrossWeightsReferenceIdeal.main_arg0)
          ∧ r.2.mem ((c.tc : Thread Cert.CrossWeightsReferenceIdeal.nD Cert.CrossWeightsReferenceIdeal.τ).loc Cert.CrossWeightsReferenceIdeal.main_arg1) = m' ((c.tc : Thread Cert.CrossWeightsReferenceIdeal.nD Cert.CrossWeightsReferenceIdeal.τ).loc Cert.CrossWeightsReferenceIdeal.main_arg1))

def preserves_InWeights_InWeightsIdeal : Prop :=
  True

def algebraic_InWeightsIdeal_InWeightsReferenceIdeal [hInWeightsIdeal : Cert.InWeightsIdeal.Facts] [hInWeightsReferenceIdeal : Cert.InWeightsReferenceIdeal.Facts] : Prop :=
  ∀ (m : (ℓ : Loc Cert.InWeightsIdeal.nD Cert.InWeightsIdeal.τ Cert.InWeightsIdeal.sig) → Buf (Elt Ideal) ℓ) (g : Dev Cert.InWeightsIdeal.nD → PrngReg)
    (m' : (ℓ : Loc Cert.InWeightsReferenceIdeal.nD Cert.InWeightsReferenceIdeal.τ Cert.InWeightsReferenceIdeal.sig) → Buf (Elt Ideal) ℓ) (g' : Dev Cert.InWeightsReferenceIdeal.nD → PrngReg), Pre_InWeightsIdeal m →
    (∀ c : Dev Cert.InWeightsIdeal.nD,
      m' ((c.tc : Thread Cert.InWeightsReferenceIdeal.nD Cert.InWeightsReferenceIdeal.τ).loc Cert.InWeightsReferenceIdeal.main_arg0) = m ((c.tc : Thread Cert.InWeightsIdeal.nD Cert.InWeightsIdeal.τ).loc Cert.InWeightsIdeal.main_arg0)
      ∧ m' ((c.tc : Thread Cert.InWeightsReferenceIdeal.nD Cert.InWeightsReferenceIdeal.τ).loc Cert.InWeightsReferenceIdeal.main_arg1) = m ((c.tc : Thread Cert.InWeightsIdeal.nD Cert.InWeightsIdeal.τ).loc Cert.InWeightsIdeal.main_arg1)) →
    ∃ (v0 : (c : Dev Cert.InWeightsIdeal.nD) → Buf (Elt Ideal) ((c.tc : Thread Cert.InWeightsIdeal.nD Cert.InWeightsIdeal.τ).loc Cert.InWeightsIdeal.main_v0)),
      θ_run (Cert.InWeightsIdeal.defs (F := Ideal)) (onTc (τ := Cert.InWeightsIdeal.τ) (Cert.InWeightsIdeal.main (F := Ideal))) ⟨m, fun _ => 0, g⟩ (fun r => ∀ c : Dev Cert.InWeightsIdeal.nD,
          r.2.mem ((c.tc : Thread Cert.InWeightsIdeal.nD Cert.InWeightsIdeal.τ).loc Cert.InWeightsIdeal.main_v0) = v0 c
          ∧ r.2.mem ((c.tc : Thread Cert.InWeightsIdeal.nD Cert.InWeightsIdeal.τ).loc Cert.InWeightsIdeal.main_arg0) = m ((c.tc : Thread Cert.InWeightsIdeal.nD Cert.InWeightsIdeal.τ).loc Cert.InWeightsIdeal.main_arg0)
          ∧ r.2.mem ((c.tc : Thread Cert.InWeightsIdeal.nD Cert.InWeightsIdeal.τ).loc Cert.InWeightsIdeal.main_arg1) = m ((c.tc : Thread Cert.InWeightsIdeal.nD Cert.InWeightsIdeal.τ).loc Cert.InWeightsIdeal.main_arg1))
      ∧ θ_run (Cert.InWeightsReferenceIdeal.defs (F := Ideal)) (onTc (τ := Cert.InWeightsReferenceIdeal.τ) (Cert.InWeightsReferenceIdeal.main (F := Ideal))) ⟨m', fun _ => 0, g'⟩ (fun r => ∀ c : Dev Cert.InWeightsReferenceIdeal.nD,
          r.2.mem ((c.tc : Thread Cert.InWeightsReferenceIdeal.nD Cert.InWeightsReferenceIdeal.τ).loc Cert.InWeightsReferenceIdeal.main_v8) = v0 c
          ∧ r.2.mem ((c.tc : Thread Cert.InWeightsReferenceIdeal.nD Cert.InWeightsReferenceIdeal.τ).loc Cert.InWeightsReferenceIdeal.main_arg0) = m' ((c.tc : Thread Cert.InWeightsReferenceIdeal.nD Cert.InWeightsReferenceIdeal.τ).loc Cert.InWeightsReferenceIdeal.main_arg0)
          ∧ r.2.mem ((c.tc : Thread Cert.InWeightsReferenceIdeal.nD Cert.InWeightsReferenceIdeal.τ).loc Cert.InWeightsReferenceIdeal.main_arg1) = m' ((c.tc : Thread Cert.InWeightsReferenceIdeal.nD Cert.InWeightsReferenceIdeal.τ).loc Cert.InWeightsReferenceIdeal.main_arg1))

def preserves_InC_InCIdeal : Prop :=
  True

def algebraic_InCIdeal_InCReferenceIdeal [hInCIdeal : Cert.InCIdeal.Facts] [hInCReferenceIdeal : Cert.InCReferenceIdeal.Facts] : Prop :=
  ∀ (m : (ℓ : Loc Cert.InCIdeal.nD Cert.InCIdeal.τ Cert.InCIdeal.sig) → Buf (Elt Ideal) ℓ) (g : Dev Cert.InCIdeal.nD → PrngReg)
    (m' : (ℓ : Loc Cert.InCReferenceIdeal.nD Cert.InCReferenceIdeal.τ Cert.InCReferenceIdeal.sig) → Buf (Elt Ideal) ℓ) (g' : Dev Cert.InCReferenceIdeal.nD → PrngReg), Pre_InCIdeal m →
    (∀ c : Dev Cert.InCIdeal.nD,
      m' ((c.tc : Thread Cert.InCReferenceIdeal.nD Cert.InCReferenceIdeal.τ).loc Cert.InCReferenceIdeal.main_arg0) = m ((c.tc : Thread Cert.InCIdeal.nD Cert.InCIdeal.τ).loc Cert.InCIdeal.main_arg0)
      ∧ m' ((c.tc : Thread Cert.InCReferenceIdeal.nD Cert.InCReferenceIdeal.τ).loc Cert.InCReferenceIdeal.main_arg1) = m ((c.tc : Thread Cert.InCIdeal.nD Cert.InCIdeal.τ).loc Cert.InCIdeal.main_arg1)) →
    ∃ (v0 : (c : Dev Cert.InCIdeal.nD) → Buf (Elt Ideal) ((c.tc : Thread Cert.InCIdeal.nD Cert.InCIdeal.τ).loc Cert.InCIdeal.main_v0)),
      θ_run (Cert.InCIdeal.defs (F := Ideal)) (onTc (τ := Cert.InCIdeal.τ) (Cert.InCIdeal.main (F := Ideal))) ⟨m, fun _ => 0, g⟩ (fun r => ∀ c : Dev Cert.InCIdeal.nD,
          r.2.mem ((c.tc : Thread Cert.InCIdeal.nD Cert.InCIdeal.τ).loc Cert.InCIdeal.main_v0) = v0 c
          ∧ r.2.mem ((c.tc : Thread Cert.InCIdeal.nD Cert.InCIdeal.τ).loc Cert.InCIdeal.main_arg0) = m ((c.tc : Thread Cert.InCIdeal.nD Cert.InCIdeal.τ).loc Cert.InCIdeal.main_arg0)
          ∧ r.2.mem ((c.tc : Thread Cert.InCIdeal.nD Cert.InCIdeal.τ).loc Cert.InCIdeal.main_arg1) = m ((c.tc : Thread Cert.InCIdeal.nD Cert.InCIdeal.τ).loc Cert.InCIdeal.main_arg1))
      ∧ θ_run (Cert.InCReferenceIdeal.defs (F := Ideal)) (onTc (τ := Cert.InCReferenceIdeal.τ) (Cert.InCReferenceIdeal.main (F := Ideal))) ⟨m', fun _ => 0, g'⟩ (fun r => ∀ c : Dev Cert.InCReferenceIdeal.nD,
          r.2.mem ((c.tc : Thread Cert.InCReferenceIdeal.nD Cert.InCReferenceIdeal.τ).loc Cert.InCReferenceIdeal.main_v5) = v0 c
          ∧ r.2.mem ((c.tc : Thread Cert.InCReferenceIdeal.nD Cert.InCReferenceIdeal.τ).loc Cert.InCReferenceIdeal.main_arg0) = m' ((c.tc : Thread Cert.InCReferenceIdeal.nD Cert.InCReferenceIdeal.τ).loc Cert.InCReferenceIdeal.main_arg0)
          ∧ r.2.mem ((c.tc : Thread Cert.InCReferenceIdeal.nD Cert.InCReferenceIdeal.τ).loc Cert.InCReferenceIdeal.main_arg1) = m' ((c.tc : Thread Cert.InCReferenceIdeal.nD Cert.InCReferenceIdeal.τ).loc Cert.InCReferenceIdeal.main_arg1))

def preserves_OutC_OutCIdeal : Prop :=
  True

def algebraic_OutCIdeal_OutCReferenceIdeal [hOutCIdeal : Cert.OutCIdeal.Facts] [hOutCReferenceIdeal : Cert.OutCReferenceIdeal.Facts] : Prop :=
  ∀ (m : (ℓ : Loc Cert.OutCIdeal.nD Cert.OutCIdeal.τ Cert.OutCIdeal.sig) → Buf (Elt Ideal) ℓ) (g : Dev Cert.OutCIdeal.nD → PrngReg)
    (m' : (ℓ : Loc Cert.OutCReferenceIdeal.nD Cert.OutCReferenceIdeal.τ Cert.OutCReferenceIdeal.sig) → Buf (Elt Ideal) ℓ) (g' : Dev Cert.OutCReferenceIdeal.nD → PrngReg), Pre_OutCIdeal m →
    (∀ c : Dev Cert.OutCIdeal.nD,
      m' ((c.tc : Thread Cert.OutCReferenceIdeal.nD Cert.OutCReferenceIdeal.τ).loc Cert.OutCReferenceIdeal.main_arg0) = m ((c.tc : Thread Cert.OutCIdeal.nD Cert.OutCIdeal.τ).loc Cert.OutCIdeal.main_arg0)
      ∧ m' ((c.tc : Thread Cert.OutCReferenceIdeal.nD Cert.OutCReferenceIdeal.τ).loc Cert.OutCReferenceIdeal.main_arg1) = m ((c.tc : Thread Cert.OutCIdeal.nD Cert.OutCIdeal.τ).loc Cert.OutCIdeal.main_arg1)
      ∧ m' ((c.tc : Thread Cert.OutCReferenceIdeal.nD Cert.OutCReferenceIdeal.τ).loc Cert.OutCReferenceIdeal.main_arg2) = m ((c.tc : Thread Cert.OutCIdeal.nD Cert.OutCIdeal.τ).loc Cert.OutCIdeal.main_arg2)) →
    ∃ (v0 : (c : Dev Cert.OutCIdeal.nD) → Buf (Elt Ideal) ((c.tc : Thread Cert.OutCIdeal.nD Cert.OutCIdeal.τ).loc Cert.OutCIdeal.main_v0)),
      θ_run (Cert.OutCIdeal.defs (F := Ideal)) (onTc (τ := Cert.OutCIdeal.τ) (Cert.OutCIdeal.main (F := Ideal))) ⟨m, fun _ => 0, g⟩ (fun r => ∀ c : Dev Cert.OutCIdeal.nD,
          r.2.mem ((c.tc : Thread Cert.OutCIdeal.nD Cert.OutCIdeal.τ).loc Cert.OutCIdeal.main_v0) = v0 c
          ∧ r.2.mem ((c.tc : Thread Cert.OutCIdeal.nD Cert.OutCIdeal.τ).loc Cert.OutCIdeal.main_arg0) = m ((c.tc : Thread Cert.OutCIdeal.nD Cert.OutCIdeal.τ).loc Cert.OutCIdeal.main_arg0)
          ∧ r.2.mem ((c.tc : Thread Cert.OutCIdeal.nD Cert.OutCIdeal.τ).loc Cert.OutCIdeal.main_arg1) = m ((c.tc : Thread Cert.OutCIdeal.nD Cert.OutCIdeal.τ).loc Cert.OutCIdeal.main_arg1)
          ∧ r.2.mem ((c.tc : Thread Cert.OutCIdeal.nD Cert.OutCIdeal.τ).loc Cert.OutCIdeal.main_arg2) = m ((c.tc : Thread Cert.OutCIdeal.nD Cert.OutCIdeal.τ).loc Cert.OutCIdeal.main_arg2))
      ∧ θ_run (Cert.OutCReferenceIdeal.defs (F := Ideal)) (onTc (τ := Cert.OutCReferenceIdeal.τ) (Cert.OutCReferenceIdeal.main (F := Ideal))) ⟨m', fun _ => 0, g'⟩ (fun r => ∀ c : Dev Cert.OutCReferenceIdeal.nD,
          r.2.mem ((c.tc : Thread Cert.OutCReferenceIdeal.nD Cert.OutCReferenceIdeal.τ).loc Cert.OutCReferenceIdeal.main_v3) = v0 c
          ∧ r.2.mem ((c.tc : Thread Cert.OutCReferenceIdeal.nD Cert.OutCReferenceIdeal.τ).loc Cert.OutCReferenceIdeal.main_arg0) = m' ((c.tc : Thread Cert.OutCReferenceIdeal.nD Cert.OutCReferenceIdeal.τ).loc Cert.OutCReferenceIdeal.main_arg0)
          ∧ r.2.mem ((c.tc : Thread Cert.OutCReferenceIdeal.nD Cert.OutCReferenceIdeal.τ).loc Cert.OutCReferenceIdeal.main_arg1) = m' ((c.tc : Thread Cert.OutCReferenceIdeal.nD Cert.OutCReferenceIdeal.τ).loc Cert.OutCReferenceIdeal.main_arg1)
          ∧ r.2.mem ((c.tc : Thread Cert.OutCReferenceIdeal.nD Cert.OutCReferenceIdeal.τ).loc Cert.OutCReferenceIdeal.main_arg2) = m' ((c.tc : Thread Cert.OutCReferenceIdeal.nD Cert.OutCReferenceIdeal.τ).loc Cert.OutCReferenceIdeal.main_arg2))

def preserves_CrossQ_CrossQIdeal : Prop :=
  True

def algebraic_CrossQIdeal_CrossQReferenceIdeal [hCrossQIdeal : Cert.CrossQIdeal.Facts] [hCrossQReferenceIdeal : Cert.CrossQReferenceIdeal.Facts] : Prop :=
  ∀ (m : (ℓ : Loc Cert.CrossQIdeal.nD Cert.CrossQIdeal.τ Cert.CrossQIdeal.sig) → Buf (Elt Ideal) ℓ) (g : Dev Cert.CrossQIdeal.nD → PrngReg)
    (m' : (ℓ : Loc Cert.CrossQReferenceIdeal.nD Cert.CrossQReferenceIdeal.τ Cert.CrossQReferenceIdeal.sig) → Buf (Elt Ideal) ℓ) (g' : Dev Cert.CrossQReferenceIdeal.nD → PrngReg), Pre_CrossQIdeal m →
    (∀ c : Dev Cert.CrossQIdeal.nD,
      m' ((c.tc : Thread Cert.CrossQReferenceIdeal.nD Cert.CrossQReferenceIdeal.τ).loc Cert.CrossQReferenceIdeal.main_arg0) = m ((c.tc : Thread Cert.CrossQIdeal.nD Cert.CrossQIdeal.τ).loc Cert.CrossQIdeal.main_arg0)
      ∧ m' ((c.tc : Thread Cert.CrossQReferenceIdeal.nD Cert.CrossQReferenceIdeal.τ).loc Cert.CrossQReferenceIdeal.main_arg1) = m ((c.tc : Thread Cert.CrossQIdeal.nD Cert.CrossQIdeal.τ).loc Cert.CrossQIdeal.main_arg1)) →
    ∃ (v0 : (c : Dev Cert.CrossQIdeal.nD) → Buf (Elt Ideal) ((c.tc : Thread Cert.CrossQIdeal.nD Cert.CrossQIdeal.τ).loc Cert.CrossQIdeal.main_v0)),
      θ_run (Cert.CrossQIdeal.defs (F := Ideal)) (onTc (τ := Cert.CrossQIdeal.τ) (Cert.CrossQIdeal.main (F := Ideal))) ⟨m, fun _ => 0, g⟩ (fun r => ∀ c : Dev Cert.CrossQIdeal.nD,
          r.2.mem ((c.tc : Thread Cert.CrossQIdeal.nD Cert.CrossQIdeal.τ).loc Cert.CrossQIdeal.main_v0) = v0 c
          ∧ r.2.mem ((c.tc : Thread Cert.CrossQIdeal.nD Cert.CrossQIdeal.τ).loc Cert.CrossQIdeal.main_arg0) = m ((c.tc : Thread Cert.CrossQIdeal.nD Cert.CrossQIdeal.τ).loc Cert.CrossQIdeal.main_arg0)
          ∧ r.2.mem ((c.tc : Thread Cert.CrossQIdeal.nD Cert.CrossQIdeal.τ).loc Cert.CrossQIdeal.main_arg1) = m ((c.tc : Thread Cert.CrossQIdeal.nD Cert.CrossQIdeal.τ).loc Cert.CrossQIdeal.main_arg1))
      ∧ θ_run (Cert.CrossQReferenceIdeal.defs (F := Ideal)) (onTc (τ := Cert.CrossQReferenceIdeal.τ) (Cert.CrossQReferenceIdeal.main (F := Ideal))) ⟨m', fun _ => 0, g'⟩ (fun r => ∀ c : Dev Cert.CrossQReferenceIdeal.nD,
          r.2.mem ((c.tc : Thread Cert.CrossQReferenceIdeal.nD Cert.CrossQReferenceIdeal.τ).loc Cert.CrossQReferenceIdeal.main_v3) = v0 c
          ∧ r.2.mem ((c.tc : Thread Cert.CrossQReferenceIdeal.nD Cert.CrossQReferenceIdeal.τ).loc Cert.CrossQReferenceIdeal.main_arg0) = m' ((c.tc : Thread Cert.CrossQReferenceIdeal.nD Cert.CrossQReferenceIdeal.τ).loc Cert.CrossQReferenceIdeal.main_arg0)
          ∧ r.2.mem ((c.tc : Thread Cert.CrossQReferenceIdeal.nD Cert.CrossQReferenceIdeal.τ).loc Cert.CrossQReferenceIdeal.main_arg1) = m' ((c.tc : Thread Cert.CrossQReferenceIdeal.nD Cert.CrossQReferenceIdeal.τ).loc Cert.CrossQReferenceIdeal.main_arg1))

def preserves_CrossO_CrossOIdeal : Prop :=
  True

def algebraic_CrossOIdeal_CrossOReferenceIdeal [hCrossOIdeal : Cert.CrossOIdeal.Facts] [hCrossOReferenceIdeal : Cert.CrossOReferenceIdeal.Facts] : Prop :=
  ∀ (m : (ℓ : Loc Cert.CrossOIdeal.nD Cert.CrossOIdeal.τ Cert.CrossOIdeal.sig) → Buf (Elt Ideal) ℓ) (g : Dev Cert.CrossOIdeal.nD → PrngReg)
    (m' : (ℓ : Loc Cert.CrossOReferenceIdeal.nD Cert.CrossOReferenceIdeal.τ Cert.CrossOReferenceIdeal.sig) → Buf (Elt Ideal) ℓ) (g' : Dev Cert.CrossOReferenceIdeal.nD → PrngReg), Pre_CrossOIdeal m →
    (∀ c : Dev Cert.CrossOIdeal.nD,
      m' ((c.tc : Thread Cert.CrossOReferenceIdeal.nD Cert.CrossOReferenceIdeal.τ).loc Cert.CrossOReferenceIdeal.main_arg0) = m ((c.tc : Thread Cert.CrossOIdeal.nD Cert.CrossOIdeal.τ).loc Cert.CrossOIdeal.main_arg0)
      ∧ m' ((c.tc : Thread Cert.CrossOReferenceIdeal.nD Cert.CrossOReferenceIdeal.τ).loc Cert.CrossOReferenceIdeal.main_arg1) = m ((c.tc : Thread Cert.CrossOIdeal.nD Cert.CrossOIdeal.τ).loc Cert.CrossOIdeal.main_arg1)
      ∧ m' ((c.tc : Thread Cert.CrossOReferenceIdeal.nD Cert.CrossOReferenceIdeal.τ).loc Cert.CrossOReferenceIdeal.main_arg2) = m ((c.tc : Thread Cert.CrossOIdeal.nD Cert.CrossOIdeal.τ).loc Cert.CrossOIdeal.main_arg2)) →
    ∃ (v0 : (c : Dev Cert.CrossOIdeal.nD) → Buf (Elt Ideal) ((c.tc : Thread Cert.CrossOIdeal.nD Cert.CrossOIdeal.τ).loc Cert.CrossOIdeal.main_v0)),
      θ_run (Cert.CrossOIdeal.defs (F := Ideal)) (onTc (τ := Cert.CrossOIdeal.τ) (Cert.CrossOIdeal.main (F := Ideal))) ⟨m, fun _ => 0, g⟩ (fun r => ∀ c : Dev Cert.CrossOIdeal.nD,
          r.2.mem ((c.tc : Thread Cert.CrossOIdeal.nD Cert.CrossOIdeal.τ).loc Cert.CrossOIdeal.main_v0) = v0 c
          ∧ r.2.mem ((c.tc : Thread Cert.CrossOIdeal.nD Cert.CrossOIdeal.τ).loc Cert.CrossOIdeal.main_arg0) = m ((c.tc : Thread Cert.CrossOIdeal.nD Cert.CrossOIdeal.τ).loc Cert.CrossOIdeal.main_arg0)
          ∧ r.2.mem ((c.tc : Thread Cert.CrossOIdeal.nD Cert.CrossOIdeal.τ).loc Cert.CrossOIdeal.main_arg1) = m ((c.tc : Thread Cert.CrossOIdeal.nD Cert.CrossOIdeal.τ).loc Cert.CrossOIdeal.main_arg1)
          ∧ r.2.mem ((c.tc : Thread Cert.CrossOIdeal.nD Cert.CrossOIdeal.τ).loc Cert.CrossOIdeal.main_arg2) = m ((c.tc : Thread Cert.CrossOIdeal.nD Cert.CrossOIdeal.τ).loc Cert.CrossOIdeal.main_arg2))
      ∧ θ_run (Cert.CrossOReferenceIdeal.defs (F := Ideal)) (onTc (τ := Cert.CrossOReferenceIdeal.τ) (Cert.CrossOReferenceIdeal.main (F := Ideal))) ⟨m', fun _ => 0, g'⟩ (fun r => ∀ c : Dev Cert.CrossOReferenceIdeal.nD,
          r.2.mem ((c.tc : Thread Cert.CrossOReferenceIdeal.nD Cert.CrossOReferenceIdeal.τ).loc Cert.CrossOReferenceIdeal.main_v3) = v0 c
          ∧ r.2.mem ((c.tc : Thread Cert.CrossOReferenceIdeal.nD Cert.CrossOReferenceIdeal.τ).loc Cert.CrossOReferenceIdeal.main_arg0) = m' ((c.tc : Thread Cert.CrossOReferenceIdeal.nD Cert.CrossOReferenceIdeal.τ).loc Cert.CrossOReferenceIdeal.main_arg0)
          ∧ r.2.mem ((c.tc : Thread Cert.CrossOReferenceIdeal.nD Cert.CrossOReferenceIdeal.τ).loc Cert.CrossOReferenceIdeal.main_arg1) = m' ((c.tc : Thread Cert.CrossOReferenceIdeal.nD Cert.CrossOReferenceIdeal.τ).loc Cert.CrossOReferenceIdeal.main_arg1)
          ∧ r.2.mem ((c.tc : Thread Cert.CrossOReferenceIdeal.nD Cert.CrossOReferenceIdeal.τ).loc Cert.CrossOReferenceIdeal.main_arg2) = m' ((c.tc : Thread Cert.CrossOReferenceIdeal.nD Cert.CrossOReferenceIdeal.τ).loc Cert.CrossOReferenceIdeal.main_arg2))

def preserves_Cross_CrossIdeal : Prop :=
  True

def algebraic_CrossIdeal_CrossReferenceIdeal_pre_finite_cross [hCrossIdeal : Cert.CrossIdeal.Facts] [hCrossReferenceIdeal : Cert.CrossReferenceIdeal.Facts] [hPre_finite_cross : Cert.Pre_finite_cross.Facts] : Prop :=
  ∀ (m : (ℓ : Loc Cert.CrossIdeal.nD Cert.CrossIdeal.τ Cert.CrossIdeal.sig) → Buf (Elt Ideal) ℓ) (g : Dev Cert.CrossIdeal.nD → PrngReg)
    (m' : (ℓ : Loc Cert.CrossReferenceIdeal.nD Cert.CrossReferenceIdeal.τ Cert.CrossReferenceIdeal.sig) → Buf (Elt Ideal) ℓ) (g' : Dev Cert.CrossReferenceIdeal.nD → PrngReg), Pre_CrossIdeal_finite_cross m →
    (∀ c : Dev Cert.CrossIdeal.nD,
      m' ((c.tc : Thread Cert.CrossReferenceIdeal.nD Cert.CrossReferenceIdeal.τ).loc Cert.CrossReferenceIdeal.main_arg0) = m ((c.tc : Thread Cert.CrossIdeal.nD Cert.CrossIdeal.τ).loc Cert.CrossIdeal.main_arg0)
      ∧ m' ((c.tc : Thread Cert.CrossReferenceIdeal.nD Cert.CrossReferenceIdeal.τ).loc Cert.CrossReferenceIdeal.main_arg1) = m ((c.tc : Thread Cert.CrossIdeal.nD Cert.CrossIdeal.τ).loc Cert.CrossIdeal.main_arg1)
      ∧ m' ((c.tc : Thread Cert.CrossReferenceIdeal.nD Cert.CrossReferenceIdeal.τ).loc Cert.CrossReferenceIdeal.main_arg2) = m ((c.tc : Thread Cert.CrossIdeal.nD Cert.CrossIdeal.τ).loc Cert.CrossIdeal.main_arg2)) →
    ∃ (v0 : (c : Dev Cert.CrossIdeal.nD) → Buf (Elt Ideal) ((c.tc : Thread Cert.CrossIdeal.nD Cert.CrossIdeal.τ).loc Cert.CrossIdeal.main_v0_0)) (v1 : (c : Dev Cert.CrossIdeal.nD) → Buf (Elt Ideal) ((c.tc : Thread Cert.CrossIdeal.nD Cert.CrossIdeal.τ).loc Cert.CrossIdeal.main_v0_1)),
      θ_run (Cert.CrossIdeal.defs (F := Ideal)) (onTc (τ := Cert.CrossIdeal.τ) (Cert.CrossIdeal.main (F := Ideal))) ⟨m, fun _ => 0, g⟩ (fun r => ∀ c : Dev Cert.CrossIdeal.nD,
          r.2.mem ((c.tc : Thread Cert.CrossIdeal.nD Cert.CrossIdeal.τ).loc Cert.CrossIdeal.main_v0_0) = v0 c
          ∧ r.2.mem ((c.tc : Thread Cert.CrossIdeal.nD Cert.CrossIdeal.τ).loc Cert.CrossIdeal.main_v0_1) = v1 c
          ∧ r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
          ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
          ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2))
      ∧ θ_run (Cert.CrossReferenceIdeal.defs (F := Ideal)) (onTc (τ := Cert.CrossReferenceIdeal.τ) (Cert.CrossReferenceIdeal.main (F := Ideal))) ⟨m', fun _ => 0, g'⟩ (fun r => ∀ c : Dev Cert.CrossReferenceIdeal.nD,
          r.2.mem ((c.tc : Thread Cert.CrossReferenceIdeal.nD Cert.CrossReferenceIdeal.τ).loc Cert.CrossReferenceIdeal.main_v23) = v0 c
          ∧ r.2.mem ((c.tc : Thread Cert.CrossReferenceIdeal.nD Cert.CrossReferenceIdeal.τ).loc Cert.CrossReferenceIdeal.main_v32) = v1 c
          ∧ r.2.mem ((c.tc : Thread Cert.CrossReferenceIdeal.nD Cert.CrossReferenceIdeal.τ).loc Cert.CrossReferenceIdeal.main_arg0) = m' ((c.tc : Thread Cert.CrossReferenceIdeal.nD Cert.CrossReferenceIdeal.τ).loc Cert.CrossReferenceIdeal.main_arg0)
          ∧ r.2.mem ((c.tc : Thread Cert.CrossReferenceIdeal.nD Cert.CrossReferenceIdeal.τ).loc Cert.CrossReferenceIdeal.main_arg1) = m' ((c.tc : Thread Cert.CrossReferenceIdeal.nD Cert.CrossReferenceIdeal.τ).loc Cert.CrossReferenceIdeal.main_arg1)
          ∧ r.2.mem ((c.tc : Thread Cert.CrossReferenceIdeal.nD Cert.CrossReferenceIdeal.τ).loc Cert.CrossReferenceIdeal.main_arg2) = m' ((c.tc : Thread Cert.CrossReferenceIdeal.nD Cert.CrossReferenceIdeal.τ).loc Cert.CrossReferenceIdeal.main_arg2))

def preserves_CrossGrad_CrossGradIdeal : Prop :=
  True

def algebraic_CrossGradIdeal_CrossGradReferenceIdeal_pre_finite_cross_grad [hCrossGradIdeal : Cert.CrossGradIdeal.Facts] [hCrossGradReferenceIdeal : Cert.CrossGradReferenceIdeal.Facts] [hPre_finite_cross_grad : Cert.Pre_finite_cross_grad.Facts] : Prop :=
  ∀ (m : (ℓ : Loc Cert.CrossGradIdeal.nD Cert.CrossGradIdeal.τ Cert.CrossGradIdeal.sig) → Buf (Elt Ideal) ℓ) (g : Dev Cert.CrossGradIdeal.nD → PrngReg)
    (m' : (ℓ : Loc Cert.CrossGradReferenceIdeal.nD Cert.CrossGradReferenceIdeal.τ Cert.CrossGradReferenceIdeal.sig) → Buf (Elt Ideal) ℓ) (g' : Dev Cert.CrossGradReferenceIdeal.nD → PrngReg), Pre_CrossGradIdeal_finite_cross_grad m →
    (∀ c : Dev Cert.CrossGradIdeal.nD,
      m' ((c.tc : Thread Cert.CrossGradReferenceIdeal.nD Cert.CrossGradReferenceIdeal.τ).loc Cert.CrossGradReferenceIdeal.main_arg0) = m ((c.tc : Thread Cert.CrossGradIdeal.nD Cert.CrossGradIdeal.τ).loc Cert.CrossGradIdeal.main_arg0)
      ∧ m' ((c.tc : Thread Cert.CrossGradReferenceIdeal.nD Cert.CrossGradReferenceIdeal.τ).loc Cert.CrossGradReferenceIdeal.main_arg1) = m ((c.tc : Thread Cert.CrossGradIdeal.nD Cert.CrossGradIdeal.τ).loc Cert.CrossGradIdeal.main_arg1)
      ∧ m' ((c.tc : Thread Cert.CrossGradReferenceIdeal.nD Cert.CrossGradReferenceIdeal.τ).loc Cert.CrossGradReferenceIdeal.main_arg2) = m ((c.tc : Thread Cert.CrossGradIdeal.nD Cert.CrossGradIdeal.τ).loc Cert.CrossGradIdeal.main_arg2)
      ∧ m' ((c.tc : Thread Cert.CrossGradReferenceIdeal.nD Cert.CrossGradReferenceIdeal.τ).loc Cert.CrossGradReferenceIdeal.main_arg3) = m ((c.tc : Thread Cert.CrossGradIdeal.nD Cert.CrossGradIdeal.τ).loc Cert.CrossGradIdeal.main_arg3)) →
    ∃ (v0 : (c : Dev Cert.CrossGradIdeal.nD) → Buf (Elt Ideal) ((c.tc : Thread Cert.CrossGradIdeal.nD Cert.CrossGradIdeal.τ).loc Cert.CrossGradIdeal.main_v38_0)) (v1 : (c : Dev Cert.CrossGradIdeal.nD) → Buf (Elt Ideal) ((c.tc : Thread Cert.CrossGradIdeal.nD Cert.CrossGradIdeal.τ).loc Cert.CrossGradIdeal.main_v38_1)) (v2 : (c : Dev Cert.CrossGradIdeal.nD) → Buf (Elt Ideal) ((c.tc : Thread Cert.CrossGradIdeal.nD Cert.CrossGradIdeal.τ).loc Cert.CrossGradIdeal.main_v38_2)),
      θ_run (Cert.CrossGradIdeal.defs (F := Ideal)) (onTc (τ := Cert.CrossGradIdeal.τ) (Cert.CrossGradIdeal.main (F := Ideal))) ⟨m, fun _ => 0, g⟩ (fun r => ∀ c : Dev Cert.CrossGradIdeal.nD,
          r.2.mem ((c.tc : Thread Cert.CrossGradIdeal.nD Cert.CrossGradIdeal.τ).loc Cert.CrossGradIdeal.main_v38_0) = v0 c
          ∧ r.2.mem ((c.tc : Thread Cert.CrossGradIdeal.nD Cert.CrossGradIdeal.τ).loc Cert.CrossGradIdeal.main_v38_1) = v1 c
          ∧ r.2.mem ((c.tc : Thread Cert.CrossGradIdeal.nD Cert.CrossGradIdeal.τ).loc Cert.CrossGradIdeal.main_v38_2) = v2 c
          ∧ r.2.mem ((c.tc : Thread Cert.CrossGradIdeal.nD Cert.CrossGradIdeal.τ).loc Cert.CrossGradIdeal.main_arg0) = m ((c.tc : Thread Cert.CrossGradIdeal.nD Cert.CrossGradIdeal.τ).loc Cert.CrossGradIdeal.main_arg0)
          ∧ r.2.mem ((c.tc : Thread Cert.CrossGradIdeal.nD Cert.CrossGradIdeal.τ).loc Cert.CrossGradIdeal.main_arg1) = m ((c.tc : Thread Cert.CrossGradIdeal.nD Cert.CrossGradIdeal.τ).loc Cert.CrossGradIdeal.main_arg1)
          ∧ r.2.mem ((c.tc : Thread Cert.CrossGradIdeal.nD Cert.CrossGradIdeal.τ).loc Cert.CrossGradIdeal.main_arg2) = m ((c.tc : Thread Cert.CrossGradIdeal.nD Cert.CrossGradIdeal.τ).loc Cert.CrossGradIdeal.main_arg2)
          ∧ r.2.mem ((c.tc : Thread Cert.CrossGradIdeal.nD Cert.CrossGradIdeal.τ).loc Cert.CrossGradIdeal.main_arg3) = m ((c.tc : Thread Cert.CrossGradIdeal.nD Cert.CrossGradIdeal.τ).loc Cert.CrossGradIdeal.main_arg3))
      ∧ θ_run (Cert.CrossGradReferenceIdeal.defs (F := Ideal)) (onTc (τ := Cert.CrossGradReferenceIdeal.τ) (Cert.CrossGradReferenceIdeal.main (F := Ideal))) ⟨m', fun _ => 0, g'⟩ (fun r => ∀ c : Dev Cert.CrossGradReferenceIdeal.nD,
          r.2.mem ((c.tc : Thread Cert.CrossGradReferenceIdeal.nD Cert.CrossGradReferenceIdeal.τ).loc Cert.CrossGradReferenceIdeal.main_v67) = v0 c
          ∧ r.2.mem ((c.tc : Thread Cert.CrossGradReferenceIdeal.nD Cert.CrossGradReferenceIdeal.τ).loc Cert.CrossGradReferenceIdeal.main_v65) = v1 c
          ∧ r.2.mem ((c.tc : Thread Cert.CrossGradReferenceIdeal.nD Cert.CrossGradReferenceIdeal.τ).loc Cert.CrossGradReferenceIdeal.main_v46) = v2 c
          ∧ r.2.mem ((c.tc : Thread Cert.CrossGradReferenceIdeal.nD Cert.CrossGradReferenceIdeal.τ).loc Cert.CrossGradReferenceIdeal.main_arg0) = m' ((c.tc : Thread Cert.CrossGradReferenceIdeal.nD Cert.CrossGradReferenceIdeal.τ).loc Cert.CrossGradReferenceIdeal.main_arg0)
          ∧ r.2.mem ((c.tc : Thread Cert.CrossGradReferenceIdeal.nD Cert.CrossGradReferenceIdeal.τ).loc Cert.CrossGradReferenceIdeal.main_arg1) = m' ((c.tc : Thread Cert.CrossGradReferenceIdeal.nD Cert.CrossGradReferenceIdeal.τ).loc Cert.CrossGradReferenceIdeal.main_arg1)
          ∧ r.2.mem ((c.tc : Thread Cert.CrossGradReferenceIdeal.nD Cert.CrossGradReferenceIdeal.τ).loc Cert.CrossGradReferenceIdeal.main_arg2) = m' ((c.tc : Thread Cert.CrossGradReferenceIdeal.nD Cert.CrossGradReferenceIdeal.τ).loc Cert.CrossGradReferenceIdeal.main_arg2)
          ∧ r.2.mem ((c.tc : Thread Cert.CrossGradReferenceIdeal.nD Cert.CrossGradReferenceIdeal.τ).loc Cert.CrossGradReferenceIdeal.main_arg3) = m' ((c.tc : Thread Cert.CrossGradReferenceIdeal.nD Cert.CrossGradReferenceIdeal.τ).loc Cert.CrossGradReferenceIdeal.main_arg3))

def preserves_MemKeys_MemKeysIdeal : Prop :=
  True

def algebraic_MemKeysIdeal_MemKeysReferenceIdeal [hMemKeysIdeal : Cert.MemKeysIdeal.Facts] [hMemKeysReferenceIdeal : Cert.MemKeysReferenceIdeal.Facts] : Prop :=
  ∀ (m : (ℓ : Loc Cert.MemKeysIdeal.nD Cert.MemKeysIdeal.τ Cert.MemKeysIdeal.sig) → Buf (Elt Ideal) ℓ) (g : Dev Cert.MemKeysIdeal.nD → PrngReg)
    (m' : (ℓ : Loc Cert.MemKeysReferenceIdeal.nD Cert.MemKeysReferenceIdeal.τ Cert.MemKeysReferenceIdeal.sig) → Buf (Elt Ideal) ℓ) (g' : Dev Cert.MemKeysReferenceIdeal.nD → PrngReg), Pre_MemKeysIdeal m →
    (∀ c : Dev Cert.MemKeysIdeal.nD,
      m' ((c.tc : Thread Cert.MemKeysReferenceIdeal.nD Cert.MemKeysReferenceIdeal.τ).loc Cert.MemKeysReferenceIdeal.main_arg0) = m ((c.tc : Thread Cert.MemKeysIdeal.nD Cert.MemKeysIdeal.τ).loc Cert.MemKeysIdeal.main_arg0)
      ∧ m' ((c.tc : Thread Cert.MemKeysReferenceIdeal.nD Cert.MemKeysReferenceIdeal.τ).loc Cert.MemKeysReferenceIdeal.main_arg1) = m ((c.tc : Thread Cert.MemKeysIdeal.nD Cert.MemKeysIdeal.τ).loc Cert.MemKeysIdeal.main_arg1)) →
    ∃ (v0 : (c : Dev Cert.MemKeysIdeal.nD) → Buf (Elt Ideal) ((c.tc : Thread Cert.MemKeysIdeal.nD Cert.MemKeysIdeal.τ).loc Cert.MemKeysIdeal.main_v0)),
      θ_run (Cert.MemKeysIdeal.defs (F := Ideal)) (onTc (τ := Cert.MemKeysIdeal.τ) (Cert.MemKeysIdeal.main (F := Ideal))) ⟨m, fun _ => 0, g⟩ (fun r => ∀ c : Dev Cert.MemKeysIdeal.nD,
          r.2.mem ((c.tc : Thread Cert.MemKeysIdeal.nD Cert.MemKeysIdeal.τ).loc Cert.MemKeysIdeal.main_v0) = v0 c
          ∧ r.2.mem ((c.tc : Thread Cert.MemKeysIdeal.nD Cert.MemKeysIdeal.τ).loc Cert.MemKeysIdeal.main_arg0) = m ((c.tc : Thread Cert.MemKeysIdeal.nD Cert.MemKeysIdeal.τ).loc Cert.MemKeysIdeal.main_arg0)
          ∧ r.2.mem ((c.tc : Thread Cert.MemKeysIdeal.nD Cert.MemKeysIdeal.τ).loc Cert.MemKeysIdeal.main_arg1) = m ((c.tc : Thread Cert.MemKeysIdeal.nD Cert.MemKeysIdeal.τ).loc Cert.MemKeysIdeal.main_arg1))
      ∧ θ_run (Cert.MemKeysReferenceIdeal.defs (F := Ideal)) (onTc (τ := Cert.MemKeysReferenceIdeal.τ) (Cert.MemKeysReferenceIdeal.main (F := Ideal))) ⟨m', fun _ => 0, g'⟩ (fun r => ∀ c : Dev Cert.MemKeysReferenceIdeal.nD,
          r.2.mem ((c.tc : Thread Cert.MemKeysReferenceIdeal.nD Cert.MemKeysReferenceIdeal.τ).loc Cert.MemKeysReferenceIdeal.main_v3) = v0 c
          ∧ r.2.mem ((c.tc : Thread Cert.MemKeysReferenceIdeal.nD Cert.MemKeysReferenceIdeal.τ).loc Cert.MemKeysReferenceIdeal.main_arg0) = m' ((c.tc : Thread Cert.MemKeysReferenceIdeal.nD Cert.MemKeysReferenceIdeal.τ).loc Cert.MemKeysReferenceIdeal.main_arg0)
          ∧ r.2.mem ((c.tc : Thread Cert.MemKeysReferenceIdeal.nD Cert.MemKeysReferenceIdeal.τ).loc Cert.MemKeysReferenceIdeal.main_arg1) = m' ((c.tc : Thread Cert.MemKeysReferenceIdeal.nD Cert.MemKeysReferenceIdeal.τ).loc Cert.MemKeysReferenceIdeal.main_arg1))

def preserves_MemArg_MemArgIdeal : Prop :=
  True

def algebraic_MemArgIdeal_MemArgReferenceIdeal [hMemArgIdeal : Cert.MemArgIdeal.Facts] [hMemArgReferenceIdeal : Cert.MemArgReferenceIdeal.Facts] : Prop :=
  ∀ (m : (ℓ : Loc Cert.MemArgIdeal.nD Cert.MemArgIdeal.τ Cert.MemArgIdeal.sig) → Buf (Elt Ideal) ℓ) (g : Dev Cert.MemArgIdeal.nD → PrngReg)
    (m' : (ℓ : Loc Cert.MemArgReferenceIdeal.nD Cert.MemArgReferenceIdeal.τ Cert.MemArgReferenceIdeal.sig) → Buf (Elt Ideal) ℓ) (g' : Dev Cert.MemArgReferenceIdeal.nD → PrngReg), Pre_MemArgIdeal m →
    (∀ c : Dev Cert.MemArgIdeal.nD,
      m' ((c.tc : Thread Cert.MemArgReferenceIdeal.nD Cert.MemArgReferenceIdeal.τ).loc Cert.MemArgReferenceIdeal.main_arg0) = m ((c.tc : Thread Cert.MemArgIdeal.nD Cert.MemArgIdeal.τ).loc Cert.MemArgIdeal.main_arg0)
      ∧ m' ((c.tc : Thread Cert.MemArgReferenceIdeal.nD Cert.MemArgReferenceIdeal.τ).loc Cert.MemArgReferenceIdeal.main_arg1) = m ((c.tc : Thread Cert.MemArgIdeal.nD Cert.MemArgIdeal.τ).loc Cert.MemArgIdeal.main_arg1)) →
    ∃ (v0 : (c : Dev Cert.MemArgIdeal.nD) → Buf (Elt Ideal) ((c.tc : Thread Cert.MemArgIdeal.nD Cert.MemArgIdeal.τ).loc Cert.MemArgIdeal.main_v0)),
      θ_run (Cert.MemArgIdeal.defs (F := Ideal)) (onTc (τ := Cert.MemArgIdeal.τ) (Cert.MemArgIdeal.main (F := Ideal))) ⟨m, fun _ => 0, g⟩ (fun r => ∀ c : Dev Cert.MemArgIdeal.nD,
          r.2.mem ((c.tc : Thread Cert.MemArgIdeal.nD Cert.MemArgIdeal.τ).loc Cert.MemArgIdeal.main_v0) = v0 c
          ∧ r.2.mem ((c.tc : Thread Cert.MemArgIdeal.nD Cert.MemArgIdeal.τ).loc Cert.MemArgIdeal.main_arg0) = m ((c.tc : Thread Cert.MemArgIdeal.nD Cert.MemArgIdeal.τ).loc Cert.MemArgIdeal.main_arg0)
          ∧ r.2.mem ((c.tc : Thread Cert.MemArgIdeal.nD Cert.MemArgIdeal.τ).loc Cert.MemArgIdeal.main_arg1) = m ((c.tc : Thread Cert.MemArgIdeal.nD Cert.MemArgIdeal.τ).loc Cert.MemArgIdeal.main_arg1))
      ∧ θ_run (Cert.MemArgReferenceIdeal.defs (F := Ideal)) (onTc (τ := Cert.MemArgReferenceIdeal.τ) (Cert.MemArgReferenceIdeal.main (F := Ideal))) ⟨m', fun _ => 0, g'⟩ (fun r => ∀ c : Dev Cert.MemArgReferenceIdeal.nD,
          r.2.mem ((c.tc : Thread Cert.MemArgReferenceIdeal.nD Cert.MemArgReferenceIdeal.τ).loc Cert.MemArgReferenceIdeal.main_v3) = v0 c
          ∧ r.2.mem ((c.tc : Thread Cert.MemArgReferenceIdeal.nD Cert.MemArgReferenceIdeal.τ).loc Cert.MemArgReferenceIdeal.main_arg0) = m' ((c.tc : Thread Cert.MemArgReferenceIdeal.nD Cert.MemArgReferenceIdeal.τ).loc Cert.MemArgReferenceIdeal.main_arg0)
          ∧ r.2.mem ((c.tc : Thread Cert.MemArgReferenceIdeal.nD Cert.MemArgReferenceIdeal.τ).loc Cert.MemArgReferenceIdeal.main_arg1) = m' ((c.tc : Thread Cert.MemArgReferenceIdeal.nD Cert.MemArgReferenceIdeal.τ).loc Cert.MemArgReferenceIdeal.main_arg1))

def preserves_MemWeights_MemWeightsIdeal : Prop :=
  True

def algebraic_MemWeightsIdeal_MemWeightsReferenceIdeal [hMemWeightsIdeal : Cert.MemWeightsIdeal.Facts] [hMemWeightsReferenceIdeal : Cert.MemWeightsReferenceIdeal.Facts] : Prop :=
  ∀ (m : (ℓ : Loc Cert.MemWeightsIdeal.nD Cert.MemWeightsIdeal.τ Cert.MemWeightsIdeal.sig) → Buf (Elt Ideal) ℓ) (g : Dev Cert.MemWeightsIdeal.nD → PrngReg)
    (m' : (ℓ : Loc Cert.MemWeightsReferenceIdeal.nD Cert.MemWeightsReferenceIdeal.τ Cert.MemWeightsReferenceIdeal.sig) → Buf (Elt Ideal) ℓ) (g' : Dev Cert.MemWeightsReferenceIdeal.nD → PrngReg), Pre_MemWeightsIdeal m →
    (∀ c : Dev Cert.MemWeightsIdeal.nD,
      m' ((c.tc : Thread Cert.MemWeightsReferenceIdeal.nD Cert.MemWeightsReferenceIdeal.τ).loc Cert.MemWeightsReferenceIdeal.main_arg0) = m ((c.tc : Thread Cert.MemWeightsIdeal.nD Cert.MemWeightsIdeal.τ).loc Cert.MemWeightsIdeal.main_arg0)
      ∧ m' ((c.tc : Thread Cert.MemWeightsReferenceIdeal.nD Cert.MemWeightsReferenceIdeal.τ).loc Cert.MemWeightsReferenceIdeal.main_arg1) = m ((c.tc : Thread Cert.MemWeightsIdeal.nD Cert.MemWeightsIdeal.τ).loc Cert.MemWeightsIdeal.main_arg1)) →
    ∃ (v0 : (c : Dev Cert.MemWeightsIdeal.nD) → Buf (Elt Ideal) ((c.tc : Thread Cert.MemWeightsIdeal.nD Cert.MemWeightsIdeal.τ).loc Cert.MemWeightsIdeal.main_v0)),
      θ_run (Cert.MemWeightsIdeal.defs (F := Ideal)) (onTc (τ := Cert.MemWeightsIdeal.τ) (Cert.MemWeightsIdeal.main (F := Ideal))) ⟨m, fun _ => 0, g⟩ (fun r => ∀ c : Dev Cert.MemWeightsIdeal.nD,
          r.2.mem ((c.tc : Thread Cert.MemWeightsIdeal.nD Cert.MemWeightsIdeal.τ).loc Cert.MemWeightsIdeal.main_v0) = v0 c
          ∧ r.2.mem ((c.tc : Thread Cert.MemWeightsIdeal.nD Cert.MemWeightsIdeal.τ).loc Cert.MemWeightsIdeal.main_arg0) = m ((c.tc : Thread Cert.MemWeightsIdeal.nD Cert.MemWeightsIdeal.τ).loc Cert.MemWeightsIdeal.main_arg0)
          ∧ r.2.mem ((c.tc : Thread Cert.MemWeightsIdeal.nD Cert.MemWeightsIdeal.τ).loc Cert.MemWeightsIdeal.main_arg1) = m ((c.tc : Thread Cert.MemWeightsIdeal.nD Cert.MemWeightsIdeal.τ).loc Cert.MemWeightsIdeal.main_arg1))
      ∧ θ_run (Cert.MemWeightsReferenceIdeal.defs (F := Ideal)) (onTc (τ := Cert.MemWeightsReferenceIdeal.τ) (Cert.MemWeightsReferenceIdeal.main (F := Ideal))) ⟨m', fun _ => 0, g'⟩ (fun r => ∀ c : Dev Cert.MemWeightsReferenceIdeal.nD,
          r.2.mem ((c.tc : Thread Cert.MemWeightsReferenceIdeal.nD Cert.MemWeightsReferenceIdeal.τ).loc Cert.MemWeightsReferenceIdeal.main_v5) = v0 c
          ∧ r.2.mem ((c.tc : Thread Cert.MemWeightsReferenceIdeal.nD Cert.MemWeightsReferenceIdeal.τ).loc Cert.MemWeightsReferenceIdeal.main_arg0) = m' ((c.tc : Thread Cert.MemWeightsReferenceIdeal.nD Cert.MemWeightsReferenceIdeal.τ).loc Cert.MemWeightsReferenceIdeal.main_arg0)
          ∧ r.2.mem ((c.tc : Thread Cert.MemWeightsReferenceIdeal.nD Cert.MemWeightsReferenceIdeal.τ).loc Cert.MemWeightsReferenceIdeal.main_arg1) = m' ((c.tc : Thread Cert.MemWeightsReferenceIdeal.nD Cert.MemWeightsReferenceIdeal.τ).loc Cert.MemWeightsReferenceIdeal.main_arg1))

def preserves_Norm_NormIdeal : Prop :=
  True

def algebraic_NormIdeal_NormReferenceIdeal [hNormIdeal : Cert.NormIdeal.Facts] [hNormReferenceIdeal : Cert.NormReferenceIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormIdeal m →
    (∀ c : Dev Cert.NormIdeal.nD,
      m' ((c.tc : Thread Cert.NormReferenceIdeal.nD Cert.NormReferenceIdeal.τ).loc Cert.NormReferenceIdeal.main_arg0) = m ((c.tc : Thread Cert.NormIdeal.nD Cert.NormIdeal.τ).loc Cert.NormIdeal.main_arg0)
      ∧ m' ((c.tc : Thread Cert.NormReferenceIdeal.nD Cert.NormReferenceIdeal.τ).loc Cert.NormReferenceIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v13) = v0 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1))

def preserves_MemNorm_MemNormIdeal : Prop :=
  True

def algebraic_MemNormIdeal_MemNormReferenceIdeal [hMemNormIdeal : Cert.MemNormIdeal.Facts] [hMemNormReferenceIdeal : Cert.MemNormReferenceIdeal.Facts] : Prop :=
  ∀ (m : (ℓ : Loc Cert.MemNormIdeal.nD Cert.MemNormIdeal.τ Cert.MemNormIdeal.sig) → Buf (Elt Ideal) ℓ) (g : Dev Cert.MemNormIdeal.nD → PrngReg)
    (m' : (ℓ : Loc Cert.MemNormReferenceIdeal.nD Cert.MemNormReferenceIdeal.τ Cert.MemNormReferenceIdeal.sig) → Buf (Elt Ideal) ℓ) (g' : Dev Cert.MemNormReferenceIdeal.nD → PrngReg), Pre_MemNormIdeal m →
    (∀ c : Dev Cert.MemNormIdeal.nD,
      m' ((c.tc : Thread Cert.MemNormReferenceIdeal.nD Cert.MemNormReferenceIdeal.τ).loc Cert.MemNormReferenceIdeal.main_arg0) = m ((c.tc : Thread Cert.MemNormIdeal.nD Cert.MemNormIdeal.τ).loc Cert.MemNormIdeal.main_arg0)
      ∧ m' ((c.tc : Thread Cert.MemNormReferenceIdeal.nD Cert.MemNormReferenceIdeal.τ).loc Cert.MemNormReferenceIdeal.main_arg1) = m ((c.tc : Thread Cert.MemNormIdeal.nD Cert.MemNormIdeal.τ).loc Cert.MemNormIdeal.main_arg1)) →
    ∃ (v0 : (c : Dev Cert.MemNormIdeal.nD) → Buf (Elt Ideal) ((c.tc : Thread Cert.MemNormIdeal.nD Cert.MemNormIdeal.τ).loc Cert.MemNormIdeal.main_v1)),
      θ_run (Cert.MemNormIdeal.defs (F := Ideal)) (onTc (τ := Cert.MemNormIdeal.τ) (Cert.MemNormIdeal.main (F := Ideal))) ⟨m, fun _ => 0, g⟩ (fun r => ∀ c : Dev Cert.MemNormIdeal.nD,
          r.2.mem ((c.tc : Thread Cert.MemNormIdeal.nD Cert.MemNormIdeal.τ).loc Cert.MemNormIdeal.main_v1) = v0 c
          ∧ r.2.mem ((c.tc : Thread Cert.MemNormIdeal.nD Cert.MemNormIdeal.τ).loc Cert.MemNormIdeal.main_arg0) = m ((c.tc : Thread Cert.MemNormIdeal.nD Cert.MemNormIdeal.τ).loc Cert.MemNormIdeal.main_arg0)
          ∧ r.2.mem ((c.tc : Thread Cert.MemNormIdeal.nD Cert.MemNormIdeal.τ).loc Cert.MemNormIdeal.main_arg1) = m ((c.tc : Thread Cert.MemNormIdeal.nD Cert.MemNormIdeal.τ).loc Cert.MemNormIdeal.main_arg1))
      ∧ θ_run (Cert.MemNormReferenceIdeal.defs (F := Ideal)) (onTc (τ := Cert.MemNormReferenceIdeal.τ) (Cert.MemNormReferenceIdeal.main (F := Ideal))) ⟨m', fun _ => 0, g'⟩ (fun r => ∀ c : Dev Cert.MemNormReferenceIdeal.nD,
          r.2.mem ((c.tc : Thread Cert.MemNormReferenceIdeal.nD Cert.MemNormReferenceIdeal.τ).loc Cert.MemNormReferenceIdeal.main_v13) = v0 c
          ∧ r.2.mem ((c.tc : Thread Cert.MemNormReferenceIdeal.nD Cert.MemNormReferenceIdeal.τ).loc Cert.MemNormReferenceIdeal.main_arg0) = m' ((c.tc : Thread Cert.MemNormReferenceIdeal.nD Cert.MemNormReferenceIdeal.τ).loc Cert.MemNormReferenceIdeal.main_arg0)
          ∧ r.2.mem ((c.tc : Thread Cert.MemNormReferenceIdeal.nD Cert.MemNormReferenceIdeal.τ).loc Cert.MemNormReferenceIdeal.main_arg1) = m' ((c.tc : Thread Cert.MemNormReferenceIdeal.nD Cert.MemNormReferenceIdeal.τ).loc Cert.MemNormReferenceIdeal.main_arg1))

def preserves_NormGrad_NormGradIdeal : Prop :=
  True

def algebraic_NormGradIdeal_NormGradReferenceIdeal [hNormGradIdeal : Cert.NormGradIdeal.Facts] [hNormGradReferenceIdeal : Cert.NormGradReferenceIdeal.Facts] : Prop :=
  ∀ (m : (ℓ : Loc Cert.NormGradIdeal.nD Cert.NormGradIdeal.τ Cert.NormGradIdeal.sig) → Buf (Elt Ideal) ℓ) (g : Dev Cert.NormGradIdeal.nD → PrngReg)
    (m' : (ℓ : Loc Cert.NormGradReferenceIdeal.nD Cert.NormGradReferenceIdeal.τ Cert.NormGradReferenceIdeal.sig) → Buf (Elt Ideal) ℓ) (g' : Dev Cert.NormGradReferenceIdeal.nD → PrngReg), Pre_NormGradIdeal m →
    (∀ c : Dev Cert.NormGradIdeal.nD,
      m' ((c.tc : Thread Cert.NormGradReferenceIdeal.nD Cert.NormGradReferenceIdeal.τ).loc Cert.NormGradReferenceIdeal.main_arg0) = m ((c.tc : Thread Cert.NormGradIdeal.nD Cert.NormGradIdeal.τ).loc Cert.NormGradIdeal.main_arg0)
      ∧ m' ((c.tc : Thread Cert.NormGradReferenceIdeal.nD Cert.NormGradReferenceIdeal.τ).loc Cert.NormGradReferenceIdeal.main_arg1) = m ((c.tc : Thread Cert.NormGradIdeal.nD Cert.NormGradIdeal.τ).loc Cert.NormGradIdeal.main_arg1)
      ∧ m' ((c.tc : Thread Cert.NormGradReferenceIdeal.nD Cert.NormGradReferenceIdeal.τ).loc Cert.NormGradReferenceIdeal.main_arg2) = m ((c.tc : Thread Cert.NormGradIdeal.nD Cert.NormGradIdeal.τ).loc Cert.NormGradIdeal.main_arg2)
      ∧ m' ((c.tc : Thread Cert.NormGradReferenceIdeal.nD Cert.NormGradReferenceIdeal.τ).loc Cert.NormGradReferenceIdeal.main_arg3) = m ((c.tc : Thread Cert.NormGradIdeal.nD Cert.NormGradIdeal.τ).loc Cert.NormGradIdeal.main_arg3)) →
    ∃ (v0 : (c : Dev Cert.NormGradIdeal.nD) → Buf (Elt Ideal) ((c.tc : Thread Cert.NormGradIdeal.nD Cert.NormGradIdeal.τ).loc Cert.NormGradIdeal.main_v1_0)) (v1 : (c : Dev Cert.NormGradIdeal.nD) → Buf (Elt Ideal) ((c.tc : Thread Cert.NormGradIdeal.nD Cert.NormGradIdeal.τ).loc Cert.NormGradIdeal.main_v1_1)) (v2 : (c : Dev Cert.NormGradIdeal.nD) → Buf (Elt Ideal) ((c.tc : Thread Cert.NormGradIdeal.nD Cert.NormGradIdeal.τ).loc Cert.NormGradIdeal.main_v1_2)),
      θ_run (Cert.NormGradIdeal.defs (F := Ideal)) (onTc (τ := Cert.NormGradIdeal.τ) (Cert.NormGradIdeal.main (F := Ideal))) ⟨m, fun _ => 0, g⟩ (fun r => ∀ c : Dev Cert.NormGradIdeal.nD,
          r.2.mem ((c.tc : Thread Cert.NormGradIdeal.nD Cert.NormGradIdeal.τ).loc Cert.NormGradIdeal.main_v1_0) = v0 c
          ∧ r.2.mem ((c.tc : Thread Cert.NormGradIdeal.nD Cert.NormGradIdeal.τ).loc Cert.NormGradIdeal.main_v1_1) = v1 c
          ∧ r.2.mem ((c.tc : Thread Cert.NormGradIdeal.nD Cert.NormGradIdeal.τ).loc Cert.NormGradIdeal.main_v1_2) = v2 c
          ∧ r.2.mem ((c.tc : Thread Cert.NormGradIdeal.nD Cert.NormGradIdeal.τ).loc Cert.NormGradIdeal.main_arg0) = m ((c.tc : Thread Cert.NormGradIdeal.nD Cert.NormGradIdeal.τ).loc Cert.NormGradIdeal.main_arg0)
          ∧ r.2.mem ((c.tc : Thread Cert.NormGradIdeal.nD Cert.NormGradIdeal.τ).loc Cert.NormGradIdeal.main_arg1) = m ((c.tc : Thread Cert.NormGradIdeal.nD Cert.NormGradIdeal.τ).loc Cert.NormGradIdeal.main_arg1)
          ∧ r.2.mem ((c.tc : Thread Cert.NormGradIdeal.nD Cert.NormGradIdeal.τ).loc Cert.NormGradIdeal.main_arg2) = m ((c.tc : Thread Cert.NormGradIdeal.nD Cert.NormGradIdeal.τ).loc Cert.NormGradIdeal.main_arg2)
          ∧ r.2.mem ((c.tc : Thread Cert.NormGradIdeal.nD Cert.NormGradIdeal.τ).loc Cert.NormGradIdeal.main_arg3) = m ((c.tc : Thread Cert.NormGradIdeal.nD Cert.NormGradIdeal.τ).loc Cert.NormGradIdeal.main_arg3))
      ∧ θ_run (Cert.NormGradReferenceIdeal.defs (F := Ideal)) (onTc (τ := Cert.NormGradReferenceIdeal.τ) (Cert.NormGradReferenceIdeal.main (F := Ideal))) ⟨m', fun _ => 0, g'⟩ (fun r => ∀ c : Dev Cert.NormGradReferenceIdeal.nD,
          r.2.mem ((c.tc : Thread Cert.NormGradReferenceIdeal.nD Cert.NormGradReferenceIdeal.τ).loc Cert.NormGradReferenceIdeal.main_v37) = v0 c
          ∧ r.2.mem ((c.tc : Thread Cert.NormGradReferenceIdeal.nD Cert.NormGradReferenceIdeal.τ).loc Cert.NormGradReferenceIdeal.main_v39) = v1 c
          ∧ r.2.mem ((c.tc : Thread Cert.NormGradReferenceIdeal.nD Cert.NormGradReferenceIdeal.τ).loc Cert.NormGradReferenceIdeal.main_v40) = v2 c
          ∧ r.2.mem ((c.tc : Thread Cert.NormGradReferenceIdeal.nD Cert.NormGradReferenceIdeal.τ).loc Cert.NormGradReferenceIdeal.main_arg0) = m' ((c.tc : Thread Cert.NormGradReferenceIdeal.nD Cert.NormGradReferenceIdeal.τ).loc Cert.NormGradReferenceIdeal.main_arg0)
          ∧ r.2.mem ((c.tc : Thread Cert.NormGradReferenceIdeal.nD Cert.NormGradReferenceIdeal.τ).loc Cert.NormGradReferenceIdeal.main_arg1) = m' ((c.tc : Thread Cert.NormGradReferenceIdeal.nD Cert.NormGradReferenceIdeal.τ).loc Cert.NormGradReferenceIdeal.main_arg1)
          ∧ r.2.mem ((c.tc : Thread Cert.NormGradReferenceIdeal.nD Cert.NormGradReferenceIdeal.τ).loc Cert.NormGradReferenceIdeal.main_arg2) = m' ((c.tc : Thread Cert.NormGradReferenceIdeal.nD Cert.NormGradReferenceIdeal.τ).loc Cert.NormGradReferenceIdeal.main_arg2)
          ∧ r.2.mem ((c.tc : Thread Cert.NormGradReferenceIdeal.nD Cert.NormGradReferenceIdeal.τ).loc Cert.NormGradReferenceIdeal.main_arg3) = m' ((c.tc : Thread Cert.NormGradReferenceIdeal.nD Cert.NormGradReferenceIdeal.τ).loc Cert.NormGradReferenceIdeal.main_arg3))

def preserves_MemNormGrad_MemNormGradIdeal : Prop :=
  True

def algebraic_MemNormGradIdeal_MemNormGradReferenceIdeal [hMemNormGradIdeal : Cert.MemNormGradIdeal.Facts] [hMemNormGradReferenceIdeal : Cert.MemNormGradReferenceIdeal.Facts] : Prop :=
  ∀ (m : (ℓ : Loc Cert.MemNormGradIdeal.nD Cert.MemNormGradIdeal.τ Cert.MemNormGradIdeal.sig) → Buf (Elt Ideal) ℓ) (g : Dev Cert.MemNormGradIdeal.nD → PrngReg)
    (m' : (ℓ : Loc Cert.MemNormGradReferenceIdeal.nD Cert.MemNormGradReferenceIdeal.τ Cert.MemNormGradReferenceIdeal.sig) → Buf (Elt Ideal) ℓ) (g' : Dev Cert.MemNormGradReferenceIdeal.nD → PrngReg), Pre_MemNormGradIdeal m →
    (∀ c : Dev Cert.MemNormGradIdeal.nD,
      m' ((c.tc : Thread Cert.MemNormGradReferenceIdeal.nD Cert.MemNormGradReferenceIdeal.τ).loc Cert.MemNormGradReferenceIdeal.main_arg0) = m ((c.tc : Thread Cert.MemNormGradIdeal.nD Cert.MemNormGradIdeal.τ).loc Cert.MemNormGradIdeal.main_arg0)
      ∧ m' ((c.tc : Thread Cert.MemNormGradReferenceIdeal.nD Cert.MemNormGradReferenceIdeal.τ).loc Cert.MemNormGradReferenceIdeal.main_arg1) = m ((c.tc : Thread Cert.MemNormGradIdeal.nD Cert.MemNormGradIdeal.τ).loc Cert.MemNormGradIdeal.main_arg1)
      ∧ m' ((c.tc : Thread Cert.MemNormGradReferenceIdeal.nD Cert.MemNormGradReferenceIdeal.τ).loc Cert.MemNormGradReferenceIdeal.main_arg2) = m ((c.tc : Thread Cert.MemNormGradIdeal.nD Cert.MemNormGradIdeal.τ).loc Cert.MemNormGradIdeal.main_arg2)
      ∧ m' ((c.tc : Thread Cert.MemNormGradReferenceIdeal.nD Cert.MemNormGradReferenceIdeal.τ).loc Cert.MemNormGradReferenceIdeal.main_arg3) = m ((c.tc : Thread Cert.MemNormGradIdeal.nD Cert.MemNormGradIdeal.τ).loc Cert.MemNormGradIdeal.main_arg3)) →
    ∃ (v0 : (c : Dev Cert.MemNormGradIdeal.nD) → Buf (Elt Ideal) ((c.tc : Thread Cert.MemNormGradIdeal.nD Cert.MemNormGradIdeal.τ).loc Cert.MemNormGradIdeal.main_v1_0)) (v1 : (c : Dev Cert.MemNormGradIdeal.nD) → Buf (Elt Ideal) ((c.tc : Thread Cert.MemNormGradIdeal.nD Cert.MemNormGradIdeal.τ).loc Cert.MemNormGradIdeal.main_v1_1)) (v2 : (c : Dev Cert.MemNormGradIdeal.nD) → Buf (Elt Ideal) ((c.tc : Thread Cert.MemNormGradIdeal.nD Cert.MemNormGradIdeal.τ).loc Cert.MemNormGradIdeal.main_v1_2)),
      θ_run (Cert.MemNormGradIdeal.defs (F := Ideal)) (onTc (τ := Cert.MemNormGradIdeal.τ) (Cert.MemNormGradIdeal.main (F := Ideal))) ⟨m, fun _ => 0, g⟩ (fun r => ∀ c : Dev Cert.MemNormGradIdeal.nD,
          r.2.mem ((c.tc : Thread Cert.MemNormGradIdeal.nD Cert.MemNormGradIdeal.τ).loc Cert.MemNormGradIdeal.main_v1_0) = v0 c
          ∧ r.2.mem ((c.tc : Thread Cert.MemNormGradIdeal.nD Cert.MemNormGradIdeal.τ).loc Cert.MemNormGradIdeal.main_v1_1) = v1 c
          ∧ r.2.mem ((c.tc : Thread Cert.MemNormGradIdeal.nD Cert.MemNormGradIdeal.τ).loc Cert.MemNormGradIdeal.main_v1_2) = v2 c
          ∧ r.2.mem ((c.tc : Thread Cert.MemNormGradIdeal.nD Cert.MemNormGradIdeal.τ).loc Cert.MemNormGradIdeal.main_arg0) = m ((c.tc : Thread Cert.MemNormGradIdeal.nD Cert.MemNormGradIdeal.τ).loc Cert.MemNormGradIdeal.main_arg0)
          ∧ r.2.mem ((c.tc : Thread Cert.MemNormGradIdeal.nD Cert.MemNormGradIdeal.τ).loc Cert.MemNormGradIdeal.main_arg1) = m ((c.tc : Thread Cert.MemNormGradIdeal.nD Cert.MemNormGradIdeal.τ).loc Cert.MemNormGradIdeal.main_arg1)
          ∧ r.2.mem ((c.tc : Thread Cert.MemNormGradIdeal.nD Cert.MemNormGradIdeal.τ).loc Cert.MemNormGradIdeal.main_arg2) = m ((c.tc : Thread Cert.MemNormGradIdeal.nD Cert.MemNormGradIdeal.τ).loc Cert.MemNormGradIdeal.main_arg2)
          ∧ r.2.mem ((c.tc : Thread Cert.MemNormGradIdeal.nD Cert.MemNormGradIdeal.τ).loc Cert.MemNormGradIdeal.main_arg3) = m ((c.tc : Thread Cert.MemNormGradIdeal.nD Cert.MemNormGradIdeal.τ).loc Cert.MemNormGradIdeal.main_arg3))
      ∧ θ_run (Cert.MemNormGradReferenceIdeal.defs (F := Ideal)) (onTc (τ := Cert.MemNormGradReferenceIdeal.τ) (Cert.MemNormGradReferenceIdeal.main (F := Ideal))) ⟨m', fun _ => 0, g'⟩ (fun r => ∀ c : Dev Cert.MemNormGradReferenceIdeal.nD,
          r.2.mem ((c.tc : Thread Cert.MemNormGradReferenceIdeal.nD Cert.MemNormGradReferenceIdeal.τ).loc Cert.MemNormGradReferenceIdeal.main_v36) = v0 c
          ∧ r.2.mem ((c.tc : Thread Cert.MemNormGradReferenceIdeal.nD Cert.MemNormGradReferenceIdeal.τ).loc Cert.MemNormGradReferenceIdeal.main_v37) = v1 c
          ∧ r.2.mem ((c.tc : Thread Cert.MemNormGradReferenceIdeal.nD Cert.MemNormGradReferenceIdeal.τ).loc Cert.MemNormGradReferenceIdeal.main_v38) = v2 c
          ∧ r.2.mem ((c.tc : Thread Cert.MemNormGradReferenceIdeal.nD Cert.MemNormGradReferenceIdeal.τ).loc Cert.MemNormGradReferenceIdeal.main_arg0) = m' ((c.tc : Thread Cert.MemNormGradReferenceIdeal.nD Cert.MemNormGradReferenceIdeal.τ).loc Cert.MemNormGradReferenceIdeal.main_arg0)
          ∧ r.2.mem ((c.tc : Thread Cert.MemNormGradReferenceIdeal.nD Cert.MemNormGradReferenceIdeal.τ).loc Cert.MemNormGradReferenceIdeal.main_arg1) = m' ((c.tc : Thread Cert.MemNormGradReferenceIdeal.nD Cert.MemNormGradReferenceIdeal.τ).loc Cert.MemNormGradReferenceIdeal.main_arg1)
          ∧ r.2.mem ((c.tc : Thread Cert.MemNormGradReferenceIdeal.nD Cert.MemNormGradReferenceIdeal.τ).loc Cert.MemNormGradReferenceIdeal.main_arg2) = m' ((c.tc : Thread Cert.MemNormGradReferenceIdeal.nD Cert.MemNormGradReferenceIdeal.τ).loc Cert.MemNormGradReferenceIdeal.main_arg2)
          ∧ r.2.mem ((c.tc : Thread Cert.MemNormGradReferenceIdeal.nD Cert.MemNormGradReferenceIdeal.τ).loc Cert.MemNormGradReferenceIdeal.main_arg3) = m' ((c.tc : Thread Cert.MemNormGradReferenceIdeal.nD Cert.MemNormGradReferenceIdeal.τ).loc Cert.MemNormGradReferenceIdeal.main_arg3))

def preserves_GateFwd_GateFwdIdeal : Prop :=
  True

def algebraic_GateFwdIdeal_GateFwdReferenceIdeal [hGateFwdIdeal : Cert.GateFwdIdeal.Facts] [hGateFwdReferenceIdeal : Cert.GateFwdReferenceIdeal.Facts] : Prop :=
  ∀ (m : (ℓ : Loc Cert.GateFwdIdeal.nD Cert.GateFwdIdeal.τ Cert.GateFwdIdeal.sig) → Buf (Elt Ideal) ℓ) (g : Dev Cert.GateFwdIdeal.nD → PrngReg)
    (m' : (ℓ : Loc Cert.GateFwdReferenceIdeal.nD Cert.GateFwdReferenceIdeal.τ Cert.GateFwdReferenceIdeal.sig) → Buf (Elt Ideal) ℓ) (g' : Dev Cert.GateFwdReferenceIdeal.nD → PrngReg), Pre_GateFwdIdeal m →
    (∀ c : Dev Cert.GateFwdIdeal.nD,
      m' ((c.tc : Thread Cert.GateFwdReferenceIdeal.nD Cert.GateFwdReferenceIdeal.τ).loc Cert.GateFwdReferenceIdeal.main_arg0) = m ((c.tc : Thread Cert.GateFwdIdeal.nD Cert.GateFwdIdeal.τ).loc Cert.GateFwdIdeal.main_arg0)
      ∧ m' ((c.tc : Thread Cert.GateFwdReferenceIdeal.nD Cert.GateFwdReferenceIdeal.τ).loc Cert.GateFwdReferenceIdeal.main_arg1) = m ((c.tc : Thread Cert.GateFwdIdeal.nD Cert.GateFwdIdeal.τ).loc Cert.GateFwdIdeal.main_arg1)
      ∧ m' ((c.tc : Thread Cert.GateFwdReferenceIdeal.nD Cert.GateFwdReferenceIdeal.τ).loc Cert.GateFwdReferenceIdeal.main_arg2) = m ((c.tc : Thread Cert.GateFwdIdeal.nD Cert.GateFwdIdeal.τ).loc Cert.GateFwdIdeal.main_arg2)
      ∧ m' ((c.tc : Thread Cert.GateFwdReferenceIdeal.nD Cert.GateFwdReferenceIdeal.τ).loc Cert.GateFwdReferenceIdeal.main_arg3) = m ((c.tc : Thread Cert.GateFwdIdeal.nD Cert.GateFwdIdeal.τ).loc Cert.GateFwdIdeal.main_arg3)
      ∧ m' ((c.tc : Thread Cert.GateFwdReferenceIdeal.nD Cert.GateFwdReferenceIdeal.τ).loc Cert.GateFwdReferenceIdeal.main_arg4) = m ((c.tc : Thread Cert.GateFwdIdeal.nD Cert.GateFwdIdeal.τ).loc Cert.GateFwdIdeal.main_arg4)) →
    ∃ (v0 : (c : Dev Cert.GateFwdIdeal.nD) → Buf (Elt Ideal) ((c.tc : Thread Cert.GateFwdIdeal.nD Cert.GateFwdIdeal.τ).loc Cert.GateFwdIdeal.main_v3)),
      θ_run (Cert.GateFwdIdeal.defs (F := Ideal)) (onTc (τ := Cert.GateFwdIdeal.τ) (Cert.GateFwdIdeal.main (F := Ideal))) ⟨m, fun _ => 0, g⟩ (fun r => ∀ c : Dev Cert.GateFwdIdeal.nD,
          r.2.mem ((c.tc : Thread Cert.GateFwdIdeal.nD Cert.GateFwdIdeal.τ).loc Cert.GateFwdIdeal.main_v3) = v0 c
          ∧ r.2.mem ((c.tc : Thread Cert.GateFwdIdeal.nD Cert.GateFwdIdeal.τ).loc Cert.GateFwdIdeal.main_arg0) = m ((c.tc : Thread Cert.GateFwdIdeal.nD Cert.GateFwdIdeal.τ).loc Cert.GateFwdIdeal.main_arg0)
          ∧ r.2.mem ((c.tc : Thread Cert.GateFwdIdeal.nD Cert.GateFwdIdeal.τ).loc Cert.GateFwdIdeal.main_arg1) = m ((c.tc : Thread Cert.GateFwdIdeal.nD Cert.GateFwdIdeal.τ).loc Cert.GateFwdIdeal.main_arg1)
          ∧ r.2.mem ((c.tc : Thread Cert.GateFwdIdeal.nD Cert.GateFwdIdeal.τ).loc Cert.GateFwdIdeal.main_arg2) = m ((c.tc : Thread Cert.GateFwdIdeal.nD Cert.GateFwdIdeal.τ).loc Cert.GateFwdIdeal.main_arg2)
          ∧ r.2.mem ((c.tc : Thread Cert.GateFwdIdeal.nD Cert.GateFwdIdeal.τ).loc Cert.GateFwdIdeal.main_arg3) = m ((c.tc : Thread Cert.GateFwdIdeal.nD Cert.GateFwdIdeal.τ).loc Cert.GateFwdIdeal.main_arg3)
          ∧ r.2.mem ((c.tc : Thread Cert.GateFwdIdeal.nD Cert.GateFwdIdeal.τ).loc Cert.GateFwdIdeal.main_arg4) = m ((c.tc : Thread Cert.GateFwdIdeal.nD Cert.GateFwdIdeal.τ).loc Cert.GateFwdIdeal.main_arg4))
      ∧ θ_run (Cert.GateFwdReferenceIdeal.defs (F := Ideal)) (onTc (τ := Cert.GateFwdReferenceIdeal.τ) (Cert.GateFwdReferenceIdeal.main (F := Ideal))) ⟨m', fun _ => 0, g'⟩ (fun r => ∀ c : Dev Cert.GateFwdReferenceIdeal.nD,
          r.2.mem ((c.tc : Thread Cert.GateFwdReferenceIdeal.nD Cert.GateFwdReferenceIdeal.τ).loc Cert.GateFwdReferenceIdeal.main_v50) = v0 c
          ∧ r.2.mem ((c.tc : Thread Cert.GateFwdReferenceIdeal.nD Cert.GateFwdReferenceIdeal.τ).loc Cert.GateFwdReferenceIdeal.main_arg0) = m' ((c.tc : Thread Cert.GateFwdReferenceIdeal.nD Cert.GateFwdReferenceIdeal.τ).loc Cert.GateFwdReferenceIdeal.main_arg0)
          ∧ r.2.mem ((c.tc : Thread Cert.GateFwdReferenceIdeal.nD Cert.GateFwdReferenceIdeal.τ).loc Cert.GateFwdReferenceIdeal.main_arg1) = m' ((c.tc : Thread Cert.GateFwdReferenceIdeal.nD Cert.GateFwdReferenceIdeal.τ).loc Cert.GateFwdReferenceIdeal.main_arg1)
          ∧ r.2.mem ((c.tc : Thread Cert.GateFwdReferenceIdeal.nD Cert.GateFwdReferenceIdeal.τ).loc Cert.GateFwdReferenceIdeal.main_arg2) = m' ((c.tc : Thread Cert.GateFwdReferenceIdeal.nD Cert.GateFwdReferenceIdeal.τ).loc Cert.GateFwdReferenceIdeal.main_arg2)
          ∧ r.2.mem ((c.tc : Thread Cert.GateFwdReferenceIdeal.nD Cert.GateFwdReferenceIdeal.τ).loc Cert.GateFwdReferenceIdeal.main_arg3) = m' ((c.tc : Thread Cert.GateFwdReferenceIdeal.nD Cert.GateFwdReferenceIdeal.τ).loc Cert.GateFwdReferenceIdeal.main_arg3)
          ∧ r.2.mem ((c.tc : Thread Cert.GateFwdReferenceIdeal.nD Cert.GateFwdReferenceIdeal.τ).loc Cert.GateFwdReferenceIdeal.main_arg4) = m' ((c.tc : Thread Cert.GateFwdReferenceIdeal.nD Cert.GateFwdReferenceIdeal.τ).loc Cert.GateFwdReferenceIdeal.main_arg4))

def preserves_Loss_LossIdeal : Prop :=
  True

def algebraic_LossIdeal_LossReferenceIdeal [hLossIdeal : Cert.LossIdeal.Facts] [hLossReferenceIdeal : Cert.LossReferenceIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossIdeal m →
    (∀ c : Dev Cert.LossIdeal.nD,
      m' ((c.tc : Thread Cert.LossReferenceIdeal.nD Cert.LossReferenceIdeal.τ).loc Cert.LossReferenceIdeal.main_arg0) = m ((c.tc : Thread Cert.LossIdeal.nD Cert.LossIdeal.τ).loc Cert.LossIdeal.main_arg0)
      ∧ m' ((c.tc : Thread Cert.LossReferenceIdeal.nD Cert.LossReferenceIdeal.τ).loc Cert.LossReferenceIdeal.main_arg1) = m ((c.tc : Thread Cert.LossIdeal.nD Cert.LossIdeal.τ).loc Cert.LossIdeal.main_arg1)
      ∧ m' ((c.tc : Thread Cert.LossReferenceIdeal.nD Cert.LossReferenceIdeal.τ).loc Cert.LossReferenceIdeal.main_arg2) = m ((c.tc : Thread Cert.LossIdeal.nD Cert.LossIdeal.τ).loc Cert.LossIdeal.main_arg2)) →
    ∃ (v0 : (c : Dev Cert.LossIdeal.nD) → Buf (Elt Ideal) ((c.tc : Thread Cert.LossIdeal.nD Cert.LossIdeal.τ).loc Cert.LossIdeal.main_v1_0)) (v1 : (c : Dev Cert.LossIdeal.nD) → Buf (Elt Ideal) ((c.tc : Thread Cert.LossIdeal.nD Cert.LossIdeal.τ).loc Cert.LossIdeal.main_v1_1)) (v2 : (c : Dev Cert.LossIdeal.nD) → Buf (Elt Ideal) ((c.tc : Thread Cert.LossIdeal.nD Cert.LossIdeal.τ).loc Cert.LossIdeal.main_v1_2)) (v3 : (c : Dev Cert.LossIdeal.nD) → Buf (Elt Ideal) ((c.tc : Thread Cert.LossIdeal.nD Cert.LossIdeal.τ).loc Cert.LossIdeal.main_v1_3)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v1_0) = v0 c
          ∧ r.2.mem ((c.tc : Thread Cert.LossIdeal.nD Cert.LossIdeal.τ).loc Cert.LossIdeal.main_v1_1) = v1 c
          ∧ r.2.mem ((c.tc : Thread Cert.LossIdeal.nD Cert.LossIdeal.τ).loc Cert.LossIdeal.main_v1_2) = v2 c
          ∧ r.2.mem ((c.tc : Thread Cert.LossIdeal.nD Cert.LossIdeal.τ).loc Cert.LossIdeal.main_v1_3) = v3 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v51) = v0 c
          ∧ r.2.mem ((c.tc : Thread Cert.LossReferenceIdeal.nD Cert.LossReferenceIdeal.τ).loc Cert.LossReferenceIdeal.main_v52) = v1 c
          ∧ r.2.mem ((c.tc : Thread Cert.LossReferenceIdeal.nD Cert.LossReferenceIdeal.τ).loc Cert.LossReferenceIdeal.main_v50) = v2 c
          ∧ r.2.mem ((c.tc : Thread Cert.LossReferenceIdeal.nD Cert.LossReferenceIdeal.τ).loc Cert.LossReferenceIdeal.main_v53) = v3 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1)
          ∧ r.2.mem ((c.tc : Thread Cert.LossReferenceIdeal.nD Cert.LossReferenceIdeal.τ).loc Cert.LossReferenceIdeal.main_arg2) = m' ((c.tc : Thread Cert.LossReferenceIdeal.nD Cert.LossReferenceIdeal.τ).loc Cert.LossReferenceIdeal.main_arg2))

def preserves_StepAB_StepABIdeal : Prop :=
  True

def algebraic_StepABIdeal_StepABReferenceIdeal [hStepABIdeal : Cert.StepABIdeal.Facts] [hStepABReferenceIdeal : Cert.StepABReferenceIdeal.Facts] : Prop :=
  ∀ (m : (ℓ : Loc Cert.StepABIdeal.nD Cert.StepABIdeal.τ Cert.StepABIdeal.sig) → Buf (Elt Ideal) ℓ) (g : Dev Cert.StepABIdeal.nD → PrngReg)
    (m' : (ℓ : Loc Cert.StepABReferenceIdeal.nD Cert.StepABReferenceIdeal.τ Cert.StepABReferenceIdeal.sig) → Buf (Elt Ideal) ℓ) (g' : Dev Cert.StepABReferenceIdeal.nD → PrngReg), Pre_StepABIdeal m →
    (∀ c : Dev Cert.StepABIdeal.nD,
      m' ((c.tc : Thread Cert.StepABReferenceIdeal.nD Cert.StepABReferenceIdeal.τ).loc Cert.StepABReferenceIdeal.main_arg0) = m ((c.tc : Thread Cert.StepABIdeal.nD Cert.StepABIdeal.τ).loc Cert.StepABIdeal.main_arg0)
      ∧ m' ((c.tc : Thread Cert.StepABReferenceIdeal.nD Cert.StepABReferenceIdeal.τ).loc Cert.StepABReferenceIdeal.main_arg1) = m ((c.tc : Thread Cert.StepABIdeal.nD Cert.StepABIdeal.τ).loc Cert.StepABIdeal.main_arg1)
      ∧ m' ((c.tc : Thread Cert.StepABReferenceIdeal.nD Cert.StepABReferenceIdeal.τ).loc Cert.StepABReferenceIdeal.main_arg2) = m ((c.tc : Thread Cert.StepABIdeal.nD Cert.StepABIdeal.τ).loc Cert.StepABIdeal.main_arg2)
      ∧ m' ((c.tc : Thread Cert.StepABReferenceIdeal.nD Cert.StepABReferenceIdeal.τ).loc Cert.StepABReferenceIdeal.main_arg3) = m ((c.tc : Thread Cert.StepABIdeal.nD Cert.StepABIdeal.τ).loc Cert.StepABIdeal.main_arg3)) →
    ∃ (v0 : (c : Dev Cert.StepABIdeal.nD) → Buf (Elt Ideal) ((c.tc : Thread Cert.StepABIdeal.nD Cert.StepABIdeal.τ).loc Cert.StepABIdeal.main_v0_0)) (v1 : (c : Dev Cert.StepABIdeal.nD) → Buf (Elt Ideal) ((c.tc : Thread Cert.StepABIdeal.nD Cert.StepABIdeal.τ).loc Cert.StepABIdeal.main_v0_1)) (v2 : (c : Dev Cert.StepABIdeal.nD) → Buf (Elt Ideal) ((c.tc : Thread Cert.StepABIdeal.nD Cert.StepABIdeal.τ).loc Cert.StepABIdeal.main_v0_2)) (v3 : (c : Dev Cert.StepABIdeal.nD) → Buf (Elt Ideal) ((c.tc : Thread Cert.StepABIdeal.nD Cert.StepABIdeal.τ).loc Cert.StepABIdeal.main_v0_3)),
      θ_run (Cert.StepABIdeal.defs (F := Ideal)) (onTc (τ := Cert.StepABIdeal.τ) (Cert.StepABIdeal.main (F := Ideal))) ⟨m, fun _ => 0, g⟩ (fun r => ∀ c : Dev Cert.StepABIdeal.nD,
          r.2.mem ((c.tc : Thread Cert.StepABIdeal.nD Cert.StepABIdeal.τ).loc Cert.StepABIdeal.main_v0_0) = v0 c
          ∧ r.2.mem ((c.tc : Thread Cert.StepABIdeal.nD Cert.StepABIdeal.τ).loc Cert.StepABIdeal.main_v0_1) = v1 c
          ∧ r.2.mem ((c.tc : Thread Cert.StepABIdeal.nD Cert.StepABIdeal.τ).loc Cert.StepABIdeal.main_v0_2) = v2 c
          ∧ r.2.mem ((c.tc : Thread Cert.StepABIdeal.nD Cert.StepABIdeal.τ).loc Cert.StepABIdeal.main_v0_3) = v3 c
          ∧ r.2.mem ((c.tc : Thread Cert.StepABIdeal.nD Cert.StepABIdeal.τ).loc Cert.StepABIdeal.main_arg0) = m ((c.tc : Thread Cert.StepABIdeal.nD Cert.StepABIdeal.τ).loc Cert.StepABIdeal.main_arg0)
          ∧ r.2.mem ((c.tc : Thread Cert.StepABIdeal.nD Cert.StepABIdeal.τ).loc Cert.StepABIdeal.main_arg1) = m ((c.tc : Thread Cert.StepABIdeal.nD Cert.StepABIdeal.τ).loc Cert.StepABIdeal.main_arg1)
          ∧ r.2.mem ((c.tc : Thread Cert.StepABIdeal.nD Cert.StepABIdeal.τ).loc Cert.StepABIdeal.main_arg2) = m ((c.tc : Thread Cert.StepABIdeal.nD Cert.StepABIdeal.τ).loc Cert.StepABIdeal.main_arg2)
          ∧ r.2.mem ((c.tc : Thread Cert.StepABIdeal.nD Cert.StepABIdeal.τ).loc Cert.StepABIdeal.main_arg3) = m ((c.tc : Thread Cert.StepABIdeal.nD Cert.StepABIdeal.τ).loc Cert.StepABIdeal.main_arg3))
      ∧ θ_run (Cert.StepABReferenceIdeal.defs (F := Ideal)) (onTc (τ := Cert.StepABReferenceIdeal.τ) (Cert.StepABReferenceIdeal.main (F := Ideal))) ⟨m', fun _ => 0, g'⟩ (fun r => ∀ c : Dev Cert.StepABReferenceIdeal.nD,
          r.2.mem ((c.tc : Thread Cert.StepABReferenceIdeal.nD Cert.StepABReferenceIdeal.τ).loc Cert.StepABReferenceIdeal.main_v0) = v0 c
          ∧ r.2.mem ((c.tc : Thread Cert.StepABReferenceIdeal.nD Cert.StepABReferenceIdeal.τ).loc Cert.StepABReferenceIdeal.main_v24) = v1 c
          ∧ r.2.mem ((c.tc : Thread Cert.StepABReferenceIdeal.nD Cert.StepABReferenceIdeal.τ).loc Cert.StepABReferenceIdeal.main_v5) = v2 c
          ∧ r.2.mem ((c.tc : Thread Cert.StepABReferenceIdeal.nD Cert.StepABReferenceIdeal.τ).loc Cert.StepABReferenceIdeal.main_v11) = v3 c
          ∧ r.2.mem ((c.tc : Thread Cert.StepABReferenceIdeal.nD Cert.StepABReferenceIdeal.τ).loc Cert.StepABReferenceIdeal.main_arg0) = m' ((c.tc : Thread Cert.StepABReferenceIdeal.nD Cert.StepABReferenceIdeal.τ).loc Cert.StepABReferenceIdeal.main_arg0)
          ∧ r.2.mem ((c.tc : Thread Cert.StepABReferenceIdeal.nD Cert.StepABReferenceIdeal.τ).loc Cert.StepABReferenceIdeal.main_arg1) = m' ((c.tc : Thread Cert.StepABReferenceIdeal.nD Cert.StepABReferenceIdeal.τ).loc Cert.StepABReferenceIdeal.main_arg1)
          ∧ r.2.mem ((c.tc : Thread Cert.StepABReferenceIdeal.nD Cert.StepABReferenceIdeal.τ).loc Cert.StepABReferenceIdeal.main_arg2) = m' ((c.tc : Thread Cert.StepABReferenceIdeal.nD Cert.StepABReferenceIdeal.τ).loc Cert.StepABReferenceIdeal.main_arg2)
          ∧ r.2.mem ((c.tc : Thread Cert.StepABReferenceIdeal.nD Cert.StepABReferenceIdeal.τ).loc Cert.StepABReferenceIdeal.main_arg3) = m' ((c.tc : Thread Cert.StepABReferenceIdeal.nD Cert.StepABReferenceIdeal.τ).loc Cert.StepABReferenceIdeal.main_arg3))

def preserves_StepC_StepCIdeal : Prop :=
  True

def algebraic_StepCIdeal_StepCReferenceIdeal [hStepCIdeal : Cert.StepCIdeal.Facts] [hStepCReferenceIdeal : Cert.StepCReferenceIdeal.Facts] : Prop :=
  ∀ (m : (ℓ : Loc Cert.StepCIdeal.nD Cert.StepCIdeal.τ Cert.StepCIdeal.sig) → Buf (Elt Ideal) ℓ) (g : Dev Cert.StepCIdeal.nD → PrngReg)
    (m' : (ℓ : Loc Cert.StepCReferenceIdeal.nD Cert.StepCReferenceIdeal.τ Cert.StepCReferenceIdeal.sig) → Buf (Elt Ideal) ℓ) (g' : Dev Cert.StepCReferenceIdeal.nD → PrngReg), Pre_StepCIdeal m →
    (∀ c : Dev Cert.StepCIdeal.nD,
      m' ((c.tc : Thread Cert.StepCReferenceIdeal.nD Cert.StepCReferenceIdeal.τ).loc Cert.StepCReferenceIdeal.main_arg0) = m ((c.tc : Thread Cert.StepCIdeal.nD Cert.StepCIdeal.τ).loc Cert.StepCIdeal.main_arg0)
      ∧ m' ((c.tc : Thread Cert.StepCReferenceIdeal.nD Cert.StepCReferenceIdeal.τ).loc Cert.StepCReferenceIdeal.main_arg1) = m ((c.tc : Thread Cert.StepCIdeal.nD Cert.StepCIdeal.τ).loc Cert.StepCIdeal.main_arg1)
      ∧ m' ((c.tc : Thread Cert.StepCReferenceIdeal.nD Cert.StepCReferenceIdeal.τ).loc Cert.StepCReferenceIdeal.main_arg2) = m ((c.tc : Thread Cert.StepCIdeal.nD Cert.StepCIdeal.τ).loc Cert.StepCIdeal.main_arg2)
      ∧ m' ((c.tc : Thread Cert.StepCReferenceIdeal.nD Cert.StepCReferenceIdeal.τ).loc Cert.StepCReferenceIdeal.main_arg3) = m ((c.tc : Thread Cert.StepCIdeal.nD Cert.StepCIdeal.τ).loc Cert.StepCIdeal.main_arg3)) →
    ∃ (v0 : (c : Dev Cert.StepCIdeal.nD) → Buf (Elt Ideal) ((c.tc : Thread Cert.StepCIdeal.nD Cert.StepCIdeal.τ).loc Cert.StepCIdeal.main_v0_0)) (v1 : (c : Dev Cert.StepCIdeal.nD) → Buf (Elt Ideal) ((c.tc : Thread Cert.StepCIdeal.nD Cert.StepCIdeal.τ).loc Cert.StepCIdeal.main_v0_1)) (v2 : (c : Dev Cert.StepCIdeal.nD) → Buf (Elt Ideal) ((c.tc : Thread Cert.StepCIdeal.nD Cert.StepCIdeal.τ).loc Cert.StepCIdeal.main_v0_2)) (v3 : (c : Dev Cert.StepCIdeal.nD) → Buf (Elt Ideal) ((c.tc : Thread Cert.StepCIdeal.nD Cert.StepCIdeal.τ).loc Cert.StepCIdeal.main_v0_3)),
      θ_run (Cert.StepCIdeal.defs (F := Ideal)) (onTc (τ := Cert.StepCIdeal.τ) (Cert.StepCIdeal.main (F := Ideal))) ⟨m, fun _ => 0, g⟩ (fun r => ∀ c : Dev Cert.StepCIdeal.nD,
          r.2.mem ((c.tc : Thread Cert.StepCIdeal.nD Cert.StepCIdeal.τ).loc Cert.StepCIdeal.main_v0_0) = v0 c
          ∧ r.2.mem ((c.tc : Thread Cert.StepCIdeal.nD Cert.StepCIdeal.τ).loc Cert.StepCIdeal.main_v0_1) = v1 c
          ∧ r.2.mem ((c.tc : Thread Cert.StepCIdeal.nD Cert.StepCIdeal.τ).loc Cert.StepCIdeal.main_v0_2) = v2 c
          ∧ r.2.mem ((c.tc : Thread Cert.StepCIdeal.nD Cert.StepCIdeal.τ).loc Cert.StepCIdeal.main_v0_3) = v3 c
          ∧ r.2.mem ((c.tc : Thread Cert.StepCIdeal.nD Cert.StepCIdeal.τ).loc Cert.StepCIdeal.main_arg0) = m ((c.tc : Thread Cert.StepCIdeal.nD Cert.StepCIdeal.τ).loc Cert.StepCIdeal.main_arg0)
          ∧ r.2.mem ((c.tc : Thread Cert.StepCIdeal.nD Cert.StepCIdeal.τ).loc Cert.StepCIdeal.main_arg1) = m ((c.tc : Thread Cert.StepCIdeal.nD Cert.StepCIdeal.τ).loc Cert.StepCIdeal.main_arg1)
          ∧ r.2.mem ((c.tc : Thread Cert.StepCIdeal.nD Cert.StepCIdeal.τ).loc Cert.StepCIdeal.main_arg2) = m ((c.tc : Thread Cert.StepCIdeal.nD Cert.StepCIdeal.τ).loc Cert.StepCIdeal.main_arg2)
          ∧ r.2.mem ((c.tc : Thread Cert.StepCIdeal.nD Cert.StepCIdeal.τ).loc Cert.StepCIdeal.main_arg3) = m ((c.tc : Thread Cert.StepCIdeal.nD Cert.StepCIdeal.τ).loc Cert.StepCIdeal.main_arg3))
      ∧ θ_run (Cert.StepCReferenceIdeal.defs (F := Ideal)) (onTc (τ := Cert.StepCReferenceIdeal.τ) (Cert.StepCReferenceIdeal.main (F := Ideal))) ⟨m', fun _ => 0, g'⟩ (fun r => ∀ c : Dev Cert.StepCReferenceIdeal.nD,
          r.2.mem ((c.tc : Thread Cert.StepCReferenceIdeal.nD Cert.StepCReferenceIdeal.τ).loc Cert.StepCReferenceIdeal.main_v0) = v0 c
          ∧ r.2.mem ((c.tc : Thread Cert.StepCReferenceIdeal.nD Cert.StepCReferenceIdeal.τ).loc Cert.StepCReferenceIdeal.main_v24) = v1 c
          ∧ r.2.mem ((c.tc : Thread Cert.StepCReferenceIdeal.nD Cert.StepCReferenceIdeal.τ).loc Cert.StepCReferenceIdeal.main_v5) = v2 c
          ∧ r.2.mem ((c.tc : Thread Cert.StepCReferenceIdeal.nD Cert.StepCReferenceIdeal.τ).loc Cert.StepCReferenceIdeal.main_v11) = v3 c
          ∧ r.2.mem ((c.tc : Thread Cert.StepCReferenceIdeal.nD Cert.StepCReferenceIdeal.τ).loc Cert.StepCReferenceIdeal.main_arg0) = m' ((c.tc : Thread Cert.StepCReferenceIdeal.nD Cert.StepCReferenceIdeal.τ).loc Cert.StepCReferenceIdeal.main_arg0)
          ∧ r.2.mem ((c.tc : Thread Cert.StepCReferenceIdeal.nD Cert.StepCReferenceIdeal.τ).loc Cert.StepCReferenceIdeal.main_arg1) = m' ((c.tc : Thread Cert.StepCReferenceIdeal.nD Cert.StepCReferenceIdeal.τ).loc Cert.StepCReferenceIdeal.main_arg1)
          ∧ r.2.mem ((c.tc : Thread Cert.StepCReferenceIdeal.nD Cert.StepCReferenceIdeal.τ).loc Cert.StepCReferenceIdeal.main_arg2) = m' ((c.tc : Thread Cert.StepCReferenceIdeal.nD Cert.StepCReferenceIdeal.τ).loc Cert.StepCReferenceIdeal.main_arg2)
          ∧ r.2.mem ((c.tc : Thread Cert.StepCReferenceIdeal.nD Cert.StepCReferenceIdeal.τ).loc Cert.StepCReferenceIdeal.main_arg3) = m' ((c.tc : Thread Cert.StepCReferenceIdeal.nD Cert.StepCReferenceIdeal.τ).loc Cert.StepCReferenceIdeal.main_arg3))

def preserves_StepOut_StepOutIdeal : Prop :=
  True

def algebraic_StepOutIdeal_StepOutReferenceIdeal [hStepOutIdeal : Cert.StepOutIdeal.Facts] [hStepOutReferenceIdeal : Cert.StepOutReferenceIdeal.Facts] : Prop :=
  ∀ (m : (ℓ : Loc Cert.StepOutIdeal.nD Cert.StepOutIdeal.τ Cert.StepOutIdeal.sig) → Buf (Elt Ideal) ℓ) (g : Dev Cert.StepOutIdeal.nD → PrngReg)
    (m' : (ℓ : Loc Cert.StepOutReferenceIdeal.nD Cert.StepOutReferenceIdeal.τ Cert.StepOutReferenceIdeal.sig) → Buf (Elt Ideal) ℓ) (g' : Dev Cert.StepOutReferenceIdeal.nD → PrngReg), Pre_StepOutIdeal m →
    (∀ c : Dev Cert.StepOutIdeal.nD,
      m' ((c.tc : Thread Cert.StepOutReferenceIdeal.nD Cert.StepOutReferenceIdeal.τ).loc Cert.StepOutReferenceIdeal.main_arg0) = m ((c.tc : Thread Cert.StepOutIdeal.nD Cert.StepOutIdeal.τ).loc Cert.StepOutIdeal.main_arg0)
      ∧ m' ((c.tc : Thread Cert.StepOutReferenceIdeal.nD Cert.StepOutReferenceIdeal.τ).loc Cert.StepOutReferenceIdeal.main_arg1) = m ((c.tc : Thread Cert.StepOutIdeal.nD Cert.StepOutIdeal.τ).loc Cert.StepOutIdeal.main_arg1)
      ∧ m' ((c.tc : Thread Cert.StepOutReferenceIdeal.nD Cert.StepOutReferenceIdeal.τ).loc Cert.StepOutReferenceIdeal.main_arg2) = m ((c.tc : Thread Cert.StepOutIdeal.nD Cert.StepOutIdeal.τ).loc Cert.StepOutIdeal.main_arg2)
      ∧ m' ((c.tc : Thread Cert.StepOutReferenceIdeal.nD Cert.StepOutReferenceIdeal.τ).loc Cert.StepOutReferenceIdeal.main_arg3) = m ((c.tc : Thread Cert.StepOutIdeal.nD Cert.StepOutIdeal.τ).loc Cert.StepOutIdeal.main_arg3)) →
    ∃ (v0 : (c : Dev Cert.StepOutIdeal.nD) → Buf (Elt Ideal) ((c.tc : Thread Cert.StepOutIdeal.nD Cert.StepOutIdeal.τ).loc Cert.StepOutIdeal.main_v0_0)) (v1 : (c : Dev Cert.StepOutIdeal.nD) → Buf (Elt Ideal) ((c.tc : Thread Cert.StepOutIdeal.nD Cert.StepOutIdeal.τ).loc Cert.StepOutIdeal.main_v0_1)) (v2 : (c : Dev Cert.StepOutIdeal.nD) → Buf (Elt Ideal) ((c.tc : Thread Cert.StepOutIdeal.nD Cert.StepOutIdeal.τ).loc Cert.StepOutIdeal.main_v0_2)) (v3 : (c : Dev Cert.StepOutIdeal.nD) → Buf (Elt Ideal) ((c.tc : Thread Cert.StepOutIdeal.nD Cert.StepOutIdeal.τ).loc Cert.StepOutIdeal.main_v0_3)),
      θ_run (Cert.StepOutIdeal.defs (F := Ideal)) (onTc (τ := Cert.StepOutIdeal.τ) (Cert.StepOutIdeal.main (F := Ideal))) ⟨m, fun _ => 0, g⟩ (fun r => ∀ c : Dev Cert.StepOutIdeal.nD,
          r.2.mem ((c.tc : Thread Cert.StepOutIdeal.nD Cert.StepOutIdeal.τ).loc Cert.StepOutIdeal.main_v0_0) = v0 c
          ∧ r.2.mem ((c.tc : Thread Cert.StepOutIdeal.nD Cert.StepOutIdeal.τ).loc Cert.StepOutIdeal.main_v0_1) = v1 c
          ∧ r.2.mem ((c.tc : Thread Cert.StepOutIdeal.nD Cert.StepOutIdeal.τ).loc Cert.StepOutIdeal.main_v0_2) = v2 c
          ∧ r.2.mem ((c.tc : Thread Cert.StepOutIdeal.nD Cert.StepOutIdeal.τ).loc Cert.StepOutIdeal.main_v0_3) = v3 c
          ∧ r.2.mem ((c.tc : Thread Cert.StepOutIdeal.nD Cert.StepOutIdeal.τ).loc Cert.StepOutIdeal.main_arg0) = m ((c.tc : Thread Cert.StepOutIdeal.nD Cert.StepOutIdeal.τ).loc Cert.StepOutIdeal.main_arg0)
          ∧ r.2.mem ((c.tc : Thread Cert.StepOutIdeal.nD Cert.StepOutIdeal.τ).loc Cert.StepOutIdeal.main_arg1) = m ((c.tc : Thread Cert.StepOutIdeal.nD Cert.StepOutIdeal.τ).loc Cert.StepOutIdeal.main_arg1)
          ∧ r.2.mem ((c.tc : Thread Cert.StepOutIdeal.nD Cert.StepOutIdeal.τ).loc Cert.StepOutIdeal.main_arg2) = m ((c.tc : Thread Cert.StepOutIdeal.nD Cert.StepOutIdeal.τ).loc Cert.StepOutIdeal.main_arg2)
          ∧ r.2.mem ((c.tc : Thread Cert.StepOutIdeal.nD Cert.StepOutIdeal.τ).loc Cert.StepOutIdeal.main_arg3) = m ((c.tc : Thread Cert.StepOutIdeal.nD Cert.StepOutIdeal.τ).loc Cert.StepOutIdeal.main_arg3))
      ∧ θ_run (Cert.StepOutReferenceIdeal.defs (F := Ideal)) (onTc (τ := Cert.StepOutReferenceIdeal.τ) (Cert.StepOutReferenceIdeal.main (F := Ideal))) ⟨m', fun _ => 0, g'⟩ (fun r => ∀ c : Dev Cert.StepOutReferenceIdeal.nD,
          r.2.mem ((c.tc : Thread Cert.StepOutReferenceIdeal.nD Cert.StepOutReferenceIdeal.τ).loc Cert.StepOutReferenceIdeal.main_v1) = v0 c
          ∧ r.2.mem ((c.tc : Thread Cert.StepOutReferenceIdeal.nD Cert.StepOutReferenceIdeal.τ).loc Cert.StepOutReferenceIdeal.main_v25) = v1 c
          ∧ r.2.mem ((c.tc : Thread Cert.StepOutReferenceIdeal.nD Cert.StepOutReferenceIdeal.τ).loc Cert.StepOutReferenceIdeal.main_v6) = v2 c
          ∧ r.2.mem ((c.tc : Thread Cert.StepOutReferenceIdeal.nD Cert.StepOutReferenceIdeal.τ).loc Cert.StepOutReferenceIdeal.main_v12) = v3 c
          ∧ r.2.mem ((c.tc : Thread Cert.StepOutReferenceIdeal.nD Cert.StepOutReferenceIdeal.τ).loc Cert.StepOutReferenceIdeal.main_arg0) = m' ((c.tc : Thread Cert.StepOutReferenceIdeal.nD Cert.StepOutReferenceIdeal.τ).loc Cert.StepOutReferenceIdeal.main_arg0)
          ∧ r.2.mem ((c.tc : Thread Cert.StepOutReferenceIdeal.nD Cert.StepOutReferenceIdeal.τ).loc Cert.StepOutReferenceIdeal.main_arg1) = m' ((c.tc : Thread Cert.StepOutReferenceIdeal.nD Cert.StepOutReferenceIdeal.τ).loc Cert.StepOutReferenceIdeal.main_arg1)
          ∧ r.2.mem ((c.tc : Thread Cert.StepOutReferenceIdeal.nD Cert.StepOutReferenceIdeal.τ).loc Cert.StepOutReferenceIdeal.main_arg2) = m' ((c.tc : Thread Cert.StepOutReferenceIdeal.nD Cert.StepOutReferenceIdeal.τ).loc Cert.StepOutReferenceIdeal.main_arg2)
          ∧ r.2.mem ((c.tc : Thread Cert.StepOutReferenceIdeal.nD Cert.StepOutReferenceIdeal.τ).loc Cert.StepOutReferenceIdeal.main_arg3) = m' ((c.tc : Thread Cert.StepOutReferenceIdeal.nD Cert.StepOutReferenceIdeal.τ).loc Cert.StepOutReferenceIdeal.main_arg3))

def Claim : Prop :=
  ∃ (hKernel : Cert.Kernel.Facts) (hKernelIdeal : Cert.KernelIdeal.Facts) (hReferenceIdeal : Cert.ReferenceIdeal.Facts) (hOutArg : Cert.OutArg.Facts) (hOutArgIdeal : Cert.OutArgIdeal.Facts) (hOutArgReferenceIdeal : Cert.OutArgReferenceIdeal.Facts) (hOutWeights : Cert.OutWeights.Facts) (hOutWeightsIdeal : Cert.OutWeightsIdeal.Facts) (hOutWeightsReferenceIdeal : Cert.OutWeightsReferenceIdeal.Facts) (hCrossArg : Cert.CrossArg.Facts) (hCrossArgIdeal : Cert.CrossArgIdeal.Facts) (hCrossArgReferenceIdeal : Cert.CrossArgReferenceIdeal.Facts) (hCrossWeights : Cert.CrossWeights.Facts) (hCrossWeightsIdeal : Cert.CrossWeightsIdeal.Facts) (hCrossWeightsReferenceIdeal : Cert.CrossWeightsReferenceIdeal.Facts) (hInWeights : Cert.InWeights.Facts) (hInWeightsIdeal : Cert.InWeightsIdeal.Facts) (hInWeightsReferenceIdeal : Cert.InWeightsReferenceIdeal.Facts) (hInC : Cert.InC.Facts) (hInCIdeal : Cert.InCIdeal.Facts) (hInCReferenceIdeal : Cert.InCReferenceIdeal.Facts) (hOutC : Cert.OutC.Facts) (hOutCIdeal : Cert.OutCIdeal.Facts) (hOutCReferenceIdeal : Cert.OutCReferenceIdeal.Facts) (hCrossQ : Cert.CrossQ.Facts) (hCrossQIdeal : Cert.CrossQIdeal.Facts) (hCrossQReferenceIdeal : Cert.CrossQReferenceIdeal.Facts) (hCrossO : Cert.CrossO.Facts) (hCrossOIdeal : Cert.CrossOIdeal.Facts) (hCrossOReferenceIdeal : Cert.CrossOReferenceIdeal.Facts) (hCross : Cert.Cross.Facts) (hCrossIdeal : Cert.CrossIdeal.Facts) (hCrossReferenceIdeal : Cert.CrossReferenceIdeal.Facts) (hCrossGrad : Cert.CrossGrad.Facts) (hCrossGradIdeal : Cert.CrossGradIdeal.Facts) (hCrossGradReferenceIdeal : Cert.CrossGradReferenceIdeal.Facts) (hMemKeys : Cert.MemKeys.Facts) (hMemKeysIdeal : Cert.MemKeysIdeal.Facts) (hMemKeysReferenceIdeal : Cert.MemKeysReferenceIdeal.Facts) (hMemArg : Cert.MemArg.Facts) (hMemArgIdeal : Cert.MemArgIdeal.Facts) (hMemArgReferenceIdeal : Cert.MemArgReferenceIdeal.Facts) (hMemWeights : Cert.MemWeights.Facts) (hMemWeightsIdeal : Cert.MemWeightsIdeal.Facts) (hMemWeightsReferenceIdeal : Cert.MemWeightsReferenceIdeal.Facts) (hNorm : Cert.Norm.Facts) (hNormIdeal : Cert.NormIdeal.Facts) (hNormReferenceIdeal : Cert.NormReferenceIdeal.Facts) (hMemNorm : Cert.MemNorm.Facts) (hMemNormIdeal : Cert.MemNormIdeal.Facts) (hMemNormReferenceIdeal : Cert.MemNormReferenceIdeal.Facts) (hNormGrad : Cert.NormGrad.Facts) (hNormGradIdeal : Cert.NormGradIdeal.Facts) (hNormGradReferenceIdeal : Cert.NormGradReferenceIdeal.Facts) (hMemNormGrad : Cert.MemNormGrad.Facts) (hMemNormGradIdeal : Cert.MemNormGradIdeal.Facts) (hMemNormGradReferenceIdeal : Cert.MemNormGradReferenceIdeal.Facts) (hGateFwd : Cert.GateFwd.Facts) (hGateFwdIdeal : Cert.GateFwdIdeal.Facts) (hGateFwdReferenceIdeal : Cert.GateFwdReferenceIdeal.Facts) (hLoss : Cert.Loss.Facts) (hLossIdeal : Cert.LossIdeal.Facts) (hLossReferenceIdeal : Cert.LossReferenceIdeal.Facts) (hStepAB : Cert.StepAB.Facts) (hStepABIdeal : Cert.StepABIdeal.Facts) (hStepABReferenceIdeal : Cert.StepABReferenceIdeal.Facts) (hStepC : Cert.StepC.Facts) (hStepCIdeal : Cert.StepCIdeal.Facts) (hStepCReferenceIdeal : Cert.StepCReferenceIdeal.Facts) (hStepOut : Cert.StepOut.Facts) (hStepOutIdeal : Cert.StepOutIdeal.Facts) (hStepOutReferenceIdeal : Cert.StepOutReferenceIdeal.Facts) (hPre_finite : Cert.Pre_finite.Facts) (hPre_finite_cross : Cert.Pre_finite_cross.Facts) (hPre_finite_cross_grad : Cert.Pre_finite_cross_grad.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_OutArg (hOutArg := hOutArg)
    ∧ quiescent_OutArgIdeal (hOutArgIdeal := hOutArgIdeal)
    ∧ quiescent_OutArgReferenceIdeal (hOutArgReferenceIdeal := hOutArgReferenceIdeal)
    ∧ quiescent_OutWeights (hOutWeights := hOutWeights)
    ∧ quiescent_OutWeightsIdeal (hOutWeightsIdeal := hOutWeightsIdeal)
    ∧ quiescent_OutWeightsReferenceIdeal (hOutWeightsReferenceIdeal := hOutWeightsReferenceIdeal)
    ∧ quiescent_CrossArg (hCrossArg := hCrossArg)
    ∧ quiescent_CrossArgIdeal (hCrossArgIdeal := hCrossArgIdeal)
    ∧ quiescent_CrossArgReferenceIdeal (hCrossArgReferenceIdeal := hCrossArgReferenceIdeal)
    ∧ quiescent_CrossWeights (hCrossWeights := hCrossWeights)
    ∧ quiescent_CrossWeightsIdeal (hCrossWeightsIdeal := hCrossWeightsIdeal)
    ∧ quiescent_CrossWeightsReferenceIdeal (hCrossWeightsReferenceIdeal := hCrossWeightsReferenceIdeal)
    ∧ quiescent_InWeights (hInWeights := hInWeights)
    ∧ quiescent_InWeightsIdeal (hInWeightsIdeal := hInWeightsIdeal)
    ∧ quiescent_InWeightsReferenceIdeal (hInWeightsReferenceIdeal := hInWeightsReferenceIdeal)
    ∧ quiescent_InC (hInC := hInC)
    ∧ quiescent_InCIdeal (hInCIdeal := hInCIdeal)
    ∧ quiescent_InCReferenceIdeal (hInCReferenceIdeal := hInCReferenceIdeal)
    ∧ quiescent_OutC (hOutC := hOutC)
    ∧ quiescent_OutCIdeal (hOutCIdeal := hOutCIdeal)
    ∧ quiescent_OutCReferenceIdeal (hOutCReferenceIdeal := hOutCReferenceIdeal)
    ∧ quiescent_CrossQ (hCrossQ := hCrossQ)
    ∧ quiescent_CrossQIdeal (hCrossQIdeal := hCrossQIdeal)
    ∧ quiescent_CrossQReferenceIdeal (hCrossQReferenceIdeal := hCrossQReferenceIdeal)
    ∧ quiescent_CrossO (hCrossO := hCrossO)
    ∧ quiescent_CrossOIdeal (hCrossOIdeal := hCrossOIdeal)
    ∧ quiescent_CrossOReferenceIdeal (hCrossOReferenceIdeal := hCrossOReferenceIdeal)
    ∧ quiescent_Cross (hCross := hCross)
    ∧ quiescent_CrossIdeal (hCrossIdeal := hCrossIdeal)
    ∧ quiescent_CrossIdeal_pre_finite_cross (hCrossIdeal := hCrossIdeal) (hPre_finite_cross := hPre_finite_cross)
    ∧ quiescent_CrossReferenceIdeal (hCrossReferenceIdeal := hCrossReferenceIdeal)
    ∧ quiescent_CrossReferenceIdeal_pre_finite_cross (hCrossReferenceIdeal := hCrossReferenceIdeal) (hPre_finite_cross := hPre_finite_cross)
    ∧ quiescent_CrossGrad (hCrossGrad := hCrossGrad)
    ∧ quiescent_CrossGradIdeal (hCrossGradIdeal := hCrossGradIdeal)
    ∧ quiescent_CrossGradIdeal_pre_finite_cross_grad (hCrossGradIdeal := hCrossGradIdeal) (hPre_finite_cross_grad := hPre_finite_cross_grad)
    ∧ quiescent_CrossGradReferenceIdeal (hCrossGradReferenceIdeal := hCrossGradReferenceIdeal)
    ∧ quiescent_CrossGradReferenceIdeal_pre_finite_cross_grad (hCrossGradReferenceIdeal := hCrossGradReferenceIdeal) (hPre_finite_cross_grad := hPre_finite_cross_grad)
    ∧ quiescent_MemKeys (hMemKeys := hMemKeys)
    ∧ quiescent_MemKeysIdeal (hMemKeysIdeal := hMemKeysIdeal)
    ∧ quiescent_MemKeysReferenceIdeal (hMemKeysReferenceIdeal := hMemKeysReferenceIdeal)
    ∧ quiescent_MemArg (hMemArg := hMemArg)
    ∧ quiescent_MemArgIdeal (hMemArgIdeal := hMemArgIdeal)
    ∧ quiescent_MemArgReferenceIdeal (hMemArgReferenceIdeal := hMemArgReferenceIdeal)
    ∧ quiescent_MemWeights (hMemWeights := hMemWeights)
    ∧ quiescent_MemWeightsIdeal (hMemWeightsIdeal := hMemWeightsIdeal)
    ∧ quiescent_MemWeightsReferenceIdeal (hMemWeightsReferenceIdeal := hMemWeightsReferenceIdeal)
    ∧ quiescent_Norm (hNorm := hNorm)
    ∧ quiescent_NormIdeal (hNormIdeal := hNormIdeal)
    ∧ quiescent_NormReferenceIdeal (hNormReferenceIdeal := hNormReferenceIdeal)
    ∧ quiescent_MemNorm (hMemNorm := hMemNorm)
    ∧ quiescent_MemNormIdeal (hMemNormIdeal := hMemNormIdeal)
    ∧ quiescent_MemNormReferenceIdeal (hMemNormReferenceIdeal := hMemNormReferenceIdeal)
    ∧ quiescent_NormGrad (hNormGrad := hNormGrad)
    ∧ quiescent_NormGradIdeal (hNormGradIdeal := hNormGradIdeal)
    ∧ quiescent_NormGradReferenceIdeal (hNormGradReferenceIdeal := hNormGradReferenceIdeal)
    ∧ quiescent_MemNormGrad (hMemNormGrad := hMemNormGrad)
    ∧ quiescent_MemNormGradIdeal (hMemNormGradIdeal := hMemNormGradIdeal)
    ∧ quiescent_MemNormGradReferenceIdeal (hMemNormGradReferenceIdeal := hMemNormGradReferenceIdeal)
    ∧ quiescent_GateFwd (hGateFwd := hGateFwd)
    ∧ quiescent_GateFwdIdeal (hGateFwdIdeal := hGateFwdIdeal)
    ∧ quiescent_GateFwdReferenceIdeal (hGateFwdReferenceIdeal := hGateFwdReferenceIdeal)
    ∧ quiescent_Loss (hLoss := hLoss)
    ∧ quiescent_LossIdeal (hLossIdeal := hLossIdeal)
    ∧ quiescent_LossReferenceIdeal (hLossReferenceIdeal := hLossReferenceIdeal)
    ∧ quiescent_StepAB (hStepAB := hStepAB)
    ∧ quiescent_StepABIdeal (hStepABIdeal := hStepABIdeal)
    ∧ quiescent_StepABReferenceIdeal (hStepABReferenceIdeal := hStepABReferenceIdeal)
    ∧ quiescent_StepC (hStepC := hStepC)
    ∧ quiescent_StepCIdeal (hStepCIdeal := hStepCIdeal)
    ∧ quiescent_StepCReferenceIdeal (hStepCReferenceIdeal := hStepCReferenceIdeal)
    ∧ quiescent_StepOut (hStepOut := hStepOut)
    ∧ quiescent_StepOutIdeal (hStepOutIdeal := hStepOutIdeal)
    ∧ quiescent_StepOutReferenceIdeal (hStepOutReferenceIdeal := hStepOutReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_OutArg_OutArgIdeal
    ∧ algebraic_OutArgIdeal_OutArgReferenceIdeal (hOutArgIdeal := hOutArgIdeal) (hOutArgReferenceIdeal := hOutArgReferenceIdeal)
    ∧ preserves_OutWeights_OutWeightsIdeal
    ∧ algebraic_OutWeightsIdeal_OutWeightsReferenceIdeal (hOutWeightsIdeal := hOutWeightsIdeal) (hOutWeightsReferenceIdeal := hOutWeightsReferenceIdeal)
    ∧ preserves_CrossArg_CrossArgIdeal
    ∧ algebraic_CrossArgIdeal_CrossArgReferenceIdeal (hCrossArgIdeal := hCrossArgIdeal) (hCrossArgReferenceIdeal := hCrossArgReferenceIdeal)
    ∧ preserves_CrossWeights_CrossWeightsIdeal
    ∧ algebraic_CrossWeightsIdeal_CrossWeightsReferenceIdeal (hCrossWeightsIdeal := hCrossWeightsIdeal) (hCrossWeightsReferenceIdeal := hCrossWeightsReferenceIdeal)
    ∧ preserves_InWeights_InWeightsIdeal
    ∧ algebraic_InWeightsIdeal_InWeightsReferenceIdeal (hInWeightsIdeal := hInWeightsIdeal) (hInWeightsReferenceIdeal := hInWeightsReferenceIdeal)
    ∧ preserves_InC_InCIdeal
    ∧ algebraic_InCIdeal_InCReferenceIdeal (hInCIdeal := hInCIdeal) (hInCReferenceIdeal := hInCReferenceIdeal)
    ∧ preserves_OutC_OutCIdeal
    ∧ algebraic_OutCIdeal_OutCReferenceIdeal (hOutCIdeal := hOutCIdeal) (hOutCReferenceIdeal := hOutCReferenceIdeal)
    ∧ preserves_CrossQ_CrossQIdeal
    ∧ algebraic_CrossQIdeal_CrossQReferenceIdeal (hCrossQIdeal := hCrossQIdeal) (hCrossQReferenceIdeal := hCrossQReferenceIdeal)
    ∧ preserves_CrossO_CrossOIdeal
    ∧ algebraic_CrossOIdeal_CrossOReferenceIdeal (hCrossOIdeal := hCrossOIdeal) (hCrossOReferenceIdeal := hCrossOReferenceIdeal)
    ∧ preserves_Cross_CrossIdeal
    ∧ algebraic_CrossIdeal_CrossReferenceIdeal_pre_finite_cross (hCrossIdeal := hCrossIdeal) (hCrossReferenceIdeal := hCrossReferenceIdeal) (hPre_finite_cross := hPre_finite_cross)
    ∧ preserves_CrossGrad_CrossGradIdeal
    ∧ algebraic_CrossGradIdeal_CrossGradReferenceIdeal_pre_finite_cross_grad (hCrossGradIdeal := hCrossGradIdeal) (hCrossGradReferenceIdeal := hCrossGradReferenceIdeal) (hPre_finite_cross_grad := hPre_finite_cross_grad)
    ∧ preserves_MemKeys_MemKeysIdeal
    ∧ algebraic_MemKeysIdeal_MemKeysReferenceIdeal (hMemKeysIdeal := hMemKeysIdeal) (hMemKeysReferenceIdeal := hMemKeysReferenceIdeal)
    ∧ preserves_MemArg_MemArgIdeal
    ∧ algebraic_MemArgIdeal_MemArgReferenceIdeal (hMemArgIdeal := hMemArgIdeal) (hMemArgReferenceIdeal := hMemArgReferenceIdeal)
    ∧ preserves_MemWeights_MemWeightsIdeal
    ∧ algebraic_MemWeightsIdeal_MemWeightsReferenceIdeal (hMemWeightsIdeal := hMemWeightsIdeal) (hMemWeightsReferenceIdeal := hMemWeightsReferenceIdeal)
    ∧ preserves_Norm_NormIdeal
    ∧ algebraic_NormIdeal_NormReferenceIdeal (hNormIdeal := hNormIdeal) (hNormReferenceIdeal := hNormReferenceIdeal)
    ∧ preserves_MemNorm_MemNormIdeal
    ∧ algebraic_MemNormIdeal_MemNormReferenceIdeal (hMemNormIdeal := hMemNormIdeal) (hMemNormReferenceIdeal := hMemNormReferenceIdeal)
    ∧ preserves_NormGrad_NormGradIdeal
    ∧ algebraic_NormGradIdeal_NormGradReferenceIdeal (hNormGradIdeal := hNormGradIdeal) (hNormGradReferenceIdeal := hNormGradReferenceIdeal)
    ∧ preserves_MemNormGrad_MemNormGradIdeal
    ∧ algebraic_MemNormGradIdeal_MemNormGradReferenceIdeal (hMemNormGradIdeal := hMemNormGradIdeal) (hMemNormGradReferenceIdeal := hMemNormGradReferenceIdeal)
    ∧ preserves_GateFwd_GateFwdIdeal
    ∧ algebraic_GateFwdIdeal_GateFwdReferenceIdeal (hGateFwdIdeal := hGateFwdIdeal) (hGateFwdReferenceIdeal := hGateFwdReferenceIdeal)
    ∧ preserves_Loss_LossIdeal
    ∧ algebraic_LossIdeal_LossReferenceIdeal (hLossIdeal := hLossIdeal) (hLossReferenceIdeal := hLossReferenceIdeal)
    ∧ preserves_StepAB_StepABIdeal
    ∧ algebraic_StepABIdeal_StepABReferenceIdeal (hStepABIdeal := hStepABIdeal) (hStepABReferenceIdeal := hStepABReferenceIdeal)
    ∧ preserves_StepC_StepCIdeal
    ∧ algebraic_StepCIdeal_StepCReferenceIdeal (hStepCIdeal := hStepCIdeal) (hStepCReferenceIdeal := hStepCReferenceIdeal)
    ∧ preserves_StepOut_StepOutIdeal
    ∧ algebraic_StepOutIdeal_StepOutReferenceIdeal (hStepOutIdeal := hStepOutIdeal) (hStepOutReferenceIdeal := hStepOutReferenceIdeal)
-- ==== Pre_finite.lean ====
abbrev S8192x4096 : Shape := ⟨2, ![8192, 4096]⟩
abbrev S8192x12288 : Shape := ⟨2, ![8192, 12288]⟩
abbrev S4096 : Shape := ⟨1, ![4096]⟩
abbrev S8x128x128 : Shape := ⟨3, ![8, 128, 128]⟩
abbrev S8x128 : Shape := ⟨2, ![8, 128]⟩
abbrev S_ : Shape := ⟨0, ![]⟩

class Facts : Prop where
  bitsLt_bf16_f32 : FTy.bits .bf16 < FTy.bits .f32
  bcast_S_S8192x4096 : S_.BroadcastsInDim S8192x4096 (![] : Fin 0 → Fin S8192x4096.rank)
  bcast_S_S8192x12288 : S_.BroadcastsInDim S8192x12288 (![] : Fin 0 → Fin S8192x12288.rank)
  bcast_S_S4096 : S_.BroadcastsInDim S4096 (![] : Fin 0 → Fin S4096.rank)
  bcast_S_S8x128x128 : S_.BroadcastsInDim S8x128x128 (![] : Fin 0 → Fin S8x128x128.rank)
  bcast_S_S8x128 : S_.BroadcastsInDim S8x128 (![] : Fin 0 → Fin S8x128.rank)

variable [Facts]

def fn_part1 {F : FTy → Type} [FloatOps F] (main_v3 : IVec S8192x4096 1) (main_v7 : IVec S8192x12288 1) (main_v10 : IVec S4096 1) (main_v13 : IVec S4096 1) (main_v16 : IVec S8x128x128 1) (main_v17 : FVec F S8x128 .f32) (main_cst_4 : FVec F S_ .f32) : IVec S8192x4096 1 × IVec S8192x12288 1 × IVec S4096 1 × IVec S4096 1 × IVec S8x128x128 1 × IVec S8x128 1 :=
  let main_v18 : FVec F S8x128 .f32 := broadcastInDim S8x128 ![] bcast_S_S8x128 main_cst_4
  let main_v19 : IVec S8x128 1 := cmpf .olt main_v17 main_v18
  (main_v3, main_v7, main_v10, main_v13, main_v16, main_v19)

def fn {F : FTy → Type} [FloatOps F] (main_arg0 : FVec F S8192x4096 .bf16) (main_arg1 : FVec F S8192x12288 .bf16) (main_arg2 : FVec F S4096 .f32) (main_arg3 : FVec F S4096 .f32) (main_arg4 : FVec F S8x128x128 .f32) (main_arg5 : FVec F S8x128 .f32) : IVec S8192x4096 1 × IVec S8192x12288 1 × IVec S4096 1 × IVec S4096 1 × IVec S8x128x128 1 × IVec S8x128 1 :=
  let main_v0 : FVec F S8192x4096 .f32 := (extf .f32 · bitsLt_bf16_f32) main_arg0
  let main_v1 : FVec F S8192x4096 .f32 := Host.absf main_v0
  let main_cst : FVec F S_ .f32 := constant S_ .f32 0x7F800000#32
  let main_v2 : FVec F S8192x4096 .f32 := broadcastInDim S8192x4096 ![] bcast_S_S8192x4096 main_cst
  let main_v3 : IVec S8192x4096 1 := cmpf .olt main_v1 main_v2
  let main_v4 : FVec F S8192x12288 .f32 := (extf .f32 · bitsLt_bf16_f32) main_arg1
  let main_v5 : FVec F S8192x12288 .f32 := Host.absf main_v4
  let main_cst_0 : FVec F S_ .f32 := constant S_ .f32 0x7F800000#32
  let main_v6 : FVec F S8192x12288 .f32 := broadcastInDim S8192x12288 ![] bcast_S_S8192x12288 main_cst_0
  let main_v7 : IVec S8192x12288 1 := cmpf .olt main_v5 main_v6
  let main_v8 : FVec F S4096 .f32 := Host.absf main_arg2
  let main_cst_1 : FVec F S_ .f32 := constant S_ .f32 0x7F800000#32
  let main_v9 : FVec F S4096 .f32 := broadcastInDim S4096 ![] bcast_S_S4096 main_cst_1
  let main_v10 : IVec S4096 1 := cmpf .olt main_v8 main_v9
  let main_v11 : FVec F S4096 .f32 := Host.absf main_arg3
  let main_cst_2 : FVec F S_ .f32 := constant S_ .f32 0x7F800000#32
  let main_v12 : FVec F S4096 .f32 := broadcastInDim S4096 ![] bcast_S_S4096 main_cst_2
  let main_v13 : IVec S4096 1 := cmpf .olt main_v11 main_v12
  let main_v14 : FVec F S8x128x128 .f32 := Host.absf main_arg4
  let main_cst_3 : FVec F S_ .f32 := constant S_ .f32 0x7F800000#32
  let main_v15 : FVec F S8x128x128 .f32 := broadcastInDim S8x128x128 ![] bcast_S_S8x128x128 main_cst_3
  let main_v16 : IVec S8x128x128 1 := cmpf .olt main_v14 main_v15
  let main_v17 : FVec F S8x128 .f32 := Host.absf main_arg5
  let main_cst_4 : FVec F S_ .f32 := constant S_ .f32 0x7F800000#32
  fn_part1 (F := F) main_v3 main_v7 main_v10 main_v13 main_v16 main_v17 main_cst_4
-- ==== Pre_finite_cross.lean ====
abbrev S8192x2048 : Shape := ⟨2, ![8192, 2048]⟩
abbrev S256x2048 : Shape := ⟨2, ![256, 2048]⟩
abbrev S_ : Shape := ⟨0, ![]⟩

class Facts : Prop where
  bitsLt_bf16_f32 : FTy.bits .bf16 < FTy.bits .f32
  bcast_S_S8192x2048 : S_.BroadcastsInDim S8192x2048 (![] : Fin 0 → Fin S8192x2048.rank)
  bcast_S_S256x2048 : S_.BroadcastsInDim S256x2048 (![] : Fin 0 → Fin S256x2048.rank)

variable [Facts]

def fn {F : FTy → Type} [FloatOps F] (main_arg0 : FVec F S8192x2048 .bf16) (main_arg1 : FVec F S256x2048 .bf16) (main_arg2 : FVec F S256x2048 .bf16) : IVec S8192x2048 1 × IVec S256x2048 1 :=
  let main_v0 : FVec F S8192x2048 .f32 := (extf .f32 · bitsLt_bf16_f32) main_arg0
  let main_v1 : FVec F S8192x2048 .f32 := Host.absf main_v0
  let main_cst : FVec F S_ .f32 := constant S_ .f32 0x7F800000#32
  let main_v2 : FVec F S8192x2048 .f32 := broadcastInDim S8192x2048 ![] bcast_S_S8192x2048 main_cst
  let main_v3 : IVec S8192x2048 1 := cmpf .olt main_v1 main_v2
  let main_v4 : FVec F S256x2048 .f32 := (extf .f32 · bitsLt_bf16_f32) main_arg1
  let main_v5 : FVec F S256x2048 .f32 := Host.absf main_v4
  let main_cst_0 : FVec F S_ .f32 := constant S_ .f32 0x7F800000#32
  let main_v6 : FVec F S256x2048 .f32 := broadcastInDim S256x2048 ![] bcast_S_S256x2048 main_cst_0
  let main_v7 : IVec S256x2048 1 := cmpf .olt main_v5 main_v6
  (main_v3, main_v7)
-- ==== Pre_finite_cross_grad.lean ====
abbrev S8192x2048 : Shape := ⟨2, ![8192, 2048]⟩
abbrev S256x2048 : Shape := ⟨2, ![256, 2048]⟩
abbrev S_ : Shape := ⟨0, ![]⟩

class Facts : Prop where
  bitsLt_bf16_f32 : FTy.bits .bf16 < FTy.bits .f32
  bcast_S_S8192x2048 : S_.BroadcastsInDim S8192x2048 (![] : Fin 0 → Fin S8192x2048.rank)
  bcast_S_S256x2048 : S_.BroadcastsInDim S256x2048 (![] : Fin 0 → Fin S256x2048.rank)

variable [Facts]

def fn {F : FTy → Type} [FloatOps F] (main_arg0 : FVec F S8192x2048 .bf16) (main_arg1 : FVec F S256x2048 .bf16) (main_arg2 : FVec F S256x2048 .bf16) (main_arg3 : FVec F S8192x2048 .bf16) : IVec S8192x2048 1 × IVec S256x2048 1 × IVec S256x2048 1 × IVec S8192x2048 1 :=
  let main_v0 : FVec F S8192x2048 .f32 := (extf .f32 · bitsLt_bf16_f32) main_arg0
  let main_v1 : FVec F S8192x2048 .f32 := Host.absf main_v0
  let main_cst : FVec F S_ .f32 := constant S_ .f32 0x7F800000#32
  let main_v2 : FVec F S8192x2048 .f32 := broadcastInDim S8192x2048 ![] bcast_S_S8192x2048 main_cst
  let main_v3 : IVec S8192x2048 1 := cmpf .olt main_v1 main_v2
  let main_v4 : FVec F S256x2048 .f32 := (extf .f32 · bitsLt_bf16_f32) main_arg1
  let main_v5 : FVec F S256x2048 .f32 := Host.absf main_v4
  let main_cst_0 : FVec F S_ .f32 := constant S_ .f32 0x7F800000#32
  let main_v6 : FVec F S256x2048 .f32 := broadcastInDim S256x2048 ![] bcast_S_S256x2048 main_cst_0
  let main_v7 : IVec S256x2048 1 := cmpf .olt main_v5 main_v6
  let main_v8 : FVec F S256x2048 .f32 := (extf .f32 · bitsLt_bf16_f32) main_arg2
  let main_v9 : FVec F S256x2048 .f32 := Host.absf main_v8
  let main_cst_1 : FVec F S_ .f32 := constant S_ .f32 0x7F800000#32
  let main_v10 : FVec F S256x2048 .f32 := broadcastInDim S256x2048 ![] bcast_S_S256x2048 main_cst_1
  let main_v11 : IVec S256x2048 1 := cmpf .olt main_v9 main_v10
  let main_v12 : FVec F S8192x2048 .f32 := (extf .f32 · bitsLt_bf16_f32) main_arg3
  let main_v13 : FVec F S8192x2048 .f32 := Host.absf main_v12
  let main_cst_2 : FVec F S_ .f32 := constant S_ .f32 0x7F800000#32
  let main_v14 : FVec F S8192x2048 .f32 := broadcastInDim S8192x2048 ![] bcast_S_S8192x2048 main_cst_2
  let main_v15 : IVec S8192x2048 1 := cmpf .olt main_v13 main_v14
  (main_v3, main_v7, main_v11, main_v15)
-- ==== Kernel.lean ====
abbrev S8192x4096 : Shape := ⟨2, ![8192, 4096]⟩
abbrev S8192x12288 : Shape := ⟨2, ![8192, 12288]⟩
abbrev S4096 : Shape := ⟨1, ![4096]⟩
abbrev S8x128x128 : Shape := ⟨3, ![8, 128, 128]⟩
abbrev S8x128 : Shape := ⟨2, ![8, 128]⟩
abbrev S1x4096 : Shape := ⟨2, ![1, 4096]⟩
abbrev S128x8 : Shape := ⟨2, ![128, 8]⟩
abbrev S256x4096 : Shape := ⟨2, ![256, 4096]⟩
abbrev S256x12288 : Shape := ⟨2, ![256, 12288]⟩
abbrev S256 : Shape := ⟨1, ![256]⟩
abbrev S256x1 : Shape := ⟨2, ![256, 1]⟩
abbrev S128x128 : Shape := ⟨2, ![128, 128]⟩
abbrev S1x128x128 : Shape := ⟨3, ![1, 128, 128]⟩
abbrev S256x512 : Shape := ⟨2, ![256, 512]⟩
abbrev S1x512 : Shape := ⟨2, ![1, 512]⟩
abbrev S128x512 : Shape := ⟨2, ![128, 512]⟩
abbrev S128x1 : Shape := ⟨2, ![128, 1]⟩
abbrev S128 : Shape := ⟨1, ![128]⟩

abbrev nBuf : Space → Nat
  | .hbm => 14
  | .vmem => 19
  | .smem => 0
  | _ => 0

abbrev bufTy : (tb : Table) → Fin (tcTables nBuf tb) → BufTy
  | .hbm, ⟨0, _⟩ => ⟨S8192x4096, .bf16⟩
  | .hbm, ⟨1, _⟩ => ⟨S8192x12288, .bf16⟩
  | .hbm, ⟨2, _⟩ => ⟨S4096, .f32⟩
  | .hbm, ⟨3, _⟩ => ⟨S4096, .f32⟩
  | .hbm, ⟨4, _⟩ => ⟨S8x128x128, .f32⟩
  | .hbm, ⟨5, _⟩ => ⟨S8x128, .f32⟩
  | .hbm, ⟨6, _⟩ => ⟨S1x4096, .f32⟩
  | .hbm, ⟨7, _⟩ => ⟨S1x4096, .f32⟩
  | .hbm, ⟨8, _⟩ => ⟨S128x8, .f32⟩
  | .hbm, ⟨9, _⟩ => ⟨S8192x12288, .bf16⟩
  | .hbm, ⟨10, _⟩ => ⟨S8x128x128, .f32⟩
  | .hbm, ⟨11, _⟩ => ⟨S128x8, .f32⟩
  | .hbm, ⟨12, _⟩ => ⟨S1x4096, .f32⟩
  | .hbm, ⟨13, _⟩ => ⟨S1x4096, .f32⟩
  | .local _ .vmem, ⟨0, _⟩ => ⟨S256x4096, .bf16⟩
  | .local _ .vmem, ⟨1, _⟩ => ⟨S256x4096, .bf16⟩
  | .local _ .vmem, ⟨2, _⟩ => ⟨S256x4096, .bf16⟩
  | .local _ .vmem, ⟨3, _⟩ => ⟨S256x4096, .bf16⟩
  | .local _ .vmem, ⟨4, _⟩ => ⟨S256x4096, .bf16⟩
  | .local _ .vmem, ⟨5, _⟩ => ⟨S256x4096, .bf16⟩
  | .local _ .vmem, ⟨6, _⟩ => ⟨S256x4096, .bf16⟩
  | .local _ .vmem, ⟨7, _⟩ => ⟨S256x4096, .bf16⟩
  | .local _ .vmem, ⟨8, _⟩ => ⟨S1x4096, .f32⟩
  | .local _ .vmem, ⟨9, _⟩ => ⟨S1x4096, .f32⟩
  | .local _ .vmem, ⟨10, _⟩ => ⟨S8x128x128, .f32⟩
  | .local _ .vmem, ⟨11, _⟩ => ⟨S128x8, .f32⟩
  | .local _ .vmem, ⟨12, _⟩ => ⟨S256x12288, .bf16⟩
  | .local _ .vmem, ⟨13, _⟩ => ⟨S256x12288, .bf16⟩
  | .local _ .vmem, ⟨14, _⟩ => ⟨S8x128x128, .f32⟩
  | .local _ .vmem, ⟨15, _⟩ => ⟨S128x8, .f32⟩
  | .local _ .vmem, ⟨16, _⟩ => ⟨S1x4096, .f32⟩
  | .local _ .vmem, ⟨17, _⟩ => ⟨S1x4096, .f32⟩
  | .local _ .vmem, ⟨18, _⟩ => ⟨S256x4096, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem11_0 : DmaSem sig := 16
abbrev cc0_sem12_0 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x12288 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x8 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x4096 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x4096 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ReferenceIdeal.lean ====
abbrev S8192x4096 : Shape := ⟨2, ![8192, 4096]⟩
abbrev S8192x12288 : Shape := ⟨2, ![8192, 12288]⟩
abbrev S4096 : Shape := ⟨1, ![4096]⟩
abbrev S8x128x128 : Shape := ⟨3, ![8, 128, 128]⟩
abbrev S8x128 : Shape := ⟨2, ![8, 128]⟩
abbrev S_ : Shape := ⟨0, ![]⟩
abbrev S8192 : Shape := ⟨1, ![8192]⟩
abbrev S8192x1 : Shape := ⟨2, ![8192, 1]⟩
abbrev S1x4096 : Shape := ⟨2, ![1, 4096]⟩
abbrev S64x128x8x512 : Shape := ⟨4, ![64, 128, 8, 512]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S8x64x512x128 : Shape := ⟨4, ![8, 64, 512, 128]⟩
abbrev S128x8 : Shape := ⟨2, ![128, 8]⟩
abbrev S1x128x8x1 : Shape := ⟨4, ![1, 128, 8, 1]⟩

abbrev nBuf : Space → Nat
  | .hbm => 169
  | .vmem => 0
  | .smem => 0
  | _ => 0

abbrev hbmTy0_0 (i : Nat) : BufTy := match i % 128 with
  | 0 => ⟨S8192x4096, .bf16⟩
  | 1 => ⟨S8192x12288, .bf16⟩
  | 2 => ⟨S4096, .f32⟩
  | 3 => ⟨S4096, .f32⟩
  | 4 => ⟨S8x128x128, .f32⟩
  | 5 => ⟨S8x128, .f32⟩
  | 6 => ⟨S8192x4096, .f32⟩
  | 7 => ⟨S8192x12288, .f32⟩
  | 8 => ⟨S8192x4096, .f32⟩
  | 9 => ⟨S8192x4096, .f32⟩
  | 10 => ⟨S8192x4096, .f32⟩
  | 11 => ⟨S_, .f32⟩
  | 12 => ⟨S8192, .f32⟩
  | 13 => ⟨S8192x1, .f32⟩
  | 14 => ⟨S_, .f32⟩
  | 15 => ⟨S8192x1, .f32⟩
  | 16 => ⟨S8192x1, .f32⟩
  | 17 => ⟨S8192x4096, .f32⟩
  | 18 => ⟨S8192x4096, .f32⟩
  | 19 => ⟨S8192x4096, .f32⟩
  | 20 => ⟨S_, .f32⟩
  | 21 => ⟨S8192x4096, .f32⟩
  | 22 => ⟨S8192x4096, .f32⟩
  | 23 => ⟨S_, .f32⟩
  | 24 => ⟨S8192, .f32⟩
  | 25 => ⟨S8192x1, .f32⟩
  | 26 => ⟨S_, .f32⟩
  | 27 => ⟨S8192x1, .f32⟩
  | 28 => ⟨S8192x1, .f32⟩
  | 29 => ⟨S8192x4096, .f32⟩
  | 30 => ⟨S8192x4096, .f32⟩
  | 31 => ⟨S_, .f32⟩
  | 32 => ⟨S8192x1, .f32⟩
  | 33 => ⟨S8192x1, .f32⟩
  | 34 => ⟨S8192x1, .f32⟩
  | 35 => ⟨S8192x1, .f32⟩
  | 36 => ⟨S_, .f32⟩
  | 37 => ⟨S8192x1, .f32⟩
  | 38 => ⟨S8192x1, .f32⟩
  | 39 => ⟨S8192x4096, .f32⟩
  | 40 => ⟨S8192x4096, .f32⟩
  | 41 => ⟨S1x4096, .f32⟩
  | 42 => ⟨S8192x4096, .f32⟩
  | 43 => ⟨S8192x4096, .f32⟩
  | 44 => ⟨S1x4096, .f32⟩
  | 45 => ⟨S8192x4096, .f32⟩
  | 46 => ⟨S8192x4096, .f32⟩
  | 47 => ⟨S64x128x8x512, .f32⟩
  | 48 => ⟨S128, .i32⟩
  | 49 => ⟨S_, .i32⟩
  | 50 => ⟨S_, .i32⟩
  | 51 => ⟨S128, .i32⟩
  | 52 => ⟨S128, .i32⟩
  | 53 => ⟨S128, .i32⟩
  | 54 => ⟨S_, .i32⟩
  | 55 => ⟨S128, .i32⟩
  | 56 => ⟨S128, .i1⟩
  | 57 => ⟨S128, .i32⟩
  | 58 => ⟨S128, .i32⟩
  | 59 => ⟨S_, .i32⟩
  | 60 => ⟨S128, .i32⟩
  | 61 => ⟨S128, .i1⟩
  | 62 => ⟨S128, .i1⟩
  | 63 => ⟨S_, .i32⟩
  | 64 => ⟨S128, .i32⟩
  | 65 => ⟨S128, .i32⟩
  | 66 => ⟨S128, .i32⟩
  | 67 => ⟨S128x1, .i32⟩
  | 68 => ⟨S1x128, .i32⟩
  | 69 => ⟨S128x128, .i32⟩
  | 70 => ⟨S128x128, .i32⟩
  | 71 => ⟨S128x128, .i1⟩
  | 72 => ⟨S128x128, .f32⟩
  | 73 => ⟨S1x128x128, .f32⟩
  | 74 => ⟨S8x128x128, .f32⟩
  | 75 => ⟨S8x128x128, .f32⟩
  | 76 => ⟨S8x64x512x128, .f32⟩
  | 77 => ⟨S64x128x8x512, .f32⟩
  | 78 => ⟨S128x8, .f32⟩
  | 79 => ⟨S1x128x8x1, .f32⟩
  | 80 => ⟨S64x128x8x512, .f32⟩
  | 81 => ⟨S64x128x8x512, .f32⟩
  | 82 => ⟨S8192x4096, .f32⟩
  | 83 => ⟨S8192x4096, .f32⟩
  | 84 => ⟨S8192x4096, .f32⟩
  | 85 => ⟨S8192x4096, .f32⟩
  | 86 => ⟨S_, .f32⟩
  | 87 => ⟨S8192x4096, .f32⟩
  | 88 => ⟨S8192x4096, .f32⟩
  | 89 => ⟨S_, .f32⟩
  | 90 => ⟨S8192x4096, .f32⟩
  | 91 => ⟨S8192x4096, .f32⟩
  | 92 => ⟨S_, .f32⟩
  | 93 => ⟨S8192x4096, .f32⟩
  | 94 => ⟨S8192x4096, .f32⟩
  | 95 => ⟨S8192x4096, .f32⟩
  | 96 => ⟨S8192x4096, .f32⟩
  | 97 => ⟨S8192x4096, .f32⟩
  | 98 => ⟨S8192x4096, .f32⟩
  | 99 => ⟨S8192x4096, .f32⟩
  | 100 => ⟨S8192x4096, .f32⟩
  | 101 => ⟨S8192x4096, .f32⟩
  | 102 => ⟨S8192x4096, .f32⟩
  | 103 => ⟨S8192x4096, .f32⟩
  | 104 => ⟨S8192x4096, .f32⟩
  | 105 => ⟨S8192x4096, .f32⟩
  | 106 => ⟨S64x128x8x512, .f32⟩
  | 107 => ⟨S_, .f32⟩
  | 108 => ⟨S128x8, .f32⟩
  | 109 => ⟨S1x128x8x1, .f32⟩
  | 110 => ⟨S_, .f32⟩
  | 111 => ⟨S128x8, .f32⟩
  | 112 => ⟨S8x128, .f32⟩
  | 113 => ⟨S8x64x512x128, .f32⟩
  | 114 => ⟨S8x128x128, .f32⟩
  | 115 => ⟨S8x64x512x128, .f32⟩
  | 116 => ⟨S64x128x8x512, .f32⟩
  | 117 => ⟨S8x128x128, .f32⟩
  | 118 => ⟨S8x128x128, .f32⟩
  | 119 => ⟨S8192x4096, .f32⟩
  | 120 => ⟨S_, .f32⟩
  | 121 => ⟨S4096, .f32⟩
  | 122 => ⟨S1x4096, .f32⟩
  | 123 => ⟨S_, .f32⟩
  | 124 => ⟨S4096, .f32⟩
  | 125 => ⟨S8192x4096, .f32⟩
  | 126 => ⟨S_, .f32⟩
  | 127 => ⟨S4096, .f32⟩
  | _ => ⟨S8192x4096, .bf16⟩

abbrev hbmTy0_1 (i : Nat) : BufTy := match i % 128 with
  | 0 => ⟨S1x4096, .f32⟩
  | 1 => ⟨S8192x4096, .f32⟩
  | 2 => ⟨S8192x4096, .f32⟩
  | 3 => ⟨S_, .f32⟩
  | 4 => ⟨S4096, .f32⟩
  | 5 => ⟨S8192x4096, .f32⟩
  | 6 => ⟨S_, .f32⟩
  | 7 => ⟨S8192, .f32⟩
  | 8 => ⟨S8192x1, .f32⟩
  | 9 => ⟨S8192x4096, .f32⟩
  | 10 => ⟨S8192x4096, .f32⟩
  | 11 => ⟨S8192x1, .f32⟩
  | 12 => ⟨S8192x4096, .f32⟩
  | 13 => ⟨S_, .f32⟩
  | 14 => ⟨S8192, .f32⟩
  | 15 => ⟨S8192x1, .f32⟩
  | 16 => ⟨S_, .f32⟩
  | 17 => ⟨S8192x1, .f32⟩
  | 18 => ⟨S8192x1, .f32⟩
  | 19 => ⟨S_, .f32⟩
  | 20 => ⟨S8192, .f32⟩
  | 21 => ⟨S8192x4096, .f32⟩
  | 22 => ⟨S8192x4096, .f32⟩
  | 23 => ⟨S8192x4096, .f32⟩
  | 24 => ⟨S_, .f32⟩
  | 25 => ⟨S8192, .f32⟩
  | 26 => ⟨S8192x1, .f32⟩
  | 27 => ⟨S8192x4096, .f32⟩
  | 28 => ⟨S8192x1, .f32⟩
  | 29 => ⟨S_, .f32⟩
  | 30 => ⟨S8192x1, .f32⟩
  | 31 => ⟨S8192x1, .f32⟩
  | 32 => ⟨S_, .f32⟩
  | 33 => ⟨S8192, .f32⟩
  | 34 => ⟨S8192x4096, .f32⟩
  | 35 => ⟨S8192x4096, .f32⟩
  | 36 => ⟨S8192x12288, .f32⟩
  | 37 => ⟨S8192x12288, .bf16⟩
  | 38 => ⟨S128x8, .f32⟩
  | 39 => ⟨S1x4096, .f32⟩
  | 40 => ⟨S1x4096, .f32⟩
  | _ => ⟨S8192x4096, .bf16⟩

abbrev hbmTy (i : Nat) : BufTy := match i / 128 with
  | 0 => hbmTy0_0 i
  | 1 => hbmTy0_1 i
  | _ => ⟨S8192x4096, .bf16⟩

abbrev bufTy : (tb : Table) → Fin (tcTables nBuf tb) → BufTy
  | .hbm, ⟨i, _⟩ => hbmTy i
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_c : Ref sig .tc := ⟨.hbm, 49, rfl⟩
abbrev main_call0_v0 : Ref sig .tc := ⟨.hbm, 50, rfl⟩
abbrev main_call0_v1 : Ref sig .tc := ⟨.hbm, 51, rfl⟩
abbrev main_call0_v2 : Ref sig .tc := ⟨.hbm, 52, rfl⟩
abbrev main_call0_v3 : Ref sig .tc := ⟨.hbm, 53, rfl⟩
abbrev main_call0_v4 : Ref sig .tc := ⟨.hbm, 54, rfl⟩
abbrev main_call0_v5 : Ref sig .tc := ⟨.hbm, 55, rfl⟩
abbrev main_call0_v6 : Ref sig .tc := ⟨.hbm, 56, rfl⟩
abbrev main_call0_v7 : Ref sig .tc := ⟨.hbm, 57, rfl⟩
abbrev main_call0_v8 : Ref sig .tc := ⟨.hbm, 58, rfl⟩
abbrev main_call0_c : Ref sig .tc := ⟨.hbm, 59, rfl⟩
abbrev main_call0_v9 : Ref sig .tc := ⟨.hbm, 60, rfl⟩
abbrev main_call0_v10 : Ref sig .tc := ⟨.hbm, 61, rfl⟩
abbrev main_call0_v11 : Ref sig .tc := ⟨.hbm, 62, rfl⟩
abbrev main_call0_c_0 : Ref sig .tc := ⟨.hbm, 63, rfl⟩
abbrev main_call0_v12 : Ref sig .tc := ⟨.hbm, 64, rfl⟩
abbrev main_call0_v13 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_call1_v0 : Ref sig .tc := ⟨.hbm, 84, rfl⟩
abbrev main_call1_v1 : Ref sig .tc := ⟨.hbm, 85, rfl⟩
abbrev main_call1_cst : Ref sig .tc := ⟨.hbm, 86, rfl⟩
abbrev main_call1_v2 : Ref sig .tc := ⟨.hbm, 87, rfl⟩
abbrev main_call1_v3 : Ref sig .tc := ⟨.hbm, 88, rfl⟩
abbrev main_call1_cst_0 : Ref sig .tc := ⟨.hbm, 89, rfl⟩
abbrev main_call1_v4 : Ref sig .tc := ⟨.hbm, 90, rfl⟩
abbrev main_v54_2 : Ref sig .tc := ⟨.hbm, 91, rfl⟩
abbrev main_call1_cst_1 : Ref sig .tc := ⟨.hbm, 92, rfl⟩
abbrev main_call1_v6 : Ref sig .tc := ⟨.hbm, 93, rfl⟩
abbrev main_call1_v7 : Ref sig .tc := ⟨.hbm, 94, rfl⟩
abbrev main_v54_1 : Ref sig .tc := ⟨.hbm, 95, rfl⟩
abbrev main_v54_0 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_call2_v0 : Ref sig .tc := ⟨.hbm, 100, rfl⟩
abbrev main_call2_v1 : Ref sig .tc := ⟨.hbm, 101, rfl⟩
abbrev main_call2_v2 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_cst_6 : Ref sig .tc := ⟨.hbm, 107, rfl⟩
abbrev main_v62 : Ref sig .tc := ⟨.hbm, 108, rfl⟩
abbrev main_v63 : Ref sig .tc := ⟨.hbm, 109, rfl⟩
abbrev main_cst_7 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_cst_8 : Ref sig .tc := ⟨.hbm, 120, rfl⟩
abbrev main_v73 : Ref sig .tc := ⟨.hbm, 121, rfl⟩
abbrev main_v74 : Ref sig .tc := ⟨.hbm, 122, rfl⟩
abbrev main_cst_9 : Ref sig .tc := ⟨.hbm, 123, rfl⟩
abbrev main_v75 : Ref sig .tc := ⟨.hbm, 124, rfl⟩
abbrev main_v76 : Ref sig .tc := ⟨.hbm, 125, rfl⟩
abbrev main_cst_10 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_cst_11 : Ref sig .tc := ⟨.hbm, 131, rfl⟩
abbrev main_v81 : Ref sig .tc := ⟨.hbm, 132, rfl⟩
abbrev main_v82 : Ref sig .tc := ⟨.hbm, 133, rfl⟩
abbrev main_cst_12 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_cst_13 : Ref sig .tc := ⟨.hbm, 141, rfl⟩
abbrev main_v89 : Ref sig .tc := ⟨.hbm, 142, rfl⟩
abbrev main_v90 : Ref sig .tc := ⟨.hbm, 143, rfl⟩
abbrev main_cst_14 : Ref sig .tc := ⟨.hbm, 144, rfl⟩
abbrev main_v91 : Ref sig .tc := ⟨.hbm, 145, rfl⟩
abbrev main_v92 : Ref sig .tc := ⟨.hbm, 146, rfl⟩
abbrev main_cst_15 : Ref sig .tc := ⟨.hbm, 147, rfl⟩
abbrev main_v93 : Ref sig .tc := ⟨.hbm, 148, rfl⟩
abbrev main_v94 : Ref sig .tc := ⟨.hbm, 149, rfl⟩
abbrev main_v95 : Ref sig .tc := ⟨.hbm, 150, rfl⟩
abbrev main_v96 : Ref sig .tc := ⟨.hbm, 151, rfl⟩
abbrev main_cst_16 : Ref sig .tc := ⟨.hbm, 152, rfl⟩
abbrev main_v97 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_cst_17 : Ref sig .tc := ⟨.hbm, 157, rfl⟩
abbrev main_v101 : Ref sig .tc := ⟨.hbm, 158, rfl⟩
abbrev main_v102 : Ref sig .tc := ⟨.hbm, 159, rfl⟩
abbrev main_cst_18 : Ref sig .tc := ⟨.hbm, 160, rfl⟩
abbrev main_v103 : Ref sig .tc := ⟨.hbm, 161, rfl⟩
abbrev main_v104 : Ref sig .tc := ⟨.hbm, 162, rfl⟩
abbrev main_v105 : Ref sig .tc := ⟨.hbm, 163, rfl⟩
abbrev main_v106 : Ref sig .tc := ⟨.hbm, 164, rfl⟩
abbrev main_v107 : Ref sig .tc := ⟨.hbm, 165, rfl⟩
abbrev main_v108 : Ref sig .tc := ⟨.hbm, 166, rfl⟩
abbrev main_v109 : Ref sig .tc := ⟨.hbm, 167, rfl⟩
abbrev main_v110 : Ref sig .tc := ⟨.hbm, 168, rfl⟩

abbrev nD : Nat := 1
abbrev τ : Topo := Topo.v7x

variable {F : FTy → Type} [FloatOps F]
-- ==== OutArg.lean ====
abbrev S4096x2048 : Shape := ⟨2, ![4096, 2048]⟩
abbrev S8192x2048 : Shape := ⟨2, ![8192, 2048]⟩
abbrev S8192x4096 : Shape := ⟨2, ![8192, 4096]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S8192x2048, .bf16⟩
  | .hbm, ⟨2, _⟩ => ⟨S8192x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutArgIdeal.lean ====
abbrev S4096x2048 : Shape := ⟨2, ![4096, 2048]⟩
abbrev S8192x2048 : Shape := ⟨2, ![8192, 2048]⟩
abbrev S8192x4096 : Shape := ⟨2, ![8192, 4096]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S8192x2048, .bf16⟩
  | .hbm, ⟨2, _⟩ => ⟨S8192x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutArgReferenceIdeal.lean ====
abbrev S4096x2048 : Shape := ⟨2, ![4096, 2048]⟩
abbrev S8192x2048 : Shape := ⟨2, ![8192, 2048]⟩
abbrev S_ : Shape := ⟨0, ![]⟩
abbrev S8192x4096 : Shape := ⟨2, ![8192, 4096]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8192x2048, .bf16⟩
  | .hbm, ⟨2, _⟩ => ⟨S_, .f32⟩
  | .hbm, ⟨3, _⟩ => ⟨S8192x4096, .f32⟩
  | .hbm, ⟨4, _⟩ => ⟨S4096x2048, .f32⟩
  | .hbm, ⟨5, _⟩ => ⟨S8192x2048, .f32⟩
  | .hbm, ⟨6, _⟩ => ⟨S8192x2048, .f32⟩
  | .hbm, ⟨7, _⟩ => ⟨S8192x4096, .f32⟩
  | .hbm, ⟨8, _⟩ => ⟨S8192x4096, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== OutWeights.lean ====
abbrev S8192x4096 : Shape := ⟨2, ![8192, 4096]⟩
abbrev S8192x2048 : Shape := ⟨2, ![8192, 2048]⟩
abbrev S4096x2048 : Shape := ⟨2, ![4096, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S8192x2048, .bf16⟩
  | .hbm, ⟨2, _⟩ => ⟨S4096x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutWeightsIdeal.lean ====
abbrev S8192x4096 : Shape := ⟨2, ![8192, 4096]⟩
abbrev S8192x2048 : Shape := ⟨2, ![8192, 2048]⟩
abbrev S4096x2048 : Shape := ⟨2, ![4096, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S8192x2048, .bf16⟩
  | .hbm, ⟨2, _⟩ => ⟨S4096x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutWeightsReferenceIdeal.lean ====
abbrev S8192x4096 : Shape := ⟨2, ![8192, 4096]⟩
abbrev S8192x2048 : Shape := ⟨2, ![8192, 2048]⟩
abbrev S_ : Shape := ⟨0, ![]⟩
abbrev S4096x2048 : Shape := ⟨2, ![4096, 2048]⟩
abbrev S2048x4096 : Shape := ⟨2, ![2048, 4096]⟩

abbrev nBuf : Space → Nat
  | .hbm => 10
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x2048, .bf16⟩
  | .hbm, ⟨2, _⟩ => ⟨S_, .f32⟩
  | .hbm, ⟨3, _⟩ => ⟨S4096x2048, .f32⟩
  | .hbm, ⟨4, _⟩ => ⟨S8192x4096, .f32⟩
  | .hbm, ⟨5, _⟩ => ⟨S8192x2048, .f32⟩
  | .hbm, ⟨6, _⟩ => ⟨S8192x2048, .f32⟩
  | .hbm, ⟨7, _⟩ => ⟨S2048x4096, .f32⟩
  | .hbm, ⟨8, _⟩ => ⟨S4096x2048, .f32⟩
  | .hbm, ⟨9, _⟩ => ⟨S4096x2048, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== CrossArg.lean ====
abbrev S2048x2048 : Shape := ⟨2, ![2048, 2048]⟩
abbrev S8192x2048 : Shape := ⟨2, ![8192, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S8192x2048, .bf16⟩
  | .hbm, ⟨2, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== CrossArgReferenceIdeal.lean ====
abbrev S2048x2048 : Shape := ⟨2, ![2048, 2048]⟩
abbrev S8192x2048 : Shape := ⟨2, ![8192, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S8192x2048, .bf16⟩
  | .hbm, ⟨2, _⟩ => ⟨S_, .f32⟩
  | .hbm, ⟨3, _⟩ => ⟨S8192x2048, .f32⟩
  | .hbm, ⟨4, _⟩ => ⟨S2048x2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== CrossWeights.lean ====
abbrev S8192x2048 : Shape := ⟨2, ![8192, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== CrossWeightsIdeal.lean ====
abbrev S8192x2048 : Shape := ⟨2, ![8192, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== CrossWeightsReferenceIdeal.lean ====
abbrev S8192x2048 : Shape := ⟨2, ![8192, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S_, .f32⟩
  | .hbm, ⟨3, _⟩ => ⟨S2048x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== InWeights.lean ====
abbrev S8192x2048 : Shape := ⟨2, ![8192, 2048]⟩
abbrev S8192x14336 : Shape := ⟨2, ![8192, 14336]⟩
abbrev S4x2048x3584 : Shape := ⟨3, ![4, 2048, 3584]⟩
abbrev S2048x1024 : Shape := ⟨2, ![2048, 1024]⟩
abbrev S2048x1792 : Shape := ⟨2, ![2048, 1792]⟩
abbrev S1x1024x1792 : Shape := ⟨3, ![1, 1024, 1792]⟩
abbrev S1024x1792 : Shape := ⟨2, ![1024, 1792]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x14336, .bf16⟩
  | .hbm, ⟨2, _⟩ => ⟨S4x2048x3584, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1792, .bf16⟩
  | .local _ .vmem, ⟨3, _⟩ => ⟨S2048x1792, .bf16⟩
  | .local _ .vmem, ⟨4, _⟩ => ⟨S1x1024x1792, .bf16⟩
  | .local _ .vmem, ⟨5, _⟩ => ⟨S1x1024x1792, .bf16⟩
  | .local _ .vmem, ⟨6, _⟩ => ⟨S1024x1792, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InWeightsReferenceIdeal.lean ====
abbrev S8192x2048 : Shape := ⟨2, ![8192, 2048]⟩
abbrev S8192x14336 : Shape := ⟨2, ![8192, 14336]⟩
abbrev S_ : Shape := ⟨0, ![]⟩
abbrev S2048x14336 : Shape := ⟨2, ![2048, 14336]⟩
abbrev S14336x2048 : Shape := ⟨2, ![14336, 2048]⟩
abbrev S2048x4x3584 : Shape := ⟨3, ![2048, 4, 3584]⟩
abbrev S4x2048x3584 : Shape := ⟨3, ![4, 2048, 3584]⟩

abbrev nBuf : Space → Nat
  | .hbm => 12
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x14336, .bf16⟩
  | .hbm, ⟨2, _⟩ => ⟨S_, .f32⟩
  | .hbm, ⟨3, _⟩ => ⟨S2048x14336, .f32⟩
  | .hbm, ⟨4, _⟩ => ⟨S8192x2048, .f32⟩
  | .hbm, ⟨5, _⟩ => ⟨S8192x14336, .f32⟩
  | .hbm, ⟨6, _⟩ => ⟨S8192x14336, .f32⟩
  | .hbm, ⟨7, _⟩ => ⟨S14336x2048, .f32⟩
  | .hbm, ⟨8, _⟩ => ⟨S2048x14336, .f32⟩
  | .hbm, ⟨9, _⟩ => ⟨S2048x4x3584, .f32⟩
  | .hbm, ⟨10, _⟩ => ⟨S4x2048x3584, .f32⟩
  | .hbm, ⟨11, _⟩ => ⟨S4x2048x3584, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== InC.lean ====
abbrev S8192x2048 : Shape := ⟨2, ![8192, 2048]⟩
abbrev S4x2048x3072 : Shape := ⟨3, ![4, 2048, 3072]⟩
abbrev S8192x12288 : Shape := ⟨2, ![8192, 12288]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S4x2048x3072, .bf16⟩
  | .hbm, ⟨2, _⟩ => ⟨S8192x12288, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .bf16⟩
  | .local _ .vmem, ⟨5, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 12, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.divsi arg1 c3_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg1 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InCReferenceIdeal.lean ====
abbrev S8192x2048 : Shape := ⟨2, ![8192, 2048]⟩
abbrev S4x2048x3072 : Shape := ⟨3, ![4, 2048, 3072]⟩
abbrev S2048x4x3072 : Shape := ⟨3, ![2048, 4, 3072]⟩
abbrev S2048x12288 : Shape := ⟨2, ![2048, 12288]⟩
abbrev S8192x12288 : Shape := ⟨2, ![8192, 12288]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x2048x3072, .bf16⟩
  | .hbm, ⟨2, _⟩ => ⟨S4x2048x3072, .f32⟩
  | .hbm, ⟨3, _⟩ => ⟨S2048x4x3072, .f32⟩
  | .hbm, ⟨4, _⟩ => ⟨S2048x12288, .f32⟩
  | .hbm, ⟨5, _⟩ => ⟨S8192x2048, .f32⟩
  | .hbm, ⟨6, _⟩ => ⟨S8192x12288, .f32⟩
  | .hbm, ⟨7, _⟩ => ⟨S8192x12288, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== OutC.lean ====
abbrev S8192x4096 : Shape := ⟨2, ![8192, 4096]⟩
abbrev S4096x2048 : Shape := ⟨2, ![4096, 2048]⟩
abbrev S8192x2048 : Shape := ⟨2, ![8192, 2048]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S8192x4096, .bf16⟩
  | .hbm, ⟨1, _⟩ => ⟨S4096x2048, .bf16⟩
  | .hbm, ⟨2, _⟩ => ⟨S8192x2048, .f32⟩
  | .hbm, ⟨3, _⟩ => ⟨S8192x2048, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutCIdeal.lean ====
abbrev S8192x4096 : Shape := ⟨2, ![8192, 4096]⟩
abbrev S4096x2048 : Shape := ⟨2, ![4096, 2048]⟩
abbrev S8192x2048 : Shape := ⟨2, ![8192, 2048]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S8192x4096, .bf16⟩
  | .hbm, ⟨1, _⟩ => ⟨S4096x2048, .bf16⟩
  | .hbm, ⟨2, _⟩ => ⟨S8192x2048, .f32⟩
  | .hbm, ⟨3, _⟩ => ⟨S8192x2048, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutCReferenceIdeal.lean ====
abbrev S8192x4096 : Shape := ⟨2, ![8192, 4096]⟩
abbrev S4096x2048 : Shape := ⟨2, ![4096, 2048]⟩
abbrev S8192x2048 : Shape := ⟨2, ![8192, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x2048, .bf16⟩
  | .hbm, ⟨2, _⟩ => ⟨S8192x2048, .f32⟩
  | .hbm, ⟨3, _⟩ => ⟨S8192x4096, .f32⟩
  | .hbm, ⟨4, _⟩ => ⟨S4096x2048, .f32⟩
  | .hbm, ⟨5, _⟩ => ⟨S8192x2048, .f32⟩
  | .hbm, ⟨6, _⟩ => ⟨S8192x2048, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== CrossQ.lean ====
abbrev S8192x2048 : Shape := ⟨2, ![8192, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== CrossQIdeal.lean ====
abbrev S8192x2048 : Shape := ⟨2, ![8192, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== CrossQReferenceIdeal.lean ====
abbrev S8192x2048 : Shape := ⟨2, ![8192, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S2048x2048, .f32⟩
  | .hbm, ⟨4, _⟩ => ⟨S8192x2048, .f32⟩
  | .hbm, ⟨5, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== CrossO.lean ====
abbrev S8192x2048 : Shape := ⟨2, ![8192, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== CrossOReferenceIdeal.lean ====
abbrev S8192x2048 : Shape := ⟨2, ![8192, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S8192x2048, .f32⟩
  | .hbm, ⟨4, _⟩ => ⟨S2048x2048, .f32⟩
  | .hbm, ⟨5, _⟩ => ⟨S8192x2048, .f32⟩
  | .hbm, ⟨6, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Cross.lean ====
abbrev S8192x2048 : Shape := ⟨2, ![8192, 2048]⟩
abbrev S256x2048 : Shape := ⟨2, ![256, 2048]⟩
abbrev S4x8192x1 : Shape := ⟨3, ![4, 8192, 1]⟩
abbrev S512x512 : Shape := ⟨2, ![512, 512]⟩
abbrev S256x512 : Shape := ⟨2, ![256, 512]⟩
abbrev S1x512x1 : Shape := ⟨3, ![1, 512, 1]⟩
abbrev S512x256 : Shape := ⟨2, ![512, 256]⟩
abbrev S512 : Shape := ⟨1, ![512]⟩
abbrev S512x1 : Shape := ⟨2, ![512, 1]⟩

abbrev nBuf : Space → Nat
  | .hbm => 5
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S256x2048, .bf16⟩
  | .hbm, ⟨2, _⟩ => ⟨S256x2048, .bf16⟩
  | .hbm, ⟨3, _⟩ => ⟨S8192x2048, .bf16⟩
  | .hbm, ⟨4, _⟩ => ⟨S4x8192x1, .f32⟩
  | .local _ .vmem, ⟨0, _⟩ => ⟨S512x512, .bf16⟩
  | .local _ .vmem, ⟨1, _⟩ => ⟨S512x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S512x512, .bf16⟩
  | .local _ .vmem, ⟨7, _⟩ => ⟨S512x512, .bf16⟩
  | .local _ .vmem, ⟨8, _⟩ => ⟨S1x512x1, .f32⟩
  | .local _ .vmem, ⟨9, _⟩ => ⟨S1x512x1, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== CrossReferenceIdeal.lean ====
abbrev S8192x2048 : Shape := ⟨2, ![8192, 2048]⟩
abbrev S256x2048 : Shape := ⟨2, ![256, 2048]⟩
abbrev S8192x4x512 : Shape := ⟨3, ![8192, 4, 512]⟩
abbrev S256x4x512 : Shape := ⟨3, ![256, 4, 512]⟩
abbrev S4x8192x256 : Shape := ⟨3, ![4, 8192, 256]⟩
abbrev S_ : Shape := ⟨0, ![]⟩
abbrev S4x8192 : Shape := ⟨2, ![4, 8192]⟩
abbrev S4x8192x1 : Shape := ⟨3, ![4, 8192, 1]⟩
abbrev S4x512x8192 : Shape := ⟨3, ![4, 512, 8192]⟩

abbrev nBuf : Space → Nat
  | .hbm => 42
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S256x2048, .bf16⟩
  | .hbm, ⟨2, _⟩ => ⟨S256x2048, .bf16⟩
  | .hbm, ⟨3, _⟩ => ⟨S8192x2048, .f32⟩
  | .hbm, ⟨4, _⟩ => ⟨S256x2048, .f32⟩
  | .hbm, ⟨5, _⟩ => ⟨S256x2048, .f32⟩
  | .hbm, ⟨6, _⟩ => ⟨S8192x4x512, .f32⟩
  | .hbm, ⟨7, _⟩ => ⟨S256x4x512, .f32⟩
  | .hbm, ⟨8, _⟩ => ⟨S4x8192x256, .f32⟩
  | .hbm, ⟨9, _⟩ => ⟨S_, .f32⟩
  | .hbm, ⟨10, _⟩ => ⟨S4x8192x256, .f32⟩
  | .hbm, ⟨11, _⟩ => ⟨S4x8192x256, .f32⟩
  | .hbm, ⟨12, _⟩ => ⟨S_, .f32⟩
  | .hbm, ⟨13, _⟩ => ⟨S4x8192, .f32⟩
  | .hbm, ⟨14, _⟩ => ⟨S_, .f32⟩
  | .hbm, ⟨15, _⟩ => ⟨S4x8192, .f32⟩
  | .hbm, ⟨16, _⟩ => ⟨S4x8192, .f32⟩
  | .hbm, ⟨17, _⟩ => ⟨S4x8192x1, .f32⟩
  | .hbm, ⟨18, _⟩ => ⟨S4x8192x256, .f32⟩
  | .hbm, ⟨19, _⟩ => ⟨S4x8192x256, .f32⟩
  | .hbm, ⟨20, _⟩ => ⟨S4x8192x256, .f32⟩
  | .hbm, ⟨21, _⟩ => ⟨S_, .f32⟩
  | .hbm, ⟨22, _⟩ => ⟨S4x8192, .f32⟩
  | .hbm, ⟨23, _⟩ => ⟨S4x8192x1, .f32⟩
  | .hbm, ⟨24, _⟩ => ⟨S4x8192x256, .f32⟩
  | .hbm, ⟨25, _⟩ => ⟨S4x8192x256, .f32⟩
  | .hbm, ⟨26, _⟩ => ⟨S256x4x512, .f32⟩
  | .hbm, ⟨27, _⟩ => ⟨S4x512x8192, .f32⟩
  | .hbm, ⟨28, _⟩ => ⟨S8192x4x512, .f32⟩
  | .hbm, ⟨29, _⟩ => ⟨S8192x2048, .f32⟩
  | .hbm, ⟨30, _⟩ => ⟨S8192x2048, .bf16⟩
  | .hbm, ⟨31, _⟩ => ⟨S8192x4x512, .f32⟩
  | .hbm, ⟨32, _⟩ => ⟨S256x4x512, .f32⟩
  | .hbm, ⟨33, _⟩ => ⟨S4x8192x256, .f32⟩
  | .hbm, ⟨34, _⟩ => ⟨S_, .f32⟩
  | .hbm, ⟨35, _⟩ => ⟨S4x8192x256, .f32⟩
  | .hbm, ⟨36, _⟩ => ⟨S4x8192x256, .f32⟩
  | .hbm, ⟨37, _⟩ => ⟨S4x8192x256, .f32⟩
  | .hbm, ⟨38, _⟩ => ⟨S_, .f32⟩
  | .hbm, ⟨39, _⟩ => ⟨S4x8192, .f32⟩
  | .hbm, ⟨40, _⟩ => ⟨S4x8192x1, .f32⟩
  | .hbm, ⟨41, _⟩ => ⟨S4x8192x1, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_3 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_4 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩

abbrev nD : Nat := 1
abbrev τ : Topo := Topo.v7x

variable {F : FTy → Type} [FloatOps F]
-- ==== CrossGrad.lean ====
abbrev S8192x2048 : Shape := ⟨2, ![8192, 2048]⟩
abbrev S256x2048 : Shape := ⟨2, ![256, 2048]⟩
abbrev S8192x4x512 : Shape := ⟨3, ![8192, 4, 512]⟩
abbrev S256x4x512 : Shape := ⟨3, ![256, 4, 512]⟩
abbrev S4x8192x256 : Shape := ⟨3, ![4, 8192, 256]⟩
abbrev S_ : Shape := ⟨0, ![]⟩
abbrev S4x8192 : Shape := ⟨2, ![4, 8192]⟩
abbrev S4x8192x1 : Shape := ⟨3, ![4, 8192, 1]⟩
abbrev S4x512x8192 : Shape := ⟨3, ![4, 512, 8192]⟩
abbrev S512x512 : Shape := ⟨2, ![512, 512]⟩
abbrev S256x512 : Shape := ⟨2, ![256, 512]⟩
abbrev S1x512x1 : Shape := ⟨3, ![1, 512, 1]⟩
abbrev S512x256 : Shape := ⟨2, ![512, 256]⟩
abbrev S512x1 : Shape := ⟨2, ![512, 1]⟩
abbrev S512 : Shape := ⟨1, ![512]⟩

abbrev nBuf : Space → Nat
  | .hbm => 52
  | .vmem => 18
  | .smem => 0
  | _ => 0

abbrev bufTy : (tb : Table) → Fin (tcTables nBuf tb) → BufTy
  | .hbm, ⟨0, _⟩ => ⟨S8192x2048, .bf16⟩
  | .hbm, ⟨1, _⟩ => ⟨S256x2048, .bf16⟩
  | .hbm, ⟨2, _⟩ => ⟨S256x2048, .bf16⟩
  | .hbm, ⟨3, _⟩ => ⟨S8192x2048, .bf16⟩
  | .hbm, ⟨4, _⟩ => ⟨S8192x2048, .f32⟩
  | .hbm, ⟨5, _⟩ => ⟨S256x2048, .f32⟩
  | .hbm, ⟨6, _⟩ => ⟨S256x2048, .f32⟩
  | .hbm, ⟨7, _⟩ => ⟨S8192x4x512, .f32⟩
  | .hbm, ⟨8, _⟩ => ⟨S256x4x512, .f32⟩
  | .hbm, ⟨9, _⟩ => ⟨S4x8192x256, .f32⟩
  | .hbm, ⟨10, _⟩ => ⟨S_, .f32⟩
  | .hbm, ⟨11, _⟩ => ⟨S4x8192x256, .f32⟩
  | .hbm, ⟨12, _⟩ => ⟨S4x8192x256, .f32⟩
  | .hbm, ⟨13, _⟩ => ⟨S_, .f32⟩
  | .hbm, ⟨14, _⟩ => ⟨S4x8192, .f32⟩
  | .hbm, ⟨15, _⟩ => ⟨S4x8192x1, .f32⟩
  | .hbm, ⟨16, _⟩ => ⟨S4x8192x256, .f32⟩
  | .hbm, ⟨17, _⟩ => ⟨S4x8192x256, .f32⟩
  | .hbm, ⟨18, _⟩ => ⟨S4x8192x256, .f32⟩
  | .hbm, ⟨19, _⟩ => ⟨S_, .f32⟩
  | .hbm, ⟨20, _⟩ => ⟨S4x8192, .f32⟩
  | .hbm, ⟨21, _⟩ => ⟨S4x8192x1, .f32⟩
  | .hbm, ⟨22, _⟩ => ⟨S4x8192x1, .f32⟩
  | .hbm, ⟨23, _⟩ => ⟨S4x8192x1, .f32⟩
  | .hbm, ⟨24, _⟩ => ⟨S8192x4x512, .f32⟩
  | .hbm, ⟨25, _⟩ => ⟨S256x4x512, .f32⟩
  | .hbm, ⟨26, _⟩ => ⟨S4x8192x256, .f32⟩
  | .hbm, ⟨27, _⟩ => ⟨S_, .f32⟩
  | .hbm, ⟨28, _⟩ => ⟨S4x8192x256, .f32⟩
  | .hbm, ⟨29, _⟩ => ⟨S4x8192x256, .f32⟩
  | .hbm, ⟨30, _⟩ => ⟨S_, .f32⟩
  | .hbm, ⟨31, _⟩ => ⟨S4x8192, .f32⟩
  | .hbm, ⟨32, _⟩ => ⟨S_, .f32⟩
  | .hbm, ⟨33, _⟩ => ⟨S4x8192, .f32⟩
  | .hbm, ⟨34, _⟩ => ⟨S4x8192, .f32⟩
  | .hbm, ⟨35, _⟩ => ⟨S4x8192x1, .f32⟩
  | .hbm, ⟨36, _⟩ => ⟨S4x8192x256, .f32⟩
  | .hbm, ⟨37, _⟩ => ⟨S4x8192x256, .f32⟩
  | .hbm, ⟨38, _⟩ => ⟨S4x8192x256, .f32⟩
  | .hbm, ⟨39, _⟩ => ⟨S_, .f32⟩
  | .hbm, ⟨40, _⟩ => ⟨S4x8192, .f32⟩
  | .hbm, ⟨41, _⟩ => ⟨S4x8192x1, .f32⟩
  | .hbm, ⟨42, _⟩ => ⟨S4x8192x256, .f32⟩
  | .hbm, ⟨43, _⟩ => ⟨S4x8192x256, .f32⟩
  | .hbm, ⟨44, _⟩ => ⟨S256x4x512, .f32⟩
  | .hbm, ⟨45, _⟩ => ⟨S4x512x8192, .f32⟩
  | .hbm, ⟨46, _⟩ => ⟨S8192x4x512, .f32⟩
  | .hbm, ⟨47, _⟩ => ⟨S8192x2048, .f32⟩
  | .hbm, ⟨48, _⟩ => ⟨S8192x2048, .bf16⟩
  | .hbm, ⟨49, _⟩ => ⟨S8192x2048, .bf16⟩
  | .hbm, ⟨50, _⟩ => ⟨S256x2048, .f32⟩
  | .hbm, ⟨51, _⟩ => ⟨S256x2048, .f32⟩
  | .local _ .vmem, ⟨0, _⟩ => ⟨S512x512, .bf16⟩
  | .local _ .vmem, ⟨1, _⟩ => ⟨S512x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S1x512x1, .f32⟩
  | .local _ .vmem, ⟨11, _⟩ => ⟨S1x512x1, .f32⟩
  | .local _ .vmem, ⟨12, _⟩ => ⟨S512x512, .bf16⟩
  | .local _ .vmem, ⟨13, _⟩ => ⟨S512x512, .bf16⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_5 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38_0 : Ref sig .tc := ⟨.hbm, 49, rfl⟩
abbrev main_v38_1 : Ref sig .tc := ⟨.hbm, 50, rfl⟩
abbrev main_v38_2 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 16], ![false, false]⟩

def k0_cond1 (i : grid0.Coords) : BitVec 1 :=
  let arg1 : BitVec 32 := BitVec.ofNat 32 (i 1).val
  let c0_i32 : BitVec 32 := 0#32
  let v34 : BitVec 1 := Scalar.cmpi .eq arg1 c0_i32
  let v35 : BitVec 32 := Scalar.extui v34
  let c0_i32_22 : BitVec 32 := 0#32
  let v36 : BitVec 1 := Scalar.cmpi .ne v35 c0_i32_22
  v36

def k0_cond2 (i : grid0.Coords) : BitVec 1 :=
  let arg1 : BitVec 32 := BitVec.ofNat 32 (i 1).val
  let c0_i32_23 : BitVec 32 := 0#32
  let v37 : BitVec 1 := Scalar.cmpi .sgt arg1 c0_i32_23
  let v38 : BitVec 32 := Scalar.extui v37
  let c0_i32_24 : BitVec 32 := 0#32
  let v39 : BitVec 1 := Scalar.cmpi .ne v38 c0_i32_24
  v39

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== CrossGradReferenceIdeal.lean ====
abbrev S8192x2048 : Shape := ⟨2, ![8192, 2048]⟩
abbrev S256x2048 : Shape := ⟨2, ![256, 2048]⟩
abbrev S8192x4x512 : Shape := ⟨3, ![8192, 4, 512]⟩
abbrev S256x4x512 : Shape := ⟨3, ![256, 4, 512]⟩
abbrev S4x8192x256 : Shape := ⟨3, ![4, 8192, 256]⟩
abbrev S_ : Shape := ⟨0, ![]⟩
abbrev S4x8192 : Shape := ⟨2, ![4, 8192]⟩
abbrev S4x8192x1 : Shape := ⟨3, ![4, 8192, 1]⟩
abbrev S4x512x8192 : Shape := ⟨3, ![4, 512, 8192]⟩
abbrev S4x512x256 : Shape := ⟨3, ![4, 512, 256]⟩
abbrev S4x256x512 : Shape := ⟨3, ![4, 256, 512]⟩
abbrev S4x8192x512 : Shape := ⟨3, ![4, 8192, 512]⟩

abbrev nBuf : Space → Nat
  | .hbm => 86
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S256x2048, .bf16⟩
  | .hbm, ⟨2, _⟩ => ⟨S256x2048, .bf16⟩
  | .hbm, ⟨3, _⟩ => ⟨S8192x2048, .bf16⟩
  | .hbm, ⟨4, _⟩ => ⟨S8192x2048, .f32⟩
  | .hbm, ⟨5, _⟩ => ⟨S256x2048, .f32⟩
  | .hbm, ⟨6, _⟩ => ⟨S256x2048, .f32⟩
  | .hbm, ⟨7, _⟩ => ⟨S8192x4x512, .f32⟩
  | .hbm, ⟨8, _⟩ => ⟨S256x4x512, .f32⟩
  | .hbm, ⟨9, _⟩ => ⟨S4x8192x256, .f32⟩
  | .hbm, ⟨10, _⟩ => ⟨S_, .f32⟩
  | .hbm, ⟨11, _⟩ => ⟨S4x8192x256, .f32⟩
  | .hbm, ⟨12, _⟩ => ⟨S4x8192x256, .f32⟩
  | .hbm, ⟨13, _⟩ => ⟨S_, .f32⟩
  | .hbm, ⟨14, _⟩ => ⟨S4x8192, .f32⟩
  | .hbm, ⟨15, _⟩ => ⟨S4x8192x1, .f32⟩
  | .hbm, ⟨16, _⟩ => ⟨S4x8192x256, .f32⟩
  | .hbm, ⟨17, _⟩ => ⟨S4x8192x256, .i1⟩
  | .hbm, ⟨18, _⟩ => ⟨S4x8192x256, .f32⟩
  | .hbm, ⟨19, _⟩ => ⟨S_, .f32⟩
  | .hbm, ⟨20, _⟩ => ⟨S4x8192, .f32⟩
  | .hbm, ⟨21, _⟩ => ⟨S_, .f32⟩
  | .hbm, ⟨22, _⟩ => ⟨S4x8192, .f32⟩
  | .hbm, ⟨23, _⟩ => ⟨S4x8192, .f32⟩
  | .hbm, ⟨24, _⟩ => ⟨S_, .f32⟩
  | .hbm, ⟨25, _⟩ => ⟨S4x8192, .f32⟩
  | .hbm, ⟨26, _⟩ => ⟨S4x8192, .i1⟩
  | .hbm, ⟨27, _⟩ => ⟨S_, .f32⟩
  | .hbm, ⟨28, _⟩ => ⟨S4x8192, .f32⟩
  | .hbm, ⟨29, _⟩ => ⟨S4x8192, .i1⟩
  | .hbm, ⟨30, _⟩ => ⟨S_, .f32⟩
  | .hbm, ⟨31, _⟩ => ⟨S4x8192, .f32⟩
  | .hbm, ⟨32, _⟩ => ⟨S_, .f32⟩
  | .hbm, ⟨33, _⟩ => ⟨S4x8192, .f32⟩
  | .hbm, ⟨34, _⟩ => ⟨S_, .f32⟩
  | .hbm, ⟨35, _⟩ => ⟨S4x8192, .f32⟩
  | .hbm, ⟨36, _⟩ => ⟨S4x8192, .f32⟩
  | .hbm, ⟨37, _⟩ => ⟨S4x8192, .f32⟩
  | .hbm, ⟨38, _⟩ => ⟨S4x8192x1, .f32⟩
  | .hbm, ⟨39, _⟩ => ⟨S4x8192x256, .f32⟩
  | .hbm, ⟨40, _⟩ => ⟨S4x8192x256, .f32⟩
  | .hbm, ⟨41, _⟩ => ⟨S4x8192x256, .f32⟩
  | .hbm, ⟨42, _⟩ => ⟨S_, .f32⟩
  | .hbm, ⟨43, _⟩ => ⟨S4x8192, .f32⟩
  | .hbm, ⟨44, _⟩ => ⟨S4x8192x1, .f32⟩
  | .hbm, ⟨45, _⟩ => ⟨S4x8192x256, .f32⟩
  | .hbm, ⟨46, _⟩ => ⟨S4x8192x256, .f32⟩
  | .hbm, ⟨47, _⟩ => ⟨S4x8192x1, .f32⟩
  | .hbm, ⟨48, _⟩ => ⟨S_, .f32⟩
  | .hbm, ⟨49, _⟩ => ⟨S4x8192x1, .f32⟩
  | .hbm, ⟨50, _⟩ => ⟨S4x8192x1, .f32⟩
  | .hbm, ⟨51, _⟩ => ⟨S256x4x512, .f32⟩
  | .hbm, ⟨52, _⟩ => ⟨S4x512x8192, .f32⟩
  | .hbm, ⟨53, _⟩ => ⟨S8192x4x512, .f32⟩
  | .hbm, ⟨54, _⟩ => ⟨S8192x2048, .f32⟩
  | .hbm, ⟨55, _⟩ => ⟨S8192x2048, .f32⟩
  | .hbm, ⟨56, _⟩ => ⟨S8192x4x512, .f32⟩
  | .hbm, ⟨57, _⟩ => ⟨S4x512x8192, .f32⟩
  | .hbm, ⟨58, _⟩ => ⟨S4x8192x256, .f32⟩
  | .hbm, ⟨59, _⟩ => ⟨S4x512x256, .f32⟩
  | .hbm, ⟨60, _⟩ => ⟨S256x4x512, .f32⟩
  | .hbm, ⟨61, _⟩ => ⟨S256x2048, .f32⟩
  | .hbm, ⟨62, _⟩ => ⟨S4x8192x256, .f32⟩
  | .hbm, ⟨63, _⟩ => ⟨S4x8192x256, .f32⟩
  | .hbm, ⟨64, _⟩ => ⟨S4x8192x256, .f32⟩
  | .hbm, ⟨65, _⟩ => ⟨S_, .f32⟩
  | .hbm, ⟨66, _⟩ => ⟨S4x8192, .f32⟩
  | .hbm, ⟨67, _⟩ => ⟨S4x8192x1, .f32⟩
  | .hbm, ⟨68, _⟩ => ⟨S4x8192x1, .f32⟩
  | .hbm, ⟨69, _⟩ => ⟨S4x8192x256, .f32⟩
  | .hbm, ⟨70, _⟩ => ⟨S4x8192x256, .f32⟩
  | .hbm, ⟨71, _⟩ => ⟨S_, .f32⟩
  | .hbm, ⟨72, _⟩ => ⟨S4x8192, .f32⟩
  | .hbm, ⟨73, _⟩ => ⟨S4x8192x256, .f32⟩
  | .hbm, ⟨74, _⟩ => ⟨S4x8192x256, .f32⟩
  | .hbm, ⟨75, _⟩ => ⟨S4x8192x256, .f32⟩
  | .hbm, ⟨76, _⟩ => ⟨S_, .f32⟩
  | .hbm, ⟨77, _⟩ => ⟨S4x8192x256, .f32⟩
  | .hbm, ⟨78, _⟩ => ⟨S4x8192x256, .f32⟩
  | .hbm, ⟨79, _⟩ => ⟨S4x256x512, .f32⟩
  | .hbm, ⟨80, _⟩ => ⟨S256x4x512, .f32⟩
  | .hbm, ⟨81, _⟩ => ⟨S4x8192x512, .f32⟩
  | .hbm, ⟨82, _⟩ => ⟨S8192x4x512, .f32⟩
  | .hbm, ⟨83, _⟩ => ⟨S256x2048, .f32⟩
  | .hbm, ⟨84, _⟩ => ⟨S8192x2048, .f32⟩
  | .hbm, ⟨85, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_8 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_9 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_10 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_cst_11 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_12 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩

abbrev nD : Nat := 1
abbrev τ : Topo := Topo.v7x

variable {F : FTy → Type} [FloatOps F]
-- ==== MemKeys.lean ====
abbrev S256x2048 : Shape := ⟨2, ![256, 2048]⟩
abbrev S2048x2048 : Shape := ⟨2, ![2048, 2048]⟩
abbrev S2048x1024 : Shape := ⟨2, ![2048, 1024]⟩
abbrev S256x1024 : Shape := ⟨2, ![256, 1024]⟩

abbrev nBuf : Space → Nat
  | .hbm => 3
  | .vmem => 5
  | .smem => 0
  | _ => 0

abbrev bufTy : (tb : Table) → Fin (tcTables nBuf tb) → BufTy
  | .hbm, ⟨0, _⟩ => ⟨S256x2048, .bf16⟩
  | .hbm, ⟨1, _⟩ => ⟨S2048x2048, .bf16⟩
  | .hbm, ⟨2, _⟩ => ⟨S256x2048, .bf16⟩
  | .local _ .vmem, ⟨0, _⟩ => ⟨S256x2048, .bf16⟩
  | .local _ .vmem, ⟨1, _⟩ => ⟨S2048x1024, .bf16⟩
  | .local _ .vmem, ⟨2, _⟩ => ⟨S2048x1024, .bf16⟩
  | .local _ .vmem, ⟨3, _⟩ => ⟨S256x1024, .bf16⟩
  | .local _ .vmem, ⟨4, _⟩ => ⟨S256x1024, .bf16⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MemKeysReferenceIdeal.lean ====
abbrev S256x2048 : Shape := ⟨2, ![256, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S2048x2048, .bf16⟩
  | .hbm, ⟨2, _⟩ => ⟨S256x2048, .f32⟩
  | .hbm, ⟨3, _⟩ => ⟨S2048x2048, .f32⟩
  | .hbm, ⟨4, _⟩ => ⟨S256x2048, .f32⟩
  | .hbm, ⟨5, _⟩ => ⟨S256x2048, .bf16⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== MemArg.lean ====
abbrev S2048x2048 : Shape := ⟨2, ![2048, 2048]⟩
abbrev S256x2048 : Shape := ⟨2, ![256, 2048]⟩
abbrev S1024x2048 : Shape := ⟨2, ![1024, 2048]⟩
abbrev S256x1024 : Shape := ⟨2, ![256, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S256x2048, .f32⟩
  | .hbm, ⟨2, _⟩ => ⟨S256x2048, .f32⟩
  | .local _ .vmem, ⟨0, _⟩ => ⟨S256x2048, .f32⟩
  | .local _ .vmem, ⟨1, _⟩ => ⟨S1024x2048, .bf16⟩
  | .local _ .vmem, ⟨2, _⟩ => ⟨S1024x2048, .bf16⟩
  | .local _ .vmem, ⟨3, _⟩ => ⟨S256x1024, .f32⟩
  | .local _ .vmem, ⟨4, _⟩ => ⟨S256x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MemArgReferenceIdeal.lean ====
abbrev S2048x2048 : Shape := ⟨2, ![2048, 2048]⟩
abbrev S256x2048 : Shape := ⟨2, ![256, 2048]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S256x2048, .f32⟩
  | .hbm, ⟨2, _⟩ => ⟨S_, .f32⟩
  | .hbm, ⟨3, _⟩ => ⟨S256x2048, .f32⟩
  | .hbm, ⟨4, _⟩ => ⟨S2048x2048, .f32⟩
  | .hbm, ⟨5, _⟩ => ⟨S256x2048, .f32⟩
  | .hbm, ⟨6, _⟩ => ⟨S256x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== MemWeights.lean ====
abbrev S256x2048 : Shape := ⟨2, ![256, 2048]⟩
abbrev S2048x2048 : Shape := ⟨2, ![2048, 2048]⟩
abbrev S256x1024 : Shape := ⟨2, ![256, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S256x2048, .bf16⟩
  | .hbm, ⟨1, _⟩ => ⟨S256x2048, .f32⟩
  | .hbm, ⟨2, _⟩ => ⟨S2048x2048, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .f32⟩
  | .local _ .vmem, ⟨3, _⟩ => ⟨S256x1024, .f32⟩
  | .local _ .vmem, ⟨4, _⟩ => ⟨S1024x1024, .bf16⟩
  | .local _ .vmem, ⟨5, _⟩ => ⟨S1024x1024, .bf16⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MemWeightsReferenceIdeal.lean ====
abbrev S256x2048 : Shape := ⟨2, ![256, 2048]⟩
abbrev S_ : Shape := ⟨0, ![]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S256x2048, .f32⟩
  | .hbm, ⟨2, _⟩ => ⟨S_, .f32⟩
  | .hbm, ⟨3, _⟩ => ⟨S2048x2048, .f32⟩
  | .hbm, ⟨4, _⟩ => ⟨S256x2048, .f32⟩
  | .hbm, ⟨5, _⟩ => ⟨S256x2048, .f32⟩
  | .hbm, ⟨6, _⟩ => ⟨S2048x2048, .f32⟩
  | .hbm, ⟨7, _⟩ => ⟨S2048x2048, .f32⟩
  | .hbm, ⟨8, _⟩ => ⟨S2048x2048, .bf16⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Norm.lean ====
abbrev S8192x2048 : Shape := ⟨2, ![8192, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048, .f32⟩
  | .hbm, ⟨3, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormIdeal.lean ====
abbrev S8192x2048 : Shape := ⟨2, ![8192, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048, .f32⟩
  | .hbm, ⟨3, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormReferenceIdeal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S1x2048, .f32⟩
  | .hbm, ⟨16, _⟩ => ⟨S8192x2048, .f32⟩
  | .hbm, ⟨17, _⟩ => ⟨S8192x2048, .f32⟩
  | .hbm, ⟨18, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== MemNorm.lean ====
abbrev S256x2048 : Shape := ⟨2, ![256, 2048]⟩
abbrev S2048 : Shape := ⟨1, ![2048]⟩
abbrev S1x2048 : Shape := ⟨2, ![1, 2048]⟩
abbrev S256 : Shape := ⟨1, ![256]⟩
abbrev S256x1 : Shape := ⟨2, ![256, 1]⟩

abbrev nBuf : Space → Nat
  | .hbm => 4
  | .vmem => 3
  | .smem => 0
  | _ => 0

abbrev bufTy : (tb : Table) → Fin (tcTables nBuf tb) → BufTy
  | .hbm, ⟨0, _⟩ => ⟨S256x2048, .f32⟩
  | .hbm, ⟨1, _⟩ => ⟨S2048, .f32⟩
  | .hbm, ⟨2, _⟩ => ⟨S1x2048, .f32⟩
  | .hbm, ⟨3, _⟩ => ⟨S256x2048, .bf16⟩
  | .local _ .vmem, ⟨0, _⟩ => ⟨S256x2048, .f32⟩
  | .local _ .vmem, ⟨1, _⟩ => ⟨S1x2048, .f32⟩
  | .local _ .vmem, ⟨2, _⟩ => ⟨S256x2048, .bf16⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== MemNormReferenceIdeal.lean ====
abbrev S256x2048 : Shape := ⟨2, ![256, 2048]⟩
abbrev S2048 : Shape := ⟨1, ![2048]⟩
abbrev S_ : Shape := ⟨0, ![]⟩
abbrev S256 : Shape := ⟨1, ![256]⟩
abbrev S256x1 : Shape := ⟨2, ![256, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S2048, .f32⟩
  | .hbm, ⟨2, _⟩ => ⟨S256x2048, .f32⟩
  | .hbm, ⟨3, _⟩ => ⟨S_, .f32⟩
  | .hbm, ⟨4, _⟩ => ⟨S256, .f32⟩
  | .hbm, ⟨5, _⟩ => ⟨S256x1, .f32⟩
  | .hbm, ⟨6, _⟩ => ⟨S_, .f32⟩
  | .hbm, ⟨7, _⟩ => ⟨S256x1, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S256x1, .f32⟩
  | .hbm, ⟨13, _⟩ => ⟨S256x2048, .f32⟩
  | .hbm, ⟨14, _⟩ => ⟨S256x2048, .f32⟩
  | .hbm, ⟨15, _⟩ => ⟨S1x2048, .f32⟩
  | .hbm, ⟨16, _⟩ => ⟨S256x2048, .f32⟩
  | .hbm, ⟨17, _⟩ => ⟨S256x2048, .f32⟩
  | .hbm, ⟨18, _⟩ => ⟨S256x2048, .bf16⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== NormGrad.lean ====
abbrev S8192x2048 : Shape := ⟨2, ![8192, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 8
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .bf16⟩
  | .hbm, ⟨3, _⟩ => ⟨S8192x2048, .f32⟩
  | .hbm, ⟨4, _⟩ => ⟨S1x2048, .f32⟩
  | .hbm, ⟨5, _⟩ => ⟨S8192x2048, .f32⟩
  | .hbm, ⟨6, _⟩ => ⟨S8192x2048, .bf16⟩
  | .hbm, ⟨7, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v35 : BitVec 1 := Scalar.cmpi .eq arg0 c0_i32
  let v36 : BitVec 32 := Scalar.extui v35
  let c0_i32_16 : BitVec 32 := 0#32
  let v37 : BitVec 1 := Scalar.cmpi .ne v36 c0_i32_16
  v37

def k0_cond2 (i : grid0.Coords) : BitVec 1 :=
  let arg0 : BitVec 32 := BitVec.ofNat 32 (i 0).val
  let c0_i32_17 : BitVec 32 := 0#32
  let v38 : BitVec 1 := Scalar.cmpi .sgt arg0 c0_i32_17
  let v39 : BitVec 32 := Scalar.extui v38
  let c0_i32_18 : BitVec 32 := 0#32
  let v40 : BitVec 1 := Scalar.cmpi .ne v39 c0_i32_18
  v40

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== NormGradReferenceIdeal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 54
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .bf16⟩
  | .hbm, ⟨3, _⟩ => ⟨S8192x2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S1x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S2048, .f32⟩
  | .hbm, ⟨28, _⟩ => ⟨S1x2048, .f32⟩
  | .hbm, ⟨29, _⟩ => ⟨S8192x2048, .f32⟩
  | .hbm, ⟨30, _⟩ => ⟨S8192x2048, .f32⟩
  | .hbm, ⟨31, _⟩ => ⟨S_, .f32⟩
  | .hbm, ⟨32, _⟩ => ⟨S2048, .f32⟩
  | .hbm, ⟨33, _⟩ => ⟨S8192x2048, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S8192x2048, .f32⟩
  | .hbm, ⟨38, _⟩ => ⟨S8192x2048, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S_, .f32⟩
  | .hbm, ⟨44, _⟩ => ⟨S8192, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S8192x2048, .f32⟩
  | .hbm, ⟨52, _⟩ => ⟨S8192x2048, .bf16⟩
  | .hbm, ⟨53, _⟩ => ⟨S1x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== MemNormGrad.lean ====
abbrev S256x2048 : Shape := ⟨2, ![256, 2048]⟩
abbrev S2048 : Shape := ⟨1, ![2048]⟩
abbrev S1x2048 : Shape := ⟨2, ![1, 2048]⟩
abbrev S256 : Shape := ⟨1, ![256]⟩
abbrev S256x1 : Shape := ⟨2, ![256, 1]⟩

abbrev nBuf : Space → Nat
  | .hbm => 8
  | .vmem => 7
  | .smem => 0
  | _ => 0

abbrev bufTy : (tb : Table) → Fin (tcTables nBuf tb) → BufTy
  | .hbm, ⟨0, _⟩ => ⟨S256x2048, .f32⟩
  | .hbm, ⟨1, _⟩ => ⟨S2048, .f32⟩
  | .hbm, ⟨2, _⟩ => ⟨S256x2048, .f32⟩
  | .hbm, ⟨3, _⟩ => ⟨S256x2048, .f32⟩
  | .hbm, ⟨4, _⟩ => ⟨S1x2048, .f32⟩
  | .hbm, ⟨5, _⟩ => ⟨S256x2048, .f32⟩
  | .hbm, ⟨6, _⟩ => ⟨S256x2048, .bf16⟩
  | .hbm, ⟨7, _⟩ => ⟨S1x2048, .f32⟩
  | .local _ .vmem, ⟨0, _⟩ => ⟨S256x2048, .f32⟩
  | .local _ .vmem, ⟨1, _⟩ => ⟨S1x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .bf16⟩
  | .local _ .vmem, ⟨6, _⟩ => ⟨S1x2048, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def k0_cond1 (i : grid0.Coords) : BitVec 1 :=
  let arg0 : BitVec 32 := BitVec.ofNat 32 (i 0).val
  let c0_i32 : BitVec 32 := 0#32
  let v34 : BitVec 1 := Scalar.cmpi .eq arg0 c0_i32
  let v35 : BitVec 32 := Scalar.extui v34
  let c0_i32_16 : BitVec 32 := 0#32
  let v36 : BitVec 1 := Scalar.cmpi .ne v35 c0_i32_16
  v36

def k0_cond2 (i : grid0.Coords) : BitVec 1 :=
  let arg0 : BitVec 32 := BitVec.ofNat 32 (i 0).val
  let c0_i32_17 : BitVec 32 := 0#32
  let v37 : BitVec 1 := Scalar.cmpi .sgt arg0 c0_i32_17
  let v38 : BitVec 32 := Scalar.extui v37
  let c0_i32_18 : BitVec 32 := 0#32
  let v39 : BitVec 1 := Scalar.cmpi .ne v38 c0_i32_18
  v39

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== MemNormGradReferenceIdeal.lean ====
abbrev S256x2048 : Shape := ⟨2, ![256, 2048]⟩
abbrev S2048 : Shape := ⟨1, ![2048]⟩
abbrev S_ : Shape := ⟨0, ![]⟩
abbrev S256 : Shape := ⟨1, ![256]⟩
abbrev S256x1 : Shape := ⟨2, ![256, 1]⟩
abbrev S1x2048 : Shape := ⟨2, ![1, 2048]⟩

abbrev nBuf : Space → Nat
  | .hbm => 52
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S2048, .f32⟩
  | .hbm, ⟨2, _⟩ => ⟨S256x2048, .f32⟩
  | .hbm, ⟨3, _⟩ => ⟨S256x2048, .f32⟩
  | .hbm, ⟨4, _⟩ => ⟨S256x2048, .f32⟩
  | .hbm, ⟨5, _⟩ => ⟨S_, .f32⟩
  | .hbm, ⟨6, _⟩ => ⟨S256, .f32⟩
  | .hbm, ⟨7, _⟩ => ⟨S256x1, .f32⟩
  | .hbm, ⟨8, _⟩ => ⟨S_, .f32⟩
  | .hbm, ⟨9, _⟩ => ⟨S256x1, .f32⟩
  | .hbm, ⟨10, _⟩ => ⟨S256x1, .f32⟩
  | .hbm, ⟨11, _⟩ => ⟨S_, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S256x1, .f32⟩
  | .hbm, ⟨16, _⟩ => ⟨S_, .f32⟩
  | .hbm, ⟨17, _⟩ => ⟨S256x1, .f32⟩
  | .hbm, ⟨18, _⟩ => ⟨S256x1, .f32⟩
  | .hbm, ⟨19, _⟩ => ⟨S256x2048, .f32⟩
  | .hbm, ⟨20, _⟩ => ⟨S256x2048, .f32⟩
  | .hbm, ⟨21, _⟩ => ⟨S1x2048, .f32⟩
  | .hbm, ⟨22, _⟩ => ⟨S256x2048, .f32⟩
  | .hbm, ⟨23, _⟩ => ⟨S256x2048, .f32⟩
  | .hbm, ⟨24, _⟩ => ⟨S256x2048, .f32⟩
  | .hbm, ⟨25, _⟩ => ⟨S256x2048, .f32⟩
  | .hbm, ⟨26, _⟩ => ⟨S_, .f32⟩
  | .hbm, ⟨27, _⟩ => ⟨S2048, .f32⟩
  | .hbm, ⟨28, _⟩ => ⟨S1x2048, .f32⟩
  | .hbm, ⟨29, _⟩ => ⟨S256x2048, .f32⟩
  | .hbm, ⟨30, _⟩ => ⟨S256x2048, .f32⟩
  | .hbm, ⟨31, _⟩ => ⟨S_, .f32⟩
  | .hbm, ⟨32, _⟩ => ⟨S2048, .f32⟩
  | .hbm, ⟨33, _⟩ => ⟨S256x2048, .f32⟩
  | .hbm, ⟨34, _⟩ => ⟨S_, .f32⟩
  | .hbm, ⟨35, _⟩ => ⟨S256, .f32⟩
  | .hbm, ⟨36, _⟩ => ⟨S256x1, .f32⟩
  | .hbm, ⟨37, _⟩ => ⟨S256x2048, .f32⟩
  | .hbm, ⟨38, _⟩ => ⟨S256x2048, .f32⟩
  | .hbm, ⟨39, _⟩ => ⟨S256x1, .f32⟩
  | .hbm, ⟨40, _⟩ => ⟨S_, .f32⟩
  | .hbm, ⟨41, _⟩ => ⟨S256x1, .f32⟩
  | .hbm, ⟨42, _⟩ => ⟨S256x1, .f32⟩
  | .hbm, ⟨43, _⟩ => ⟨S_, .f32⟩
  | .hbm, ⟨44, _⟩ => ⟨S256, .f32⟩
  | .hbm, ⟨45, _⟩ => ⟨S256x2048, .f32⟩
  | .hbm, ⟨46, _⟩ => ⟨S256x2048, .f32⟩
  | .hbm, ⟨47, _⟩ => ⟨S256x2048, .f32⟩
  | .hbm, ⟨48, _⟩ => ⟨S256x2048, .f32⟩
  | .hbm, ⟨49, _⟩ => ⟨S256x2048, .f32⟩
  | .hbm, ⟨50, _⟩ => ⟨S256x2048, .bf16⟩
  | .hbm, ⟨51, _⟩ => ⟨S1x2048, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== GateFwd.lean ====
abbrev S8192x12288 : Shape := ⟨2, ![8192, 12288]⟩
abbrev S4096 : Shape := ⟨1, ![4096]⟩
abbrev S8x128x128 : Shape := ⟨3, ![8, 128, 128]⟩
abbrev S8x128 : Shape := ⟨2, ![8, 128]⟩
abbrev S1x4096 : Shape := ⟨2, ![1, 4096]⟩
abbrev S128x8 : Shape := ⟨2, ![128, 8]⟩
abbrev S8192x4096 : Shape := ⟨2, ![8192, 4096]⟩
abbrev S256x4096 : Shape := ⟨2, ![256, 4096]⟩
abbrev S256 : Shape := ⟨1, ![256]⟩
abbrev S256x1 : Shape := ⟨2, ![256, 1]⟩
abbrev S128x128 : Shape := ⟨2, ![128, 128]⟩
abbrev S1x128x128 : Shape := ⟨3, ![1, 128, 128]⟩
abbrev S256x512 : Shape := ⟨2, ![256, 512]⟩
abbrev S1x512 : Shape := ⟨2, ![1, 512]⟩
abbrev S128x512 : Shape := ⟨2, ![128, 512]⟩
abbrev S128x1 : Shape := ⟨2, ![128, 1]⟩

abbrev nBuf : Space → Nat
  | .hbm => 9
  | .vmem => 12
  | .smem => 0
  | _ => 0

abbrev bufTy : (tb : Table) → Fin (tcTables nBuf tb) → BufTy
  | .hbm, ⟨0, _⟩ => ⟨S8192x12288, .bf16⟩
  | .hbm, ⟨1, _⟩ => ⟨S4096, .f32⟩
  | .hbm, ⟨2, _⟩ => ⟨S4096, .f32⟩
  | .hbm, ⟨3, _⟩ => ⟨S8x128x128, .f32⟩
  | .hbm, ⟨4, _⟩ => ⟨S8x128, .f32⟩
  | .hbm, ⟨5, _⟩ => ⟨S1x4096, .f32⟩
  | .hbm, ⟨6, _⟩ => ⟨S1x4096, .f32⟩
  | .hbm, ⟨7, _⟩ => ⟨S128x8, .f32⟩
  | .hbm, ⟨8, _⟩ => ⟨S8192x4096, .bf16⟩
  | .local _ .vmem, ⟨0, _⟩ => ⟨S256x4096, .bf16⟩
  | .local _ .vmem, ⟨1, _⟩ => ⟨S256x4096, .bf16⟩
  | .local _ .vmem, ⟨2, _⟩ => ⟨S256x4096, .bf16⟩
  | .local _ .vmem, ⟨3, _⟩ => ⟨S256x4096, .bf16⟩
  | .local _ .vmem, ⟨4, _⟩ => ⟨S256x4096, .bf16⟩
  | .local _ .vmem, ⟨5, _⟩ => ⟨S256x4096, .bf16⟩
  | .local _ .vmem, ⟨6, _⟩ => ⟨S1x4096, .f32⟩
  | .local _ .vmem, ⟨7, _⟩ => ⟨S1x4096, .f32⟩
  | .local _ .vmem, ⟨8, _⟩ => ⟨S8x128x128, .f32⟩
  | .local _ .vmem, ⟨9, _⟩ => ⟨S128x8, .f32⟩
  | .local _ .vmem, ⟨10, _⟩ => ⟨S256x4096, .bf16⟩
  | .local _ .vmem, ⟨11, _⟩ => ⟨S256x4096, .bf16⟩
  | _, _ => ⟨S8192x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== GateFwdReferenceIdeal.lean ====
abbrev S8192x12288 : Shape := ⟨2, ![8192, 12288]⟩
abbrev S4096 : Shape := ⟨1, ![4096]⟩
abbrev S8x128x128 : Shape := ⟨3, ![8, 128, 128]⟩
abbrev S8x128 : Shape := ⟨2, ![8, 128]⟩
abbrev S8192x4096 : Shape := ⟨2, ![8192, 4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩
abbrev S64x128x8x512 : Shape := ⟨4, ![64, 128, 8, 512]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S8x64x512x128 : Shape := ⟨4, ![8, 64, 512, 128]⟩
abbrev S128x8 : Shape := ⟨2, ![128, 8]⟩
abbrev S1x128x8x1 : Shape := ⟨4, ![1, 128, 8, 1]⟩

abbrev nBuf : Space → Nat
  | .hbm => 86
  | .vmem => 0
  | .smem => 0
  | _ => 0

abbrev bufTy : (tb : Table) → Fin (tcTables nBuf tb) → BufTy
  | .hbm, ⟨0, _⟩ => ⟨S8192x12288, .bf16⟩
  | .hbm, ⟨1, _⟩ => ⟨S4096, .f32⟩
  | .hbm, ⟨2, _⟩ => ⟨S4096, .f32⟩
  | .hbm, ⟨3, _⟩ => ⟨S8x128x128, .f32⟩
  | .hbm, ⟨4, _⟩ => ⟨S8x128, .f32⟩
  | .hbm, ⟨5, _⟩ => ⟨S8192x12288, .f32⟩
  | .hbm, ⟨6, _⟩ => ⟨S8192x4096, .f32⟩
  | .hbm, ⟨7, _⟩ => ⟨S8192x4096, .f32⟩
  | .hbm, ⟨8, _⟩ => ⟨S8192x4096, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x4096, .f32⟩
  | .hbm, ⟨16, _⟩ => ⟨S8192x4096, .f32⟩
  | .hbm, ⟨17, _⟩ => ⟨S8192x4096, .f32⟩
  | .hbm, ⟨18, _⟩ => ⟨S_, .f32⟩
  | .hbm, ⟨19, _⟩ => ⟨S8192, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x4096, .f32⟩
  | .hbm, ⟨25, _⟩ => ⟨S8192x4096, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x1, .f32⟩
  | .hbm, ⟨30, _⟩ => ⟨S8192x4096, .f32⟩
  | .hbm, ⟨31, _⟩ => ⟨S8192x4096, .f32⟩
  | .hbm, ⟨32, _⟩ => ⟨S1x4096, .f32⟩
  | .hbm, ⟨33, _⟩ => ⟨S8192x4096, .f32⟩
  | .hbm, ⟨34, _⟩ => ⟨S8192x4096, .f32⟩
  | .hbm, ⟨35, _⟩ => ⟨S1x4096, .f32⟩
  | .hbm, ⟨36, _⟩ => ⟨S8192x4096, .f32⟩
  | .hbm, ⟨37, _⟩ => ⟨S8192x4096, .f32⟩
  | .hbm, ⟨38, _⟩ => ⟨S64x128x8x512, .f32⟩
  | .hbm, ⟨39, _⟩ => ⟨S128, .i32⟩
  | .hbm, ⟨40, _⟩ => ⟨S_, .i32⟩
  | .hbm, ⟨41, _⟩ => ⟨S_, .i32⟩
  | .hbm, ⟨42, _⟩ => ⟨S128, .i32⟩
  | .hbm, ⟨43, _⟩ => ⟨S128, .i32⟩
  | .hbm, ⟨44, _⟩ => ⟨S128, .i32⟩
  | .hbm, ⟨45, _⟩ => ⟨S_, .i32⟩
  | .hbm, ⟨46, _⟩ => ⟨S128, .i32⟩
  | .hbm, ⟨47, _⟩ => ⟨S128, .i1⟩
  | .hbm, ⟨48, _⟩ => ⟨S128, .i32⟩
  | .hbm, ⟨49, _⟩ => ⟨S128, .i32⟩
  | .hbm, ⟨50, _⟩ => ⟨S_, .i32⟩
  | .hbm, ⟨51, _⟩ => ⟨S128, .i32⟩
  | .hbm, ⟨52, _⟩ => ⟨S128, .i1⟩
  | .hbm, ⟨53, _⟩ => ⟨S128, .i1⟩
  | .hbm, ⟨54, _⟩ => ⟨S_, .i32⟩
  | .hbm, ⟨55, _⟩ => ⟨S128, .i32⟩
  | .hbm, ⟨56, _⟩ => ⟨S128, .i32⟩
  | .hbm, ⟨57, _⟩ => ⟨S128, .i32⟩
  | .hbm, ⟨58, _⟩ => ⟨S128x1, .i32⟩
  | .hbm, ⟨59, _⟩ => ⟨S1x128, .i32⟩
  | .hbm, ⟨60, _⟩ => ⟨S128x128, .i32⟩
  | .hbm, ⟨61, _⟩ => ⟨S128x128, .i32⟩
  | .hbm, ⟨62, _⟩ => ⟨S128x128, .i1⟩
  | .hbm, ⟨63, _⟩ => ⟨S128x128, .f32⟩
  | .hbm, ⟨64, _⟩ => ⟨S1x128x128, .f32⟩
  | .hbm, ⟨65, _⟩ => ⟨S8x128x128, .f32⟩
  | .hbm, ⟨66, _⟩ => ⟨S8x128x128, .f32⟩
  | .hbm, ⟨67, _⟩ => ⟨S8x64x512x128, .f32⟩
  | .hbm, ⟨68, _⟩ => ⟨S64x128x8x512, .f32⟩
  | .hbm, ⟨69, _⟩ => ⟨S128x8, .f32⟩
  | .hbm, ⟨70, _⟩ => ⟨S1x128x8x1, .f32⟩
  | .hbm, ⟨71, _⟩ => ⟨S64x128x8x512, .f32⟩
  | .hbm, ⟨72, _⟩ => ⟨S64x128x8x512, .f32⟩
  | .hbm, ⟨73, _⟩ => ⟨S8192x4096, .f32⟩
  | .hbm, ⟨74, _⟩ => ⟨S8192x4096, .f32⟩
  | .hbm, ⟨75, _⟩ => ⟨S8192x4096, .f32⟩
  | .hbm, ⟨76, _⟩ => ⟨S8192x4096, .f32⟩
  | .hbm, ⟨77, _⟩ => ⟨S_, .f32⟩
  | .hbm, ⟨78, _⟩ => ⟨S8192x4096, .f32⟩
  | .hbm, ⟨79, _⟩ => ⟨S8192x4096, .f32⟩
  | .hbm, ⟨80, _⟩ => ⟨S_, .f32⟩
  | .hbm, ⟨81, _⟩ => ⟨S8192x4096, .f32⟩
  | .hbm, ⟨82, _⟩ => ⟨S8192x4096, .f32⟩
  | .hbm, ⟨83, _⟩ => ⟨S8192x4096, .f32⟩
  | .hbm, ⟨84, _⟩ => ⟨S8192x4096, .f32⟩
  | .hbm, ⟨85, _⟩ => ⟨S8192x4096, .bf16⟩
  | _, _ => ⟨S8192x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_c : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_call0_v3 : Ref sig .tc := ⟨.hbm, 44, rfl⟩
abbrev main_call0_v4 : Ref sig .tc := ⟨.hbm, 45, rfl⟩
abbrev main_call0_v5 : Ref sig .tc := ⟨.hbm, 46, rfl⟩
abbrev main_call0_v6 : Ref sig .tc := ⟨.hbm, 47, rfl⟩
abbrev main_call0_v7 : Ref sig .tc := ⟨.hbm, 48, rfl⟩
abbrev main_call0_v8 : Ref sig .tc := ⟨.hbm, 49, rfl⟩
abbrev main_call0_c : Ref sig .tc := ⟨.hbm, 50, rfl⟩
abbrev main_call0_v9 : Ref sig .tc := ⟨.hbm, 51, rfl⟩
abbrev main_call0_v10 : Ref sig .tc := ⟨.hbm, 52, rfl⟩
abbrev main_call0_v11 : Ref sig .tc := ⟨.hbm, 53, rfl⟩
abbrev main_call0_c_0 : Ref sig .tc := ⟨.hbm, 54, rfl⟩
abbrev main_call0_v12 : Ref sig .tc := ⟨.hbm, 55, rfl⟩
abbrev main_call0_v13 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_call1_v0 : Ref sig .tc := ⟨.hbm, 75, rfl⟩
abbrev main_call1_v1 : Ref sig .tc := ⟨.hbm, 76, rfl⟩
abbrev main_call1_cst : Ref sig .tc := ⟨.hbm, 77, rfl⟩
abbrev main_call1_v2 : Ref sig .tc := ⟨.hbm, 78, rfl⟩
abbrev main_call1_v3 : Ref sig .tc := ⟨.hbm, 79, rfl⟩
abbrev main_call1_cst_0 : Ref sig .tc := ⟨.hbm, 80, rfl⟩
abbrev main_call1_v4 : Ref sig .tc := ⟨.hbm, 81, rfl⟩
abbrev main_call1_v5 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩

abbrev nD : Nat := 1
abbrev τ : Topo := Topo.v7x

variable {F : FTy → Type} [FloatOps F]
-- ==== Loss.lean ====
abbrev S8192x2048 : Shape := ⟨2, ![8192, 2048]⟩
abbrev S2048 : Shape := ⟨1, ![2048]⟩
abbrev S1x2048 : Shape := ⟨2, ![1, 2048]⟩
abbrev S1x128 : Shape := ⟨2, ![1, 128]⟩
abbrev S256x2048 : Shape := ⟨2, ![256, 2048]⟩
abbrev S256 : Shape := ⟨1, ![256]⟩
abbrev S256x1 : Shape := ⟨2, ![256, 1]⟩
abbrev S1 : Shape := ⟨1, ![1]⟩
abbrev S1x1 : Shape := ⟨2, ![1, 1]⟩

abbrev nBuf : Space → Nat
  | .hbm => 8
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S1x2048, .f32⟩
  | .hbm, ⟨4, _⟩ => ⟨S1x128, .f32⟩
  | .hbm, ⟨5, _⟩ => ⟨S1x2048, .f32⟩
  | .hbm, ⟨6, _⟩ => ⟨S8192x2048, .f32⟩
  | .hbm, ⟨7, _⟩ => ⟨S8192x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S1x128, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v48 : BitVec 1 := Scalar.cmpi .eq arg0 c0_i32
  let v49 : BitVec 32 := Scalar.extui v48
  let c0_i32_19 : BitVec 32 := 0#32
  let v50 : BitVec 1 := Scalar.cmpi .ne v49 c0_i32_19
  v50

def k0_cond2 (i : grid0.Coords) : BitVec 1 :=
  let arg0 : BitVec 32 := BitVec.ofNat 32 (i 0).val
  let c0_i32_20 : BitVec 32 := 0#32
  let v51 : BitVec 1 := Scalar.cmpi .sgt arg0 c0_i32_20
  let v52 : BitVec 32 := Scalar.extui v51
  let c0_i32_21 : BitVec 32 := 0#32
  let v53 : BitVec 1 := Scalar.cmpi .ne v52 c0_i32_21
  v53

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== LossReferenceIdeal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S1x128 : Shape := ⟨2, ![1, 128]⟩

abbrev nBuf : Space → Nat
  | .hbm => 74
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x2048, .f32⟩
  | .hbm, ⟨19, _⟩ => ⟨S8192x2048, .f32⟩
  | .hbm, ⟨20, _⟩ => ⟨S1x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S8192x2048, .f32⟩
  | .hbm, ⟨27, _⟩ => ⟨S8192x2048, .f32⟩
  | .hbm, ⟨28, _⟩ => ⟨S_, .f32⟩
  | .hbm, ⟨29, _⟩ => ⟨S8192, .f32⟩
  | .hbm, ⟨30, _⟩ => ⟨S_, .f32⟩
  | .hbm, ⟨31, _⟩ => ⟨S8192, .f32⟩
  | .hbm, ⟨32, _⟩ => ⟨S8192, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S8192, .f32⟩
  | .hbm, ⟨41, _⟩ => ⟨S_, .f32⟩
  | .hbm, ⟨42, _⟩ => ⟨S8192, .f32⟩
  | .hbm, ⟨43, _⟩ => ⟨S8192, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S_, .f32⟩
  | .hbm, ⟨48, _⟩ => ⟨S2048, .f32⟩
  | .hbm, ⟨49, _⟩ => ⟨S1x2048, .f32⟩
  | .hbm, ⟨50, _⟩ => ⟨S8192x2048, .f32⟩
  | .hbm, ⟨51, _⟩ => ⟨S8192x2048, .f32⟩
  | .hbm, ⟨52, _⟩ => ⟨S_, .f32⟩
  | .hbm, ⟨53, _⟩ => ⟨S2048, .f32⟩
  | .hbm, ⟨54, _⟩ => ⟨S8192x2048, .f32⟩
  | .hbm, ⟨55, _⟩ => ⟨S_, .f32⟩
  | .hbm, ⟨56, _⟩ => ⟨S8192, .f32⟩
  | .hbm, ⟨57, _⟩ => ⟨S8192x1, .f32⟩
  | .hbm, ⟨58, _⟩ => ⟨S8192x2048, .f32⟩
  | .hbm, ⟨59, _⟩ => ⟨S8192x2048, .f32⟩
  | .hbm, ⟨60, _⟩ => ⟨S8192x1, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S_, .f32⟩
  | .hbm, ⟨65, _⟩ => ⟨S8192, .f32⟩
  | .hbm, ⟨66, _⟩ => ⟨S8192x2048, .f32⟩
  | .hbm, ⟨67, _⟩ => ⟨S8192x2048, .f32⟩
  | .hbm, ⟨68, _⟩ => ⟨S8192x2048, .f32⟩
  | .hbm, ⟨69, _⟩ => ⟨S8192x2048, .f32⟩
  | .hbm, ⟨70, _⟩ => ⟨S8192x2048, .f32⟩
  | .hbm, ⟨71, _⟩ => ⟨S1x128, .f32⟩
  | .hbm, ⟨72, _⟩ => ⟨S1x2048, .f32⟩
  | .hbm, ⟨73, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]
-- ==== StepAB.lean ====
abbrev S1x2048x3584 : Shape := ⟨3, ![1, 2048, 3584]⟩
abbrev S2048x3584 : Shape := ⟨2, ![2048, 3584]⟩
abbrev S1x64x3584 : Shape := ⟨3, ![1, 64, 3584]⟩
abbrev S64x3584 : Shape := ⟨2, ![64, 3584]⟩

abbrev nBuf : Space → Nat
  | .hbm => 8
  | .vmem => 16
  | .smem => 0
  | _ => 0

abbrev bufTy : (tb : Table) → Fin (tcTables nBuf tb) → BufTy
  | .hbm, ⟨0, _⟩ => ⟨S1x2048x3584, .f32⟩
  | .hbm, ⟨1, _⟩ => ⟨S1x2048x3584, .f32⟩
  | .hbm, ⟨2, _⟩ => ⟨S1x2048x3584, .f32⟩
  | .hbm, ⟨3, _⟩ => ⟨S2048x3584, .f32⟩
  | .hbm, ⟨4, _⟩ => ⟨S1x2048x3584, .f32⟩
  | .hbm, ⟨5, _⟩ => ⟨S1x2048x3584, .f32⟩
  | .hbm, ⟨6, _⟩ => ⟨S1x2048x3584, .f32⟩
  | .hbm, ⟨7, _⟩ => ⟨S1x2048x3584, .f32⟩
  | .local _ .vmem, ⟨0, _⟩ => ⟨S1x64x3584, .f32⟩
  | .local _ .vmem, ⟨1, _⟩ => ⟨S1x64x3584, .f32⟩
  | .local _ .vmem, ⟨2, _⟩ => ⟨S1x64x3584, .f32⟩
  | .local _ .vmem, ⟨3, _⟩ => ⟨S1x64x3584, .f32⟩
  | .local _ .vmem, ⟨4, _⟩ => ⟨S1x64x3584, .f32⟩
  | .local _ .vmem, ⟨5, _⟩ => ⟨S1x64x3584, .f32⟩
  | .local _ .vmem, ⟨6, _⟩ => ⟨S64x3584, .f32⟩
  | .local _ .vmem, ⟨7, _⟩ => ⟨S64x3584, .f32⟩
  | .local _ .vmem, ⟨8, _⟩ => ⟨S1x64x3584, .f32⟩
  | .local _ .vmem, ⟨9, _⟩ => ⟨S1x64x3584, .f32⟩
  | .local _ .vmem, ⟨10, _⟩ => ⟨S1x64x3584, .f32⟩
  | .local _ .vmem, ⟨11, _⟩ => ⟨S1x64x3584, .f32⟩
  | .local _ .vmem, ⟨12, _⟩ => ⟨S1x64x3584, .f32⟩
  | .local _ .vmem, ⟨13, _⟩ => ⟨S1x64x3584, .f32⟩
  | .local _ .vmem, ⟨14, _⟩ => ⟨S1x64x3584, .f32⟩
  | .local _ .vmem, ⟨15, _⟩ => ⟨S1x64x3584, .f32⟩
  | _, _ => ⟨S1x2048x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![v0.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x64x3584 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x3584 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x3584 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x3584 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x64x3584 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x3584 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x64x3584 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x64x3584 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== StepABIdeal.lean ====
abbrev S1x2048x3584 : Shape := ⟨3, ![1, 2048, 3584]⟩
abbrev S2048x3584 : Shape := ⟨2, ![2048, 3584]⟩
abbrev S1x64x3584 : Shape := ⟨3, ![1, 64, 3584]⟩
abbrev S64x3584 : Shape := ⟨2, ![64, 3584]⟩

abbrev nBuf : Space → Nat
  | .hbm => 8
  | .vmem => 16
  | .smem => 0
  | _ => 0

abbrev bufTy : (tb : Table) → Fin (tcTables nBuf tb) → BufTy
  | .hbm, ⟨0, _⟩ => ⟨S1x2048x3584, .f32⟩
  | .hbm, ⟨1, _⟩ => ⟨S1x2048x3584, .f32⟩
  | .hbm, ⟨2, _⟩ => ⟨S1x2048x3584, .f32⟩
  | .hbm, ⟨3, _⟩ => ⟨S2048x3584, .f32⟩
  | .hbm, ⟨4, _⟩ => ⟨S1x2048x3584, .f32⟩
  | .hbm, ⟨5, _⟩ => ⟨S1x2048x3584, .f32⟩
  | .hbm, ⟨6, _⟩ => ⟨S1x2048x3584, .f32⟩
  | .hbm, ⟨7, _⟩ => ⟨S1x2048x3584, .f32⟩
  | .local _ .vmem, ⟨0, _⟩ => ⟨S1x64x3584, .f32⟩
  | .local _ .vmem, ⟨1, _⟩ => ⟨S1x64x3584, .f32⟩
  | .local _ .vmem, ⟨2, _⟩ => ⟨S1x64x3584, .f32⟩
  | .local _ .vmem, ⟨3, _⟩ => ⟨S1x64x3584, .f32⟩
  | .local _ .vmem, ⟨4, _⟩ => ⟨S1x64x3584, .f32⟩
  | .local _ .vmem, ⟨5, _⟩ => ⟨S1x64x3584, .f32⟩
  | .local _ .vmem, ⟨6, _⟩ => ⟨S64x3584, .f32⟩
  | .local _ .vmem, ⟨7, _⟩ => ⟨S64x3584, .f32⟩
  | .local _ .vmem, ⟨8, _⟩ => ⟨S1x64x3584, .f32⟩
  | .local _ .vmem, ⟨9, _⟩ => ⟨S1x64x3584, .f32⟩
  | .local _ .vmem, ⟨10, _⟩ => ⟨S1x64x3584, .f32⟩
  | .local _ .vmem, ⟨11, _⟩ => ⟨S1x64x3584, .f32⟩
  | .local _ .vmem, ⟨12, _⟩ => ⟨S1x64x3584, .f32⟩
  | .local _ .vmem, ⟨13, _⟩ => ⟨S1x64x3584, .f32⟩
  | .local _ .vmem, ⟨14, _⟩ => ⟨S1x64x3584, .f32⟩
  | .local _ .vmem, ⟨15, _⟩ => ⟨S1x64x3584, .f32⟩
  | _, _ => ⟨S1x2048x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![v0.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x64x3584 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x3584 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x3584 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x3584 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x64x3584 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x3584 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x64x3584 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x64x3584 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== StepABReferenceIdeal.lean ====
abbrev S1x2048x3584 : Shape := ⟨3, ![1, 2048, 3584]⟩
abbrev S2048x3584 : Shape := ⟨2, ![2048, 3584]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S1x2048x3584, .f32⟩
  | .hbm, ⟨1, _⟩ => ⟨S1x2048x3584, .f32⟩
  | .hbm, ⟨2, _⟩ => ⟨S1x2048x3584, .f32⟩
  | .hbm, ⟨3, _⟩ => ⟨S2048x3584, .f32⟩
  | .hbm, ⟨4, _⟩ => ⟨S1x2048x3584, .f32⟩
  | .hbm, ⟨5, _⟩ => ⟨S_, .f32⟩
  | .hbm, ⟨6, _⟩ => ⟨S1x2048x3584, .f32⟩
  | .hbm, ⟨7, _⟩ => ⟨S1x2048x3584, .f32⟩
  | .hbm, ⟨8, _⟩ => ⟨S_, .f32⟩
  | .hbm, ⟨9, _⟩ => ⟨S1x2048x3584, .f32⟩
  | .hbm, ⟨10, _⟩ => ⟨S1x2048x3584, .f32⟩
  | .hbm, ⟨11, _⟩ => ⟨S1x2048x3584, .f32⟩
  | .hbm, ⟨12, _⟩ => ⟨S_, .f32⟩
  | .hbm, ⟨13, _⟩ => ⟨S1x2048x3584, .f32⟩
  | .hbm, ⟨14, _⟩ => ⟨S1x2048x3584, .f32⟩
  | .hbm, ⟨15, _⟩ => ⟨S1x2048x3584, .f32⟩
  | .hbm, ⟨16, _⟩ => ⟨S_, .f32⟩
  | .hbm, ⟨17, _⟩ => ⟨S1x2048x3584, .f32⟩
  | .hbm, ⟨18, _⟩ => ⟨S1x2048x3584, .f32⟩
  | .hbm, ⟨19, _⟩ => ⟨S1x2048x3584, .f32⟩
  | .hbm, ⟨20, _⟩ => ⟨S_, .f32⟩
  | .hbm, ⟨21, _⟩ => ⟨S1x2048x3584, .f32⟩
  | .hbm, ⟨22, _⟩ => ⟨S1x2048x3584, .f32⟩
  | .hbm, ⟨23, _⟩ => ⟨S_, .f32⟩
  | .hbm, ⟨24, _⟩ => ⟨S1x2048x3584, .f32⟩
  | .hbm, ⟨25, _⟩ => ⟨S1x2048x3584, .f32⟩
  | .hbm, ⟨26, _⟩ => ⟨S1x2048x3584, .f32⟩
  | .hbm, ⟨27, _⟩ => ⟨S_, .f32⟩
  | .hbm, ⟨28, _⟩ => ⟨S1x2048x3584, .f32⟩
  | .hbm, ⟨29, _⟩ => ⟨S1x2048x3584, .f32⟩
  | .hbm, ⟨30, _⟩ => ⟨S1x2048x3584, .f32⟩
  | .hbm, ⟨31, _⟩ => ⟨S_, .f32⟩
  | .hbm, ⟨32, _⟩ => ⟨S1x2048x3584, .f32⟩
  | .hbm, ⟨33, _⟩ => ⟨S1x2048x3584, .f32⟩
  | .hbm, ⟨34, _⟩ => ⟨S1x2048x3584, .f32⟩
  | .hbm, ⟨35, _⟩ => ⟨S_, .f32⟩
  | .hbm, ⟨36, _⟩ => ⟨S1x2048x3584, .f32⟩
  | .hbm, ⟨37, _⟩ => ⟨S1x2048x3584, .f32⟩
  | _, _ => ⟨S1x2048x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== StepC.lean ====
abbrev S1x2048x3072 : Shape := ⟨3, ![1, 2048, 3072]⟩
abbrev S2048x3072 : Shape := ⟨2, ![2048, 3072]⟩
abbrev S1x64x3072 : Shape := ⟨3, ![1, 64, 3072]⟩
abbrev S64x3072 : Shape := ⟨2, ![64, 3072]⟩

abbrev nBuf : Space → Nat
  | .hbm => 8
  | .vmem => 16
  | .smem => 0
  | _ => 0

abbrev bufTy : (tb : Table) → Fin (tcTables nBuf tb) → BufTy
  | .hbm, ⟨0, _⟩ => ⟨S1x2048x3072, .f32⟩
  | .hbm, ⟨1, _⟩ => ⟨S1x2048x3072, .f32⟩
  | .hbm, ⟨2, _⟩ => ⟨S1x2048x3072, .f32⟩
  | .hbm, ⟨3, _⟩ => ⟨S2048x3072, .f32⟩
  | .hbm, ⟨4, _⟩ => ⟨S1x2048x3072, .f32⟩
  | .hbm, ⟨5, _⟩ => ⟨S1x2048x3072, .f32⟩
  | .hbm, ⟨6, _⟩ => ⟨S1x2048x3072, .f32⟩
  | .hbm, ⟨7, _⟩ => ⟨S1x2048x3072, .f32⟩
  | .local _ .vmem, ⟨0, _⟩ => ⟨S1x64x3072, .f32⟩
  | .local _ .vmem, ⟨1, _⟩ => ⟨S1x64x3072, .f32⟩
  | .local _ .vmem, ⟨2, _⟩ => ⟨S1x64x3072, .f32⟩
  | .local _ .vmem, ⟨3, _⟩ => ⟨S1x64x3072, .f32⟩
  | .local _ .vmem, ⟨4, _⟩ => ⟨S1x64x3072, .f32⟩
  | .local _ .vmem, ⟨5, _⟩ => ⟨S1x64x3072, .f32⟩
  | .local _ .vmem, ⟨6, _⟩ => ⟨S64x3072, .f32⟩
  | .local _ .vmem, ⟨7, _⟩ => ⟨S64x3072, .f32⟩
  | .local _ .vmem, ⟨8, _⟩ => ⟨S1x64x3072, .f32⟩
  | .local _ .vmem, ⟨9, _⟩ => ⟨S1x64x3072, .f32⟩
  | .local _ .vmem, ⟨10, _⟩ => ⟨S1x64x3072, .f32⟩
  | .local _ .vmem, ⟨11, _⟩ => ⟨S1x64x3072, .f32⟩
  | .local _ .vmem, ⟨12, _⟩ => ⟨S1x64x3072, .f32⟩
  | .local _ .vmem, ⟨13, _⟩ => ⟨S1x64x3072, .f32⟩
  | .local _ .vmem, ⟨14, _⟩ => ⟨S1x64x3072, .f32⟩
  | .local _ .vmem, ⟨15, _⟩ => ⟨S1x64x3072, .f32⟩
  | _, _ => ⟨S1x2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![v0.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x64x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x64x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x3072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x64x3072 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x64x3072 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== StepCIdeal.lean ====
abbrev S1x2048x3072 : Shape := ⟨3, ![1, 2048, 3072]⟩
abbrev S2048x3072 : Shape := ⟨2, ![2048, 3072]⟩
abbrev S1x64x3072 : Shape := ⟨3, ![1, 64, 3072]⟩
abbrev S64x3072 : Shape := ⟨2, ![64, 3072]⟩

abbrev nBuf : Space → Nat
  | .hbm => 8
  | .vmem => 16
  | .smem => 0
  | _ => 0

abbrev bufTy : (tb : Table) → Fin (tcTables nBuf tb) → BufTy
  | .hbm, ⟨0, _⟩ => ⟨S1x2048x3072, .f32⟩
  | .hbm, ⟨1, _⟩ => ⟨S1x2048x3072, .f32⟩
  | .hbm, ⟨2, _⟩ => ⟨S1x2048x3072, .f32⟩
  | .hbm, ⟨3, _⟩ => ⟨S2048x3072, .f32⟩
  | .hbm, ⟨4, _⟩ => ⟨S1x2048x3072, .f32⟩
  | .hbm, ⟨5, _⟩ => ⟨S1x2048x3072, .f32⟩
  | .hbm, ⟨6, _⟩ => ⟨S1x2048x3072, .f32⟩
  | .hbm, ⟨7, _⟩ => ⟨S1x2048x3072, .f32⟩
  | .local _ .vmem, ⟨0, _⟩ => ⟨S1x64x3072, .f32⟩
  | .local _ .vmem, ⟨1, _⟩ => ⟨S1x64x3072, .f32⟩
  | .local _ .vmem, ⟨2, _⟩ => ⟨S1x64x3072, .f32⟩
  | .local _ .vmem, ⟨3, _⟩ => ⟨S1x64x3072, .f32⟩
  | .local _ .vmem, ⟨4, _⟩ => ⟨S1x64x3072, .f32⟩
  | .local _ .vmem, ⟨5, _⟩ => ⟨S1x64x3072, .f32⟩
  | .local _ .vmem, ⟨6, _⟩ => ⟨S64x3072, .f32⟩
  | .local _ .vmem, ⟨7, _⟩ => ⟨S64x3072, .f32⟩
  | .local _ .vmem, ⟨8, _⟩ => ⟨S1x64x3072, .f32⟩
  | .local _ .vmem, ⟨9, _⟩ => ⟨S1x64x3072, .f32⟩
  | .local _ .vmem, ⟨10, _⟩ => ⟨S1x64x3072, .f32⟩
  | .local _ .vmem, ⟨11, _⟩ => ⟨S1x64x3072, .f32⟩
  | .local _ .vmem, ⟨12, _⟩ => ⟨S1x64x3072, .f32⟩
  | .local _ .vmem, ⟨13, _⟩ => ⟨S1x64x3072, .f32⟩
  | .local _ .vmem, ⟨14, _⟩ => ⟨S1x64x3072, .f32⟩
  | .local _ .vmem, ⟨15, _⟩ => ⟨S1x64x3072, .f32⟩
  | _, _ => ⟨S1x2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![v0.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x64x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x64x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x3072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x64x3072 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x64x3072 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== StepCReferenceIdeal.lean ====
abbrev S1x2048x3072 : Shape := ⟨3, ![1, 2048, 3072]⟩
abbrev S2048x3072 : Shape := ⟨2, ![2048, 3072]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S1x2048x3072, .f32⟩
  | .hbm, ⟨1, _⟩ => ⟨S1x2048x3072, .f32⟩
  | .hbm, ⟨2, _⟩ => ⟨S1x2048x3072, .f32⟩
  | .hbm, ⟨3, _⟩ => ⟨S2048x3072, .f32⟩
  | .hbm, ⟨4, _⟩ => ⟨S1x2048x3072, .f32⟩
  | .hbm, ⟨5, _⟩ => ⟨S_, .f32⟩
  | .hbm, ⟨6, _⟩ => ⟨S1x2048x3072, .f32⟩
  | .hbm, ⟨7, _⟩ => ⟨S1x2048x3072, .f32⟩
  | .hbm, ⟨8, _⟩ => ⟨S_, .f32⟩
  | .hbm, ⟨9, _⟩ => ⟨S1x2048x3072, .f32⟩
  | .hbm, ⟨10, _⟩ => ⟨S1x2048x3072, .f32⟩
  | .hbm, ⟨11, _⟩ => ⟨S1x2048x3072, .f32⟩
  | .hbm, ⟨12, _⟩ => ⟨S_, .f32⟩
  | .hbm, ⟨13, _⟩ => ⟨S1x2048x3072, .f32⟩
  | .hbm, ⟨14, _⟩ => ⟨S1x2048x3072, .f32⟩
  | .hbm, ⟨15, _⟩ => ⟨S1x2048x3072, .f32⟩
  | .hbm, ⟨16, _⟩ => ⟨S_, .f32⟩
  | .hbm, ⟨17, _⟩ => ⟨S1x2048x3072, .f32⟩
  | .hbm, ⟨18, _⟩ => ⟨S1x2048x3072, .f32⟩
  | .hbm, ⟨19, _⟩ => ⟨S1x2048x3072, .f32⟩
  | .hbm, ⟨20, _⟩ => ⟨S_, .f32⟩
  | .hbm, ⟨21, _⟩ => ⟨S1x2048x3072, .f32⟩
  | .hbm, ⟨22, _⟩ => ⟨S1x2048x3072, .f32⟩
  | .hbm, ⟨23, _⟩ => ⟨S_, .f32⟩
  | .hbm, ⟨24, _⟩ => ⟨S1x2048x3072, .f32⟩
  | .hbm, ⟨25, _⟩ => ⟨S1x2048x3072, .f32⟩
  | .hbm, ⟨26, _⟩ => ⟨S1x2048x3072, .f32⟩
  | .hbm, ⟨27, _⟩ => ⟨S_, .f32⟩
  | .hbm, ⟨28, _⟩ => ⟨S1x2048x3072, .f32⟩
  | .hbm, ⟨29, _⟩ => ⟨S1x2048x3072, .f32⟩
  | .hbm, ⟨30, _⟩ => ⟨S1x2048x3072, .f32⟩
  | .hbm, ⟨31, _⟩ => ⟨S_, .f32⟩
  | .hbm, ⟨32, _⟩ => ⟨S1x2048x3072, .f32⟩
  | .hbm, ⟨33, _⟩ => ⟨S1x2048x3072, .f32⟩
  | .hbm, ⟨34, _⟩ => ⟨S1x2048x3072, .f32⟩
  | .hbm, ⟨35, _⟩ => ⟨S_, .f32⟩
  | .hbm, ⟨36, _⟩ => ⟨S1x2048x3072, .f32⟩
  | .hbm, ⟨37, _⟩ => ⟨S1x2048x3072, .f32⟩
  | _, _ => ⟨S1x2048x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== StepOut.lean ====
abbrev S1x1024x2048 : Shape := ⟨3, ![1, 1024, 2048]⟩
abbrev S3072x2048 : Shape := ⟨2, ![3072, 2048]⟩
abbrev S1x128x2048 : Shape := ⟨3, ![1, 128, 2048]⟩
abbrev S128x2048 : Shape := ⟨2, ![128, 2048]⟩

abbrev nBuf : Space → Nat
  | .hbm => 8
  | .vmem => 16
  | .smem => 0
  | _ => 0

abbrev bufTy : (tb : Table) → Fin (tcTables nBuf tb) → BufTy
  | .hbm, ⟨0, _⟩ => ⟨S1x1024x2048, .f32⟩
  | .hbm, ⟨1, _⟩ => ⟨S1x1024x2048, .f32⟩
  | .hbm, ⟨2, _⟩ => ⟨S1x1024x2048, .f32⟩
  | .hbm, ⟨3, _⟩ => ⟨S3072x2048, .f32⟩
  | .hbm, ⟨4, _⟩ => ⟨S1x1024x2048, .f32⟩
  | .hbm, ⟨5, _⟩ => ⟨S1x1024x2048, .f32⟩
  | .hbm, ⟨6, _⟩ => ⟨S1x1024x2048, .f32⟩
  | .hbm, ⟨7, _⟩ => ⟨S1x1024x2048, .f32⟩
  | .local _ .vmem, ⟨0, _⟩ => ⟨S1x128x2048, .f32⟩
  | .local _ .vmem, ⟨1, _⟩ => ⟨S1x128x2048, .f32⟩
  | .local _ .vmem, ⟨2, _⟩ => ⟨S1x128x2048, .f32⟩
  | .local _ .vmem, ⟨3, _⟩ => ⟨S1x128x2048, .f32⟩
  | .local _ .vmem, ⟨4, _⟩ => ⟨S1x128x2048, .f32⟩
  | .local _ .vmem, ⟨5, _⟩ => ⟨S1x128x2048, .f32⟩
  | .local _ .vmem, ⟨6, _⟩ => ⟨S128x2048, .f32⟩
  | .local _ .vmem, ⟨7, _⟩ => ⟨S128x2048, .f32⟩
  | .local _ .vmem, ⟨8, _⟩ => ⟨S1x128x2048, .f32⟩
  | .local _ .vmem, ⟨9, _⟩ => ⟨S1x128x2048, .f32⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .f32⟩
  | .local _ .vmem, ⟨15, _⟩ => ⟨S1x128x2048, .f32⟩
  | _, _ => ⟨S1x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![v0.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== StepOutReferenceIdeal.lean ====
abbrev S1x1024x2048 : Shape := ⟨3, ![1, 1024, 2048]⟩
abbrev S3072x2048 : Shape := ⟨2, ![3072, 2048]⟩
abbrev S1024x2048 : Shape := ⟨2, ![1024, 2048]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x1024x2048, .f32⟩
  | .hbm, ⟨1, _⟩ => ⟨S1x1024x2048, .f32⟩
  | .hbm, ⟨2, _⟩ => ⟨S1x1024x2048, .f32⟩
  | .hbm, ⟨3, _⟩ => ⟨S3072x2048, .f32⟩
  | .hbm, ⟨4, _⟩ => ⟨S1024x2048, .f32⟩
  | .hbm, ⟨5, _⟩ => ⟨S1x1024x2048, .f32⟩
  | .hbm, ⟨6, _⟩ => ⟨S_, .f32⟩
  | .hbm, ⟨7, _⟩ => ⟨S1x1024x2048, .f32⟩
  | .hbm, ⟨8, _⟩ => ⟨S1x1024x2048, .f32⟩
  | .hbm, ⟨9, _⟩ => ⟨S_, .f32⟩
  | .hbm, ⟨10, _⟩ => ⟨S1x1024x2048, .f32⟩
  | .hbm, ⟨11, _⟩ => ⟨S1x1024x2048, .f32⟩
  | .hbm, ⟨12, _⟩ => ⟨S1x1024x2048, .f32⟩
  | .hbm, ⟨13, _⟩ => ⟨S_, .f32⟩
  | .hbm, ⟨14, _⟩ => ⟨S1x1024x2048, .f32⟩
  | .hbm, ⟨15, _⟩ => ⟨S1x1024x2048, .f32⟩
  | .hbm, ⟨16, _⟩ => ⟨S1x1024x2048, .f32⟩
  | .hbm, ⟨17, _⟩ => ⟨S_, .f32⟩
  | .hbm, ⟨18, _⟩ => ⟨S1x1024x2048, .f32⟩
  | .hbm, ⟨19, _⟩ => ⟨S1x1024x2048, .f32⟩
  | .hbm, ⟨20, _⟩ => ⟨S1x1024x2048, .f32⟩
  | .hbm, ⟨21, _⟩ => ⟨S_, .f32⟩
  | .hbm, ⟨22, _⟩ => ⟨S1x1024x2048, .f32⟩
  | .hbm, ⟨23, _⟩ => ⟨S1x1024x2048, .f32⟩
  | .hbm, ⟨24, _⟩ => ⟨S_, .f32⟩
  | .hbm, ⟨25, _⟩ => ⟨S1x1024x2048, .f32⟩
  | .hbm, ⟨26, _⟩ => ⟨S1x1024x2048, .f32⟩
  | .hbm, ⟨27, _⟩ => ⟨S1x1024x2048, .f32⟩
  | .hbm, ⟨28, _⟩ => ⟨S_, .f32⟩
  | .hbm, ⟨29, _⟩ => ⟨S1x1024x2048, .f32⟩
  | .hbm, ⟨30, _⟩ => ⟨S1x1024x2048, .f32⟩
  | .hbm, ⟨31, _⟩ => ⟨S1x1024x2048, .f32⟩
  | .hbm, ⟨32, _⟩ => ⟨S_, .f32⟩
  | .hbm, ⟨33, _⟩ => ⟨S1x1024x2048, .f32⟩
  | .hbm, ⟨34, _⟩ => ⟨S1x1024x2048, .f32⟩
  | .hbm, ⟨35, _⟩ => ⟨S1x1024x2048, .f32⟩
  | .hbm, ⟨36, _⟩ => ⟨S_, .f32⟩
  | .hbm, ⟨37, _⟩ => ⟨S1x1024x2048, .f32⟩
  | .hbm, ⟨38, _⟩ => ⟨S1x1024x2048, .f32⟩
  | _, _ => ⟨S1x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩

abbrev nD : Nat := 1
abbrev τ : Topo := Topo.v7x

variable {F : FTy → Type} [FloatOps F]
-- ==== Proof.Spec.lean ====
/- What the launch computes, as functions on the extended reals: rows are numbered by a block of 128 positions
   and a position in it, columns by one of 4096, or by a group of 512 columns and a column in it. -/
module

public import Idealize.ShloMosaic.Lib.Pointwise

@[expose] public section

noncomputable section

namespace Cert.Sgu

open Idealize.ShloMosaic

/-- Column `e` of group `g`. -/
def col (g : Fin 8) (e : Fin 512) : Fin 4096 := ⟨512 * g.val + e.val, by have := g.isLt; have := e.isLt; omega⟩

/-- The group of a column. -/
def grp (c : Fin 4096) : Fin 8 := ⟨c.val / 512, by have := c.isLt; omega⟩

/-- A column's place in its group. -/
def off (c : Fin 4096) : Fin 512 := ⟨c.val % 512, Nat.mod_lt _ (by decide)⟩

theorem col_grp_off (c : Fin 4096) : col (grp c) (off c) = c := Fin.ext (Nat.div_add_mod c.val 512)

theorem grp_col (g : Fin 8) (e : Fin 512) : grp (col g e) = g :=
  Fin.ext (by show (512 * g.val + e.val) / 512 = g.val; have := e.isLt; omega)

theorem off_col (g : Fin 8) (e : Fin 512) : off (col g e) = e :=
  Fin.ext (by show (512 * g.val + e.val) % 512 = e.val; have := e.isLt; omega)

/-- Position `i` may read position `j`: its chunk of 64 is not before `j`'s. -/
def Keeps (i j : Fin 128) : Prop := j.val / 64 ≤ i.val / 64

instance (i j : Fin 128) : Decidable (Keeps i j) := inferInstanceAs (Decidable (_ ≤ _))

/-- The step's arrays: the gradient that comes in, the three parts of the projection, the norm's scale and shift,
    the weights between positions and their bias. -/
structure Inputs where
  dy : Fin 64 → Fin 128 → Fin 4096 → EReal
  u : Fin 64 → Fin 128 → Fin 4096 → EReal
  v : Fin 64 → Fin 128 → Fin 4096 → EReal
  gate : Fin 64 → Fin 128 → Fin 4096 → EReal
  lng : Fin 4096 → EReal
  lnb : Fin 4096 → EReal
  ws : Fin 8 → Fin 128 → Fin 128 → EReal
  bs : Fin 8 → Fin 128 → EReal

/-- The literals of both programs: 4096, the norm's epsilon, one half. -/
def cN : EReal := Ideal.ofBits .f32 0x45800000#32
def cEps : EReal := Ideal.ofBits .f32 0x358637BD#32
def cHalf : EReal := Ideal.ofBits .f32 0x3F000000#32

namespace Inputs

variable (A : Inputs)

/-- A row less its mean. -/
def xc (n : Fin 64) (i : Fin 128) (c : Fin 4096) : EReal := A.v n i c - Ideal.div (∑ k, A.v n i k) cN

/-- The reciprocal of a row's standard deviation. -/
def rstd (n : Fin 64) (i : Fin 128) : EReal := Ideal.rsqrt (Ideal.div (∑ k, A.xc n i k * A.xc n i k) cN + cEps)

/-- The normalised row. -/
def xh (n : Fin 64) (i : Fin 128) (c : Fin 4096) : EReal := A.xc n i c * A.rstd n i

/-- The norm's result. -/
def vn (n : Fin 64) (i : Fin 128) (c : Fin 4096) : EReal := A.xc n i c * A.rstd n i * A.lng c + A.lnb c

/-- The weights of the positions that may be read, the others zero. -/
def wm (g : Fin 8) (i j : Fin 128) : EReal := if Keeps i j then A.ws g i j else 0

/-- The spatial gate: positions mixed by the weights, and the bias. -/
def sg (n : Fin 64) (i : Fin 128) (g : Fin 8) (e : Fin 512) : EReal :=
  (∑ j, A.wm g i j * A.vn n j (col g e)) + A.bs g i

/-- The logistic function by the hyperbolic tangent. -/
def sig (n : Fin 64) (i : Fin 128) (c : Fin 4096) : EReal :=
  cHalf * Ideal.tanh (cHalf * A.gate n i c) + cHalf

def sil (n : Fin 64) (i : Fin 128) (c : Fin 4096) : EReal := A.gate n i c * A.sig n i c

/-- The gradient of the spatial gate. -/
def dsg (n : Fin 64) (i : Fin 128) (c : Fin 4096) : EReal := A.dy n i c * A.u n i c * A.sil n i c

/-- The gradient of the first part. -/
def du (n : Fin 64) (i : Fin 128) (g : Fin 8) (e : Fin 512) : EReal :=
  A.dy n i (col g e) * A.sg n i g e * A.sil n i (col g e)

/-- The gradient of the third part. -/
def dgate (n : Fin 64) (i : Fin 128) (g : Fin 8) (e : Fin 512) : EReal :=
  A.dy n i (col g e) * A.u n i (col g e) * A.sg n i g e
    * (A.sig n i (col g e) * (1 + A.gate n i (col g e) * (1 - A.sig n i (col g e))))

/-- The gradient of the norm's result. -/
def dvn (n : Fin 64) (j : Fin 128) (g : Fin 8) (e : Fin 512) : EReal := ∑ i, A.wm g i j * A.dsg n i (col g e)

/-- The same, by the column. -/
def dvnC (n : Fin 64) (j : Fin 128) (c : Fin 4096) : EReal := A.dvn n j (grp c) (off c)

/-- The gradient of the normalised row. -/
def dxh (n : Fin 64) (i : Fin 128) (c : Fin 4096) : EReal := A.dvnC n i c * A.lng c

/-- The gradient of the second part. -/
def dv (n : Fin 64) (i : Fin 128) (c : Fin 4096) : EReal :=
  A.rstd n i * (A.dxh n i c - Ideal.div (∑ k, A.dxh n i k) cN
    - A.xh n i c * Ideal.div (∑ k, A.dxh n i k * A.xh n i k) cN)

/-- What block `n` adds to the gradient of the weights. -/
def dws (n : Fin 64) (g : Fin 8) (i j : Fin 128) : EReal :=
  if Keeps i j then ∑ e, A.dsg n i (col g e) * A.vn n j (col g e) else 0

/-- What block `n` adds to the gradient of the bias. -/
def dbs (n : Fin 64) (g : Fin 8) (i : Fin 128) : EReal := ∑ e, A.dsg n i (col g e)

/-- What block `n` adds to the gradient of the norm's scale. -/
def dlng (n : Fin 64) (c : Fin 4096) : EReal := ∑ i, A.dvnC n i c * A.xh n i c

/-- What block `n` adds to the gradient of the norm's shift. -/
def dlnb (n : Fin 64) (c : Fin 4096) : EReal := ∑ i, A.dvnC n i c

/-- The projection's gradient: its three parts side by side. -/
def dproj (n : Fin 64) (i : Fin 128) (k : Fin 12288) : EReal :=
  if h : k.val < 4096 then A.du n i (grp ⟨k.val, h⟩) (off ⟨k.val, h⟩)
  else if h' : k.val < 8192 then A.dv n i ⟨k.val - 4096, by omega⟩
  else A.dgate n i (grp ⟨k.val - 8192, by have := k.isLt; omega⟩) (off ⟨k.val - 8192, by have := k.isLt; omega⟩)

end Inputs

/-- Block `b` of the two that grid point `t` takes. -/
def nb (t : Fin 32) (b : Fin 2) : Fin 64 := ⟨2 * t.val + b.val, by have := t.isLt; have := b.isLt; omega⟩

/-- The row, of a grid point's 256, at position `i` of its block `b`. -/
def row (b : Fin 2) (i : Fin 128) : Fin 256 := ⟨128 * b.val + i.val, by have := b.isLt; have := i.isLt; omega⟩

end Cert.Sgu

end
-- ==== Proof.Block.lean ====
/- What one grid point computes for one group of columns and one of its two blocks of 128 rows: the body's
   operations once, with the group and the block as parameters, and their values at an index. -/
module

public import proofs.«01_k».proof.Proof.Gen.KernelIdeal.Skeleton
public import proofs.«01_k».proof.Proof.Spec

@[expose] public section

set_option maxRecDepth 16384

noncomputable section

namespace Cert.Sgu

open Idealize.ShloMosaic Cert.KernelIdeal Cert.KernelIdeal.Gen

section Terms
variable {F : FTy → Type} [FloatOps F]

/-- The mask of the weights. -/
def keepM : IVec S128x128 1 := k0_pay13 k0_pay8 k0_pay9 k0_pay10

/-- The masked weights of a group. -/
def wsmM (w : Vec F S1x128x128 .f32) : FVec F S128x128 .bf16 := k0_pay14 k0_pay8 k0_pay9 k0_pay10 w

/-- The norm's result on the group of columns from `co`. -/
def vnM (co : Nat) (h : S256x4096.Slices ![0, co] S256x512) (x2 : Vec F S256x4096 .bf16) (a b : Vec F S1x512 .f32) :
    FVec F S256x512 .bf16 :=
  truncf .bf16 (addf (mulf (mulf (extractStridedSlice S256x512 ![0, co] (k0_pay6 x2) h)
      (broadcastTo S256x512 (k0_pay7 x2) broadcasts_S256x1_S256x512))
      (broadcastTo S256x512 (shapeCast S1x512 a shapeCasts_S1x512_S1x512) broadcasts_S1x512_S256x512))
    (broadcastTo S256x512 (shapeCast S1x512 b shapeCasts_S1x512_S1x512) broadcasts_S1x512_S256x512)) bitsLt_bf16_f32

/-- Its rows from `ro`. -/
def vnbM (ro : Nat) (h : S256x512.Slices ![ro, 0] S128x512) (y : FVec F S256x512 .bf16) : FVec F S128x512 .bf16 :=
  extractStridedSlice S128x512 ![ro, 0] y h

/-- The spatial gate. -/
def sgM (w : FVec F S128x128 .bf16) (y : FVec F S128x512 .bf16) (b : Vec F S128x1 .f32) : FVec F S128x512 .f32 :=
  addf (matmul dot_S128x128_S128x512_S128x512_1_0_0_1_n_n none w y (constant S128x512 .f32 0x00000000#32))
    (broadcastTo S128x512 (shapeCast S128x1 b shapeCasts_S128x1_S128x1) broadcasts_S128x1_S128x512)

/-- The gradient of the spatial gate. -/
def dsgM (dy u gate : Vec F S128x512 .bf16) : FVec F S128x512 .f32 := k0_pay26 gate u dy

/-- The gradient of the first part. -/
def duM (sg : FVec F S128x512 .f32) (gate dy : Vec F S128x512 .bf16) : FVec F S128x512 .bf16 :=
  truncf .bf16 (mulf (mulf (k0_pay23 dy) sg) (k0_pay21 gate)) bitsLt_bf16_f32

/-- The gradient of the third part. -/
def dgateM (sg : FVec F S128x512 .f32) (gate u dy : Vec F S128x512 .bf16) : FVec F S128x512 .bf16 :=
  truncf .bf16 (mulf (mulf (mulf (k0_pay23 dy) (k0_pay22 u)) sg)
    (mulf (k0_pay20 gate) (addf (broadcast S128x512 (Scalar.ofBits .f32 0x3F800000#32))
      (mulf (k0_pay19 gate) (subf (broadcast S128x512 (Scalar.ofBits .f32 0x3F800000#32)) (k0_pay20 gate))))))
    bitsLt_bf16_f32

/-- The gradient of the norm's result. -/
def dvnM (w : FVec F S128x128 .bf16) (d : FVec F S128x512 .f32) : FVec F S128x512 .f32 :=
  k0_pay28 w (truncf .bf16 d bitsLt_bf16_f32) (constant S128x512 .f32 0x00000000#32)

/-- What is added to the gradient of the weights, on what was there. -/
def dwsM (y : FVec F S128x512 .bf16) (d : FVec F S128x512 .f32) (o : Vec F S1x128x128 .f32) : FVec F S1x128x128 .f32 :=
  k0_pay29 keepM y (truncf .bf16 d bitsLt_bf16_f32) o

/-- What is added to the gradient of the bias, on what was there. -/
def dbsM (d : FVec F S128x512 .f32) (o : Vec F S128x1 .f32) : FVec F S128x1 .f32 := k0_pay30 d o

end Terms

/-- What a grid point's eight blocks hold: the parts of the step's arrays that point `t` takes. -/
structure Holds (A : Inputs) (t : Fin 32) (x0 x1 x2 x3 : Vec Ideal S256x4096 .bf16) (x4 x5 : Vec Ideal S1x4096 .f32)
    (x6 : Vec Ideal S8x128x128 .f32) (x7 : Vec Ideal S128x8 .f32) : Prop where
  h0 : ∀ b i c, x0 (ix2 (row b i) c) = A.dy (nb t b) i c
  h1 : ∀ b i c, x1 (ix2 (row b i) c) = A.u (nb t b) i c
  h2 : ∀ b i c, x2 (ix2 (row b i) c) = A.v (nb t b) i c
  h3 : ∀ b i c, x3 (ix2 (row b i) c) = A.gate (nb t b) i c
  h4 : ∀ c, x4 (ix2 0 c) = A.lng c
  h5 : ∀ c, x5 (ix2 0 c) = A.lnb c
  h6 : ∀ g i j, x6 (ix3 g i j) = A.ws g i j
  h7 : ∀ g i, x7 (ix2 i g) = A.bs g i

/-- A position's chunk of 64, by the body's words: a division rounded down. -/
theorem chunk_word : ∀ i : Fin 128,
    Scalar.select
        (IntOp.andi
          (IntOp.cmpi CmpIPredicate.ne
            (IntOp.subi (BitVec.setWidth 32 (IntOp.cmpi CmpIPredicate.sgt (BitVec.ofNat 32 i.val) 0#32))
              (BitVec.setWidth 32 (IntOp.cmpi CmpIPredicate.slt (BitVec.ofNat 32 i.val) 0#32)))
            (Scalar.subi (Scalar.extui (Scalar.cmpi CmpIPredicate.sgt 64#32 0#32))
              (Scalar.extui (Scalar.cmpi CmpIPredicate.slt 64#32 0#32))))
          (IntOp.cmpi CmpIPredicate.ne (IntOp.remsi ArithUnit.vector (BitVec.ofNat 32 i.val) 64#32) 0#32))
        (IntOp.subi (IntOp.divsi ArithUnit.vector (BitVec.ofNat 32 i.val) 64#32) 1#32)
        (IntOp.divsi ArithUnit.vector (BitVec.ofNat 32 i.val) 64#32) = BitVec.ofNat 32 (i.val / 64) := by
  decide +kernel

theorem chunk_le : ∀ a b : Fin 2,
    IntOp.cmpi CmpIPredicate.sge (BitVec.ofNat 32 a.val) (BitVec.ofNat 32 b.val) = if b.val ≤ a.val then 1#1 else 0#1 := by
  decide +kernel

/-- The mask at positions `i`, `j`. -/
theorem keepM_apply (i j : Fin 128) : keepM (ix2 i j) = if Keeps i j then 1#1 else 0#1 := by
  unfold keepM
  pointwise [k0_pay13, k0_pay11, k0_pay12, k0_pay8, k0_pay9, k0_pay10]
  rw [chunk_word i, chunk_word j]
  exact chunk_le ⟨i.val / 64, by have := i.isLt; omega⟩ ⟨j.val / 64, by have := j.isLt; omega⟩

variable {A : Inputs} {t : Fin 32} {x0 x1 x2 x3 : Vec Ideal S256x4096 .bf16} {x4 x5 : Vec Ideal S1x4096 .f32}
    {x6 : Vec Ideal S8x128x128 .f32} {x7 : Vec Ideal S128x8 .f32}

theorem xc_apply (H : Holds A t x0 x1 x2 x3 x4 x5 x6 x7) (b : Fin 2) (i : Fin 128) (c : Fin 4096) :
    k0_pay6 x2 (ix2 (row b i) c) = A.xc (nb t b) i c := by
  pointwise [k0_pay6]
  simp only [H.h2]
  rfl

theorem rstd_apply (H : Holds A t x0 x1 x2 x3 x4 x5 x6 x7) (b : Fin 2) (i : Fin 128) :
    k0_pay7 x2 (ix2 (row b i) 0) = A.rstd (nb t b) i := by
  pointwise [k0_pay7]
  simp only [xc_apply H]
  rfl

theorem row_eq {b : Fin 2} {ro : Nat} (hr : ro = 128 * b.val) (i : Fin 128) (h : ro + i.val < 256) :
    (⟨ro + i.val, h⟩ : Fin 256) = row b i := Fin.ext (by show ro + i.val = 128 * b.val + i.val; omega)

theorem col_eq {g : Fin 8} {co : Nat} (hc : co = 512 * g.val) (e : Fin 512) (h : co + e.val < 4096) :
    (⟨co + e.val, h⟩ : Fin 4096) = col g e := Fin.ext (by show co + e.val = 512 * g.val + e.val; omega)

theorem wsmM_apply (H : Holds A t x0 x1 x2 x3 x4 x5 x6 x7) {g : Fin 8} {gg : Nat} (hg : gg = g.val)
    (hi : ∀ a, (![gg, 0, 0] : Fin 3 → Nat) a + S1x128x128.size a ≤ S8x128x128.size a) (i j : Fin 128) :
    wsmM (View.ld x6 (Rect.unit ![gg, 0, 0] S1x128x128.size hi)) (ix2 i j) = A.wm g i j := by
  subst hg
  have hk := keepM_apply i j
  unfold wsmM
  unfold keepM at hk
  pointwise [k0_pay14]
  pointwise [k0_pay13] at hk
  rw [hk, H.h6]
  unfold Inputs.wm
  split <;> rfl

theorem vnbM_apply (H : Holds A t x0 x1 x2 x3 x4 x5 x6 x7) {g : Fin 8} {b : Fin 2} {co ro : Nat} (hc : co = 512 * g.val)
    (hr : ro = 128 * b.val) (h : S256x4096.Slices ![0, co] S256x512) (h' : S256x512.Slices ![ro, 0] S128x512)
    (hi : ∀ a, (![0, co] : Fin 2 → Nat) a + S1x512.size a ≤ S1x4096.size a) (i : Fin 128) (e : Fin 512) :
    vnbM ro h' (vnM co h x2 (View.ld x4 (Rect.unit ![0, co] S1x512.size hi))
      (View.ld x5 (Rect.unit ![0, co] S1x512.size hi))) (ix2 i e) = A.vn (nb t b) i (col g e) := by
  pointwise [vnbM, vnM]
  rw [row_eq hr, col_eq hc, xc_apply H, rstd_apply H, H.h4, H.h5]
  rfl

theorem ldM_apply (x : Vec Ideal S256x4096 .bf16) {g : Fin 8} {b : Fin 2} {co ro : Nat} (hc : co = 512 * g.val)
    (hr : ro = 128 * b.val)
    (hi : ∀ a, (![ro, co] : Fin 2 → Nat) a + S128x512.size a ≤ S256x4096.size a) (i : Fin 128) (e : Fin 512) :
    View.ld x (Rect.unit ![ro, co] S128x512.size hi) (ix2 i e) = x (ix2 (row b i) (col g e)) := by
  pointwise
  rw [row_eq hr, col_eq hc]

theorem ldB_apply (H : Holds A t x0 x1 x2 x3 x4 x5 x6 x7) {g : Fin 8} {gg : Nat} (hg : gg = g.val)
    (hi : ∀ a, (![0, gg] : Fin 2 → Nat) a + S128x1.size a ≤ S128x8.size a) (i : Fin 128) :
    View.ld x7 (Rect.unit ![0, gg] S128x1.size hi) (ix2 i 0) = A.bs g i := by
  subst hg
  pointwise
  rw [H.h7]

/-- The operands of one block of one group hold that part of the step's arrays. -/
structure Loads (A : Inputs) (n : Fin 64) (g : Fin 8) (w : FVec Ideal S128x128 .bf16) (y : FVec Ideal S128x512 .bf16)
    (bb : Vec Ideal S128x1 .f32) (gt uu dd : Vec Ideal S128x512 .bf16) : Prop where
  hw : ∀ i j, w (ix2 i j) = A.wm g i j
  hy : ∀ i e, y (ix2 i e) = A.vn n i (col g e)
  hb : ∀ i, bb (ix2 i 0) = A.bs g i
  hg : ∀ i e, gt (ix2 i e) = A.gate n i (col g e)
  hu : ∀ i e, uu (ix2 i e) = A.u n i (col g e)
  hd : ∀ i e, dd (ix2 i e) = A.dy n i (col g e)

/-- The loads of block `b` of group `g` at grid point `t`. -/
theorem loads (H : Holds A t x0 x1 x2 x3 x4 x5 x6 x7) {g : Fin 8} {b : Fin 2} {gg co ro : Nat} (hg : gg = g.val)
    (hc : co = 512 * g.val) (hr : ro = 128 * b.val)
    (hw : ∀ a, (![gg, 0, 0] : Fin 3 → Nat) a + S1x128x128.size a ≤ S8x128x128.size a)
    (hs : S256x4096.Slices ![0, co] S256x512) (hs' : S256x512.Slices ![ro, 0] S128x512)
    (hl : ∀ a, (![0, co] : Fin 2 → Nat) a + S1x512.size a ≤ S1x4096.size a)
    (hb : ∀ a, (![0, gg] : Fin 2 → Nat) a + S128x1.size a ≤ S128x8.size a)
    (hm : ∀ a, (![ro, co] : Fin 2 → Nat) a + S128x512.size a ≤ S256x4096.size a) :
    Loads A (nb t b) g (wsmM (View.ld x6 (Rect.unit ![gg, 0, 0] S1x128x128.size hw)))
      (vnbM ro hs' (vnM co hs x2 (View.ld x4 (Rect.unit ![0, co] S1x512.size hl))
        (View.ld x5 (Rect.unit ![0, co] S1x512.size hl))))
      (View.ld x7 (Rect.unit ![0, gg] S128x1.size hb)) (View.ld x3 (Rect.unit ![ro, co] S128x512.size hm))
      (View.ld x1 (Rect.unit ![ro, co] S128x512.size hm)) (View.ld x0 (Rect.unit ![ro, co] S128x512.size hm)) where
  hw := wsmM_apply H hg hw
  hy := vnbM_apply H hc hr hs hs' hl
  hb := ldB_apply H hg hb
  hg i e := (ldM_apply x3 hc hr hm i e).trans (H.h3 b i _)
  hu i e := (ldM_apply x1 hc hr hm i e).trans (H.h1 b i _)
  hd i e := (ldM_apply x0 hc hr hm i e).trans (H.h0 b i _)

variable {n : Fin 64} {g : Fin 8} {w : FVec Ideal S128x128 .bf16} {y : FVec Ideal S128x512 .bf16}
    {bb : Vec Ideal S128x1 .f32} {gt uu dd : Vec Ideal S128x512 .bf16}

theorem sgM_apply (L : Loads A n g w y bb gt uu dd) (i : Fin 128) (e : Fin 512) :
    sgM w y bb (ix2 i e) = A.sg n i g e := by
  pointwise [sgM]
  simp only [L.hw, L.hy, L.hb]
  rfl

theorem dsgM_apply (L : Loads A n g w y bb gt uu dd) (i : Fin 128) (e : Fin 512) :
    dsgM dd uu gt (ix2 i e) = A.dsg n i (col g e) := by
  pointwise [dsgM, k0_pay26, k0_pay23, k0_pay22, k0_pay21, k0_pay20, k0_pay19]
  rw [L.hd, L.hu, L.hg]
  rfl

theorem duM_apply (L : Loads A n g w y bb gt uu dd) (i : Fin 128) (e : Fin 512) :
    duM (sgM w y bb) gt dd (ix2 i e) = A.du n i g e := by
  pointwise [duM, k0_pay23, k0_pay22, k0_pay21, k0_pay20, k0_pay19]
  rw [L.hd, sgM_apply L, L.hg]
  rfl

theorem dgateM_apply (L : Loads A n g w y bb gt uu dd) (i : Fin 128) (e : Fin 512) :
    dgateM (sgM w y bb) gt uu dd (ix2 i e) = A.dgate n i g e := by
  pointwise [dgateM, k0_pay23, k0_pay22, k0_pay21, k0_pay20, k0_pay19]
  rw [L.hd, L.hu, sgM_apply L, L.hg]
  rfl

theorem dvnM_apply (L : Loads A n g w y bb gt uu dd) (j : Fin 128) (e : Fin 512) :
    dvnM w (dsgM dd uu gt) (ix2 j e) = A.dvn n j g e := by
  pointwise [dvnM, k0_pay28]
  simp only [L.hw, dsgM_apply L]
  rfl

theorem dwsM_apply (L : Loads A n g w y bb gt uu dd) (o : Vec Ideal S1x128x128 .f32) (i j : Fin 128) :
    dwsM y (dsgM dd uu gt) o (ix3 0 i j) = o (ix3 0 i j) + A.dws n g i j := by
  pointwise [dwsM, k0_pay29]
  simp only [dsgM_apply L, L.hy, keepM_apply]
  unfold Inputs.dws
  split <;> rfl

theorem dbsM_apply (L : Loads A n g w y bb gt uu dd) (o : Vec Ideal S128x1 .f32) (i : Fin 128) :
    dbsM (dsgM dd uu gt) o (ix2 i 0) = o (ix2 i 0) + A.dbs n g i := by
  pointwise [dbsM, k0_pay30]
  simp only [dsgM_apply L]
  rfl

variable {D : Vec Ideal S256x4096 .f32} {ld4 : Vec Ideal S1x4096 .f32}

/-- The normalised row. -/
theorem xh_apply (H : Holds A t x0 x1 x2 x3 x4 x5 x6 x7) (b : Fin 2) (i : Fin 128) (c : Fin 4096) :
    k0_pay317 (k0_pay6 x2) (k0_pay7 x2) (ix2 (row b i) c) = A.xh (nb t b) i c := by
  pointwise [k0_pay317]
  rw [xc_apply H, rstd_apply H]
  rfl

/-- The gradient of the second part, the gradient of the norm's result at hand. -/
theorem dv_apply (H : Holds A t x0 x1 x2 x3 x4 x5 x6 x7)
    (hD : ∀ b i c, D (ix2 (row b i) c) = A.dvnC (nb t b) i c) (b : Fin 2) (i : Fin 128) (c : Fin 4096) :
    k0_pay318 (k0_pay6 x2) (k0_pay7 x2) D x4 (ix2 (row b i) c) = A.dv (nb t b) i c := by
  pointwise [k0_pay318]
  simp only [xh_apply H, rstd_apply H, hD, H.h4]
  rfl

/-- A sum over a grid point's rows, block by block. -/
theorem sum_rows (f : Fin 256 → EReal) : ∑ r, f r = (∑ i, f (row 0 i)) + ∑ i, f (row 1 i) := by
  rw [Fin.sum_univ_two_halves 128 128 rfl f]
  exact congrArg₂ (· + ·) (Finset.sum_congr rfl fun i _ => congrArg f (Fin.ext (by show i.val = 128 * 0 + i.val; omega)))
    (Finset.sum_congr rfl fun i _ => congrArg f (Fin.ext (by show 128 + i.val = 128 * 1 + i.val; omega)))

theorem dlngM_apply (H : Holds A t x0 x1 x2 x3 x4 x5 x6 x7)
    (hD : ∀ b i c, D (ix2 (row b i) c) = A.dvnC (nb t b) i c) (o : Vec Ideal S1x4096 .f32) (c : Fin 4096) :
    k0_pay319 (k0_pay6 x2) (k0_pay7 x2) D o (ix2 0 c) = o (ix2 0 c) + (A.dlng (nb t 0) c + A.dlng (nb t 1) c) := by
  pointwise [k0_pay319]
  rw [sum_rows]
  simp only [xh_apply H, hD]
  rfl

theorem dlnbM_apply
    (hD : ∀ b i c, D (ix2 (row b i) c) = A.dvnC (nb t b) i c) (o : Vec Ideal S1x4096 .f32) (c : Fin 4096) :
    k0_pay1 D o (ix2 0 c) = o (ix2 0 c) + (A.dlnb (nb t 0) c + A.dlnb (nb t 1) c) := by
  pointwise [k0_pay1]
  rw [sum_rows]
  simp only [hD]
  rfl

end Cert.Sgu

end
-- ==== Proof.Rects.lean ====
/- The pieces a grid point stores, as tiles of the arrays they belong to. -/
module

public import proofs.«01_k».proof.Proof.Gen.KernelIdeal.Frame
public import proofs.«01_k».proof.Proof.Block
public import Idealize.ShloMosaic.Lib.Pipeline.Value
public import Idealize.ShloMosaic.Lib.Pipeline.ValueKit

@[expose] public section

set_option maxRecDepth 16384

noncomputable section

namespace Cert.Sgu

open Idealize.ShloMosaic Cert.KernelIdeal Cert.KernelIdeal.Gen

/-- The block of a row of a grid point's 256, and its position there. -/
def blkOf (r : Fin 256) : Fin 2 := ⟨r.val / 128, by have := r.isLt; omega⟩
def posOf (r : Fin 256) : Fin 128 := ⟨r.val % 128, Nat.mod_lt _ (by decide)⟩

theorem row_blk_pos (r : Fin 256) : row (blkOf r) (posOf r) = r := Fin.ext (Nat.div_add_mod r.val 128)
theorem blk_row (b : Fin 2) (i : Fin 128) : blkOf (row b i) = b :=
  Fin.ext (by show (128 * b.val + i.val) / 128 = b.val; have := i.isLt; omega)
theorem pos_row (b : Fin 2) (i : Fin 128) : posOf (row b i) = i :=
  Fin.ext (by show (128 * b.val + i.val) % 128 = i.val; have := i.isLt; omega)

/-- The first output's block at grid point `t`. -/
def Gp (A : Inputs) (t : Fin 32) : S256x12288.Idx → EReal := fun y => A.dproj (nb t (blkOf (y 0))) (posOf (y 0)) (y 1)

/-- The scratch buffer at grid point `t`. -/
def Gs (A : Inputs) (t : Fin 32) : S256x4096.Idx → EReal := fun y => A.dvnC (nb t (blkOf (y 0))) (posOf (y 0)) (y 1)

theorem Gp_ix2 (A : Inputs) (t : Fin 32) (b : Fin 2) (i : Fin 128) (k : Fin 12288) :
    Gp A t (ix2 (row b i) k) = A.dproj (nb t b) i k := by
  show A.dproj (nb t (blkOf (row b i))) (posOf (row b i)) k = _
  rw [blk_row, pos_row]

theorem Gs_ix2 (A : Inputs) (t : Fin 32) (b : Fin 2) (i : Fin 128) (k : Fin 4096) :
    Gs A t (ix2 (row b i) k) = A.dvnC (nb t b) i k := by
  show A.dvnC (nb t (blkOf (row b i))) (posOf (row b i)) k = _
  rw [blk_row, pos_row]

/-- A unit rectangle's index at an axis. -/
theorem emb_unit_val {S : Shape} (off size : Fin S.rank → Nat) (inb : ∀ a, off a + size a ≤ S.size a)
    (x : (Rect.unit off size inb).shape.Idx) (a : Fin S.rank) :
    ((Rect.unit off size inb).emb x a).val = off a + (x a).val := by
  rw [Rect.emb_apply]
  exact congrArg (off a + ·) (Nat.one_mul _)

theorem dproj_u (A : Inputs) (n : Fin 64) (i : Fin 128) (g : Fin 8) (e : Fin 512) (k : Fin 12288)
    (h : k.val = 512 * g.val + e.val) : A.dproj n i k = A.du n i g e := by
  have hg := g.isLt
  have he := e.isLt
  have hk : k.val < 4096 := by omega
  unfold Inputs.dproj
  rw [dif_pos hk]
  exact congrArg₂ (A.du n i) (Fin.ext (by show k.val / 512 = g.val; omega)) (Fin.ext (by show k.val % 512 = e.val; omega))

theorem dproj_gate (A : Inputs) (n : Fin 64) (i : Fin 128) (g : Fin 8) (e : Fin 512) (k : Fin 12288)
    (h : k.val = 8192 + 512 * g.val + e.val) : A.dproj n i k = A.dgate n i g e := by
  have hg := g.isLt
  have he := e.isLt
  unfold Inputs.dproj
  rw [dif_neg (by omega), dif_neg (by omega)]
  exact congrArg₂ (A.dgate n i) (Fin.ext (by show (k.val - 8192) / 512 = g.val; omega)) (Fin.ext (by show (k.val - 8192) % 512 = e.val; omega))

theorem dproj_v (A : Inputs) (n : Fin 64) (i : Fin 128) (c : Fin 4096) (k : Fin 12288)
    (h : k.val = 4096 + c.val) : A.dproj n i k = A.dv n i c := by
  have hg := c.isLt
  unfold Inputs.dproj
  rw [dif_neg (by omega), dif_pos (by omega)]
  exact congrArg (A.dv n i) (Fin.ext (by show k.val - 4096 = c.val; omega))

variable {A : Inputs} {t : Fin 32} {g : Fin 8} {b : Fin 2} {w : FVec Ideal S128x128 .bf16} {y : FVec Ideal S128x512 .bf16}
    {bb : Vec Ideal S128x1 .f32} {gt uu dd : Vec Ideal S128x512 .bf16}

theorem emb_row {ro : Nat} (hr : ro = 128 * b.val) (i : Fin 128) (r : Fin 256)
    (h : r.val = ro + i.val) : blkOf r = b ∧ posOf r = i := by
  have : r = row b i := Fin.ext (by show r.val = 128 * b.val + i.val; omega)
  rw [this]
  exact ⟨blk_row b i, pos_row b i⟩

/-- A tile of the first part. -/
theorem du_rect (L : Loads A (nb t b) g w y bb gt uu dd) {ro co : Nat} (hr : ro = 128 * b.val) (hc : co = 512 * g.val)
    (inb : ∀ a, (![ro, co] : Fin 2 → Nat) a + S128x512.size a ≤ S256x12288.size a) (x : S128x512.Idx) :
    duM (sgM w y bb) gt dd x = Gp A t ((Rect.unit (s := S256x12288) ![ro, co] S128x512.size inb).emb x) := by
  obtain ⟨i, e, rfl⟩ : ∃ i e, x = ix2 i e := ⟨x 0, x 1, eq_ix2 x⟩
  rw [duM_apply L]
  obtain ⟨h1, h2⟩ := emb_row hr i
    ((Rect.unit (s := S256x12288) ![ro, co] S128x512.size inb).emb (ix2 i e) 0) (emb_unit_val _ _ inb _ 0)
  unfold Gp
  rw [h1, h2]
  exact (dproj_u A _ i g e _ ((emb_unit_val _ _ inb _ 1).trans (by subst hc; rfl))).symm

/-- A tile of the third part. -/
theorem dgate_rect (L : Loads A (nb t b) g w y bb gt uu dd) {ro co : Nat} (hr : ro = 128 * b.val)
    (hc : co = 8192 + 512 * g.val)
    (inb : ∀ a, (![ro, co] : Fin 2 → Nat) a + S128x512.size a ≤ S256x12288.size a) (x : S128x512.Idx) :
    dgateM (sgM w y bb) gt uu dd x = Gp A t ((Rect.unit (s := S256x12288) ![ro, co] S128x512.size inb).emb x) := by
  obtain ⟨i, e, rfl⟩ : ∃ i e, x = ix2 i e := ⟨x 0, x 1, eq_ix2 x⟩
  rw [dgateM_apply L]
  obtain ⟨h1, h2⟩ := emb_row hr i
    ((Rect.unit (s := S256x12288) ![ro, co] S128x512.size inb).emb (ix2 i e) 0) (emb_unit_val _ _ inb _ 0)
  unfold Gp
  rw [h1, h2]
  exact (dproj_gate A _ i g e _ ((emb_unit_val _ _ inb _ 1).trans (by subst hc; rfl))).symm

/-- A tile of the scratch buffer. -/
theorem dvn_rect (L : Loads A (nb t b) g w y bb gt uu dd) {ro co : Nat} (hr : ro = 128 * b.val) (hc : co = 512 * g.val)
    (inb : ∀ a, (![ro, co] : Fin 2 → Nat) a + S128x512.size a ≤ S256x4096.size a) (x : S128x512.Idx) :
    dvnM w (dsgM dd uu gt) x = Gs A t ((Rect.unit (s := S256x4096) ![ro, co] S128x512.size inb).emb x) := by
  obtain ⟨i, e, rfl⟩ : ∃ i e, x = ix2 i e := ⟨x 0, x 1, eq_ix2 x⟩
  rw [dvnM_apply L]
  obtain ⟨h1, h2⟩ := emb_row hr i
    ((Rect.unit (s := S256x4096) ![ro, co] S128x512.size inb).emb (ix2 i e) 0) (emb_unit_val _ _ inb _ 0)
  have h3 : (Rect.unit (s := S256x4096) ![ro, co] S128x512.size inb).emb (ix2 i e) 1 = col g e :=
    Fin.ext ((emb_unit_val _ _ inb _ 1).trans (by subst hc; rfl))
  unfold Gs
  rw [h1, h2, h3]
  unfold Inputs.dvnC
  rw [grp_col, off_col]

/-- The second part, whole. -/
theorem dv_rect {x0 x1 x2 x3 : Vec Ideal S256x4096 .bf16} {x4 x5 : Vec Ideal S1x4096 .f32} {x6 : Vec Ideal S8x128x128 .f32}
    {x7 : Vec Ideal S128x8 .f32} (H : Holds A t x0 x1 x2 x3 x4 x5 x6 x7) {D : Vec Ideal S256x4096 .f32} (hD : D = Gs A t)
    (inb : ∀ a, (![0, 4096] : Fin 2 → Nat) a + S256x4096.size a ≤ S256x12288.size a) (x : S256x4096.Idx) :
    k0_pay318 (k0_pay6 x2) (k0_pay7 x2) D x4 x
      = Gp A t ((Rect.unit (s := S256x12288) ![0, 4096] S256x4096.size inb).emb x) := by
  obtain ⟨r, c, rfl⟩ : ∃ r c, x = ix2 r c := ⟨x 0, x 1, eq_ix2 x⟩
  have hr : (Rect.unit (s := S256x12288) ![0, 4096] S256x4096.size inb).emb (ix2 r c) 0 = r :=
    Fin.ext ((emb_unit_val _ _ inb _ 0).trans (Nat.zero_add _))
  have hv := dv_apply H (D := D) (fun b i c => by rw [hD]; exact Gs_ix2 A t b i c) (blkOf r) (posOf r) c
  rw [row_blk_pos] at hv
  rw [hv]
  unfold Gp
  rw [hr]
  exact (dproj_v A _ _ c _ (emb_unit_val _ _ inb _ 1)).symm

/-- The blocks as they are read: each buffer holds its block, and a load of a whole block reads it. -/
theorem Holds.read {x0 x1 x2 x3 : Vec Ideal S256x4096 .bf16} {x4 x5 : Vec Ideal S1x4096 .f32}
    {x6 : Vec Ideal S8x128x128 .f32} {x7 : Vec Ideal S128x8 .f32} (H : Holds A t x0 x1 x2 x3 x4 x5 x6 x7)
    {arg1 arg2 arg3 arg4 : Memref sig .tc .vmem S256x4096 .bf16} {arg5 arg6 : Memref sig .tc .vmem S1x4096 .f32}
    {arg7 : Memref sig .tc .vmem S8x128x128 .f32} {arg8 : Memref sig .tc .vmem S128x8 .f32}
    (h1 : arg1.IsWhole) (h2 : arg2.IsWhole) (h3 : arg3.IsWhole) (h4 : arg4.IsWhole) (h5 : arg5.IsWhole)
    (h6 : arg6.IsWhole) (h7 : arg7.IsWhole) (h8 : arg8.IsWhole) :
    Holds A t (arg1.view.read (Elt Ideal) (h1.unread x0)) (arg2.view.read (Elt Ideal) (h2.unread x1))
      (View.ld (arg3.view.read (Elt Ideal) (h3.unread x2))
        (Rect.unit ![0, 0] S256x4096.size inb_S256x4096_S256x4096_0_0))
      (arg4.view.read (Elt Ideal) (h4.unread x3)) (arg5.view.read (Elt Ideal) (h5.unread x4))
      (arg6.view.read (Elt Ideal) (h6.unread x5)) (arg7.view.read (Elt Ideal) (h7.unread x6))
      (arg8.view.read (Elt Ideal) (h8.unread x7)) := by
  rw [h1.read_unread, h2.read_unread, h3.read_unread, h4.read_unread, h5.read_unread, h6.read_unread, h7.read_unread,
    h8.read_unread, View.ld_unit_zero (by funext a; fin_cases a <;> rfl)]
  exact H

/-- The same with the norm's scale loaded whole. -/
theorem Holds.whole {x0 x1 x2 x3 : Vec Ideal S256x4096 .bf16} {x4 x5 : Vec Ideal S1x4096 .f32}
    {x6 : Vec Ideal S8x128x128 .f32} {x7 : Vec Ideal S128x8 .f32} (H : Holds A t x0 x1 x2 x3 x4 x5 x6 x7) :
    Holds A t x0 x1 x2 x3 (View.ld x4 (Rect.unit ![0, 0] S1x4096.size inb_S1x4096_S1x4096_0_0)) x5 x6 x7 := by
  rw [View.ld_unit_zero (by funext a; fin_cases a <;> rfl)]
  exact H

/-- What a grid point leaves in the gradient of the weights, `o` being there before. -/
def Gw (A : Inputs) (t : Fin 32) (o : S8x128x128.Idx → EReal) : S8x128x128.Idx → EReal := fun y =>
  o y + (A.dws (nb t 0) (y 0) (y 1) (y 2) + A.dws (nb t 1) (y 0) (y 1) (y 2))

/-- What it leaves in the gradient of the bias. -/
def Gb (A : Inputs) (t : Fin 32) (o : S128x8.Idx → EReal) : S128x8.Idx → EReal := fun y =>
  o y + (A.dbs (nb t 0) (y 1) (y 0) + A.dbs (nb t 1) (y 1) (y 0))

/-- The rectangle of a group in the gradient of the weights, and in that of the bias. -/
abbrev rW (gg : Nat) (inb : ∀ a, (![gg, 0, 0] : Fin 3 → Nat) a + S1x128x128.size a ≤ S8x128x128.size a) : Rect S8x128x128 :=
  Rect.unit ![gg, 0, 0] S1x128x128.size inb
abbrev rB (gg : Nat) (inb : ∀ a, (![0, gg] : Fin 2 → Nat) a + S128x1.size a ≤ S128x8.size a) : Rect S128x8 :=
  Rect.unit ![0, gg] S128x1.size inb

/-- An index off the last piece. -/
theorem canon_skip {S : Shape} {e : EltTy} {r : Rect S} {y : S.Idx} (hm : y ∉ r.set) {w : r.shape.Idx → Elt Ideal e}
    {L : List (View.Piece (Elt Ideal) S e)} : View.canon (⟨r, w⟩ :: L) y = View.canon L y :=
  View.canon_cons_of_not_mem ⟨r, w⟩ L hm

section Steps
variable {w0 w1 : FVec Ideal S128x128 .bf16} {y0 y1 : FVec Ideal S128x512 .bf16}
    {b0 b1 : Vec Ideal S128x1 .f32} {gt0 uu0 dd0 gt1 uu1 dd1 : Vec Ideal S128x512 .bf16}
  {κ : Kind} {sp : Space}

theorem mem_w {gg : Nat} (inb : ∀ a, (![gg, 0, 0] : Fin 3 → Nat) a + S1x128x128.size a ≤ S8x128x128.size a)
    (y : S8x128x128.Idx) : y ∈ (rW gg inb).set ↔ (y 0).val = gg := by
  constructor
  · intro h
    obtain ⟨x, rfl⟩ := (rW gg inb).exists_idx_of_mem h
    refine (emb_unit_val _ _ inb x 0).trans ?_
    have : (x 0).val < 1 := (x 0).isLt
    show gg + (x 0).val = gg
    omega
  · intro h
    have e : (rW gg inb).emb (ix3 (0 : Fin 1) (y 1) (y 2)) = y := by
      funext a
      refine Fin.ext ((emb_unit_val _ _ inb _ a).trans ?_)
      fin_cases a
      · exact h.symm
      · exact Nat.zero_add _
      · exact Nat.zero_add _
    rw [← e]
    exact LoadRect.idx_mem _ _

theorem mem_b {gg : Nat} (inb : ∀ a, (![0, gg] : Fin 2 → Nat) a + S128x1.size a ≤ S128x8.size a)
    (y : S128x8.Idx) : y ∈ (rB gg inb).set ↔ (y 1).val = gg := by
  constructor
  · intro h
    obtain ⟨x, rfl⟩ := (rB gg inb).exists_idx_of_mem h
    refine (emb_unit_val _ _ inb x 1).trans ?_
    have : (x 1).val < 1 := (x 1).isLt
    show gg + (x 1).val = gg
    omega
  · intro h
    have e : (rB gg inb).emb (ix2 (y 0) (0 : Fin 1)) = y := by
      funext a
      refine Fin.ext ((emb_unit_val _ _ inb _ a).trans ?_)
      fin_cases a
      · exact Nat.zero_add _
      · exact h.symm
    rw [← e]
    exact LoadRect.idx_mem _ _

/-- Group `g` of the gradient of the weights: its two blocks' additions, the second on what the first stored. -/
theorem dws_step (L0 : Loads A (nb t 0) g w0 y0 b0 gt0 uu0 dd0) (L1 : Loads A (nb t 1) g w1 y1 b1 gt1 uu1 dd1)
    {gg : Nat} (hg : gg = g.val) (inb : ∀ a, (![gg, 0, 0] : Fin 3 → Nat) a + S1x128x128.size a ≤ S8x128x128.size a)
    (v : View sig κ sp S8x128x128 .f32) (o : S8x128x128.Idx → EReal) (l : Vec Ideal S1x128x128 .f32)
    (hl : ∀ x, l x = o ((rW gg inb).emb x))
    {L : List (View.Piece (Elt Ideal) S8x128x128 .f32)} (hL : ∀ y, (y 0).val < gg → View.canon L y = Gw A t o y) :
    ∀ y : S8x128x128.Idx, (y 0).val < gg + 1 →
      View.canon (⟨rW gg inb,
          dwsM y1 (dsgM dd1 uu1 gt1) (v.readCov (⟨rW gg inb, dwsM y0 (dsgM dd0 uu0 gt0) l⟩ :: L)
            (rW gg inb).toLoadRect)⟩
        :: ⟨rW gg inb, dwsM y0 (dsgM dd0 uu0 gt0) l⟩ :: L) y = Gw A t o y := by
  intro y hy
  by_cases hm : y ∈ (rW gg inb).set
  · obtain ⟨x, rfl⟩ := (rW gg inb).exists_idx_of_mem hm
    rw [show ∀ x, (rW gg inb).idx x
      = (rW gg inb).emb x from fun _ => rfl, View.canon_cons_emb,
      View.readCov_cons_toLoadRect]
    obtain ⟨z, i, j, rfl⟩ : ∃ z i j, x = ix3 z i j := ⟨x 0, x 1, x 2, eq_ix3 x⟩
    obtain rfl : z = 0 := Subsingleton.elim _ _
    rw [dwsM_apply L1, dwsM_apply L0, hl, add_assoc]
    have e0 : (rW gg inb).emb (ix3 0 i j) 0 = g :=
      Fin.ext ((emb_unit_val _ _ inb _ 0).trans hg)
    have e1 : (rW gg inb).emb (ix3 0 i j) 1 = i :=
      Fin.ext ((emb_unit_val _ _ inb _ 1).trans (Nat.zero_add _))
    have e2 : (rW gg inb).emb (ix3 0 i j) 2 = j :=
      Fin.ext ((emb_unit_val _ _ inb _ 2).trans (Nat.zero_add _))
    unfold Gw
    rw [e0, e1, e2]
  · rw [canon_skip hm, canon_skip hm]
    refine hL y ?_
    have h1 : (y 0).val ≠ gg := fun h => hm ((mem_w inb y).2 h)
    exact lt_of_le_of_ne (Nat.lt_succ_iff.1 hy) h1

/-- The groups after it are as they were. -/
theorem dws_keep {gg : Nat} (inb : ∀ a, (![gg, 0, 0] : Fin 3 → Nat) a + S1x128x128.size a ≤ S8x128x128.size a)
    {L : List (View.Piece (Elt Ideal) S8x128x128 .f32)} {o : S8x128x128.Idx → EReal}
    (hL : ∀ y, gg ≤ (y 0).val → View.canon L y = o y) (p q : (rW gg inb).shape.Idx → Elt Ideal .f32) :
    ∀ y : S8x128x128.Idx, gg + 1 ≤ (y 0).val →
      View.canon (⟨rW gg inb, p⟩ :: ⟨rW gg inb, q⟩ :: L) y = o y := by
  intro y hy
  have hm : y ∉ (rW gg inb).set := fun h => by
    have := (mem_w inb y).1 h; omega
  rw [canon_skip hm, canon_skip hm]
  exact hL y (by omega)

/-- A load of a group not yet stored. -/
theorem dws_load {gg : Nat} (inb : ∀ a, (![gg, 0, 0] : Fin 3 → Nat) a + S1x128x128.size a ≤ S8x128x128.size a)
    (v : View sig κ sp S8x128x128 .f32) {L : List (View.Piece (Elt Ideal) S8x128x128 .f32)} {o : S8x128x128.Idx → EReal}
    (hL : ∀ y, gg ≤ (y 0).val → View.canon L y = o y) (x : S1x128x128.Idx) :
    v.readCov L (rW gg inb).toLoadRect x
      = o ((rW gg inb).emb x) := by
  rw [View.readCov_eq_canon']
  exact hL _ (le_of_eq ((mem_w inb _).1 (LoadRect.idx_mem _ x)).symm)

/-- Group `g` of the gradient of the bias. -/
theorem dbs_step (L0 : Loads A (nb t 0) g w0 y0 b0 gt0 uu0 dd0) (L1 : Loads A (nb t 1) g w1 y1 b1 gt1 uu1 dd1)
    {gg : Nat} (hg : gg = g.val) (inb : ∀ a, (![0, gg] : Fin 2 → Nat) a + S128x1.size a ≤ S128x8.size a)
    (v : View sig κ sp S128x8 .f32) (o : S128x8.Idx → EReal) (l : Vec Ideal S128x1 .f32)
    (hl : ∀ x, l x = o ((rB gg inb).emb x))
    {L : List (View.Piece (Elt Ideal) S128x8 .f32)} (hL : ∀ y, (y 1).val < gg → View.canon L y = Gb A t o y) :
    ∀ y : S128x8.Idx, (y 1).val < gg + 1 →
      View.canon (⟨rB gg inb,
          dbsM (dsgM dd1 uu1 gt1) (v.readCov (⟨rB gg inb, dbsM (dsgM dd0 uu0 gt0) l⟩ :: L)
            (rB gg inb).toLoadRect)⟩
        :: ⟨rB gg inb, dbsM (dsgM dd0 uu0 gt0) l⟩ :: L) y = Gb A t o y := by
  intro y hy
  by_cases hm : y ∈ (rB gg inb).set
  · obtain ⟨x, rfl⟩ := (rB gg inb).exists_idx_of_mem hm
    rw [show ∀ x, (rB gg inb).idx x
      = (rB gg inb).emb x from fun _ => rfl, View.canon_cons_emb,
      View.readCov_cons_toLoadRect]
    obtain ⟨i, z, rfl⟩ : ∃ i z, x = ix2 i z := ⟨x 0, x 1, eq_ix2 x⟩
    obtain rfl : z = 0 := Subsingleton.elim _ _
    rw [dbsM_apply L1, dbsM_apply L0, hl, add_assoc]
    have e0 : (rB gg inb).emb (ix2 i 0) 0 = i :=
      Fin.ext ((emb_unit_val _ _ inb _ 0).trans (Nat.zero_add _))
    have e1 : (rB gg inb).emb (ix2 i 0) 1 = g :=
      Fin.ext ((emb_unit_val _ _ inb _ 1).trans hg)
    unfold Gb
    rw [e0, e1]
  · rw [canon_skip hm, canon_skip hm]
    refine hL y ?_
    have h1 : (y 1).val ≠ gg := fun h => hm ((mem_b inb y).2 h)
    exact lt_of_le_of_ne (Nat.lt_succ_iff.1 hy) h1

theorem dbs_keep {gg : Nat} (inb : ∀ a, (![0, gg] : Fin 2 → Nat) a + S128x1.size a ≤ S128x8.size a)
    {L : List (View.Piece (Elt Ideal) S128x8 .f32)} {o : S128x8.Idx → EReal}
    (hL : ∀ y, gg ≤ (y 1).val → View.canon L y = o y) (p q : (rB gg inb).shape.Idx → Elt Ideal .f32) :
    ∀ y : S128x8.Idx, gg + 1 ≤ (y 1).val →
      View.canon (⟨rB gg inb, p⟩ :: ⟨rB gg inb, q⟩ :: L) y = o y := by
  intro y hy
  have hm : y ∉ (rB gg inb).set := fun h => by
    have := (mem_b inb y).1 h; omega
  rw [canon_skip hm, canon_skip hm]
  exact hL y (by omega)

theorem dbs_load {gg : Nat} (inb : ∀ a, (![0, gg] : Fin 2 → Nat) a + S128x1.size a ≤ S128x8.size a)
    (v : View sig κ sp S128x8 .f32) {L : List (View.Piece (Elt Ideal) S128x8 .f32)} {o : S128x8.Idx → EReal}
    (hL : ∀ y, gg ≤ (y 1).val → View.canon L y = o y) (x : S128x1.Idx) :
    v.readCov L (rB gg inb).toLoadRect x
      = o ((rB gg inb).emb x) := by
  rw [View.readCov_eq_canon']
  exact hL _ (le_of_eq ((mem_b inb _).1 (LoadRect.idx_mem _ x)).symm)

/-- Group `g` where the groups before it are done and the others are as they were: then the same of the next. -/
theorem dws_both (L0 : Loads A (nb t 0) g w0 y0 b0 gt0 uu0 dd0) (L1 : Loads A (nb t 1) g w1 y1 b1 gt1 uu1 dd1)
    {gg : Nat} (hg : gg = g.val) (inb : ∀ a, (![gg, 0, 0] : Fin 3 → Nat) a + S1x128x128.size a ≤ S8x128x128.size a)
    (v : View sig κ sp S8x128x128 .f32) (o : S8x128x128.Idx → EReal) {L : List (View.Piece (Elt Ideal) S8x128x128 .f32)}
    (hL : (∀ y, (y 0).val < gg → View.canon L y = Gw A t o y) ∧ ∀ y, gg ≤ (y 0).val → View.canon L y = o y) :
    (∀ y : S8x128x128.Idx, (y 0).val < gg + 1 → View.canon (⟨rW gg inb, dwsM y1 (dsgM dd1 uu1 gt1) (v.readCov (⟨rW gg inb, dwsM y0 (dsgM dd0 uu0 gt0) (v.readCov L (rW gg inb).toLoadRect)⟩ :: L) (rW gg inb).toLoadRect)⟩
        :: ⟨rW gg inb, dwsM y0 (dsgM dd0 uu0 gt0) (v.readCov L (rW gg inb).toLoadRect)⟩ :: L) y = Gw A t o y)
    ∧ ∀ y : S8x128x128.Idx, gg + 1 ≤ (y 0).val → View.canon (⟨rW gg inb, dwsM y1 (dsgM dd1 uu1 gt1) (v.readCov (⟨rW gg inb, dwsM y0 (dsgM dd0 uu0 gt0) (v.readCov L (rW gg inb).toLoadRect)⟩ :: L) (rW gg inb).toLoadRect)⟩
        :: ⟨rW gg inb, dwsM y0 (dsgM dd0 uu0 gt0) (v.readCov L (rW gg inb).toLoadRect)⟩ :: L) y = o y :=
  ⟨dws_step L0 L1 hg inb v o _ (dws_load inb v hL.2) hL.1, dws_keep inb hL.2 _ _⟩

/-- Group `g` where the groups before it are done and the others are as they were: then the same of the next. -/
theorem dbs_both (L0 : Loads A (nb t 0) g w0 y0 b0 gt0 uu0 dd0) (L1 : Loads A (nb t 1) g w1 y1 b1 gt1 uu1 dd1)
    {gg : Nat} (hg : gg = g.val) (inb : ∀ a, (![0, gg] : Fin 2 → Nat) a + S128x1.size a ≤ S128x8.size a)
    (v : View sig κ sp S128x8 .f32) (o : S128x8.Idx → EReal) {L : List (View.Piece (Elt Ideal) S128x8 .f32)}
    (hL : (∀ y, (y 1).val < gg → View.canon L y = Gb A t o y) ∧ ∀ y, gg ≤ (y 1).val → View.canon L y = o y) :
    (∀ y : S128x8.Idx, (y 1).val < gg + 1 → View.canon (⟨rB gg inb, dbsM (dsgM dd1 uu1 gt1) (v.readCov (⟨rB gg inb, dbsM (dsgM dd0 uu0 gt0) (v.readCov L (rB gg inb).toLoadRect)⟩ :: L) (rB gg inb).toLoadRect)⟩
        :: ⟨rB gg inb, dbsM (dsgM dd0 uu0 gt0) (v.readCov L (rB gg inb).toLoadRect)⟩ :: L) y = Gb A t o y)
    ∧ ∀ y : S128x8.Idx, gg + 1 ≤ (y 1).val → View.canon (⟨rB gg inb, dbsM (dsgM dd1 uu1 gt1) (v.readCov (⟨rB gg inb, dbsM (dsgM dd0 uu0 gt0) (v.readCov L (rB gg inb).toLoadRect)⟩ :: L) (rB gg inb).toLoadRect)⟩
        :: ⟨rB gg inb, dbsM (dsgM dd0 uu0 gt0) (v.readCov L (rB gg inb).toLoadRect)⟩ :: L) y = o y :=
  ⟨dbs_step L0 L1 hg inb v o _ (dbs_load inb v hL.2) hL.1, dbs_keep inb hL.2 _ _⟩

end Steps

theorem zero_w (y : S8x128x128.Idx) : (k0_pay2 (F := Ideal)) y = (0 : EReal) := by
  obtain ⟨g, i, j, rfl⟩ : ∃ g i j, y = ix3 g i j := ⟨y 0, y 1, y 2, eq_ix3 y⟩
  pointwise [k0_pay2]

theorem zero_b (y : S128x8.Idx) : (k0_pay3 (F := Ideal)) y = (0 : EReal) := by
  obtain ⟨i, g, rfl⟩ : ∃ i g, y = ix2 i g := ⟨y 0, y 1, eq_ix2 y⟩
  pointwise [k0_pay3]

theorem zero_g (y : S1x4096.Idx) : (k0_pay4 (F := Ideal)) y = (0 : EReal) := by
  obtain ⟨i, g, rfl⟩ : ∃ i g, y = ix2 i g := ⟨y 0, y 1, eq_ix2 y⟩
  pointwise [k0_pay4]

theorem zero_s (y : S1x4096.Idx) : (k0_pay5 (F := Ideal)) y = (0 : EReal) := by
  obtain ⟨i, g, rfl⟩ : ∃ i g, y = ix2 i g := ⟨y 0, y 1, eq_ix2 y⟩
  pointwise [k0_pay5]

/-- What a grid point leaves in the gradients of the norm's scale and shift, `o` being there before. -/
def Gg (A : Inputs) (t : Fin 32) (o : S1x4096.Idx → EReal) : S1x4096.Idx → EReal := fun y =>
  o y + (A.dlng (nb t 0) (y 1) + A.dlng (nb t 1) (y 1))
def Gh (A : Inputs) (t : Fin 32) (o : S1x4096.Idx → EReal) : S1x4096.Idx → EReal := fun y =>
  o y + (A.dlnb (nb t 0) (y 1) + A.dlnb (nb t 1) (y 1))

theorem hz2 : (![0, 0] : Fin 2 → Nat) = fun _ => 0 := by funext a; fin_cases a <;> rfl
theorem hz3 : (![0, 0, 0] : Fin 3 → Nat) = fun _ => 0 := by funext a; fin_cases a <;> rfl

theorem dlng_pay {x0 x1 x2 x3 : Vec Ideal S256x4096 .bf16} {x4 x5 : Vec Ideal S1x4096 .f32} {x6 : Vec Ideal S8x128x128 .f32}
    {x7 : Vec Ideal S128x8 .f32} (H : Holds A t x0 x1 x2 x3 x4 x5 x6 x7) {D : Vec Ideal S256x4096 .f32} (hD : D = Gs A t)
    (o : Vec Ideal S1x4096 .f32) : k0_pay319 (k0_pay6 x2) (k0_pay7 x2) D o = Gg A t o := by
  funext y
  obtain ⟨z, c, rfl⟩ : ∃ z c, y = ix2 z c := ⟨y 0, y 1, eq_ix2 y⟩
  obtain rfl : z = 0 := Subsingleton.elim _ _
  exact dlngM_apply H (fun b i c => by rw [hD]; exact Gs_ix2 A t b i c) o c

theorem dlnb_pay {D : Vec Ideal S256x4096 .f32} (hD : D = Gs A t) (o : Vec Ideal S1x4096 .f32) :
    k0_pay1 D o = Gh A t o := by
  funext y
  obtain ⟨z, c, rfl⟩ : ∃ z c, y = ix2 z c := ⟨y 0, y 1, eq_ix2 y⟩
  obtain rfl : z = 0 := Subsingleton.elim _ _
  exact dlnbM_apply (fun b i c => by rw [hD]; exact Gs_ix2 A t b i c) o c

end Cert.Sgu

end
-- ==== Proof.PiecesA.lean ====
/- What the first grid point leaves in its five outputs. -/
module

public import proofs.«01_k».proof.Proof.Rects

@[expose] public section

set_option maxRecDepth 16384

noncomputable section

namespace Cert.Sgu

open Idealize.ShloMosaic Cert.KernelIdeal Cert.KernelIdeal.Gen

section
variable (c : Dev nD) (i : grid0.Coords)
  (arg1 : Memref sig .tc .vmem S256x4096 .bf16) (harg1 : arg1.IsWhole) (arg2 : Memref sig .tc .vmem S256x4096 .bf16) (harg2 : arg2.IsWhole)
  (arg3 : Memref sig .tc .vmem S256x4096 .bf16) (harg3 : arg3.IsWhole) (arg4 : Memref sig .tc .vmem S256x4096 .bf16) (harg4 : arg4.IsWhole)
  (arg5 : Memref sig .tc .vmem S1x4096 .f32) (harg5 : arg5.IsWhole) (arg6 : Memref sig .tc .vmem S1x4096 .f32) (harg6 : arg6.IsWhole)
  (arg7 : Memref sig .tc .vmem S8x128x128 .f32) (harg7 : arg7.IsWhole) (arg8 : Memref sig .tc .vmem S128x8 .f32) (harg8 : arg8.IsWhole)
  (arg9 : Memref sig .tc .vmem S256x12288 .bf16) (harg9 : arg9.IsWhole) (arg10 : Memref sig .tc .vmem S8x128x128 .f32) (harg10 : arg10.IsWhole)
  (arg11 : Memref sig .tc .vmem S128x8 .f32) (harg11 : arg11.IsWhole) (arg12 : Memref sig .tc .vmem S1x4096 .f32) (harg12 : arg12.IsWhole)
  (arg13 : Memref sig .tc .vmem S1x4096 .f32) (harg13 : arg13.IsWhole) (arg14 : Memref sig .tc .vmem S256x4096 .f32) (harg14 : arg14.IsWhole)
  (hc0 : cond0_0 i)
  (x0 x1 x2 x3 : Vec Ideal S256x4096 .bf16) (x4 x5 : Vec Ideal S1x4096 .f32) (x6 : Vec Ideal S8x128x128 .f32) (x7 : Vec Ideal S128x8 .f32)
  {A : Inputs} {t : Fin 32} (H : Holds A t x0 x1 x2 x3 x4 x5 x6 x7)

include harg3 harg5 harg6 harg8 H

/-- The scratch buffer, all its tiles stored. -/
theorem scratch_A : kernelRun0_A.sl.v1483 c arg1 harg1 arg2 harg2 arg4 harg4 arg7 harg7 arg14 x0 x1 x3 x6 = Gs A t := by
  have HR := H.read harg1 harg2 harg3 harg4 harg5 harg6 harg7 harg8
  unfold kernelRun0_A.sl.v1483
  rw [View.readCov_eq_canon']
  funext y
  unfold kernelRun0_A.sl.HS0_16
  refine (View.canon_apply_of_pieces (Gs A t) _ ?_ _ (View.cover_of_tiledBy _ ![128, 512] (by sl_kernel_rfl) _)).trans ?_
  · refine List.forall_mem_cons.2 ⟨?_, ?_⟩
    · exact fun x => dvn_rect (loads HR (g := 7) (b := 1) (gg := 7) (co := 3584) (ro := 128) rfl rfl rfl inb_S8x128x128_S1x128x128_7_0_0 (by decide)
      (by decide) inb_S1x4096_S1x512_0_3584 inb_S128x8_S128x1_0_7 inb_S256x4096_S128x512_128_3584) rfl rfl
        inb_S256x4096_S128x512_128_3584 x
    refine List.forall_mem_cons.2 ⟨?_, ?_⟩
    · exact fun x => dvn_rect (loads HR (g := 7) (b := 0) (gg := 7) (co := 3584) (ro := 0) rfl rfl rfl inb_S8x128x128_S1x128x128_7_0_0 (by decide)
      (by decide) inb_S1x4096_S1x512_0_3584 inb_S128x8_S128x1_0_7 inb_S256x4096_S128x512_0_3584) rfl rfl
        inb_S256x4096_S128x512_0_3584 x
    refine List.forall_mem_cons.2 ⟨?_, ?_⟩
    · exact fun x => dvn_rect (loads HR (g := 6) (b := 1) (gg := 6) (co := 3072) (ro := 128) rfl rfl rfl inb_S8x128x128_S1x128x128_6_0_0 (by decide)
      (by decide) inb_S1x4096_S1x512_0_3072 inb_S128x8_S128x1_0_6 inb_S256x4096_S128x512_128_3072) rfl rfl
        inb_S256x4096_S128x512_128_3072 x
    refine List.forall_mem_cons.2 ⟨?_, ?_⟩
    · exact fun x => dvn_rect (loads HR (g := 6) (b := 0) (gg := 6) (co := 3072) (ro := 0) rfl rfl rfl inb_S8x128x128_S1x128x128_6_0_0 (by decide)
      (by decide) inb_S1x4096_S1x512_0_3072 inb_S128x8_S128x1_0_6 inb_S256x4096_S128x512_0_3072) rfl rfl
        inb_S256x4096_S128x512_0_3072 x
    refine List.forall_mem_cons.2 ⟨?_, ?_⟩
    · exact fun x => dvn_rect (loads HR (g := 5) (b := 1) (gg := 5) (co := 2560) (ro := 128) rfl rfl rfl inb_S8x128x128_S1x128x128_5_0_0 (by decide)
      (by decide) inb_S1x4096_S1x512_0_2560 inb_S128x8_S128x1_0_5 inb_S256x4096_S128x512_128_2560) rfl rfl
        inb_S256x4096_S128x512_128_2560 x
    refine List.forall_mem_cons.2 ⟨?_, ?_⟩
    · exact fun x => dvn_rect (loads HR (g := 5) (b := 0) (gg := 5) (co := 2560) (ro := 0) rfl rfl rfl inb_S8x128x128_S1x128x128_5_0_0 (by decide)
      (by decide) inb_S1x4096_S1x512_0_2560 inb_S128x8_S128x1_0_5 inb_S256x4096_S128x512_0_2560) rfl rfl
        inb_S256x4096_S128x512_0_2560 x
    refine List.forall_mem_cons.2 ⟨?_, ?_⟩
    · exact fun x => dvn_rect (loads HR (g := 4) (b := 1) (gg := 4) (co := 2048) (ro := 128) rfl rfl rfl inb_S8x128x128_S1x128x128_4_0_0 (by decide)
      (by decide) inb_S1x4096_S1x512_0_2048 inb_S128x8_S128x1_0_4 inb_S256x4096_S128x512_128_2048) rfl rfl
        inb_S256x4096_S128x512_128_2048 x
    refine List.forall_mem_cons.2 ⟨?_, ?_⟩
    · exact fun x => dvn_rect (loads HR (g := 4) (b := 0) (gg := 4) (co := 2048) (ro := 0) rfl rfl rfl inb_S8x128x128_S1x128x128_4_0_0 (by decide)
      (by decide) inb_S1x4096_S1x512_0_2048 inb_S128x8_S128x1_0_4 inb_S256x4096_S128x512_0_2048) rfl rfl
        inb_S256x4096_S128x512_0_2048 x
    refine List.forall_mem_cons.2 ⟨?_, ?_⟩
    · exact fun x => dvn_rect (loads HR (g := 3) (b := 1) (gg := 3) (co := 1536) (ro := 128) rfl rfl rfl inb_S8x128x128_S1x128x128_3_0_0 (by decide)
      (by decide) inb_S1x4096_S1x512_0_1536 inb_S128x8_S128x1_0_3 inb_S256x4096_S128x512_128_1536) rfl rfl
        inb_S256x4096_S128x512_128_1536 x
    refine List.forall_mem_cons.2 ⟨?_, ?_⟩
    · exact fun x => dvn_rect (loads HR (g := 3) (b := 0) (gg := 3) (co := 1536) (ro := 0) rfl rfl rfl inb_S8x128x128_S1x128x128_3_0_0 (by decide)
      (by decide) inb_S1x4096_S1x512_0_1536 inb_S128x8_S128x1_0_3 inb_S256x4096_S128x512_0_1536) rfl rfl
        inb_S256x4096_S128x512_0_1536 x
    refine List.forall_mem_cons.2 ⟨?_, ?_⟩
    · exact fun x => dvn_rect (loads HR (g := 2) (b := 1) (gg := 2) (co := 1024) (ro := 128) rfl rfl rfl inb_S8x128x128_S1x128x128_2_0_0 (by decide)
      (by decide) inb_S1x4096_S1x512_0_1024 inb_S128x8_S128x1_0_2 inb_S256x4096_S128x512_128_1024) rfl rfl
        inb_S256x4096_S128x512_128_1024 x
    refine List.forall_mem_cons.2 ⟨?_, ?_⟩
    · exact fun x => dvn_rect (loads HR (g := 2) (b := 0) (gg := 2) (co := 1024) (ro := 0) rfl rfl rfl inb_S8x128x128_S1x128x128_2_0_0 (by decide)
      (by decide) inb_S1x4096_S1x512_0_1024 inb_S128x8_S128x1_0_2 inb_S256x4096_S128x512_0_1024) rfl rfl
        inb_S256x4096_S128x512_0_1024 x
    refine List.forall_mem_cons.2 ⟨?_, ?_⟩
    · exact fun x => dvn_rect (loads HR (g := 1) (b := 1) (gg := 1) (co := 512) (ro := 128) rfl rfl rfl inb_S8x128x128_S1x128x128_1_0_0 (by decide)
      (by decide) inb_S1x4096_S1x512_0_512 inb_S128x8_S128x1_0_1 inb_S256x4096_S128x512_128_512) rfl rfl
        inb_S256x4096_S128x512_128_512 x
    refine List.forall_mem_cons.2 ⟨?_, ?_⟩
    · exact fun x => dvn_rect (loads HR (g := 1) (b := 0) (gg := 1) (co := 512) (ro := 0) rfl rfl rfl inb_S8x128x128_S1x128x128_1_0_0 (by decide)
      (by decide) inb_S1x4096_S1x512_0_512 inb_S128x8_S128x1_0_1 inb_S256x4096_S128x512_0_512) rfl rfl
        inb_S256x4096_S128x512_0_512 x
    refine List.forall_mem_cons.2 ⟨?_, ?_⟩
    · exact fun x => dvn_rect (loads HR (g := 0) (b := 1) (gg := 0) (co := 0) (ro := 128) rfl rfl rfl inb_S8x128x128_S1x128x128_0_0_0 (by decide)
      (by decide) inb_S1x4096_S1x512_0_0 inb_S128x8_S128x1_0_0 inb_S256x4096_S128x512_128_0) rfl rfl
        inb_S256x4096_S128x512_128_0 x
    refine List.forall_mem_cons.2 ⟨?_, ?_⟩
    · exact fun x => dvn_rect (loads HR (g := 0) (b := 0) (gg := 0) (co := 0) (ro := 0) rfl rfl rfl inb_S8x128x128_S1x128x128_0_0_0 (by decide)
      (by decide) inb_S1x4096_S1x512_0_0 inb_S128x8_S128x1_0_0 inb_S256x4096_S128x512_0_0) rfl rfl
        inb_S256x4096_S128x512_0_0 x
    exact fun p hp => absurd hp List.not_mem_nil
  · exact congrArg (Gs A t) (funext fun a => Fin.ext (by rw [LoadRect.idx_apply]; fin_cases a <;> exact (Nat.zero_add _).trans (Nat.one_mul _)))

/-- The projection's gradient. -/
theorem out_A_8 : out0_A_8 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 = Gp A t := by
  have HR := H.read harg1 harg2 harg3 harg4 harg5 harg6 harg7 harg8
  have hD := scratch_A c arg1 harg1 arg2 harg2 arg3 harg3 arg4 harg4 arg5 harg5 arg6 harg6 arg7 harg7 arg8 harg8 arg14 x0 x1 x2 x3 x4 x5 x6 x7 H
  funext y
  have hcov := cover0_A_8 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 y
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7)]
  refine View.canon_apply_of_pieces (Gp A t) _ ?_ y hcov
  unfold kernelRun0_A
  dsimp only
  refine List.forall_mem_cons.2 ⟨?_, ?_⟩
  · exact fun x => dv_rect HR.whole hD inb_S256x12288_S256x4096_0_4096 x
  refine List.forall_mem_cons.2 ⟨?_, ?_⟩
  · exact fun x => dgate_rect (loads HR (g := 7) (b := 1) (gg := 7) (co := 3584) (ro := 128) rfl rfl rfl inb_S8x128x128_S1x128x128_7_0_0 (by decide)
      (by decide) inb_S1x4096_S1x512_0_3584 inb_S128x8_S128x1_0_7 inb_S256x4096_S128x512_128_3584) rfl rfl
      inb_S256x12288_S128x512_128_11776 x
  refine List.forall_mem_cons.2 ⟨?_, ?_⟩
  · exact fun x => du_rect (loads HR (g := 7) (b := 1) (gg := 7) (co := 3584) (ro := 128) rfl rfl rfl inb_S8x128x128_S1x128x128_7_0_0 (by decide)
      (by decide) inb_S1x4096_S1x512_0_3584 inb_S128x8_S128x1_0_7 inb_S256x4096_S128x512_128_3584) rfl rfl
      inb_S256x12288_S128x512_128_3584 x
  refine List.forall_mem_cons.2 ⟨?_, ?_⟩
  · exact fun x => dgate_rect (loads HR (g := 7) (b := 0) (gg := 7) (co := 3584) (ro := 0) rfl rfl rfl inb_S8x128x128_S1x128x128_7_0_0 (by decide)
      (by decide) inb_S1x4096_S1x512_0_3584 inb_S128x8_S128x1_0_7 inb_S256x4096_S128x512_0_3584) rfl rfl
      inb_S256x12288_S128x512_0_11776 x
  refine List.forall_mem_cons.2 ⟨?_, ?_⟩
  · exact fun x => du_rect (loads HR (g := 7) (b := 0) (gg := 7) (co := 3584) (ro := 0) rfl rfl rfl inb_S8x128x128_S1x128x128_7_0_0 (by decide)
      (by decide) inb_S1x4096_S1x512_0_3584 inb_S128x8_S128x1_0_7 inb_S256x4096_S128x512_0_3584) rfl rfl
      inb_S256x12288_S128x512_0_3584 x
  refine List.forall_mem_cons.2 ⟨?_, ?_⟩
  · exact fun x => dgate_rect (loads HR (g := 6) (b := 1) (gg := 6) (co := 3072) (ro := 128) rfl rfl rfl inb_S8x128x128_S1x128x128_6_0_0 (by decide)
      (by decide) inb_S1x4096_S1x512_0_3072 inb_S128x8_S128x1_0_6 inb_S256x4096_S128x512_128_3072) rfl rfl
      inb_S256x12288_S128x512_128_11264 x
  refine List.forall_mem_cons.2 ⟨?_, ?_⟩
  · exact fun x => du_rect (loads HR (g := 6) (b := 1) (gg := 6) (co := 3072) (ro := 128) rfl rfl rfl inb_S8x128x128_S1x128x128_6_0_0 (by decide)
      (by decide) inb_S1x4096_S1x512_0_3072 inb_S128x8_S128x1_0_6 inb_S256x4096_S128x512_128_3072) rfl rfl
      inb_S256x12288_S128x512_128_3072 x
  refine List.forall_mem_cons.2 ⟨?_, ?_⟩
  · exact fun x => dgate_rect (loads HR (g := 6) (b := 0) (gg := 6) (co := 3072) (ro := 0) rfl rfl rfl inb_S8x128x128_S1x128x128_6_0_0 (by decide)
      (by decide) inb_S1x4096_S1x512_0_3072 inb_S128x8_S128x1_0_6 inb_S256x4096_S128x512_0_3072) rfl rfl
      inb_S256x12288_S128x512_0_11264 x
  refine List.forall_mem_cons.2 ⟨?_, ?_⟩
  · exact fun x => du_rect (loads HR (g := 6) (b := 0) (gg := 6) (co := 3072) (ro := 0) rfl rfl rfl inb_S8x128x128_S1x128x128_6_0_0 (by decide)
      (by decide) inb_S1x4096_S1x512_0_3072 inb_S128x8_S128x1_0_6 inb_S256x4096_S128x512_0_3072) rfl rfl
      inb_S256x12288_S128x512_0_3072 x
  refine List.forall_mem_cons.2 ⟨?_, ?_⟩
  · exact fun x => dgate_rect (loads HR (g := 5) (b := 1) (gg := 5) (co := 2560) (ro := 128) rfl rfl rfl inb_S8x128x128_S1x128x128_5_0_0 (by decide)
      (by decide) inb_S1x4096_S1x512_0_2560 inb_S128x8_S128x1_0_5 inb_S256x4096_S128x512_128_2560) rfl rfl
      inb_S256x12288_S128x512_128_10752 x
  refine List.forall_mem_cons.2 ⟨?_, ?_⟩
  · exact fun x => du_rect (loads HR (g := 5) (b := 1) (gg := 5) (co := 2560) (ro := 128) rfl rfl rfl inb_S8x128x128_S1x128x128_5_0_0 (by decide)
      (by decide) inb_S1x4096_S1x512_0_2560 inb_S128x8_S128x1_0_5 inb_S256x4096_S128x512_128_2560) rfl rfl
      inb_S256x12288_S128x512_128_2560 x
  refine List.forall_mem_cons.2 ⟨?_, ?_⟩
  · exact fun x => dgate_rect (loads HR (g := 5) (b := 0) (gg := 5) (co := 2560) (ro := 0) rfl rfl rfl inb_S8x128x128_S1x128x128_5_0_0 (by decide)
      (by decide) inb_S1x4096_S1x512_0_2560 inb_S128x8_S128x1_0_5 inb_S256x4096_S128x512_0_2560) rfl rfl
      inb_S256x12288_S128x512_0_10752 x
  refine List.forall_mem_cons.2 ⟨?_, ?_⟩
  · exact fun x => du_rect (loads HR (g := 5) (b := 0) (gg := 5) (co := 2560) (ro := 0) rfl rfl rfl inb_S8x128x128_S1x128x128_5_0_0 (by decide)
      (by decide) inb_S1x4096_S1x512_0_2560 inb_S128x8_S128x1_0_5 inb_S256x4096_S128x512_0_2560) rfl rfl
      inb_S256x12288_S128x512_0_2560 x
  refine List.forall_mem_cons.2 ⟨?_, ?_⟩
  · exact fun x => dgate_rect (loads HR (g := 4) (b := 1) (gg := 4) (co := 2048) (ro := 128) rfl rfl rfl inb_S8x128x128_S1x128x128_4_0_0 (by decide)
      (by decide) inb_S1x4096_S1x512_0_2048 inb_S128x8_S128x1_0_4 inb_S256x4096_S128x512_128_2048) rfl rfl
      inb_S256x12288_S128x512_128_10240 x
  refine List.forall_mem_cons.2 ⟨?_, ?_⟩
  · exact fun x => du_rect (loads HR (g := 4) (b := 1) (gg := 4) (co := 2048) (ro := 128) rfl rfl rfl inb_S8x128x128_S1x128x128_4_0_0 (by decide)
      (by decide) inb_S1x4096_S1x512_0_2048 inb_S128x8_S128x1_0_4 inb_S256x4096_S128x512_128_2048) rfl rfl
      inb_S256x12288_S128x512_128_2048 x
  refine List.forall_mem_cons.2 ⟨?_, ?_⟩
  · exact fun x => dgate_rect (loads HR (g := 4) (b := 0) (gg := 4) (co := 2048) (ro := 0) rfl rfl rfl inb_S8x128x128_S1x128x128_4_0_0 (by decide)
      (by decide) inb_S1x4096_S1x512_0_2048 inb_S128x8_S128x1_0_4 inb_S256x4096_S128x512_0_2048) rfl rfl
      inb_S256x12288_S128x512_0_10240 x
  refine List.forall_mem_cons.2 ⟨?_, ?_⟩
  · exact fun x => du_rect (loads HR (g := 4) (b := 0) (gg := 4) (co := 2048) (ro := 0) rfl rfl rfl inb_S8x128x128_S1x128x128_4_0_0 (by decide)
      (by decide) inb_S1x4096_S1x512_0_2048 inb_S128x8_S128x1_0_4 inb_S256x4096_S128x512_0_2048) rfl rfl
      inb_S256x12288_S128x512_0_2048 x
  refine List.forall_mem_cons.2 ⟨?_, ?_⟩
  · exact fun x => dgate_rect (loads HR (g := 3) (b := 1) (gg := 3) (co := 1536) (ro := 128) rfl rfl rfl inb_S8x128x128_S1x128x128_3_0_0 (by decide)
      (by decide) inb_S1x4096_S1x512_0_1536 inb_S128x8_S128x1_0_3 inb_S256x4096_S128x512_128_1536) rfl rfl
      inb_S256x12288_S128x512_128_9728 x
  refine List.forall_mem_cons.2 ⟨?_, ?_⟩
  · exact fun x => du_rect (loads HR (g := 3) (b := 1) (gg := 3) (co := 1536) (ro := 128) rfl rfl rfl inb_S8x128x128_S1x128x128_3_0_0 (by decide)
      (by decide) inb_S1x4096_S1x512_0_1536 inb_S128x8_S128x1_0_3 inb_S256x4096_S128x512_128_1536) rfl rfl
      inb_S256x12288_S128x512_128_1536 x
  refine List.forall_mem_cons.2 ⟨?_, ?_⟩
  · exact fun x => dgate_rect (loads HR (g := 3) (b := 0) (gg := 3) (co := 1536) (ro := 0) rfl rfl rfl inb_S8x128x128_S1x128x128_3_0_0 (by decide)
      (by decide) inb_S1x4096_S1x512_0_1536 inb_S128x8_S128x1_0_3 inb_S256x4096_S128x512_0_1536) rfl rfl
      inb_S256x12288_S128x512_0_9728 x
  refine List.forall_mem_cons.2 ⟨?_, ?_⟩
  · exact fun x => du_rect (loads HR (g := 3) (b := 0) (gg := 3) (co := 1536) (ro := 0) rfl rfl rfl inb_S8x128x128_S1x128x128_3_0_0 (by decide)
      (by decide) inb_S1x4096_S1x512_0_1536 inb_S128x8_S128x1_0_3 inb_S256x4096_S128x512_0_1536) rfl rfl
      inb_S256x12288_S128x512_0_1536 x
  refine List.forall_mem_cons.2 ⟨?_, ?_⟩
  · exact fun x => dgate_rect (loads HR (g := 2) (b := 1) (gg := 2) (co := 1024) (ro := 128) rfl rfl rfl inb_S8x128x128_S1x128x128_2_0_0 (by decide)
      (by decide) inb_S1x4096_S1x512_0_1024 inb_S128x8_S128x1_0_2 inb_S256x4096_S128x512_128_1024) rfl rfl
      inb_S256x12288_S128x512_128_9216 x
  refine List.forall_mem_cons.2 ⟨?_, ?_⟩
  · exact fun x => du_rect (loads HR (g := 2) (b := 1) (gg := 2) (co := 1024) (ro := 128) rfl rfl rfl inb_S8x128x128_S1x128x128_2_0_0 (by decide)
      (by decide) inb_S1x4096_S1x512_0_1024 inb_S128x8_S128x1_0_2 inb_S256x4096_S128x512_128_1024) rfl rfl
      inb_S256x12288_S128x512_128_1024 x
  refine List.forall_mem_cons.2 ⟨?_, ?_⟩
  · exact fun x => dgate_rect (loads HR (g := 2) (b := 0) (gg := 2) (co := 1024) (ro := 0) rfl rfl rfl inb_S8x128x128_S1x128x128_2_0_0 (by decide)
      (by decide) inb_S1x4096_S1x512_0_1024 inb_S128x8_S128x1_0_2 inb_S256x4096_S128x512_0_1024) rfl rfl
      inb_S256x12288_S128x512_0_9216 x
  refine List.forall_mem_cons.2 ⟨?_, ?_⟩
  · exact fun x => du_rect (loads HR (g := 2) (b := 0) (gg := 2) (co := 1024) (ro := 0) rfl rfl rfl inb_S8x128x128_S1x128x128_2_0_0 (by decide)
      (by decide) inb_S1x4096_S1x512_0_1024 inb_S128x8_S128x1_0_2 inb_S256x4096_S128x512_0_1024) rfl rfl
      inb_S256x12288_S128x512_0_1024 x
  refine List.forall_mem_cons.2 ⟨?_, ?_⟩
  · exact fun x => dgate_rect (loads HR (g := 1) (b := 1) (gg := 1) (co := 512) (ro := 128) rfl rfl rfl inb_S8x128x128_S1x128x128_1_0_0 (by decide)
      (by decide) inb_S1x4096_S1x512_0_512 inb_S128x8_S128x1_0_1 inb_S256x4096_S128x512_128_512) rfl rfl
      inb_S256x12288_S128x512_128_8704 x
  refine List.forall_mem_cons.2 ⟨?_, ?_⟩
  · exact fun x => du_rect (loads HR (g := 1) (b := 1) (gg := 1) (co := 512) (ro := 128) rfl rfl rfl inb_S8x128x128_S1x128x128_1_0_0 (by decide)
      (by decide) inb_S1x4096_S1x512_0_512 inb_S128x8_S128x1_0_1 inb_S256x4096_S128x512_128_512) rfl rfl
      inb_S256x12288_S128x512_128_512 x
  refine List.forall_mem_cons.2 ⟨?_, ?_⟩
  · exact fun x => dgate_rect (loads HR (g := 1) (b := 0) (gg := 1) (co := 512) (ro := 0) rfl rfl rfl inb_S8x128x128_S1x128x128_1_0_0 (by decide)
      (by decide) inb_S1x4096_S1x512_0_512 inb_S128x8_S128x1_0_1 inb_S256x4096_S128x512_0_512) rfl rfl
      inb_S256x12288_S128x512_0_8704 x
  refine List.forall_mem_cons.2 ⟨?_, ?_⟩
  · exact fun x => du_rect (loads HR (g := 1) (b := 0) (gg := 1) (co := 512) (ro := 0) rfl rfl rfl inb_S8x128x128_S1x128x128_1_0_0 (by decide)
      (by decide) inb_S1x4096_S1x512_0_512 inb_S128x8_S128x1_0_1 inb_S256x4096_S128x512_0_512) rfl rfl
      inb_S256x12288_S128x512_0_512 x
  refine List.forall_mem_cons.2 ⟨?_, ?_⟩
  · exact fun x => dgate_rect (loads HR (g := 0) (b := 1) (gg := 0) (co := 0) (ro := 128) rfl rfl rfl inb_S8x128x128_S1x128x128_0_0_0 (by decide)
      (by decide) inb_S1x4096_S1x512_0_0 inb_S128x8_S128x1_0_0 inb_S256x4096_S128x512_128_0) rfl rfl
      inb_S256x12288_S128x512_128_8192 x
  refine List.forall_mem_cons.2 ⟨?_, ?_⟩
  · exact fun x => du_rect (loads HR (g := 0) (b := 1) (gg := 0) (co := 0) (ro := 128) rfl rfl rfl inb_S8x128x128_S1x128x128_0_0_0 (by decide)
      (by decide) inb_S1x4096_S1x512_0_0 inb_S128x8_S128x1_0_0 inb_S256x4096_S128x512_128_0) rfl rfl
      inb_S256x12288_S128x512_128_0 x
  refine List.forall_mem_cons.2 ⟨?_, ?_⟩
  · exact fun x => dgate_rect (loads HR (g := 0) (b := 0) (gg := 0) (co := 0) (ro := 0) rfl rfl rfl inb_S8x128x128_S1x128x128_0_0_0 (by decide)
      (by decide) inb_S1x4096_S1x512_0_0 inb_S128x8_S128x1_0_0 inb_S256x4096_S128x512_0_0) rfl rfl
      inb_S256x12288_S128x512_0_8192 x
  refine List.forall_mem_cons.2 ⟨?_, ?_⟩
  · exact fun x => du_rect (loads HR (g := 0) (b := 0) (gg := 0) (co := 0) (ro := 0) rfl rfl rfl inb_S8x128x128_S1x128x128_0_0_0 (by decide)
      (by decide) inb_S1x4096_S1x512_0_0 inb_S128x8_S128x1_0_0 inb_S256x4096_S128x512_0_0) rfl rfl
      inb_S256x12288_S128x512_0_0 x
  exact fun p hp => absurd hp List.not_mem_nil

/-- The gradient of the weights. -/
theorem out_A_9 : out0_A_9 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 = Gw A t (fun _ => 0) := by
  have HR := H.read harg1 harg2 harg3 harg4 harg5 harg6 harg7 harg8
  funext y
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7)]
  suffices h : (∀ y : S8x128x128.Idx, (y 0).val < 7 + 1 → View.canon (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).2.1 y = Gw A t (fun _ => 0) y)
      ∧ ∀ y : S8x128x128.Idx, 7 + 1 ≤ (y 0).val → View.canon (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).2.1 y = (fun _ => 0) y from h.1 y (y 0).isLt
  clear y
  refine dws_both (loads HR (g := 7) (b := 0) (gg := 7) (co := 3584) (ro := 0) rfl rfl rfl inb_S8x128x128_S1x128x128_7_0_0 (by decide)
      (by decide) inb_S1x4096_S1x512_0_3584 inb_S128x8_S128x1_0_7 inb_S256x4096_S128x512_0_3584)
    (loads HR (g := 7) (b := 1) (gg := 7) (co := 3584) (ro := 128) rfl rfl rfl inb_S8x128x128_S1x128x128_7_0_0 (by decide)
      (by decide) inb_S1x4096_S1x512_0_3584 inb_S128x8_S128x1_0_7 inb_S256x4096_S128x512_128_3584)
    (gg := 7) rfl inb_S8x128x128_S1x128x128_7_0_0 arg10.view (fun _ => 0) ?_
  refine dws_both (loads HR (g := 6) (b := 0) (gg := 6) (co := 3072) (ro := 0) rfl rfl rfl inb_S8x128x128_S1x128x128_6_0_0 (by decide)
      (by decide) inb_S1x4096_S1x512_0_3072 inb_S128x8_S128x1_0_6 inb_S256x4096_S128x512_0_3072)
    (loads HR (g := 6) (b := 1) (gg := 6) (co := 3072) (ro := 128) rfl rfl rfl inb_S8x128x128_S1x128x128_6_0_0 (by decide)
      (by decide) inb_S1x4096_S1x512_0_3072 inb_S128x8_S128x1_0_6 inb_S256x4096_S128x512_128_3072)
    (gg := 6) rfl inb_S8x128x128_S1x128x128_6_0_0 arg10.view (fun _ => 0) ?_
  refine dws_both (loads HR (g := 5) (b := 0) (gg := 5) (co := 2560) (ro := 0) rfl rfl rfl inb_S8x128x128_S1x128x128_5_0_0 (by decide)
      (by decide) inb_S1x4096_S1x512_0_2560 inb_S128x8_S128x1_0_5 inb_S256x4096_S128x512_0_2560)
    (loads HR (g := 5) (b := 1) (gg := 5) (co := 2560) (ro := 128) rfl rfl rfl inb_S8x128x128_S1x128x128_5_0_0 (by decide)
      (by decide) inb_S1x4096_S1x512_0_2560 inb_S128x8_S128x1_0_5 inb_S256x4096_S128x512_128_2560)
    (gg := 5) rfl inb_S8x128x128_S1x128x128_5_0_0 arg10.view (fun _ => 0) ?_
  refine dws_both (loads HR (g := 4) (b := 0) (gg := 4) (co := 2048) (ro := 0) rfl rfl rfl inb_S8x128x128_S1x128x128_4_0_0 (by decide)
      (by decide) inb_S1x4096_S1x512_0_2048 inb_S128x8_S128x1_0_4 inb_S256x4096_S128x512_0_2048)
    (loads HR (g := 4) (b := 1) (gg := 4) (co := 2048) (ro := 128) rfl rfl rfl inb_S8x128x128_S1x128x128_4_0_0 (by decide)
      (by decide) inb_S1x4096_S1x512_0_2048 inb_S128x8_S128x1_0_4 inb_S256x4096_S128x512_128_2048)
    (gg := 4) rfl inb_S8x128x128_S1x128x128_4_0_0 arg10.view (fun _ => 0) ?_
  refine dws_both (loads HR (g := 3) (b := 0) (gg := 3) (co := 1536) (ro := 0) rfl rfl rfl inb_S8x128x128_S1x128x128_3_0_0 (by decide)
      (by decide) inb_S1x4096_S1x512_0_1536 inb_S128x8_S128x1_0_3 inb_S256x4096_S128x512_0_1536)
    (loads HR (g := 3) (b := 1) (gg := 3) (co := 1536) (ro := 128) rfl rfl rfl inb_S8x128x128_S1x128x128_3_0_0 (by decide)
      (by decide) inb_S1x4096_S1x512_0_1536 inb_S128x8_S128x1_0_3 inb_S256x4096_S128x512_128_1536)
    (gg := 3) rfl inb_S8x128x128_S1x128x128_3_0_0 arg10.view (fun _ => 0) ?_
  refine dws_both (loads HR (g := 2) (b := 0) (gg := 2) (co := 1024) (ro := 0) rfl rfl rfl inb_S8x128x128_S1x128x128_2_0_0 (by decide)
      (by decide) inb_S1x4096_S1x512_0_1024 inb_S128x8_S128x1_0_2 inb_S256x4096_S128x512_0_1024)
    (loads HR (g := 2) (b := 1) (gg := 2) (co := 1024) (ro := 128) rfl rfl rfl inb_S8x128x128_S1x128x128_2_0_0 (by decide)
      (by decide) inb_S1x4096_S1x512_0_1024 inb_S128x8_S128x1_0_2 inb_S256x4096_S128x512_128_1024)
    (gg := 2) rfl inb_S8x128x128_S1x128x128_2_0_0 arg10.view (fun _ => 0) ?_
  refine dws_both (loads HR (g := 1) (b := 0) (gg := 1) (co := 512) (ro := 0) rfl rfl rfl inb_S8x128x128_S1x128x128_1_0_0 (by decide)
      (by decide) inb_S1x4096_S1x512_0_512 inb_S128x8_S128x1_0_1 inb_S256x4096_S128x512_0_512)
    (loads HR (g := 1) (b := 1) (gg := 1) (co := 512) (ro := 128) rfl rfl rfl inb_S8x128x128_S1x128x128_1_0_0 (by decide)
      (by decide) inb_S1x4096_S1x512_0_512 inb_S128x8_S128x1_0_1 inb_S256x4096_S128x512_128_512)
    (gg := 1) rfl inb_S8x128x128_S1x128x128_1_0_0 arg10.view (fun _ => 0) ?_
  refine dws_both (loads HR (g := 0) (b := 0) (gg := 0) (co := 0) (ro := 0) rfl rfl rfl inb_S8x128x128_S1x128x128_0_0_0 (by decide)
      (by decide) inb_S1x4096_S1x512_0_0 inb_S128x8_S128x1_0_0 inb_S256x4096_S128x512_0_0)
    (loads HR (g := 0) (b := 1) (gg := 0) (co := 0) (ro := 128) rfl rfl rfl inb_S8x128x128_S1x128x128_0_0_0 (by decide)
      (by decide) inb_S1x4096_S1x512_0_0 inb_S128x8_S128x1_0_0 inb_S256x4096_S128x512_128_0)
    (gg := 0) rfl inb_S8x128x128_S1x128x128_0_0_0 arg10.view (fun _ => 0) ?_
  refine ⟨fun y h => absurd h (Nat.not_lt_zero _), fun y _ => ?_⟩
  refine (congrFun (View.canon_unit_zero hz3 _ _) y).trans (zero_w y)

/-- The gradient of the bias. -/
theorem out_A_10 : out0_A_10 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 = Gb A t (fun _ => 0) := by
  have HR := H.read harg1 harg2 harg3 harg4 harg5 harg6 harg7 harg8
  funext y
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7)]
  suffices h : (∀ y : S128x8.Idx, (y 1).val < 7 + 1 → View.canon (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).2.2.1 y = Gb A t (fun _ => 0) y)
      ∧ ∀ y : S128x8.Idx, 7 + 1 ≤ (y 1).val → View.canon (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).2.2.1 y = (fun _ => 0) y from h.1 y (y 1).isLt
  clear y
  refine dbs_both (loads HR (g := 7) (b := 0) (gg := 7) (co := 3584) (ro := 0) rfl rfl rfl inb_S8x128x128_S1x128x128_7_0_0 (by decide)
      (by decide) inb_S1x4096_S1x512_0_3584 inb_S128x8_S128x1_0_7 inb_S256x4096_S128x512_0_3584)
    (loads HR (g := 7) (b := 1) (gg := 7) (co := 3584) (ro := 128) rfl rfl rfl inb_S8x128x128_S1x128x128_7_0_0 (by decide)
      (by decide) inb_S1x4096_S1x512_0_3584 inb_S128x8_S128x1_0_7 inb_S256x4096_S128x512_128_3584)
    (gg := 7) rfl inb_S128x8_S128x1_0_7 arg11.view (fun _ => 0) ?_
  refine dbs_both (loads HR (g := 6) (b := 0) (gg := 6) (co := 3072) (ro := 0) rfl rfl rfl inb_S8x128x128_S1x128x128_6_0_0 (by decide)
      (by decide) inb_S1x4096_S1x512_0_3072 inb_S128x8_S128x1_0_6 inb_S256x4096_S128x512_0_3072)
    (loads HR (g := 6) (b := 1) (gg := 6) (co := 3072) (ro := 128) rfl rfl rfl inb_S8x128x128_S1x128x128_6_0_0 (by decide)
      (by decide) inb_S1x4096_S1x512_0_3072 inb_S128x8_S128x1_0_6 inb_S256x4096_S128x512_128_3072)
    (gg := 6) rfl inb_S128x8_S128x1_0_6 arg11.view (fun _ => 0) ?_
  refine dbs_both (loads HR (g := 5) (b := 0) (gg := 5) (co := 2560) (ro := 0) rfl rfl rfl inb_S8x128x128_S1x128x128_5_0_0 (by decide)
      (by decide) inb_S1x4096_S1x512_0_2560 inb_S128x8_S128x1_0_5 inb_S256x4096_S128x512_0_2560)
    (loads HR (g := 5) (b := 1) (gg := 5) (co := 2560) (ro := 128) rfl rfl rfl inb_S8x128x128_S1x128x128_5_0_0 (by decide)
      (by decide) inb_S1x4096_S1x512_0_2560 inb_S128x8_S128x1_0_5 inb_S256x4096_S128x512_128_2560)
    (gg := 5) rfl inb_S128x8_S128x1_0_5 arg11.view (fun _ => 0) ?_
  refine dbs_both (loads HR (g := 4) (b := 0) (gg := 4) (co := 2048) (ro := 0) rfl rfl rfl inb_S8x128x128_S1x128x128_4_0_0 (by decide)
      (by decide) inb_S1x4096_S1x512_0_2048 inb_S128x8_S128x1_0_4 inb_S256x4096_S128x512_0_2048)
    (loads HR (g := 4) (b := 1) (gg := 4) (co := 2048) (ro := 128) rfl rfl rfl inb_S8x128x128_S1x128x128_4_0_0 (by decide)
      (by decide) inb_S1x4096_S1x512_0_2048 inb_S128x8_S128x1_0_4 inb_S256x4096_S128x512_128_2048)
    (gg := 4) rfl inb_S128x8_S128x1_0_4 arg11.view (fun _ => 0) ?_
  refine dbs_both (loads HR (g := 3) (b := 0) (gg := 3) (co := 1536) (ro := 0) rfl rfl rfl inb_S8x128x128_S1x128x128_3_0_0 (by decide)
      (by decide) inb_S1x4096_S1x512_0_1536 inb_S128x8_S128x1_0_3 inb_S256x4096_S128x512_0_1536)
    (loads HR (g := 3) (b := 1) (gg := 3) (co := 1536) (ro := 128) rfl rfl rfl inb_S8x128x128_S1x128x128_3_0_0 (by decide)
      (by decide) inb_S1x4096_S1x512_0_1536 inb_S128x8_S128x1_0_3 inb_S256x4096_S128x512_128_1536)
    (gg := 3) rfl inb_S128x8_S128x1_0_3 arg11.view (fun _ => 0) ?_
  refine dbs_both (loads HR (g := 2) (b := 0) (gg := 2) (co := 1024) (ro := 0) rfl rfl rfl inb_S8x128x128_S1x128x128_2_0_0 (by decide)
      (by decide) inb_S1x4096_S1x512_0_1024 inb_S128x8_S128x1_0_2 inb_S256x4096_S128x512_0_1024)
    (loads HR (g := 2) (b := 1) (gg := 2) (co := 1024) (ro := 128) rfl rfl rfl inb_S8x128x128_S1x128x128_2_0_0 (by decide)
      (by decide) inb_S1x4096_S1x512_0_1024 inb_S128x8_S128x1_0_2 inb_S256x4096_S128x512_128_1024)
    (gg := 2) rfl inb_S128x8_S128x1_0_2 arg11.view (fun _ => 0) ?_
  refine dbs_both (loads HR (g := 1) (b := 0) (gg := 1) (co := 512) (ro := 0) rfl rfl rfl inb_S8x128x128_S1x128x128_1_0_0 (by decide)
      (by decide) inb_S1x4096_S1x512_0_512 inb_S128x8_S128x1_0_1 inb_S256x4096_S128x512_0_512)
    (loads HR (g := 1) (b := 1) (gg := 1) (co := 512) (ro := 128) rfl rfl rfl inb_S8x128x128_S1x128x128_1_0_0 (by decide)
      (by decide) inb_S1x4096_S1x512_0_512 inb_S128x8_S128x1_0_1 inb_S256x4096_S128x512_128_512)
    (gg := 1) rfl inb_S128x8_S128x1_0_1 arg11.view (fun _ => 0) ?_
  refine dbs_both (loads HR (g := 0) (b := 0) (gg := 0) (co := 0) (ro := 0) rfl rfl rfl inb_S8x128x128_S1x128x128_0_0_0 (by decide)
      (by decide) inb_S1x4096_S1x512_0_0 inb_S128x8_S128x1_0_0 inb_S256x4096_S128x512_0_0)
    (loads HR (g := 0) (b := 1) (gg := 0) (co := 0) (ro := 128) rfl rfl rfl inb_S8x128x128_S1x128x128_0_0_0 (by decide)
      (by decide) inb_S1x4096_S1x512_0_0 inb_S128x8_S128x1_0_0 inb_S256x4096_S128x512_128_0)
    (gg := 0) rfl inb_S128x8_S128x1_0_0 arg11.view (fun _ => 0) ?_
  refine ⟨fun y h => absurd h (Nat.not_lt_zero _), fun y _ => ?_⟩
  refine (congrFun (View.canon_unit_zero hz2 _ _) y).trans (zero_b y)

/-- The gradient of the norm's scale. -/
theorem out_A_11 : out0_A_11 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 = Gg A t (fun _ => 0) := by
  have HR := H.read harg1 harg2 harg3 harg4 harg5 harg6 harg7 harg8
  have hD := scratch_A c arg1 harg1 arg2 harg2 arg3 harg3 arg4 harg4 arg5 harg5 arg6 harg6 arg7 harg7 arg8 harg8 arg14 x0 x1 x2 x3 x4 x5 x6 x7 H
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7)]
  refine (View.canon_cons_unit_zero hz2 _ _ _).trans ((dlng_pay HR hD _).trans (congrArg (Gg A t) ?_))
  exact (View.readCov_unit_zero _ hz2 _ _).trans (funext zero_g)

/-- The gradient of the norm's shift. -/
theorem out_A_12 : out0_A_12 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 = Gh A t (fun _ => 0) := by
  have HR := H.read harg1 harg2 harg3 harg4 harg5 harg6 harg7 harg8
  have hD := scratch_A c arg1 harg1 arg2 harg2 arg3 harg3 arg4 harg4 arg5 harg5 arg6 harg6 arg7 harg7 arg8 harg8 arg14 x0 x1 x2 x3 x4 x5 x6 x7 H
  unfold out0_A_12
  rw [View.read_writes_eq_canon _ _ _ (cover0_A_12 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7)]
  refine (View.canon_cons_unit_zero hz2 _ _ _).trans ((dlnb_pay hD _).trans (congrArg (Gh A t) ?_))
  exact (View.readCov_unit_zero _ hz2 _ _).trans (funext zero_s)

end

end Cert.Sgu

end
-- ==== Proof.PiecesB.lean ====
/- What a later grid point leaves in its five outputs. -/
module

public import proofs.«01_k».proof.Proof.Rects

@[expose] public section

set_option maxRecDepth 16384

noncomputable section

namespace Cert.Sgu

open Idealize.ShloMosaic Cert.KernelIdeal Cert.KernelIdeal.Gen

section
variable (c : Dev nD) (i : grid0.Coords)
  (arg1 : Memref sig .tc .vmem S256x4096 .bf16) (harg1 : arg1.IsWhole) (arg2 : Memref sig .tc .vmem S256x4096 .bf16) (harg2 : arg2.IsWhole)
  (arg3 : Memref sig .tc .vmem S256x4096 .bf16) (harg3 : arg3.IsWhole) (arg4 : Memref sig .tc .vmem S256x4096 .bf16) (harg4 : arg4.IsWhole)
  (arg5 : Memref sig .tc .vmem S1x4096 .f32) (harg5 : arg5.IsWhole) (arg6 : Memref sig .tc .vmem S1x4096 .f32) (harg6 : arg6.IsWhole)
  (arg7 : Memref sig .tc .vmem S8x128x128 .f32) (harg7 : arg7.IsWhole) (arg8 : Memref sig .tc .vmem S128x8 .f32) (harg8 : arg8.IsWhole)
  (arg9 : Memref sig .tc .vmem S256x12288 .bf16) (harg9 : arg9.IsWhole) (arg10 : Memref sig .tc .vmem S8x128x128 .f32) (harg10 : arg10.IsWhole)
  (arg11 : Memref sig .tc .vmem S128x8 .f32) (harg11 : arg11.IsWhole) (arg12 : Memref sig .tc .vmem S1x4096 .f32) (harg12 : arg12.IsWhole)
  (arg13 : Memref sig .tc .vmem S1x4096 .f32) (harg13 : arg13.IsWhole) (arg14 : Memref sig .tc .vmem S256x4096 .f32) (harg14 : arg14.IsWhole)
  (hc0 : ¬cond0_0 i)
  (x0 x1 x2 x3 : Vec Ideal S256x4096 .bf16) (x4 x5 : Vec Ideal S1x4096 .f32) (x6 : Vec Ideal S8x128x128 .f32) (x7 : Vec Ideal S128x8 .f32)
  (xo9 : Vec Ideal S8x128x128 .f32) (xo10 : Vec Ideal S128x8 .f32) (xo11 xo12 : Vec Ideal S1x4096 .f32)
  {A : Inputs} {t : Fin 32} (H : Holds A t x0 x1 x2 x3 x4 x5 x6 x7)

include harg3 harg5 harg6 harg8 H

/-- The scratch buffer, all its tiles stored. -/
theorem scratch_B : kernelRun0_B.sl.v1483 c arg1 harg1 arg2 harg2 arg4 harg4 arg7 harg7 arg14 x0 x1 x3 x6 = Gs A t := by
  have HR := H.read harg1 harg2 harg3 harg4 harg5 harg6 harg7 harg8
  unfold kernelRun0_B.sl.v1483
  rw [View.readCov_eq_canon']
  funext y
  unfold kernelRun0_B.sl.HS0_16
  refine (View.canon_apply_of_pieces (Gs A t) _ ?_ _ (View.cover_of_tiledBy _ ![128, 512] (by sl_kernel_rfl) _)).trans ?_
  · refine List.forall_mem_cons.2 ⟨?_, ?_⟩
    · exact fun x => dvn_rect (loads HR (g := 7) (b := 1) (gg := 7) (co := 3584) (ro := 128) rfl rfl rfl inb_S8x128x128_S1x128x128_7_0_0 (by decide)
      (by decide) inb_S1x4096_S1x512_0_3584 inb_S128x8_S128x1_0_7 inb_S256x4096_S128x512_128_3584) rfl rfl
        inb_S256x4096_S128x512_128_3584 x
    refine List.forall_mem_cons.2 ⟨?_, ?_⟩
    · exact fun x => dvn_rect (loads HR (g := 7) (b := 0) (gg := 7) (co := 3584) (ro := 0) rfl rfl rfl inb_S8x128x128_S1x128x128_7_0_0 (by decide)
      (by decide) inb_S1x4096_S1x512_0_3584 inb_S128x8_S128x1_0_7 inb_S256x4096_S128x512_0_3584) rfl rfl
        inb_S256x4096_S128x512_0_3584 x
    refine List.forall_mem_cons.2 ⟨?_, ?_⟩
    · exact fun x => dvn_rect (loads HR (g := 6) (b := 1) (gg := 6) (co := 3072) (ro := 128) rfl rfl rfl inb_S8x128x128_S1x128x128_6_0_0 (by decide)
      (by decide) inb_S1x4096_S1x512_0_3072 inb_S128x8_S128x1_0_6 inb_S256x4096_S128x512_128_3072) rfl rfl
        inb_S256x4096_S128x512_128_3072 x
    refine List.forall_mem_cons.2 ⟨?_, ?_⟩
    · exact fun x => dvn_rect (loads HR (g := 6) (b := 0) (gg := 6) (co := 3072) (ro := 0) rfl rfl rfl inb_S8x128x128_S1x128x128_6_0_0 (by decide)
      (by decide) inb_S1x4096_S1x512_0_3072 inb_S128x8_S128x1_0_6 inb_S256x4096_S128x512_0_3072) rfl rfl
        inb_S256x4096_S128x512_0_3072 x
    refine List.forall_mem_cons.2 ⟨?_, ?_⟩
    · exact fun x => dvn_rect (loads HR (g := 5) (b := 1) (gg := 5) (co := 2560) (ro := 128) rfl rfl rfl inb_S8x128x128_S1x128x128_5_0_0 (by decide)
      (by decide) inb_S1x4096_S1x512_0_2560 inb_S128x8_S128x1_0_5 inb_S256x4096_S128x512_128_2560) rfl rfl
        inb_S256x4096_S128x512_128_2560 x
    refine List.forall_mem_cons.2 ⟨?_, ?_⟩
    · exact fun x => dvn_rect (loads HR (g := 5) (b := 0) (gg := 5) (co := 2560) (ro := 0) rfl rfl rfl inb_S8x128x128_S1x128x128_5_0_0 (by decide)
      (by decide) inb_S1x4096_S1x512_0_2560 inb_S128x8_S128x1_0_5 inb_S256x4096_S128x512_0_2560) rfl rfl
        inb_S256x4096_S128x512_0_2560 x
    refine List.forall_mem_cons.2 ⟨?_, ?_⟩
    · exact fun x => dvn_rect (loads HR (g := 4) (b := 1) (gg := 4) (co := 2048) (ro := 128) rfl rfl rfl inb_S8x128x128_S1x128x128_4_0_0 (by decide)
      (by decide) inb_S1x4096_S1x512_0_2048 inb_S128x8_S128x1_0_4 inb_S256x4096_S128x512_128_2048) rfl rfl
        inb_S256x4096_S128x512_128_2048 x
    refine List.forall_mem_cons.2 ⟨?_, ?_⟩
    · exact fun x => dvn_rect (loads HR (g := 4) (b := 0) (gg := 4) (co := 2048) (ro := 0) rfl rfl rfl inb_S8x128x128_S1x128x128_4_0_0 (by decide)
      (by decide) inb_S1x4096_S1x512_0_2048 inb_S128x8_S128x1_0_4 inb_S256x4096_S128x512_0_2048) rfl rfl
        inb_S256x4096_S128x512_0_2048 x
    refine List.forall_mem_cons.2 ⟨?_, ?_⟩
    · exact fun x => dvn_rect (loads HR (g := 3) (b := 1) (gg := 3) (co := 1536) (ro := 128) rfl rfl rfl inb_S8x128x128_S1x128x128_3_0_0 (by decide)
      (by decide) inb_S1x4096_S1x512_0_1536 inb_S128x8_S128x1_0_3 inb_S256x4096_S128x512_128_1536) rfl rfl
        inb_S256x4096_S128x512_128_1536 x
    refine List.forall_mem_cons.2 ⟨?_, ?_⟩
    · exact fun x => dvn_rect (loads HR (g := 3) (b := 0) (gg := 3) (co := 1536) (ro := 0) rfl rfl rfl inb_S8x128x128_S1x128x128_3_0_0 (by decide)
      (by decide) inb_S1x4096_S1x512_0_1536 inb_S128x8_S128x1_0_3 inb_S256x4096_S128x512_0_1536) rfl rfl
        inb_S256x4096_S128x512_0_1536 x
    refine List.forall_mem_cons.2 ⟨?_, ?_⟩
    · exact fun x => dvn_rect (loads HR (g := 2) (b := 1) (gg := 2) (co := 1024) (ro := 128) rfl rfl rfl inb_S8x128x128_S1x128x128_2_0_0 (by decide)
      (by decide) inb_S1x4096_S1x512_0_1024 inb_S128x8_S128x1_0_2 inb_S256x4096_S128x512_128_1024) rfl rfl
        inb_S256x4096_S128x512_128_1024 x
    refine List.forall_mem_cons.2 ⟨?_, ?_⟩
    · exact fun x => dvn_rect (loads HR (g := 2) (b := 0) (gg := 2) (co := 1024) (ro := 0) rfl rfl rfl inb_S8x128x128_S1x128x128_2_0_0 (by decide)
      (by decide) inb_S1x4096_S1x512_0_1024 inb_S128x8_S128x1_0_2 inb_S256x4096_S128x512_0_1024) rfl rfl
        inb_S256x4096_S128x512_0_1024 x
    refine List.forall_mem_cons.2 ⟨?_, ?_⟩
    · exact fun x => dvn_rect (loads HR (g := 1) (b := 1) (gg := 1) (co := 512) (ro := 128) rfl rfl rfl inb_S8x128x128_S1x128x128_1_0_0 (by decide)
      (by decide) inb_S1x4096_S1x512_0_512 inb_S128x8_S128x1_0_1 inb_S256x4096_S128x512_128_512) rfl rfl
        inb_S256x4096_S128x512_128_512 x
    refine List.forall_mem_cons.2 ⟨?_, ?_⟩
    · exact fun x => dvn_rect (loads HR (g := 1) (b := 0) (gg := 1) (co := 512) (ro := 0) rfl rfl rfl inb_S8x128x128_S1x128x128_1_0_0 (by decide)
      (by decide) inb_S1x4096_S1x512_0_512 inb_S128x8_S128x1_0_1 inb_S256x4096_S128x512_0_512) rfl rfl
        inb_S256x4096_S128x512_0_512 x
    refine List.forall_mem_cons.2 ⟨?_, ?_⟩
    · exact fun x => dvn_rect (loads HR (g := 0) (b := 1) (gg := 0) (co := 0) (ro := 128) rfl rfl rfl inb_S8x128x128_S1x128x128_0_0_0 (by decide)
      (by decide) inb_S1x4096_S1x512_0_0 inb_S128x8_S128x1_0_0 inb_S256x4096_S128x512_128_0) rfl rfl
        inb_S256x4096_S128x512_128_0 x
    refine List.forall_mem_cons.2 ⟨?_, ?_⟩
    · exact fun x => dvn_rect (loads HR (g := 0) (b := 0) (gg := 0) (co := 0) (ro := 0) rfl rfl rfl inb_S8x128x128_S1x128x128_0_0_0 (by decide)
      (by decide) inb_S1x4096_S1x512_0_0 inb_S128x8_S128x1_0_0 inb_S256x4096_S128x512_0_0) rfl rfl
        inb_S256x4096_S128x512_0_0 x
    exact fun p hp => absurd hp List.not_mem_nil
  · exact congrArg (Gs A t) (funext fun a => Fin.ext (by rw [LoadRect.idx_apply]; fin_cases a <;> exact (Nat.zero_add _).trans (Nat.one_mul _)))

/-- The projection's gradient. -/
theorem out_B_8 : out0_B_8 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo9 xo10 xo11 xo12 = Gp A t := by
  have HR := H.read harg1 harg2 harg3 harg4 harg5 harg6 harg7 harg8
  have hD := scratch_B c arg1 harg1 arg2 harg2 arg3 harg3 arg4 harg4 arg5 harg5 arg6 harg6 arg7 harg7 arg8 harg8 arg14 x0 x1 x2 x3 x4 x5 x6 x7 H
  funext y
  have hcov := cover0_B_8 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo9 xo10 xo11 xo12 y
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo9 xo10 xo11 xo12)]
  refine View.canon_apply_of_pieces (Gp A t) _ ?_ y hcov
  unfold kernelRun0_B
  dsimp only
  refine List.forall_mem_cons.2 ⟨?_, ?_⟩
  · exact fun x => dv_rect HR.whole hD inb_S256x12288_S256x4096_0_4096 x
  refine List.forall_mem_cons.2 ⟨?_, ?_⟩
  · exact fun x => dgate_rect (loads HR (g := 7) (b := 1) (gg := 7) (co := 3584) (ro := 128) rfl rfl rfl inb_S8x128x128_S1x128x128_7_0_0 (by decide)
      (by decide) inb_S1x4096_S1x512_0_3584 inb_S128x8_S128x1_0_7 inb_S256x4096_S128x512_128_3584) rfl rfl
      inb_S256x12288_S128x512_128_11776 x
  refine List.forall_mem_cons.2 ⟨?_, ?_⟩
  · exact fun x => du_rect (loads HR (g := 7) (b := 1) (gg := 7) (co := 3584) (ro := 128) rfl rfl rfl inb_S8x128x128_S1x128x128_7_0_0 (by decide)
      (by decide) inb_S1x4096_S1x512_0_3584 inb_S128x8_S128x1_0_7 inb_S256x4096_S128x512_128_3584) rfl rfl
      inb_S256x12288_S128x512_128_3584 x
  refine List.forall_mem_cons.2 ⟨?_, ?_⟩
  · exact fun x => dgate_rect (loads HR (g := 7) (b := 0) (gg := 7) (co := 3584) (ro := 0) rfl rfl rfl inb_S8x128x128_S1x128x128_7_0_0 (by decide)
      (by decide) inb_S1x4096_S1x512_0_3584 inb_S128x8_S128x1_0_7 inb_S256x4096_S128x512_0_3584) rfl rfl
      inb_S256x12288_S128x512_0_11776 x
  refine List.forall_mem_cons.2 ⟨?_, ?_⟩
  · exact fun x => du_rect (loads HR (g := 7) (b := 0) (gg := 7) (co := 3584) (ro := 0) rfl rfl rfl inb_S8x128x128_S1x128x128_7_0_0 (by decide)
      (by decide) inb_S1x4096_S1x512_0_3584 inb_S128x8_S128x1_0_7 inb_S256x4096_S128x512_0_3584) rfl rfl
      inb_S256x12288_S128x512_0_3584 x
  refine List.forall_mem_cons.2 ⟨?_, ?_⟩
  · exact fun x => dgate_rect (loads HR (g := 6) (b := 1) (gg := 6) (co := 3072) (ro := 128) rfl rfl rfl inb_S8x128x128_S1x128x128_6_0_0 (by decide)
      (by decide) inb_S1x4096_S1x512_0_3072 inb_S128x8_S128x1_0_6 inb_S256x4096_S128x512_128_3072) rfl rfl
      inb_S256x12288_S128x512_128_11264 x
  refine List.forall_mem_cons.2 ⟨?_, ?_⟩
  · exact fun x => du_rect (loads HR (g := 6) (b := 1) (gg := 6) (co := 3072) (ro := 128) rfl rfl rfl inb_S8x128x128_S1x128x128_6_0_0 (by decide)
      (by decide) inb_S1x4096_S1x512_0_3072 inb_S128x8_S128x1_0_6 inb_S256x4096_S128x512_128_3072) rfl rfl
      inb_S256x12288_S128x512_128_3072 x
  refine List.forall_mem_cons.2 ⟨?_, ?_⟩
  · exact fun x => dgate_rect (loads HR (g := 6) (b := 0) (gg := 6) (co := 3072) (ro := 0) rfl rfl rfl inb_S8x128x128_S1x128x128_6_0_0 (by decide)
      (by decide) inb_S1x4096_S1x512_0_3072 inb_S128x8_S128x1_0_6 inb_S256x4096_S128x512_0_3072) rfl rfl
      inb_S256x12288_S128x512_0_11264 x
  refine List.forall_mem_cons.2 ⟨?_, ?_⟩
  · exact fun x => du_rect (loads HR (g := 6) (b := 0) (gg := 6) (co := 3072) (ro := 0) rfl rfl rfl inb_S8x128x128_S1x128x128_6_0_0 (by decide)
      (by decide) inb_S1x4096_S1x512_0_3072 inb_S128x8_S128x1_0_6 inb_S256x4096_S128x512_0_3072) rfl rfl
      inb_S256x12288_S128x512_0_3072 x
  refine List.forall_mem_cons.2 ⟨?_, ?_⟩
  · exact fun x => dgate_rect (loads HR (g := 5) (b := 1) (gg := 5) (co := 2560) (ro := 128) rfl rfl rfl inb_S8x128x128_S1x128x128_5_0_0 (by decide)
      (by decide) inb_S1x4096_S1x512_0_2560 inb_S128x8_S128x1_0_5 inb_S256x4096_S128x512_128_2560) rfl rfl
      inb_S256x12288_S128x512_128_10752 x
  refine List.forall_mem_cons.2 ⟨?_, ?_⟩
  · exact fun x => du_rect (loads HR (g := 5) (b := 1) (gg := 5) (co := 2560) (ro := 128) rfl rfl rfl inb_S8x128x128_S1x128x128_5_0_0 (by decide)
      (by decide) inb_S1x4096_S1x512_0_2560 inb_S128x8_S128x1_0_5 inb_S256x4096_S128x512_128_2560) rfl rfl
      inb_S256x12288_S128x512_128_2560 x
  refine List.forall_mem_cons.2 ⟨?_, ?_⟩
  · exact fun x => dgate_rect (loads HR (g := 5) (b := 0) (gg := 5) (co := 2560) (ro := 0) rfl rfl rfl inb_S8x128x128_S1x128x128_5_0_0 (by decide)
      (by decide) inb_S1x4096_S1x512_0_2560 inb_S128x8_S128x1_0_5 inb_S256x4096_S128x512_0_2560) rfl rfl
      inb_S256x12288_S128x512_0_10752 x
  refine List.forall_mem_cons.2 ⟨?_, ?_⟩
  · exact fun x => du_rect (loads HR (g := 5) (b := 0) (gg := 5) (co := 2560) (ro := 0) rfl rfl rfl inb_S8x128x128_S1x128x128_5_0_0 (by decide)
      (by decide) inb_S1x4096_S1x512_0_2560 inb_S128x8_S128x1_0_5 inb_S256x4096_S128x512_0_2560) rfl rfl
      inb_S256x12288_S128x512_0_2560 x
  refine List.forall_mem_cons.2 ⟨?_, ?_⟩
  · exact fun x => dgate_rect (loads HR (g := 4) (b := 1) (gg := 4) (co := 2048) (ro := 128) rfl rfl rfl inb_S8x128x128_S1x128x128_4_0_0 (by decide)
      (by decide) inb_S1x4096_S1x512_0_2048 inb_S128x8_S128x1_0_4 inb_S256x4096_S128x512_128_2048) rfl rfl
      inb_S256x12288_S128x512_128_10240 x
  refine List.forall_mem_cons.2 ⟨?_, ?_⟩
  · exact fun x => du_rect (loads HR (g := 4) (b := 1) (gg := 4) (co := 2048) (ro := 128) rfl rfl rfl inb_S8x128x128_S1x128x128_4_0_0 (by decide)
      (by decide) inb_S1x4096_S1x512_0_2048 inb_S128x8_S128x1_0_4 inb_S256x4096_S128x512_128_2048) rfl rfl
      inb_S256x12288_S128x512_128_2048 x
  refine List.forall_mem_cons.2 ⟨?_, ?_⟩
  · exact fun x => dgate_rect (loads HR (g := 4) (b := 0) (gg := 4) (co := 2048) (ro := 0) rfl rfl rfl inb_S8x128x128_S1x128x128_4_0_0 (by decide)
      (by decide) inb_S1x4096_S1x512_0_2048 inb_S128x8_S128x1_0_4 inb_S256x4096_S128x512_0_2048) rfl rfl
      inb_S256x12288_S128x512_0_10240 x
  refine List.forall_mem_cons.2 ⟨?_, ?_⟩
  · exact fun x => du_rect (loads HR (g := 4) (b := 0) (gg := 4) (co := 2048) (ro := 0) rfl rfl rfl inb_S8x128x128_S1x128x128_4_0_0 (by decide)
      (by decide) inb_S1x4096_S1x512_0_2048 inb_S128x8_S128x1_0_4 inb_S256x4096_S128x512_0_2048) rfl rfl
      inb_S256x12288_S128x512_0_2048 x
  refine List.forall_mem_cons.2 ⟨?_, ?_⟩
  · exact fun x => dgate_rect (loads HR (g := 3) (b := 1) (gg := 3) (co := 1536) (ro := 128) rfl rfl rfl inb_S8x128x128_S1x128x128_3_0_0 (by decide)
      (by decide) inb_S1x4096_S1x512_0_1536 inb_S128x8_S128x1_0_3 inb_S256x4096_S128x512_128_1536) rfl rfl
      inb_S256x12288_S128x512_128_9728 x
  refine List.forall_mem_cons.2 ⟨?_, ?_⟩
  · exact fun x => du_rect (loads HR (g := 3) (b := 1) (gg := 3) (co := 1536) (ro := 128) rfl rfl rfl inb_S8x128x128_S1x128x128_3_0_0 (by decide)
      (by decide) inb_S1x4096_S1x512_0_1536 inb_S128x8_S128x1_0_3 inb_S256x4096_S128x512_128_1536) rfl rfl
      inb_S256x12288_S128x512_128_1536 x
  refine List.forall_mem_cons.2 ⟨?_, ?_⟩
  · exact fun x => dgate_rect (loads HR (g := 3) (b := 0) (gg := 3) (co := 1536) (ro := 0) rfl rfl rfl inb_S8x128x128_S1x128x128_3_0_0 (by decide)
      (by decide) inb_S1x4096_S1x512_0_1536 inb_S128x8_S128x1_0_3 inb_S256x4096_S128x512_0_1536) rfl rfl
      inb_S256x12288_S128x512_0_9728 x
  refine List.forall_mem_cons.2 ⟨?_, ?_⟩
  · exact fun x => du_rect (loads HR (g := 3) (b := 0) (gg := 3) (co := 1536) (ro := 0) rfl rfl rfl inb_S8x128x128_S1x128x128_3_0_0 (by decide)
      (by decide) inb_S1x4096_S1x512_0_1536 inb_S128x8_S128x1_0_3 inb_S256x4096_S128x512_0_1536) rfl rfl
      inb_S256x12288_S128x512_0_1536 x
  refine List.forall_mem_cons.2 ⟨?_, ?_⟩
  · exact fun x => dgate_rect (loads HR (g := 2) (b := 1) (gg := 2) (co := 1024) (ro := 128) rfl rfl rfl inb_S8x128x128_S1x128x128_2_0_0 (by decide)
      (by decide) inb_S1x4096_S1x512_0_1024 inb_S128x8_S128x1_0_2 inb_S256x4096_S128x512_128_1024) rfl rfl
      inb_S256x12288_S128x512_128_9216 x
  refine List.forall_mem_cons.2 ⟨?_, ?_⟩
  · exact fun x => du_rect (loads HR (g := 2) (b := 1) (gg := 2) (co := 1024) (ro := 128) rfl rfl rfl inb_S8x128x128_S1x128x128_2_0_0 (by decide)
      (by decide) inb_S1x4096_S1x512_0_1024 inb_S128x8_S128x1_0_2 inb_S256x4096_S128x512_128_1024) rfl rfl
      inb_S256x12288_S128x512_128_1024 x
  refine List.forall_mem_cons.2 ⟨?_, ?_⟩
  · exact fun x => dgate_rect (loads HR (g := 2) (b := 0) (gg := 2) (co := 1024) (ro := 0) rfl rfl rfl inb_S8x128x128_S1x128x128_2_0_0 (by decide)
      (by decide) inb_S1x4096_S1x512_0_1024 inb_S128x8_S128x1_0_2 inb_S256x4096_S128x512_0_1024) rfl rfl
      inb_S256x12288_S128x512_0_9216 x
  refine List.forall_mem_cons.2 ⟨?_, ?_⟩
  · exact fun x => du_rect (loads HR (g := 2) (b := 0) (gg := 2) (co := 1024) (ro := 0) rfl rfl rfl inb_S8x128x128_S1x128x128_2_0_0 (by decide)
      (by decide) inb_S1x4096_S1x512_0_1024 inb_S128x8_S128x1_0_2 inb_S256x4096_S128x512_0_1024) rfl rfl
      inb_S256x12288_S128x512_0_1024 x
  refine List.forall_mem_cons.2 ⟨?_, ?_⟩
  · exact fun x => dgate_rect (loads HR (g := 1) (b := 1) (gg := 1) (co := 512) (ro := 128) rfl rfl rfl inb_S8x128x128_S1x128x128_1_0_0 (by decide)
      (by decide) inb_S1x4096_S1x512_0_512 inb_S128x8_S128x1_0_1 inb_S256x4096_S128x512_128_512) rfl rfl
      inb_S256x12288_S128x512_128_8704 x
  refine List.forall_mem_cons.2 ⟨?_, ?_⟩
  · exact fun x => du_rect (loads HR (g := 1) (b := 1) (gg := 1) (co := 512) (ro := 128) rfl rfl rfl inb_S8x128x128_S1x128x128_1_0_0 (by decide)
      (by decide) inb_S1x4096_S1x512_0_512 inb_S128x8_S128x1_0_1 inb_S256x4096_S128x512_128_512) rfl rfl
      inb_S256x12288_S128x512_128_512 x
  refine List.forall_mem_cons.2 ⟨?_, ?_⟩
  · exact fun x => dgate_rect (loads HR (g := 1) (b := 0) (gg := 1) (co := 512) (ro := 0) rfl rfl rfl inb_S8x128x128_S1x128x128_1_0_0 (by decide)
      (by decide) inb_S1x4096_S1x512_0_512 inb_S128x8_S128x1_0_1 inb_S256x4096_S128x512_0_512) rfl rfl
      inb_S256x12288_S128x512_0_8704 x
  refine List.forall_mem_cons.2 ⟨?_, ?_⟩
  · exact fun x => du_rect (loads HR (g := 1) (b := 0) (gg := 1) (co := 512) (ro := 0) rfl rfl rfl inb_S8x128x128_S1x128x128_1_0_0 (by decide)
      (by decide) inb_S1x4096_S1x512_0_512 inb_S128x8_S128x1_0_1 inb_S256x4096_S128x512_0_512) rfl rfl
      inb_S256x12288_S128x512_0_512 x
  refine List.forall_mem_cons.2 ⟨?_, ?_⟩
  · exact fun x => dgate_rect (loads HR (g := 0) (b := 1) (gg := 0) (co := 0) (ro := 128) rfl rfl rfl inb_S8x128x128_S1x128x128_0_0_0 (by decide)
      (by decide) inb_S1x4096_S1x512_0_0 inb_S128x8_S128x1_0_0 inb_S256x4096_S128x512_128_0) rfl rfl
      inb_S256x12288_S128x512_128_8192 x
  refine List.forall_mem_cons.2 ⟨?_, ?_⟩
  · exact fun x => du_rect (loads HR (g := 0) (b := 1) (gg := 0) (co := 0) (ro := 128) rfl rfl rfl inb_S8x128x128_S1x128x128_0_0_0 (by decide)
      (by decide) inb_S1x4096_S1x512_0_0 inb_S128x8_S128x1_0_0 inb_S256x4096_S128x512_128_0) rfl rfl
      inb_S256x12288_S128x512_128_0 x
  refine List.forall_mem_cons.2 ⟨?_, ?_⟩
  · exact fun x => dgate_rect (loads HR (g := 0) (b := 0) (gg := 0) (co := 0) (ro := 0) rfl rfl rfl inb_S8x128x128_S1x128x128_0_0_0 (by decide)
      (by decide) inb_S1x4096_S1x512_0_0 inb_S128x8_S128x1_0_0 inb_S256x4096_S128x512_0_0) rfl rfl
      inb_S256x12288_S128x512_0_8192 x
  refine List.forall_mem_cons.2 ⟨?_, ?_⟩
  · exact fun x => du_rect (loads HR (g := 0) (b := 0) (gg := 0) (co := 0) (ro := 0) rfl rfl rfl inb_S8x128x128_S1x128x128_0_0_0 (by decide)
      (by decide) inb_S1x4096_S1x512_0_0 inb_S128x8_S128x1_0_0 inb_S256x4096_S128x512_0_0) rfl rfl
      inb_S256x12288_S128x512_0_0 x
  exact fun p hp => absurd hp List.not_mem_nil

/-- The gradient of the weights. -/
theorem out_B_9 : out0_B_9 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo9 xo10 xo11 xo12 = Gw A t xo9 := by
  have HR := H.read harg1 harg2 harg3 harg4 harg5 harg6 harg7 harg8
  funext y
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo9 xo10 xo11 xo12)]
  have hy : (y 0).val < 7 + 1 := (y 0).isLt
  revert hy
  revert y
  intro y hy
  refine dws_step (loads HR (g := 7) (b := 0) (gg := 7) (co := 3584) (ro := 0) rfl rfl rfl inb_S8x128x128_S1x128x128_7_0_0 (by decide)
      (by decide) inb_S1x4096_S1x512_0_3584 inb_S128x8_S128x1_0_7 inb_S256x4096_S128x512_0_3584)
    (loads HR (g := 7) (b := 1) (gg := 7) (co := 3584) (ro := 128) rfl rfl rfl inb_S8x128x128_S1x128x128_7_0_0 (by decide)
      (by decide) inb_S1x4096_S1x512_0_3584 inb_S128x8_S128x1_0_7 inb_S256x4096_S128x512_128_3584)
    (gg := 7) rfl inb_S8x128x128_S1x128x128_7_0_0 arg10.view xo9 _ (fun x => congrFun (harg10.read_unread xo9) _) ?_ y hy
  clear hy y
  intro y hy
  refine dws_step (loads HR (g := 6) (b := 0) (gg := 6) (co := 3072) (ro := 0) rfl rfl rfl inb_S8x128x128_S1x128x128_6_0_0 (by decide)
      (by decide) inb_S1x4096_S1x512_0_3072 inb_S128x8_S128x1_0_6 inb_S256x4096_S128x512_0_3072)
    (loads HR (g := 6) (b := 1) (gg := 6) (co := 3072) (ro := 128) rfl rfl rfl inb_S8x128x128_S1x128x128_6_0_0 (by decide)
      (by decide) inb_S1x4096_S1x512_0_3072 inb_S128x8_S128x1_0_6 inb_S256x4096_S128x512_128_3072)
    (gg := 6) rfl inb_S8x128x128_S1x128x128_6_0_0 arg10.view xo9 _ (fun x => congrFun (harg10.read_unread xo9) _) ?_ y hy
  clear hy y
  intro y hy
  refine dws_step (loads HR (g := 5) (b := 0) (gg := 5) (co := 2560) (ro := 0) rfl rfl rfl inb_S8x128x128_S1x128x128_5_0_0 (by decide)
      (by decide) inb_S1x4096_S1x512_0_2560 inb_S128x8_S128x1_0_5 inb_S256x4096_S128x512_0_2560)
    (loads HR (g := 5) (b := 1) (gg := 5) (co := 2560) (ro := 128) rfl rfl rfl inb_S8x128x128_S1x128x128_5_0_0 (by decide)
      (by decide) inb_S1x4096_S1x512_0_2560 inb_S128x8_S128x1_0_5 inb_S256x4096_S128x512_128_2560)
    (gg := 5) rfl inb_S8x128x128_S1x128x128_5_0_0 arg10.view xo9 _ (fun x => congrFun (harg10.read_unread xo9) _) ?_ y hy
  clear hy y
  intro y hy
  refine dws_step (loads HR (g := 4) (b := 0) (gg := 4) (co := 2048) (ro := 0) rfl rfl rfl inb_S8x128x128_S1x128x128_4_0_0 (by decide)
      (by decide) inb_S1x4096_S1x512_0_2048 inb_S128x8_S128x1_0_4 inb_S256x4096_S128x512_0_2048)
    (loads HR (g := 4) (b := 1) (gg := 4) (co := 2048) (ro := 128) rfl rfl rfl inb_S8x128x128_S1x128x128_4_0_0 (by decide)
      (by decide) inb_S1x4096_S1x512_0_2048 inb_S128x8_S128x1_0_4 inb_S256x4096_S128x512_128_2048)
    (gg := 4) rfl inb_S8x128x128_S1x128x128_4_0_0 arg10.view xo9 _ (fun x => congrFun (harg10.read_unread xo9) _) ?_ y hy
  clear hy y
  intro y hy
  refine dws_step (loads HR (g := 3) (b := 0) (gg := 3) (co := 1536) (ro := 0) rfl rfl rfl inb_S8x128x128_S1x128x128_3_0_0 (by decide)
      (by decide) inb_S1x4096_S1x512_0_1536 inb_S128x8_S128x1_0_3 inb_S256x4096_S128x512_0_1536)
    (loads HR (g := 3) (b := 1) (gg := 3) (co := 1536) (ro := 128) rfl rfl rfl inb_S8x128x128_S1x128x128_3_0_0 (by decide)
      (by decide) inb_S1x4096_S1x512_0_1536 inb_S128x8_S128x1_0_3 inb_S256x4096_S128x512_128_1536)
    (gg := 3) rfl inb_S8x128x128_S1x128x128_3_0_0 arg10.view xo9 _ (fun x => congrFun (harg10.read_unread xo9) _) ?_ y hy
  clear hy y
  intro y hy
  refine dws_step (loads HR (g := 2) (b := 0) (gg := 2) (co := 1024) (ro := 0) rfl rfl rfl inb_S8x128x128_S1x128x128_2_0_0 (by decide)
      (by decide) inb_S1x4096_S1x512_0_1024 inb_S128x8_S128x1_0_2 inb_S256x4096_S128x512_0_1024)
    (loads HR (g := 2) (b := 1) (gg := 2) (co := 1024) (ro := 128) rfl rfl rfl inb_S8x128x128_S1x128x128_2_0_0 (by decide)
      (by decide) inb_S1x4096_S1x512_0_1024 inb_S128x8_S128x1_0_2 inb_S256x4096_S128x512_128_1024)
    (gg := 2) rfl inb_S8x128x128_S1x128x128_2_0_0 arg10.view xo9 _ (fun x => congrFun (harg10.read_unread xo9) _) ?_ y hy
  clear hy y
  intro y hy
  refine dws_step (loads HR (g := 1) (b := 0) (gg := 1) (co := 512) (ro := 0) rfl rfl rfl inb_S8x128x128_S1x128x128_1_0_0 (by decide)
      (by decide) inb_S1x4096_S1x512_0_512 inb_S128x8_S128x1_0_1 inb_S256x4096_S128x512_0_512)
    (loads HR (g := 1) (b := 1) (gg := 1) (co := 512) (ro := 128) rfl rfl rfl inb_S8x128x128_S1x128x128_1_0_0 (by decide)
      (by decide) inb_S1x4096_S1x512_0_512 inb_S128x8_S128x1_0_1 inb_S256x4096_S128x512_128_512)
    (gg := 1) rfl inb_S8x128x128_S1x128x128_1_0_0 arg10.view xo9 _ (fun x => congrFun (harg10.read_unread xo9) _) ?_ y hy
  clear hy y
  intro y hy
  refine dws_step (loads HR (g := 0) (b := 0) (gg := 0) (co := 0) (ro := 0) rfl rfl rfl inb_S8x128x128_S1x128x128_0_0_0 (by decide)
      (by decide) inb_S1x4096_S1x512_0_0 inb_S128x8_S128x1_0_0 inb_S256x4096_S128x512_0_0)
    (loads HR (g := 0) (b := 1) (gg := 0) (co := 0) (ro := 128) rfl rfl rfl inb_S8x128x128_S1x128x128_0_0_0 (by decide)
      (by decide) inb_S1x4096_S1x512_0_0 inb_S128x8_S128x1_0_0 inb_S256x4096_S128x512_128_0)
    (gg := 0) rfl inb_S8x128x128_S1x128x128_0_0_0 arg10.view xo9 _ (fun x => congrFun (harg10.read_unread xo9) _) ?_ y hy
  clear hy y
  intro y hy
  exact absurd hy (Nat.not_lt_zero _)

/-- The gradient of the bias. -/
theorem out_B_10 : out0_B_10 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo9 xo10 xo11 xo12 = Gb A t xo10 := by
  have HR := H.read harg1 harg2 harg3 harg4 harg5 harg6 harg7 harg8
  funext y
  unfold out0_B_10
  rw [View.read_writes_eq_canon _ _ _ (cover0_B_10 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo9 xo10 xo11 xo12)]
  have hy : (y 1).val < 7 + 1 := (y 1).isLt
  revert hy
  revert y
  intro y hy
  refine dbs_step (loads HR (g := 7) (b := 0) (gg := 7) (co := 3584) (ro := 0) rfl rfl rfl inb_S8x128x128_S1x128x128_7_0_0 (by decide)
      (by decide) inb_S1x4096_S1x512_0_3584 inb_S128x8_S128x1_0_7 inb_S256x4096_S128x512_0_3584)
    (loads HR (g := 7) (b := 1) (gg := 7) (co := 3584) (ro := 128) rfl rfl rfl inb_S8x128x128_S1x128x128_7_0_0 (by decide)
      (by decide) inb_S1x4096_S1x512_0_3584 inb_S128x8_S128x1_0_7 inb_S256x4096_S128x512_128_3584)
    (gg := 7) rfl inb_S128x8_S128x1_0_7 arg11.view xo10 _ (fun x => congrFun (harg11.read_unread xo10) _) ?_ y hy
  clear hy y
  intro y hy
  refine dbs_step (loads HR (g := 6) (b := 0) (gg := 6) (co := 3072) (ro := 0) rfl rfl rfl inb_S8x128x128_S1x128x128_6_0_0 (by decide)
      (by decide) inb_S1x4096_S1x512_0_3072 inb_S128x8_S128x1_0_6 inb_S256x4096_S128x512_0_3072)
    (loads HR (g := 6) (b := 1) (gg := 6) (co := 3072) (ro := 128) rfl rfl rfl inb_S8x128x128_S1x128x128_6_0_0 (by decide)
      (by decide) inb_S1x4096_S1x512_0_3072 inb_S128x8_S128x1_0_6 inb_S256x4096_S128x512_128_3072)
    (gg := 6) rfl inb_S128x8_S128x1_0_6 arg11.view xo10 _ (fun x => congrFun (harg11.read_unread xo10) _) ?_ y hy
  clear hy y
  intro y hy
  refine dbs_step (loads HR (g := 5) (b := 0) (gg := 5) (co := 2560) (ro := 0) rfl rfl rfl inb_S8x128x128_S1x128x128_5_0_0 (by decide)
      (by decide) inb_S1x4096_S1x512_0_2560 inb_S128x8_S128x1_0_5 inb_S256x4096_S128x512_0_2560)
    (loads HR (g := 5) (b := 1) (gg := 5) (co := 2560) (ro := 128) rfl rfl rfl inb_S8x128x128_S1x128x128_5_0_0 (by decide)
      (by decide) inb_S1x4096_S1x512_0_2560 inb_S128x8_S128x1_0_5 inb_S256x4096_S128x512_128_2560)
    (gg := 5) rfl inb_S128x8_S128x1_0_5 arg11.view xo10 _ (fun x => congrFun (harg11.read_unread xo10) _) ?_ y hy
  clear hy y
  intro y hy
  refine dbs_step (loads HR (g := 4) (b := 0) (gg := 4) (co := 2048) (ro := 0) rfl rfl rfl inb_S8x128x128_S1x128x128_4_0_0 (by decide)
      (by decide) inb_S1x4096_S1x512_0_2048 inb_S128x8_S128x1_0_4 inb_S256x4096_S128x512_0_2048)
    (loads HR (g := 4) (b := 1) (gg := 4) (co := 2048) (ro := 128) rfl rfl rfl inb_S8x128x128_S1x128x128_4_0_0 (by decide)
      (by decide) inb_S1x4096_S1x512_0_2048 inb_S128x8_S128x1_0_4 inb_S256x4096_S128x512_128_2048)
    (gg := 4) rfl inb_S128x8_S128x1_0_4 arg11.view xo10 _ (fun x => congrFun (harg11.read_unread xo10) _) ?_ y hy
  clear hy y
  intro y hy
  refine dbs_step (loads HR (g := 3) (b := 0) (gg := 3) (co := 1536) (ro := 0) rfl rfl rfl inb_S8x128x128_S1x128x128_3_0_0 (by decide)
      (by decide) inb_S1x4096_S1x512_0_1536 inb_S128x8_S128x1_0_3 inb_S256x4096_S128x512_0_1536)
    (loads HR (g := 3) (b := 1) (gg := 3) (co := 1536) (ro := 128) rfl rfl rfl inb_S8x128x128_S1x128x128_3_0_0 (by decide)
      (by decide) inb_S1x4096_S1x512_0_1536 inb_S128x8_S128x1_0_3 inb_S256x4096_S128x512_128_1536)
    (gg := 3) rfl inb_S128x8_S128x1_0_3 arg11.view xo10 _ (fun x => congrFun (harg11.read_unread xo10) _) ?_ y hy
  clear hy y
  intro y hy
  refine dbs_step (loads HR (g := 2) (b := 0) (gg := 2) (co := 1024) (ro := 0) rfl rfl rfl inb_S8x128x128_S1x128x128_2_0_0 (by decide)
      (by decide) inb_S1x4096_S1x512_0_1024 inb_S128x8_S128x1_0_2 inb_S256x4096_S128x512_0_1024)
    (loads HR (g := 2) (b := 1) (gg := 2) (co := 1024) (ro := 128) rfl rfl rfl inb_S8x128x128_S1x128x128_2_0_0 (by decide)
      (by decide) inb_S1x4096_S1x512_0_1024 inb_S128x8_S128x1_0_2 inb_S256x4096_S128x512_128_1024)
    (gg := 2) rfl inb_S128x8_S128x1_0_2 arg11.view xo10 _ (fun x => congrFun (harg11.read_unread xo10) _) ?_ y hy
  clear hy y
  intro y hy
  refine dbs_step (loads HR (g := 1) (b := 0) (gg := 1) (co := 512) (ro := 0) rfl rfl rfl inb_S8x128x128_S1x128x128_1_0_0 (by decide)
      (by decide) inb_S1x4096_S1x512_0_512 inb_S128x8_S128x1_0_1 inb_S256x4096_S128x512_0_512)
    (loads HR (g := 1) (b := 1) (gg := 1) (co := 512) (ro := 128) rfl rfl rfl inb_S8x128x128_S1x128x128_1_0_0 (by decide)
      (by decide) inb_S1x4096_S1x512_0_512 inb_S128x8_S128x1_0_1 inb_S256x4096_S128x512_128_512)
    (gg := 1) rfl inb_S128x8_S128x1_0_1 arg11.view xo10 _ (fun x => congrFun (harg11.read_unread xo10) _) ?_ y hy
  clear hy y
  intro y hy
  refine dbs_step (loads HR (g := 0) (b := 0) (gg := 0) (co := 0) (ro := 0) rfl rfl rfl inb_S8x128x128_S1x128x128_0_0_0 (by decide)
      (by decide) inb_S1x4096_S1x512_0_0 inb_S128x8_S128x1_0_0 inb_S256x4096_S128x512_0_0)
    (loads HR (g := 0) (b := 1) (gg := 0) (co := 0) (ro := 128) rfl rfl rfl inb_S8x128x128_S1x128x128_0_0_0 (by decide)
      (by decide) inb_S1x4096_S1x512_0_0 inb_S128x8_S128x1_0_0 inb_S256x4096_S128x512_128_0)
    (gg := 0) rfl inb_S128x8_S128x1_0_0 arg11.view xo10 _ (fun x => congrFun (harg11.read_unread xo10) _) ?_ y hy
  clear hy y
  intro y hy
  exact absurd hy (Nat.not_lt_zero _)

/-- The gradient of the norm's scale. -/
theorem out_B_11 : out0_B_11 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo9 xo10 xo11 xo12 = Gg A t xo11 := by
  have HR := H.read harg1 harg2 harg3 harg4 harg5 harg6 harg7 harg8
  have hD := scratch_B c arg1 harg1 arg2 harg2 arg3 harg3 arg4 harg4 arg5 harg5 arg6 harg6 arg7 harg7 arg8 harg8 arg14 x0 x1 x2 x3 x4 x5 x6 x7 H
  unfold out0_B_11
  rw [View.read_writes_eq_canon _ _ _ (cover0_B_11 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo9 xo10 xo11 xo12)]
  refine (View.canon_cons_unit_zero hz2 _ _ _).trans ((dlng_pay HR hD _).trans (congrArg (Gg A t) ?_))
  exact (View.ld_unit_zero hz2 _ _).trans (harg12.read_unread xo11)

/-- The gradient of the norm's shift. -/
theorem out_B_12 : out0_B_12 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo9 xo10 xo11 xo12 = Gh A t xo12 := by
  have HR := H.read harg1 harg2 harg3 harg4 harg5 harg6 harg7 harg8
  have hD := scratch_B c arg1 harg1 arg2 harg2 arg3 harg3 arg4 harg4 arg5 harg5 arg6 harg6 arg7 harg7 arg8 harg8 arg14 x0 x1 x2 x3 x4 x5 x6 x7 H
  unfold out0_B_12
  rw [View.read_writes_eq_canon _ _ _ (cover0_B_12 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo9 xo10 xo11 xo12)]
  refine (View.canon_cons_unit_zero hz2 _ _ _).trans ((dlnb_pay hD _).trans (congrArg (Gh A t) ?_))
  exact (View.ld_unit_zero hz2 _ _).trans (harg13.read_unread xo12)

end

end Cert.Sgu

end
-- ==== Proof.Arrays.lean ====
/- What the launch's arrays hold: the step's arrays read off the memory, and each grid point's blocks of them. -/
module

public import proofs.«01_k».proof.Proof.Gen.KernelIdeal.Value
public import proofs.«01_k».proof.Proof.PiecesA
public import proofs.«01_k».proof.Proof.PiecesB
public import Idealize.ShloMosaic.Lib.Claim

@[expose] public section

set_option maxRecDepth 16384

noncomputable section

namespace Cert.Sgu

open Idealize.ShloMosaic Idealize.ShloMosaic.TcCoe Idealize.SL.Sem Cert.KernelIdeal Cert.KernelIdeal.Gen
open Idealize.ShloMosaic.Pipeline (Dat)

/-- The array's row at position `i` of block `n`. -/
def arow (n : Fin 64) (i : Fin 128) : Fin 8192 := ⟨128 * n.val + i.val, by have := n.isLt; have := i.isLt; omega⟩

/-- A column of the second and of the third part of the projection. -/
def c2 (k : Fin 4096) : Fin 12288 := ⟨4096 + k.val, by have := k.isLt; omega⟩
def c3 (k : Fin 4096) : Fin 12288 := ⟨8192 + k.val, by have := k.isLt; omega⟩
def c1 (k : Fin 4096) : Fin 12288 := ⟨k.val, by have := k.isLt; omega⟩

/-- The step's arrays from the six arguments. -/
def inputs (a0 : Vec Ideal S8192x4096 .bf16) (a1 : Vec Ideal S8192x12288 .bf16) (a2 a3 : Vec Ideal S4096 .f32)
    (a4 : Vec Ideal S8x128x128 .f32) (a5 : Vec Ideal S8x128 .f32) : Inputs where
  dy n i k := a0 (ix2 (arow n i) k)
  u n i k := a1 (ix2 (arow n i) (c1 k))
  v n i k := a1 (ix2 (arow n i) (c2 k))
  gate n i k := a1 (ix2 (arow n i) (c3 k))
  lng k := a2 (ix1 k)
  lnb k := a3 (ix1 k)
  ws g i j := a4 (ix3 g i j)
  bs g i := a5 (ix2 g i)

theorem vec_apply (x : Vec Ideal S4096 .f32) (k : Fin 4096) :
    shapeCast S1x4096 x shapeCasts_S4096_S1x4096 (ix2 (0 : Fin 1) k) = x (ix1 k) := by pointwise

theorem turn_apply (x : Vec Ideal S8x128 .f32) (g : Fin 8) (i : Fin 128) :
    transpose S128x8 [1, 0] x transposes_S8x128_S128x8_1_0 (ix2 i g) = x (ix2 g i) := by pointwise

section Blocks
variable (m : (ℓ : Loc nD τ sig) → Buf (Elt Ideal) ℓ)

/-- The step's arrays on device `c`. -/
def inp (c : Dev nD) : Inputs :=
  inputs (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

theorem N_eq : cfg0.N = 32 := rfl

/-- A grid point's number. -/
def pt (t : Fin cfg0.N) : Fin 32 := ⟨t.val, t.isLt⟩

theorem idx0 : ∀ t : Fin cfg0.N, win0_0.index t 0 = t.val ∧ win0_0.index t 1 = 0 := by decide +kernel
theorem idx1 : ∀ t : Fin cfg0.N, win0_1.index t 0 = t.val ∧ win0_1.index t 1 = 0 := by decide +kernel
theorem idx2 : ∀ t : Fin cfg0.N, win0_2.index t 0 = t.val ∧ win0_2.index t 1 = 1 := by decide +kernel
theorem idx3 : ∀ t : Fin cfg0.N, win0_3.index t 0 = t.val ∧ win0_3.index t 1 = 2 := by decide +kernel
theorem idx8 : ∀ t : Fin cfg0.N, win0_8.index t 0 = t.val ∧ win0_8.index t 1 = 0 := by decide +kernel

variable (c : Dev nD) (t : Fin cfg0.N)

theorem blk0 (b : Fin 2) (i : Fin 128) (k : Fin 4096) :
    (iblk m c 0 t : Vec Ideal S256x4096 .bf16) (ix2 (row b i) k) = (inp m c).dy (nb (pt t) b) i k := by
  unfold iblk
  rw [View.read_apply]
  show V m c main_arg0 _ = m (c.tc.loc main_arg0) _
  rw [V_main_arg0]
  congr 1
  funext a
  apply Fin.ext
  match a with
  | ⟨0, _⟩ => show win0_0.index t 0 * 256 + 1 * (128 * b.val + i.val) = 128 * (2 * t.val + b.val) + i.val; rw [(idx0 t).1]; omega
  | ⟨1, _⟩ => show win0_0.index t 1 * 4096 + 1 * k.val = k.val; rw [(idx0 t).2]; omega

theorem blk1 (b : Fin 2) (i : Fin 128) (k : Fin 4096) :
    (iblk m c 1 t : Vec Ideal S256x4096 .bf16) (ix2 (row b i) k) = (inp m c).u (nb (pt t) b) i k := by
  unfold iblk
  rw [View.read_apply]
  show V m c main_arg1 _ = m (c.tc.loc main_arg1) _
  rw [V_main_arg1]
  congr 1
  funext a
  apply Fin.ext
  match a with
  | ⟨0, _⟩ => show win0_1.index t 0 * 256 + 1 * (128 * b.val + i.val) = 128 * (2 * t.val + b.val) + i.val; rw [(idx1 t).1]; omega
  | ⟨1, _⟩ => show win0_1.index t 1 * 4096 + 1 * k.val = k.val; rw [(idx1 t).2]; omega

theorem blk2 (b : Fin 2) (i : Fin 128) (k : Fin 4096) :
    (iblk m c 2 t : Vec Ideal S256x4096 .bf16) (ix2 (row b i) k) = (inp m c).v (nb (pt t) b) i k := by
  unfold iblk
  rw [View.read_apply]
  show V m c main_arg1 _ = m (c.tc.loc main_arg1) _
  rw [V_main_arg1]
  congr 1
  funext a
  apply Fin.ext
  match a with
  | ⟨0, _⟩ => show win0_2.index t 0 * 256 + 1 * (128 * b.val + i.val) = 128 * (2 * t.val + b.val) + i.val; rw [(idx2 t).1]; omega
  | ⟨1, _⟩ => show win0_2.index t 1 * 4096 + 1 * k.val = 4096 + k.val; rw [(idx2 t).2]; omega

theorem blk3 (b : Fin 2) (i : Fin 128) (k : Fin 4096) :
    (iblk m c 3 t : Vec Ideal S256x4096 .bf16) (ix2 (row b i) k) = (inp m c).gate (nb (pt t) b) i k := by
  unfold iblk
  rw [View.read_apply]
  show V m c main_arg1 _ = m (c.tc.loc main_arg1) _
  rw [V_main_arg1]
  congr 1
  funext a
  apply Fin.ext
  match a with
  | ⟨0, _⟩ => show win0_3.index t 0 * 256 + 1 * (128 * b.val + i.val) = 128 * (2 * t.val + b.val) + i.val; rw [(idx3 t).1]; omega
  | ⟨1, _⟩ => show win0_3.index t 1 * 4096 + 1 * k.val = 8192 + k.val; rw [(idx3 t).2]; omega

theorem idx4 : ∀ t : Fin cfg0.N, win0_4.index t 0 = 0 ∧ win0_4.index t 1 = 0 := by decide +kernel
theorem idx5 : ∀ t : Fin cfg0.N, win0_5.index t 0 = 0 ∧ win0_5.index t 1 = 0 := by decide +kernel
theorem idx6 : ∀ t : Fin cfg0.N, win0_6.index t 0 = 0 ∧ win0_6.index t 1 = 0 ∧ win0_6.index t 2 = 0 := by decide +kernel
theorem idx7 : ∀ t : Fin cfg0.N, win0_7.index t 0 = 0 ∧ win0_7.index t 1 = 0 := by decide +kernel

theorem blk4 (k : Fin 4096) : (iblk m c 4 t : Vec Ideal S1x4096 .f32) (ix2 0 k) = (inp m c).lng k := by
  have e : V m c main_v0 = shapeCast S1x4096 (m (c.tc.loc main_arg2)) shapeCasts_S4096_S1x4096 := by
    entry_read
    rfl
  unfold iblk
  rw [View.read_apply]
  show V m c main_v0 _ = m (c.tc.loc main_arg2) _
  rw [e]
  refine (congrArg _ (show _ = ix2 (0 : Fin 1) k from funext fun a => Fin.ext ?_)).trans ?_
  · match a with
    | ⟨0, _⟩ => show win0_4.index t 0 * 1 + 1 * 0 = 0; rw [(idx4 t).1]
    | ⟨1, _⟩ => show win0_4.index t 1 * 4096 + 1 * k.val = k.val; rw [(idx4 t).2]; omega
  · exact vec_apply _ k

theorem blk5 (k : Fin 4096) : (iblk m c 5 t : Vec Ideal S1x4096 .f32) (ix2 0 k) = (inp m c).lnb k := by
  have e : V m c main_v1 = shapeCast S1x4096 (m (c.tc.loc main_arg3)) shapeCasts_S4096_S1x4096 := by
    entry_read
    rfl
  unfold iblk
  rw [View.read_apply]
  show V m c main_v1 _ = m (c.tc.loc main_arg3) _
  rw [e]
  refine (congrArg _ (show _ = ix2 (0 : Fin 1) k from funext fun a => Fin.ext ?_)).trans ?_
  · match a with
    | ⟨0, _⟩ => show win0_5.index t 0 * 1 + 1 * 0 = 0; rw [(idx5 t).1]
    | ⟨1, _⟩ => show win0_5.index t 1 * 4096 + 1 * k.val = k.val; rw [(idx5 t).2]; omega
  · exact vec_apply _ k

theorem blk6 (g : Fin 8) (i j : Fin 128) :
    (iblk m c 6 t : Vec Ideal S8x128x128 .f32) (ix3 g i j) = (inp m c).ws g i j := by
  unfold iblk
  rw [View.read_apply]
  show V m c main_arg4 _ = m (c.tc.loc main_arg4) _
  rw [V_main_arg4]
  congr 1
  funext a
  apply Fin.ext
  match a with
  | ⟨0, _⟩ => show win0_6.index t 0 * 8 + 1 * g.val = g.val; rw [(idx6 t).1]; omega
  | ⟨1, _⟩ => show win0_6.index t 1 * 128 + 1 * i.val = i.val; rw [(idx6 t).2.1]; omega
  | ⟨2, _⟩ => show win0_6.index t 2 * 128 + 1 * j.val = j.val; rw [(idx6 t).2.2]; omega

theorem blk7 (g : Fin 8) (i : Fin 128) :
    (iblk m c 7 t : Vec Ideal S128x8 .f32) (ix2 i g) = (inp m c).bs g i := by
  have e : V m c main_v2 = transpose S128x8 [1, 0] (m (c.tc.loc main_arg5)) transposes_S8x128_S128x8_1_0 := by
    entry_read
    rfl
  unfold iblk
  rw [View.read_apply]
  show V m c main_v2 _ = m (c.tc.loc main_arg5) _
  rw [e]
  refine (congrArg _ (show _ = ix2 i g from funext fun a => Fin.ext ?_)).trans ?_
  · match a with
    | ⟨0, _⟩ => show win0_7.index t 0 * 128 + 1 * i.val = i.val; rw [(idx7 t).1]; omega
    | ⟨1, _⟩ => show win0_7.index t 1 * 8 + 1 * g.val = g.val; rw [(idx7 t).2]; omega
  · exact turn_apply _ g i

/-- Each grid point's blocks are the parts of the step's arrays that it takes. -/
theorem holds : Holds (inp m c) (pt t) (iblk m c 0 t) (iblk m c 1 t) (iblk m c 2 t) (iblk m c 3 t) (iblk m c 4 t)
    (iblk m c 5 t) (iblk m c 6 t) (iblk m c 7 t) where
  h0 := blk0 m c t
  h1 := blk1 m c t
  h2 := blk2 m c t
  h3 := blk3 m c t
  h4 := blk4 m c t
  h5 := blk5 m c t
  h6 := blk6 m c t
  h7 := blk7 m c t

end Blocks

end Cert.Sgu

end
-- ==== Proof.Ref.lean ====
module

public import proofs.«01_k».proof.Proof.Arrays
public import proofs.«01_k».proof.Proof.Gen.ReferenceIdeal.Read

@[expose] public section

set_option maxRecDepth 16384

noncomputable section

namespace Cert.Sgu.Ref

open Idealize.ShloMosaic Idealize.ShloMosaic.TcCoe Idealize.SL.Sem Cert.ReferenceIdeal Cert.ReferenceIdeal.Gen Cert.ReferenceIdeal.Read

/-- The host's sum over a block of four axes along the first and the last. -/
theorem sum_outer {n0 n1 n2 n3 : Nat} (h : (⟨4, ![n0, n1, n2, n3]⟩ : Shape).ReducesTo [0, 3] ⟨2, ![n1, n2]⟩)
    (x : (⟨4, ![n0, n1, n2, n3]⟩ : Shape).Idx → EReal) (init : EReal) (a : Fin n1) (b : Fin n2) :
    Ideal.hostReduceAdd h x init (ix2 a b) = init + ∑ p : Fin n0, ∑ q : Fin n3, x (ix4 p a b q) := by
  unfold Ideal.hostReduceAdd
  refine congrArg (init + ·) ?_
  rw [← Fintype.sum_prod_type' fun p q => x (ix4 p a b q)]
  refine Finset.sum_nbij' (fun i => (i 0, i 3)) (fun p => ix4 p.1 a b p.2) (fun _ _ => Finset.mem_univ _) ?_ ?_ ?_ ?_
  · intro p _
    refine Finset.mem_filter.mpr ⟨Finset.mem_univ _, funext fun k => Fin.ext ?_⟩
    match k with
    | ⟨0, _⟩ => rfl
    | ⟨1, _⟩ => rfl
  · intro i hi
    have e := (Finset.mem_filter.mp hi).2
    have e0 : (i 1).val = a.val := congrArg Fin.val (congrFun e 0)
    have e1 : (i 2).val = b.val := congrArg Fin.val (congrFun e 1)
    funext k
    apply Fin.ext
    match k with
    | ⟨0, _⟩ => rfl
    | ⟨1, _⟩ => exact e0.symm
    | ⟨2, _⟩ => exact e1.symm
    | ⟨3, _⟩ => rfl
  · intro p _; rfl
  · intro i hi
    have e := (Finset.mem_filter.mp hi).2
    have e0 : (i 1).val = a.val := congrArg Fin.val (congrFun e 0)
    have e1 : (i 2).val = b.val := congrArg Fin.val (congrFun e 1)
    refine congrArg x (funext fun k => Fin.ext ?_)
    match k with
    | ⟨0, _⟩ => rfl
    | ⟨1, _⟩ => exact e0
    | ⟨2, _⟩ => exact e1
    | ⟨3, _⟩ => rfl

/-- A position's chunk, as the program computes it. -/
theorem chunk : ∀ i : Fin 128, val_main_v36 (F := Ideal) (ix1 i) = BitVec.ofNat 32 (i.val / 64) := by decide +kernel

theorem keep_bit : ∀ i j : Fin 128, IntOp.cmpi CmpIPredicate.sge (BitVec.ofNat 32 (i.val / 64)) (BitVec.ofNat 32 (j.val / 64)) = if Keeps i j then 1#1 else 0#1 := by decide +kernel

theorem row_blk (r : Fin 8192) (n : Fin 64) (i : Fin 128) (h : r.val = n.val * 128 + i.val) : r = arow n i := Fin.ext (by
  show r.val = 128 * n.val + i.val
  omega)

/-- A sum over all rows is the sum over the blocks of the sums over their positions. -/
theorem sum_rows (f : Fin 8192 → EReal) : ∑ r, f r = ∑ n, ∑ i, f (arow n i) := by
  rw [← Fintype.sum_prod_type' fun n i => f (arow n i)]
  exact (Fintype.sum_equiv (finProdFinEquiv (m := 64) (n := 128)) _ _ fun p => congrArg f (Fin.ext (by
    show 128 * p.1.val + p.2.val = p.2.val + 128 * p.1.val
    omega))).symm

/-- The reference's literals minus one half and two. -/
def cM : EReal := Ideal.ofBits .f32 0xBF000000#32
def cTwo : EReal := Ideal.ofBits .f32 0x40000000#32

theorem ix4_congr {n0 n1 n2 n3 : Nat} {a a' : Fin n0} {b b' : Fin n1} {c c' : Fin n2} {d d' : Fin n3} (ha : a = a') (hb : b = b')
    (hc : c = c') (hd : d = d') : ix4 a b c d = ix4 a' b' c' d' := by rw [ha, hb, hc, hd]

section
variable (x0 : Vec Ideal S8192x4096 .bf16) (x1 : Vec Ideal S8192x12288 .bf16) (x2 x3 : Vec Ideal S4096 .f32)
    (x4 : Vec Ideal S8x128x128 .f32) (x5 : Vec Ideal S8x128 .f32)

/-- The reference's value 0, read at an entry. -/
theorem r0 (n : Fin 64) (i : Fin 128) (k : Fin 4096) : val_main_v0 (F := Ideal) x0 (ix2 (arow n i) k) = (inputs x0 x1 x2 x3 x4 x5).dy n i k := by
  pointwise [val_main_v0, inputs]
/-- The reference's value 2, read at an entry. -/
theorem r2 (n : Fin 64) (i : Fin 128) (k : Fin 4096) : val_main_v2 (F := Ideal) x1 (ix2 (arow n i) k) = (inputs x0 x1 x2 x3 x4 x5).u n i k := by
  pointwise [val_main_v2, val_main_v1, inputs, c1]
/-- The reference's value 3, read at an entry. -/
theorem r3 (n : Fin 64) (i : Fin 128) (k : Fin 4096) : val_main_v3 (F := Ideal) x1 (ix2 (arow n i) k) = (inputs x0 x1 x2 x3 x4 x5).v n i k := by
  pointwise [val_main_v3, val_main_v1, inputs, c2]
/-- The reference's value 4, read at an entry. -/
theorem r4 (n : Fin 64) (i : Fin 128) (k : Fin 4096) : val_main_v4 (F := Ideal) x1 (ix2 (arow n i) k) = (inputs x0 x1 x2 x3 x4 x5).gate n i k := by
  pointwise [val_main_v4, val_main_v1, inputs, c3]
/-- The reference's value 10, read at an entry. -/
theorem r10 (n : Fin 64) (i : Fin 128) (k : Fin 4096) : val_main_v10 (F := Ideal) x1 (ix2 (arow n i) k) = (inputs x0 x1 x2 x3 x4 x5).xc n i k := by
  pointwise [val_main_v10, val_main_v9, val_main_v8, val_main_v7, val_main_cst_0, val_main_v6, val_main_v5, val_main_v3, val_main_v1, val_main_cst, Inputs.xc, inputs, cN, c2]
/-- The reference's value 19, read at an entry. -/
theorem r19 (n : Fin 64) (i : Fin 128) (k : Fin 4096) : val_main_v19 (F := Ideal) x1 (ix2 (arow n i) k) = (inputs x0 x1 x2 x3 x4 x5).xc n i k := by
  pointwise [val_main_v19, val_main_v18, val_main_v8, val_main_v7, val_main_cst_0, val_main_v6, val_main_v5, val_main_v3, val_main_v1, val_main_cst, Inputs.xc, inputs, cN, c2]
/-- The reference's value 21, read at an entry. -/
theorem r21 (n : Fin 64) (i : Fin 128) : val_main_v21 (F := Ideal) x1 (ix2 (arow n i) 0) = Ideal.div (∑ k, (inputs x0 x1 x2 x3 x4 x5).xc n i k * (inputs x0 x1 x2 x3 x4 x5).xc n i k) cN + cEps := by
  simp only [← r10 x0 x1 x2 x3 x4 x5]
  pointwise [val_main_v21, val_main_v20, val_main_v17, val_main_v16, val_main_v15, val_main_v14, val_main_v11, val_main_cst_2, val_main_cst_3, val_main_cst_4, cN, cEps]
/-- The reference's value 22, read at an entry. -/
theorem r22 (n : Fin 64) (i : Fin 128) : val_main_v22 (F := Ideal) x1 (ix2 (arow n i) 0) = (inputs x0 x1 x2 x3 x4 x5).rstd n i := by
  unfold Inputs.rstd
  rw [← r21]
  pointwise [val_main_v22]
/-- The reference's value 27, read at an entry. -/
theorem r27 (n : Fin 64) (i : Fin 128) (k : Fin 4096) : val_main_v27 (F := Ideal) x1 (ix2 (arow n i) k) = (inputs x0 x1 x2 x3 x4 x5).xh n i k := by
  unfold Inputs.xh
  rw [← r22, ← r19]
  pointwise [val_main_v27, val_main_v26]
/-- The reference's value 33, read at an entry. -/
theorem r33 (n : Fin 64) (i : Fin 128) (k : Fin 4096) : val_main_v33 (F := Ideal) x1 x2 x3 (ix2 (arow n i) k) = (inputs x0 x1 x2 x3 x4 x5).vn n i k := by
  have e := r27 x0 x1 x2 x3 x4 x5 n i k
  unfold Inputs.vn
  rw [show (inputs x0 x1 x2 x3 x4 x5).xc n i k * (inputs x0 x1 x2 x3 x4 x5).rstd n i = (inputs x0 x1 x2 x3 x4 x5).xh n i k from rfl, ← e]
  pointwise [val_main_v33, val_main_v32, val_main_v31, val_main_v30, val_main_v29, val_main_v28, inputs]
/-- The reference's value 34, read at an entry. -/
theorem r34 (n : Fin 64) (i : Fin 128) (g : Fin 8) (e : Fin 512) : val_main_v34 (F := Ideal) x1 x2 x3 (ix4 n i g e) = (inputs x0 x1 x2 x3 x4 x5).vn n i (col g e) := by
  rw [← r33]
  unfold val_main_v34
  generalize val_main_v33 (F := Ideal) x1 x2 x3 = y
  pointwise
  exact congrArg y (congrArg₂ ix2 (row_blk _ n i rfl) (Fin.ext (by show g.val * 512 + e.val = 512 * g.val + e.val; omega)))
/-- The reference's value 42, read at an entry. -/
theorem r42 (i j : Fin 128) : val_main_v42 (F := Ideal) (ix2 i j) = if Keeps i j then 1 else 0 := by
  pointwise [val_main_v42, val_main_v41,val_main_v40,val_main_v39,val_main_v38,val_main_v37]
  rw [chunk, chunk, keep_bit]
  split_ifs
  · exact (show ((1#1 : BitVec 1).toNat : EReal) = 1 by simp)
  · exact (show ((0#1 : BitVec 1).toNat : EReal) = 0 by simp)
/-- The reference's value 44, read at an entry. -/
theorem r44 (g : Fin 8) (i j : Fin 128) : val_main_v44 (F := Ideal) (ix3 g i j) = if Keeps i j then 1 else 0 := by
  rw [← r42]
  pointwise [val_main_v44, val_main_v43]
/-- The reference's value 70, read at an entry. -/
theorem r70 (g : Fin 8) (i j : Fin 128) : val_main_v70 (F := Ideal) (ix3 g i j) = if Keeps i j then 1 else 0 := by
  rw [← r42]
  pointwise [val_main_v70, val_main_v43]
/-- The reference's value 45, read at an entry. -/
theorem r45 (g : Fin 8) (i j : Fin 128) : val_main_v45 (F := Ideal) x4 (ix3 g i j) = (inputs x0 x1 x2 x3 x4 x5).wm g i j := by
  pointwise [val_main_v45]
  rw [r44]
  unfold Inputs.wm
  split_ifs
  · exact mul_one _
  · exact mul_zero _
/-- The reference's value 46, read at an entry. -/
theorem r46 (n : Fin 64) (g : Fin 8) (e : Fin 512) (i : Fin 128) : val_main_v46 (F := Ideal) x1 x2 x3 x4 (ix4 g n e i) = ∑ j, (inputs x0 x1 x2 x3 x4 x5).wm g i j * (inputs x0 x1 x2 x3 x4 x5).vn n j (col g e) := by
  simp only [← r34, ← r45 x0 x1 x2 x3 x4 x5]
  unfold val_main_v46
  generalize val_main_v45 (F := Ideal) x4 = y
  generalize val_main_v34 (F := Ideal) x1 x2 x3 = z
  pointwise
  exact Finset.sum_congr rfl fun _ _ => mul_comm _ _
/-- The reference's value 51, read at an entry. -/
theorem r51 (n : Fin 64) (i : Fin 128) (g : Fin 8) (e : Fin 512) : val_main_v51 (F := Ideal) x1 x2 x3 x4 x5 (ix4 n i g e) = (inputs x0 x1 x2 x3 x4 x5).sg n i g e := by
  unfold Inputs.sg
  rw [← r46]
  pointwise [val_main_v51, val_main_v50, val_main_v49, val_main_v48, val_main_v47, inputs]
/-- The reference's value 52, read at an entry. -/
theorem r52 (n : Fin 64) (i : Fin 128) (g : Fin 8) (e : Fin 512) : val_main_v52 (F := Ideal) x1 x2 x3 x4 x5 (ix2 (arow n i) (col g e)) = (inputs x0 x1 x2 x3 x4 x5).sg n i g e := by
  rw [← r51]
  unfold val_main_v52
  generalize val_main_v51 (F := Ideal) x1 x2 x3 x4 x5 = y
  pointwise
  refine congrArg y (ix4_congr (Fin.ext ?_) (Fin.ext ?_) (Fin.ext ?_) (Fin.ext ?_))
  · show (128 * n.val + i.val) / 128 = n.val; have := i.isLt; omega
  · show (128 * n.val + i.val) % 128 = i.val; have := i.isLt; omega
  · show (512 * g.val + e.val) / 512 = g.val; have := e.isLt; omega
  · show (512 * g.val + e.val) % 512 = e.val; have := e.isLt; omega

/-- What the reference's logistic function gives at the third part. -/
def rsig (A : Inputs) (n : Fin 64) (i : Fin 128) (k : Fin 4096) : EReal := Ideal.div 1 (1 + Ideal.exp (-A.gate n i k))

/-- The logistic function's values in the reference, read at an entry. -/
theorem s2 (n : Fin 64) (i : Fin 128) (k : Fin 4096) : val_main_v54_2 (F := Ideal) x1 (ix2 (arow n i) k) = rsig (inputs x0 x1 x2 x3 x4 x5) n i k := by
  unfold rsig
  rw [← r4]
  pointwise [val_main_v54_2, val_main_call1_v0, val_main_call1_v1, val_main_call1_v2, val_main_call1_v3, val_main_call1_v4, val_main_call1_cst, val_main_call1_cst_0]
/-- The logistic function's values in the reference, read at an entry. -/
theorem s1 (n : Fin 64) (i : Fin 128) (k : Fin 4096) : val_main_v54_1 (F := Ideal) x1 (ix2 (arow n i) k) = rsig (inputs x0 x1 x2 x3 x4 x5) n i k * (1 - rsig (inputs x0 x1 x2 x3 x4 x5) n i k) := by
  rw [← s2]
  pointwise [val_main_v54_1, val_main_call1_v6, val_main_call1_v7, val_main_call1_cst_1]
/-- The logistic function's values in the reference, read at an entry. -/
theorem s0 (n : Fin 64) (i : Fin 128) (k : Fin 4096) : val_main_v54_0 (F := Ideal) x1 (ix2 (arow n i) k) = (inputs x0 x1 x2 x3 x4 x5).gate n i k * rsig (inputs x0 x1 x2 x3 x4 x5) n i k := by
  rw [← s2, ← r4]
  pointwise [val_main_v54_0]
/-- The reference's value 56, read at an entry. -/
theorem r56 (n : Fin 64) (i : Fin 128) (g : Fin 8) (e : Fin 512) : val_main_v56 (F := Ideal) x0 x1 x2 x3 x4 x5 (ix2 (arow n i) (col g e)) = ((inputs x0 x1 x2 x3 x4 x5).u n i (col g e) * (inputs x0 x1 x2 x3 x4 x5).sg n i g e) * (inputs x0 x1 x2 x3 x4 x5).dy n i (col g e) := by
  rw [← r52, ← r2, ← r0]
  pointwise [val_main_v56, val_main_v53]
/-- The reference's value 58, read at an entry. -/
theorem r58 (n : Fin 64) (i : Fin 128) (g : Fin 8) (e : Fin 512) : val_main_v58 (F := Ideal) x0 x1 x2 x3 x4 x5 (ix2 (arow n i) (col g e)) =
    ((inputs x0 x1 x2 x3 x4 x5).u n i (col g e) * (inputs x0 x1 x2 x3 x4 x5).sg n i g e) * (inputs x0 x1 x2 x3 x4 x5).dy n i (col g e) * rsig (inputs x0 x1 x2 x3 x4 x5) n i (col g e)
      + ((inputs x0 x1 x2 x3 x4 x5).gate n i (col g e) * (((inputs x0 x1 x2 x3 x4 x5).u n i (col g e) * (inputs x0 x1 x2 x3 x4 x5).sg n i g e) * (inputs x0 x1 x2 x3 x4 x5).dy n i (col g e))) * (rsig (inputs x0 x1 x2 x3 x4 x5) n i (col g e) * (1 - rsig (inputs x0 x1 x2 x3 x4 x5) n i (col g e))) := by
  rw [← r56, ← s1, ← s2, ← r4]
  pointwise [val_main_v58, val_main_call2_v0, val_main_call2_v1, val_main_call2_v2]

variable (hs : ∀ n i k, rsig (inputs x0 x1 x2 x3 x4 x5) n i k = (inputs x0 x1 x2 x3 x4 x5).sig n i k)
include hs
/-- The reference's value 57, read at an entry. -/
theorem r57 (n : Fin 64) (i : Fin 128) (k : Fin 4096) : val_main_v57 (F := Ideal) x0 x1 (ix2 (arow n i) k) = (inputs x0 x1 x2 x3 x4 x5).dy n i k * (inputs x0 x1 x2 x3 x4 x5).sil n i k := by
  unfold Inputs.sil
  rw [← hs, ← s0, ← r0]
  pointwise [val_main_v57]
/-- The reference's value 59, read at an entry. -/
theorem r59 (n : Fin 64) (i : Fin 128) (k : Fin 4096) : val_main_v59 (F := Ideal) x0 x1 (ix2 (arow n i) k) = (inputs x0 x1 x2 x3 x4 x5).dsg n i k := by
  have e : val_main_v59 (F := Ideal) x0 x1 (ix2 (arow n i) k) = val_main_v2 (F := Ideal) x1 (ix2 (arow n i) k) * val_main_v57 (F := Ideal) x0 x1 (ix2 (arow n i) k) := by
    pointwise [val_main_v59]
  rw [e, r2 x0 x1 x2 x3 x4 x5, r57 x0 x1 x2 x3 x4 x5 hs]
  unfold Inputs.dsg
  rw [← mul_assoc, mul_comm ((inputs x0 x1 x2 x3 x4 x5).u n i k)]
/-- The reference's value 60, read at an entry. -/
theorem r60 (n : Fin 64) (i : Fin 128) (g : Fin 8) (e : Fin 512) : val_main_v60 (F := Ideal) x0 x1 x2 x3 x4 x5 (ix2 (arow n i) (col g e)) = (inputs x0 x1 x2 x3 x4 x5).du n i g e := by
  unfold Inputs.du
  rw [mul_right_comm, ← r57 x0 x1 x2 x3 x4 x5 hs, ← r52]
  pointwise [val_main_v60]
/-- The reference's value 61, read at an entry. -/
theorem r61 (n : Fin 64) (i : Fin 128) (g : Fin 8) (e : Fin 512) : val_main_v61 (F := Ideal) x0 x1 (ix4 n i g e) = (inputs x0 x1 x2 x3 x4 x5).dsg n i (col g e) := by
  rw [← r59 x0 x1 x2 x3 x4 x5 hs]
  unfold val_main_v61
  generalize val_main_v59 (F := Ideal) x0 x1 = y
  pointwise
  exact congrArg y (congrArg₂ ix2 (row_blk _ n i rfl) (Fin.ext (by show g.val * 512 + e.val = 512 * g.val + e.val; omega)))
/-- The reference's value 62, read at an entry. -/
theorem r62 (i : Fin 128) (g : Fin 8) : val_main_v62 (F := Ideal) x0 x1 (ix2 i g) = ∑ n, (inputs x0 x1 x2 x3 x4 x5).dbs n g i := by
  unfold Inputs.dbs
  simp only [← r61 x0 x1 x2 x3 x4 x5 hs]
  unfold val_main_v62
  generalize val_main_v61 (F := Ideal) x0 x1 = y
  have e : val_main_cst_6 (F := Ideal) (Shape.Idx.first h_S_) = 0 := by pointwise [val_main_cst_6]
  pointwise
  rw [e, sum_outer, zero_add]
/-- The reference's value 64, read at an entry. -/
theorem r64 (i : Fin 128) (g : Fin 8) : val_main_v64 (F := Ideal) x0 x1 (ix2 i g) = ∑ n, (inputs x0 x1 x2 x3 x4 x5).dbs n g i := by
  rw [← r62 x0 x1 x2 x3 x4 x5 hs]
  unfold val_main_v64
  have e : val_main_cst_7 (F := Ideal) (Shape.Idx.first h_S_) = 0 := by pointwise [val_main_cst_7]
  have e' : val_main_v63 (F := Ideal) x0 x1 (ix4 0 i g 0) = val_main_v62 (F := Ideal) x0 x1 (ix2 i g) := by
    pointwise [val_main_v63]
  rw [← e']
  generalize val_main_v63 (F := Ideal) x0 x1 = y
  pointwise
  rw [e, sum_outer, zero_add]
  simp
/-- The reference's value 108, read at an entry. -/
theorem r108 (i : Fin 128) (g : Fin 8) : val_main_v108 (F := Ideal) x0 x1 (ix2 i g) = ∑ n, (inputs x0 x1 x2 x3 x4 x5).dbs n g i := by
  rw [← r64 x0 x1 x2 x3 x4 x5 hs]
  pointwise [val_main_v108, val_main_v65]
/-- The reference's value 67, read at an entry. -/
theorem r67 (g : Fin 8) (i j : Fin 128) : val_main_v67 (F := Ideal) x0 x1 x2 x3 (ix3 g i j) = ∑ n, ∑ e, (inputs x0 x1 x2 x3 x4 x5).dsg n i (col g e) * (inputs x0 x1 x2 x3 x4 x5).vn n j (col g e) := by
  simp only [← r61 x0 x1 x2 x3 x4 x5 hs, ← r34]
  unfold val_main_v67 val_main_v66
  generalize val_main_v61 (F := Ideal) x0 x1 = y
  generalize val_main_v34 (F := Ideal) x1 x2 x3 = z
  pointwise
/-- The reference's value 71, read at an entry. -/
theorem r71 (g : Fin 8) (i j : Fin 128) : val_main_v71 (F := Ideal) x0 x1 x2 x3 (ix3 g i j) = ∑ n, (inputs x0 x1 x2 x3 x4 x5).dws n g i j := by
  have e : val_main_v71 (F := Ideal) x0 x1 x2 x3 (ix3 g i j) = val_main_v67 (F := Ideal) x0 x1 x2 x3 (ix3 g i j) * val_main_v70 (F := Ideal) (ix3 g i j) := by
    pointwise [val_main_v71]
  rw [e, r70, r67 x0 x1 x2 x3 x4 x5 hs]
  unfold Inputs.dws
  split_ifs
  · exact mul_one _
  · rw [mul_zero, Finset.sum_const_zero]
/-- The reference's value 68, read at an entry. -/
theorem r68 (n : Fin 64) (g : Fin 8) (e : Fin 512) (j : Fin 128) : val_main_v68 (F := Ideal) x0 x1 x4 (ix4 g n e j) = (inputs x0 x1 x2 x3 x4 x5).dvn n j g e := by
  unfold Inputs.dvn
  simp only [← r61 x0 x1 x2 x3 x4 x5 hs, ← r45 x0 x1 x2 x3 x4 x5]
  unfold val_main_v68 val_main_v66
  generalize val_main_v61 (F := Ideal) x0 x1 = y
  generalize val_main_v45 (F := Ideal) x4 = z
  pointwise
  exact Finset.sum_congr rfl fun _ _ => mul_comm _ _
/-- The reference's value 72, read at an entry. -/
theorem r72 (n : Fin 64) (i : Fin 128) (k : Fin 4096) : val_main_v72 (F := Ideal) x0 x1 x4 (ix2 (arow n i) k) = (inputs x0 x1 x2 x3 x4 x5).dvnC n i k := by
  unfold Inputs.dvnC
  rw [← r68 x0 x1 x2 x3 x4 x5 hs]
  unfold val_main_v72 val_main_v69
  generalize val_main_v68 (F := Ideal) x0 x1 x4 = y
  pointwise
  refine congrArg y (ix4_congr (Fin.ext ?_) (Fin.ext ?_) (Fin.ext ?_) (Fin.ext ?_))
  · rfl
  · show (128 * n.val + i.val) / 128 = n.val; have := i.isLt; omega
  · rfl
  · show (128 * n.val + i.val) % 128 = i.val; have := i.isLt; omega
/-- The reference's value 80, read at an entry. -/
theorem r80 (n : Fin 64) (i : Fin 128) (k : Fin 4096) : val_main_v80 (F := Ideal) x0 x1 x2 x4 (ix2 (arow n i) k) = (inputs x0 x1 x2 x3 x4 x5).dxh n i k := by
  unfold Inputs.dxh
  rw [← r72 x0 x1 x2 x3 x4 x5 hs]
  pointwise [val_main_v80, val_main_v79, val_main_v28, inputs]

/-- The reference's value 110, read at an entry. -/
theorem r110 (k : Fin 4096) : val_main_v110 (F := Ideal) x0 x1 x4 (ix2 0 k) = ∑ n, (inputs x0 x1 x2 x3 x4 x5).dlnb n k := by
  have e : val_main_v110 (F := Ideal) x0 x1 x4 (ix2 0 k) = ∑ r, val_main_v72 (F := Ideal) x0 x1 x4 (ix2 r k) := by
    unfold val_main_v110 val_main_v75 val_main_v74 val_main_v73
    generalize val_main_v72 (F := Ideal) x0 x1 x4 = y
    pointwise [val_main_cst_8, val_main_cst_9]
    exact Fintype.sum_unique _
  rw [e, sum_rows]
  exact Finset.sum_congr rfl fun n _ => Finset.sum_congr rfl fun i _ => r72 x0 x1 x2 x3 x4 x5 hs n i k
/-- The reference's value 109, read at an entry. -/
theorem r109 (k : Fin 4096) : val_main_v109 (F := Ideal) x0 x1 x4 (ix2 0 k) = ∑ n, (inputs x0 x1 x2 x3 x4 x5).dlng n k := by
  have e : val_main_v109 (F := Ideal) x0 x1 x4 (ix2 0 k) = ∑ r, val_main_v72 (F := Ideal) x0 x1 x4 (ix2 r k) * val_main_v27 (F := Ideal) x1 (ix2 r k) := by
    unfold val_main_v109 val_main_v81 val_main_v78 val_main_v77 val_main_v76
    generalize val_main_v72 (F := Ideal) x0 x1 x4 = y
    generalize val_main_v27 (F := Ideal) x1 = z
    pointwise [val_main_cst_10, val_main_cst_11]
    rw [Fintype.sum_unique]
    exact Finset.sum_congr rfl fun _ _ => mul_comm _ _
  rw [e, sum_rows]
  exact Finset.sum_congr rfl fun n _ => Finset.sum_congr rfl fun i _ => by
    rw [r72 x0 x1 x2 x3 x4 x5 hs n i k, r27 x0 x1 x2 x3 x4 x5 n i k]

omit hs
/-- What the reference computes of a row for the gradient of the norm's argument, from the row less its mean `X`, the gradient `a` of
    the normalised row and `q`, the variance and the epsilon. -/
def rdv (X a : Fin 4096 → EReal) (q : EReal) (k : Fin 4096) : EReal :=
  (a k * Ideal.rsqrt q + Ideal.div ((∑ l, X l * a l) * (cM * Ideal.div (Ideal.rsqrt q) q)) cN * (cTwo * X k))
    + Ideal.div ((∑ l, -(a l * Ideal.rsqrt q)) + ∑ l, -(Ideal.div ((∑ l, X l * a l) * (cM * Ideal.div (Ideal.rsqrt q) q)) cN * (cTwo * X l))) cN

include x3 x5

/-- The reference's value 83, read at an entry. -/
theorem r83 (n : Fin 64) (i : Fin 128) : val_main_v83 (F := Ideal) x0 x1 x2 x4 (ix1 (arow n i)) =
    ∑ l, val_main_v10 (F := Ideal) x1 (ix2 (arow n i) l) * val_main_v80 (F := Ideal) x0 x1 x2 x4 (ix2 (arow n i) l) := by
  have e : ∀ k, val_main_v19 (F := Ideal) x1 (ix2 (arow n i) k) = val_main_v10 (F := Ideal) x1 (ix2 (arow n i) k) := fun k =>
    (r19 x0 x1 x2 x3 x4 x5 n i k).trans (r10 x0 x1 x2 x3 x4 x5 n i k).symm
  simp only [← e]
  unfold val_main_v83 val_main_v82
  generalize val_main_v80 (F := Ideal) x0 x1 x2 x4 = y
  generalize val_main_v19 (F := Ideal) x1 = z
  pointwise [val_main_cst_12]

/-- The reference's value 94, read at an entry. -/
theorem r94 (n : Fin 64) (i : Fin 128) (k : Fin 4096) : val_main_v94 (F := Ideal) x0 x1 x2 x4 (ix2 (arow n i) k) =
    Ideal.div ((∑ l, val_main_v10 (F := Ideal) x1 (ix2 (arow n i) l) * val_main_v80 (F := Ideal) x0 x1 x2 x4 (ix2 (arow n i) l)) * (cM * Ideal.div (Ideal.rsqrt (val_main_v21 (F := Ideal) x1 (ix2 (arow n i) 0))) (val_main_v21 (F := Ideal) x1 (ix2 (arow n i) 0)))) cN := by
  rw [← r83 x0 x1 x2 x3 x4 x5 n i]
  unfold val_main_v94 val_main_v93 val_main_v92 val_main_v91 val_main_v87 val_main_v84 val_main_v25 val_main_v24 val_main_v23 val_main_v22
  generalize val_main_v83 (F := Ideal) x0 x1 x2 x4 = y
  generalize val_main_v21 (F := Ideal) x1 = z
  pointwise [val_main_cst_15, val_main_cst_14, val_main_cst_5]
  exact Fintype.sum_unique _

/-- The reference's value 95, read at an entry. -/
theorem r95 (n : Fin 64) (i : Fin 128) (k : Fin 4096) : val_main_v95 (F := Ideal) x0 x1 x2 x4 (ix2 (arow n i) k) =
    val_main_v94 (F := Ideal) x0 x1 x2 x4 (ix2 (arow n i) k) * (cTwo * val_main_v10 (F := Ideal) x1 (ix2 (arow n i) k)) := by
  unfold val_main_v95 val_main_v13 val_main_v12
  generalize val_main_v94 (F := Ideal) x0 x1 x2 x4 = y
  generalize val_main_v10 (F := Ideal) x1 = z
  pointwise [val_main_cst_1]
  rfl

/-- The reference's value 86, read at an entry. -/
theorem r86 (n : Fin 64) (i : Fin 128) (k : Fin 4096) : val_main_v86 (F := Ideal) x0 x1 x2 x4 (ix2 (arow n i) k) =
    val_main_v80 (F := Ideal) x0 x1 x2 x4 (ix2 (arow n i) k) * Ideal.rsqrt (val_main_v21 (F := Ideal) x1 (ix2 (arow n i) 0)) := by
  unfold val_main_v86 val_main_v85 val_main_v22
  generalize val_main_v80 (F := Ideal) x0 x1 x2 x4 = y
  generalize val_main_v21 (F := Ideal) x1 = z
  pointwise []
  try rfl

/-- The reference's value 104, read at an entry. -/
theorem r104 (n : Fin 64) (i : Fin 128) (k : Fin 4096) : val_main_v104 (F := Ideal) x0 x1 x2 x4 (ix2 (arow n i) k) =
    Ideal.div ((∑ l, -(val_main_v86 (F := Ideal) x0 x1 x2 x4 (ix2 (arow n i) l))) + ∑ l, -(val_main_v95 (F := Ideal) x0 x1 x2 x4 (ix2 (arow n i) l))) cN := by
  unfold val_main_v104 val_main_v103 val_main_v102 val_main_v101 val_main_v100 val_main_v98 val_main_v97 val_main_v96 val_main_v90 val_main_v89 val_main_v88
  generalize val_main_v86 (F := Ideal) x0 x1 x2 x4 = y
  generalize val_main_v95 (F := Ideal) x0 x1 x2 x4 = z
  pointwise [val_main_cst_13, val_main_cst_16, val_main_cst_17, val_main_cst_18]
  try exact Fintype.sum_unique _

/-- The reference's gradient of the norm's argument. -/
theorem r105 (n : Fin 64) (i : Fin 128) (k : Fin 4096) : val_main_v105 (F := Ideal) x0 x1 x2 x4 (ix2 (arow n i) k) =
    rdv (fun l => val_main_v10 (F := Ideal) x1 (ix2 (arow n i) l)) (fun l => val_main_v80 (F := Ideal) x0 x1 x2 x4 (ix2 (arow n i) l)) (val_main_v21 (F := Ideal) x1 (ix2 (arow n i) 0)) k := by
  have e : val_main_v105 (F := Ideal) x0 x1 x2 x4 (ix2 (arow n i) k) = (val_main_v86 (F := Ideal) x0 x1 x2 x4 (ix2 (arow n i) k) + val_main_v95 (F := Ideal) x0 x1 x2 x4 (ix2 (arow n i) k)) + val_main_v104 (F := Ideal) x0 x1 x2 x4 (ix2 (arow n i) k) := by
    unfold val_main_v105 val_main_v99
    generalize val_main_v86 (F := Ideal) x0 x1 x2 x4 = y
    generalize val_main_v95 (F := Ideal) x0 x1 x2 x4 = z
    generalize val_main_v104 (F := Ideal) x0 x1 x2 x4 = w
    pointwise []
  rw [e, r104 x0 x1 x2 x3 x4 x5]
  simp only [r95 x0 x1 x2 x3 x4 x5, r86 x0 x1 x2 x3 x4 x5, r94 x0 x1 x2 x3 x4 x5]
  rfl

/-- The reference's first result is the three gradients side by side. -/
theorem r107 (r : Fin 8192) (k : Fin 12288) : val_main_v107 (F := Ideal) x0 x1 x2 x3 x4 x5 (ix2 r k) =
    if h : k.val < 4096 then val_main_v60 (F := Ideal) x0 x1 x2 x3 x4 x5 (ix2 r ⟨k.val, h⟩)
    else if h' : k.val < 8192 then val_main_v105 (F := Ideal) x0 x1 x2 x4 (ix2 r ⟨k.val - 4096, by omega⟩)
    else val_main_v58 (F := Ideal) x0 x1 x2 x3 x4 x5 (ix2 r ⟨k.val - 8192, by omega⟩) := by
  unfold val_main_v107 val_main_v106
  generalize val_main_v60 (F := Ideal) x0 x1 x2 x3 x4 x5 = y
  generalize val_main_v105 (F := Ideal) x0 x1 x2 x4 = z
  generalize val_main_v58 (F := Ideal) x0 x1 x2 x3 x4 x5 = w
  pointwise []
  by_cases h1 : k.val < 4096
  · rw [dif_pos h1, dif_pos h1]
  · rw [dif_neg h1, dif_neg h1]
    by_cases h2 : k.val < 8192
    · rw [dif_pos h2, dif_pos (by omega)]
    · rw [dif_neg h2, dif_neg (by omega)]
      exact congrArg (fun a => w (ix2 r a)) (Fin.ext (show k.val - 4096 - 4096 = k.val - 8192 by omega))
end

end Cert.Sgu.Ref

end
-- ==== Proof.Equation.lean ====
/- Over real entries both forms of the step's gradient are the same numbers. -/
module

public import proofs.«01_k».proof.Proof.Ref

@[expose] public section

noncomputable section

namespace Cert.Sgu

open Idealize.ShloMosaic Cert.Sgu.Ref

/-- The entry is a real number. -/
def IsReal (x : EReal) : Prop := ∃ r : ℝ, x = (r : EReal)

/-- A sum of reals, read as extended reals. -/
theorem coe_sum {ι : Type*} (s : Finset ι) (f : ι → ℝ) : ((∑ l ∈ s, f l : ℝ) : EReal) = ∑ l ∈ s, (f l : EReal) := by
  classical
  induction s using Finset.induction_on with
  | empty => simp
  | insert a s h ih => rw [Finset.sum_insert h, Finset.sum_insert h, EReal.coe_add, ih]

namespace IsReal

/-- A real number is real. -/
theorem coe (r : ℝ) : IsReal (r : EReal) := ⟨r, rfl⟩

/-- Zero is real. -/
theorem zero : IsReal 0 := ⟨0, rfl⟩

/-- A sum of two reals is real. -/
theorem add {x y : EReal} (hx : IsReal x) (hy : IsReal y) : IsReal (x + y) := by
  obtain ⟨a, rfl⟩ := hx
  obtain ⟨b, rfl⟩ := hy
  exact ⟨a + b, (EReal.coe_add a b).symm⟩

/-- A difference of two reals is real. -/
theorem sub {x y : EReal} (hx : IsReal x) (hy : IsReal y) : IsReal (x - y) := by
  obtain ⟨a, rfl⟩ := hx
  obtain ⟨b, rfl⟩ := hy
  exact ⟨a - b, (EReal.coe_sub a b).symm⟩

/-- A product of two reals is real. -/
theorem mul {x y : EReal} (hx : IsReal x) (hy : IsReal y) : IsReal (x * y) := by
  obtain ⟨a, rfl⟩ := hx
  obtain ⟨b, rfl⟩ := hy
  exact ⟨a * b, (EReal.coe_mul a b).symm⟩

/-- A finite sum of reals is real. -/
theorem sum {ι : Type*} {s : Finset ι} {f : ι → EReal} (h : ∀ l, IsReal (f l)) : IsReal (∑ l ∈ s, f l) := by
  choose g hg using h
  exact ⟨∑ l ∈ s, g l, by rw [coe_sum]; exact Finset.sum_congr rfl fun l _ => hg l⟩

/-- The hyperbolic tangent of a real is real. -/
theorem tanh {x : EReal} (hx : IsReal x) : IsReal (Ideal.tanh x) := by
  obtain ⟨a, rfl⟩ := hx
  exact ⟨Real.tanh a, Ideal.tanh_coe a⟩

end IsReal

/-- The literal 4096. -/
theorem cN_eq : cN = ((4096 : ℝ) : EReal) := by
  simp [cN, Ideal.ofBits, Ideal.ieee, -EReal.coe_mul]; norm_num

/-- The literal one half. -/
theorem cHalf_eq : cHalf = ((1 / 2 : ℝ) : EReal) := by
  simp [cHalf, Ideal.ofBits, Ideal.ieee, -EReal.coe_mul]; norm_num

/-- The literal minus one half. -/
theorem cM_eq : cM = ((-(1 / 2) : ℝ) : EReal) := by
  simp [cM, Ideal.ofBits, Ideal.ieee, -EReal.coe_mul, -EReal.coe_neg]; norm_num

/-- The literal two. -/
theorem cTwo_eq : cTwo = ((2 : ℝ) : EReal) := by
  simp [cTwo, Ideal.ofBits, Ideal.ieee, -EReal.coe_mul]; norm_num

/-- The norm's epsilon is a positive number. -/
theorem cEps_eq : ∃ e : ℝ, 0 < e ∧ cEps = (e : EReal) := by
  refine ⟨8796093 / 2 ^ 43, by norm_num, ?_⟩
  simp [cEps, Ideal.ofBits, Ideal.ieee, -EReal.coe_mul]; norm_num

/-- A real divided by 4096. -/
theorem div_cN (x : ℝ) : Ideal.div (x : EReal) cN = ((x / 4096 : ℝ) : EReal) := by
  rw [cN_eq, Ideal.div_coe (by norm_num), ← EReal.coe_mul, mul_one_div]

/-- A real divided by 4096 is real. -/
theorem IsReal.div_cN {x : EReal} (hx : IsReal x) : IsReal (Ideal.div x cN) := by
  obtain ⟨a, rfl⟩ := hx
  exact ⟨_, Cert.Sgu.div_cN a⟩

/-- The reciprocal root of a positive number. -/
theorem rsqrt_pos {q : ℝ} (h : 0 < q) : Ideal.rsqrt (q : EReal) = (((Real.sqrt q)⁻¹ : ℝ) : EReal) := by
  rw [Ideal.rsqrt_coe, if_neg (not_lt.mpr h.le), if_neg h.ne']

/-- The logistic function by the hyperbolic tangent and by the exponential. -/
theorem sig_real (x : ℝ) : (1 / 2) * Real.tanh (1 / 2 * x) + 1 / 2 = 1 / (1 + Real.exp (-x)) := by
  have h : Real.exp (-x) = Real.exp (-(1 / 2 * x)) * Real.exp (-(1 / 2 * x)) := by rw [← Real.exp_add]; ring_nf
  have h1 : Real.exp (1 / 2 * x) * Real.exp (-(1 / 2 * x)) = 1 := by rw [← Real.exp_add]; simp
  have h2 := Real.exp_pos (1 / 2 * x)
  have h3 := Real.exp_pos (-(1 / 2 * x))
  rw [Real.tanh_eq_sinh_div_cosh, Real.sinh_eq, Real.cosh_eq, h]
  generalize Real.exp (1 / 2 * x) = a at *
  generalize Real.exp (-(1 / 2 * x)) = b at *
  field_simp
  linear_combination (2 * b) * h1

/-- The two forms of the gradient of a row's norm. -/
theorem dv_real (X a : Fin 4096 → ℝ) (hX : ∑ l, X l = 0) (q : ℝ) (hq : 0 < q) (k : Fin 4096) :
    rdv (fun l => (X l : EReal)) (fun l => (a l : EReal)) (q : EReal) k =
      Ideal.rsqrt (q : EReal) * ((a k : EReal) - Ideal.div (∑ l, (a l : EReal)) cN
        - (X k : EReal) * Ideal.rsqrt (q : EReal) * Ideal.div (∑ l, (a l : EReal) * ((X l : EReal) * Ideal.rsqrt (q : EReal))) cN) := by
  unfold rdv
  rw [rsqrt_pos hq, cM_eq, cTwo_eq, Ideal.div_coe hq.ne']
  have hs : (Real.sqrt q)⁻¹ * (1 / q) = (Real.sqrt q)⁻¹ ^ 3 := by
    have := Real.mul_self_sqrt hq.le
    have h0 := (Real.sqrt_pos.mpr hq).ne'
    nth_rw 2 [← this]
    field_simp
  generalize (Real.sqrt q)⁻¹ = s at *
  simp only [← EReal.coe_mul, ← EReal.coe_neg, ← coe_sum, div_cN, ← EReal.coe_add, ← EReal.coe_sub, hs]
  rw [EReal.coe_eq_coe_iff]
  have e1 : ∑ l, -(a l * s) = -(s * ∑ l, a l) := by
    rw [Finset.mul_sum, ← Finset.sum_neg_distrib]
    exact Finset.sum_congr rfl fun l _ => by ring
  have e2 : ∀ t : ℝ, ∑ l, -(t * (2 * X l)) = 0 := fun t => by
    have : ∑ l, -(t * (2 * X l)) = -(2 * t) * ∑ l, X l := by
      rw [Finset.mul_sum]
      exact Finset.sum_congr rfl fun l _ => by ring
    rw [this, hX, mul_zero]
  have e3 : ∑ l, a l * (X l * s) = s * ∑ l, X l * a l := by
    rw [Finset.mul_sum]
    exact Finset.sum_congr rfl fun l _ => by ring
  rw [e1, e2, e3]
  ring

/-- The two forms of the gate's gradient. -/
theorem gate_real {x g s : EReal} (hx : IsReal x) (hg : IsReal g) (hs : IsReal s) :
    x * s + g * x * (s * (1 - s)) = x * (s * (1 + g * (1 - s))) := by
  obtain ⟨x, rfl⟩ := hx
  obtain ⟨g, rfl⟩ := hg
  obtain ⟨s, rfl⟩ := hs
  rw [← EReal.coe_one]
  simp only [← EReal.coe_mul, ← EReal.coe_add, ← EReal.coe_sub]
  rw [EReal.coe_eq_coe_iff]
  ring

/-- Every entry of the step's arrays is a real number. -/
structure AllReal (A : Inputs) : Prop where
  dy : ∀ n i k, IsReal (A.dy n i k)
  u : ∀ n i k, IsReal (A.u n i k)
  v : ∀ n i k, IsReal (A.v n i k)
  gate : ∀ n i k, IsReal (A.gate n i k)
  lng : ∀ k, IsReal (A.lng k)
  lnb : ∀ k, IsReal (A.lnb k)
  ws : ∀ g i j, IsReal (A.ws g i j)
  bs : ∀ g i, IsReal (A.bs g i)

namespace AllReal

variable {A : Inputs} (h : AllReal A)
include h

/-- A row less its mean is real and sums to zero; its variance and the epsilon are a positive number. -/
theorem row (n : Fin 64) (i : Fin 128) : ∃ (X : Fin 4096 → ℝ) (q : ℝ), 0 < q ∧ (∀ k, A.xc n i k = (X k : EReal)) ∧ ∑ l, X l = 0
    ∧ Ideal.div (∑ k, A.xc n i k * A.xc n i k) cN + cEps = (q : EReal) := by
  choose V hV using h.v n i
  obtain ⟨e, he, hE⟩ := cEps_eq
  have hX : ∀ k, A.xc n i k = ((V k - (∑ l, V l) / 4096 : ℝ) : EReal) := fun k => by
    unfold Inputs.xc
    simp only [hV, ← coe_sum, div_cN, ← EReal.coe_sub]
  refine ⟨fun k => V k - (∑ l, V l) / 4096, (∑ k, (V k - (∑ l, V l) / 4096) * (V k - (∑ l, V l) / 4096)) / 4096 + e, ?_, hX, ?_, ?_⟩
  · exact add_pos_of_nonneg_of_pos (div_nonneg (Finset.sum_nonneg fun _ _ => mul_self_nonneg _) (by norm_num)) he
  · rw [Finset.sum_sub_distrib, Finset.sum_const, Finset.card_univ, Fintype.card_fin, nsmul_eq_mul]
    push_cast
    ring
  · simp only [hX, ← EReal.coe_mul, ← coe_sum, div_cN, hE, ← EReal.coe_add]

/-- A row less its mean is real. -/
theorem xc (n : Fin 64) (i : Fin 128) (k : Fin 4096) : IsReal (A.xc n i k) := by
  obtain ⟨X, q, _, hX, _⟩ := h.row n i
  exact ⟨X k, hX k⟩

/-- The reciprocal of a row's standard deviation is real. -/
theorem rstd (n : Fin 64) (i : Fin 128) : IsReal (A.rstd n i) := by
  obtain ⟨X, q, hq, _, _, hQ⟩ := h.row n i
  unfold Inputs.rstd
  rw [hQ, rsqrt_pos hq]
  exact IsReal.coe _

/-- The norm's result is real. -/
theorem vn (n : Fin 64) (i : Fin 128) (k : Fin 4096) : IsReal (A.vn n i k) :=
  (((h.xc n i k).mul (h.rstd n i)).mul (h.lng k)).add (h.lnb k)

/-- The masked weights are real. -/
theorem wm (g : Fin 8) (i j : Fin 128) : IsReal (A.wm g i j) := by
  unfold Inputs.wm
  split
  · exact h.ws g i j
  · exact IsReal.zero

/-- The spatial gate is real. -/
theorem sg (n : Fin 64) (i : Fin 128) (g : Fin 8) (e : Fin 512) : IsReal (A.sg n i g e) :=
  (IsReal.sum fun j => (h.wm g i j).mul (h.vn n j _)).add (h.bs g i)

/-- The logistic function of the gate is real. -/
theorem sig (n : Fin 64) (i : Fin 128) (k : Fin 4096) : IsReal (A.sig n i k) := by
  have c : IsReal cHalf := ⟨_, cHalf_eq⟩
  exact (c.mul (c.mul (h.gate n i k)).tanh).add c

/-- The spatial gate's gradient is real. -/
theorem dsg (n : Fin 64) (i : Fin 128) (k : Fin 4096) : IsReal (A.dsg n i k) :=
  ((h.dy n i k).mul (h.u n i k)).mul ((h.gate n i k).mul (h.sig n i k))

/-- The normalised row's gradient is real. -/
theorem dxh (n : Fin 64) (i : Fin 128) (k : Fin 4096) : IsReal (A.dxh n i k) :=
  (IsReal.sum (s := Finset.univ) fun j => (h.wm (grp k) j i).mul (h.dsg n j (col (grp k) (off k)))).mul (h.lng k)

/-- The reference's logistic function is the kernel's. -/
theorem rsig_eq (n : Fin 64) (i : Fin 128) (k : Fin 4096) : rsig A n i k = A.sig n i k := by
  obtain ⟨x, hx⟩ := h.gate n i k
  unfold rsig Inputs.sig
  have e0 : (1 + Real.exp (-x)) ≠ 0 := (add_pos one_pos (Real.exp_pos _)).ne'
  rw [hx, cHalf_eq, ← EReal.coe_neg, Ideal.exp_coe, ← EReal.coe_one, ← EReal.coe_add, Ideal.div_coe e0, ← EReal.coe_mul, ← EReal.coe_mul,
    Ideal.tanh_coe, ← EReal.coe_mul, ← EReal.coe_add, sig_real, one_mul]

/-- The reference's gradient of the second part is the kernel's. -/
theorem dv_eq (n : Fin 64) (i : Fin 128) (k : Fin 4096) :
    rdv (fun l => A.xc n i l) (fun l => A.dxh n i l) (Ideal.div (∑ k, A.xc n i k * A.xc n i k) cN + cEps) k = A.dv n i k := by
  obtain ⟨X, q, hq, hX, h0, hQ⟩ := h.row n i
  choose a ha using h.dxh n i
  unfold Inputs.dv Inputs.xh Inputs.rstd
  rw [hQ]
  simp only [hX, ha]
  exact dv_real X a h0 q hq k

/-- The reference's gradient of the third part is the kernel's. -/
theorem dgate_eq (n : Fin 64) (i : Fin 128) (g : Fin 8) (e : Fin 512) :
    (A.u n i (col g e) * A.sg n i g e) * A.dy n i (col g e) * A.sig n i (col g e)
      + (A.gate n i (col g e) * ((A.u n i (col g e) * A.sg n i g e) * A.dy n i (col g e))) * (A.sig n i (col g e) * (1 - A.sig n i (col g e)))
      = A.dgate n i g e := by
  unfold Inputs.dgate
  rw [gate_real (((h.u _ _ _).mul (h.sg _ _ _ _)).mul (h.dy _ _ _)) (h.gate _ _ _) (h.sig _ _ _)]
  congr 1
  rw [mul_comm, mul_assoc]

end AllReal

end Cert.Sgu

end
-- ==== Proof.Launch.lean ====
/- The launch's five arrays: the first is put together from the grid points' blocks, the other four are the sums
   that the grid points add up. -/
module

public import proofs.«01_k».proof.Proof.Arrays

@[expose] public section

set_option maxRecDepth 16384

noncomputable section

namespace Cert.Sgu

open Idealize.ShloMosaic Idealize.ShloMosaic.TcCoe Idealize.SL.Sem Cert.KernelIdeal Cert.KernelIdeal.Gen
open Idealize.ShloMosaic.Pipeline (Dat)

/-- A sum over the grid points, of two blocks each, is the sum over the blocks. -/
theorem sum_points (f : Fin 64 → EReal) : ∑ t : Fin 32, (f (nb t 0) + f (nb t 1)) = ∑ n, f n := by
  calc ∑ t : Fin 32, (f (nb t 0) + f (nb t 1)) = ∑ t : Fin 32, ∑ b : Fin 2, f (nb t b) :=
        Finset.sum_congr rfl fun t _ => (Fin.sum_univ_two fun b => f (nb t b)).symm
    _ = ∑ p : Fin 32 × Fin 2, f (nb p.1 p.2) := (Fintype.sum_prod_type' fun t b => f (nb t b)).symm
    _ = ∑ n, f n := Fintype.sum_equiv (finProdFinEquiv (m := 32) (n := 2)) _ _ fun p => congrArg f (Fin.ext (by
        show 2 * p.1.val + p.2.val = p.2.val + 2 * p.1.val
        omega))

/-- What a grid point adds, by its number. -/
def step (f : Fin 64 → EReal) (k : ℕ) : EReal := if h : k < 32 then f (nb ⟨k, h⟩ 0) + f (nb ⟨k, h⟩ 1) else 0

/-- A grid point's two blocks. -/
theorem step_pt (f : Fin 64 → EReal) (t : Fin cfg0.N) : step f t.val = f (nb (pt t) 0) + f (nb (pt t) 1) := dif_pos t.isLt

/-- The sum over the grid points is the sum over the blocks. -/
theorem sum_step (f : Fin 64 → EReal) : ∑ k ∈ Finset.range 32, step f k = ∑ n, f n := by
  rw [Finset.sum_range, ← sum_points]
  exact Finset.sum_congr rfl fun t _ => dif_pos t.isLt

section Launch
variable (m : (ℓ : Loc nD τ sig) → Buf (Elt Ideal) ℓ) (c : Dev nD)

theorem at_first (t : Fin cfg0.N) (h0 : t.val % 32 = 0) : outsAt0 m c t.val t.isLt =
    (Gp (inp m c) (pt t), Gw (inp m c) (pt t) (fun _ => 0), Gb (inp m c) (pt t) (fun _ => 0),
      Gg (inp m c) (pt t) (fun _ => 0), Gh (inp m c) (pt t) (fun _ => 0)) := by
  have H := holds m c t
  have e8 := out_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) H
  have e9 := out_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) H
  have e10 := out_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) H
  have e11 := out_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) H
  have e12 := out_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) H
  rw [outsAt0_A m c t h0, e8, e9, e10, e11, e12]

theorem at_later (t : Fin cfg0.N) (h0 : ¬t.val % 32 = 0) : outsAt0 m c t.val t.isLt =
    (Gp (inp m c) (pt t), Gw (inp m c) (pt t) (outsAt0 m c (t.val - 1) (Nat.lt_of_le_of_lt (Nat.sub_le _ _) t.isLt)).2.1,
      Gb (inp m c) (pt t) (outsAt0 m c (t.val - 1) (Nat.lt_of_le_of_lt (Nat.sub_le _ _) t.isLt)).2.2.1,
      Gg (inp m c) (pt t) (outsAt0 m c (t.val - 1) (Nat.lt_of_le_of_lt (Nat.sub_le _ _) t.isLt)).2.2.2.1,
      Gh (inp m c) (pt t) (outsAt0 m c (t.val - 1) (Nat.lt_of_le_of_lt (Nat.sub_le _ _) t.isLt)).2.2.2.2) := by
  have H := holds m c t
  have e8 := out_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 H
  have e9 := out_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 H
  have e10 := out_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 H
  have e11 := out_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 H
  have e12 := out_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 H
  rw [outsAt0_B m c t h0, e8, e9, e10, e11, e12]

theorem first_out (t : Fin cfg0.N) : (outsAt0 m c t.val t.isLt).1 = Gp (inp m c) (pt t) := by
  by_cases h0 : t.val % 32 = 0
  · rw [at_first m c t h0]
  · rw [at_later m c t h0]

/-- After grid point `n` the four sums hold what the points so far have added. -/
theorem sums (n : ℕ) (hn : n < cfg0.N) :
    (outsAt0 m c n hn).2.1 = (fun y => ∑ k ∈ Finset.range (n + 1), step (fun s => (inp m c).dws s (y 0) (y 1) (y 2)) k)
    ∧ (outsAt0 m c n hn).2.2.1 = (fun y => ∑ k ∈ Finset.range (n + 1), step (fun s => (inp m c).dbs s (y 1) (y 0)) k)
    ∧ (outsAt0 m c n hn).2.2.2.1 = (fun y => ∑ k ∈ Finset.range (n + 1), step (fun s => (inp m c).dlng s (y 1)) k)
    ∧ (outsAt0 m c n hn).2.2.2.2 = (fun y => ∑ k ∈ Finset.range (n + 1), step (fun s => (inp m c).dlnb s (y 1)) k) := by
  induction n with
  | zero =>
    have e := at_first m c ⟨0, hn⟩ rfl
    dsimp only at e
    rw [e]
    refine ⟨?_, ?_, ?_, ?_⟩ <;> funext y <;> rw [Finset.sum_range_one] <;> exact zero_add _
  | succ n ih =>
    obtain ⟨i9, i10, i11, i12⟩ := ih (Nat.lt_of_succ_lt hn)
    have h0 : ¬(n + 1) % 32 = 0 := by have : n + 1 < 32 := hn; omega
    have e : outsAt0 m c (n + 1) hn = (Gp (inp m c) (pt ⟨n + 1, hn⟩), Gw (inp m c) (pt ⟨n + 1, hn⟩) (outsAt0 m c n _).2.1,
        Gb (inp m c) (pt ⟨n + 1, hn⟩) (outsAt0 m c n _).2.2.1, Gg (inp m c) (pt ⟨n + 1, hn⟩) (outsAt0 m c n _).2.2.2.1,
        Gh (inp m c) (pt ⟨n + 1, hn⟩) (outsAt0 m c n _).2.2.2.2) := at_later m c ⟨n + 1, hn⟩ h0
    refine ⟨(congrArg (·.2.1) e).trans ((congrArg (Gw (inp m c) (pt ⟨n + 1, hn⟩)) i9).trans ?_),
      (congrArg (·.2.2.1) e).trans ((congrArg (Gb (inp m c) (pt ⟨n + 1, hn⟩)) i10).trans ?_),
      (congrArg (·.2.2.2.1) e).trans ((congrArg (Gg (inp m c) (pt ⟨n + 1, hn⟩)) i11).trans ?_),
      (congrArg (·.2.2.2.2) e).trans ((congrArg (Gh (inp m c) (pt ⟨n + 1, hn⟩)) i12).trans ?_)⟩ <;>
      funext y <;> rw [Finset.sum_range_succ _ (n + 1)]
    · exact congrArg (_ + ·) (step_pt (fun s => (inp m c).dws s (y 0) (y 1) (y 2)) ⟨n + 1, hn⟩).symm
    · exact congrArg (_ + ·) (step_pt (fun s => (inp m c).dbs s (y 1) (y 0)) ⟨n + 1, hn⟩).symm
    · exact congrArg (_ + ·) (step_pt (fun s => (inp m c).dlng s (y 1)) ⟨n + 1, hn⟩).symm
    · exact congrArg (_ + ·) (step_pt (fun s => (inp m c).dlnb s (y 1)) ⟨n + 1, hn⟩).symm

/-- The block of an array's row, and the row's position in it. -/
def blkA (r : Fin 8192) : Fin 64 := ⟨r.val / 128, by have := r.isLt; omega⟩
def posA (r : Fin 8192) : Fin 128 := ⟨r.val % 128, Nat.mod_lt _ (by decide)⟩

/-- The gradient of the projection. -/
def O8 (A : Inputs) : S8192x12288.Idx → EReal := fun y => A.dproj (blkA (y 0)) (posA (y 0)) (y 1)

theorem block_eq (A : Inputs) (t : Fin 32) (y : S256x12288.Idx) (z : S8192x12288.Idx) (e0 : (z 0).val = 256 * t.val + (y 0).val)
    (e1 : (z 1).val = (y 1).val) : Gp A t y = O8 A z := by
  have h : (y 0).val < 256 := (y 0).isLt
  have e2 : nb t (blkOf (y 0)) = blkA (z 0) := Fin.ext (by
    show 2 * t.val + (y 0).val / 128 = (z 0).val / 128
    rw [e0]; omega)
  have e3 : posOf (y 0) = posA (z 0) := Fin.ext (by
    show (y 0).val % 128 = (z 0).val % 128
    rw [e0]; omega)
  have e4 : y 1 = z 1 := Fin.ext e1.symm
  unfold Gp O8
  rw [e2, e3, e4]

/-- The array the launch leaves. -/
theorem final8 : (dats m 0 c).arrAt 8 cfg0.N = O8 (inp m c) := by
  refine (dats m 0 c).arrAt_eq_of_covers 8 _ (by decide +kernel) fun t hf y => ?_
  refine (?_ : _ = (outsAt0 m c t.val t.isLt).1 y).trans ?_
  · blk_simp
    rw [after0_8]
  · rw [first_out]
    refine block_eq (inp m c) (pt t) y _ ?_ ?_
    · show win0_8.index t 0 * 256 + 1 * (y 0).val = 256 * t.val + (y 0).val
      rw [(idx8 t).1]; omega
    · show win0_8.index t 1 * 12288 + 1 * (y 1).val = (y 1).val
      rw [(idx8 t).2]; omega

/-- The last grid point. -/
abbrev tl : Fin cfg0.N := ⟨31, by decide⟩

/-- The gradient of the weights: the sum over the blocks. -/
def O9 (A : Inputs) : S8x128x128.Idx → EReal := fun y => ∑ n, A.dws n (y 0) (y 1) (y 2)

/-- The array the launch leaves. -/
theorem final9 : (dats m 0 c).arrAt 9 cfg0.N = O9 (inp m c) := by
  refine (dats m 0 c).arrAt_eq_of_after_last 9 tl (by decide +kernel) _ fun j => ?_
  blk_simp
  rw [after0_9, (sums m c 31 tl.isLt).1]
  exact sum_step _

/-- The gradient of the bias: the sum over the blocks. -/
def O10 (A : Inputs) : S128x8.Idx → EReal := fun y => ∑ n, A.dbs n (y 1) (y 0)

/-- The array the launch leaves. -/
theorem final10 : (dats m 0 c).arrAt 10 cfg0.N = O10 (inp m c) := by
  refine (dats m 0 c).arrAt_eq_of_after_last 10 tl (by decide +kernel) _ fun j => ?_
  blk_simp
  rw [after0_10, (sums m c 31 tl.isLt).2.1]
  exact sum_step _

/-- The gradient of the norm's scale: the sum over the blocks. -/
def O11 (A : Inputs) : S1x4096.Idx → EReal := fun y => ∑ n, A.dlng n (y 1)

/-- The array the launch leaves. -/
theorem final11 : (dats m 0 c).arrAt 11 cfg0.N = O11 (inp m c) := by
  refine (dats m 0 c).arrAt_eq_of_after_last 11 tl (by decide +kernel) _ fun j => ?_
  blk_simp
  rw [after0_11, (sums m c 31 tl.isLt).2.2.1]
  exact sum_step _

/-- The gradient of the norm's shift: the sum over the blocks. -/
def O12 (A : Inputs) : S1x4096.Idx → EReal := fun y => ∑ n, A.dlnb n (y 1)

/-- The array the launch leaves. -/
theorem final12 : (dats m 0 c).arrAt 12 cfg0.N = O12 (inp m c) := by
  refine (dats m 0 c).arrAt_eq_of_after_last 12 tl (by decide +kernel) _ fun j => ?_
  blk_simp
  rw [after0_12, (sums m c 31 tl.isLt).2.2.2]
  exact sum_step _

end Launch

end Cert.Sgu

end
-- ==== Proof.Match.lean ====
/- The reference's results are the sums the launch leaves, where every entry of the arguments is a real number. -/
module

public import proofs.«01_k».proof.Proof.Equation
public import proofs.«01_k».proof.Proof.Launch
public import proofs.«01_k».proof.Defs

@[expose] public section

noncomputable section

namespace Cert.Sgu

open Idealize.ShloMosaic Cert.ReferenceIdeal Cert.ReferenceIdeal.Gen Cert.ReferenceIdeal.Read Cert.Sgu.Ref

/-- An entry whose absolute value is below infinity is a real number. -/
theorem real_of_lt {x : EReal} (h : FloatOps.cmpf (F := Ideal) (φ := .f32) .olt (max x (-x)) (Ideal.ofBits .f32 0x7F800000#32) = 1#1) : IsReal x := by
  have e : Ideal.ofBits .f32 0x7F800000#32 = ⊤ := by simp [Ideal.ofBits, Ideal.ieee]
  rw [e] at h
  have h' : max x (-x) < ⊤ := by
    by_contra hc
    have e2 : FloatOps.cmpf (F := Ideal) (φ := .f32) .olt (max x (-x)) (⊤ : EReal) = BitVec.ofBool (decide (max x (-x) < ⊤)) := rfl
    rw [e2, decide_eq_false hc] at h
    exact absurd h (by decide)
  induction x using EReal.rec with
  | bot => simp at h'
  | top => simp at h'
  | coe r => exact ⟨r, rfl⟩

/-- A row is the one at its position of its block. -/
theorem arow_blkA (r : Fin 8192) : arow (blkA r) (posA r) = r := by
  apply Fin.ext
  show 128 * (r.val / 128) + r.val % 128 = r.val
  omega

section
variable (x0 : Vec Ideal S8192x4096 .bf16) (x1 : Vec Ideal S8192x12288 .bf16) (x2 x3 : Vec Ideal S4096 .f32)
    (x4 : Vec Ideal S8x128x128 .f32) (x5 : Vec Ideal S8x128 .f32)

/-- The precondition says that every entry is a real number. -/
theorem allReal [Cert.Pre_finite.Facts]
    (h0 : (Cert.Pre_finite.fn (F := Ideal) x0 x1 x2 x3 x4 x5).1 = fun _ => 1#1)
    (h1 : (Cert.Pre_finite.fn (F := Ideal) x0 x1 x2 x3 x4 x5).2.1 = fun _ => 1#1)
    (h2 : (Cert.Pre_finite.fn (F := Ideal) x0 x1 x2 x3 x4 x5).2.2.1 = fun _ => 1#1)
    (h3 : (Cert.Pre_finite.fn (F := Ideal) x0 x1 x2 x3 x4 x5).2.2.2.1 = fun _ => 1#1)
    (h4 : (Cert.Pre_finite.fn (F := Ideal) x0 x1 x2 x3 x4 x5).2.2.2.2.1 = fun _ => 1#1)
    (h5 : (Cert.Pre_finite.fn (F := Ideal) x0 x1 x2 x3 x4 x5).2.2.2.2.2 = fun _ => 1#1) :
    AllReal (inputs x0 x1 x2 x3 x4 x5) where
  dy n i k := real_of_lt (congrFun h0 (ix2 (arow n i) k))
  u n i k := real_of_lt (congrFun h1 (ix2 (arow n i) (c1 k)))
  v n i k := real_of_lt (congrFun h1 (ix2 (arow n i) (c2 k)))
  gate n i k := real_of_lt (congrFun h1 (ix2 (arow n i) (c3 k)))
  lng k := real_of_lt (congrFun h2 (ix1 k))
  lnb k := real_of_lt (congrFun h3 (ix1 k))
  ws g i j := real_of_lt (congrFun h4 (ix3 g i j))
  bs g i := real_of_lt (congrFun h5 (ix2 g i))

variable (h : AllReal (inputs x0 x1 x2 x3 x4 x5))
include h

/-- The reference's gradient of the weights. -/
theorem ref9 : val_main_v71 (F := Ideal) x0 x1 x2 x3 = O9 (inputs x0 x1 x2 x3 x4 x5) := by
  funext y
  rw [eq_ix3 y]
  exact r71 x0 x1 x2 x3 x4 x5 h.rsig_eq _ _ _

/-- The reference's gradient of the bias. -/
theorem ref10 : val_main_v108 (F := Ideal) x0 x1 = O10 (inputs x0 x1 x2 x3 x4 x5) := by
  funext y
  rw [eq_ix2 y]
  exact r108 x0 x1 x2 x3 x4 x5 h.rsig_eq _ _

/-- The reference's gradient of the norm's scale. -/
theorem ref11 : val_main_v109 (F := Ideal) x0 x1 x4 = O11 (inputs x0 x1 x2 x3 x4 x5) := by
  funext y
  have e : ∀ z : Fin 1, val_main_v109 (F := Ideal) x0 x1 x4 (ix2 z (y 1 : Fin 4096)) = O11 (inputs x0 x1 x2 x3 x4 x5) y := fun z => by
    rw [Subsingleton.elim z 0]
    exact r109 x0 x1 x2 x3 x4 x5 h.rsig_eq _
  rw [eq_ix2 y] at e ⊢
  exact e (y 0)

/-- The reference's gradient of the norm's shift. -/
theorem ref12 : val_main_v110 (F := Ideal) x0 x1 x4 = O12 (inputs x0 x1 x2 x3 x4 x5) := by
  funext y
  have e : ∀ z : Fin 1, val_main_v110 (F := Ideal) x0 x1 x4 (ix2 z (y 1 : Fin 4096)) = O12 (inputs x0 x1 x2 x3 x4 x5) y := fun z => by
    rw [Subsingleton.elim z 0]
    exact r110 x0 x1 x2 x3 x4 x5 h.rsig_eq _
  rw [eq_ix2 y] at e ⊢
  exact e (y 0)

/-- The reference's gradient of the projection, at a position of a block. -/
theorem first (n : Fin 64) (i : Fin 128) (k : Fin 12288) :
    val_main_v107 (F := Ideal) x0 x1 x2 x3 x4 x5 (ix2 (arow n i) k) = (inputs x0 x1 x2 x3 x4 x5).dproj n i k := by
  rw [r107]
  unfold Inputs.dproj
  by_cases h1 : k.val < 4096
  · rw [dif_pos h1, dif_pos h1, ← r60 x0 x1 x2 x3 x4 x5 h.rsig_eq, col_grp_off]
  · rw [dif_neg h1, dif_neg h1]
    by_cases h2 : k.val < 8192
    · rw [dif_pos h2, dif_pos h2, r105 x0 x1 x2 x3 x4 x5, ← h.dv_eq, r21 x0 x1 x2 x3 x4 x5]
      simp only [r10 x0 x1 x2 x3 x4 x5, r80 x0 x1 x2 x3 x4 x5 h.rsig_eq]
    · rw [dif_neg h2, dif_neg h2, ← h.dgate_eq, ← h.rsig_eq, ← r58 x0 x1 x2 x3 x4 x5, col_grp_off]

/-- The reference's gradient of the projection. -/
theorem ref8 : val_main_v107 (F := Ideal) x0 x1 x2 x3 x4 x5 = O8 (inputs x0 x1 x2 x3 x4 x5) := by
  funext y
  rw [eq_ix2 y]
  have e := first x0 x1 x2 x3 x4 x5 h (blkA (y 0)) (posA (y 0)) (y 1)
  exact (congrArg (fun r : Fin 8192 => val_main_v107 (F := Ideal) x0 x1 x2 x3 x4 x5 (ix2 r (y 1 : Fin 12288))) (arow_blkA (y 0)).symm).trans e

end

end Cert.Sgu

end
-- ==== Proof.Products.Common.lean ====
/- Matrix products over the extended reals, an index at a time, and what the launches of products share. -/
module

public import Idealize.ShloMosaic.Lib.Pointwise

@[expose] public section

noncomputable section

namespace Cert.Products

open Idealize.ShloMosaic

/-- Two indices of a matrix with equal coordinates are the same. -/
theorem ext2 {n k : ℕ} (x z : (Shape.mk 2 ![n, k]).Idx) (e0 : (x 0).val = (z 0).val) (e1 : (x 1).val = (z 1).val) : x = z :=
  funext fun a => Fin.ext (match a with
    | ⟨0, _⟩ => e0
    | ⟨1, _⟩ => e1)

/-- The same of three axes. -/
theorem ext3 {l n k : ℕ} (x z : (Shape.mk 3 ![l, n, k]).Idx) (e0 : (x 0).val = (z 0).val) (e1 : (x 1).val = (z 1).val)
    (e2 : (x 2).val = (z 2).val) : x = z :=
  funext fun a => Fin.ext (match a with
    | ⟨0, _⟩ => e0
    | ⟨1, _⟩ => e1
    | ⟨2, _⟩ => e2)

theorem zero2 : (![0, 0] : Fin 2 → ℕ) = fun _ => 0 := funext fun a => by fin_cases a <;> rfl
theorem zero3 : (![0, 0, 0] : Fin 3 → ℕ) = fun _ => 0 := funext fun a => by fin_cases a <;> rfl

/-- Rows against columns: `a b`. -/
def nn {n p q : ℕ} (a : (Shape.mk 2 ![n, q]).Idx → EReal) (b : (Shape.mk 2 ![q, p]).Idx → EReal) :
    (Shape.mk 2 ![n, p]).Idx → EReal := fun y => ∑ k : Fin q, a (ix2 (y 0) k) * b (ix2 k (y 1))

/-- Rows against rows: `a bᵀ`. -/
def nt {n p q : ℕ} (a : (Shape.mk 2 ![n, q]).Idx → EReal) (b : (Shape.mk 2 ![p, q]).Idx → EReal) :
    (Shape.mk 2 ![n, p]).Idx → EReal := fun y => ∑ k : Fin q, a (ix2 (y 0) k) * b (ix2 (y 1) k)

/-- Columns against columns: `aᵀ b`. -/
def tn {n p q : ℕ} (a : (Shape.mk 2 ![q, n]).Idx → EReal) (b : (Shape.mk 2 ![q, p]).Idx → EReal) :
    (Shape.mk 2 ![n, p]).Idx → EReal := fun y => ∑ k : Fin q, a (ix2 k (y 0)) * b (ix2 k (y 1))

/-- The row of 8192 that is row `k` of the `j`-th 2048. -/
def row (j : ℕ) (k : Fin 2048) : Fin 8192 := ⟨(j * 2048 + 1 * k.val) % 8192, Nat.mod_lt _ (by decide)⟩

/-- What the `j`-th 2048 rows add to `aᵀ b`. -/
def part {n p : ℕ} (a : (Shape.mk 2 ![8192, n]).Idx → EReal) (b : (Shape.mk 2 ![8192, p]).Idx → EReal) (j : ℕ) :
    (Shape.mk 2 ![n, p]).Idx → EReal := fun y => ∑ k : Fin 2048, a (ix2 (row j k) (y 0)) * b (ix2 (row j k) (y 1))

/-- A sum over 8192 rows, 2048 at a time. -/
theorem sum_rows (f : Fin 8192 → EReal) : ∑ j ∈ Finset.range 4, ∑ k : Fin 2048, f (row j k) = ∑ r, f r := by
  rw [Finset.sum_range, ← Fintype.sum_prod_type' fun (j : Fin 4) k => f (row j.val k)]
  exact Fintype.sum_equiv (finProdFinEquiv (m := 4) (n := 2048)) _ _ fun p => congrArg f (Fin.ext (by
    have h1 : p.1.val < 4 := p.1.isLt
    have h2 : p.2.val < 2048 := p.2.isLt
    show (p.1.val * 2048 + 1 * p.2.val) % 8192 = p.2.val + 2048 * p.1.val
    omega))

/-- The same for 512 rows at a time. -/
def row16 (j : ℕ) (k : Fin 512) : Fin 8192 := ⟨(j * 512 + 1 * k.val) % 8192, Nat.mod_lt _ (by decide)⟩

theorem sum_row16 (f : Fin 8192 → EReal) : ∑ j ∈ Finset.range 16, ∑ k : Fin 512, f (row16 j k) = ∑ r, f r := by
  rw [Finset.sum_range, ← Fintype.sum_prod_type' fun (j : Fin 16) k => f (row16 j.val k)]
  exact Fintype.sum_equiv (finProdFinEquiv (m := 16) (n := 512)) _ _ fun p => congrArg f (Fin.ext (by
    have h1 : p.1.val < 16 := p.1.isLt
    have h2 : p.2.val < 512 := p.2.isLt
    show (p.1.val * 512 + 1 * p.2.val) % 8192 = p.2.val + 512 * p.1.val
    omega))

/-- The four parts make the product. -/
theorem sum_parts {n p : ℕ} (a : (Shape.mk 2 ![8192, n]).Idx → EReal) (b : (Shape.mk 2 ![8192, p]).Idx → EReal)
    (y : (Shape.mk 2 ![n, p]).Idx) : ∑ j ∈ Finset.range 4, part a b j y = tn a b y :=
  sum_rows fun r => a (ix2 r (y 0)) * b (ix2 r (y 1))

/-- A buffer that every `p`-th grid point starts anew and the others add to. `s` is what it holds after a point, an index of
    it at a time; `At n y z` says that after point `n` its index `y` stands for index `z` of the result. -/
theorem carriedBy (p : ℕ) (hp : 0 < p) {Y Z : Type} {N : ℕ} (s : ∀ n, n < N → Y → EReal) (At : ℕ → Y → Z → Prop) (g : ℕ → Z → EReal)
    (first : ∀ n hn, n % p = 0 → ∀ y z, At n y z → s n hn y = g 0 z)
    (same : ∀ n, (n + 1) % p ≠ 0 → ∀ y z, At (n + 1) y z → At n y z)
    (later : ∀ n hn, (n + 1) % p ≠ 0 → ∀ y z, At (n + 1) y z →
      s (n + 1) hn y = s n (Nat.lt_of_succ_lt hn) y + g ((n + 1) % p) z)
    (n : ℕ) (hn : n < N) (y : Y) (z : Z) (h : At n y z) : s n hn y = ∑ j ∈ Finset.range (n % p + 1), g j z := by
  induction n with
  | zero =>
    have e0 : 0 % p = 0 := Nat.zero_mod p
    rw [first 0 hn e0 y z h, e0]; exact (Finset.sum_range_one fun j => g j z).symm
  | succ n ih =>
    by_cases h0 : (n + 1) % p = 0
    · rw [first _ hn h0 y z h, h0]; exact (Finset.sum_range_one fun j => g j z).symm
    · have e4 : (n + 1) % p = n % p + 1 := by
        have e : (n % p + 1) % p = (n + 1) % p := Nat.mod_add_mod n p 1
        have hl : n % p < p := Nat.mod_lt _ hp
        rcases Nat.lt_or_ge (n % p + 1) p with h1 | h1
        · rw [← e, Nat.mod_eq_of_lt h1]
        · have e1 : n % p + 1 = p := by omega
          rw [e1, Nat.mod_self] at e
          exact absurd e.symm h0
      rw [later n hn h0 y z h, ih _ (same n h0 y z h), e4, Finset.sum_range_succ _ (n % p + 1)]

/-- Four grid points at a time. -/
theorem carried {Y Z : Type} {N : ℕ} (s : ∀ n, n < N → Y → EReal) (At : ℕ → Y → Z → Prop) (g : ℕ → Z → EReal)
    (first : ∀ n hn, n % 4 = 0 → ∀ y z, At n y z → s n hn y = g 0 z)
    (same : ∀ n, (n + 1) % 4 ≠ 0 → ∀ y z, At (n + 1) y z → At n y z)
    (later : ∀ n hn, (n + 1) % 4 ≠ 0 → ∀ y z, At (n + 1) y z →
      s (n + 1) hn y = s n (Nat.lt_of_succ_lt hn) y + g ((n + 1) % 4) z)
    (n : ℕ) (hn : n < N) (y : Y) (z : Z) (h : At n y z) : s n hn y = ∑ j ∈ Finset.range (n % 4 + 1), g j z :=
  carriedBy 4 (by decide) s At g first same later n hn y z h

end Cert.Products
-- ==== Proof.Products.OutArg.lean ====
/- The gradient of the argument of a product with 4096×2048 weights: what the launch leaves, and that the reference
   leaves the same. -/
module

public import proofs.«01_k».proof.Proof.Products.Common
public import proofs.«01_k».proof.Proof.Gen.OutArgIdeal.Value
public import proofs.«01_k».proof.Proof.Gen.OutArgReferenceIdeal.Read
public import Idealize.ShloMosaic.Lib.Claim
public import Idealize.ShloMosaic.Lib.Pipeline.ValueKit

@[expose] public section

set_option maxRecDepth 16384

noncomputable section

namespace Cert.Products.OutArg

open Idealize.ShloMosaic Idealize.ShloMosaic.TcCoe Idealize.SL.Sem Cert.OutArgIdeal Cert.OutArgIdeal.Gen
open Idealize.ShloMosaic.Pipeline (Dat)

/-- A grid point's block, an index at a time. -/
theorem out_apply (x w : Vec Ideal S1024x2048 .bf16) (y : S1024x1024.Idx) : out0_2 x w y = nt x w y := by
  unfold out0_2
  rw [View.canon_unit_zero zero2, View.ld_unit_zero (S := S1024x2048) zero2, View.ld_unit_zero (S := S1024x2048) zero2, eq_ix2 y]
  unfold k0_pay1 nt
  pointwise

theorem idx0 : ∀ t : Fin cfg0.N, win0_0.index t 0 = win0_2.index t 0 ∧ win0_0.index t 1 = 0 := by decide +kernel
theorem idx1 : ∀ t : Fin cfg0.N, win0_1.index t 0 = win0_2.index t 1 ∧ win0_1.index t 1 = 0 := by decide +kernel

variable (m : (ℓ : Loc nD τ sig) → Buf (Elt Ideal) ℓ) (c : Dev nD)

/-- The blocks a grid point reads. -/
theorem blk0 (t : Fin cfg0.N) (x : S1024x2048.Idx) (z : S8192x2048.Idx) (e0 : (z 0).val = win0_2.index t 0 * 1024 + 1 * (x 0).val)
    (e1 : (z 1).val = (x 1).val) : (iblk m c 0 t : Vec Ideal S1024x2048 .bf16) x = m ((c : Thread nD τ).loc main_arg1) z := by
  unfold iblk
  rw [View.read_apply]
  show V m c main_arg1 _ = m (c.tc.loc main_arg1) _
  rw [V_main_arg1]
  refine congrArg _ (ext2 _ _ ?_ ?_)
  · show win0_0.index t 0 * 1024 + 1 * (x 0).val = (z 0).val
    rw [(idx0 t).1, e0]
  · show win0_0.index t 1 * 2048 + 1 * (x 1).val = (z 1).val
    rw [(idx0 t).2, e1]; omega

theorem blk1 (t : Fin cfg0.N) (x : S1024x2048.Idx) (z : S4096x2048.Idx) (e0 : (z 0).val = win0_2.index t 1 * 1024 + 1 * (x 0).val)
    (e1 : (z 1).val = (x 1).val) : (iblk m c 1 t : Vec Ideal S1024x2048 .bf16) x = m ((c : Thread nD τ).loc main_arg0) z := by
  unfold iblk
  rw [View.read_apply]
  show V m c main_arg0 _ = m (c.tc.loc main_arg0) _
  rw [V_main_arg0]
  refine congrArg _ (ext2 _ _ ?_ ?_)
  · show win0_1.index t 0 * 1024 + 1 * (x 0).val = (z 0).val
    rw [(idx1 t).1, e0]
  · show win0_1.index t 1 * 2048 + 1 * (x 1).val = (z 1).val
    rw [(idx1 t).2, e1]; omega

/-- The array the launch leaves. -/
theorem final : (dats m 0 c).arrAt 2 cfg0.N = nt (m ((c : Thread nD τ).loc main_arg1)) (m ((c : Thread nD τ).loc main_arg0)) := by
  refine (dats m 0 c).arrAt_eq_of_covers 2 _ (by decide +kernel) fun t hf y => ?_
  refine (?_ : _ = out0_2 (iblk m c 0 t) (iblk m c 1 t) y).trans ?_
  · blk_simp
    rw [after0_2]
  rw [out_apply]
  unfold nt
  refine Finset.sum_congr rfl fun k _ => ?_
  exact congrArg₂ (fun a b : EReal => a * b) (blk0 m c t _ _ rfl rfl) (blk1 m c t _ _ rfl rfl)

open Cert.OutArgReferenceIdeal.Read in
/-- The reference's result. -/
theorem ref_eq (w : S4096x2048.Idx → EReal) (ct : S8192x2048.Idx → EReal) : val_main_v5 (F := Ideal) w ct = nt ct w := by
  funext y
  rw [val_main_v5_apply, val_main_v4_apply]
  unfold nt
  refine Finset.sum_congr rfl fun k _ => congrArg₂ (fun a b : EReal => a * b) ?_ ?_
  · exact congrArg ct (ext2 _ _ rfl rfl)
  · exact congrArg w (ext2 _ _ rfl rfl)

end Cert.Products.OutArg
-- ==== Proof.Products.OutWeights.lean ====
/- The gradient of the 4096×2048 weights of a product: what the launch leaves, and that the reference leaves the same.
   Four grid points in turn add the products of 2048 rows each in a buffer; the fourth writes it to the result. -/
module

public import proofs.«01_k».proof.Proof.Products.Common
public import proofs.«01_k».proof.Proof.Gen.OutWeightsIdeal.Value
public import proofs.«01_k».proof.Proof.Gen.OutWeightsReferenceIdeal.Read
public import Idealize.ShloMosaic.Lib.Claim
public import Idealize.ShloMosaic.Lib.Pipeline.ValueKit

@[expose] public section

set_option maxRecDepth 16384

noncomputable section

namespace Cert.Products.OutWeights

open Idealize.ShloMosaic Idealize.ShloMosaic.TcCoe Idealize.SL.Sem Cert.OutWeightsIdeal Cert.OutWeightsIdeal.Gen
open Idealize.ShloMosaic.Pipeline (Dat)

/-- What a grid point adds, and what the last writes, an index at a time. -/
theorem pay1 (x : Vec Ideal S2048x1024 .bf16) (w : Vec Ideal S2048x1024 .bf16) : k0_pay1 x w = tn x w := by
  funext y
  rw [eq_ix2 y]
  unfold k0_pay1 tn
  pointwise

theorem pay2 (x : Vec Ideal S2048x1024 .bf16) (w : Vec Ideal S2048x1024 .bf16) : k0_pay2 x w = tn x w := by
  unfold k0_pay2
  dsimp only
  rw [shapeCast_self, pay1]

theorem pay3 (x : Vec Ideal S2048x1024 .bf16) (w : Vec Ideal S2048x1024 .bf16) (s : Vec Ideal S1024x1024 .f32) :
    k0_pay3 x w s = fun y => s y + tn x w y := by
  unfold k0_pay3
  dsimp only
  rw [shapeCast_self, pay1]
  rfl

theorem pay4 (s : Vec Ideal S1024x1024 .f32) : k0_pay4 s = s := rfl

section
variable (c : Dev nD) (i : grid0.Coords) (arg3 : Memref sig .tc .vmem S2048x1024 .bf16) (harg3 : arg3.IsWhole)
  (arg4 : Memref sig .tc .vmem S2048x1024 .bf16) (harg4 : arg4.IsWhole) (arg5 : Memref sig .tc .vmem S1024x1024 .bf16) (harg5 : arg5.IsWhole)
  (arg6 : Memref sig .tc .vmem S1024x1024 .f32) (harg6 : arg6.IsWhole) (x w : Vec Ideal S2048x1024 .bf16) (s : Vec Ideal S1024x1024 .f32)

/-- The first of four grid points leaves its product in the buffer. -/
theorem first (h0 : cond0_0 i) (h1 : ¬cond0_1 i) (h2 : ¬cond0_2 i) :
    sout0_A_0 c i arg3 harg3 arg4 harg4 arg5 harg5 arg6 harg6 h0 h1 h2 x w = tn x w := by
  unfold sout0_A_0
  rw [View.read_writes_eq_canon _ _ _ (scover0_A_0 c i arg3 harg3 arg4 harg4 arg5 harg5 arg6 harg6 h0 h1 h2 x w)]
  unfold kernelRun0_A
  dsimp only
  sl_unfold_words
  rw [View.canon_unit_zero zero2, pay2]
  simp only [View.readAt_eq_ld, harg3.read_unread, harg4.read_unread, View.ld_unit_zero (S := S2048x1024) zero2]

/-- The second and third add theirs. -/
theorem middle (h0 : ¬cond0_0 i) (h1 : cond0_1 i) (h2 : ¬cond0_2 i) :
    sout0_B_0 c i arg3 harg3 arg4 harg4 arg5 harg5 arg6 harg6 h0 h1 h2 x w s = fun y => s y + tn x w y := by
  unfold sout0_B_0
  rw [View.read_writes_eq_canon _ _ _ (scover0_B_0 c i arg3 harg3 arg4 harg4 arg5 harg5 arg6 harg6 h0 h1 h2 x w s)]
  unfold kernelRun0_B
  dsimp only
  sl_unfold_words
  rw [View.canon_unit_zero zero2]
  simp only [View.readAt_eq_ld, harg3.read_unread, harg4.read_unread, harg6.read_unread, View.ld_unit_zero (S := S2048x1024) zero2,
    View.ld_unit_zero (S := S1024x1024) zero2]
  exact pay3 x w s

/-- So does the fourth, … -/
theorem last (h0 : ¬cond0_0 i) (h1 : cond0_1 i) (h2 : cond0_2 i) :
    sout0_C_0 c i arg3 harg3 arg4 harg4 arg5 harg5 arg6 harg6 h0 h1 h2 x w s = fun y => s y + tn x w y := by
  unfold sout0_C_0
  rw [View.read_writes_eq_canon _ _ _ (scover0_C_0 c i arg3 harg3 arg4 harg4 arg5 harg5 arg6 harg6 h0 h1 h2 x w s)]
  unfold kernelRun0_C
  dsimp only
  sl_unfold_words
  rw [View.canon_unit_zero zero2]
  simp only [View.readAt_eq_ld, harg3.read_unread, harg4.read_unread, harg6.read_unread, View.ld_unit_zero (S := S2048x1024) zero2,
    View.ld_unit_zero (S := S1024x1024) zero2]
  exact pay3 x w s

/-- … which writes the sum to the result. -/
theorem written (h0 : ¬cond0_0 i) (h1 : cond0_1 i) (h2 : cond0_2 i) :
    out0_C_2 c i arg3 harg3 arg4 harg4 arg5 harg5 arg6 harg6 h0 h1 h2 x w s = fun y => s y + tn x w y := by
  unfold out0_C_2
  rw [View.read_writes_eq_canon _ _ _ (cover0_C_2 c i arg3 harg3 arg4 harg4 arg5 harg5 arg6 harg6 h0 h1 h2 x w s)]
  unfold kernelRun0_C
  dsimp only
  sl_unfold_words
  rw [View.canon_unit_zero zero2, View.readCov_unit_zero (S := S1024x1024) _ zero2]
  simp only [View.readAt_eq_ld, harg3.read_unread, harg4.read_unread, harg6.read_unread, View.ld_unit_zero (S := S2048x1024) zero2,
    View.ld_unit_zero (S := S1024x1024) zero2]
  exact pay3 x w s

end

theorem idx0 : ∀ t : Fin cfg0.N, win0_0.index t 0 = t.val % 4 ∧ win0_0.index t 1 = t.val / 8 := by decide +kernel
theorem idx1 : ∀ t : Fin cfg0.N, win0_1.index t 0 = t.val % 4 ∧ win0_1.index t 1 = t.val / 4 % 2 := by decide +kernel
theorem idx2 : ∀ t : Fin cfg0.N, win0_2.index t 0 = t.val / 8 ∧ win0_2.index t 1 = t.val / 4 % 2 := by decide +kernel

variable (m : (ℓ : Loc nD τ sig) → Buf (Elt Ideal) ℓ) (c : Dev nD)

/-- The blocks a grid point reads. -/
theorem blk0 (t : Fin cfg0.N) (k : Fin 2048) (a : Fin 1024) (b : Fin 4096) (e : b.val = t.val / 8 * 1024 + 1 * a.val) :
    (iblk m c 0 t : Vec Ideal S2048x1024 .bf16) (ix2 k a) = m ((c : Thread nD τ).loc main_arg0) (ix2 (row (t.val % 4) k) b) := by
  unfold iblk
  rw [View.read_apply]
  show V m c main_arg0 _ = m (c.tc.loc main_arg0) _
  rw [V_main_arg0]
  refine congrArg _ (ext2 _ _ ?_ ?_)
  · show win0_0.index t 0 * 2048 + 1 * k.val = (t.val % 4 * 2048 + 1 * k.val) % 8192
    rw [(idx0 t).1]; omega
  · show win0_0.index t 1 * 1024 + 1 * a.val = b.val
    rw [(idx0 t).2, e]

theorem blk1 (t : Fin cfg0.N) (k : Fin 2048) (a : Fin 1024) (b : Fin 2048) (e : b.val = t.val / 4 % 2 * 1024 + 1 * a.val) :
    (iblk m c 1 t : Vec Ideal S2048x1024 .bf16) (ix2 k a) = m ((c : Thread nD τ).loc main_arg1) (ix2 (row (t.val % 4) k) b) := by
  unfold iblk
  rw [View.read_apply]
  show V m c main_arg1 _ = m (c.tc.loc main_arg1) _
  rw [V_main_arg1]
  refine congrArg _ (ext2 _ _ ?_ ?_)
  · show win0_1.index t 0 * 2048 + 1 * k.val = (t.val % 4 * 2048 + 1 * k.val) % 8192
    rw [(idx1 t).1]; omega
  · show win0_1.index t 1 * 1024 + 1 * a.val = b.val
    rw [(idx1 t).2, e]

/-- An index of the block that grid point `n` works on is this one of the result. -/
def At (n : ℕ) (y : S1024x1024.Idx) (z : S4096x2048.Idx) : Prop :=
  (z 0).val = n / 8 * 1024 + 1 * (y 0).val ∧ (z 1).val = n / 4 % 2 * 1024 + 1 * (y 1).val

/-- What a grid point adds. -/
theorem adds (t : Fin cfg0.N) (y : S1024x1024.Idx) (z : S4096x2048.Idx) (h : At t.val y z) :
    tn (iblk m c 0 t : Vec Ideal S2048x1024 .bf16) (iblk m c 1 t : Vec Ideal S2048x1024 .bf16) y
      = part (m ((c : Thread nD τ).loc main_arg0)) (m ((c : Thread nD τ).loc main_arg1)) (t.val % 4) z :=
  Finset.sum_congr rfl fun k _ => congrArg₂ (fun a b : EReal => a * b) (blk0 m c t k (y 0) (z 0) h.1) (blk1 m c t k (y 1) (z 1) h.2)

/-- After a grid point the buffer holds the parts added so far. -/
theorem sums (n : ℕ) (hn : n < cfg0.N) (y : S1024x1024.Idx) (z : S4096x2048.Idx) (h : At n y z) :
    (outsAt0 m c n hn).2 y = ∑ j ∈ Finset.range (n % 4 + 1),
      part (m ((c : Thread nD τ).loc main_arg0)) (m ((c : Thread nD τ).loc main_arg1)) j z := by
  refine carried (fun n hn => (outsAt0 m c n hn).2) At _ (fun n hn h0 y z h => ?_) (fun n h0 y z h => ?_) (fun n hn h0 y z h => ?_) n hn y z h
  · have e := congrArg Prod.snd (outsAt0_A m c ⟨n, hn⟩ h0 (by show ¬1 ≤ n % 4; omega) (by show ¬n % 4 = 3; omega))
    rw [first] at e
    refine (congrFun e y).trans ((adds m c ⟨n, hn⟩ y z h).trans ?_)
    exact congrArg (fun j => part _ _ j z) h0
  · have d1 : (n + 1) / 8 = n / 8 := by omega
    have d2 : (n + 1) / 4 = n / 4 := by omega
    unfold At at h
    rwa [d1, d2] at h
  · refine Eq.trans ?_ (congrArg (_ + ·) (adds m c ⟨n + 1, hn⟩ y z h))
    by_cases h3 : (n + 1) % 4 = 3
    · have e := congrArg Prod.snd (outsAt0_C m c ⟨n + 1, hn⟩ h0 (by show 1 ≤ (n + 1) % 4; omega) h3)
      rw [last] at e
      exact congrFun e y
    · have e := congrArg Prod.snd (outsAt0_B m c ⟨n + 1, hn⟩ h0 (by show 1 ≤ (n + 1) % 4; omega) h3)
      rw [middle] at e
      exact congrFun e y

/-- The array the launch leaves. -/
theorem final : (dats m 0 c).arrAt 2 cfg0.N = tn (m ((c : Thread nD τ).loc main_arg0)) (m ((c : Thread nD τ).loc main_arg1)) := by
  refine (dats m 0 c).arrAt_eq_of_covers 2 _ (by decide +kernel) fun t hf y => ?_
  have h3 : t.val % 4 = 3 := (flush0_2 t).mp hf
  refine (?_ : _ = (outsAt0 m c t.val t.isLt).1 y).trans ?_
  · blk_simp
    rw [after0_2]
  have e := outsAt0_C m c t (by omega) (by omega) h3
  have e1 := congrArg Prod.fst e
  have e2 := congrArg Prod.snd e
  rw [written] at e1
  rw [last] at e2
  refine (congrFun (e1.trans e2.symm) y).trans ((sums m c t.val t.isLt y (((cfg0.win 2).blk t).view.emb y) ⟨?_, ?_⟩).trans ?_)
  · show win0_2.index t 0 * 1024 + 1 * (y 0).val = _
    rw [(idx2 t).1]
  · show win0_2.index t 1 * 1024 + 1 * (y 1).val = _
    rw [(idx2 t).2]
  rw [h3]
  exact sum_parts _ _ _

open Cert.OutWeightsReferenceIdeal.Read in
/-- The reference's result. -/
theorem ref_eq (a : S8192x4096.Idx → EReal) (b : S8192x2048.Idx → EReal) : val_main_v6 (F := Ideal) a b = tn a b := by
  funext y
  rw [val_main_v6_apply, val_main_v5_apply]
  refine (val_main_v4_apply a b _).trans (Finset.sum_congr rfl fun k _ => ?_)
  refine (mul_comm _ _).trans (congrArg₂ (fun a b : EReal => a * b) ?_ ?_)
  · exact congrArg a (ext2 _ _ rfl rfl)
  · exact congrArg b (ext2 _ _ rfl rfl)

end Cert.Products.OutWeights
-- ==== Proof.Products.CrossArg.lean ====
/- The gradient of the argument of a product with 2048×2048 weights: what the launch leaves, and that the reference
   leaves the same. -/
module

public import proofs.«01_k».proof.Proof.Products.Common
public import proofs.«01_k».proof.Proof.Gen.CrossArgIdeal.Value
public import proofs.«01_k».proof.Proof.Gen.CrossArgReferenceIdeal.Read
public import Idealize.ShloMosaic.Lib.Claim
public import Idealize.ShloMosaic.Lib.Pipeline.ValueKit

@[expose] public section

set_option maxRecDepth 16384

noncomputable section

namespace Cert.Products.CrossArg

open Idealize.ShloMosaic Idealize.ShloMosaic.TcCoe Idealize.SL.Sem Cert.CrossArgIdeal Cert.CrossArgIdeal.Gen
open Idealize.ShloMosaic.Pipeline (Dat)

/-- A grid point's block, an index at a time. -/
theorem out_apply (x w : Vec Ideal S1024x2048 .bf16) (y : S1024x1024.Idx) : out0_2 x w y = nt x w y := by
  unfold out0_2
  rw [View.canon_unit_zero zero2, View.ld_unit_zero (S := S1024x2048) zero2, View.ld_unit_zero (S := S1024x2048) zero2, eq_ix2 y]
  unfold k0_pay1 nt
  pointwise

theorem idx0 : ∀ t : Fin cfg0.N, win0_0.index t 0 = win0_2.index t 0 ∧ win0_0.index t 1 = 0 := by decide +kernel
theorem idx1 : ∀ t : Fin cfg0.N, win0_1.index t 0 = win0_2.index t 1 ∧ win0_1.index t 1 = 0 := by decide +kernel

variable (m : (ℓ : Loc nD τ sig) → Buf (Elt Ideal) ℓ) (c : Dev nD)

/-- The blocks a grid point reads. -/
theorem blk0 (t : Fin cfg0.N) (x : S1024x2048.Idx) (z : S8192x2048.Idx) (e0 : (z 0).val = win0_2.index t 0 * 1024 + 1 * (x 0).val)
    (e1 : (z 1).val = (x 1).val) : (iblk m c 0 t : Vec Ideal S1024x2048 .bf16) x = m ((c : Thread nD τ).loc main_arg1) z := by
  unfold iblk
  rw [View.read_apply]
  show V m c main_arg1 _ = m (c.tc.loc main_arg1) _
  rw [V_main_arg1]
  refine congrArg _ (ext2 _ _ ?_ ?_)
  · show win0_0.index t 0 * 1024 + 1 * (x 0).val = (z 0).val
    rw [(idx0 t).1, e0]
  · show win0_0.index t 1 * 2048 + 1 * (x 1).val = (z 1).val
    rw [(idx0 t).2, e1]; omega

theorem blk1 (t : Fin cfg0.N) (x : S1024x2048.Idx) (z : S2048x2048.Idx) (e0 : (z 0).val = win0_2.index t 1 * 1024 + 1 * (x 0).val)
    (e1 : (z 1).val = (x 1).val) : (iblk m c 1 t : Vec Ideal S1024x2048 .bf16) x = m ((c : Thread nD τ).loc main_arg0) z := by
  unfold iblk
  rw [View.read_apply]
  show V m c main_arg0 _ = m (c.tc.loc main_arg0) _
  rw [V_main_arg0]
  refine congrArg _ (ext2 _ _ ?_ ?_)
  · show win0_1.index t 0 * 1024 + 1 * (x 0).val = (z 0).val
    rw [(idx1 t).1, e0]
  · show win0_1.index t 1 * 2048 + 1 * (x 1).val = (z 1).val
    rw [(idx1 t).2, e1]; omega

/-- The array the launch leaves. -/
theorem final : (dats m 0 c).arrAt 2 cfg0.N = nt (m ((c : Thread nD τ).loc main_arg1)) (m ((c : Thread nD τ).loc main_arg0)) := by
  refine (dats m 0 c).arrAt_eq_of_covers 2 _ (by decide +kernel) fun t hf y => ?_
  refine (?_ : _ = out0_2 (iblk m c 0 t) (iblk m c 1 t) y).trans ?_
  · blk_simp
    rw [after0_2]
  rw [out_apply]
  unfold nt
  refine Finset.sum_congr rfl fun k _ => ?_
  exact congrArg₂ (fun a b : EReal => a * b) (blk0 m c t _ _ rfl rfl) (blk1 m c t _ _ rfl rfl)

open Cert.CrossArgReferenceIdeal.Read in
/-- The reference's result. -/
theorem ref_eq (w : S2048x2048.Idx → EReal) (ct : S8192x2048.Idx → EReal) : val_main_v5 (F := Ideal) w ct = nt ct w := by
  funext y
  rw [val_main_v5_apply, val_main_v4_apply]
  unfold nt
  refine Finset.sum_congr rfl fun k _ => congrArg₂ (fun a b : EReal => a * b) ?_ ?_
  · exact congrArg ct (ext2 _ _ rfl rfl)
  · exact congrArg w (ext2 _ _ rfl rfl)

end Cert.Products.CrossArg
-- ==== Proof.Products.CrossWeights.lean ====
/- The gradient of the 2048×2048 weights of a product: what the launch leaves, and that the reference leaves the same.
   Four grid points in turn add the products of 2048 rows each in a buffer; the fourth writes it to the result. -/
module

public import proofs.«01_k».proof.Proof.Products.Common
public import proofs.«01_k».proof.Proof.Gen.CrossWeightsIdeal.Value
public import proofs.«01_k».proof.Proof.Gen.CrossWeightsReferenceIdeal.Read
public import Idealize.ShloMosaic.Lib.Claim
public import Idealize.ShloMosaic.Lib.Pipeline.ValueKit

@[expose] public section

set_option maxRecDepth 16384

noncomputable section

namespace Cert.Products.CrossWeights

open Idealize.ShloMosaic Idealize.ShloMosaic.TcCoe Idealize.SL.Sem Cert.CrossWeightsIdeal Cert.CrossWeightsIdeal.Gen
open Idealize.ShloMosaic.Pipeline (Dat)

/-- What a grid point adds, and what the last writes, an index at a time. -/
theorem pay1 (x : Vec Ideal S2048x1024 .bf16) (w : Vec Ideal S2048x1024 .bf16) : k0_pay1 x w = tn x w := by
  funext y
  rw [eq_ix2 y]
  unfold k0_pay1 tn
  pointwise

theorem pay2 (x : Vec Ideal S2048x1024 .bf16) (w : Vec Ideal S2048x1024 .bf16) : k0_pay2 x w = tn x w := by
  unfold k0_pay2
  dsimp only
  rw [shapeCast_self, pay1]

theorem pay3 (x : Vec Ideal S2048x1024 .bf16) (w : Vec Ideal S2048x1024 .bf16) (s : Vec Ideal S1024x1024 .f32) :
    k0_pay3 x w s = fun y => s y + tn x w y := by
  unfold k0_pay3
  dsimp only
  rw [shapeCast_self, pay1]
  rfl

theorem pay4 (s : Vec Ideal S1024x1024 .f32) : k0_pay4 s = s := rfl

section
variable (c : Dev nD) (i : grid0.Coords) (arg3 : Memref sig .tc .vmem S2048x1024 .bf16) (harg3 : arg3.IsWhole)
  (arg4 : Memref sig .tc .vmem S2048x1024 .bf16) (harg4 : arg4.IsWhole) (arg5 : Memref sig .tc .vmem S1024x1024 .bf16) (harg5 : arg5.IsWhole)
  (arg6 : Memref sig .tc .vmem S1024x1024 .f32) (harg6 : arg6.IsWhole) (x w : Vec Ideal S2048x1024 .bf16) (s : Vec Ideal S1024x1024 .f32)

/-- The first of four grid points leaves its product in the buffer. -/
theorem first (h0 : cond0_0 i) (h1 : ¬cond0_1 i) (h2 : ¬cond0_2 i) :
    sout0_A_0 c i arg3 harg3 arg4 harg4 arg5 harg5 arg6 harg6 h0 h1 h2 x w = tn x w := by
  unfold sout0_A_0
  rw [View.read_writes_eq_canon _ _ _ (scover0_A_0 c i arg3 harg3 arg4 harg4 arg5 harg5 arg6 harg6 h0 h1 h2 x w)]
  unfold kernelRun0_A
  dsimp only
  sl_unfold_words
  rw [View.canon_unit_zero zero2, pay2]
  simp only [View.readAt_eq_ld, harg3.read_unread, harg4.read_unread, View.ld_unit_zero (S := S2048x1024) zero2]

/-- The second and third add theirs. -/
theorem middle (h0 : ¬cond0_0 i) (h1 : cond0_1 i) (h2 : ¬cond0_2 i) :
    sout0_B_0 c i arg3 harg3 arg4 harg4 arg5 harg5 arg6 harg6 h0 h1 h2 x w s = fun y => s y + tn x w y := by
  unfold sout0_B_0
  rw [View.read_writes_eq_canon _ _ _ (scover0_B_0 c i arg3 harg3 arg4 harg4 arg5 harg5 arg6 harg6 h0 h1 h2 x w s)]
  unfold kernelRun0_B
  dsimp only
  sl_unfold_words
  rw [View.canon_unit_zero zero2]
  simp only [View.readAt_eq_ld, harg3.read_unread, harg4.read_unread, harg6.read_unread, View.ld_unit_zero (S := S2048x1024) zero2,
    View.ld_unit_zero (S := S1024x1024) zero2]
  exact pay3 x w s

/-- So does the fourth, … -/
theorem last (h0 : ¬cond0_0 i) (h1 : cond0_1 i) (h2 : cond0_2 i) :
    sout0_C_0 c i arg3 harg3 arg4 harg4 arg5 harg5 arg6 harg6 h0 h1 h2 x w s = fun y => s y + tn x w y := by
  unfold sout0_C_0
  rw [View.read_writes_eq_canon _ _ _ (scover0_C_0 c i arg3 harg3 arg4 harg4 arg5 harg5 arg6 harg6 h0 h1 h2 x w s)]
  unfold kernelRun0_C
  dsimp only
  sl_unfold_words
  rw [View.canon_unit_zero zero2]
  simp only [View.readAt_eq_ld, harg3.read_unread, harg4.read_unread, harg6.read_unread, View.ld_unit_zero (S := S2048x1024) zero2,
    View.ld_unit_zero (S := S1024x1024) zero2]
  exact pay3 x w s

/-- … which writes the sum to the result. -/
theorem written (h0 : ¬cond0_0 i) (h1 : cond0_1 i) (h2 : cond0_2 i) :
    out0_C_2 c i arg3 harg3 arg4 harg4 arg5 harg5 arg6 harg6 h0 h1 h2 x w s = fun y => s y + tn x w y := by
  unfold out0_C_2
  rw [View.read_writes_eq_canon _ _ _ (cover0_C_2 c i arg3 harg3 arg4 harg4 arg5 harg5 arg6 harg6 h0 h1 h2 x w s)]
  unfold kernelRun0_C
  dsimp only
  sl_unfold_words
  rw [View.canon_unit_zero zero2, View.readCov_unit_zero (S := S1024x1024) _ zero2]
  simp only [View.readAt_eq_ld, harg3.read_unread, harg4.read_unread, harg6.read_unread, View.ld_unit_zero (S := S2048x1024) zero2,
    View.ld_unit_zero (S := S1024x1024) zero2]
  exact pay3 x w s

end

theorem idx0 : ∀ t : Fin cfg0.N, win0_0.index t 0 = t.val % 4 ∧ win0_0.index t 1 = t.val / 8 := by decide +kernel
theorem idx1 : ∀ t : Fin cfg0.N, win0_1.index t 0 = t.val % 4 ∧ win0_1.index t 1 = t.val / 4 % 2 := by decide +kernel
theorem idx2 : ∀ t : Fin cfg0.N, win0_2.index t 0 = t.val / 8 ∧ win0_2.index t 1 = t.val / 4 % 2 := by decide +kernel

variable (m : (ℓ : Loc nD τ sig) → Buf (Elt Ideal) ℓ) (c : Dev nD)

/-- The blocks a grid point reads. -/
theorem blk0 (t : Fin cfg0.N) (k : Fin 2048) (a : Fin 1024) (b : Fin 2048) (e : b.val = t.val / 8 * 1024 + 1 * a.val) :
    (iblk m c 0 t : Vec Ideal S2048x1024 .bf16) (ix2 k a) = m ((c : Thread nD τ).loc main_arg0) (ix2 (row (t.val % 4) k) b) := by
  unfold iblk
  rw [View.read_apply]
  show V m c main_arg0 _ = m (c.tc.loc main_arg0) _
  rw [V_main_arg0]
  refine congrArg _ (ext2 _ _ ?_ ?_)
  · show win0_0.index t 0 * 2048 + 1 * k.val = (t.val % 4 * 2048 + 1 * k.val) % 8192
    rw [(idx0 t).1]; omega
  · show win0_0.index t 1 * 1024 + 1 * a.val = b.val
    rw [(idx0 t).2, e]

theorem blk1 (t : Fin cfg0.N) (k : Fin 2048) (a : Fin 1024) (b : Fin 2048) (e : b.val = t.val / 4 % 2 * 1024 + 1 * a.val) :
    (iblk m c 1 t : Vec Ideal S2048x1024 .bf16) (ix2 k a) = m ((c : Thread nD τ).loc main_arg1) (ix2 (row (t.val % 4) k) b) := by
  unfold iblk
  rw [View.read_apply]
  show V m c main_arg1 _ = m (c.tc.loc main_arg1) _
  rw [V_main_arg1]
  refine congrArg _ (ext2 _ _ ?_ ?_)
  · show win0_1.index t 0 * 2048 + 1 * k.val = (t.val % 4 * 2048 + 1 * k.val) % 8192
    rw [(idx1 t).1]; omega
  · show win0_1.index t 1 * 1024 + 1 * a.val = b.val
    rw [(idx1 t).2, e]

/-- An index of the block that grid point `n` works on is this one of the result. -/
def At (n : ℕ) (y : S1024x1024.Idx) (z : S2048x2048.Idx) : Prop :=
  (z 0).val = n / 8 * 1024 + 1 * (y 0).val ∧ (z 1).val = n / 4 % 2 * 1024 + 1 * (y 1).val

/-- What a grid point adds. -/
theorem adds (t : Fin cfg0.N) (y : S1024x1024.Idx) (z : S2048x2048.Idx) (h : At t.val y z) :
    tn (iblk m c 0 t : Vec Ideal S2048x1024 .bf16) (iblk m c 1 t : Vec Ideal S2048x1024 .bf16) y
      = part (m ((c : Thread nD τ).loc main_arg0)) (m ((c : Thread nD τ).loc main_arg1)) (t.val % 4) z :=
  Finset.sum_congr rfl fun k _ => congrArg₂ (fun a b : EReal => a * b) (blk0 m c t k (y 0) (z 0) h.1) (blk1 m c t k (y 1) (z 1) h.2)

/-- After a grid point the buffer holds the parts added so far. -/
theorem sums (n : ℕ) (hn : n < cfg0.N) (y : S1024x1024.Idx) (z : S2048x2048.Idx) (h : At n y z) :
    (outsAt0 m c n hn).2 y = ∑ j ∈ Finset.range (n % 4 + 1),
      part (m ((c : Thread nD τ).loc main_arg0)) (m ((c : Thread nD τ).loc main_arg1)) j z := by
  refine carried (fun n hn => (outsAt0 m c n hn).2) At _ (fun n hn h0 y z h => ?_) (fun n h0 y z h => ?_) (fun n hn h0 y z h => ?_) n hn y z h
  · have e := congrArg Prod.snd (outsAt0_A m c ⟨n, hn⟩ h0 (by show ¬1 ≤ n % 4; omega) (by show ¬n % 4 = 3; omega))
    rw [first] at e
    refine (congrFun e y).trans ((adds m c ⟨n, hn⟩ y z h).trans ?_)
    exact congrArg (fun j => part _ _ j z) h0
  · have d1 : (n + 1) / 8 = n / 8 := by omega
    have d2 : (n + 1) / 4 = n / 4 := by omega
    unfold At at h
    rwa [d1, d2] at h
  · refine Eq.trans ?_ (congrArg (_ + ·) (adds m c ⟨n + 1, hn⟩ y z h))
    by_cases h3 : (n + 1) % 4 = 3
    · have e := congrArg Prod.snd (outsAt0_C m c ⟨n + 1, hn⟩ h0 (by show 1 ≤ (n + 1) % 4; omega) h3)
      rw [last] at e
      exact congrFun e y
    · have e := congrArg Prod.snd (outsAt0_B m c ⟨n + 1, hn⟩ h0 (by show 1 ≤ (n + 1) % 4; omega) h3)
      rw [middle] at e
      exact congrFun e y

/-- The array the launch leaves. -/
theorem final : (dats m 0 c).arrAt 2 cfg0.N = tn (m ((c : Thread nD τ).loc main_arg0)) (m ((c : Thread nD τ).loc main_arg1)) := by
  refine (dats m 0 c).arrAt_eq_of_covers 2 _ (by decide +kernel) fun t hf y => ?_
  have h3 : t.val % 4 = 3 := (flush0_2 t).mp hf
  refine (?_ : _ = (outsAt0 m c t.val t.isLt).1 y).trans ?_
  · blk_simp
    rw [after0_2]
  have e := outsAt0_C m c t (by omega) (by omega) h3
  have e1 := congrArg Prod.fst e
  have e2 := congrArg Prod.snd e
  rw [written] at e1
  rw [last] at e2
  refine (congrFun (e1.trans e2.symm) y).trans ((sums m c t.val t.isLt y (((cfg0.win 2).blk t).view.emb y) ⟨?_, ?_⟩).trans ?_)
  · show win0_2.index t 0 * 1024 + 1 * (y 0).val = _
    rw [(idx2 t).1]
  · show win0_2.index t 1 * 1024 + 1 * (y 1).val = _
    rw [(idx2 t).2]
  rw [h3]
  exact sum_parts _ _ _

open Cert.CrossWeightsReferenceIdeal.Read in
/-- The reference's result. -/
theorem ref_eq (a b : S8192x2048.Idx → EReal) : val_main_v6 (F := Ideal) a b = tn a b := by
  funext y
  rw [val_main_v6_apply, val_main_v5_apply]
  refine (val_main_v4_apply a b _).trans (Finset.sum_congr rfl fun k _ => ?_)
  refine (mul_comm _ _).trans (congrArg₂ (fun a b : EReal => a * b) ?_ ?_)
  · exact congrArg a (ext2 _ _ rfl rfl)
  · exact congrArg b (ext2 _ _ rfl rfl)

end Cert.Products.CrossWeights
-- ==== Proof.Products.InWeights.lean ====
/- The gradient of the weights of the product that begins the first mixer, its columns in four parts: what the launch leaves, and that the reference leaves the same.
   Four grid points in turn add the products of 2048 rows each in a buffer; the fourth writes it to the result. -/
module

public import proofs.«01_k».proof.Proof.Products.Common
public import proofs.«01_k».proof.Proof.Gen.InWeightsIdeal.Value
public import proofs.«01_k».proof.Proof.Gen.InWeightsReferenceIdeal.Read
public import Idealize.ShloMosaic.Lib.Claim
public import Idealize.ShloMosaic.Lib.Pipeline.ValueKit

@[expose] public section

set_option maxRecDepth 16384

noncomputable section

namespace Cert.Products.InWeights

open Idealize.ShloMosaic Idealize.ShloMosaic.TcCoe Idealize.SL.Sem Cert.InWeightsIdeal Cert.InWeightsIdeal.Gen
open Idealize.ShloMosaic.Pipeline (Dat)

/-- What a grid point adds, and what the last writes, an index at a time. -/
theorem pay1 (x : Vec Ideal S2048x1024 .bf16) (w : Vec Ideal S2048x1792 .bf16) : k0_pay1 x w = tn x w := by
  funext y
  rw [eq_ix2 y]
  unfold k0_pay1 tn
  pointwise

theorem pay2 (x : Vec Ideal S2048x1024 .bf16) (w : Vec Ideal S2048x1792 .bf16) : k0_pay2 x w = tn x w := by
  unfold k0_pay2
  dsimp only
  rw [shapeCast_self, pay1]

theorem pay3 (x : Vec Ideal S2048x1024 .bf16) (w : Vec Ideal S2048x1792 .bf16) (s : Vec Ideal S1024x1792 .f32) :
    k0_pay3 x w s = fun y => s y + tn x w y := by
  unfold k0_pay3
  dsimp only
  rw [shapeCast_self, pay1]
  rfl

theorem pay4 (s : Vec Ideal S1024x1792 .f32) (y : S1x1024x1792.Idx) : k0_pay4 s y = s (ix2 (y 1) (y 2)) := by
  rw [eq_ix3 y]
  unfold k0_pay4
  pointwise

section
variable (c : Dev nD) (i : grid0.Coords) (arg3 : Memref sig .tc .vmem S2048x1024 .bf16) (harg3 : arg3.IsWhole)
  (arg4 : Memref sig .tc .vmem S2048x1792 .bf16) (harg4 : arg4.IsWhole) (arg5 : Memref sig .tc .vmem S1x1024x1792 .bf16) (harg5 : arg5.IsWhole)
  (arg6 : Memref sig .tc .vmem S1024x1792 .f32) (harg6 : arg6.IsWhole) (x : Vec Ideal S2048x1024 .bf16) (w : Vec Ideal S2048x1792 .bf16) (s : Vec Ideal S1024x1792 .f32)

/-- The first of four grid points leaves its product in the buffer. -/
theorem first (h0 : cond0_0 i) (h1 : ¬cond0_1 i) (h2 : ¬cond0_2 i) :
    sout0_A_0 c i arg3 harg3 arg4 harg4 arg5 harg5 arg6 harg6 h0 h1 h2 x w = tn x w := by
  unfold sout0_A_0
  rw [View.read_writes_eq_canon _ _ _ (scover0_A_0 c i arg3 harg3 arg4 harg4 arg5 harg5 arg6 harg6 h0 h1 h2 x w)]
  unfold kernelRun0_A
  dsimp only
  sl_unfold_words
  rw [View.canon_unit_zero zero2, pay2]
  simp only [View.readAt_eq_ld, harg3.read_unread, harg4.read_unread, View.ld_unit_zero (S := S2048x1024) zero2, View.ld_unit_zero (S := S2048x1792) zero2]

/-- The second and third add theirs. -/
theorem middle (h0 : ¬cond0_0 i) (h1 : cond0_1 i) (h2 : ¬cond0_2 i) :
    sout0_B_0 c i arg3 harg3 arg4 harg4 arg5 harg5 arg6 harg6 h0 h1 h2 x w s = fun y => s y + tn x w y := by
  unfold sout0_B_0
  rw [View.read_writes_eq_canon _ _ _ (scover0_B_0 c i arg3 harg3 arg4 harg4 arg5 harg5 arg6 harg6 h0 h1 h2 x w s)]
  unfold kernelRun0_B
  dsimp only
  sl_unfold_words
  rw [View.canon_unit_zero zero2]
  simp only [View.readAt_eq_ld, harg3.read_unread, harg4.read_unread, harg6.read_unread, View.ld_unit_zero (S := S2048x1024) zero2,
    View.ld_unit_zero (S := S2048x1792) zero2,
    View.ld_unit_zero (S := S1024x1792) zero2]
  exact pay3 x w s

/-- So does the fourth, … -/
theorem last (h0 : ¬cond0_0 i) (h1 : cond0_1 i) (h2 : cond0_2 i) :
    sout0_C_0 c i arg3 harg3 arg4 harg4 arg5 harg5 arg6 harg6 h0 h1 h2 x w s = fun y => s y + tn x w y := by
  unfold sout0_C_0
  rw [View.read_writes_eq_canon _ _ _ (scover0_C_0 c i arg3 harg3 arg4 harg4 arg5 harg5 arg6 harg6 h0 h1 h2 x w s)]
  unfold kernelRun0_C
  dsimp only
  sl_unfold_words
  rw [View.canon_unit_zero zero2]
  simp only [View.readAt_eq_ld, harg3.read_unread, harg4.read_unread, harg6.read_unread, View.ld_unit_zero (S := S2048x1024) zero2,
    View.ld_unit_zero (S := S2048x1792) zero2,
    View.ld_unit_zero (S := S1024x1792) zero2]
  exact pay3 x w s

/-- … which writes the sum to the result. -/
theorem written (h0 : ¬cond0_0 i) (h1 : cond0_1 i) (h2 : cond0_2 i) :
    out0_C_2 c i arg3 harg3 arg4 harg4 arg5 harg5 arg6 harg6 h0 h1 h2 x w s = fun y => s (ix2 (y 1) (y 2)) + tn x w (ix2 (y 1) (y 2)) := by
  funext y
  unfold out0_C_2
  rw [View.read_writes_eq_canon _ _ _ (cover0_C_2 c i arg3 harg3 arg4 harg4 arg5 harg5 arg6 harg6 h0 h1 h2 x w s)]
  unfold kernelRun0_C
  dsimp only
  sl_unfold_words
  rw [View.canon_unit_zero zero3, View.readCov_unit_zero (S := S1024x1792) _ zero2, pay4]
  simp only [View.readAt_eq_ld, harg3.read_unread, harg4.read_unread, harg6.read_unread, View.ld_unit_zero (S := S2048x1024) zero2,
    View.ld_unit_zero (S := S2048x1792) zero2, View.ld_unit_zero (S := S1024x1792) zero2]
  exact congrFun (pay3 x w s) _

end

theorem idx0 : ∀ t : Fin cfg0.N, win0_0.index t 0 = t.val % 4 ∧ win0_0.index t 1 = t.val / 32 := by decide +kernel
theorem idx1 : ∀ t : Fin cfg0.N, win0_1.index t 0 = t.val % 4 ∧ win0_1.index t 1 = t.val / 4 % 8 := by decide +kernel
theorem idx2 : ∀ t : Fin cfg0.N, win0_2.index t 0 = t.val / 4 % 8 / 2 ∧ win0_2.index t 1 = t.val / 32 ∧ win0_2.index t 2 = t.val / 4 % 8 % 2 := by
  decide +kernel

/-- The column of all that is column `k` of part `p`. -/
def col (p : Fin 4) (k : Fin 3584) : Fin 14336 := ⟨p.val * 3584 + k.val, by omega⟩

/-- The weights' gradient, its columns in four parts. -/
def O (a : S8192x2048.Idx → EReal) (b : S8192x14336.Idx → EReal) : S4x2048x3584.Idx → EReal :=
  fun z => tn (n := 2048) (p := 14336) a b (ix2 (z 1) (col (z 0) (z 2)))

variable (m : (ℓ : Loc nD τ sig) → Buf (Elt Ideal) ℓ) (c : Dev nD)

/-- The blocks a grid point reads. -/
theorem blk0 (t : Fin cfg0.N) (k : Fin 2048) (a : Fin 1024) (b : Fin 2048) (e : b.val = t.val / 32 * 1024 + 1 * a.val) :
    (iblk m c 0 t : Vec Ideal S2048x1024 .bf16) (ix2 k a) = m ((c : Thread nD τ).loc main_arg0) (ix2 (row (t.val % 4) k) b) := by
  unfold iblk
  rw [View.read_apply]
  show V m c main_arg0 _ = m (c.tc.loc main_arg0) _
  rw [V_main_arg0]
  refine congrArg _ (ext2 _ _ ?_ ?_)
  · show win0_0.index t 0 * 2048 + 1 * k.val = (t.val % 4 * 2048 + 1 * k.val) % 8192
    rw [(idx0 t).1]; omega
  · show win0_0.index t 1 * 1024 + 1 * a.val = b.val
    rw [(idx0 t).2, e]

theorem blk1 (t : Fin cfg0.N) (k : Fin 2048) (a : Fin 1792) (b : Fin 14336) (e : b.val = t.val / 4 % 8 * 1792 + 1 * a.val) :
    (iblk m c 1 t : Vec Ideal S2048x1792 .bf16) (ix2 k a) = m ((c : Thread nD τ).loc main_arg1) (ix2 (row (t.val % 4) k) b) := by
  unfold iblk
  rw [View.read_apply]
  show V m c main_arg1 _ = m (c.tc.loc main_arg1) _
  rw [V_main_arg1]
  refine congrArg _ (ext2 _ _ ?_ ?_)
  · show win0_1.index t 0 * 2048 + 1 * k.val = (t.val % 4 * 2048 + 1 * k.val) % 8192
    rw [(idx1 t).1]; omega
  · show win0_1.index t 1 * 1792 + 1 * a.val = b.val
    rw [(idx1 t).2, e]

/-- An index of the block that grid point `n` works on is this one of the product. -/
def At (n : ℕ) (y : S1024x1792.Idx) (z : (Shape.mk 2 ![2048, 14336]).Idx) : Prop :=
  (z 0).val = n / 32 * 1024 + 1 * (y 0).val ∧ (z 1).val = n / 4 % 8 * 1792 + 1 * (y 1).val

/-- What a grid point adds. -/
theorem adds (t : Fin cfg0.N) (y : S1024x1792.Idx) (z : (Shape.mk 2 ![2048, 14336]).Idx) (h : At t.val y z) :
    tn (iblk m c 0 t : Vec Ideal S2048x1024 .bf16) (iblk m c 1 t : Vec Ideal S2048x1792 .bf16) y
      = part (m ((c : Thread nD τ).loc main_arg0)) (m ((c : Thread nD τ).loc main_arg1)) (t.val % 4) z :=
  Finset.sum_congr rfl fun k _ => congrArg₂ (fun a b : EReal => a * b) (blk0 m c t k (y 0) (z 0) h.1) (blk1 m c t k (y 1) (z 1) h.2)

/-- After a grid point the buffer holds the parts added so far. -/
theorem sums (n : ℕ) (hn : n < cfg0.N) (y : S1024x1792.Idx) (z : (Shape.mk 2 ![2048, 14336]).Idx) (h : At n y z) :
    (outsAt0 m c n hn).2 y = ∑ j ∈ Finset.range (n % 4 + 1),
      part (m ((c : Thread nD τ).loc main_arg0)) (m ((c : Thread nD τ).loc main_arg1)) j z := by
  refine carried (fun n hn => (outsAt0 m c n hn).2) At _ (fun n hn h0 y z h => ?_) (fun n h0 y z h => ?_) (fun n hn h0 y z h => ?_) n hn y z h
  · have e := congrArg Prod.snd (outsAt0_A m c ⟨n, hn⟩ h0 (by show ¬1 ≤ n % 4; omega) (by show ¬n % 4 = 3; omega))
    rw [first] at e
    refine (congrFun e y).trans ((adds m c ⟨n, hn⟩ y z h).trans ?_)
    exact congrArg (fun j => part _ _ j z) h0
  · have d1 : (n + 1) / 32 = n / 32 := by omega
    have d2 : (n + 1) / 4 = n / 4 := by omega
    unfold At at h
    rwa [d1, d2] at h
  · refine Eq.trans ?_ (congrArg (_ + ·) (adds m c ⟨n + 1, hn⟩ y z h))
    by_cases h3 : (n + 1) % 4 = 3
    · have e := congrArg Prod.snd (outsAt0_C m c ⟨n + 1, hn⟩ h0 (by show 1 ≤ (n + 1) % 4; omega) h3)
      rw [last] at e
      exact congrFun e y
    · have e := congrArg Prod.snd (outsAt0_B m c ⟨n + 1, hn⟩ h0 (by show 1 ≤ (n + 1) % 4; omega) h3)
      rw [middle] at e
      exact congrFun e y

/-- The array the launch leaves. -/
theorem final : (dats m 0 c).arrAt 2 cfg0.N = O (m ((c : Thread nD τ).loc main_arg0)) (m ((c : Thread nD τ).loc main_arg1)) := by
  refine (dats m 0 c).arrAt_eq_of_covers 2 _ (by decide +kernel) fun t hf y => ?_
  have h3 : t.val % 4 = 3 := (flush0_2 t).mp hf
  refine (?_ : _ = (outsAt0 m c t.val t.isLt).1 y).trans ?_
  · blk_simp
    rw [after0_2]
  have e := outsAt0_C m c t (by omega) (by omega) h3
  have e1 := congrArg Prod.fst e
  have e2 := congrArg Prod.snd e
  rw [written] at e1
  rw [last] at e2
  refine (congrFun e1 y).trans ((congrFun e2.symm (ix2 (y 1) (y 2))).trans ?_)
  clear e e1 e2
  have hz0 : (((cfg0.win 2).blk t).view.emb y 0).val = win0_2.index t 0 * 1 + 1 * (y 0).val := rfl
  have hz1 : (((cfg0.win 2).blk t).view.emb y 1).val = win0_2.index t 1 * 1024 + 1 * (y 1).val := rfl
  have hz2 : (((cfg0.win 2).blk t).view.emb y 2).val = win0_2.index t 2 * 1792 + 1 * (y 2).val := rfl
  have hy : (y 0).val < 1 := (y 0).isLt
  rw [(idx2 t).1] at hz0
  rw [(idx2 t).2.1] at hz1
  rw [(idx2 t).2.2] at hz2
  refine (sums m c t.val t.isLt (ix2 (y 1) (y 2)) (ix2 (((cfg0.win 2).blk t).view.emb y 1)
    (col (((cfg0.win 2).blk t).view.emb y 0) (((cfg0.win 2).blk t).view.emb y 2))) ⟨?_, ?_⟩).trans ?_
  · exact hz1
  · show (((cfg0.win 2).blk t).view.emb y 0).val * 3584 + (((cfg0.win 2).blk t).view.emb y 2).val = t.val / 4 % 8 * 1792 + 1 * (y 2).val
    rw [hz0, hz2]; omega
  rw [h3]
  exact sum_parts _ _ _

open Cert.InWeightsReferenceIdeal.Read in
/-- The reference's result. -/
theorem ref_eq (a : S8192x2048.Idx → EReal) (b : S8192x14336.Idx → EReal) : val_main_v8 (F := Ideal) a b = O a b := by
  funext z
  have h0 : (z 0).val < 4 := (z 0).isLt
  have h1 : (z 1).val < 2048 := (z 1).isLt
  have h2 : (z 2).val < 3584 := (z 2).isLt
  rw [val_main_v8_apply, val_main_v7_apply, val_main_v6_apply, val_main_v5_apply]
  unfold O tn
  refine (val_main_v4_apply a b _).trans (Finset.sum_congr rfl fun k _ => ?_)
  refine (mul_comm _ _).trans (congrArg₂ (fun a b : EReal => a * b) ?_ ?_)
  · refine congrArg a (ext2 _ _ rfl ?_)
    show (((z 1).val * 4 + (z 0).val) * 3584 + (z 2).val) / 14336 = (z 1).val
    omega
  · refine congrArg b (ext2 _ _ rfl ?_)
    show (((z 1).val * 4 + (z 0).val) * 3584 + (z 2).val) % 14336 = (z 0).val * 3584 + (z 2).val
    omega

end Cert.Products.InWeights
-- ==== Proof.Products.InC.lean ====
/- The product that begins the second mixer, the columns of its weights in four parts: what the launch leaves, and that the reference
   leaves the same. -/
module

public import proofs.«01_k».proof.Proof.Products.Common
public import proofs.«01_k».proof.Proof.Gen.InCIdeal.Value
public import proofs.«01_k».proof.Proof.Gen.InCReferenceIdeal.Read
public import Idealize.ShloMosaic.Lib.Claim
public import Idealize.ShloMosaic.Lib.Pipeline.ValueKit

@[expose] public section

set_option maxRecDepth 16384

noncomputable section

namespace Cert.Products.InC

open Idealize.ShloMosaic Idealize.ShloMosaic.TcCoe Idealize.SL.Sem Cert.InCIdeal Cert.InCIdeal.Gen
open Idealize.ShloMosaic.Pipeline (Dat)

/-- A grid point's block, an index at a time. -/
theorem out_apply (x : Vec Ideal S1024x2048 .bf16) (w : Vec Ideal S1x2048x1024 .bf16) (y : S1024x1024.Idx) :
    out0_2 x w y = ∑ k : Fin 2048, x (ix2 (y 0) k) * w (ix3 0 k (y 1)) := by
  unfold out0_2
  rw [View.canon_unit_zero zero2, View.ld_unit_zero (S := S1024x2048) zero2, View.ld_unit_zero (S := S1x2048x1024) zero3, eq_ix2 y]
  unfold k0_pay1
  pointwise

theorem idx0 : ∀ t : Fin cfg0.N, win0_0.index t 0 = win0_2.index t 0 ∧ win0_0.index t 1 = 0 := by decide +kernel
theorem idx1 : ∀ t : Fin cfg0.N, win0_1.index t 0 = win0_2.index t 1 / 3 ∧ win0_1.index t 1 = 0 ∧ win0_1.index t 2 = win0_2.index t 1 % 3 := by
  decide +kernel
theorem idx2 : ∀ t : Fin cfg0.N, win0_2.index t 1 < 12 := by decide +kernel

/-- The part that holds a column, and the column's position in it. -/
def partOf (k : Fin 12288) : Fin 4 := ⟨k.val / 3072, by omega⟩
def posOf (k : Fin 12288) : Fin 3072 := ⟨k.val % 3072, Nat.mod_lt _ (by decide)⟩

/-- The weights' four parts side by side. -/
def wide (w : S4x2048x3072.Idx → EReal) : (Shape.mk 2 ![2048, 12288]).Idx → EReal := fun z => w (ix3 (partOf (z 1)) (z 0) (posOf (z 1)))

variable (m : (ℓ : Loc nD τ sig) → Buf (Elt Ideal) ℓ) (c : Dev nD)

/-- The blocks a grid point reads. -/
theorem blk0 (t : Fin cfg0.N) (x : S1024x2048.Idx) (z : S8192x2048.Idx) (e0 : (z 0).val = win0_2.index t 0 * 1024 + 1 * (x 0).val)
    (e1 : (z 1).val = (x 1).val) : (iblk m c 0 t : Vec Ideal S1024x2048 .bf16) x = m ((c : Thread nD τ).loc main_arg0) z := by
  unfold iblk
  rw [View.read_apply]
  show V m c main_arg0 _ = m (c.tc.loc main_arg0) _
  rw [V_main_arg0]
  refine congrArg _ (ext2 _ _ ?_ ?_)
  · show win0_0.index t 0 * 1024 + 1 * (x 0).val = (z 0).val
    rw [(idx0 t).1, e0]
  · show win0_0.index t 1 * 2048 + 1 * (x 1).val = (z 1).val
    rw [(idx0 t).2, e1]; omega

theorem blk1 (t : Fin cfg0.N) (k : Fin 2048) (a : Fin 1024) (b : Fin 12288) (e : b.val = win0_2.index t 1 * 1024 + 1 * a.val) :
    (iblk m c 1 t : Vec Ideal S1x2048x1024 .bf16) (ix3 0 k a) = wide (m ((c : Thread nD τ).loc main_arg1)) (ix2 k b) := by
  have ha : a.val < 1024 := a.isLt
  have ht := idx2 t
  unfold iblk
  rw [View.read_apply]
  show V m c main_arg1 _ = m (c.tc.loc main_arg1) _
  rw [V_main_arg1]
  refine congrArg _ (ext3 _ _ ?_ ?_ ?_)
  · show win0_1.index t 0 * 1 + 1 * 0 = b.val / 3072
    rw [(idx1 t).1, e]; omega
  · show win0_1.index t 1 * 2048 + 1 * k.val = k.val
    rw [(idx1 t).2.1]; omega
  · show win0_1.index t 2 * 1024 + 1 * a.val = b.val % 3072
    rw [(idx1 t).2.2, e]; omega

/-- The array the launch leaves. -/
theorem final : (dats m 0 c).arrAt 2 cfg0.N = nn (m ((c : Thread nD τ).loc main_arg0)) (wide (m ((c : Thread nD τ).loc main_arg1))) := by
  refine (dats m 0 c).arrAt_eq_of_covers 2 _ (by decide +kernel) fun t hf y => ?_
  refine (?_ : _ = out0_2 (iblk m c 0 t) (iblk m c 1 t) y).trans ?_
  · blk_simp
    rw [after0_2]
  rw [out_apply]
  refine Finset.sum_congr rfl fun k _ => ?_
  exact congrArg₂ (fun a b : EReal => a * b) (blk0 m c t _ _ rfl rfl) (blk1 m c t _ _ _ rfl)

open Cert.InCReferenceIdeal.Read in
/-- The reference's result. -/
theorem ref_eq (x : S8192x2048.Idx → EReal) (w : S4x2048x3072.Idx → EReal) : val_main_v5 (F := Ideal) x w = nn x (wide w) := by
  funext y
  rw [val_main_v5_apply]
  refine (val_main_v4_apply x w y).trans (Finset.sum_congr rfl fun k _ => congrArg₂ (fun a b : EReal => a * b) ?_ ?_)
  · exact congrArg x (ext2 _ _ rfl rfl)
  · rw [val_main_v2_apply, val_main_v1_apply]
    have hk : k.val < 2048 := k.isLt
    have hy : (y 1).val < 12288 := (y 1).isLt
    refine congrArg w (ext3 _ _ ?_ ?_ ?_)
    · show (k.val * 12288 + (y 1).val) / 3072 % 4 = (y 1).val / 3072
      omega
    · show (k.val * 12288 + (y 1).val) / 12288 = k.val
      omega
    · show (k.val * 12288 + (y 1).val) % 3072 = (y 1).val % 3072
      omega

end Cert.Products.InC
-- ==== Proof.Products.OutC.lean ====
/- The product with 4096×2048 weights, added to another array: what the launch leaves, and that the reference
   leaves the same. -/
module

public import proofs.«01_k».proof.Proof.Products.Common
public import proofs.«01_k».proof.Proof.Gen.OutCIdeal.Value
public import proofs.«01_k».proof.Proof.Gen.OutCReferenceIdeal.Read
public import Idealize.ShloMosaic.Lib.Claim
public import Idealize.ShloMosaic.Lib.Pipeline.ValueKit

@[expose] public section

set_option maxRecDepth 16384

noncomputable section

namespace Cert.Products.OutC

open Idealize.ShloMosaic Idealize.ShloMosaic.TcCoe Idealize.SL.Sem Cert.OutCIdeal Cert.OutCIdeal.Gen
open Idealize.ShloMosaic.Pipeline (Dat)

/-- A grid point's block, an index at a time. -/
theorem out_apply (x : Vec Ideal S1024x4096 .bf16) (w : Vec Ideal S4096x512 .bf16) (h : Vec Ideal S1024x512 .f32) (y : S1024x512.Idx) :
    out0_3 x w h y = nn x w y + h y := by
  unfold out0_3
  rw [View.canon_unit_zero zero2, View.ld_unit_zero (S := S1024x4096) zero2, View.ld_unit_zero (S := S4096x512) zero2, View.ld_unit_zero (S := S1024x512) zero2, eq_ix2 y]
  unfold k0_pay1 nn
  pointwise

theorem idx0 : ∀ t : Fin cfg0.N, win0_0.index t 0 = win0_3.index t 0 ∧ win0_0.index t 1 = 0 := by decide +kernel
theorem idx1 : ∀ t : Fin cfg0.N, win0_1.index t 0 = 0 ∧ win0_1.index t 1 = win0_3.index t 1 := by decide +kernel
theorem idx2 : ∀ t : Fin cfg0.N, win0_2.index t 0 = win0_3.index t 0 ∧ win0_2.index t 1 = win0_3.index t 1 := by decide +kernel

variable (m : (ℓ : Loc nD τ sig) → Buf (Elt Ideal) ℓ) (c : Dev nD)

/-- The blocks a grid point reads. -/
theorem blk0 (t : Fin cfg0.N) (x : S1024x4096.Idx) (z : S8192x4096.Idx) (e0 : (z 0).val = win0_3.index t 0 * 1024 + 1 * (x 0).val)
    (e1 : (z 1).val = (x 1).val) : (iblk m c 0 t : Vec Ideal S1024x4096 .bf16) x = m ((c : Thread nD τ).loc main_arg0) z := by
  unfold iblk
  rw [View.read_apply]
  show V m c main_arg0 _ = m (c.tc.loc main_arg0) _
  rw [V_main_arg0]
  refine congrArg _ (ext2 _ _ ?_ ?_)
  · show win0_0.index t 0 * 1024 + 1 * (x 0).val = (z 0).val
    rw [(idx0 t).1, e0]
  · show win0_0.index t 1 * 4096 + 1 * (x 1).val = (z 1).val
    rw [(idx0 t).2, e1]; omega

theorem blk1 (t : Fin cfg0.N) (x : S4096x512.Idx) (z : S4096x2048.Idx) (e0 : (z 0).val = (x 0).val)
    (e1 : (z 1).val = win0_3.index t 1 * 512 + 1 * (x 1).val) : (iblk m c 1 t : Vec Ideal S4096x512 .bf16) x = m ((c : Thread nD τ).loc main_arg1) z := by
  unfold iblk
  rw [View.read_apply]
  show V m c main_arg1 _ = m (c.tc.loc main_arg1) _
  rw [V_main_arg1]
  refine congrArg _ (ext2 _ _ ?_ ?_)
  · show win0_1.index t 0 * 4096 + 1 * (x 0).val = (z 0).val
    rw [(idx1 t).1, e0]; omega
  · show win0_1.index t 1 * 512 + 1 * (x 1).val = (z 1).val
    rw [(idx1 t).2, e1]

theorem blk2 (t : Fin cfg0.N) (x : S1024x512.Idx) (z : S8192x2048.Idx) (e0 : (z 0).val = win0_3.index t 0 * 1024 + 1 * (x 0).val)
    (e1 : (z 1).val = win0_3.index t 1 * 512 + 1 * (x 1).val) : (iblk m c 2 t : Vec Ideal S1024x512 .f32) x = m ((c : Thread nD τ).loc main_arg2) z := by
  unfold iblk
  rw [View.read_apply]
  show V m c main_arg2 _ = m (c.tc.loc main_arg2) _
  rw [V_main_arg2]
  refine congrArg _ (ext2 _ _ ?_ ?_)
  · show win0_2.index t 0 * 1024 + 1 * (x 0).val = (z 0).val
    rw [(idx2 t).1, e0]
  · show win0_2.index t 1 * 512 + 1 * (x 1).val = (z 1).val
    rw [(idx2 t).2, e1]

/-- The product, added to `h`. -/
def O (x : S8192x4096.Idx → EReal) (w : S4096x2048.Idx → EReal) (h : S8192x2048.Idx → EReal) : S8192x2048.Idx → EReal :=
  fun y => h y + nn x w y

/-- The array the launch leaves. -/
theorem final : (dats m 0 c).arrAt 3 cfg0.N = O (m ((c : Thread nD τ).loc main_arg0)) (m ((c : Thread nD τ).loc main_arg1))
    (m ((c : Thread nD τ).loc main_arg2)) := by
  refine (dats m 0 c).arrAt_eq_of_covers 3 _ (by decide +kernel) fun t hf y => ?_
  refine (?_ : _ = out0_3 (iblk m c 0 t) (iblk m c 1 t) (iblk m c 2 t) y).trans ?_
  · blk_simp
    rw [after0_3]
  rw [out_apply]
  refine (add_comm _ _).trans (congrArg₂ (fun a b : EReal => a + b) (blk2 m c t _ _ rfl rfl) (Finset.sum_congr rfl fun k _ => ?_))
  exact congrArg₂ (fun a b : EReal => a * b) (blk0 m c t _ _ rfl rfl) (blk1 m c t _ _ rfl rfl)

open Cert.OutCReferenceIdeal.Read in
/-- The reference's result. -/
theorem ref_eq (x : S8192x4096.Idx → EReal) (w : S4096x2048.Idx → EReal) (h : S8192x2048.Idx → EReal) : val_main_v3 (F := Ideal) x w h = O x w h := by
  funext y
  rw [val_main_v3_apply]
  refine congrArg (h y + ·) ((val_main_v2_apply x w y).trans (Finset.sum_congr rfl fun k _ => congrArg₂ (fun a b : EReal => a * b) ?_ ?_))
  · exact congrArg x (ext2 _ _ rfl rfl)
  · exact congrArg w (ext2 _ _ rfl rfl)

end Cert.Products.OutC
-- ==== Proof.Products.CrossQ.lean ====
/- The product with 2048×2048 weights: what the launch leaves, and that the reference
   leaves the same. -/
module

public import proofs.«01_k».proof.Proof.Products.Common
public import proofs.«01_k».proof.Proof.Gen.CrossQIdeal.Value
public import proofs.«01_k».proof.Proof.Gen.CrossQReferenceIdeal.Read
public import Idealize.ShloMosaic.Lib.Claim
public import Idealize.ShloMosaic.Lib.Pipeline.ValueKit

@[expose] public section

set_option maxRecDepth 16384

noncomputable section

namespace Cert.Products.CrossQ

open Idealize.ShloMosaic Idealize.ShloMosaic.TcCoe Idealize.SL.Sem Cert.CrossQIdeal Cert.CrossQIdeal.Gen
open Idealize.ShloMosaic.Pipeline (Dat)

/-- A grid point's block, an index at a time. -/
theorem out_apply (x : Vec Ideal S1024x2048 .bf16) (w : Vec Ideal S2048x1024 .bf16) (y : S1024x1024.Idx) :
    out0_2 x w y = nn x w y := by
  unfold out0_2
  rw [View.canon_unit_zero zero2, View.ld_unit_zero (S := S1024x2048) zero2, View.ld_unit_zero (S := S2048x1024) zero2, eq_ix2 y]
  unfold k0_pay1 nn
  pointwise

theorem idx0 : ∀ t : Fin cfg0.N, win0_0.index t 0 = win0_2.index t 0 ∧ win0_0.index t 1 = 0 := by decide +kernel
theorem idx1 : ∀ t : Fin cfg0.N, win0_1.index t 0 = 0 ∧ win0_1.index t 1 = win0_2.index t 1 := by decide +kernel

variable (m : (ℓ : Loc nD τ sig) → Buf (Elt Ideal) ℓ) (c : Dev nD)

/-- The blocks a grid point reads. -/
theorem blk0 (t : Fin cfg0.N) (x : S1024x2048.Idx) (z : S8192x2048.Idx) (e0 : (z 0).val = win0_2.index t 0 * 1024 + 1 * (x 0).val)
    (e1 : (z 1).val = (x 1).val) : (iblk m c 0 t : Vec Ideal S1024x2048 .bf16) x = m ((c : Thread nD τ).loc main_arg0) z := by
  unfold iblk
  rw [View.read_apply]
  show V m c main_arg0 _ = m (c.tc.loc main_arg0) _
  rw [V_main_arg0]
  refine congrArg _ (ext2 _ _ ?_ ?_)
  · show win0_0.index t 0 * 1024 + 1 * (x 0).val = (z 0).val
    rw [(idx0 t).1, e0]
  · show win0_0.index t 1 * 2048 + 1 * (x 1).val = (z 1).val
    rw [(idx0 t).2, e1]; omega

theorem blk1 (t : Fin cfg0.N) (x : S2048x1024.Idx) (z : S2048x2048.Idx) (e0 : (z 0).val = (x 0).val)
    (e1 : (z 1).val = win0_2.index t 1 * 1024 + 1 * (x 1).val) : (iblk m c 1 t : Vec Ideal S2048x1024 .bf16) x = m ((c : Thread nD τ).loc main_arg1) z := by
  unfold iblk
  rw [View.read_apply]
  show V m c main_arg1 _ = m (c.tc.loc main_arg1) _
  rw [V_main_arg1]
  refine congrArg _ (ext2 _ _ ?_ ?_)
  · show win0_1.index t 0 * 2048 + 1 * (x 0).val = (z 0).val
    rw [(idx1 t).1, e0]; omega
  · show win0_1.index t 1 * 1024 + 1 * (x 1).val = (z 1).val
    rw [(idx1 t).2, e1]

/-- The array the launch leaves. -/
theorem final : (dats m 0 c).arrAt 2 cfg0.N = nn (m ((c : Thread nD τ).loc main_arg0)) (m ((c : Thread nD τ).loc main_arg1)) := by
  refine (dats m 0 c).arrAt_eq_of_covers 2 _ (by decide +kernel) fun t hf y => ?_
  refine (?_ : _ = out0_2 (iblk m c 0 t) (iblk m c 1 t) y).trans ?_
  · blk_simp
    rw [after0_2]
  rw [out_apply]
  refine Finset.sum_congr rfl fun k _ => ?_
  exact congrArg₂ (fun a b : EReal => a * b) (blk0 m c t _ _ rfl rfl) (blk1 m c t _ _ rfl rfl)

open Cert.CrossQReferenceIdeal.Read in
/-- The reference's result. -/
theorem ref_eq (x : S8192x2048.Idx → EReal) (w : S2048x2048.Idx → EReal) : val_main_v3 (F := Ideal) x w = nn x w := by
  funext y
  rw [val_main_v3_apply]
  refine ((val_main_v2_apply x w y).trans (Finset.sum_congr rfl fun k _ => congrArg₂ (fun a b : EReal => a * b) ?_ ?_))
  · exact congrArg x (ext2 _ _ rfl rfl)
  · exact congrArg w (ext2 _ _ rfl rfl)

end Cert.Products.CrossQ
-- ==== Proof.Products.CrossO.lean ====
/- The product with 2048×2048 weights, added to another array: what the launch leaves, and that the reference
   leaves the same. -/
module

public import proofs.«01_k».proof.Proof.Products.Common
public import proofs.«01_k».proof.Proof.Gen.CrossOIdeal.Value
public import proofs.«01_k».proof.Proof.Gen.CrossOReferenceIdeal.Read
public import Idealize.ShloMosaic.Lib.Claim
public import Idealize.ShloMosaic.Lib.Pipeline.ValueKit

@[expose] public section

set_option maxRecDepth 16384

noncomputable section

namespace Cert.Products.CrossO

open Idealize.ShloMosaic Idealize.ShloMosaic.TcCoe Idealize.SL.Sem Cert.CrossOIdeal Cert.CrossOIdeal.Gen
open Idealize.ShloMosaic.Pipeline (Dat)

/-- A grid point's block, an index at a time. -/
theorem out_apply (x : Vec Ideal S1024x2048 .bf16) (w : Vec Ideal S2048x1024 .bf16) (h : Vec Ideal S1024x1024 .f32) (y : S1024x1024.Idx) :
    out0_3 x w h y = nn x w y + h y := by
  unfold out0_3
  rw [View.canon_unit_zero zero2, View.ld_unit_zero (S := S1024x2048) zero2, View.ld_unit_zero (S := S2048x1024) zero2, View.ld_unit_zero (S := S1024x1024) zero2, eq_ix2 y]
  unfold k0_pay1 nn
  pointwise

theorem idx0 : ∀ t : Fin cfg0.N, win0_0.index t 0 = win0_3.index t 0 ∧ win0_0.index t 1 = 0 := by decide +kernel
theorem idx1 : ∀ t : Fin cfg0.N, win0_1.index t 0 = 0 ∧ win0_1.index t 1 = win0_3.index t 1 := by decide +kernel
theorem idx2 : ∀ t : Fin cfg0.N, win0_2.index t 0 = win0_3.index t 0 ∧ win0_2.index t 1 = win0_3.index t 1 := by decide +kernel

variable (m : (ℓ : Loc nD τ sig) → Buf (Elt Ideal) ℓ) (c : Dev nD)

/-- The blocks a grid point reads. -/
theorem blk0 (t : Fin cfg0.N) (x : S1024x2048.Idx) (z : S8192x2048.Idx) (e0 : (z 0).val = win0_3.index t 0 * 1024 + 1 * (x 0).val)
    (e1 : (z 1).val = (x 1).val) : (iblk m c 0 t : Vec Ideal S1024x2048 .bf16) x = m ((c : Thread nD τ).loc main_arg0) z := by
  unfold iblk
  rw [View.read_apply]
  show V m c main_arg0 _ = m (c.tc.loc main_arg0) _
  rw [V_main_arg0]
  refine congrArg _ (ext2 _ _ ?_ ?_)
  · show win0_0.index t 0 * 1024 + 1 * (x 0).val = (z 0).val
    rw [(idx0 t).1, e0]
  · show win0_0.index t 1 * 2048 + 1 * (x 1).val = (z 1).val
    rw [(idx0 t).2, e1]; omega

theorem blk1 (t : Fin cfg0.N) (x : S2048x1024.Idx) (z : S2048x2048.Idx) (e0 : (z 0).val = (x 0).val)
    (e1 : (z 1).val = win0_3.index t 1 * 1024 + 1 * (x 1).val) : (iblk m c 1 t : Vec Ideal S2048x1024 .bf16) x = m ((c : Thread nD τ).loc main_arg1) z := by
  unfold iblk
  rw [View.read_apply]
  show V m c main_arg1 _ = m (c.tc.loc main_arg1) _
  rw [V_main_arg1]
  refine congrArg _ (ext2 _ _ ?_ ?_)
  · show win0_1.index t 0 * 2048 + 1 * (x 0).val = (z 0).val
    rw [(idx1 t).1, e0]; omega
  · show win0_1.index t 1 * 1024 + 1 * (x 1).val = (z 1).val
    rw [(idx1 t).2, e1]

theorem blk2 (t : Fin cfg0.N) (x : S1024x1024.Idx) (z : S8192x2048.Idx) (e0 : (z 0).val = win0_3.index t 0 * 1024 + 1 * (x 0).val)
    (e1 : (z 1).val = win0_3.index t 1 * 1024 + 1 * (x 1).val) : (iblk m c 2 t : Vec Ideal S1024x1024 .f32) x = m ((c : Thread nD τ).loc main_arg2) z := by
  unfold iblk
  rw [View.read_apply]
  show V m c main_arg2 _ = m (c.tc.loc main_arg2) _
  rw [V_main_arg2]
  refine congrArg _ (ext2 _ _ ?_ ?_)
  · show win0_2.index t 0 * 1024 + 1 * (x 0).val = (z 0).val
    rw [(idx2 t).1, e0]
  · show win0_2.index t 1 * 1024 + 1 * (x 1).val = (z 1).val
    rw [(idx2 t).2, e1]

/-- The product, added to `h`. -/
def O (x : S8192x2048.Idx → EReal) (w : S2048x2048.Idx → EReal) (h : S8192x2048.Idx → EReal) : S8192x2048.Idx → EReal :=
  fun y => h y + nn x w y

/-- The array the launch leaves. -/
theorem final : (dats m 0 c).arrAt 3 cfg0.N = O (m ((c : Thread nD τ).loc main_arg0)) (m ((c : Thread nD τ).loc main_arg1))
    (m ((c : Thread nD τ).loc main_arg2)) := by
  refine (dats m 0 c).arrAt_eq_of_covers 3 _ (by decide +kernel) fun t hf y => ?_
  refine (?_ : _ = out0_3 (iblk m c 0 t) (iblk m c 1 t) (iblk m c 2 t) y).trans ?_
  · blk_simp
    rw [after0_3]
  rw [out_apply]
  refine (add_comm _ _).trans (congrArg₂ (fun a b : EReal => a + b) (blk2 m c t _ _ rfl rfl) (Finset.sum_congr rfl fun k _ => ?_))
  exact congrArg₂ (fun a b : EReal => a * b) (blk0 m c t _ _ rfl rfl) (blk1 m c t _ _ rfl rfl)

open Cert.CrossOReferenceIdeal.Read in
/-- The reference's result. -/
theorem ref_eq (x : S8192x2048.Idx → EReal) (w : S2048x2048.Idx → EReal) (h : S8192x2048.Idx → EReal) : val_main_v3 (F := Ideal) x w h = O x w h := by
  funext y
  rw [val_main_v3_apply]
  refine congrArg (h y + ·) ((val_main_v2_apply x w y).trans (Finset.sum_congr rfl fun k _ => congrArg₂ (fun a b : EReal => a * b) ?_ ?_))
  · exact congrArg x (ext2 _ _ rfl rfl)
  · exact congrArg w (ext2 _ _ rfl rfl)

end Cert.Products.CrossO
-- ==== Proof.Cross.Spec.lean ====
/- Attention over the memory, one row of queries of one head at a time, over the extended reals. -/
module

public import proofs.«01_k».proof.Proof.Equation

@[expose] public section

noncomputable section

namespace Cert.Cross

open Idealize.ShloMosaic Cert.Sgu

/-- The column of head `h` that is its `d`-th. -/
def col (h : Fin 4) (d : Fin 512) : Fin 2048 := ⟨h.val * 512 + d.val, by have := h.isLt; have := d.isLt; omega⟩

/-- The head a column is of, and its place in the head. -/
def headOf (z : Fin 2048) : Fin 4 := ⟨z.val / 512, by have := z.isLt; omega⟩
def dimOf (z : Fin 2048) : Fin 512 := ⟨z.val % 512, by omega⟩

theorem col_of (z : Fin 2048) : col (headOf z) (dimOf z) = z := by
  apply Fin.ext
  show z.val / 512 * 512 + z.val % 512 = z.val
  omega

/-- The factor of the scores. -/
def sc : EReal := Ideal.ofBits .f32 0x3D3504F3#32

/-- A row of queries, keys or values of a head. -/
def rowOf {n : ℕ} (x : (Shape.mk 2 ![n, 2048]).Idx → EReal) (h : Fin 4) (r : Fin n) : Fin 512 → EReal := fun d => x (ix2 r (col h d))

/-- The scores of a row of queries against the keys. -/
def scores (a : Fin 512 → EReal) (b : Fin 256 → Fin 512 → EReal) : Fin 256 → EReal := fun j => (∑ d, a d * b j d) * sc

/-- The greatest score, the exponentials below it, their sum and their shares. -/
def top (s : Fin 256 → EReal) : EReal := Finset.univ.fold max (Ideal.ofBits .f32 0xFF800000#32) s
def num (s : Fin 256 → EReal) (j : Fin 256) : EReal := Ideal.exp (s j - top s)
def den (s : Fin 256 → EReal) : EReal := ∑ j, num s j
def prob (s : Fin 256 → EReal) (j : Fin 256) : EReal := Ideal.div (num s j) (den s)

/-- The logarithm of the sum of the exponentials of the scores. -/
def lse (s : Fin 256 → EReal) : EReal := top s + Ideal.log (den s)

/-- The mean of the values, each times its share. -/
def mean (s : Fin 256 → EReal) (v : Fin 256 → Fin 512 → EReal) (d : Fin 512) : EReal := ∑ j, v j d * prob s j

/-- A product with a positive real goes into a sum. -/
theorem sum_mul_pos {ι : Type*} (t : Finset ι) (f : ι → EReal) {r : ℝ} (hr : 0 ≤ r) : (∑ j ∈ t, f j) * (r : EReal) = ∑ j ∈ t, f j * (r : EReal) := by
  classical
  induction t using Finset.induction_on with
  | empty => simp
  | insert a t h ih =>
    rw [Finset.sum_insert h, Finset.sum_insert h, ← ih]
    exact EReal.right_distrib_of_nonneg_of_ne_top (EReal.coe_nonneg.mpr hr) (EReal.coe_ne_top r) _ _

/-- The greater of two reals is real. -/
theorem real_max {x y : EReal} (hx : IsReal x) (hy : IsReal y) : IsReal (max x y) := by
  rcases max_choice x y with h | h <;> rw [h] <;> assumption

/-- A least value is the least. -/
theorem least : Ideal.ofBits .f32 0xFF800000#32 = ⊥ := by simp [Ideal.ofBits, Ideal.ieee]

/-- The scores' factor is a positive real number. -/
theorem sc_eq : sc = ((11863283 / 2 ^ 28 : ℝ) : EReal) := by
  simp [sc, Ideal.ofBits, Ideal.ieee, -EReal.coe_mul]; norm_num

theorem real_sc : IsReal sc := ⟨_, sc_eq⟩

theorem real_scores {a : Fin 512 → EReal} {b : Fin 256 → Fin 512 → EReal} (ha : ∀ d, IsReal (a d)) (hb : ∀ j d, IsReal (b j d)) (j : Fin 256) :
    IsReal (scores a b j) := (IsReal.sum fun d => (ha d).mul (hb j d)).mul real_sc

section
variable {s : Fin 256 → EReal} (hs : ∀ j, IsReal (s j))
include hs

/-- The greatest score is a real number. -/
theorem real_top : IsReal (top s) := by
  classical
  have H : ∀ t : Finset (Fin 256), t.Nonempty → IsReal (t.fold max ⊥ s) := by
    intro t
    induction t using Finset.induction_on with
    | empty => intro h; exact absurd h (by simp)
    | insert a t h ih =>
      intro _
      rw [Finset.fold_insert h]
      rcases t.eq_empty_or_nonempty with e | e
      · rw [e, Finset.fold_empty, max_bot_right]; exact hs a
      · exact real_max (hs a) (ih e)
  unfold top
  rw [least]
  exact H _ Finset.univ_nonempty

/-- The scores, their greatest, the exponentials and the sum as real numbers. -/
theorem row : ∃ (x : Fin 256 → ℝ) (t D : ℝ), 0 < D ∧ D = ∑ j, Real.exp (x j - t) ∧ (∀ j, s j = (x j : EReal)) ∧ top s = (t : EReal) ∧
    (∀ j, num s j = (Real.exp (x j - t) : EReal)) ∧ den s = (D : EReal) := by
  obtain ⟨t, ht⟩ := real_top hs
  choose x hx using hs
  have hn : ∀ j, num s j = (Real.exp (x j - t) : EReal) := fun j => by
    unfold num
    rw [ht, hx j, ← EReal.coe_sub, Ideal.exp_coe]
  refine ⟨x, t, ∑ j, Real.exp (x j - t), Finset.sum_pos (fun j _ => Real.exp_pos _) Finset.univ_nonempty, rfl, hx, ht, hn, ?_⟩
  unfold den
  rw [coe_sum]
  exact Finset.sum_congr rfl fun j _ => hn j

/-- A share is real. -/
theorem real_prob (j : Fin 256) : IsReal (prob s j) := by
  obtain ⟨x, t, D, hD, -, -, -, hn, hd⟩ := row hs
  unfold prob
  rw [hn, hd, Ideal.div_coe hD.ne', ← EReal.coe_mul]
  exact .coe _

/-- The logarithm of the sum is real. -/
theorem real_lse : IsReal (lse s) := by
  obtain ⟨x, t, D, hD, -, -, ht, hn, hd⟩ := row hs
  unfold lse
  rw [ht, hd, Ideal.log_coe, if_neg (not_le.mpr hD), ← EReal.coe_add]
  exact .coe _

/-- A share is an exponential of the score less the logarithm. -/
theorem exp_lse (j : Fin 256) : Ideal.exp (s j - lse s) = prob s j := by
  obtain ⟨x, t, D, hD, -, hx, ht, hn, hd⟩ := row hs
  unfold prob lse
  rw [ht, hn, hd, hx, Ideal.log_coe, if_neg (not_le.mpr hD), Ideal.div_coe hD.ne', ← EReal.coe_add, ← EReal.coe_sub, Ideal.exp_coe, ← EReal.coe_mul,
    EReal.coe_eq_coe_iff, show x j - (t + Real.log D) = (x j - t) - Real.log D by ring, Real.exp_sub, Real.exp_log hD, mul_one_div]

/-- The logarithm with and without the greatest score taken off. -/
theorem log_sum : Ideal.log (∑ j, Ideal.exp (s j)) = lse s := by
  obtain ⟨x, t, D, hD, eD, hx, ht, hn, hd⟩ := row hs
  have e : ∑ j, Ideal.exp (s j) = ((Real.exp t * D : ℝ) : EReal) := by
    rw [eD, Finset.mul_sum, coe_sum]
    exact Finset.sum_congr rfl fun j _ => by rw [hx, Ideal.exp_coe, ← Real.exp_add]; ring_nf
  have h0 : 0 < Real.exp t * D := mul_pos (Real.exp_pos t) hD
  unfold lse
  rw [e, ht, hd, Ideal.log_coe, Ideal.log_coe, if_neg (not_le.mpr hD), if_neg (not_le.mpr h0), ← EReal.coe_add,
    Real.log_mul (Real.exp_pos t).ne' hD.ne', Real.log_exp]

/-- The mean, divided before and after. -/
theorem mean_eq (v : Fin 256 → Fin 512 → EReal) (d : Fin 512) : Ideal.div (∑ j, num s j * v j d) (den s) = mean s v d := by
  obtain ⟨x, t, D, hD, -, -, -, hn, hd⟩ := row hs
  unfold mean prob
  rw [hd, Ideal.div_coe hD.ne', sum_mul_pos _ _ (by positivity)]
  refine Finset.sum_congr rfl fun j _ => ?_
  rw [Ideal.div_coe hD.ne', mul_comm (num s j), mul_assoc]

end

section
variable {s p : Fin 256 → EReal} (hs : ∀ j, IsReal (s j)) (hp : ∀ j, IsReal (p j))
include hs hp

/-- The gradient of a score, divided before and after the sum. -/
theorem grad_eq (j : Fin 256) :
    (Ideal.div (p j) (den s) + -(∑ i, p i * Ideal.div 1 (den s * den s) * num s i)) * num s j = prob s j * (p j - ∑ i, p i * prob s i) := by
  obtain ⟨x, t, D, hD, -, -, -, hn, hd⟩ := row hs
  choose y hy using hp
  have e1 : ∑ i, p i * Ideal.div 1 (den s * den s) * num s i = ((1 / D * ∑ i, y i * (Real.exp (x i - t) * (1 / D)) : ℝ) : EReal) := by
    rw [Finset.mul_sum, coe_sum]
    refine Finset.sum_congr rfl fun i _ => ?_
    rw [hy, hd, hn, ← EReal.coe_mul, Ideal.div_coe (mul_pos hD hD).ne', one_mul, ← EReal.coe_mul, ← EReal.coe_mul, EReal.coe_eq_coe_iff]
    have := hD.ne'
    field_simp
  have e2 : ∑ i, p i * prob s i = ((∑ i, y i * (Real.exp (x i - t) * (1 / D)) : ℝ) : EReal) := by
    rw [coe_sum]
    refine Finset.sum_congr rfl fun i _ => ?_
    unfold prob
    rw [hy, hn, hd, Ideal.div_coe hD.ne', ← EReal.coe_mul, ← EReal.coe_mul]
  rw [e1, e2]
  unfold prob
  rw [hd, hn, hy, Ideal.div_coe hD.ne', Ideal.div_coe hD.ne', ← EReal.coe_mul, ← EReal.coe_mul, ← EReal.coe_neg, ← EReal.coe_add, ← EReal.coe_sub,
    ← EReal.coe_mul, ← EReal.coe_mul, EReal.coe_eq_coe_iff]
  ring

end

/-- A gradient times a mean of values is the mean of the products. -/
theorem mean_dot {s : Fin 256 → EReal} (hs : ∀ j, IsReal (s j)) {g : Fin 512 → EReal} (hg : ∀ d, IsReal (g d)) {v : Fin 256 → Fin 512 → EReal}
    (hv : ∀ j d, IsReal (v j d)) : ∑ d, g d * mean s v d = ∑ j, (∑ d, g d * v j d) * prob s j := by
  choose a ha using hg
  choose b hb using hv
  choose c hc using real_prob hs
  unfold mean
  have e1 : ∀ d, g d * ∑ j, v j d * prob s j = ((∑ j, a d * (b j d * c j) : ℝ) : EReal) := fun d => by
    rw [← Finset.mul_sum, EReal.coe_mul, coe_sum, ha]
    exact congrArg (_ * ·) (Finset.sum_congr rfl fun j _ => by rw [hb, hc, EReal.coe_mul])
  have e2 : ∀ j, (∑ d, g d * v j d) * prob s j = ((∑ d, a d * (b j d * c j) : ℝ) : EReal) := fun j => by
    have e : ∑ d, g d * v j d = ((∑ d, a d * b j d : ℝ) : EReal) := by
      rw [coe_sum]
      exact Finset.sum_congr rfl fun d _ => by rw [ha, hb, EReal.coe_mul]
    rw [e, hc, ← EReal.coe_mul, Finset.sum_mul]
    exact congrArg _ (Finset.sum_congr rfl fun d _ => by ring)
  simp only [e1, e2]
  rw [← coe_sum, ← coe_sum, Finset.sum_comm]

end Cert.Cross
-- ==== Proof.Cross.Fwd.lean ====
/- Attention over the memory, forward: what the launch leaves, an index at a time. -/
module

public import proofs.«01_k».proof.Proof.Cross.Spec
public import proofs.«01_k».proof.Proof.Products.Common
public import proofs.«01_k».proof.Proof.Gen.CrossIdeal.Value
public import Idealize.ShloMosaic.Lib.Claim
public import Idealize.ShloMosaic.Lib.Pipeline.ValueKit

@[expose] public section

set_option maxRecDepth 16384

noncomputable section

namespace Cert.Cross.Fwd

open Idealize.ShloMosaic Idealize.ShloMosaic.TcCoe Idealize.SL.Sem Cert.CrossIdeal Cert.CrossIdeal.Gen Cert.Products
open Idealize.ShloMosaic.Pipeline (Dat)

/-- The scores of row `i` of a block. -/
def bs (q : Vec Ideal S512x512 .bf16) (k : Vec Ideal S256x512 .bf16) (i : Fin 512) : Fin 256 → EReal :=
  scores (fun d => q (ix2 i d)) fun j d => k (ix2 j d)

section
variable (q : Vec Ideal S512x512 .bf16) (k v : Vec Ideal S256x512 .bf16)

theorem pay1 (i : Fin 512) (j : Fin 256) : k0_pay1 q k (ix2 i j) = bs q k i j := by
  unfold k0_pay1 bs scores sc
  pointwise

theorem pay2 (i : Fin 512) (z : Fin 1) : k0_pay2 q k (ix2 i z) = top (bs q k i) := by
  unfold k0_pay2
  dsimp only
  refine (shapeCast_apply _ _ (ix2 i z) (ix1 i) ?_).trans ?_
  · rw [Shape.rowMajor_val_one, Shape.rowMajor_val_two]; have := z.isLt; show i.val = i.val * 1 + z.val; omega
  refine (Ideal.multiReduction_maximumf_single _ _ _ _ _ _).trans ?_
  have e : k0_pay1 q k ∘ reduces_S512x256_S512.lift (ix1 i) = bs q k i :=
    funext fun j : Fin 256 => (congrArg (k0_pay1 q k) (ext2 (reduces_S512x256_S512.lift (ix1 i) j) (ix2 i j) rfl rfl)).trans (pay1 q k i j)
  rw [e]
  rfl

theorem pay3 (i : Fin 512) (j : Fin 256) : k0_pay3 q k (ix2 i j) = num (bs q k i) j := by
  unfold k0_pay3
  unfold num
  rw [← pay1, ← pay2 q k i 0]
  pointwise

theorem pay4 (i : Fin 512) (z : Fin 1) : k0_pay4 q k (ix2 i z) = den (bs q k i) := by
  unfold k0_pay4
  dsimp only
  refine (shapeCast_apply _ _ (ix2 i z) (ix1 i) ?_).trans ?_
  · rw [Shape.rowMajor_val_one, Shape.rowMajor_val_two]; have := z.isLt; show i.val = i.val * 1 + z.val; omega
  refine (Ideal.multiReduction_add_single _ _ _ _ _ _).trans ?_
  refine Finset.sum_congr rfl fun j _ => Eq.trans ?_ (pay3 q k i j)
  exact congrArg _ (ext2 _ _ rfl rfl)

theorem pay5 (i d : Fin 512) : k0_pay5 q k v (ix2 i d) = Ideal.div (∑ j, num (bs q k i) j * v (ix2 j d)) (den (bs q k i)) := by
  unfold k0_pay5
  simp only [← pay3]
  rw [← pay4 q k i 0]
  generalize k0_pay3 q k = n
  generalize k0_pay4 q k = l
  pointwise

theorem pay6 (a : Fin 1) (i : Fin 512) (z : Fin 1) : k0_pay6 q k (ix3 a i z) = lse (bs q k i) := by
  unfold k0_pay6 lse
  refine (shapeCast_apply _ _ (ix3 a i z) (ix2 i z) ?_).trans ?_
  · rw [Shape.rowMajor_val_two, Shape.rowMajor_val_three]; have := a.isLt; show i.val * 1 + z.val = (a.val * 512 + i.val) * 1 + z.val; omega
  rw [← pay2 q k i z, ← pay4 q k i z]
  rfl

end

theorem idx0 : ∀ t : Fin cfg0.N, win0_0.index t 0 = t.val % 16 ∧ win0_0.index t 1 = t.val / 16 := by decide +kernel
theorem idx1 : ∀ t : Fin cfg0.N, win0_1.index t 0 = 0 ∧ win0_1.index t 1 = t.val / 16 := by decide +kernel
theorem idx2 : ∀ t : Fin cfg0.N, win0_2.index t 0 = 0 ∧ win0_2.index t 1 = t.val / 16 := by decide +kernel
theorem idx3 : ∀ t : Fin cfg0.N, win0_3.index t 0 = t.val % 16 ∧ win0_3.index t 1 = t.val / 16 := by decide +kernel
theorem idx4 : ∀ t : Fin cfg0.N, win0_4.index t 0 = t.val / 16 ∧ win0_4.index t 1 = t.val % 16 ∧ win0_4.index t 2 = 0 := by decide +kernel

variable (m : (ℓ : Loc nD τ sig) → Buf (Elt Ideal) ℓ) (c : Dev nD)

/-- The blocks a grid point reads: rows of a head. -/
theorem blk0 (t : Fin cfg0.N) (i : Fin 512) (h : Fin 4) (r : Fin 8192) (eh : h.val = t.val / 16) (er : r.val = t.val % 16 * 512 + 1 * i.val) :
    (fun d => (iblk m c 0 t : Vec Ideal S512x512 .bf16) (ix2 i d)) = rowOf (m ((c : Thread nD τ).loc main_arg0)) h r := by
  funext d
  unfold iblk
  rw [View.read_apply]
  show V m c main_arg0 _ = m (c.tc.loc main_arg0) _
  rw [V_main_arg0]
  refine congrArg _ (ext2 _ _ ?_ ?_)
  · show win0_0.index t 0 * 512 + 1 * i.val = r.val
    rw [(idx0 t).1, er]
  · show win0_0.index t 1 * 512 + 1 * d.val = h.val * 512 + d.val
    rw [(idx0 t).2, eh]; omega

theorem blk1 (t : Fin cfg0.N) (h : Fin 4) (eh : h.val = t.val / 16) :
    (fun j d => (iblk m c 1 t : Vec Ideal S256x512 .bf16) (ix2 j d)) = rowOf (m ((c : Thread nD τ).loc main_arg1)) h := by
  funext j d
  unfold iblk
  rw [View.read_apply]
  show V m c main_arg1 _ = m (c.tc.loc main_arg1) _
  rw [V_main_arg1]
  refine congrArg _ (ext2 _ _ ?_ ?_)
  · show win0_1.index t 0 * 256 + 1 * j.val = j.val
    rw [(idx1 t).1]; omega
  · show win0_1.index t 1 * 512 + 1 * d.val = h.val * 512 + d.val
    rw [(idx1 t).2, eh]; omega

theorem blk2 (t : Fin cfg0.N) (h : Fin 4) (eh : h.val = t.val / 16) :
    (fun j d => (iblk m c 2 t : Vec Ideal S256x512 .bf16) (ix2 j d)) = rowOf (m ((c : Thread nD τ).loc main_arg2)) h := by
  funext j d
  unfold iblk
  rw [View.read_apply]
  show V m c main_arg2 _ = m (c.tc.loc main_arg2) _
  rw [V_main_arg2]
  refine congrArg _ (ext2 _ _ ?_ ?_)
  · show win0_2.index t 0 * 256 + 1 * j.val = j.val
    rw [(idx2 t).1]; omega
  · show win0_2.index t 1 * 512 + 1 * d.val = h.val * 512 + d.val
    rw [(idx2 t).2, eh]; omega

/-- The scores of a row of a head. -/
def rs (q : S8192x2048.Idx → EReal) (k : S256x2048.Idx → EReal) (h : Fin 4) (r : Fin 8192) : Fin 256 → EReal := scores (rowOf q h r) (rowOf k h)

theorem bs_eq (t : Fin cfg0.N) (i : Fin 512) (h : Fin 4) (r : Fin 8192) (eh : h.val = t.val / 16) (er : r.val = t.val % 16 * 512 + 1 * i.val) :
    bs (iblk m c 0 t) (iblk m c 1 t) i = rs (m ((c : Thread nD τ).loc main_arg0)) (m ((c : Thread nD τ).loc main_arg1)) h r :=
  congrArg₂ scores (blk0 m c t i h r eh er) (blk1 m c t h eh)

/-- The means, as the launch leaves them. -/
def O (q : S8192x2048.Idx → EReal) (k v : S256x2048.Idx → EReal) : S8192x2048.Idx → EReal := fun y =>
  Ideal.div (∑ j, num (rs q k (headOf (y 1)) (y 0)) j * rowOf v (headOf (y 1)) j (dimOf (y 1))) (den (rs q k (headOf (y 1)) (y 0)))

/-- The logarithms. -/
def L (q : S8192x2048.Idx → EReal) (k : S256x2048.Idx → EReal) : S4x8192x1.Idx → EReal := fun y => lse (rs q k (y 0) (y 1))

/-- The arrays the launch leaves. -/
theorem final3 : (dats m 0 c).arrAt 3 cfg0.N = O (m ((c : Thread nD τ).loc main_arg0)) (m ((c : Thread nD τ).loc main_arg1))
    (m ((c : Thread nD τ).loc main_arg2)) := by
  refine (dats m 0 c).arrAt_eq_of_covers 3 _ (by decide +kernel) fun t hf y => ?_
  refine (?_ : _ = out0_3 (iblk m c 0 t) (iblk m c 1 t) (iblk m c 2 t) y).trans ?_
  · blk_simp
    rw [after0_3]
  unfold out0_3
  rw [View.canon_unit_zero zero2, View.ld_unit_zero (S := S512x512) zero2, View.ld_unit_zero (S := S256x512) zero2, View.ld_unit_zero (S := S256x512) zero2]
  refine ((congrArg _ (eq_ix2 y)).trans (pay5 _ _ _ (y 0) (y 1))).trans ?_
  have y1 : (y 1).val < 512 := (y 1).isLt
  have eh : (headOf ((((cfg0.win 3).blk t).view.emb y) 1)).val = t.val / 16 := by
    show (win0_3.index t 1 * 512 + 1 * (y 1).val) / 512 = _
    rw [(idx3 t).2]; omega
  have ed : dimOf ((((cfg0.win 3).blk t).view.emb y) 1) = (y 1 : Fin 512) := by
    apply Fin.ext
    show (win0_3.index t 1 * 512 + 1 * (y 1).val) % 512 = _
    rw [(idx3 t).2]; omega
  have er : ((((cfg0.win 3).blk t).view.emb y) 0).val = t.val % 16 * 512 + 1 * (y 0).val := by
    show win0_3.index t 0 * 512 + 1 * (y 0).val = _
    rw [(idx3 t).1]
  show _ = O _ _ _ (((cfg0.win 3).blk t).view.emb y)
  unfold O
  rw [bs_eq m c t (y 0) _ _ eh er, ed]
  exact congrArg (Ideal.div · _) (Finset.sum_congr rfl fun j _ => congrArg (_ * ·) (congrFun (congrFun (blk2 m c t _ eh) j) (y 1)))

theorem final4 : (dats m 0 c).arrAt 4 cfg0.N = L (m ((c : Thread nD τ).loc main_arg0)) (m ((c : Thread nD τ).loc main_arg1)) := by
  refine (dats m 0 c).arrAt_eq_of_covers 4 _ (by decide +kernel) fun t hf y => ?_
  refine (?_ : _ = out0_4 (iblk m c 0 t) (iblk m c 1 t) (iblk m c 2 t) y).trans ?_
  · blk_simp
    rw [after0_4]
  unfold out0_4
  rw [View.canon_unit_zero zero3, View.ld_unit_zero (S := S512x512) zero2, View.ld_unit_zero (S := S256x512) zero2]
  refine ((congrArg _ (eq_ix3 y)).trans (pay6 _ _ (y 0) (y 1) (y 2))).trans ?_
  have y0 : (y 0).val < 1 := (y 0).isLt
  refine congrArg lse (bs_eq m c t (y 1) _ _ ?_ ?_)
  · show win0_4.index t 0 * 1 + 1 * (y 0).val = _
    rw [(idx4 t).1]; omega
  · show win0_4.index t 1 * 512 + 1 * (y 1).val = _
    rw [(idx4 t).2.1]

end Cert.Cross.Fwd
-- ==== Proof.Cross.FwdRef.lean ====
/- Attention over the memory, forward: the reference's results are what the launch leaves, where the queries and keys are real. -/
module

public import proofs.«01_k».proof.Proof.Cross.Fwd
public import proofs.«01_k».proof.Proof.Gen.CrossReferenceIdeal.Read
public import Idealize.ShloMosaic.Lib.KernelVsHost

@[expose] public section

set_option maxRecDepth 16384

noncomputable section

namespace Cert.Cross.Fwd

open Idealize.ShloMosaic Cert.CrossReferenceIdeal Cert.CrossReferenceIdeal.Gen Cert.CrossReferenceIdeal.Read Cert.Products Cert.Sgu

theorem reduces : (Shape.mk 3 ![4, 8192, 256]).Reduces [2] (Shape.mk 2 ![4, 8192]) := by decide

/-- The greatest of each row of an array. -/
theorem host_top (x : FVec Ideal (Shape.mk 3 ![4, 8192, 256]) .f32) (h1 : (Shape.mk 3 ![4, 8192, 256]).ReducesTo [2] (Shape.mk 2 ![4, 8192]))
    {u : Shape} (hu : 0 < u.numel) (s : Fin 4 → Fin 8192 → Fin 256 → EReal) (e : ∀ h r j, x (ix3 h r j) = s h r j) (h : Fin 4) (r : Fin 8192) :
    Host.reduce FloatOps.maximumf x (constant (F := Ideal) u .f32 0xFF800000#32) h1 hu (ix2 h r) = top (s h r) := by
  have e0 := hostReduce_maximumf_eq_multiReduction (F := Ideal) (φ := .f32) x 0xFF800000#32 h1 hu reduces (.inl rfl) rfl
  rw [e0]
  refine (Ideal.multiReduction_maximumf_single _ _ _ _ _ _).trans ?_
  have e1 : x ∘ reduces.lift (ix2 h r) = s h r :=
    funext fun j : Fin 256 => (congrArg x (ext3 (reduces.lift (ix2 h r) j) (ix3 h r j) rfl rfl rfl)).trans (e h r j)
  rw [e1]
  rfl

variable (q : S8192x2048.Idx → EReal) (k v : S256x2048.Idx → EReal)

/-- The scores. -/
theorem r7 (h : Fin 4) (r : Fin 8192) (j : Fin 256) : val_main_v7 (F := Ideal) q k (ix3 h r j) = rs q k h r j := by
  rw [val_main_v7_apply, val_main_v6_apply]
  refine congrArg (· * sc) ((val_main_v5_apply q k _).trans (Finset.sum_congr rfl fun d _ => congrArg₂ (fun a b : EReal => a * b) ?_ ?_))
  · rw [val_main_v3_apply]
    have := h.isLt
    have := d.isLt
    refine congrArg q (ext2 _ (ix2 r (col h d)) ?_ ?_)
    · show ((r.val * 4 + h.val) * 512 + d.val) / 2048 = r.val; omega
    · show ((r.val * 4 + h.val) * 512 + d.val) % 2048 = h.val * 512 + d.val; omega
  · rw [val_main_v4_apply]
    have := h.isLt
    have := d.isLt
    refine congrArg k (ext2 _ (ix2 j (col h d)) ?_ ?_)
    · show ((j.val * 4 + h.val) * 512 + d.val) / 2048 = j.val; omega
    · show ((j.val * 4 + h.val) * 512 + d.val) % 2048 = h.val * 512 + d.val; omega

/-- The greatest. -/
theorem r8 (h : Fin 4) (r : Fin 8192) : val_main_v8 (F := Ideal) q k (ix2 h r) = top (rs q k h r) :=
  host_top (val_main_v7 (F := Ideal) q k) reducesTo_S4x8192x256_S4x8192_d2 h_S_ (rs q k) (r7 q k) h r

theorem r10 (h : Fin 4) (r : Fin 8192) : val_main_v10 (F := Ideal) q k (ix2 h r) = top (rs q k h r) := by
  rw [val_main_v10_apply, r8, val_main_v9_apply, val_main_cst_1_apply]
  show max (Ideal.ofBits .f32 0xFF800000#32) _ = _
  rw [least, max_bot_left]

theorem r14 (h : Fin 4) (r : Fin 8192) (j : Fin 256) : val_main_v14 (F := Ideal) q k (ix3 h r j) = num (rs q k h r) j := by
  rw [val_main_v14_apply, val_main_v13_apply, r7, val_main_v12_apply, val_main_v11_apply,
    ext2 (idx_main_v11 (idx_main_v12 (ix3 h r j))) (ix2 h r) rfl rfl, r10]
  rfl

theorem r15 (h : Fin 4) (r : Fin 8192) : val_main_v15 (F := Ideal) q k (ix2 h r) = den (rs q k h r) := by
  refine (val_main_v15_apply q k _).trans ?_
  rw [val_main_cst_2_apply]
  show Ideal.ofBits .f32 0x00000000#32 + _ = _
  rw [show Ideal.ofBits .f32 0x00000000#32 = 0 by simp [Ideal.ofBits, Ideal.ieee], zero_add]
  exact Finset.sum_congr rfl fun j _ => (congrArg (val_main_v14 (F := Ideal) q k) (ext3 (idx_main_v15 (ix2 h r) j) (ix3 h r j) rfl rfl rfl)).trans (r14 q k h r j)

theorem r18 (h : Fin 4) (r : Fin 8192) (j : Fin 256) : val_main_v18 (F := Ideal) q k (ix3 h r j) = prob (rs q k h r) j := by
  rw [val_main_v18_apply, r14, val_main_v17_apply, val_main_v16_apply,
    ext2 (idx_main_v16 (idx_main_v17 (ix3 h r j))) (ix2 h r) rfl rfl, r15]
  rfl

/-- The means. -/
theorem r20 (h : Fin 4) (d : Fin 512) (r : Fin 8192) :
    val_main_v20 (F := Ideal) q k v (ix3 h d r) = mean (rs q k h r) (rowOf v h) d := by
  refine (val_main_v20_apply q k v _).trans (Finset.sum_congr rfl fun j _ => congrArg₂ (fun a b : EReal => a * b) ?_ ?_)
  · rw [val_main_v19_apply]
    have := h.isLt
    have := d.isLt
    refine congrArg v (ext2 _ (ix2 j (col h d)) ?_ ?_)
    · show ((j.val * 4 + h.val) * 512 + d.val) / 2048 = j.val; omega
    · show ((j.val * 4 + h.val) * 512 + d.val) % 2048 = h.val * 512 + d.val; omega
  · exact (congrArg (val_main_v18 (F := Ideal) q k) (ext3 (ridx_main_v20 (ix3 h d r) j) (ix3 h r j) rfl rfl rfl)).trans (r18 q k h r j)

/-- The reference's means. -/
def OR (q : S8192x2048.Idx → EReal) (k v : S256x2048.Idx → EReal) : S8192x2048.Idx → EReal := fun y =>
  mean (rs q k (headOf (y 1)) (y 0)) (rowOf v (headOf (y 1))) (dimOf (y 1))

theorem r23 : val_main_v23 (F := Ideal) q k v = OR q k v := by
  funext y
  rw [val_main_v23_apply, val_main_v22_apply, val_main_v21_apply]
  refine (congrArg (val_main_v20 (F := Ideal) q k v) (ext3 (idx_main_v21 (idx_main_v22 y)) (ix3 (headOf (y 1)) (dimOf (y 1)) (y 0)) ?_ ?_ ?_)).trans (r20 q k v _ _ _)
  all_goals
    have h1 : (y 1).val < 2048 := (y 1).isLt
  · show ((y 0).val * 2048 + (y 1).val) / 512 % 4 = (y 1).val / 512; omega
  · show ((y 0).val * 2048 + (y 1).val) % 512 = (y 1).val % 512; omega
  · show ((y 0).val * 2048 + (y 1).val) / 2048 = (y 0).val; omega

variable (hq : ∀ i, IsReal (q i)) (hk : ∀ i, IsReal (k i))
include hq hk

theorem real_rs (h : Fin 4) (r : Fin 8192) (j : Fin 256) : IsReal (rs q k h r j) := real_scores (fun _ => hq _) (fun _ _ => hk _) j

/-- The two forms of the means. -/
theorem O_eq : O q k v = OR q k v := funext fun y => mean_eq (real_rs q k hq hk (headOf (y 1)) (y 0)) (rowOf v (headOf (y 1))) (dimOf (y 1))

/-- The reference's results. -/
theorem ref3 : val_main_v23 (F := Ideal) q k v = O q k v := (r23 q k v).trans (O_eq q k v hq hk).symm

theorem ref4 : val_main_v32 (F := Ideal) q k = L q k := by
  funext y
  rw [val_main_v32_apply, val_main_v31_apply]
  refine Eq.trans ?_ (log_sum (real_rs q k hq hk (y 0) (y 1)))
  refine congrArg Ideal.log ?_
  refine (val_main_v30_apply q k _).trans ?_
  rw [val_main_cst_4_apply]
  show Ideal.ofBits .f32 0x00000000#32 + _ = _
  rw [show Ideal.ofBits .f32 0x00000000#32 = 0 by simp [Ideal.ofBits, Ideal.ieee], zero_add]
  refine Finset.sum_congr rfl fun j _ => ?_
  rw [val_main_v29_apply]
  exact congrArg Ideal.exp ((congrArg (val_main_v7 (F := Ideal) q k) (ext3 (idx_main_v30 (idx_main_v31 y) j) (ix3 (y 0) (y 1) j) rfl rfl rfl)).trans (r7 q k (y 0) (y 1) j))

end Cert.Cross.Fwd
-- ==== Proof.Cross.Grad.lean ====
/- Attention over the memory, backward: what the launch leaves, an index at a time.
   A grid point has 512 rows of a head; the sixteen points of a head add up the gradients of its keys and values. -/
module

public import proofs.«01_k».proof.Proof.Cross.Fwd
public import proofs.«01_k».proof.Proof.Gen.CrossGradIdeal.Value

@[expose] public section

set_option maxRecDepth 16384

noncomputable section

namespace Cert.Cross.Grad

open Idealize.ShloMosaic Idealize.ShloMosaic.TcCoe Idealize.SL.Sem Cert.CrossGradIdeal Cert.CrossGradIdeal.Gen Cert.Products
open Idealize.ShloMosaic.Pipeline (Dat)
open Cert.Cross.Fwd (bs rs)

section
variable (q : Vec Ideal S512x512 .bf16) (k : Vec Ideal S256x512 .bf16) (g : Vec Ideal S512x512 .bf16) (l : Vec Ideal S1x512x1 .f32)
  (o : Vec Ideal S512x512 .bf16) (v : Vec Ideal S256x512 .bf16)

/-- The weights of a row of a block, from the scores and the logarithm that are given. -/
def bp (i : Fin 512) (j : Fin 256) : EReal := Ideal.exp (bs q k i j - l (ix3 0 i 0))

/-- The gradient of its scores. -/
def bd (i : Fin 512) (j : Fin 256) : EReal :=
  bp q k l i j * ((∑ d, g (ix2 i d) * v (ix2 j d)) - ∑ d, g (ix2 i d) * o (ix2 i d))

theorem pay4 (i : Fin 512) (j : Fin 256) : k0_pay4 q k l (ix2 i j) = bp q k l i j := by
  have e : shapeCast S512x1 l shapeCasts_S1x512x1_S512x1 (ix2 i (0 : Fin 1)) = l (ix3 0 i 0) := by
    refine shapeCast_apply _ _ (ix2 i (0 : Fin 1)) (ix3 (0 : Fin 1) i (0 : Fin 1)) ?_
    rw [Shape.rowMajor_val_two, Shape.rowMajor_val_three]; show (0 * 512 + i.val) * 1 + 0 = i.val * 1 + 0; omega
  unfold k0_pay4 bp bs scores sc
  rw [← e]
  generalize shapeCast S512x1 l shapeCasts_S1x512x1_S512x1 = w
  pointwise

theorem pay5 (j : Fin 256) (d : Fin 512) : k0_pay5 q k g l (ix2 j d) = ∑ i, bp q k l i j * g (ix2 i d) := by
  unfold k0_pay5
  simp only [← pay4]
  generalize k0_pay4 q k l = p
  pointwise

theorem pay6 (i : Fin 512) (j : Fin 256) : k0_pay6 q k g l o v (ix2 i j) = bd q k g l o v i j := by
  unfold k0_pay6 bd
  rw [← pay4]
  generalize k0_pay4 q k l = p
  dsimp only
  rw [shapeCast_self]
  have e : (shapeCast S512x1 (multiReduction (F := Ideal) .add [1] S512 (mulf (extf .f32 g bitsLt_bf16_f32) (extf .f32 o bitsLt_bf16_f32))
      0x00000000#32 reduces_S512x512_S512 (.inl rfl) rfl) shapeCasts_S512_S512x1 (ix2 i (0 : Fin 1)) : EReal)
        = ∑ d, (g (ix2 i d) * o (ix2 i d) : EReal) := by
    refine (shapeCast_apply _ _ (ix2 i (0 : Fin 1)) (ix1 i) ?_).trans ?_
    · rw [Shape.rowMajor_val_one, Shape.rowMajor_val_two]; show i.val = i.val * 1 + 0; omega
    refine (Ideal.multiReduction_add_single _ _ _ _ _ _).trans ?_
    refine Finset.sum_congr rfl fun d _ => ?_
    have e2 : reduces_S512x512_S512.lift (ix1 i) d = ix2 i d := ext2 _ (ix2 i d) rfl rfl
    rw [e2]
    pointwise
  rw [← e]
  generalize shapeCast S512x1 _ shapeCasts_S512_S512x1 = w
  pointwise

theorem pay7 (i d : Fin 512) : k0_pay7 q k g l o v (ix2 i d) = (∑ j, bd q k g l o v i j * k (ix2 j d)) * sc := by
  unfold k0_pay7
  simp only [← pay6]
  generalize k0_pay6 q k g l o v = s
  unfold sc
  pointwise

theorem pay8 (j : Fin 256) (d : Fin 512) : k0_pay8 q k g l o v (ix2 j d) = ∑ i, bd q k g l o v i j * q (ix2 i d) := by
  unfold k0_pay8
  simp only [← pay6]
  generalize k0_pay6 q k g l o v = s
  pointwise

/-- What a grid point adds to the gradients of the keys and of the values. -/
def bk (y : S256x512.Idx) : EReal := (∑ i, bd q k g l o v i (y 0) * q (ix2 i (y 1))) * sc
def bv (y : S256x512.Idx) : EReal := ∑ i, bp q k l i (y 0) * g (ix2 i (y 1))

theorem pay1 : k0_pay1 (k0_pay8 q k g l o v) k0_pay9 = bk q k g l o v := by
  funext y
  rw [eq_ix2 y]
  exact congrArg (· * sc) (pay8 q k g l o v (y 0) (y 1))

theorem pay5' : k0_pay5 q k g l = bv q k g l := by
  funext y
  rw [eq_ix2 y]
  exact pay5 q k g l (y 0) (y 1)

theorem pay2 (s : Vec Ideal S256x512 .f32) : k0_pay2 (k0_pay8 q k g l o v) k0_pay9 s = fun y => s y + bk q k g l o v y := by
  unfold k0_pay2
  dsimp only
  rw [shapeCast_self, pay1]
  rfl

theorem pay3 (s : Vec Ideal S256x512 .f32) : k0_pay3 (k0_pay5 q k g l) s = fun y => s y + bv q k g l y := by
  unfold k0_pay3
  dsimp only
  rw [shapeCast_self, pay5']
  rfl

end

section
variable (c : Dev nD) (i : grid0.Coords)
  (arg2 : Memref sig .tc .vmem S512x512 .bf16) (harg2 : arg2.IsWhole)
  (arg3 : Memref sig .tc .vmem S256x512 .bf16) (harg3 : arg3.IsWhole)
  (arg4 : Memref sig .tc .vmem S256x512 .bf16) (harg4 : arg4.IsWhole)
  (arg5 : Memref sig .tc .vmem S512x512 .bf16) (harg5 : arg5.IsWhole)
  (arg6 : Memref sig .tc .vmem S512x512 .bf16) (harg6 : arg6.IsWhole)
  (arg7 : Memref sig .tc .vmem S1x512x1 .f32) (harg7 : arg7.IsWhole)
  (arg8 : Memref sig .tc .vmem S512x512 .bf16) (harg8 : arg8.IsWhole)
  (arg9 : Memref sig .tc .vmem S256x512 .f32) (harg9 : arg9.IsWhole)
  (arg10 : Memref sig .tc .vmem S256x512 .f32) (harg10 : arg10.IsWhole)
  (x0 : Vec Ideal S512x512 .bf16) (x1 x2 : Vec Ideal S256x512 .bf16) (x3 x4 : Vec Ideal S512x512 .bf16) (x5 : Vec Ideal S1x512x1 .f32)
  (xo7 xo8 : Vec Ideal S256x512 .f32)

/-- The first grid point of a head writes the gradient of its queries, and starts the other two, … -/
theorem first6 (h0 : cond0_0 i) (h1 : ¬cond0_1 i) :
    out0_A_6 c i arg2 harg2 arg3 harg3 arg4 harg4 arg5 harg5 arg6 harg6 arg7 harg7 arg8 harg8 arg9 harg9 arg10 harg10 h0 h1 x0 x1 x2 x3 x4 x5
      = k0_pay7 x0 x1 x4 x5 x3 x2 := by
  unfold out0_A_6
  rw [View.read_writes_eq_canon _ _ _ (cover0_A_6 c i arg2 harg2 arg3 harg3 arg4 harg4 arg5 harg5 arg6 harg6 arg7 harg7 arg8 harg8 arg9 harg9 arg10 harg10
    h0 h1 x0 x1 x2 x3 x4 x5)]
  unfold kernelRun0_A
  dsimp only
  sl_unfold_words
  rw [View.canon_unit_zero zero2]
  simp only [View.readAt_eq_ld, harg2.read_unread, harg3.read_unread, harg4.read_unread, harg5.read_unread, harg6.read_unread, harg7.read_unread,
    View.ld_unit_zero (S := S512x512) zero2, View.ld_unit_zero (S := S256x512) zero2, View.ld_unit_zero (S := S1x512x1) zero3]

theorem first7 (h0 : cond0_0 i) (h1 : ¬cond0_1 i) :
    out0_A_7 c i arg2 harg2 arg3 harg3 arg4 harg4 arg5 harg5 arg6 harg6 arg7 harg7 arg8 harg8 arg9 harg9 arg10 harg10 h0 h1 x0 x1 x2 x3 x4 x5
      = bk x0 x1 x4 x5 x3 x2 := by
  unfold out0_A_7
  rw [View.read_writes_eq_canon _ _ _ (cover0_A_7 c i arg2 harg2 arg3 harg3 arg4 harg4 arg5 harg5 arg6 harg6 arg7 harg7 arg8 harg8 arg9 harg9 arg10 harg10
    h0 h1 x0 x1 x2 x3 x4 x5)]
  unfold kernelRun0_A
  dsimp only
  sl_unfold_words
  rw [View.canon_unit_zero zero2]
  simp only [View.readAt_eq_ld, harg2.read_unread, harg3.read_unread, harg4.read_unread, harg5.read_unread, harg6.read_unread, harg7.read_unread,
    View.ld_unit_zero (S := S512x512) zero2, View.ld_unit_zero (S := S256x512) zero2, View.ld_unit_zero (S := S1x512x1) zero3]
  exact pay1 x0 x1 x4 x5 x3 x2

theorem first8 (h0 : cond0_0 i) (h1 : ¬cond0_1 i) :
    out0_A_8 c i arg2 harg2 arg3 harg3 arg4 harg4 arg5 harg5 arg6 harg6 arg7 harg7 arg8 harg8 arg9 harg9 arg10 harg10 h0 h1 x0 x1 x2 x3 x4 x5
      = bv x0 x1 x4 x5 := by
  unfold out0_A_8
  rw [View.read_writes_eq_canon _ _ _ (cover0_A_8 c i arg2 harg2 arg3 harg3 arg4 harg4 arg5 harg5 arg6 harg6 arg7 harg7 arg8 harg8 arg9 harg9 arg10 harg10
    h0 h1 x0 x1 x2 x3 x4 x5)]
  unfold kernelRun0_A
  dsimp only
  sl_unfold_words
  rw [View.canon_unit_zero zero2]
  simp only [View.readAt_eq_ld, harg2.read_unread, harg3.read_unread, harg4.read_unread, harg5.read_unread, harg6.read_unread, harg7.read_unread,
    View.ld_unit_zero (S := S512x512) zero2, View.ld_unit_zero (S := S256x512) zero2, View.ld_unit_zero (S := S1x512x1) zero3]
  exact pay5' x0 x1 x4 x5

/-- … to which the others add. -/
theorem later6 (h0 : ¬cond0_0 i) (h1 : cond0_1 i) :
    out0_B_6 c i arg2 harg2 arg3 harg3 arg4 harg4 arg5 harg5 arg6 harg6 arg7 harg7 arg8 harg8 arg9 harg9 arg10 harg10 h0 h1 x0 x1 x2 x3 x4 x5 xo7 xo8
      = k0_pay7 x0 x1 x4 x5 x3 x2 := by
  unfold out0_B_6
  rw [View.read_writes_eq_canon _ _ _ (cover0_B_6 c i arg2 harg2 arg3 harg3 arg4 harg4 arg5 harg5 arg6 harg6 arg7 harg7 arg8 harg8 arg9 harg9 arg10 harg10
    h0 h1 x0 x1 x2 x3 x4 x5 xo7 xo8)]
  unfold kernelRun0_B
  dsimp only
  sl_unfold_words
  rw [View.canon_unit_zero zero2]
  simp only [View.readAt_eq_ld, harg2.read_unread, harg3.read_unread, harg4.read_unread, harg5.read_unread, harg6.read_unread, harg7.read_unread,
    View.ld_unit_zero (S := S512x512) zero2, View.ld_unit_zero (S := S256x512) zero2, View.ld_unit_zero (S := S1x512x1) zero3]

theorem later7 (h0 : ¬cond0_0 i) (h1 : cond0_1 i) :
    out0_B_7 c i arg2 harg2 arg3 harg3 arg4 harg4 arg5 harg5 arg6 harg6 arg7 harg7 arg8 harg8 arg9 harg9 arg10 harg10 h0 h1 x0 x1 x2 x3 x4 x5 xo7 xo8
      = fun y => xo7 y + bk x0 x1 x4 x5 x3 x2 y := by
  unfold out0_B_7
  rw [View.read_writes_eq_canon _ _ _ (cover0_B_7 c i arg2 harg2 arg3 harg3 arg4 harg4 arg5 harg5 arg6 harg6 arg7 harg7 arg8 harg8 arg9 harg9 arg10 harg10
    h0 h1 x0 x1 x2 x3 x4 x5 xo7 xo8)]
  unfold kernelRun0_B
  dsimp only
  sl_unfold_words
  rw [View.canon_unit_zero zero2]
  simp only [View.readAt_eq_ld, harg2.read_unread, harg3.read_unread, harg4.read_unread, harg5.read_unread, harg6.read_unread, harg7.read_unread,
    harg9.read_unread, View.ld_unit_zero (S := S512x512) zero2, View.ld_unit_zero (S := S256x512) zero2, View.ld_unit_zero (S := S1x512x1) zero3]
  exact pay2 x0 x1 x4 x5 x3 x2 xo7

theorem later8 (h0 : ¬cond0_0 i) (h1 : cond0_1 i) :
    out0_B_8 c i arg2 harg2 arg3 harg3 arg4 harg4 arg5 harg5 arg6 harg6 arg7 harg7 arg8 harg8 arg9 harg9 arg10 harg10 h0 h1 x0 x1 x2 x3 x4 x5 xo7 xo8
      = fun y => xo8 y + bv x0 x1 x4 x5 y := by
  unfold out0_B_8
  rw [View.read_writes_eq_canon _ _ _ (cover0_B_8 c i arg2 harg2 arg3 harg3 arg4 harg4 arg5 harg5 arg6 harg6 arg7 harg7 arg8 harg8 arg9 harg9 arg10 harg10
    h0 h1 x0 x1 x2 x3 x4 x5 xo7 xo8)]
  unfold kernelRun0_B
  dsimp only
  sl_unfold_words
  rw [View.canon_unit_zero zero2]
  simp only [View.readAt_eq_ld, harg2.read_unread, harg3.read_unread, harg4.read_unread, harg5.read_unread, harg6.read_unread, harg7.read_unread,
    harg10.read_unread, View.ld_unit_zero (S := S512x512) zero2, View.ld_unit_zero (S := S256x512) zero2, View.ld_unit_zero (S := S1x512x1) zero3]
  exact pay3 x0 x1 x4 x5 xo8

end

theorem idx0 : ∀ t : Fin cfg0.N, win0_0.index t 0 = t.val % 16 ∧ win0_0.index t 1 = t.val / 16 := by decide +kernel
theorem idx1 : ∀ t : Fin cfg0.N, win0_1.index t 0 = 0 ∧ win0_1.index t 1 = t.val / 16 := by decide +kernel
theorem idx2 : ∀ t : Fin cfg0.N, win0_2.index t 0 = 0 ∧ win0_2.index t 1 = t.val / 16 := by decide +kernel
theorem idx3 : ∀ t : Fin cfg0.N, win0_3.index t 0 = t.val % 16 ∧ win0_3.index t 1 = t.val / 16 := by decide +kernel
theorem idx4 : ∀ t : Fin cfg0.N, win0_4.index t 0 = t.val % 16 ∧ win0_4.index t 1 = t.val / 16 := by decide +kernel
theorem idx5 : ∀ t : Fin cfg0.N, win0_5.index t 0 = t.val / 16 ∧ win0_5.index t 1 = t.val % 16 ∧ win0_5.index t 2 = 0 := by decide +kernel
theorem idx6 : ∀ t : Fin cfg0.N, win0_6.index t 0 = t.val % 16 ∧ win0_6.index t 1 = t.val / 16 := by decide +kernel
theorem idx7 : ∀ t : Fin cfg0.N, win0_7.index t 0 = 0 ∧ win0_7.index t 1 = t.val / 16 := by decide +kernel
theorem idx8 : ∀ t : Fin cfg0.N, win0_8.index t 0 = 0 ∧ win0_8.index t 1 = t.val / 16 := by decide +kernel

section
variable (q : S8192x2048.Idx → EReal) (k v : S256x2048.Idx → EReal) (o g : S8192x2048.Idx → EReal) (l : S4x8192x1.Idx → EReal)

/-- The weights of a row of a head, from its scores and the logarithm that is given, … -/
def P (h : Fin 4) (r : Fin 8192) (j : Fin 256) : EReal := Ideal.exp (rs q k h r j - l (ix3 h r 0))

/-- … the gradient of its scores, … -/
def D (h : Fin 4) (r : Fin 8192) (j : Fin 256) : EReal :=
  P q k l h r j * ((∑ d, rowOf g h r d * rowOf v h j d) - ∑ d, rowOf g h r d * rowOf o h r d)

/-- … and those of the queries, keys and values. -/
def DQ : S8192x2048.Idx → EReal := fun y => (∑ j, D q k v o g l (headOf (y 1)) (y 0) j * rowOf k (headOf (y 1)) j (dimOf (y 1))) * sc
def partK (b : ℕ) (z : S256x2048.Idx) : EReal :=
  (∑ i, D q k v o g l (headOf (z 1)) (row16 b i) (z 0) * rowOf q (headOf (z 1)) (row16 b i) (dimOf (z 1))) * sc
def partV (b : ℕ) (z : S256x2048.Idx) : EReal :=
  ∑ i, P q k l (headOf (z 1)) (row16 b i) (z 0) * rowOf g (headOf (z 1)) (row16 b i) (dimOf (z 1))
def DK : S256x2048.Idx → EReal := fun z => (∑ r, D q k v o g l (headOf (z 1)) r (z 0) * rowOf q (headOf (z 1)) r (dimOf (z 1))) * sc
def DV : S256x2048.Idx → EReal := fun z => ∑ r, P q k l (headOf (z 1)) r (z 0) * rowOf g (headOf (z 1)) r (dimOf (z 1))

theorem sum_partK (z : S256x2048.Idx) : ∑ b ∈ Finset.range 16, partK q k v o g l b z = DK q k v o g l z := by
  unfold partK DK
  rw [sc_eq, ← sum_mul_pos _ _ (by norm_num)]
  exact congrArg (· * ((11863283 / 2 ^ 28 : ℝ) : EReal))
    (sum_row16 fun r => D q k v o g l (headOf (z 1)) r (z 0) * rowOf q (headOf (z 1)) r (dimOf (z 1)))

theorem sum_partV (z : S256x2048.Idx) : ∑ b ∈ Finset.range 16, partV q k g l b z = DV q k g l z :=
  sum_row16 fun r => P q k l (headOf (z 1)) r (z 0) * rowOf g (headOf (z 1)) r (dimOf (z 1))

end

variable (m : (ℓ : Loc nD τ sig) → Buf (Elt Ideal) ℓ) (c : Dev nD)

/-- The blocks a grid point reads: rows of a head, its keys and values, and the logarithms of the rows. -/
theorem blk0 (t : Fin cfg0.N) (i : Fin 512) (h : Fin 4) (r : Fin 8192) (eh : h.val = t.val / 16) (er : r.val = t.val % 16 * 512 + 1 * i.val) :
    (fun d => (iblk m c 0 t : Vec Ideal S512x512 .bf16) (ix2 i d)) = rowOf (m ((c : Thread nD τ).loc main_arg0)) h r := by
  funext d
  unfold iblk
  rw [View.read_apply]
  show V m c main_arg0 _ = m (c.tc.loc main_arg0) _
  rw [V_main_arg0]
  refine congrArg _ (ext2 _ _ ?_ ?_)
  · show win0_0.index t 0 * 512 + 1 * i.val = r.val
    rw [(idx0 t).1, er]
  · show win0_0.index t 1 * 512 + 1 * d.val = h.val * 512 + d.val
    rw [(idx0 t).2, eh]; omega

theorem blk1 (t : Fin cfg0.N) (h : Fin 4) (eh : h.val = t.val / 16) :
    (fun j d => (iblk m c 1 t : Vec Ideal S256x512 .bf16) (ix2 j d)) = rowOf (m ((c : Thread nD τ).loc main_arg1)) h := by
  funext j d
  unfold iblk
  rw [View.read_apply]
  show V m c main_arg1 _ = m (c.tc.loc main_arg1) _
  rw [V_main_arg1]
  refine congrArg _ (ext2 _ _ ?_ ?_)
  · show win0_1.index t 0 * 256 + 1 * j.val = j.val
    rw [(idx1 t).1]; omega
  · show win0_1.index t 1 * 512 + 1 * d.val = h.val * 512 + d.val
    rw [(idx1 t).2, eh]; omega

theorem blk2 (t : Fin cfg0.N) (h : Fin 4) (eh : h.val = t.val / 16) :
    (fun j d => (iblk m c 2 t : Vec Ideal S256x512 .bf16) (ix2 j d)) = rowOf (m ((c : Thread nD τ).loc main_arg2)) h := by
  funext j d
  unfold iblk
  rw [View.read_apply]
  show V m c main_arg2 _ = m (c.tc.loc main_arg2) _
  rw [V_main_arg2]
  refine congrArg _ (ext2 _ _ ?_ ?_)
  · show win0_2.index t 0 * 256 + 1 * j.val = j.val
    rw [(idx2 t).1]; omega
  · show win0_2.index t 1 * 512 + 1 * d.val = h.val * 512 + d.val
    rw [(idx2 t).2, eh]; omega

theorem blk3 (t : Fin cfg0.N) (i : Fin 512) (h : Fin 4) (r : Fin 8192) (eh : h.val = t.val / 16) (er : r.val = t.val % 16 * 512 + 1 * i.val) :
    (fun d => (iblk m c 3 t : Vec Ideal S512x512 .bf16) (ix2 i d)) = rowOf (V m c main_v37) h r := by
  funext d
  unfold iblk
  rw [View.read_apply]
  show V m c main_v37 _ = V m c main_v37 _
  refine congrArg (V m c main_v37) (ext2 (((cfg0.win 3).blk t).view.emb (ix2 i d)) (ix2 r (col h d)) ?_ ?_)
  · show win0_3.index t 0 * 512 + 1 * i.val = r.val
    rw [(idx3 t).1, er]
  · show win0_3.index t 1 * 512 + 1 * d.val = h.val * 512 + d.val
    rw [(idx3 t).2, eh]; omega

theorem blk4 (t : Fin cfg0.N) (i : Fin 512) (h : Fin 4) (r : Fin 8192) (eh : h.val = t.val / 16) (er : r.val = t.val % 16 * 512 + 1 * i.val) :
    (fun d => (iblk m c 4 t : Vec Ideal S512x512 .bf16) (ix2 i d)) = rowOf (m ((c : Thread nD τ).loc main_arg3)) h r := by
  funext d
  unfold iblk
  rw [View.read_apply]
  show V m c main_arg3 _ = m (c.tc.loc main_arg3) _
  rw [V_main_arg3]
  refine congrArg _ (ext2 _ _ ?_ ?_)
  · show win0_4.index t 0 * 512 + 1 * i.val = r.val
    rw [(idx4 t).1, er]
  · show win0_4.index t 1 * 512 + 1 * d.val = h.val * 512 + d.val
    rw [(idx4 t).2, eh]; omega

theorem blk5 (t : Fin cfg0.N) (i : Fin 512) (h : Fin 4) (r : Fin 8192) (eh : h.val = t.val / 16) (er : r.val = t.val % 16 * 512 + 1 * i.val) :
    (iblk m c 5 t : Vec Ideal S1x512x1 .f32) (ix3 0 i 0) = V m c main_v16 (ix3 h r 0) := by
  have e : ∀ x : S4x8192x1.Idx → EReal, (((cfg0.win 5).blk t).view.read (Elt Ideal) x : Vec Ideal S1x512x1 .f32) (ix3 0 i 0) = x (ix3 h r 0) := by
    intro x
    rw [View.read_apply]
    refine congrArg x (ext3 (((cfg0.win 5).blk t).view.emb (ix3 0 i 0)) (ix3 h r 0) ?_ ?_ ?_)
    · show win0_5.index t 0 * 1 + 1 * 0 = h.val
      rw [(idx5 t).1, eh]; omega
    · show win0_5.index t 1 * 512 + 1 * i.val = r.val
      rw [(idx5 t).2.1, er]
    · show win0_5.index t 2 * 1 + 1 * 0 = 0
      rw [(idx5 t).2.2]
  exact e (V m c main_v16)

/-- The arrays of a device: queries, keys, values, means, gradient and logarithms. -/
abbrev aq : S8192x2048.Idx → EReal := m ((c : Thread nD τ).loc main_arg0)
abbrev ak : S256x2048.Idx → EReal := m ((c : Thread nD τ).loc main_arg1)
abbrev av : S256x2048.Idx → EReal := m ((c : Thread nD τ).loc main_arg2)
abbrev ao : S8192x2048.Idx → EReal := V m c main_v37
abbrev ag : S8192x2048.Idx → EReal := m ((c : Thread nD τ).loc main_arg3)
abbrev al : S4x8192x1.Idx → EReal := V m c main_v16

section
variable (t : Fin cfg0.N) (i : Fin 512) (h : Fin 4) (r : Fin 8192) (eh : h.val = t.val / 16) (er : r.val = t.val % 16 * 512 + 1 * i.val) (j : Fin 256)
include eh er

theorem bp_eq : bp (iblk m c 0 t) (iblk m c 1 t) (iblk m c 5 t) i j = P (aq m c) (ak m c) (al m c) h r j := by
  unfold bp P
  rw [blk5 m c t i h r eh er]
  exact congrArg (fun s : Fin 256 → EReal => Ideal.exp (s j - V m c main_v16 (ix3 h r 0)))
    (congrArg₂ scores (blk0 m c t i h r eh er) (blk1 m c t h eh))

theorem bd_eq : bd (iblk m c 0 t) (iblk m c 1 t) (iblk m c 4 t) (iblk m c 5 t) (iblk m c 3 t) (iblk m c 2 t) i j
    = D (aq m c) (ak m c) (av m c) (ao m c) (ag m c) (al m c) h r j := by
  unfold bd D
  rw [bp_eq m c t i h r eh er]
  refine congrArg (_ * ·) (congrArg₂ (fun a b : EReal => a - b) (Finset.sum_congr rfl fun d _ => ?_) (Finset.sum_congr rfl fun d _ => ?_))
  · exact congrArg₂ (fun a b : EReal => a * b) (congrFun (blk4 m c t i h r eh er) d) (congrFun (congrFun (blk2 m c t h eh) j) d)
  · exact congrArg₂ (fun a b : EReal => a * b) (congrFun (blk4 m c t i h r eh er) d) (congrFun (blk3 m c t i h r eh er) d)

end

/-- The gradient of the queries that the launch leaves. -/
theorem final6 : (dats m 0 c).arrAt 6 cfg0.N = DQ (aq m c) (ak m c) (av m c) (ao m c) (ag m c) (al m c) := by
  refine (dats m 0 c).arrAt_eq_of_covers 6 _ (by decide +kernel) fun t hf y => ?_
  refine (?_ : _ = (outsAt0 m c t.val t.isLt).1 y).trans ?_
  · blk_simp
    rw [after0_6]
  have e : (outsAt0 m c t.val t.isLt).1 = k0_pay7 (iblk m c 0 t) (iblk m c 1 t) (iblk m c 4 t) (iblk m c 5 t) (iblk m c 3 t) (iblk m c 2 t) := by
    by_cases h0 : t.val % 16 = 0
    · have e := congrArg Prod.fst (outsAt0_A m c t h0 (by omega))
      rw [first6] at e
      exact e
    · have e := congrArg Prod.fst (outsAt0_B m c t h0 (by omega))
      rw [later6] at e
      exact e
  rw [e]
  refine ((congrArg _ (eq_ix2 y)).trans (pay7 _ _ _ _ _ _ (y 0) (y 1))).trans ?_
  have y1 : (y 1).val < 512 := (y 1).isLt
  have eh : (headOf ((((cfg0.win 6).blk t).view.emb y) 1)).val = t.val / 16 := by
    show (win0_6.index t 1 * 512 + 1 * (y 1).val) / 512 = _
    rw [(idx6 t).2]; omega
  have ed : dimOf ((((cfg0.win 6).blk t).view.emb y) 1) = (y 1 : Fin 512) := by
    apply Fin.ext
    show (win0_6.index t 1 * 512 + 1 * (y 1).val) % 512 = _
    rw [(idx6 t).2]; omega
  have er : ((((cfg0.win 6).blk t).view.emb y) 0).val = t.val % 16 * 512 + 1 * (y 0).val := by
    show win0_6.index t 0 * 512 + 1 * (y 0).val = _
    rw [(idx6 t).1]
  show _ = DQ _ _ _ _ _ _ (((cfg0.win 6).blk t).view.emb y)
  unfold DQ
  rw [ed]
  exact congrArg (· * sc) (Finset.sum_congr rfl fun j _ => congrArg₂ (fun a b : EReal => a * b) (bd_eq m c t (y 0) _ _ eh er j)
    (congrFun (congrFun (blk1 m c t _ eh) j) (y 1)))

/-- An index of the block of keys or values that grid point `n` works on is this one of the result. -/
def At (n : ℕ) (y : S256x512.Idx) (z : S256x2048.Idx) : Prop :=
  (z 0).val = (y 0).val ∧ (z 1).val = n / 16 * 512 + 1 * (y 1).val

theorem At_same (n : ℕ) (h0 : (n + 1) % 16 ≠ 0) (y : S256x512.Idx) (z : S256x2048.Idx) (h : At (n + 1) y z) : At n y z := by
  have d : (n + 1) / 16 = n / 16 := by omega
  unfold At at h
  rwa [d] at h

/-- What a grid point adds. -/
theorem adds7 (t : Fin cfg0.N) (y : S256x512.Idx) (z : S256x2048.Idx) (h : At t.val y z) :
    bk (iblk m c 0 t) (iblk m c 1 t) (iblk m c 4 t) (iblk m c 5 t) (iblk m c 3 t) (iblk m c 2 t) y
      = partK (aq m c) (ak m c) (av m c) (ao m c) (ag m c) (al m c) (t.val % 16) z := by
  obtain ⟨e0, e1⟩ := h
  have y1 : (y 1).val < 512 := (y 1).isLt
  have eh : (headOf (z 1)).val = t.val / 16 := by show (z 1).val / 512 = _; omega
  have ed : dimOf (z 1) = (y 1 : Fin 512) := Fin.ext (by show (z 1).val % 512 = _; omega)
  have ej : z 0 = y 0 := Fin.ext e0
  unfold bk partK
  rw [ed, ej]
  refine congrArg (· * sc) (Finset.sum_congr rfl fun i _ => ?_)
  have er : (row16 (t.val % 16) i).val = t.val % 16 * 512 + 1 * i.val := by
    have := i.isLt
    show (t.val % 16 * 512 + 1 * i.val) % 8192 = _; omega
  exact congrArg₂ (fun a b : EReal => a * b) (bd_eq m c t i _ _ eh er (y 0)) (congrFun (blk0 m c t i _ _ eh er) (y 1))

theorem adds8 (t : Fin cfg0.N) (y : S256x512.Idx) (z : S256x2048.Idx) (h : At t.val y z) :
    bv (iblk m c 0 t) (iblk m c 1 t) (iblk m c 4 t) (iblk m c 5 t) y = partV (aq m c) (ak m c) (ag m c) (al m c) (t.val % 16) z := by
  obtain ⟨e0, e1⟩ := h
  have y1 : (y 1).val < 512 := (y 1).isLt
  have eh : (headOf (z 1)).val = t.val / 16 := by show (z 1).val / 512 = _; omega
  have ed : dimOf (z 1) = (y 1 : Fin 512) := Fin.ext (by show (z 1).val % 512 = _; omega)
  have ej : z 0 = y 0 := Fin.ext e0
  unfold bv partV
  rw [ed, ej]
  refine Finset.sum_congr rfl fun i _ => ?_
  have er : (row16 (t.val % 16) i).val = t.val % 16 * 512 + 1 * i.val := by
    have := i.isLt
    show (t.val % 16 * 512 + 1 * i.val) % 8192 = _; omega
  exact congrArg₂ (fun a b : EReal => a * b) (bp_eq m c t i _ _ eh er (y 0)) (congrFun (blk4 m c t i _ _ eh er) (y 1))

/-- After a grid point the two buffers hold the parts added so far. -/
theorem sums7 (n : ℕ) (hn : n < cfg0.N) (y : S256x512.Idx) (z : S256x2048.Idx) (h : At n y z) :
    (outsAt0 m c n hn).2.1 y = ∑ b ∈ Finset.range (n % 16 + 1), partK (aq m c) (ak m c) (av m c) (ao m c) (ag m c) (al m c) b z := by
  refine carriedBy 16 (by decide) (fun n hn => (outsAt0 m c n hn).2.1) At _ (fun n hn h0 y z h => ?_) At_same (fun n hn h0 y z h => ?_) n hn y z h
  · have e := congrArg (fun p => p.2.1) (outsAt0_A m c ⟨n, hn⟩ h0 (by show ¬1 ≤ n % 16; omega))
    dsimp only at e
    rw [first7] at e
    refine (congrFun e y).trans ((adds7 m c ⟨n, hn⟩ y z h).trans ?_)
    exact congrArg (fun b => partK _ _ _ _ _ _ b z) h0
  · refine Eq.trans ?_ (congrArg (_ + ·) (adds7 m c ⟨n + 1, hn⟩ y z h))
    have e := congrArg (fun p => p.2.1) (outsAt0_B m c ⟨n + 1, hn⟩ h0 (by show 1 ≤ (n + 1) % 16; omega))
    dsimp only at e
    rw [later7] at e
    exact congrFun e y

theorem sums8 (n : ℕ) (hn : n < cfg0.N) (y : S256x512.Idx) (z : S256x2048.Idx) (h : At n y z) :
    (outsAt0 m c n hn).2.2 y = ∑ b ∈ Finset.range (n % 16 + 1), partV (aq m c) (ak m c) (ag m c) (al m c) b z := by
  refine carriedBy 16 (by decide) (fun n hn => (outsAt0 m c n hn).2.2) At _ (fun n hn h0 y z h => ?_) At_same (fun n hn h0 y z h => ?_) n hn y z h
  · have e := congrArg (fun p => p.2.2) (outsAt0_A m c ⟨n, hn⟩ h0 (by show ¬1 ≤ n % 16; omega))
    dsimp only at e
    rw [first8] at e
    refine (congrFun e y).trans ((adds8 m c ⟨n, hn⟩ y z h).trans ?_)
    exact congrArg (fun b => partV _ _ _ _ b z) h0
  · refine Eq.trans ?_ (congrArg (_ + ·) (adds8 m c ⟨n + 1, hn⟩ y z h))
    have e := congrArg (fun p => p.2.2) (outsAt0_B m c ⟨n + 1, hn⟩ h0 (by show 1 ≤ (n + 1) % 16; omega))
    dsimp only at e
    rw [later8] at e
    exact congrFun e y

/-- The gradients of the keys and of the values that the launch leaves. -/
theorem final7 : (dats m 0 c).arrAt 7 cfg0.N = DK (aq m c) (ak m c) (av m c) (ao m c) (ag m c) (al m c) := by
  refine (dats m 0 c).arrAt_eq_of_covers 7 _ (by decide +kernel) fun t hf y => ?_
  have h15 : t.val % 16 = 15 := (flush0_7 t).mp hf
  refine (?_ : _ = (outsAt0 m c t.val t.isLt).2.1 y).trans ?_
  · blk_simp
    rw [after0_7]
  refine (sums7 m c t.val t.isLt y (((cfg0.win 7).blk t).view.emb y) ⟨?_, ?_⟩).trans ?_
  · show win0_7.index t 0 * 256 + 1 * (y 0).val = _
    rw [(idx7 t).1]; omega
  · show win0_7.index t 1 * 512 + 1 * (y 1).val = _
    rw [(idx7 t).2]
  rw [h15]
  exact sum_partK _ _ _ _ _ _ _

theorem final8 : (dats m 0 c).arrAt 8 cfg0.N = DV (aq m c) (ak m c) (ag m c) (al m c) := by
  refine (dats m 0 c).arrAt_eq_of_covers 8 _ (by decide +kernel) fun t hf y => ?_
  have h15 : t.val % 16 = 15 := (flush0_8 t).mp hf
  refine (?_ : _ = (outsAt0 m c t.val t.isLt).2.2 y).trans ?_
  · blk_simp
    rw [after0_8]
  refine (sums8 m c t.val t.isLt y (((cfg0.win 8).blk t).view.emb y) ⟨?_, ?_⟩).trans ?_
  · show win0_8.index t 0 * 256 + 1 * (y 0).val = _
    rw [(idx8 t).1]; omega
  · show win0_8.index t 1 * 512 + 1 * (y 1).val = _
    rw [(idx8 t).2]
  rw [h15]
  exact sum_partV _ _ _ _ _

end Cert.Cross.Grad
-- ==== Proof.Cross.GradHost.lean ====
/- Attention over the memory, backward: the means and the logarithms that the forward part leaves for it. -/
module

public import proofs.«01_k».proof.Proof.Cross.FwdRef
public import proofs.«01_k».proof.Proof.Cross.Grad

@[expose] public section

set_option maxRecDepth 65536

noncomputable section

namespace Cert.Cross.Grad

open Idealize.ShloMosaic Idealize.ShloMosaic.TcCoe Idealize.SL.Sem Cert.CrossGradIdeal Cert.CrossGradIdeal.Gen
open Cert.CrossReferenceIdeal.Read Cert.Cross.Fwd Cert.Products

variable (m : (ℓ : Loc nD τ sig) → Buf (Elt Ideal) ℓ) (c : Dev nD)

/-- The means are the forward reference's. -/
theorem ao_eq : ao m c = OR (aq m c) (ak m c) (av m c) := by
  have e : V m c main_v37 = val_main_v23 (F := Ideal) (m (c.tc.loc main_arg0)) (m (c.tc.loc main_arg1)) (m (c.tc.loc main_arg2)) := by
    entry_read
    rfl
  exact e.trans (r23 _ _ _)

theorem top_eq (q : S8192x2048.Idx → EReal) (k : S256x2048.Idx → EReal) : val_main_v8 (F := Ideal) q k = val_main_v10 (F := Ideal) q k := by
  funext y
  rw [eq_ix2 y]
  exact (r8 q k (y 0) (y 1)).trans (r10 q k (y 0) (y 1)).symm

/-- The logarithms as the forward part's lines leave them: the greatest score, and the logarithm of the sum of what is above it. -/
def logs (q : FVec Ideal S8192x2048 .bf16) (k : FVec Ideal S256x2048 .bf16) (t : FVec Ideal S4x8192 .f32) : FVec Ideal S4x8192x1 .f32 :=
  addf (broadcastInDim S4x8192x1 ![0, 1] bcast_S4x8192_S4x8192x1_0_1 t)
    (Host.log (broadcastInDim S4x8192x1 ![0, 1] bcast_S4x8192_S4x8192x1_0_1
      (Host.reduceAdd (Host.exp (subf (val_main_v7 (F := Ideal) q k)
        (broadcastInDim S4x8192x256 ![0, 1, 2] bcast_S4x8192x1_S4x8192x256_0_1_2
          (broadcastInDim S4x8192x1 ![0, 1] bcast_S4x8192_S4x8192x1_0_1 t))))
        (val_main_cst_2 (F := Ideal)) reducesTo_S4x8192x256_S4x8192_d2 h_S_)))

theorem logs_top (q : FVec Ideal S8192x2048 .bf16) (k : FVec Ideal S256x2048 .bf16) :
    logs q k (val_main_v10 (F := Ideal) q k) = addf (val_main_v11 (F := Ideal) q k) (Host.log (val_main_v16 (F := Ideal) q k)) := by
  unfold logs val_main_v16 val_main_v15 val_main_v14 val_main_v13 val_main_v12 val_main_v11
  rfl

/-- A row at a time. -/
theorem logs_eq (q : FVec Ideal S8192x2048 .bf16) (k : FVec Ideal S256x2048 .bf16) (h : Fin 4) (r : Fin 8192) (z : Fin 1) :
    logs q k (val_main_v8 (F := Ideal) q k) (ix3 h r z) = lse (rs q k h r) := by
  have e1 : val_main_v11 (F := Ideal) q k (ix3 h r z) = top (rs q k h r) := by
    rw [val_main_v11_apply, ext2 (idx_main_v11 (ix3 h r z)) (ix2 h r) rfl rfl, r10]
  have e2 : val_main_v16 (F := Ideal) q k (ix3 h r z) = den (rs q k h r) := by
    rw [val_main_v16_apply, ext2 (idx_main_v16 (ix3 h r z)) (ix2 h r) rfl rfl, r15]
  have e : ∀ a b : FVec Ideal S4x8192x1 .f32, addf a (Host.log b) (ix3 h r z) = (a (ix3 h r z) + Ideal.log (b (ix3 h r z)) : EReal) := fun _ _ => rfl
  rw [top_eq, logs_top, e, e1, e2]
  rfl

theorem al_eq (h : Fin 4) (r : Fin 8192) : al m c (ix3 h r 0) = lse (rs (aq m c) (ak m c) h r) := by
  have e : V m c main_v16 = logs (m (c.tc.loc main_arg0)) (m (c.tc.loc main_arg1)) (val_main_v8 (F := Ideal) (m (c.tc.loc main_arg0)) (m (c.tc.loc main_arg1))) := by
    entry_read
    rfl
  exact (congrFun e (ix3 h r 0)).trans (logs_eq _ _ h r 0)

end Cert.Cross.Grad
-- ==== Proof.Cross.GradRef.lean ====
/- Attention over the memory, backward: the reference's results are what the launch leaves, where what they are made of is real. -/
module

public import proofs.«01_k».proof.Proof.Cross.GradHost
public import proofs.«01_k».proof.Proof.Gen.CrossGradReferenceIdeal.Read

@[expose] public section

set_option maxRecDepth 16384

noncomputable section

namespace Cert.Cross.Grad

open Idealize.ShloMosaic Cert.CrossGradReferenceIdeal Cert.CrossGradReferenceIdeal.Gen Cert.CrossGradReferenceIdeal.Read Cert.Products Cert.Sgu
open Cert.Cross.Fwd

section
variable (q : S8192x2048.Idx → EReal) (k v : S256x2048.Idx → EReal) (g : S8192x2048.Idx → EReal)

/-- The exponentials, their sum and their shares are the forward reference's. -/
theorem g28 (h : Fin 4) (r : Fin 8192) (j : Fin 256) : val_main_v28 (F := Ideal) q k (ix3 h r j) = num (rs q k h r) j :=
  (congrFun (rfl : val_main_v28 (F := Ideal) q k = Cert.CrossReferenceIdeal.Read.val_main_v14 (F := Ideal) q k) (ix3 h r j)).trans (r14 q k h r j)

theorem g29 (h : Fin 4) (r : Fin 8192) : val_main_v29 (F := Ideal) q k (ix2 h r) = den (rs q k h r) :=
  (congrFun (rfl : val_main_v29 (F := Ideal) q k = Cert.CrossReferenceIdeal.Read.val_main_v15 (F := Ideal) q k) (ix2 h r)).trans (r15 q k h r)

theorem g32 (h : Fin 4) (r : Fin 8192) (j : Fin 256) : val_main_v32 (F := Ideal) q k (ix3 h r j) = prob (rs q k h r) j :=
  (congrFun (rfl : val_main_v32 (F := Ideal) q k = Cert.CrossReferenceIdeal.Read.val_main_v18 (F := Ideal) q k) (ix3 h r j)).trans (r18 q k h r j)

theorem g30 (h : Fin 4) (r : Fin 8192) (z : Fin 1) : val_main_v30 (F := Ideal) q k (ix3 h r z) = den (rs q k h r) := by
  rw [val_main_v30_apply, ext2 (idx_main_v30 (ix3 h r z)) (ix2 h r) rfl rfl, g29]

/-- Rows of the queries, keys, values and of the gradient. -/
theorem g3 (h : Fin 4) (r : Fin 8192) (d : Fin 512) : val_main_v3 (F := Ideal) q (ix3 r h d) = rowOf q h r d := by
  rw [val_main_v3_apply]
  have := h.isLt
  have := d.isLt
  refine congrArg q (ext2 (idx_main_v3 (ix3 r h d)) (ix2 r (col h d)) ?_ ?_)
  · show ((r.val * 4 + h.val) * 512 + d.val) / 2048 = r.val; omega
  · show ((r.val * 4 + h.val) * 512 + d.val) % 2048 = h.val * 512 + d.val; omega

theorem g4 (h : Fin 4) (j : Fin 256) (d : Fin 512) : val_main_v4 (F := Ideal) k (ix3 j h d) = rowOf k h j d := by
  rw [val_main_v4_apply]
  have := h.isLt
  have := d.isLt
  refine congrArg k (ext2 (idx_main_v4 (ix3 j h d)) (ix2 j (col h d)) ?_ ?_)
  · show ((j.val * 4 + h.val) * 512 + d.val) / 2048 = j.val; omega
  · show ((j.val * 4 + h.val) * 512 + d.val) % 2048 = h.val * 512 + d.val; omega

theorem g36 (h : Fin 4) (j : Fin 256) (d : Fin 512) : val_main_v36 (F := Ideal) v (ix3 j h d) = rowOf v h j d := g4 v h j d

theorem g42 (h : Fin 4) (d : Fin 512) (r : Fin 8192) : val_main_v42 (F := Ideal) g (ix3 h d r) = rowOf g h r d :=
  (val_main_v42_apply (F := Ideal) g (ix3 h d r)).trans
    ((congrArg (val_main_v41 (F := Ideal) g) (ext3 (idx_main_v42 (ix3 h d r)) (ix3 r h d) rfl rfl rfl)).trans (g3 g h r d))

/-- The gradient of the shares. -/
theorem g43 (h : Fin 4) (r : Fin 8192) (j : Fin 256) : val_main_v43 (F := Ideal) v g (ix3 h r j) = ∑ d, rowOf g h r d * rowOf v h j d := by
  refine (val_main_v43_apply v g _).trans (Finset.sum_congr rfl fun d _ => congrArg₂ (fun a b : EReal => a * b) ?_ ?_)
  · exact (congrArg (val_main_v42 (F := Ideal) g) (ext3 (lidx_main_v43 (ix3 h r j) d) (ix3 h d r) rfl rfl rfl)).trans (g42 g h d r)
  · exact (congrArg (val_main_v36 (F := Ideal) v) (ext3 (ridx_main_v43 (ix3 h r j) d) (ix3 j h d) rfl rfl rfl)).trans (g36 v h j d)

theorem one : Ideal.ofBits .f32 0x3F800000#32 = 1 := by simp [Ideal.ofBits, Ideal.ieee, -EReal.coe_mul]; norm_num
theorem zero : Ideal.ofBits .f32 0x00000000#32 = 0 := by simp [Ideal.ofBits, Ideal.ieee]

theorem g35 (h : Fin 4) (r : Fin 8192) (z : Fin 1) :
    val_main_v35 (F := Ideal) q k (ix3 h r z) = Ideal.div 1 (den (rs q k h r) * den (rs q k h r)) := by
  rw [val_main_v35_apply, val_main_v33_apply, g30, val_main_v34_apply, val_main_cst_9_apply]
  show Ideal.div (Ideal.ofBits .f32 0x3F800000#32) _ = _
  rw [one]
  rfl

theorem g50 (h : Fin 4) (r : Fin 8192) : val_main_v50 (F := Ideal) q k v g (ix2 h r)
    = ∑ j, (∑ d, rowOf g h r d * rowOf v h j d) * Ideal.div 1 (den (rs q k h r) * den (rs q k h r)) * num (rs q k h r) j := by
  refine (val_main_v50_apply q k v g _).trans ?_
  rw [val_main_cst_10_apply]
  show Ideal.ofBits .f32 0x00000000#32 + _ = _
  rw [zero, zero_add]
  refine Finset.sum_congr rfl fun j _ => ?_
  rw [ext3 (idx_main_v50 (ix2 h r) j) (ix3 h r j) rfl rfl rfl, val_main_v49_apply, val_main_v48_apply, g43, g28, val_main_v47_apply,
    ext3 (idx_main_v47 (ix3 h r j)) (ix3 h r (0 : Fin 1)) rfl rfl rfl, g35]
  rfl

theorem g55 (h : Fin 4) (r : Fin 8192) : val_main_v55 (F := Ideal) q k v g (ix2 h r) = -val_main_v50 (F := Ideal) q k v g (ix2 h r) := by
  refine (val_main_v55_apply q k v g _).trans ?_
  rw [val_main_cst_11_apply]
  show Ideal.ofBits .f32 0x00000000#32 + _ = _
  rw [zero, zero_add, Fin.sum_univ_one, val_main_v52_apply, val_main_v51_apply]
  refine congrArg (fun x : EReal => -x) (congrArg (val_main_v50 (F := Ideal) q k v g) (ext2 (idx_main_v51 (idx_main_v55 (ix2 h r) 0)) (ix2 h r) ?_ ?_))
  all_goals
    have h0 := h.isLt
    have h1 := r.isLt
  · show ((h.val * 8192 + r.val) * 1 + 0) / 8192 = h.val; omega
  · show ((h.val * 8192 + r.val) * 1 + 0) % 8192 = r.val; omega

theorem g58 (h : Fin 4) (r : Fin 8192) (j : Fin 256) : val_main_v58 (F := Ideal) q k v g (ix3 h r j)
    = (Ideal.div (∑ d, rowOf g h r d * rowOf v h j d) (den (rs q k h r))
        + -(∑ i, (∑ d, rowOf g h r d * rowOf v h i d) * Ideal.div 1 (den (rs q k h r) * den (rs q k h r)) * num (rs q k h r) i)) * num (rs q k h r) j := by
  rw [val_main_v58_apply, g28, val_main_v57_apply, val_main_v54_apply, g43, val_main_v53_apply,
    ext3 (idx_main_v53 (ix3 h r j)) (ix3 h r (0 : Fin 1)) rfl rfl rfl, g30, val_main_v56_apply,
    ext2 (idx_main_v56 (ix3 h r j)) (ix2 h r) rfl rfl, g55, g50]
  rfl

end

section
variable (q : S8192x2048.Idx → EReal) (k v : S256x2048.Idx → EReal) (g : S8192x2048.Idx → EReal) (l : S4x8192x1.Idx → EReal)
  (hq : ∀ i, IsReal (q i)) (hk : ∀ i, IsReal (k i)) (hv : ∀ i, IsReal (v i)) (hg : ∀ i, IsReal (g i))
  (hl : ∀ h r, l (ix3 h r 0) = lse (rs q k h r))
include hq hk hl

/-- The weights are the shares. -/
theorem P_eq (h : Fin 4) (r : Fin 8192) (j : Fin 256) : P q k l h r j = prob (rs q k h r) j := by
  unfold P
  rw [hl]
  exact exp_lse (real_rs q k hq hk h r) j

include hv hg

/-- The gradient of the scores, in the two forms. -/
theorem D_eq (h : Fin 4) (r : Fin 8192) (j : Fin 256) : D q k v (OR q k v) g l h r j = val_main_v58 (F := Ideal) q k v g (ix3 h r j) := by
  have hs := real_rs q k hq hk h r
  have e : ∑ d, rowOf g h r d * rowOf (OR q k v) h r d = ∑ d, rowOf g h r d * mean (rs q k h r) (rowOf v h) d := by
    refine Finset.sum_congr rfl fun d _ => congrArg (rowOf g h r d * ·) ?_
    have h1 : headOf (col h d) = h := Fin.ext (by have := d.isLt; show (h.val * 512 + d.val) / 512 = h.val; omega)
    have h2 : dimOf (col h d) = d := Fin.ext (by have := d.isLt; show (h.val * 512 + d.val) % 512 = d.val; omega)
    show mean (rs q k (headOf (col h d)) r) (rowOf v (headOf (col h d))) (dimOf (col h d)) = _
    rw [h1, h2]
  have e2 := mean_dot hs (g := rowOf g h r) (fun d => hg (ix2 r (col h d))) (v := rowOf v h) fun i d => hv (ix2 i (col h d))
  unfold D
  rw [P_eq q k l hq hk hl, e, e2, g58]
  exact (grad_eq hs (p := fun i => ∑ d, rowOf g h r d * rowOf v h i d)
    (fun i => IsReal.sum fun d => (hg (ix2 r (col h d))).mul (hv (ix2 i (col h d)))) j).symm

theorem g60 (h : Fin 4) (r : Fin 8192) (j : Fin 256) : val_main_v60 (F := Ideal) q k v g (ix3 h r j) = D q k v (OR q k v) g l h r j * sc := by
  rw [val_main_v60_apply, ← D_eq q k v g l hq hk hv hg hl, val_main_v59_apply, val_main_cst_12_apply]
  rfl

/-- The gradient of the queries. -/
theorem g63 (h : Fin 4) (r : Fin 8192) (d : Fin 512) : val_main_v63 (F := Ideal) q k v g (ix3 h r d)
    = (∑ j, D q k v (OR q k v) g l h r j * rowOf k h j d) * sc := by
  refine (val_main_v63_apply q k v g _).trans ?_
  rw [sc_eq, sum_mul_pos _ _ (by norm_num), ← sc_eq]
  refine Finset.sum_congr rfl fun j _ => ?_
  rw [ext3 (lidx_main_v63 (ix3 h r d) j) (ix3 h r j) rfl rfl rfl, ext3 (ridx_main_v63 (ix3 h r d) j) (ix3 j h d) rfl rfl rfl,
    g60 q k v g l hq hk hv hg hl, g4]
  exact mul_right_comm _ _ _

theorem ref6 : val_main_v67 (F := Ideal) q k v g = DQ q k v (OR q k v) g l := by
  funext y
  show val_main_v66 (F := Ideal) q k v g y = _
  rw [val_main_v66_apply, val_main_v64_apply]
  have h1 : (y 1).val < 2048 := (y 1).isLt
  refine (congrArg (val_main_v63 (F := Ideal) q k v g) (ext3 (idx_main_v64 (idx_main_v66 y)) (ix3 (headOf (y 1)) (y 0) (dimOf (y 1))) ?_ ?_ ?_)).trans
    (g63 q k v g l hq hk hv hg hl _ _ _)
  · show ((y 0).val * 2048 + (y 1).val) / 512 % 4 = (y 1).val / 512; omega
  · show ((y 0).val * 2048 + (y 1).val) / 2048 = (y 0).val; omega
  · show ((y 0).val * 2048 + (y 1).val) % 512 = (y 1).val % 512; omega

/-- The gradient of the keys. -/
theorem g61 (h : Fin 4) (j : Fin 256) (d : Fin 512) : val_main_v61 (F := Ideal) q k v g (ix3 h j d)
    = (∑ r, D q k v (OR q k v) g l h r j * rowOf q h r d) * sc := by
  refine (val_main_v61_apply q k v g _).trans ?_
  rw [sc_eq, sum_mul_pos _ _ (by norm_num), ← sc_eq]
  refine Finset.sum_congr rfl fun r _ => ?_
  rw [ext3 (lidx_main_v61 (ix3 h j d) r) (ix3 h r j) rfl rfl rfl, ext3 (ridx_main_v61 (ix3 h j d) r) (ix3 r h d) rfl rfl rfl,
    g60 q k v g l hq hk hv hg hl, g3]
  exact mul_right_comm _ _ _

theorem ref7 : val_main_v65 (F := Ideal) q k v g = DK q k v (OR q k v) g l := by
  funext y
  rw [val_main_v65_apply, val_main_v62_apply]
  have h1 : (y 1).val < 2048 := (y 1).isLt
  refine (congrArg (val_main_v61 (F := Ideal) q k v g) (ext3 (idx_main_v62 (idx_main_v65 y)) (ix3 (headOf (y 1)) (y 0) (dimOf (y 1))) ?_ ?_ ?_)).trans
    (g61 q k v g l hq hk hv hg hl _ _ _)
  · show ((y 0).val * 2048 + (y 1).val) / 512 % 4 = (y 1).val / 512; omega
  · show ((y 0).val * 2048 + (y 1).val) / 2048 = (y 0).val; omega
  · show ((y 0).val * 2048 + (y 1).val) % 512 = (y 1).val % 512; omega

omit hv hg in
/-- The gradient of the values. -/
theorem g44 (h : Fin 4) (d : Fin 512) (j : Fin 256) : val_main_v44 (F := Ideal) q k g (ix3 h d j) = ∑ r, P q k l h r j * rowOf g h r d := by
  refine (val_main_v44_apply q k g _).trans (Finset.sum_congr rfl fun r _ => ?_)
  rw [ext3 (lidx_main_v44 (ix3 h d j) r) (ix3 h d r) rfl rfl rfl, ext3 (ridx_main_v44 (ix3 h d j) r) (ix3 h r j) rfl rfl rfl,
    g42, g32, P_eq q k l hq hk hl]
  exact mul_comm _ _

omit hv hg in
theorem ref8 : val_main_v46 (F := Ideal) q k g = DV q k g l := by
  funext y
  rw [val_main_v46_apply, val_main_v45_apply]
  have h1 : (y 1).val < 2048 := (y 1).isLt
  refine (congrArg (val_main_v44 (F := Ideal) q k g) (ext3 (idx_main_v45 (idx_main_v46 y)) (ix3 (headOf (y 1)) (dimOf (y 1)) (y 0)) ?_ ?_ ?_)).trans
    (g44 q k g l hq hk hl _ _ _)
  · show ((y 0).val * 2048 + (y 1).val) / 512 % 4 = (y 1).val / 512; omega
  · show ((y 0).val * 2048 + (y 1).val) % 512 = (y 1).val % 512; omega
  · show ((y 0).val * 2048 + (y 1).val) / 2048 = (y 0).val; omega

end

end Cert.Cross.Grad
-- ==== Proof.Products.MemKeys.lean ====
/- The product of the memory's 256 rows with 2048×2048 weights: what the launch leaves, and that the reference
   leaves the same. -/
module

public import proofs.«01_k».proof.Proof.Products.Common
public import proofs.«01_k».proof.Proof.Gen.MemKeysIdeal.Value
public import proofs.«01_k».proof.Proof.Gen.MemKeysReferenceIdeal.Read
public import Idealize.ShloMosaic.Lib.Claim
public import Idealize.ShloMosaic.Lib.Pipeline.ValueKit

@[expose] public section

set_option maxRecDepth 16384

noncomputable section

namespace Cert.Products.MemKeys

open Idealize.ShloMosaic Idealize.ShloMosaic.TcCoe Idealize.SL.Sem Cert.MemKeysIdeal Cert.MemKeysIdeal.Gen
open Idealize.ShloMosaic.Pipeline (Dat)

/-- A grid point's block, an index at a time. -/
theorem out_apply (x : Vec Ideal S256x2048 .bf16) (w : Vec Ideal S2048x1024 .bf16) (y : S256x1024.Idx) :
    out0_2 x w y = nn x w y := by
  unfold out0_2
  rw [View.canon_unit_zero zero2, View.ld_unit_zero (S := S256x2048) zero2, View.ld_unit_zero (S := S2048x1024) zero2, eq_ix2 y]
  unfold k0_pay1 nn
  pointwise

theorem idx0 : ∀ t : Fin cfg0.N, win0_0.index t 0 = win0_2.index t 0 ∧ win0_0.index t 1 = 0 := by decide +kernel
theorem idx1 : ∀ t : Fin cfg0.N, win0_1.index t 0 = 0 ∧ win0_1.index t 1 = win0_2.index t 1 := by decide +kernel

variable (m : (ℓ : Loc nD τ sig) → Buf (Elt Ideal) ℓ) (c : Dev nD)

/-- The blocks a grid point reads. -/
theorem blk0 (t : Fin cfg0.N) (x : S256x2048.Idx) (z : S256x2048.Idx) (e0 : (z 0).val = win0_2.index t 0 * 256 + 1 * (x 0).val)
    (e1 : (z 1).val = (x 1).val) : (iblk m c 0 t : Vec Ideal S256x2048 .bf16) x = m ((c : Thread nD τ).loc main_arg0) z := by
  unfold iblk
  rw [View.read_apply]
  show V m c main_arg0 _ = m (c.tc.loc main_arg0) _
  rw [V_main_arg0]
  refine congrArg _ (ext2 _ _ ?_ ?_)
  · show win0_0.index t 0 * 256 + 1 * (x 0).val = (z 0).val
    rw [(idx0 t).1, e0]
  · show win0_0.index t 1 * 2048 + 1 * (x 1).val = (z 1).val
    rw [(idx0 t).2, e1]; omega

theorem blk1 (t : Fin cfg0.N) (x : S2048x1024.Idx) (z : S2048x2048.Idx) (e0 : (z 0).val = (x 0).val)
    (e1 : (z 1).val = win0_2.index t 1 * 1024 + 1 * (x 1).val) : (iblk m c 1 t : Vec Ideal S2048x1024 .bf16) x = m ((c : Thread nD τ).loc main_arg1) z := by
  unfold iblk
  rw [View.read_apply]
  show V m c main_arg1 _ = m (c.tc.loc main_arg1) _
  rw [V_main_arg1]
  refine congrArg _ (ext2 _ _ ?_ ?_)
  · show win0_1.index t 0 * 2048 + 1 * (x 0).val = (z 0).val
    rw [(idx1 t).1, e0]; omega
  · show win0_1.index t 1 * 1024 + 1 * (x 1).val = (z 1).val
    rw [(idx1 t).2, e1]

/-- The array the launch leaves. -/
theorem final : (dats m 0 c).arrAt 2 cfg0.N = nn (m ((c : Thread nD τ).loc main_arg0)) (m ((c : Thread nD τ).loc main_arg1)) := by
  refine (dats m 0 c).arrAt_eq_of_covers 2 _ (by decide +kernel) fun t hf y => ?_
  refine (?_ : _ = out0_2 (iblk m c 0 t) (iblk m c 1 t) y).trans ?_
  · blk_simp
    rw [after0_2]
  rw [out_apply]
  refine Finset.sum_congr rfl fun k _ => ?_
  exact congrArg₂ (fun a b : EReal => a * b) (blk0 m c t _ _ rfl rfl) (blk1 m c t _ _ rfl rfl)

open Cert.MemKeysReferenceIdeal.Read in
/-- The reference's result. -/
theorem ref_eq (x : S256x2048.Idx → EReal) (w : S2048x2048.Idx → EReal) : val_main_v3 (F := Ideal) x w = nn x w := by
  funext y
  rw [val_main_v3_apply]
  refine ((val_main_v2_apply x w y).trans (Finset.sum_congr rfl fun k _ => congrArg₂ (fun a b : EReal => a * b) ?_ ?_))
  · exact congrArg x (ext2 _ _ rfl rfl)
  · exact congrArg w (ext2 _ _ rfl rfl)

end Cert.Products.MemKeys
-- ==== Proof.Products.MemArg.lean ====
/- The gradient of the argument of the product of the memory's 256 rows with 2048×2048 weights: what the launch leaves, and that the reference
   leaves the same. -/
module

public import proofs.«01_k».proof.Proof.Products.Common
public import proofs.«01_k».proof.Proof.Gen.MemArgIdeal.Value
public import proofs.«01_k».proof.Proof.Gen.MemArgReferenceIdeal.Read
public import Idealize.ShloMosaic.Lib.Claim
public import Idealize.ShloMosaic.Lib.Pipeline.ValueKit

@[expose] public section

set_option maxRecDepth 16384

noncomputable section

namespace Cert.Products.MemArg

open Idealize.ShloMosaic Idealize.ShloMosaic.TcCoe Idealize.SL.Sem Cert.MemArgIdeal Cert.MemArgIdeal.Gen
open Idealize.ShloMosaic.Pipeline (Dat)

/-- A grid point's block, an index at a time. -/
theorem out_apply (x : Vec Ideal S256x2048 .f32) (w : Vec Ideal S1024x2048 .bf16) (y : S256x1024.Idx) : out0_2 x w y = nt x w y := by
  unfold out0_2
  rw [View.canon_unit_zero zero2, View.ld_unit_zero (S := S256x2048) zero2, View.ld_unit_zero (S := S1024x2048) zero2, eq_ix2 y]
  unfold k0_pay1 nt
  pointwise

theorem idx0 : ∀ t : Fin cfg0.N, win0_0.index t 0 = win0_2.index t 0 ∧ win0_0.index t 1 = 0 := by decide +kernel
theorem idx1 : ∀ t : Fin cfg0.N, win0_1.index t 0 = win0_2.index t 1 ∧ win0_1.index t 1 = 0 := by decide +kernel

variable (m : (ℓ : Loc nD τ sig) → Buf (Elt Ideal) ℓ) (c : Dev nD)

/-- The blocks a grid point reads. -/
theorem blk0 (t : Fin cfg0.N) (x : S256x2048.Idx) (z : S256x2048.Idx) (e0 : (z 0).val = win0_2.index t 0 * 256 + 1 * (x 0).val)
    (e1 : (z 1).val = (x 1).val) : (iblk m c 0 t : Vec Ideal S256x2048 .f32) x = m ((c : Thread nD τ).loc main_arg1) z := by
  unfold iblk
  rw [View.read_apply]
  show V m c main_arg1 _ = m (c.tc.loc main_arg1) _
  rw [V_main_arg1]
  refine congrArg _ (ext2 _ _ ?_ ?_)
  · show win0_0.index t 0 * 256 + 1 * (x 0).val = (z 0).val
    rw [(idx0 t).1, e0]
  · show win0_0.index t 1 * 2048 + 1 * (x 1).val = (z 1).val
    rw [(idx0 t).2, e1]; omega

theorem blk1 (t : Fin cfg0.N) (x : S1024x2048.Idx) (z : S2048x2048.Idx) (e0 : (z 0).val = win0_2.index t 1 * 1024 + 1 * (x 0).val)
    (e1 : (z 1).val = (x 1).val) : (iblk m c 1 t : Vec Ideal S1024x2048 .bf16) x = m ((c : Thread nD τ).loc main_arg0) z := by
  unfold iblk
  rw [View.read_apply]
  show V m c main_arg0 _ = m (c.tc.loc main_arg0) _
  rw [V_main_arg0]
  refine congrArg _ (ext2 _ _ ?_ ?_)
  · show win0_1.index t 0 * 1024 + 1 * (x 0).val = (z 0).val
    rw [(idx1 t).1, e0]
  · show win0_1.index t 1 * 2048 + 1 * (x 1).val = (z 1).val
    rw [(idx1 t).2, e1]; omega

/-- The array the launch leaves. -/
theorem final : (dats m 0 c).arrAt 2 cfg0.N = nt (m ((c : Thread nD τ).loc main_arg1)) (m ((c : Thread nD τ).loc main_arg0)) := by
  refine (dats m 0 c).arrAt_eq_of_covers 2 _ (by decide +kernel) fun t hf y => ?_
  refine (?_ : _ = out0_2 (iblk m c 0 t) (iblk m c 1 t) y).trans ?_
  · blk_simp
    rw [after0_2]
  rw [out_apply]
  unfold nt
  refine Finset.sum_congr rfl fun k _ => ?_
  exact congrArg₂ (fun a b : EReal => a * b) (blk0 m c t _ _ rfl rfl) (blk1 m c t _ _ rfl rfl)

open Cert.MemArgReferenceIdeal.Read in
/-- The reference's result. -/
theorem ref_eq (w : S2048x2048.Idx → EReal) (ct : S256x2048.Idx → EReal) : val_main_v3 (F := Ideal) w ct = nt ct w := by
  funext y
  rw [val_main_v3_apply]
  unfold nt
  refine Finset.sum_congr rfl fun k _ => congrArg₂ (fun a b : EReal => a * b) ?_ ?_
  · exact congrArg ct (ext2 _ _ rfl rfl)
  · exact congrArg w (ext2 _ _ rfl rfl)

end Cert.Products.MemArg
-- ==== Proof.Products.MemWeights.lean ====
/- The gradient of the weights of the product of the memory's 256 rows with 2048×2048 weights: what the launch leaves, and that the reference
   leaves the same. -/
module

public import proofs.«01_k».proof.Proof.Products.Common
public import proofs.«01_k».proof.Proof.Gen.MemWeightsIdeal.Value
public import proofs.«01_k».proof.Proof.Gen.MemWeightsReferenceIdeal.Read
public import Idealize.ShloMosaic.Lib.Claim
public import Idealize.ShloMosaic.Lib.Pipeline.ValueKit

@[expose] public section

set_option maxRecDepth 16384

noncomputable section

namespace Cert.Products.MemWeights

open Idealize.ShloMosaic Idealize.ShloMosaic.TcCoe Idealize.SL.Sem Cert.MemWeightsIdeal Cert.MemWeightsIdeal.Gen
open Idealize.ShloMosaic.Pipeline (Dat)

/-- A grid point's block, an index at a time. -/
theorem out_apply (x : Vec Ideal S256x1024 .bf16) (d : Vec Ideal S256x1024 .f32) (y : S1024x1024.Idx) :
    out0_2 x d y = tn x d y := by
  unfold out0_2
  rw [View.canon_unit_zero zero2, View.ld_unit_zero (S := S256x1024) zero2, View.ld_unit_zero (S := S256x1024) zero2, eq_ix2 y]
  unfold k0_pay1 tn
  pointwise

theorem idx0 : ∀ t : Fin cfg0.N, win0_0.index t 0 = 0 ∧ win0_0.index t 1 = win0_2.index t 0 := by decide +kernel
theorem idx1 : ∀ t : Fin cfg0.N, win0_1.index t 0 = 0 ∧ win0_1.index t 1 = win0_2.index t 1 := by decide +kernel

variable (m : (ℓ : Loc nD τ sig) → Buf (Elt Ideal) ℓ) (c : Dev nD)

/-- The blocks a grid point reads. -/
theorem blk0 (t : Fin cfg0.N) (x : S256x1024.Idx) (z : S256x2048.Idx) (e0 : (z 0).val = (x 0).val)
    (e1 : (z 1).val = win0_2.index t 0 * 1024 + 1 * (x 1).val) : (iblk m c 0 t : Vec Ideal S256x1024 .bf16) x = m ((c : Thread nD τ).loc main_arg0) z := by
  unfold iblk
  rw [View.read_apply]
  show V m c main_arg0 _ = m (c.tc.loc main_arg0) _
  rw [V_main_arg0]
  refine congrArg _ (ext2 _ _ ?_ ?_)
  · show win0_0.index t 0 * 256 + 1 * (x 0).val = (z 0).val
    rw [(idx0 t).1, e0]; omega
  · show win0_0.index t 1 * 1024 + 1 * (x 1).val = (z 1).val
    rw [(idx0 t).2, e1]

theorem blk1 (t : Fin cfg0.N) (x : S256x1024.Idx) (z : S256x2048.Idx) (e0 : (z 0).val = (x 0).val)
    (e1 : (z 1).val = win0_2.index t 1 * 1024 + 1 * (x 1).val) : (iblk m c 1 t : Vec Ideal S256x1024 .f32) x = m ((c : Thread nD τ).loc main_arg1) z := by
  unfold iblk
  rw [View.read_apply]
  show V m c main_arg1 _ = m (c.tc.loc main_arg1) _
  rw [V_main_arg1]
  refine congrArg _ (ext2 _ _ ?_ ?_)
  · show win0_1.index t 0 * 256 + 1 * (x 0).val = (z 0).val
    rw [(idx1 t).1, e0]; omega
  · show win0_1.index t 1 * 1024 + 1 * (x 1).val = (z 1).val
    rw [(idx1 t).2, e1]

/-- The array the launch leaves. -/
theorem final : (dats m 0 c).arrAt 2 cfg0.N = tn (m ((c : Thread nD τ).loc main_arg0)) (m ((c : Thread nD τ).loc main_arg1)) := by
  refine (dats m 0 c).arrAt_eq_of_covers 2 _ (by decide +kernel) fun t hf y => ?_
  refine (?_ : _ = out0_2 (iblk m c 0 t) (iblk m c 1 t) y).trans ?_
  · blk_simp
    rw [after0_2]
  rw [out_apply]
  refine Finset.sum_congr rfl fun k _ => ?_
  exact congrArg₂ (fun a b : EReal => a * b) (blk0 m c t _ _ rfl rfl) (blk1 m c t _ _ rfl rfl)

open Cert.MemWeightsReferenceIdeal.Read in
/-- The reference's result. -/
theorem ref_eq (x d : S256x2048.Idx → EReal) : val_main_v5 (F := Ideal) x d = tn x d := by
  funext y
  rw [val_main_v5_apply]
  refine ((val_main_v4_apply (F := Ideal) x d y).trans (val_main_v3_apply x d _)).trans ?_
  refine Finset.sum_congr rfl fun k _ => ?_
  refine (mul_comm (d _ : EReal) (x _)).trans ?_
  exact congrArg₂ (fun a b : EReal => a * b) (congrArg x (ext2 _ (ix2 k (y 0)) rfl rfl)) (congrArg d (ext2 _ (ix2 k (y 1)) rfl rfl))

end Cert.Products.MemWeights
-- ==== Proof.Norms.Spec.lean ====
/- The norm of a row of 2048, its gradient, and that the step's form of the gradient is the derivative's. -/
module

public import proofs.«01_k».proof.Proof.Equation
public import proofs.«01_k».proof.Proof.Products.Common

@[expose] public section

set_option maxRecDepth 16384

noncomputable section

namespace Cert.Norms

open Idealize.ShloMosaic Cert.Sgu Cert.Products
open Cert.Sgu.Ref (cM)

/-- Two indices of a vector with equal coordinates are the same. -/
theorem ext1 {n : ℕ} (x z : (Shape.mk 1 ![n]).Idx) (e0 : (x 0).val = (z 0).val) : x = z :=
  funext fun a => Fin.ext (match a with
    | ⟨0, _⟩ => e0)

/-- The literal zero, to which a sum on the host adds. -/
theorem zero_lit (x : EReal) : Ideal.ofBits .f32 0x00000000#32 + x = x := by
  rw [show Ideal.ofBits .f32 0x00000000#32 = 0 by simp [Ideal.ofBits, Ideal.ieee], zero_add]

/-- The literal 2048. -/
def cD : EReal := Ideal.ofBits .f32 0x45000000#32

section
variable (x g d : Fin 2048 → EReal)

/-- The mean square of a row and epsilon, … -/
def ms : EReal := Ideal.div (∑ k, x k * x k) cD + cEps

/-- … its reciprocal root, … -/
def rs : EReal := Ideal.rsqrt (ms x)

/-- … and the norm with its scale. -/
def norm (k : Fin 2048) : EReal := x k * rs x * g k

/-- The gradient in the row, as the step computes it: `d` is the gradient that comes in, … -/
def grad (k : Fin 2048) : EReal :=
  rs x * (d k * g k - x k * rs x * Ideal.div (∑ l, d l * g l * (x l * rs x)) cD)

/-- … and as the derivative has it, with this number for the row. -/
def slope : EReal := Ideal.div ((∑ l, x l * (d l * g l)) * (cM * Ideal.div (rs x) (ms x))) cD
def rgrad (k : Fin 2048) : EReal := d k * g k * rs x + x k * slope x g d + slope x g d * x k

end

theorem cD_eq : cD = ((2048 : ℝ) : EReal) := by
  simp [cD, Ideal.ofBits, Ideal.ieee, -EReal.coe_mul]; norm_num

theorem div_cD (x : ℝ) : Ideal.div (x : EReal) cD = ((x / 2048 : ℝ) : EReal) := by
  rw [cD_eq, Ideal.div_coe (by norm_num), ← EReal.coe_mul, mul_one_div]

/-- A positive real goes into a sum of extended reals, … -/
theorem mul_sum_pos {s : ℝ} (hs : 0 < s) {ι : Type*} (t : Finset ι) (f : ι → EReal) : (s : EReal) * ∑ l ∈ t, f l = ∑ l ∈ t, (s : EReal) * f l := by
  classical
  induction t using Finset.induction_on with
  | empty => simp
  | insert a t h ih =>
    rw [Finset.sum_insert h, Finset.sum_insert h, EReal.left_distrib_of_nonneg_of_ne_top (by exact_mod_cast hs.le) (EReal.coe_ne_top s), ih]

/-- … and a real multiple of an extended real, taken twice, is that by twice the real. -/
theorem twice (t : EReal) (p : ℝ) : t * (p : EReal) + t * (p : EReal) = t * ((2 * p : ℝ) : EReal) := by
  induction t with
  | coe t => rw [← EReal.coe_mul, ← EReal.coe_add, ← EReal.coe_mul]; congr 1; ring
  | top =>
    rcases lt_trichotomy p 0 with h | rfl | h
    · rw [EReal.top_mul_coe_of_neg h, EReal.top_mul_coe_of_neg (by linarith)]; rfl
    · simp
    · rw [EReal.top_mul_coe_of_pos h, EReal.top_mul_coe_of_pos (by linarith)]; rfl
  | bot =>
    rcases lt_trichotomy p 0 with h | rfl | h
    · rw [EReal.bot_mul_coe_of_neg h, EReal.bot_mul_coe_of_neg (by linarith)]; rfl
    · simp
    · rw [EReal.bot_mul_coe_of_pos h, EReal.bot_mul_coe_of_pos (by linarith)]; rfl

theorem mul_self_nonneg' (x : EReal) : 0 ≤ x * x := by
  induction x with
  | coe r => rw [← EReal.coe_mul]; exact_mod_cast mul_self_nonneg r
  | top => exact le_top
  | bot => exact le_top

/-- A row with an infinite entry has an infinite mean square. -/
theorem ms_top {x : Fin 2048 → EReal} {k : Fin 2048} (h : x k * x k = ⊤) : ms x = ⊤ := by
  obtain ⟨e, _, ee⟩ := cEps_eq
  have hs : ∑ l, x l * x l = ⊤ := top_le_iff.mp (h ▸ Finset.single_le_sum (f := fun l => x l * x l) (fun l _ => mul_self_nonneg' (x l)) (Finset.mem_univ k))
  unfold ms
  rw [hs, cD_eq, Ideal.div_coe (by norm_num), EReal.top_mul_coe_of_pos (by norm_num), ee, EReal.top_add_coe]

/-- The two forms are the same, whatever the entries: of a row with an infinite entry both are zero, and of a real row the gradient's infinities
enter both alike. -/
theorem grad_eq (x g d : Fin 2048 → EReal) (k : Fin 2048) : rgrad x g d k = grad x g d k := by
  by_cases hx : ∀ k, IsReal (x k)
  swap
  · obtain ⟨j, hj⟩ := not_forall.mp hx
    have hm : ms x = ⊤ := ms_top (k := j) (by
      induction hv : x j with
      | coe r => exact absurd ⟨r, hv⟩ hj
      | top => rfl
      | bot => rfl)
    have hr : rs x = 0 := by unfold rs; rw [hm]; rfl
    have hd : Ideal.div 0 ⊤ = 0 := by simp [Ideal.div]
    unfold rgrad grad slope
    rw [hr, hm, hd, cD_eq, Ideal.div_coe (by norm_num)]
    simp
  choose X eX using hx
  obtain rfl : x = fun l => (X l : EReal) := funext eX
  obtain ⟨e, he, ee⟩ := cEps_eq
  have hq : 0 < (∑ l, X l * X l) / 2048 + e :=
    add_pos_of_nonneg_of_pos (div_nonneg (Finset.sum_nonneg fun l _ => mul_self_nonneg _) (by norm_num)) he
  have em : ms (fun l => (X l : EReal)) = (((∑ l, X l * X l) / 2048 + e : ℝ) : EReal) := by
    unfold ms
    simp only [← EReal.coe_mul, ← coe_sum, div_cD, ee, ← EReal.coe_add]
  unfold rgrad grad slope rs
  rw [em]
  generalize (∑ l, X l * X l) / 2048 + e = q at hq
  rw [rsqrt_pos hq, cM_eq, Ideal.div_coe hq.ne', cD_eq, Ideal.div_coe (by norm_num), Ideal.div_coe (by norm_num)]
  have hs : (Real.sqrt q)⁻¹ * (1 / q) = (Real.sqrt q)⁻¹ ^ 3 := by
    have := Real.mul_self_sqrt hq.le
    have h0 := (Real.sqrt_pos.mpr hq).ne'
    nth_rw 2 [← this]
    field_simp
  have hp : 0 < (Real.sqrt q)⁻¹ := inv_pos.mpr (Real.sqrt_pos.mpr hq)
  generalize (Real.sqrt q)⁻¹ = s at *
  have e3 : ∑ l, d l * g l * ((X l : EReal) * (s : EReal)) = (s : EReal) * ∑ l, (X l : EReal) * (d l * g l) := by
    rw [mul_sum_pos hp]
    exact Finset.sum_congr rfl fun l _ => by ac_rfl
  rw [e3]
  generalize ∑ l, (X l : EReal) * (d l * g l) = t
  generalize d k * g k = a
  have e4 : (X k : EReal) * (t * (((-(1 / 2) : ℝ) : EReal) * ((s : EReal) * ((1 / q : ℝ) : EReal))) * ((1 / 2048 : ℝ) : EReal))
      = t * ((X k * (-(1 / 2) * s ^ 3 * (1 / 2048)) : ℝ) : EReal) := by
    rw [← hs]
    simp only [EReal.coe_mul]
    ac_rfl
  have e5 : (s : EReal) * -((X k : EReal) * (s : EReal) * ((s : EReal) * t * ((1 / 2048 : ℝ) : EReal)))
      = t * ((2 * (X k * (-(1 / 2) * s ^ 3 * (1 / 2048))) : ℝ) : EReal) := by
    rw [show 2 * (X k * (-(1 / 2) * s ^ 3 * (1 / 2048))) = -(X k * s * s * s * (1 / 2048)) by ring, EReal.coe_neg, mul_neg, mul_neg]
    simp only [EReal.coe_mul]
    exact congrArg Neg.neg (by ac_rfl)
  rw [add_assoc, mul_comm (t * _ * _) (X k : EReal), e4, twice, sub_eq_add_neg,
    EReal.left_distrib_of_nonneg_of_ne_top (by exact_mod_cast hp.le) (EReal.coe_ne_top s), e5, mul_comm a]

/-- The sum of a row of a block, in a column; … -/
theorem row_sum {n : ℕ} (x : FVec Ideal ⟨2, ![n, 2048]⟩ .f32) (h : (Shape.mk 2 ![n, 2048]).Reduces [1] ⟨1, ![n]⟩)
    (hs : (Shape.mk 1 ![n]).ShapeCasts ⟨2, ![n, 1]⟩) (i : Fin n) (z : Fin 1) :
    shapeCast ⟨2, ![n, 1]⟩ (multiReduction (F := Ideal) .add [1] ⟨1, ![n]⟩ x 0x00000000#32 h (.inl rfl) rfl) hs (ix2 i z)
      = ∑ k : Fin 2048, x (ix2 i k) := by
  refine (shapeCast_apply _ _ (ix2 i z) (ix1 i) ?_).trans ?_
  · rw [Shape.rowMajor_val_one, Shape.rowMajor_val_two]; have := z.isLt; show i.val = i.val * 1 + z.val; omega
  refine (Ideal.multiReduction_add_single _ _ _ _ _ _).trans ?_
  exact Finset.sum_congr rfl fun k _ => congrArg x (ext2 (h.lift (ix1 i) k) (ix2 i k) rfl rfl)

/-- … and of a column, in a row. -/
theorem col_sum {n : ℕ} (x : FVec Ideal ⟨2, ![n, 2048]⟩ .f32) (h : (Shape.mk 2 ![n, 2048]).Reduces [0] ⟨1, ![2048]⟩)
    (hs : (Shape.mk 1 ![2048]).ShapeCasts ⟨2, ![1, 2048]⟩) (z : Fin 1) (k : Fin 2048) :
    shapeCast ⟨2, ![1, 2048]⟩ (multiReduction (F := Ideal) .add [0] ⟨1, ![2048]⟩ x 0x00000000#32 h (.inl rfl) rfl) hs (ix2 z k)
      = ∑ i : Fin n, x (ix2 i k) := by
  refine (shapeCast_apply _ _ (ix2 z k) (ix1 k) ?_).trans ?_
  · rw [Shape.rowMajor_val_one, Shape.rowMajor_val_two]; have := z.isLt; show k.val = z.val * 2048 + k.val; omega
  refine (Ideal.multiReduction_add_single _ _ _ _ _ _).trans ?_
  exact Finset.sum_congr rfl fun i _ => congrArg x (ext2 (h.lift (ix1 k) i) (ix2 i k) rfl rfl)

/-- A vector laid as a row. -/
theorem as_row (v : (Shape.mk 1 ![2048]).Idx → EReal) (hs : (Shape.mk 1 ![2048]).ShapeCasts ⟨2, ![1, 2048]⟩) (z : Fin 1) (k : Fin 2048) :
    shapeCast ⟨2, ![1, 2048]⟩ v hs (ix2 z k) = v (ix1 k) := by
  refine shapeCast_apply _ _ (ix2 z k) (ix1 k) ?_
  rw [Shape.rowMajor_val_one, Shape.rowMajor_val_two]; have := z.isLt; show k.val = z.val * 2048 + k.val; omega

/-- The row of 8192 that is row `k` of the `j`-th 256, and a sum over the rows taken so. -/
def row32 (j : ℕ) (k : Fin 256) : Fin 8192 := ⟨(j * 256 + 1 * k.val) % 8192, Nat.mod_lt _ (by decide)⟩

theorem sum_row32 (f : Fin 8192 → EReal) : ∑ j ∈ Finset.range 32, ∑ k : Fin 256, f (row32 j k) = ∑ r, f r := by
  rw [Finset.sum_range, ← Fintype.sum_prod_type' fun (j : Fin 32) k => f (row32 j.val k)]
  exact Fintype.sum_equiv (finProdFinEquiv (m := 32) (n := 256)) _ _ fun p => congrArg f (Fin.ext (by
    have h1 : p.1.val < 32 := p.1.isLt
    have h2 : p.2.val < 256 := p.2.isLt
    show (p.1.val * 256 + 1 * p.2.val) % 8192 = p.2.val + 256 * p.1.val
    omega))

end Cert.Norms
-- ==== Proof.Norms.Norm.lean ====
/- The norm of 8192 rows: what the launch leaves, and that the reference leaves the same. -/
module

public import proofs.«01_k».proof.Proof.Norms.Spec
public import proofs.«01_k».proof.Proof.Gen.NormIdeal.Value
public import proofs.«01_k».proof.Proof.Gen.NormReferenceIdeal.Read
public import Idealize.ShloMosaic.Lib.Claim
public import Idealize.ShloMosaic.Lib.Pipeline.ValueKit

@[expose] public section

set_option maxRecDepth 16384

noncomputable section

namespace Cert.Norms.Norm

open Idealize.ShloMosaic Idealize.ShloMosaic.TcCoe Idealize.SL.Sem Cert.NormIdeal Cert.NormIdeal.Gen Cert.Products Cert.Norms
open Idealize.ShloMosaic.Pipeline (Dat)

/-- A grid point's block, an index at a time. -/
theorem out_apply (x : Vec Ideal S512x2048 .f32) (g : Vec Ideal S1x2048 .f32) (i : Fin 512) (k : Fin 2048) :
    out0_2 x g (ix2 i k) = norm (fun l => x (ix2 i l)) (fun l => g (ix2 0 l)) k := by
  unfold out0_2
  rw [View.canon_unit_zero zero2, View.ld_unit_zero (S := S512x2048) zero2, View.ld_unit_zero (S := S1x2048) zero2]
  unfold k0_pay1 norm rs ms
  dsimp only
  rw [shapeCast_self]
  have e : shapeCast S512x1 (multiReduction (F := Ideal) .add [1] S512 (mulf x x) 0x00000000#32 reduces_S512x2048_S512 (.inl rfl) rfl)
      shapeCasts_S512_S512x1 (ix2 i (0 : Fin 1)) = ∑ l, (x (ix2 i l) * x (ix2 i l) : EReal) :=
    row_sum (mulf x x) reduces_S512x2048_S512 shapeCasts_S512_S512x1 i 0
  rw [← e]
  generalize shapeCast S512x1 _ shapeCasts_S512_S512x1 = w
  pointwise
  rfl

theorem idx0 : ∀ t : Fin cfg0.N, win0_0.index t 0 = win0_2.index t 0 ∧ win0_0.index t 1 = 0 := by decide +kernel
theorem idx1 : ∀ t : Fin cfg0.N, win0_1.index t 0 = 0 ∧ win0_1.index t 1 = 0 := by decide +kernel
theorem idx2 : ∀ t : Fin cfg0.N, win0_2.index t 1 = 0 := by decide +kernel

variable (m : (ℓ : Loc nD τ sig) → Buf (Elt Ideal) ℓ) (c : Dev nD)

/-- The blocks a grid point reads. -/
theorem blk0 (t : Fin cfg0.N) (i : Fin 512) (r : Fin 8192) (er : r.val = win0_2.index t 0 * 512 + 1 * i.val) :
    (fun l => (iblk m c 0 t : Vec Ideal S512x2048 .f32) (ix2 i l)) = fun l => m ((c : Thread nD τ).loc main_arg0) (ix2 r l) := by
  funext l
  unfold iblk
  rw [View.read_apply]
  show V m c main_arg0 _ = m (c.tc.loc main_arg0) _
  rw [V_main_arg0]
  refine congrArg _ (ext2 _ _ ?_ ?_)
  · show win0_0.index t 0 * 512 + 1 * i.val = r.val
    rw [(idx0 t).1, er]
  · show win0_0.index t 1 * 2048 + 1 * l.val = l.val
    rw [(idx0 t).2]; omega

theorem blk1 (t : Fin cfg0.N) :
    (fun l => (iblk m c 1 t : Vec Ideal S1x2048 .f32) (ix2 0 l)) = fun l => m ((c : Thread nD τ).loc main_arg1) (ix1 l) := by
  have e : V m c main_v0 = shapeCast S1x2048 (m (c.tc.loc main_arg1)) shapeCasts_S2048_S1x2048 := by
    entry_read
    rfl
  funext l
  unfold iblk
  rw [View.read_apply]
  show V m c main_v0 _ = m (c.tc.loc main_arg1) _
  rw [e]
  refine (congrArg _ (ext2 (((cfg0.win 1).blk t).view.emb (ix2 0 l)) (ix2 (0 : Fin 1) l) ?_ ?_)).trans (as_row _ _ 0 l)
  · show win0_1.index t 0 * 1 + 1 * 0 = 0
    rw [(idx1 t).1]
  · show win0_1.index t 1 * 2048 + 1 * l.val = l.val
    rw [(idx1 t).2]; omega

/-- The norms of the rows of an array. -/
def norms (x : S8192x2048.Idx → EReal) (g : S2048.Idx → EReal) : S8192x2048.Idx → EReal := fun y =>
  norm (fun l => x (ix2 (y 0) l)) (fun l => g (ix1 l)) (y 1)

/-- The array the launch leaves. -/
theorem final : (dats m 0 c).arrAt 2 cfg0.N = norms (m ((c : Thread nD τ).loc main_arg0)) (m ((c : Thread nD τ).loc main_arg1)) := by
  refine (dats m 0 c).arrAt_eq_of_covers 2 _ (by decide +kernel) fun t hf y => ?_
  refine (?_ : _ = out0_2 (iblk m c 0 t) (iblk m c 1 t) y).trans ?_
  · blk_simp
    rw [after0_2]
  refine ((congrArg _ (eq_ix2 y)).trans (out_apply _ _ (y 0) (y 1))).trans ?_
  rw [blk1]
  have e1 : (((cfg0.win 2).blk t).view.emb y) 1 = y 1 := by
    apply Fin.ext
    show win0_2.index t 1 * 2048 + 1 * (y 1).val = _
    rw [idx2 t]; omega
  show _ = norms _ _ (((cfg0.win 2).blk t).view.emb y)
  unfold norms
  rw [e1]
  exact congrArg (fun x => norm x _ (y 1)) (blk0 m c t (y 0) _ rfl)

open Cert.NormReferenceIdeal.Read

/-- The reference's sum of squares, … -/
theorem ref_sum (x : S8192x2048.Idx → EReal) (r : Fin 8192) :
    val_main_v1 (F := Ideal) x (ix1 r) = ∑ l, x (ix2 r l) * x (ix2 r l) := by
  refine (val_main_v1_apply x _).trans ((zero_lit _).trans ?_)
  exact Finset.sum_congr rfl fun l _ => congrArg (fun j => (x j * x j : EReal)) (ext2 (idx_main_v1 (ix1 r) l) (ix2 r l) rfl rfl)

/-- … and its result. -/
theorem ref_at (x : S8192x2048.Idx → EReal) (g : S2048.Idx → EReal) (r : Fin 8192) (k : Fin 2048) :
    val_main_v13 (F := Ideal) x g (ix2 r k) = norm (fun l => x (ix2 r l)) (fun l => g (ix1 l)) k := by
  rw [val_main_v13_apply, val_main_v12_apply, val_main_v9_apply, val_main_v8_apply, val_main_v7_apply, val_main_v6_apply, val_main_v4_apply,
    val_main_v5_apply, val_main_v3_apply, val_main_v2_apply, val_main_v11_apply, val_main_v10_apply,
    ext1 (idx_main_v2 (idx_main_v8 (ix2 r k))) (ix1 r) rfl, ext1 (idx_main_v10 (idx_main_v11 (ix2 r k))) (ix1 k) rfl, ref_sum]
  rfl

theorem ref_eq (x : S8192x2048.Idx → EReal) (g : S2048.Idx → EReal) : val_main_v13 (F := Ideal) x g = norms x g :=
  funext fun y => (congrArg _ (eq_ix2 y)).trans (ref_at x g (y 0) (y 1))

end Cert.Norms.Norm
-- ==== Proof.Norms.MemNorm.lean ====
/- The norm of the 256 rows of the memory: what the launch leaves, and that the reference leaves the same. -/
module

public import proofs.«01_k».proof.Proof.Norms.Spec
public import proofs.«01_k».proof.Proof.Gen.MemNormIdeal.Value
public import proofs.«01_k».proof.Proof.Gen.MemNormReferenceIdeal.Read
public import Idealize.ShloMosaic.Lib.Claim
public import Idealize.ShloMosaic.Lib.Pipeline.ValueKit

@[expose] public section

set_option maxRecDepth 16384

noncomputable section

namespace Cert.Norms.MemNorm

open Idealize.ShloMosaic Idealize.ShloMosaic.TcCoe Idealize.SL.Sem Cert.MemNormIdeal Cert.MemNormIdeal.Gen Cert.Products Cert.Norms
open Idealize.ShloMosaic.Pipeline (Dat)

/-- A grid point's block, an index at a time. -/
theorem out_apply (x : Vec Ideal S256x2048 .f32) (g : Vec Ideal S1x2048 .f32) (i : Fin 256) (k : Fin 2048) :
    out0_2 x g (ix2 i k) = norm (fun l => x (ix2 i l)) (fun l => g (ix2 0 l)) k := by
  unfold out0_2
  rw [View.canon_unit_zero zero2, View.ld_unit_zero (S := S256x2048) zero2, View.ld_unit_zero (S := S1x2048) zero2]
  unfold k0_pay1 norm rs ms
  dsimp only
  rw [shapeCast_self]
  have e : shapeCast S256x1 (multiReduction (F := Ideal) .add [1] S256 (mulf x x) 0x00000000#32 reduces_S256x2048_S256 (.inl rfl) rfl)
      shapeCasts_S256_S256x1 (ix2 i (0 : Fin 1)) = ∑ l, (x (ix2 i l) * x (ix2 i l) : EReal) :=
    row_sum (mulf x x) reduces_S256x2048_S256 shapeCasts_S256_S256x1 i 0
  rw [← e]
  generalize shapeCast S256x1 _ shapeCasts_S256_S256x1 = w
  pointwise
  rfl

theorem idx0 : ∀ t : Fin cfg0.N, win0_0.index t 0 = win0_2.index t 0 ∧ win0_0.index t 1 = 0 := by decide +kernel
theorem idx1 : ∀ t : Fin cfg0.N, win0_1.index t 0 = 0 ∧ win0_1.index t 1 = 0 := by decide +kernel
theorem idx2 : ∀ t : Fin cfg0.N, win0_2.index t 1 = 0 := by decide +kernel

variable (m : (ℓ : Loc nD τ sig) → Buf (Elt Ideal) ℓ) (c : Dev nD)

/-- The blocks a grid point reads. -/
theorem blk0 (t : Fin cfg0.N) (i : Fin 256) (r : Fin 256) (er : r.val = win0_2.index t 0 * 256 + 1 * i.val) :
    (fun l => (iblk m c 0 t : Vec Ideal S256x2048 .f32) (ix2 i l)) = fun l => m ((c : Thread nD τ).loc main_arg0) (ix2 r l) := by
  funext l
  unfold iblk
  rw [View.read_apply]
  show V m c main_arg0 _ = m (c.tc.loc main_arg0) _
  rw [V_main_arg0]
  refine congrArg _ (ext2 _ _ ?_ ?_)
  · show win0_0.index t 0 * 256 + 1 * i.val = r.val
    rw [(idx0 t).1, er]
  · show win0_0.index t 1 * 2048 + 1 * l.val = l.val
    rw [(idx0 t).2]; omega

theorem blk1 (t : Fin cfg0.N) :
    (fun l => (iblk m c 1 t : Vec Ideal S1x2048 .f32) (ix2 0 l)) = fun l => m ((c : Thread nD τ).loc main_arg1) (ix1 l) := by
  have e : V m c main_v0 = shapeCast S1x2048 (m (c.tc.loc main_arg1)) shapeCasts_S2048_S1x2048 := by
    entry_read
    rfl
  funext l
  unfold iblk
  rw [View.read_apply]
  show V m c main_v0 _ = m (c.tc.loc main_arg1) _
  rw [e]
  refine (congrArg _ (ext2 (((cfg0.win 1).blk t).view.emb (ix2 0 l)) (ix2 (0 : Fin 1) l) ?_ ?_)).trans (as_row _ _ 0 l)
  · show win0_1.index t 0 * 1 + 1 * 0 = 0
    rw [(idx1 t).1]
  · show win0_1.index t 1 * 2048 + 1 * l.val = l.val
    rw [(idx1 t).2]; omega

/-- The norms of the rows of an array. -/
def norms (x : S256x2048.Idx → EReal) (g : S2048.Idx → EReal) : S256x2048.Idx → EReal := fun y =>
  norm (fun l => x (ix2 (y 0) l)) (fun l => g (ix1 l)) (y 1)

/-- The array the launch leaves. -/
theorem final : (dats m 0 c).arrAt 2 cfg0.N = norms (m ((c : Thread nD τ).loc main_arg0)) (m ((c : Thread nD τ).loc main_arg1)) := by
  refine (dats m 0 c).arrAt_eq_of_covers 2 _ (by decide +kernel) fun t hf y => ?_
  refine (?_ : _ = out0_2 (iblk m c 0 t) (iblk m c 1 t) y).trans ?_
  · blk_simp
    rw [after0_2]
  refine ((congrArg _ (eq_ix2 y)).trans (out_apply _ _ (y 0) (y 1))).trans ?_
  rw [blk1]
  have e1 : (((cfg0.win 2).blk t).view.emb y) 1 = y 1 := by
    apply Fin.ext
    show win0_2.index t 1 * 2048 + 1 * (y 1).val = _
    rw [idx2 t]; omega
  show _ = norms _ _ (((cfg0.win 2).blk t).view.emb y)
  unfold norms
  rw [e1]
  exact congrArg (fun x => norm x _ (y 1)) (blk0 m c t (y 0) _ rfl)

open Cert.MemNormReferenceIdeal.Read

/-- The reference's sum of squares, … -/
theorem ref_sum (x : S256x2048.Idx → EReal) (r : Fin 256) :
    val_main_v1 (F := Ideal) x (ix1 r) = ∑ l, x (ix2 r l) * x (ix2 r l) := by
  refine (val_main_v1_apply x _).trans ((zero_lit _).trans ?_)
  exact Finset.sum_congr rfl fun l _ => congrArg (fun j => (x j * x j : EReal)) (ext2 (idx_main_v1 (ix1 r) l) (ix2 r l) rfl rfl)

/-- … and its result. -/
theorem ref_at (x : S256x2048.Idx → EReal) (g : S2048.Idx → EReal) (r : Fin 256) (k : Fin 2048) :
    val_main_v13 (F := Ideal) x g (ix2 r k) = norm (fun l => x (ix2 r l)) (fun l => g (ix1 l)) k := by
  rw [val_main_v13_apply, val_main_v12_apply, val_main_v9_apply, val_main_v8_apply, val_main_v7_apply, val_main_v6_apply, val_main_v4_apply,
    val_main_v5_apply, val_main_v3_apply, val_main_v2_apply, val_main_v11_apply, val_main_v10_apply,
    ext1 (idx_main_v2 (idx_main_v8 (ix2 r k))) (ix1 r) rfl, ext1 (idx_main_v10 (idx_main_v11 (ix2 r k))) (ix1 k) rfl, ref_sum]
  rfl

theorem ref_eq (x : S256x2048.Idx → EReal) (g : S2048.Idx → EReal) : val_main_v13 (F := Ideal) x g = norms x g :=
  funext fun y => (congrArg _ (eq_ix2 y)).trans (ref_at x g (y 0) (y 1))

end Cert.Norms.MemNorm
-- ==== Proof.Norms.NormGrad.lean ====
/- The gradient of the norm of 8192 rows: what the launch leaves, and that the reference leaves the same. A grid point has 256 rows; all of
them add up the gradient of the scale. -/
module

public import proofs.«01_k».proof.Proof.Norms.Spec
public import proofs.«01_k».proof.Proof.Gen.NormGradIdeal.Value
public import proofs.«01_k».proof.Proof.Gen.NormGradReferenceIdeal.Read
public import Idealize.ShloMosaic.Lib.Claim
public import Idealize.ShloMosaic.Lib.Pipeline.ValueKit

@[expose] public section

set_option maxRecDepth 16384

noncomputable section

namespace Cert.Norms.NormGrad

open Idealize.ShloMosaic Idealize.ShloMosaic.TcCoe Idealize.SL.Sem Cert.NormGradIdeal Cert.NormGradIdeal.Gen Cert.Products Cert.Norms Cert.Sgu
open Idealize.ShloMosaic.Pipeline (Dat)

section
variable (x : Vec Ideal S256x2048 .f32) (g : Vec Ideal S1x2048 .f32) (d : Vec Ideal S256x2048 .bf16) (e : Vec Ideal S256x2048 .f32)

theorem pay2 (i : Fin 256) : k0_pay2 x (ix2 i (0 : Fin 1)) = rs fun l => x (ix2 i l) := by
  unfold k0_pay2 rs ms
  dsimp only
  have h : shapeCast S256x1 (multiReduction (F := Ideal) .add [1] S256 (mulf x x) 0x00000000#32 reduces_S256x2048_S256 (.inl rfl) rfl)
      shapeCasts_S256_S256x1 (ix2 i (0 : Fin 1)) = ∑ l, (x (ix2 i l) * x (ix2 i l) : EReal) :=
    row_sum (mulf x x) reduces_S256x2048_S256 shapeCasts_S256_S256x1 i 0
  rw [← h]
  generalize shapeCast S256x1 _ shapeCasts_S256_S256x1 = w
  pointwise
  rfl

theorem pay3 (i : Fin 256) (k : Fin 2048) : k0_pay3 x (ix2 i k) = x (ix2 i k) * rs fun l => x (ix2 i l) := by
  unfold k0_pay3
  rw [← pay2]
  generalize k0_pay2 x = w
  pointwise

theorem pay5 (i : Fin 256) (k : Fin 2048) :
    k0_pay5 x d g e (ix2 i k) = grad (fun l => x (ix2 i l)) (fun l => g (ix2 0 l)) (fun l => d (ix2 i l)) k + e (ix2 i k) := by
  unfold k0_pay5 grad k0_pay4
  dsimp only
  rw [shapeCast_self]
  have h : shapeCast S256x1 (multiReduction (F := Ideal) .add [1] S256
        (mulf (mulf (extf .f32 d bitsLt_bf16_f32) (broadcastTo S256x2048 g broadcasts_S1x2048_S256x2048)) (k0_pay3 x)) 0x00000000#32
        reduces_S256x2048_S256 (.inl rfl) rfl) shapeCasts_S256_S256x1 (ix2 i (0 : Fin 1))
      = ∑ l, (d (ix2 i l) * g (ix2 0 l) * (x (ix2 i l) * rs fun l => x (ix2 i l)) : EReal) := by
    refine (row_sum _ reduces_S256x2048_S256 shapeCasts_S256_S256x1 i 0).trans (Finset.sum_congr rfl fun l _ => ?_)
    rw [← pay3]
    generalize k0_pay3 x = w
    pointwise
  rw [← h, ← pay3, ← pay2]
  generalize shapeCast S256x1 _ shapeCasts_S256_S256x1 = w
  generalize k0_pay3 x = u
  generalize k0_pay2 x = v
  pointwise
  rfl

theorem pay7 (k : Fin 2048) : k0_pay7 x d (ix2 (0 : Fin 1) k) = ∑ i, d (ix2 i k) * (x (ix2 i k) * rs fun l => x (ix2 i l)) := by
  unfold k0_pay7 k0_pay4
  dsimp only
  refine (col_sum _ reduces_S256x2048_S2048 shapeCasts_S2048_S1x2048 0 k).trans (Finset.sum_congr rfl fun i _ => ?_)
  rw [← pay3]
  generalize k0_pay3 x = w
  pointwise

theorem pay1 (s : Vec Ideal S1x2048 .f32) (k : Fin 2048) :
    k0_pay1 (k0_pay7 x d) s (ix2 (0 : Fin 1) k) = s (ix2 (0 : Fin 1) k) + k0_pay7 x d (ix2 (0 : Fin 1) k) := by
  unfold k0_pay1
  rw [shapeCast_self]
  rfl

end

section
variable (c : Dev nD) (i : grid0.Coords)
  (arg1 : Memref sig .tc .vmem S256x2048 .f32) (harg1 : arg1.IsWhole)
  (arg2 : Memref sig .tc .vmem S1x2048 .f32) (harg2 : arg2.IsWhole)
  (arg3 : Memref sig .tc .vmem S256x2048 .bf16) (harg3 : arg3.IsWhole)
  (arg4 : Memref sig .tc .vmem S256x2048 .f32) (harg4 : arg4.IsWhole)
  (arg5 : Memref sig .tc .vmem S256x2048 .f32) (harg5 : arg5.IsWhole)
  (arg6 : Memref sig .tc .vmem S256x2048 .bf16) (harg6 : arg6.IsWhole)
  (arg7 : Memref sig .tc .vmem S1x2048 .f32) (harg7 : arg7.IsWhole)
  (x0 : Vec Ideal S256x2048 .f32) (x1 : Vec Ideal S1x2048 .f32) (x2 : Vec Ideal S256x2048 .bf16) (x3 : Vec Ideal S256x2048 .f32)
  (xo6 : Vec Ideal S1x2048 .f32)

/-- The first grid point writes the gradient of its rows, twice, and starts the gradient of the scale, … -/
theorem first4 (h0 : cond0_0 i) (h1 : ¬cond0_1 i) :
    out0_A_4 c i arg1 harg1 arg2 harg2 arg3 harg3 arg4 harg4 arg5 harg5 arg6 harg6 arg7 harg7 h0 h1 x0 x1 x2 x3 = k0_pay5 x0 x2 x1 x3 := by
  unfold out0_A_4
  rw [View.read_writes_eq_canon _ _ _ (cover0_A_4 c i arg1 harg1 arg2 harg2 arg3 harg3 arg4 harg4 arg5 harg5 arg6 harg6 arg7 harg7 h0 h1 x0 x1 x2 x3)]
  unfold kernelRun0_A
  dsimp only
  sl_unfold_words
  rw [View.canon_unit_zero zero2]
  simp only [View.readAt_eq_ld, harg1.read_unread, harg2.read_unread, harg3.read_unread, harg4.read_unread,
    View.ld_unit_zero (S := S256x2048) zero2, View.ld_unit_zero (S := S1x2048) zero2]

theorem first5 (h0 : cond0_0 i) (h1 : ¬cond0_1 i) :
    out0_A_5 c i arg1 harg1 arg2 harg2 arg3 harg3 arg4 harg4 arg5 harg5 arg6 harg6 arg7 harg7 h0 h1 x0 x1 x2 x3 = k0_pay6 x0 x2 x1 x3 := by
  unfold out0_A_5
  rw [View.read_writes_eq_canon _ _ _ (cover0_A_5 c i arg1 harg1 arg2 harg2 arg3 harg3 arg4 harg4 arg5 harg5 arg6 harg6 arg7 harg7 h0 h1 x0 x1 x2 x3)]
  unfold kernelRun0_A
  dsimp only
  sl_unfold_words
  rw [View.canon_unit_zero zero2]
  simp only [View.readAt_eq_ld, harg1.read_unread, harg2.read_unread, harg3.read_unread, harg4.read_unread,
    View.ld_unit_zero (S := S256x2048) zero2, View.ld_unit_zero (S := S1x2048) zero2]

theorem first6 (h0 : cond0_0 i) (h1 : ¬cond0_1 i) :
    out0_A_6 c i arg1 harg1 arg2 harg2 arg3 harg3 arg4 harg4 arg5 harg5 arg6 harg6 arg7 harg7 h0 h1 x0 x1 x2 x3 = k0_pay7 x0 x2 := by
  unfold out0_A_6
  rw [View.read_writes_eq_canon _ _ _ (cover0_A_6 c i arg1 harg1 arg2 harg2 arg3 harg3 arg4 harg4 arg5 harg5 arg6 harg6 arg7 harg7 h0 h1 x0 x1 x2 x3)]
  unfold kernelRun0_A
  dsimp only
  sl_unfold_words
  rw [View.canon_unit_zero zero2]
  simp only [View.readAt_eq_ld, harg1.read_unread, harg2.read_unread, harg3.read_unread, harg4.read_unread,
    View.ld_unit_zero (S := S256x2048) zero2, View.ld_unit_zero (S := S1x2048) zero2]

/-- … to which the others add. -/
theorem later4 (h0 : ¬cond0_0 i) (h1 : cond0_1 i) :
    out0_B_4 c i arg1 harg1 arg2 harg2 arg3 harg3 arg4 harg4 arg5 harg5 arg6 harg6 arg7 harg7 h0 h1 x0 x1 x2 x3 xo6 = k0_pay5 x0 x2 x1 x3 := by
  unfold out0_B_4
  rw [View.read_writes_eq_canon _ _ _ (cover0_B_4 c i arg1 harg1 arg2 harg2 arg3 harg3 arg4 harg4 arg5 harg5 arg6 harg6 arg7 harg7 h0 h1 x0 x1 x2 x3 xo6)]
  unfold kernelRun0_B
  dsimp only
  sl_unfold_words
  rw [View.canon_unit_zero zero2]
  simp only [View.readAt_eq_ld, harg1.read_unread, harg2.read_unread, harg3.read_unread, harg4.read_unread,
    View.ld_unit_zero (S := S256x2048) zero2, View.ld_unit_zero (S := S1x2048) zero2]

theorem later5 (h0 : ¬cond0_0 i) (h1 : cond0_1 i) :
    out0_B_5 c i arg1 harg1 arg2 harg2 arg3 harg3 arg4 harg4 arg5 harg5 arg6 harg6 arg7 harg7 h0 h1 x0 x1 x2 x3 xo6 = k0_pay6 x0 x2 x1 x3 := by
  unfold out0_B_5
  rw [View.read_writes_eq_canon _ _ _ (cover0_B_5 c i arg1 harg1 arg2 harg2 arg3 harg3 arg4 harg4 arg5 harg5 arg6 harg6 arg7 harg7 h0 h1 x0 x1 x2 x3 xo6)]
  unfold kernelRun0_B
  dsimp only
  sl_unfold_words
  rw [View.canon_unit_zero zero2]
  simp only [View.readAt_eq_ld, harg1.read_unread, harg2.read_unread, harg3.read_unread, harg4.read_unread,
    View.ld_unit_zero (S := S256x2048) zero2, View.ld_unit_zero (S := S1x2048) zero2]

theorem later6 (h0 : ¬cond0_0 i) (h1 : cond0_1 i) :
    out0_B_6 c i arg1 harg1 arg2 harg2 arg3 harg3 arg4 harg4 arg5 harg5 arg6 harg6 arg7 harg7 h0 h1 x0 x1 x2 x3 xo6 = k0_pay1 (k0_pay7 x0 x2) xo6 := by
  unfold out0_B_6
  rw [View.read_writes_eq_canon _ _ _ (cover0_B_6 c i arg1 harg1 arg2 harg2 arg3 harg3 arg4 harg4 arg5 harg5 arg6 harg6 arg7 harg7 h0 h1 x0 x1 x2 x3 xo6)]
  unfold kernelRun0_B
  dsimp only
  sl_unfold_words
  rw [View.canon_unit_zero zero2]
  simp only [View.readAt_eq_ld, harg1.read_unread, harg2.read_unread, harg3.read_unread, harg4.read_unread, harg7.read_unread,
    View.ld_unit_zero (S := S256x2048) zero2, View.ld_unit_zero (S := S1x2048) zero2]

end

theorem idx0 : ∀ t : Fin cfg0.N, win0_0.index t 0 = t.val ∧ win0_0.index t 1 = 0 := by decide +kernel
theorem idx1 : ∀ t : Fin cfg0.N, win0_1.index t 0 = 0 ∧ win0_1.index t 1 = 0 := by decide +kernel
theorem idx2 : ∀ t : Fin cfg0.N, win0_2.index t 0 = t.val ∧ win0_2.index t 1 = 0 := by decide +kernel
theorem idx3 : ∀ t : Fin cfg0.N, win0_3.index t 0 = t.val ∧ win0_3.index t 1 = 0 := by decide +kernel
theorem idx4 : ∀ t : Fin cfg0.N, win0_4.index t 0 = t.val ∧ win0_4.index t 1 = 0 := by decide +kernel
theorem idx5 : ∀ t : Fin cfg0.N, win0_5.index t 0 = t.val ∧ win0_5.index t 1 = 0 := by decide +kernel
theorem idx6 : ∀ t : Fin cfg0.N, win0_6.index t 0 = 0 ∧ win0_6.index t 1 = 0 := by decide +kernel

section
variable (x : S8192x2048.Idx → EReal) (g : S2048.Idx → EReal) (d e : S8192x2048.Idx → EReal)

/-- The gradient of the rows, with what comes around the norm, … -/
def DX : S8192x2048.Idx → EReal := fun y =>
  grad (fun l => x (ix2 (y 0) l)) (fun l => g (ix1 l)) (fun l => d (ix2 (y 0) l)) (y 1) + e (ix2 (y 0) (y 1))

/-- … and of the scale: what the `b`-th grid point adds, and the whole. -/
def partG (b : ℕ) (k : Fin 2048) : EReal := ∑ i, d (ix2 (row32 b i) k) * (x (ix2 (row32 b i) k) * rs fun l => x (ix2 (row32 b i) l))
def DG : S1x2048.Idx → EReal := fun y => ∑ r, d (ix2 r (y 1)) * (x (ix2 r (y 1)) * rs fun l => x (ix2 r l))

theorem sum_partG (y : S1x2048.Idx) : ∑ b ∈ Finset.range 32, partG x d b (y 1) = DG x d y :=
  sum_row32 fun r => d (ix2 r (y 1)) * (x (ix2 r (y 1)) * rs fun l => x (ix2 r l))

end

variable (m : (ℓ : Loc nD τ sig) → Buf (Elt Ideal) ℓ) (c : Dev nD)

section
variable (t : Fin cfg0.N) (i : Fin 256) (r : Fin 8192) (er : r.val = t.val * 256 + 1 * i.val)
include er

/-- The blocks a grid point reads. -/
theorem blk0 : (fun l => (iblk m c 0 t : Vec Ideal S256x2048 .f32) (ix2 i l)) = fun l => m ((c : Thread nD τ).loc main_arg0) (ix2 r l) := by
  funext l
  unfold iblk
  rw [View.read_apply]
  show V m c main_arg0 _ = m (c.tc.loc main_arg0) _
  rw [V_main_arg0]
  refine congrArg _ (ext2 _ _ ?_ ?_)
  · show win0_0.index t 0 * 256 + 1 * i.val = r.val
    rw [(idx0 t).1, er]
  · show win0_0.index t 1 * 2048 + 1 * l.val = l.val
    rw [(idx0 t).2]; omega

theorem blk2 : (fun l => (iblk m c 2 t : Vec Ideal S256x2048 .bf16) (ix2 i l)) = fun l => m ((c : Thread nD τ).loc main_arg2) (ix2 r l) := by
  funext l
  unfold iblk
  rw [View.read_apply]
  show V m c main_arg2 _ = m (c.tc.loc main_arg2) _
  rw [V_main_arg2]
  refine congrArg _ (ext2 _ _ ?_ ?_)
  · show win0_2.index t 0 * 256 + 1 * i.val = r.val
    rw [(idx2 t).1, er]
  · show win0_2.index t 1 * 2048 + 1 * l.val = l.val
    rw [(idx2 t).2]; omega

theorem blk3 : (fun l => (iblk m c 3 t : Vec Ideal S256x2048 .f32) (ix2 i l)) = fun l => m ((c : Thread nD τ).loc main_arg3) (ix2 r l) := by
  funext l
  unfold iblk
  rw [View.read_apply]
  show V m c main_arg3 _ = m (c.tc.loc main_arg3) _
  rw [V_main_arg3]
  refine congrArg _ (ext2 _ _ ?_ ?_)
  · show win0_3.index t 0 * 256 + 1 * i.val = r.val
    rw [(idx3 t).1, er]
  · show win0_3.index t 1 * 2048 + 1 * l.val = l.val
    rw [(idx3 t).2]; omega

end

theorem blk1 (t : Fin cfg0.N) :
    (fun l => (iblk m c 1 t : Vec Ideal S1x2048 .f32) (ix2 0 l)) = fun l => m ((c : Thread nD τ).loc main_arg1) (ix1 l) := by
  have e : V m c main_v0 = shapeCast S1x2048 (m (c.tc.loc main_arg1)) shapeCasts_S2048_S1x2048 := by
    entry_read
    rfl
  funext l
  unfold iblk
  rw [View.read_apply]
  show V m c main_v0 _ = m (c.tc.loc main_arg1) _
  rw [e]
  refine (congrArg _ (ext2 (((cfg0.win 1).blk t).view.emb (ix2 0 l)) (ix2 (0 : Fin 1) l) ?_ ?_)).trans (as_row _ _ 0 l)
  · show win0_1.index t 0 * 1 + 1 * 0 = 0
    rw [(idx1 t).1]
  · show win0_1.index t 1 * 2048 + 1 * l.val = l.val
    rw [(idx1 t).2]; omega

/-- The arrays of a device: rows, scale, gradient and what comes around. -/
abbrev ax : S8192x2048.Idx → EReal := m ((c : Thread nD τ).loc main_arg0)
abbrev ag : S2048.Idx → EReal := m ((c : Thread nD τ).loc main_arg1)
abbrev ad : S8192x2048.Idx → EReal := m ((c : Thread nD τ).loc main_arg2)
abbrev ae : S8192x2048.Idx → EReal := m ((c : Thread nD τ).loc main_arg3)

/-- What a grid point writes of the rows. -/
theorem rows (t : Fin cfg0.N) (y : S256x2048.Idx) (z : S8192x2048.Idx) (e0 : (z 0).val = t.val * 256 + 1 * (y 0).val) (e1 : (z 1).val = (y 1).val) :
    k0_pay5 (iblk m c 0 t) (iblk m c 2 t) (iblk m c 1 t) (iblk m c 3 t) y = DX (ax m c) (ag m c) (ad m c) (ae m c) z := by
  have ek : z 1 = y 1 := Fin.ext e1
  refine ((congrArg _ (eq_ix2 y)).trans (pay5 _ _ _ _ (y 0) (y 1))).trans ?_
  rw [blk0 m c t (y 0) (z 0) e0, blk1, blk2 m c t (y 0) (z 0) e0]
  unfold DX
  rw [ek]
  exact congrArg (_ + ·) (congrFun (blk3 m c t (y 0) (z 0) e0) (y 1))

theorem outs4 (t : Fin cfg0.N) : (outsAt0 m c t.val t.isLt).1 = k0_pay5 (iblk m c 0 t) (iblk m c 2 t) (iblk m c 1 t) (iblk m c 3 t) := by
  have ht : t.val < 32 := t.isLt
  by_cases h0 : t.val % 32 = 0
  · have e := congrArg Prod.fst (outsAt0_A m c t h0 (by omega))
    rw [first4] at e
    exact e
  · have e := congrArg Prod.fst (outsAt0_B m c t h0 (by omega))
    rw [later4] at e
    exact e

theorem outs5 (t : Fin cfg0.N) : (outsAt0 m c t.val t.isLt).2.1 = k0_pay6 (iblk m c 0 t) (iblk m c 2 t) (iblk m c 1 t) (iblk m c 3 t) := by
  have ht : t.val < 32 := t.isLt
  by_cases h0 : t.val % 32 = 0
  · have e := congrArg (fun p => p.2.1) (outsAt0_A m c t h0 (by omega))
    dsimp only at e
    rw [first5] at e
    exact e
  · have e := congrArg (fun p => p.2.1) (outsAt0_B m c t h0 (by omega))
    dsimp only at e
    rw [later5] at e
    exact e

/-- The gradient of the rows that the launch leaves, in float32 … -/
theorem final4 : (dats m 0 c).arrAt 4 cfg0.N = DX (ax m c) (ag m c) (ad m c) (ae m c) := by
  refine (dats m 0 c).arrAt_eq_of_covers 4 _ (by decide +kernel) fun t hf y => ?_
  refine (?_ : _ = (outsAt0 m c t.val t.isLt).1 y).trans ?_
  · blk_simp
    rw [after0_4]
  rw [outs4]
  refine rows m c t y (((cfg0.win 4).blk t).view.emb y) ?_ ?_
  · show win0_4.index t 0 * 256 + 1 * (y 0).val = _
    rw [(idx4 t).1]
  · show win0_4.index t 1 * 2048 + 1 * (y 1).val = _
    rw [(idx4 t).2]; omega

/-- … and in bfloat16. -/
theorem final5 : (dats m 0 c).arrAt 5 cfg0.N = DX (ax m c) (ag m c) (ad m c) (ae m c) := by
  refine (dats m 0 c).arrAt_eq_of_covers 5 _ (by decide +kernel) fun t hf y => ?_
  refine (?_ : _ = (outsAt0 m c t.val t.isLt).2.1 y).trans ?_
  · blk_simp
    rw [after0_5]
  rw [outs5]
  refine rows m c t y (((cfg0.win 5).blk t).view.emb y) ?_ ?_
  · show win0_5.index t 0 * 256 + 1 * (y 0).val = _
    rw [(idx5 t).1]
  · show win0_5.index t 1 * 2048 + 1 * (y 1).val = _
    rw [(idx5 t).2]; omega

/-- What a grid point adds to the gradient of the scale. -/
theorem adds6 (t : Fin cfg0.N) (k : Fin 2048) :
    k0_pay7 (iblk m c 0 t) (iblk m c 2 t) (ix2 (0 : Fin 1) k) = partG (ax m c) (ad m c) (t.val % 32) k := by
  have ht : t.val < 32 := t.isLt
  refine (pay7 _ _ k).trans ?_
  unfold partG
  refine Finset.sum_congr rfl fun i _ => ?_
  have er : (row32 (t.val % 32) i).val = t.val * 256 + 1 * i.val := by
    have := i.isLt
    show (t.val % 32 * 256 + 1 * i.val) % 8192 = _; omega
  have e0 := blk0 m c t i _ er
  refine congrArg₂ (fun a b : EReal => a * b) (congrFun (blk2 m c t i _ er) k) ?_
  exact congrArg₂ (fun (a : EReal) b => a * rs b) (congrFun e0 k) e0

/-- After a grid point the buffer holds the parts added so far. -/
theorem sums6 (n : ℕ) (hn : n < cfg0.N) (k : Fin 2048) :
    (outsAt0 m c n hn).2.2 (ix2 (0 : Fin 1) k) = ∑ b ∈ Finset.range (n % 32 + 1), partG (ax m c) (ad m c) b k := by
  refine carriedBy 32 (by decide) (fun n hn (k : Fin 2048) => (outsAt0 m c n hn).2.2 (ix2 (0 : Fin 1) k)) (fun _ k l => k = l) (fun b k => partG (ax m c) (ad m c) b k)
    (fun n hn h0 k l h => ?_) (fun _ _ _ _ h => h) (fun n hn h0 k l h => ?_) n hn k k rfl
  · subst h
    have hl : n < 32 := hn
    have e := congrArg (fun p => p.2.2) (outsAt0_A m c ⟨n, hn⟩ h0 (by show ¬1 ≤ n; omega))
    dsimp only at e
    rw [first6] at e
    refine (congrFun e _).trans ((adds6 m c ⟨n, hn⟩ k).trans ?_)
    exact congrArg (fun b => partG _ _ b k) h0
  · subst h
    refine Eq.trans ?_ (congrArg (_ + ·) (adds6 m c ⟨n + 1, hn⟩ k))
    have e := congrArg (fun p => p.2.2) (outsAt0_B m c ⟨n + 1, hn⟩ h0 (by show 1 ≤ n + 1; omega))
    dsimp only at e
    rw [later6] at e
    exact (congrFun e _).trans (pay1 _ _ _ k)

/-- The gradient of the scale that the launch leaves. -/
theorem final6 : (dats m 0 c).arrAt 6 cfg0.N = DG (ax m c) (ad m c) := by
  refine (dats m 0 c).arrAt_eq_of_covers 6 _ (by decide +kernel) fun t hf y => ?_
  have h31 : t.val % 32 = 31 := (flush0_6 t).mp hf
  refine (?_ : _ = (outsAt0 m c t.val t.isLt).2.2 y).trans ?_
  · blk_simp
    rw [after0_6]
  have ey : y = ix2 (0 : Fin 1) (y 1) := (eq_ix2 y).trans (congrArg (fun z : Fin 1 => ix2 z (y 1)) (Subsingleton.elim _ _))
  have e1 : (((cfg0.win 6).blk t).view.emb y) 1 = y 1 := by
    apply Fin.ext
    show win0_6.index t 1 * 2048 + 1 * (y 1).val = _
    rw [(idx6 t).2]; omega
  refine ((congrArg _ ey).trans (sums6 m c t.val t.isLt (y 1))).trans ?_
  rw [h31]
  show _ = DG _ _ (((cfg0.win 6).blk t).view.emb y)
  rw [← sum_partG, e1]

open Cert.NormGradReferenceIdeal.Read

section
variable (x : S8192x2048.Idx → EReal) (g : S2048.Idx → EReal) (d e : S8192x2048.Idx → EReal) (r : Fin 8192) (k : Fin 2048)

/-- The reference's sum of squares, … -/
theorem ref_sum : val_main_v1 (F := Ideal) x (ix1 r) = ∑ l, x (ix2 r l) * x (ix2 r l) := by
  refine (val_main_v1_apply x _).trans ((zero_lit _).trans ?_)
  exact Finset.sum_congr rfl fun l _ => congrArg (fun j => (x j * x j : EReal)) (ext2 (idx_main_v1 (ix1 r) l) (ix2 r l) rfl rfl)

/-- … mean square, … -/
theorem ref_ms : val_main_v6 (F := Ideal) x (ix2 r (0 : Fin 1)) = ms fun l => x (ix2 r l) := by
  rw [val_main_v6_apply, val_main_v4_apply, val_main_v5_apply, val_main_v3_apply, val_main_v2_apply,
    ext1 (idx_main_v2 (ix2 r (0 : Fin 1))) (ix1 r) rfl, ref_sum]
  rfl

/-- … reciprocal root … -/
theorem ref_rs : val_main_v7 (F := Ideal) x (ix2 r (0 : Fin 1)) = rs fun l => x (ix2 r l) := by
  rw [val_main_v7_apply, ref_ms]
  rfl

/-- … and gradient of the scale. -/
theorem ref_v22 : val_main_v22 (F := Ideal) x d (ix1 k) = ∑ r, d (ix2 r k) * (x (ix2 r k) * rs fun l => x (ix2 r l)) := by
  refine (val_main_v22_apply x d _).trans ((zero_lit _).trans ?_)
  rw [Fin.sum_univ_one, val_main_v19_apply, ext1 (idx_main_v19 (idx_main_v22 (ix1 k) 0)) (ix1 k) (by show 0 * 2048 + k.val = k.val; omega)]
  refine (val_main_v18_apply x d _).trans ((zero_lit _).trans ?_)
  refine Finset.sum_congr rfl fun r _ => ?_
  rw [ext2 (idx_main_v18 (ix1 k) r) (ix2 r k) rfl rfl, val_main_v17_apply, val_main_v16_apply, val_main_v12_apply, val_main_v11_apply,
    ext2 (idx_main_v11 (ix2 r k)) (ix2 r (0 : Fin 1)) rfl rfl, ref_rs]
  exact mul_comm (_ : EReal) _

/-- The gradient with its scale, … -/
theorem ref_v21 : val_main_v21 (F := Ideal) g d (ix2 r k) = d (ix2 r k) * g (ix1 k) := by
  rw [val_main_v21_apply, val_main_v16_apply, val_main_v20_apply, val_main_v13_apply, ext1 (idx_main_v13 (idx_main_v20 (ix2 r k))) (ix1 k) rfl]
  rfl

/-- … the row's number … -/
theorem ref_slope : val_main_v31 (F := Ideal) x g d (ix1 r) = slope (fun l => x (ix2 r l)) (fun l => g (ix1 l)) fun l => d (ix2 r l) := by
  have e24 : val_main_v24 (F := Ideal) x g d (ix1 r) = ∑ l, x (ix2 r l) * (d (ix2 r l) * g (ix1 l)) := by
    refine (val_main_v24_apply x g d _).trans ((zero_lit _).trans ?_)
    refine Finset.sum_congr rfl fun l _ => ?_
    rw [ext2 (idx_main_v24 (ix1 r) l) (ix2 r l) rfl rfl, val_main_v23_apply, ref_v21]
    rfl
  refine (val_main_v31_apply x g d _).trans ((zero_lit _).trans ?_)
  rw [Fin.sum_univ_one, ext2 (idx_main_v31 (ix1 r) 0) (ix2 r (0 : Fin 1)) rfl rfl, val_main_v30_apply, val_main_v28_apply, val_main_v29_apply,
    val_main_v25_apply, val_main_v10_apply, val_main_v9_apply, val_main_v8_apply, ref_ms, ref_rs,
    ext1 (idx_main_v25 (ix2 r (0 : Fin 1))) (ix1 r) (by show r.val * 1 + 0 = r.val; omega), e24]
  rfl

/-- … and the gradient of the rows. -/
theorem ref_v36 : val_main_v36 (F := Ideal) x g d (ix2 r k) = rgrad (fun l => x (ix2 r l)) (fun l => g (ix1 l)) (fun l => d (ix2 r l)) k := by
  rw [val_main_v36_apply, val_main_v34_apply, val_main_v35_apply, val_main_v33_apply, val_main_v32_apply, val_main_v27_apply, val_main_v26_apply,
    ref_v21, ext2 (idx_main_v26 (ix2 r k)) (ix2 r (0 : Fin 1)) rfl rfl, ref_rs, ext1 (idx_main_v32 (ix2 r k)) (ix1 r) rfl, ref_slope]
  rfl

end

theorem ref_dx (x : S8192x2048.Idx → EReal) (g : S2048.Idx → EReal) (d e : S8192x2048.Idx → EReal) : val_main_v37 (F := Ideal) x g d e = DX x g d e := by
  funext y
  obtain ⟨r, k, rfl⟩ : ∃ (r : Fin 8192) (k : Fin 2048), y = ix2 r k := ⟨y 0, y 1, eq_ix2 y⟩
  rw [val_main_v37_apply, ref_v36, grad_eq]
  exact add_comm (_ : EReal) _

theorem ref_dx16 (x : S8192x2048.Idx → EReal) (g : S2048.Idx → EReal) (d e : S8192x2048.Idx → EReal) : val_main_v39 (F := Ideal) x g d e = DX x g d e :=
  (rfl : _ = val_main_v37 (F := Ideal) x g d e).trans (ref_dx x g d e)

theorem ref_dg (x d : S8192x2048.Idx → EReal) : val_main_v40 (F := Ideal) x d = DG x d := by
  funext y
  obtain ⟨z, k, rfl⟩ : ∃ (z : Fin 1) (k : Fin 2048), y = ix2 z k := ⟨y 0, y 1, eq_ix2 y⟩
  rw [val_main_v40_apply, ext1 (idx_main_v40 (ix2 z k)) (ix1 k) (by
    have h := z.isLt
    show z.val * 2048 + k.val = k.val; omega), ref_v22]
  rfl

end Cert.Norms.NormGrad
-- ==== Proof.Norms.MemNormGrad.lean ====
/- The gradient of the norm of the memory's 256 rows, where the two gradients that come in are added: what the launch leaves, and that the reference
leaves the same. The launch has one grid point. -/
module

public import proofs.«01_k».proof.Proof.Norms.Spec
public import proofs.«01_k».proof.Proof.Gen.MemNormGradIdeal.Value
public import proofs.«01_k».proof.Proof.Gen.MemNormGradReferenceIdeal.Read
public import Idealize.ShloMosaic.Lib.Claim
public import Idealize.ShloMosaic.Lib.Pipeline.ValueKit

@[expose] public section

set_option maxRecDepth 16384

noncomputable section

namespace Cert.Norms.MemNormGrad

open Idealize.ShloMosaic Idealize.ShloMosaic.TcCoe Idealize.SL.Sem Cert.MemNormGradIdeal Cert.MemNormGradIdeal.Gen Cert.Products Cert.Norms Cert.Sgu
open Idealize.ShloMosaic.Pipeline (Dat)

section
variable (x : Vec Ideal S256x2048 .f32) (g : Vec Ideal S1x2048 .f32) (d e : Vec Ideal S256x2048 .f32)

theorem pay2 (i : Fin 256) : k0_pay2 x (ix2 i (0 : Fin 1)) = rs fun l => x (ix2 i l) := by
  unfold k0_pay2 rs ms
  dsimp only
  have h : shapeCast S256x1 (multiReduction (F := Ideal) .add [1] S256 (mulf x x) 0x00000000#32 reduces_S256x2048_S256 (.inl rfl) rfl)
      shapeCasts_S256_S256x1 (ix2 i (0 : Fin 1)) = ∑ l, (x (ix2 i l) * x (ix2 i l) : EReal) :=
    row_sum (mulf x x) reduces_S256x2048_S256 shapeCasts_S256_S256x1 i 0
  rw [← h]
  generalize shapeCast S256x1 _ shapeCasts_S256_S256x1 = w
  pointwise
  rfl

theorem pay3 (i : Fin 256) (k : Fin 2048) : k0_pay3 x (ix2 i k) = x (ix2 i k) * rs fun l => x (ix2 i l) := by
  unfold k0_pay3
  rw [← pay2]
  generalize k0_pay2 x = w
  pointwise

theorem pay5 (i : Fin 256) (k : Fin 2048) :
    k0_pay5 x d e g (ix2 i k) = grad (fun l => x (ix2 i l)) (fun l => g (ix2 0 l)) (fun l => d (ix2 i l) + e (ix2 i l)) k := by
  unfold k0_pay5 grad k0_pay4
  dsimp only
  rw [shapeCast_self]
  have h : shapeCast S256x1 (multiReduction (F := Ideal) .add [1] S256
        (mulf (mulf (addf d e) (broadcastTo S256x2048 g broadcasts_S1x2048_S256x2048)) (k0_pay3 x)) 0x00000000#32
        reduces_S256x2048_S256 (.inl rfl) rfl) shapeCasts_S256_S256x1 (ix2 i (0 : Fin 1))
      = ∑ l, ((d (ix2 i l) + e (ix2 i l)) * g (ix2 0 l) * (x (ix2 i l) * rs fun l => x (ix2 i l)) : EReal) := by
    refine (row_sum _ reduces_S256x2048_S256 shapeCasts_S256_S256x1 i 0).trans (Finset.sum_congr rfl fun l _ => ?_)
    rw [← pay3]
    generalize k0_pay3 x = w
    pointwise
  rw [← h, ← pay3, ← pay2]
  generalize shapeCast S256x1 _ shapeCasts_S256_S256x1 = w
  generalize k0_pay3 x = u
  generalize k0_pay2 x = v
  pointwise
  rfl

theorem pay7 (k : Fin 2048) : k0_pay7 x d e (ix2 (0 : Fin 1) k) = ∑ i, (d (ix2 i k) + e (ix2 i k)) * (x (ix2 i k) * rs fun l => x (ix2 i l)) := by
  unfold k0_pay7 k0_pay4
  dsimp only
  refine (col_sum _ reduces_S256x2048_S2048 shapeCasts_S2048_S1x2048 0 k).trans (Finset.sum_congr rfl fun i _ => ?_)
  rw [← pay3]
  generalize k0_pay3 x = w
  pointwise

end

section
variable (c : Dev nD) (i : grid0.Coords)
  (arg1 : Memref sig .tc .vmem S256x2048 .f32) (harg1 : arg1.IsWhole)
  (arg2 : Memref sig .tc .vmem S1x2048 .f32) (harg2 : arg2.IsWhole)
  (arg3 : Memref sig .tc .vmem S256x2048 .f32) (harg3 : arg3.IsWhole)
  (arg4 : Memref sig .tc .vmem S256x2048 .f32) (harg4 : arg4.IsWhole)
  (arg5 : Memref sig .tc .vmem S256x2048 .f32) (harg5 : arg5.IsWhole)
  (arg6 : Memref sig .tc .vmem S256x2048 .bf16) (harg6 : arg6.IsWhole)
  (arg7 : Memref sig .tc .vmem S1x2048 .f32) (harg7 : arg7.IsWhole)
  (x0 : Vec Ideal S256x2048 .f32) (x1 : Vec Ideal S1x2048 .f32) (x2 : Vec Ideal S256x2048 .f32) (x3 : Vec Ideal S256x2048 .f32)

/-- The grid point writes the gradient of its rows, twice, and the gradient of the scale. -/
theorem first4 (h0 : cond0_0 i) (h1 : ¬cond0_1 i) :
    out0_A_4 c i arg1 harg1 arg2 harg2 arg3 harg3 arg4 harg4 arg5 harg5 arg6 harg6 arg7 harg7 h0 h1 x0 x1 x2 x3 = k0_pay5 x0 x2 x3 x1 := by
  unfold out0_A_4
  rw [View.read_writes_eq_canon _ _ _ (cover0_A_4 c i arg1 harg1 arg2 harg2 arg3 harg3 arg4 harg4 arg5 harg5 arg6 harg6 arg7 harg7 h0 h1 x0 x1 x2 x3)]
  unfold kernelRun0_A
  dsimp only
  sl_unfold_words
  rw [View.canon_unit_zero zero2]
  simp only [View.readAt_eq_ld, harg1.read_unread, harg2.read_unread, harg3.read_unread, harg4.read_unread,
    View.ld_unit_zero (S := S256x2048) zero2, View.ld_unit_zero (S := S1x2048) zero2]

theorem first5 (h0 : cond0_0 i) (h1 : ¬cond0_1 i) :
    out0_A_5 c i arg1 harg1 arg2 harg2 arg3 harg3 arg4 harg4 arg5 harg5 arg6 harg6 arg7 harg7 h0 h1 x0 x1 x2 x3 = k0_pay6 x0 x2 x3 x1 := by
  unfold out0_A_5
  rw [View.read_writes_eq_canon _ _ _ (cover0_A_5 c i arg1 harg1 arg2 harg2 arg3 harg3 arg4 harg4 arg5 harg5 arg6 harg6 arg7 harg7 h0 h1 x0 x1 x2 x3)]
  unfold kernelRun0_A
  dsimp only
  sl_unfold_words
  rw [View.canon_unit_zero zero2]
  simp only [View.readAt_eq_ld, harg1.read_unread, harg2.read_unread, harg3.read_unread, harg4.read_unread,
    View.ld_unit_zero (S := S256x2048) zero2, View.ld_unit_zero (S := S1x2048) zero2]

theorem first6 (h0 : cond0_0 i) (h1 : ¬cond0_1 i) :
    out0_A_6 c i arg1 harg1 arg2 harg2 arg3 harg3 arg4 harg4 arg5 harg5 arg6 harg6 arg7 harg7 h0 h1 x0 x1 x2 x3 = k0_pay7 x0 x2 x3 := by
  unfold out0_A_6
  rw [View.read_writes_eq_canon _ _ _ (cover0_A_6 c i arg1 harg1 arg2 harg2 arg3 harg3 arg4 harg4 arg5 harg5 arg6 harg6 arg7 harg7 h0 h1 x0 x1 x2 x3)]
  unfold kernelRun0_A
  dsimp only
  sl_unfold_words
  rw [View.canon_unit_zero zero2]
  simp only [View.readAt_eq_ld, harg1.read_unread, harg2.read_unread, harg3.read_unread, harg4.read_unread,
    View.ld_unit_zero (S := S256x2048) zero2, View.ld_unit_zero (S := S1x2048) zero2]

end

theorem idx0 : ∀ t : Fin cfg0.N, win0_0.index t 0 = 0 ∧ win0_0.index t 1 = 0 := by decide +kernel
theorem idx1 : ∀ t : Fin cfg0.N, win0_1.index t 0 = 0 ∧ win0_1.index t 1 = 0 := by decide +kernel
theorem idx2 : ∀ t : Fin cfg0.N, win0_2.index t 0 = 0 ∧ win0_2.index t 1 = 0 := by decide +kernel
theorem idx3 : ∀ t : Fin cfg0.N, win0_3.index t 0 = 0 ∧ win0_3.index t 1 = 0 := by decide +kernel
theorem idx4 : ∀ t : Fin cfg0.N, win0_4.index t 0 = 0 ∧ win0_4.index t 1 = 0 := by decide +kernel
theorem idx5 : ∀ t : Fin cfg0.N, win0_5.index t 0 = 0 ∧ win0_5.index t 1 = 0 := by decide +kernel
theorem idx6 : ∀ t : Fin cfg0.N, win0_6.index t 0 = 0 ∧ win0_6.index t 1 = 0 := by decide +kernel

section
variable (x : S256x2048.Idx → EReal) (g : S2048.Idx → EReal) (d e : S256x2048.Idx → EReal)

/-- The gradient of the rows … -/
def DX : S256x2048.Idx → EReal := fun y =>
  grad (fun l => x (ix2 (y 0) l)) (fun l => g (ix1 l)) (fun l => d (ix2 (y 0) l) + e (ix2 (y 0) l)) (y 1)

/-- … and of the scale. -/
def DG : S1x2048.Idx → EReal := fun y => ∑ r, (d (ix2 r (y 1)) + e (ix2 r (y 1))) * (x (ix2 r (y 1)) * rs fun l => x (ix2 r l))

end

variable (m : (ℓ : Loc nD τ sig) → Buf (Elt Ideal) ℓ) (c : Dev nD)

/-- The blocks the grid point reads. -/
theorem blk0 (t : Fin cfg0.N) (i : Fin 256) :
    (fun l => (iblk m c 0 t : Vec Ideal S256x2048 .f32) (ix2 i l)) = fun l => m ((c : Thread nD τ).loc main_arg0) (ix2 i l) := by
  funext l
  unfold iblk
  rw [View.read_apply]
  show V m c main_arg0 _ = m (c.tc.loc main_arg0) _
  rw [V_main_arg0]
  refine congrArg _ (ext2 _ _ ?_ ?_)
  · show win0_0.index t 0 * 256 + 1 * i.val = i.val
    rw [(idx0 t).1]; omega
  · show win0_0.index t 1 * 2048 + 1 * l.val = l.val
    rw [(idx0 t).2]; omega

theorem blk2 (t : Fin cfg0.N) (i : Fin 256) :
    (fun l => (iblk m c 2 t : Vec Ideal S256x2048 .f32) (ix2 i l)) = fun l => m ((c : Thread nD τ).loc main_arg2) (ix2 i l) := by
  funext l
  unfold iblk
  rw [View.read_apply]
  show V m c main_arg2 _ = m (c.tc.loc main_arg2) _
  rw [V_main_arg2]
  refine congrArg _ (ext2 _ _ ?_ ?_)
  · show win0_2.index t 0 * 256 + 1 * i.val = i.val
    rw [(idx2 t).1]; omega
  · show win0_2.index t 1 * 2048 + 1 * l.val = l.val
    rw [(idx2 t).2]; omega

theorem blk3 (t : Fin cfg0.N) (i : Fin 256) :
    (fun l => (iblk m c 3 t : Vec Ideal S256x2048 .f32) (ix2 i l)) = fun l => m ((c : Thread nD τ).loc main_arg3) (ix2 i l) := by
  funext l
  unfold iblk
  rw [View.read_apply]
  show V m c main_arg3 _ = m (c.tc.loc main_arg3) _
  rw [V_main_arg3]
  refine congrArg _ (ext2 _ _ ?_ ?_)
  · show win0_3.index t 0 * 256 + 1 * i.val = i.val
    rw [(idx3 t).1]; omega
  · show win0_3.index t 1 * 2048 + 1 * l.val = l.val
    rw [(idx3 t).2]; omega

theorem blk1 (t : Fin cfg0.N) :
    (fun l => (iblk m c 1 t : Vec Ideal S1x2048 .f32) (ix2 0 l)) = fun l => m ((c : Thread nD τ).loc main_arg1) (ix1 l) := by
  have e : V m c main_v0 = shapeCast S1x2048 (m (c.tc.loc main_arg1)) shapeCasts_S2048_S1x2048 := by
    entry_read
    rfl
  funext l
  unfold iblk
  rw [View.read_apply]
  show V m c main_v0 _ = m (c.tc.loc main_arg1) _
  rw [e]
  refine (congrArg _ (ext2 (((cfg0.win 1).blk t).view.emb (ix2 0 l)) (ix2 (0 : Fin 1) l) ?_ ?_)).trans (as_row _ _ 0 l)
  · show win0_1.index t 0 * 1 + 1 * 0 = 0
    rw [(idx1 t).1]
  · show win0_1.index t 1 * 2048 + 1 * l.val = l.val
    rw [(idx1 t).2]; omega

/-- The arrays of a device: rows, scale and the two gradients. -/
abbrev ax : S256x2048.Idx → EReal := m ((c : Thread nD τ).loc main_arg0)
abbrev ag : S2048.Idx → EReal := m ((c : Thread nD τ).loc main_arg1)
abbrev ad : S256x2048.Idx → EReal := m ((c : Thread nD τ).loc main_arg2)
abbrev ae : S256x2048.Idx → EReal := m ((c : Thread nD τ).loc main_arg3)

/-- What the grid point writes of the rows. -/
theorem rows (t : Fin cfg0.N) (y : S256x2048.Idx) (z : S256x2048.Idx) (e0 : (z 0).val = (y 0).val) (e1 : (z 1).val = (y 1).val) :
    k0_pay5 (iblk m c 0 t) (iblk m c 2 t) (iblk m c 3 t) (iblk m c 1 t) y = DX (ax m c) (ag m c) (ad m c) (ae m c) z := by
  obtain rfl : z = y := ext2 z y e0 e1
  refine ((congrArg _ (eq_ix2 z)).trans (pay5 _ _ _ _ (z 0) (z 1))).trans ?_
  rw [blk0 m c t (z 0), blk1]
  unfold DX
  exact congrArg (fun d => grad _ _ d (z 1)) (funext fun l => congrArg₂ (fun a b : EReal => a + b) (congrFun (blk2 m c t (z 0)) l) (congrFun (blk3 m c t (z 0)) l))

/-- The gradient of the rows that the launch leaves, in float32 … -/
theorem final4 : (dats m 0 c).arrAt 4 cfg0.N = DX (ax m c) (ag m c) (ad m c) (ae m c) := by
  refine (dats m 0 c).arrAt_eq_of_covers 4 _ (by decide +kernel) fun t hf y => ?_
  refine (?_ : _ = k0_pay5 (iblk m c 0 t) (iblk m c 2 t) (iblk m c 3 t) (iblk m c 1 t) y).trans ?_
  · blk_simp
    rw [after0_4]
    unfold outsAt0
    rw [← first4]
  refine rows m c t y (((cfg0.win 4).blk t).view.emb y) ?_ ?_
  · show win0_4.index t 0 * 256 + 1 * (y 0).val = _
    rw [(idx4 t).1]; omega
  · show win0_4.index t 1 * 2048 + 1 * (y 1).val = _
    rw [(idx4 t).2]; omega

/-- … and in bfloat16. -/
theorem final5 : (dats m 0 c).arrAt 5 cfg0.N = DX (ax m c) (ag m c) (ad m c) (ae m c) := by
  refine (dats m 0 c).arrAt_eq_of_covers 5 _ (by decide +kernel) fun t hf y => ?_
  refine (?_ : _ = k0_pay6 (iblk m c 0 t) (iblk m c 2 t) (iblk m c 3 t) (iblk m c 1 t) y).trans ?_
  · blk_simp
    rw [after0_5]
    unfold outsAt0
    rw [← first5]
  refine rows m c t y (((cfg0.win 5).blk t).view.emb y) ?_ ?_
  · show win0_5.index t 0 * 256 + 1 * (y 0).val = _
    rw [(idx5 t).1]; omega
  · show win0_5.index t 1 * 2048 + 1 * (y 1).val = _
    rw [(idx5 t).2]; omega

/-- The gradient of the scale that the launch leaves. -/
theorem final6 : (dats m 0 c).arrAt 6 cfg0.N = DG (ax m c) (ad m c) (ae m c) := by
  refine (dats m 0 c).arrAt_eq_of_covers 6 _ (by decide +kernel) fun t hf y => ?_
  refine (?_ : _ = k0_pay7 (iblk m c 0 t) (iblk m c 2 t) (iblk m c 3 t) y).trans ?_
  · blk_simp
    rw [after0_6]
    unfold outsAt0
    rw [← first6]
  have ey : y = ix2 (0 : Fin 1) (y 1) := (eq_ix2 y).trans (congrArg (fun z : Fin 1 => ix2 z (y 1)) (Subsingleton.elim _ _))
  have e1 : (((cfg0.win 6).blk t).view.emb y) 1 = y 1 := by
    apply Fin.ext
    show win0_6.index t 1 * 2048 + 1 * (y 1).val = _
    rw [(idx6 t).2]; omega
  refine ((congrArg _ ey).trans (pay7 _ _ _ (y 1))).trans ?_
  show _ = DG _ _ _ (((cfg0.win 6).blk t).view.emb y)
  unfold DG
  rw [e1]
  refine Finset.sum_congr rfl fun i _ => ?_
  have e0 := blk0 m c t i
  refine congrArg₂ (fun a b : EReal => a * b) (congrArg₂ (fun a b : EReal => a + b) (congrFun (blk2 m c t i) (y 1)) (congrFun (blk3 m c t i) (y 1))) ?_
  exact congrArg₂ (fun (a : EReal) b => a * rs b) (congrFun e0 (y 1)) e0

open Cert.MemNormGradReferenceIdeal.Read

section
variable (x : S256x2048.Idx → EReal) (g : S2048.Idx → EReal) (d e : S256x2048.Idx → EReal) (r : Fin 256) (k : Fin 2048)

/-- The reference's sum of squares, … -/
theorem ref_sum : val_main_v1 (F := Ideal) x (ix1 r) = ∑ l, x (ix2 r l) * x (ix2 r l) := by
  refine (val_main_v1_apply x _).trans ((zero_lit _).trans ?_)
  exact Finset.sum_congr rfl fun l _ => congrArg (fun j => (x j * x j : EReal)) (ext2 (idx_main_v1 (ix1 r) l) (ix2 r l) rfl rfl)

/-- … mean square, … -/
theorem ref_ms : val_main_v6 (F := Ideal) x (ix2 r (0 : Fin 1)) = ms fun l => x (ix2 r l) := by
  rw [val_main_v6_apply, val_main_v4_apply, val_main_v5_apply, val_main_v3_apply, val_main_v2_apply,
    ext1 (idx_main_v2 (ix2 r (0 : Fin 1))) (ix1 r) rfl, ref_sum]
  rfl

/-- … reciprocal root … -/
theorem ref_rs : val_main_v7 (F := Ideal) x (ix2 r (0 : Fin 1)) = rs fun l => x (ix2 r l) := by
  rw [val_main_v7_apply, ref_ms]
  rfl

/-- … and gradient of the scale. -/
theorem ref_v22 : val_main_v22 (F := Ideal) x d e (ix1 k) = ∑ r, (d (ix2 r k) + e (ix2 r k)) * (x (ix2 r k) * rs fun l => x (ix2 r l)) := by
  refine (val_main_v22_apply x d e _).trans ((zero_lit _).trans ?_)
  rw [Fin.sum_univ_one, val_main_v19_apply, ext1 (idx_main_v19 (idx_main_v22 (ix1 k) 0)) (ix1 k) (by show 0 * 2048 + k.val = k.val; omega)]
  refine (val_main_v18_apply x d e _).trans ((zero_lit _).trans ?_)
  refine Finset.sum_congr rfl fun r _ => ?_
  rw [ext2 (idx_main_v18 (ix1 k) r) (ix2 r k) rfl rfl, val_main_v17_apply, val_main_v16_apply, val_main_v12_apply, val_main_v11_apply,
    ext2 (idx_main_v11 (ix2 r k)) (ix2 r (0 : Fin 1)) rfl rfl, ref_rs]
  exact mul_comm (_ : EReal) _

/-- The gradient with its scale, … -/
theorem ref_v21 : val_main_v21 (F := Ideal) g d e (ix2 r k) = (d (ix2 r k) + e (ix2 r k)) * g (ix1 k) := by
  rw [val_main_v21_apply, val_main_v16_apply, val_main_v20_apply, val_main_v13_apply, ext1 (idx_main_v13 (idx_main_v20 (ix2 r k))) (ix1 k) rfl]
  rfl

/-- … the row's number … -/
theorem ref_slope : val_main_v31 (F := Ideal) x g d e (ix1 r) = slope (fun l => x (ix2 r l)) (fun l => g (ix1 l)) fun l => d (ix2 r l) + e (ix2 r l) := by
  have e24 : val_main_v24 (F := Ideal) x g d e (ix1 r) = ∑ l, x (ix2 r l) * ((d (ix2 r l) + e (ix2 r l)) * g (ix1 l)) := by
    refine (val_main_v24_apply x g d e _).trans ((zero_lit _).trans ?_)
    refine Finset.sum_congr rfl fun l _ => ?_
    rw [ext2 (idx_main_v24 (ix1 r) l) (ix2 r l) rfl rfl, val_main_v23_apply, ref_v21]
    rfl
  refine (val_main_v31_apply x g d e _).trans ((zero_lit _).trans ?_)
  rw [Fin.sum_univ_one, ext2 (idx_main_v31 (ix1 r) 0) (ix2 r (0 : Fin 1)) rfl rfl, val_main_v30_apply, val_main_v28_apply, val_main_v29_apply,
    val_main_v25_apply, val_main_v10_apply, val_main_v9_apply, val_main_v8_apply, ref_ms, ref_rs,
    ext1 (idx_main_v25 (ix2 r (0 : Fin 1))) (ix1 r) (by show r.val * 1 + 0 = r.val; omega), e24]
  rfl

/-- … and the gradient of the rows. -/
theorem ref_v36 : val_main_v36 (F := Ideal) x g d e (ix2 r k) = rgrad (fun l => x (ix2 r l)) (fun l => g (ix1 l)) (fun l => d (ix2 r l) + e (ix2 r l)) k := by
  rw [val_main_v36_apply, val_main_v34_apply, val_main_v35_apply, val_main_v33_apply, val_main_v32_apply, val_main_v27_apply, val_main_v26_apply,
    ref_v21, ext2 (idx_main_v26 (ix2 r k)) (ix2 r (0 : Fin 1)) rfl rfl, ref_rs, ext1 (idx_main_v32 (ix2 r k)) (ix1 r) rfl, ref_slope]
  rfl

end

theorem ref_dx (x : S256x2048.Idx → EReal) (g : S2048.Idx → EReal) (d e : S256x2048.Idx → EReal) : val_main_v36 (F := Ideal) x g d e = DX x g d e := by
  funext y
  obtain ⟨r, k, rfl⟩ : ∃ (r : Fin 256) (k : Fin 2048), y = ix2 r k := ⟨y 0, y 1, eq_ix2 y⟩
  rw [ref_v36, grad_eq]
  rfl

theorem ref_dx16 (x : S256x2048.Idx → EReal) (g : S2048.Idx → EReal) (d e : S256x2048.Idx → EReal) : val_main_v37 (F := Ideal) x g d e = DX x g d e :=
  (rfl : _ = val_main_v36 (F := Ideal) x g d e).trans (ref_dx x g d e)

theorem ref_dg (x d e : S256x2048.Idx → EReal) : val_main_v38 (F := Ideal) x d e = DG x d e := by
  funext y
  obtain ⟨z, k, rfl⟩ : ∃ (z : Fin 1) (k : Fin 2048), y = ix2 z k := ⟨y 0, y 1, eq_ix2 y⟩
  rw [val_main_v38_apply, ext1 (idx_main_v38 (ix2 z k)) (ix1 k) (by
    have h := z.isLt
    show z.val * 2048 + k.val = k.val; omega), ref_v22]
  rfl

end Cert.Norms.MemNormGrad
-- ==== Proof.GateFwd.lean ====
/- The spatial gating unit's forward launch: what it leaves, and that the reference leaves the same. The launch's
   blocks and the body's operations are those with which the gradient's launch begins. -/
module

public import proofs.«01_k».proof.Proof.Match
public import proofs.«01_k».proof.Proof.Products.Common
public import proofs.«01_k».proof.Proof.Norms.Spec
public import proofs.«01_k».proof.Proof.Gen.GateFwdIdeal.Value
public import proofs.«01_k».proof.Proof.Gen.GateFwdReferenceIdeal.Read
public import Idealize.ShloMosaic.Lib.Claim
public import Idealize.ShloMosaic.Lib.Pipeline.ValueKit

@[expose] public section

set_option maxRecDepth 16384

noncomputable section

namespace Cert.Sgu.Fwd

open Idealize.ShloMosaic Idealize.ShloMosaic.TcCoe Idealize.SL.Sem Cert.GateFwdIdeal Cert.GateFwdIdeal.Gen Cert.Sgu Cert.Products
open Idealize.ShloMosaic.Pipeline (Dat)

/-- The result at column `e` of group `g`. -/
def outAt (A : Inputs) (n : Fin 64) (i : Fin 128) (g : Fin 8) (e : Fin 512) : EReal :=
  A.u n i (col g e) * A.sg n i g e * A.sil n i (col g e)

/-- A grid point's result, the spatial gate at hand. -/
def outM {F : FTy → Type} [FloatOps F] (sg : FVec F S128x512 .f32) (gate u : Vec F S128x512 .bf16) : FVec F S128x512 .bf16 :=
  truncf .bf16 (mulf (mulf (Cert.KernelIdeal.Gen.k0_pay22 u) sg) (Cert.KernelIdeal.Gen.k0_pay21 gate)) bitsLt_bf16_f32

theorem outM_apply {A : Inputs} {n : Fin 64} {g : Fin 8} {w : FVec Ideal S128x128 .bf16} {y : FVec Ideal S128x512 .bf16}
    {bb : Vec Ideal S128x1 .f32} {gt uu dd : Vec Ideal S128x512 .bf16} (L : Loads A n g w y bb gt uu dd) (i : Fin 128) (e : Fin 512) :
    outM (sgM w y bb) gt uu (ix2 i e) = outAt A n i g e := by
  pointwise [outM, Cert.KernelIdeal.Gen.k0_pay19, Cert.KernelIdeal.Gen.k0_pay20, Cert.KernelIdeal.Gen.k0_pay21, Cert.KernelIdeal.Gen.k0_pay22]
  rw [L.hu, sgM_apply L, L.hg]
  rfl

/-- A grid point's block of the result. -/
def block (A : Inputs) (t : Fin 32) : Vec Ideal S256x4096 .bf16 := fun y =>
  outAt A (nb t (blkOf (y 0))) (posOf (y 0)) (grp (y 1)) (off (y 1))

variable {A : Inputs} {t : Fin 32} {x0 x1 x2 x3 : Vec Ideal S256x4096 .bf16} {x4 x5 : Vec Ideal S1x4096 .f32}
    {x6 : Vec Ideal S8x128x128 .f32} {x7 : Vec Ideal S128x8 .f32}

/-- The tile of block `b` and group `g`. -/
theorem tile (H : Holds A t x0 x1 x2 x3 x4 x5 x6 x7) (g : Fin 8) (b : Fin 2) {gg co ro : Nat} (hg : gg = g.val) (hc : co = 512 * g.val)
    (hr : ro = 128 * b.val)
    (hw : ∀ a, (![gg, 0, 0] : Fin 3 → Nat) a + S1x128x128.size a ≤ S8x128x128.size a)
    (hs : S256x4096.Slices ![0, co] S256x512) (hs' : S256x512.Slices ![ro, 0] S128x512)
    (hl : ∀ a, (![0, co] : Fin 2 → Nat) a + S1x512.size a ≤ S1x4096.size a)
    (hb : ∀ a, (![0, gg] : Fin 2 → Nat) a + S128x1.size a ≤ S128x8.size a)
    (hm : ∀ a, (![ro, co] : Fin 2 → Nat) a + S128x512.size a ≤ S256x4096.size a) (x : S128x512.Idx) :
    outM (sgM (wsmM (View.ld x6 (Rect.unit ![gg, 0, 0] S1x128x128.size hw)))
        (vnbM ro hs' (vnM co hs x2 (View.ld x4 (Rect.unit ![0, co] S1x512.size hl)) (View.ld x5 (Rect.unit ![0, co] S1x512.size hl))))
        (View.ld x7 (Rect.unit ![0, gg] S128x1.size hb)))
      (View.ld x3 (Rect.unit ![ro, co] S128x512.size hm)) (View.ld x1 (Rect.unit ![ro, co] S128x512.size hm)) x
      = block A t ((Rect.unit (s := S256x4096) ![ro, co] S128x512.size hm).emb x) := by
  obtain ⟨i, e, rfl⟩ : ∃ i e, x = ix2 i e := ⟨x 0, x 1, eq_ix2 x⟩
  rw [outM_apply (loads H hg hc hr hw hs hs' hl hb hm)]
  obtain ⟨h1, h2⟩ := emb_row hr i
    ((Rect.unit (s := S256x4096) ![ro, co] S128x512.size hm).emb (ix2 i e) 0) (emb_unit_val _ _ hm _ 0)
  have h3 : (Rect.unit (s := S256x4096) ![ro, co] S128x512.size hm).emb (ix2 i e) 1 = col g e :=
    Fin.ext ((emb_unit_val _ _ hm _ 1).trans (by subst hc; rfl))
  unfold block
  rw [h1, h2, h3, grp_col, off_col]

/-- What a grid point leaves. -/
theorem out_eq (H : Holds A t x0 x1 x2 x3 x4 x5 x6 x7) : out0_7 x1 x2 x3 x4 x5 x6 x7 = block A t := by
  funext y
  unfold out0_7
  refine View.canon_apply_of_pieces (block A t) _ ?_ y (cover0_7 _ _ _ _ _ _ _ _ _ _ _ _ _ _ _ _ y)
  have e2 : View.ld x2 r0_0 = x2 := View.ld_unit_zero (S := S256x4096) zero2 _ x2
  have e77 : k0_pay77 x1 x2 x3 x4 x5 x6 x7 = Cert.KernelIdeal.Gen.k0_pay6 x2 := by unfold k0_pay77; rw [e2]; rfl
  have e78 : k0_pay78 x1 x2 x3 x4 x5 x6 x7 = Cert.KernelIdeal.Gen.k0_pay7 x2 := by unfold k0_pay78; rw [e2]; rfl
  unfold k0_pay86 k0_pay87 k0_pay96 k0_pay97
  rw [e77, e78]
  refine List.forall_mem_cons.2 ⟨tile H 7 1 rfl rfl rfl _ (by decide) (by decide) _ _ _, ?_⟩
  refine List.forall_mem_cons.2 ⟨tile H 7 0 rfl rfl rfl _ (by decide) (by decide) _ _ _, ?_⟩
  refine List.forall_mem_cons.2 ⟨tile H 6 1 rfl rfl rfl _ (by decide) (by decide) _ _ _, ?_⟩
  refine List.forall_mem_cons.2 ⟨tile H 6 0 rfl rfl rfl _ (by decide) (by decide) _ _ _, ?_⟩
  refine List.forall_mem_cons.2 ⟨tile H 5 1 rfl rfl rfl _ (by decide) (by decide) _ _ _, ?_⟩
  refine List.forall_mem_cons.2 ⟨tile H 5 0 rfl rfl rfl _ (by decide) (by decide) _ _ _, ?_⟩
  refine List.forall_mem_cons.2 ⟨tile H 4 1 rfl rfl rfl _ (by decide) (by decide) _ _ _, ?_⟩
  refine List.forall_mem_cons.2 ⟨tile H 4 0 rfl rfl rfl _ (by decide) (by decide) _ _ _, ?_⟩
  refine List.forall_mem_cons.2 ⟨tile H 3 1 rfl rfl rfl _ (by decide) (by decide) _ _ _, ?_⟩
  refine List.forall_mem_cons.2 ⟨tile H 3 0 rfl rfl rfl _ (by decide) (by decide) _ _ _, ?_⟩
  refine List.forall_mem_cons.2 ⟨tile H 2 1 rfl rfl rfl _ (by decide) (by decide) _ _ _, ?_⟩
  refine List.forall_mem_cons.2 ⟨tile H 2 0 rfl rfl rfl _ (by decide) (by decide) _ _ _, ?_⟩
  refine List.forall_mem_cons.2 ⟨tile H 1 1 rfl rfl rfl _ (by decide) (by decide) _ _ _, ?_⟩
  refine List.forall_mem_cons.2 ⟨tile H 1 0 rfl rfl rfl _ (by decide) (by decide) _ _ _, ?_⟩
  refine List.forall_mem_cons.2 ⟨tile H 0 1 rfl rfl rfl _ (by decide) (by decide) _ _ _, ?_⟩
  refine List.forall_mem_cons.2 ⟨tile H 0 0 rfl rfl rfl _ (by decide) (by decide) _ _ _, ?_⟩
  exact fun p hp => absurd hp List.not_mem_nil

section Launch
variable (m : (ℓ : Loc nD τ sig) → Buf (Elt Ideal) ℓ) (c : Dev nD)

/-- The launch's arrays on device `c`; there is no gradient among them. -/
def inp : Inputs :=
  inputs (fun _ => (0 : EReal)) (m ((c : Thread nD τ).loc main_arg0)) (m ((c : Thread nD τ).loc main_arg1)) (m ((c : Thread nD τ).loc main_arg2))
    (m ((c : Thread nD τ).loc main_arg3)) (m ((c : Thread nD τ).loc main_arg4))

theorem idx0 : ∀ t : Fin cfg0.N, win0_0.index t 0 = t.val ∧ win0_0.index t 1 = 0 := by decide +kernel
theorem idx1 : ∀ t : Fin cfg0.N, win0_1.index t 0 = t.val ∧ win0_1.index t 1 = 1 := by decide +kernel
theorem idx2 : ∀ t : Fin cfg0.N, win0_2.index t 0 = t.val ∧ win0_2.index t 1 = 2 := by decide +kernel
theorem idx3 : ∀ t : Fin cfg0.N, win0_3.index t 0 = 0 ∧ win0_3.index t 1 = 0 := by decide +kernel
theorem idx4 : ∀ t : Fin cfg0.N, win0_4.index t 0 = 0 ∧ win0_4.index t 1 = 0 := by decide +kernel
theorem idx5 : ∀ t : Fin cfg0.N, win0_5.index t 0 = 0 ∧ win0_5.index t 1 = 0 ∧ win0_5.index t 2 = 0 := by decide +kernel
theorem idx6 : ∀ t : Fin cfg0.N, win0_6.index t 0 = 0 ∧ win0_6.index t 1 = 0 := by decide +kernel
theorem idx7 : ∀ t : Fin cfg0.N, win0_7.index t 0 = t.val ∧ win0_7.index t 1 = 0 := by decide +kernel

variable (t : Fin cfg0.N)

/-- A grid point's number. -/
def pt : Fin 32 := ⟨t.val, t.isLt⟩

/-- The three parts of the projection, the norm's scale and shift, the weights and the bias, as a grid point reads them. -/
theorem blk0 (b : Fin 2) (i : Fin 128) (k : Fin 4096) :
    (iblk m c 0 t : Vec Ideal S256x4096 .bf16) (ix2 (row b i) k) = (inp m c).u (nb (pt t) b) i k := by
  unfold iblk
  rw [View.read_apply]
  show V m c main_arg0 _ = m (c.tc.loc main_arg0) _
  rw [V_main_arg0]
  refine congrArg _ (ext2 _ _ ?_ ?_)
  · show win0_0.index t 0 * 256 + 1 * (128 * b.val + i.val) = 128 * (2 * t.val + b.val) + i.val; rw [(idx0 t).1]; omega
  · show win0_0.index t 1 * 4096 + 1 * k.val = k.val; rw [(idx0 t).2]; omega

theorem blk1 (b : Fin 2) (i : Fin 128) (k : Fin 4096) :
    (iblk m c 1 t : Vec Ideal S256x4096 .bf16) (ix2 (row b i) k) = (inp m c).v (nb (pt t) b) i k := by
  unfold iblk
  rw [View.read_apply]
  show V m c main_arg0 _ = m (c.tc.loc main_arg0) _
  rw [V_main_arg0]
  refine congrArg _ (ext2 _ _ ?_ ?_)
  · show win0_1.index t 0 * 256 + 1 * (128 * b.val + i.val) = 128 * (2 * t.val + b.val) + i.val; rw [(idx1 t).1]; omega
  · show win0_1.index t 1 * 4096 + 1 * k.val = 4096 + k.val; rw [(idx1 t).2]; omega

theorem blk2 (b : Fin 2) (i : Fin 128) (k : Fin 4096) :
    (iblk m c 2 t : Vec Ideal S256x4096 .bf16) (ix2 (row b i) k) = (inp m c).gate (nb (pt t) b) i k := by
  unfold iblk
  rw [View.read_apply]
  show V m c main_arg0 _ = m (c.tc.loc main_arg0) _
  rw [V_main_arg0]
  refine congrArg _ (ext2 _ _ ?_ ?_)
  · show win0_2.index t 0 * 256 + 1 * (128 * b.val + i.val) = 128 * (2 * t.val + b.val) + i.val; rw [(idx2 t).1]; omega
  · show win0_2.index t 1 * 4096 + 1 * k.val = 8192 + k.val; rw [(idx2 t).2]; omega

theorem blk3 (k : Fin 4096) : (iblk m c 3 t : Vec Ideal S1x4096 .f32) (ix2 0 k) = (inp m c).lng k := by
  have e : V m c main_v0 = shapeCast S1x4096 (m (c.tc.loc main_arg1)) shapeCasts_S4096_S1x4096 := by
    entry_read
    rfl
  unfold iblk
  rw [View.read_apply]
  show V m c main_v0 _ = m (c.tc.loc main_arg1) _
  rw [e]
  refine (congrArg _ (ext2 (((cfg0.win 3).blk t).view.emb (ix2 0 k)) (ix2 (0 : Fin 1) k) ?_ ?_)).trans (vec_apply _ k)
  · show win0_3.index t 0 * 1 + 1 * 0 = 0; rw [(idx3 t).1]
  · show win0_3.index t 1 * 4096 + 1 * k.val = k.val; rw [(idx3 t).2]; omega

theorem blk4 (k : Fin 4096) : (iblk m c 4 t : Vec Ideal S1x4096 .f32) (ix2 0 k) = (inp m c).lnb k := by
  have e : V m c main_v1 = shapeCast S1x4096 (m (c.tc.loc main_arg2)) shapeCasts_S4096_S1x4096 := by
    entry_read
    rfl
  unfold iblk
  rw [View.read_apply]
  show V m c main_v1 _ = m (c.tc.loc main_arg2) _
  rw [e]
  refine (congrArg _ (ext2 (((cfg0.win 4).blk t).view.emb (ix2 0 k)) (ix2 (0 : Fin 1) k) ?_ ?_)).trans (vec_apply _ k)
  · show win0_4.index t 0 * 1 + 1 * 0 = 0; rw [(idx4 t).1]
  · show win0_4.index t 1 * 4096 + 1 * k.val = k.val; rw [(idx4 t).2]; omega

theorem blk5 (g : Fin 8) (i j : Fin 128) : (iblk m c 5 t : Vec Ideal S8x128x128 .f32) (ix3 g i j) = (inp m c).ws g i j := by
  unfold iblk
  rw [View.read_apply]
  show V m c main_arg3 _ = m (c.tc.loc main_arg3) _
  rw [V_main_arg3]
  refine congrArg _ (ext3 _ _ ?_ ?_ ?_)
  · show win0_5.index t 0 * 8 + 1 * g.val = g.val; rw [(idx5 t).1]; omega
  · show win0_5.index t 1 * 128 + 1 * i.val = i.val; rw [(idx5 t).2.1]; omega
  · show win0_5.index t 2 * 128 + 1 * j.val = j.val; rw [(idx5 t).2.2]; omega

theorem blk6 (g : Fin 8) (i : Fin 128) : (iblk m c 6 t : Vec Ideal S128x8 .f32) (ix2 i g) = (inp m c).bs g i := by
  have e : V m c main_v2 = transpose S128x8 [1, 0] (m (c.tc.loc main_arg4)) transposes_S8x128_S128x8_1_0 := by
    entry_read
    rfl
  unfold iblk
  rw [View.read_apply]
  show V m c main_v2 _ = m (c.tc.loc main_arg4) _
  rw [e]
  refine (congrArg _ (ext2 (((cfg0.win 6).blk t).view.emb (ix2 i g)) (ix2 i g) ?_ ?_)).trans (turn_apply _ g i)
  · show win0_6.index t 0 * 128 + 1 * i.val = i.val; rw [(idx6 t).1]; omega
  · show win0_6.index t 1 * 8 + 1 * g.val = g.val; rw [(idx6 t).2]; omega

/-- Each grid point's blocks are the parts of the arrays that it takes. -/
theorem holds : Holds (inp m c) (pt t) (fun _ => (0 : EReal)) (iblk m c 0 t) (iblk m c 1 t) (iblk m c 2 t) (iblk m c 3 t) (iblk m c 4 t)
    (iblk m c 5 t) (iblk m c 6 t) where
  h0 _ _ _ := rfl
  h1 := blk0 m c t
  h2 := blk1 m c t
  h3 := blk2 m c t
  h4 := blk3 m c t
  h5 := blk4 m c t
  h6 := blk5 m c t
  h7 := blk6 m c t

/-- The whole result. -/
def out (A : Inputs) : S8192x4096.Idx → EReal := fun y => outAt A (blkA (y 0)) (posA (y 0)) (grp (y 1)) (off (y 1))

theorem block_out (A : Inputs) (t : Fin 32) (y : S256x4096.Idx) (z : S8192x4096.Idx) (e0 : (z 0).val = 256 * t.val + (y 0).val)
    (e1 : (z 1).val = (y 1).val) : block A t y = out A z := by
  have h : (y 0).val < 256 := (y 0).isLt
  have e2 : nb t (blkOf (y 0)) = blkA (z 0) := Fin.ext (by
    show 2 * t.val + (y 0).val / 128 = (z 0).val / 128
    rw [e0]; omega)
  have e3 : posOf (y 0) = posA (z 0) := Fin.ext (by
    show (y 0).val % 128 = (z 0).val % 128
    rw [e0]; omega)
  have e4 : y 1 = z 1 := Fin.ext e1.symm
  unfold block out
  rw [e2, e3, e4]

/-- The array the launch leaves. -/
theorem final : (dats m 0 c).arrAt 7 cfg0.N = out (inp m c) := by
  refine (dats m 0 c).arrAt_eq_of_covers 7 _ (by decide +kernel) fun t hf y => ?_
  refine (?_ : _ = out0_7 (iblk m c 0 t) (iblk m c 1 t) (iblk m c 2 t) (iblk m c 3 t) (iblk m c 4 t) (iblk m c 5 t) (iblk m c 6 t) y).trans ?_
  · blk_simp
    rw [after0_7]
  rw [out_eq (holds m c t)]
  refine block_out (inp m c) (pt t) y _ ?_ ?_
  · show win0_7.index t 0 * 256 + 1 * (y 0).val = 256 * t.val + (y 0).val
    rw [(idx7 t).1]; omega
  · show win0_7.index t 1 * 4096 + 1 * (y 1).val = (y 1).val
    rw [(idx7 t).2]; omega

end Launch

/-- The logistic function by the exponential is the one by the hyperbolic tangent, at the infinities too. -/
theorem rsig_all (A : Inputs) (n : Fin 64) (i : Fin 128) (k : Fin 4096) : Ref.rsig A n i k = A.sig n i k := by
  unfold Ref.rsig Inputs.sig
  generalize A.gate n i k = x
  induction x using EReal.rec with
  | bot =>
    rw [cHalf_eq, EReal.coe_mul_bot_of_pos (by norm_num), Ideal.tanh_bot, EReal.neg_bot, Ideal.exp_top, ← EReal.coe_one, EReal.coe_add_top]
    simp [Ideal.div]
    norm_cast
    norm_num
  | top =>
    rw [cHalf_eq, EReal.coe_mul_top_of_pos (by norm_num), Ideal.tanh_top, EReal.neg_top, Ideal.exp_bot]
    simp [Ideal.div]
    norm_cast
    norm_num
  | coe x =>
    have e0 : (1 + Real.exp (-x)) ≠ 0 := (add_pos one_pos (Real.exp_pos _)).ne'
    rw [cHalf_eq, ← EReal.coe_neg, Ideal.exp_coe, ← EReal.coe_one, ← EReal.coe_add, Ideal.div_coe e0, ← EReal.coe_mul, ← EReal.coe_mul,
      Ideal.tanh_coe, ← EReal.coe_mul, ← EReal.coe_add, sig_real, one_mul]

section Reference
variable (x0 : Vec Ideal S8192x12288 .bf16) (x1 x2 : Vec Ideal S4096 .f32) (x3 : Vec Ideal S8x128x128 .f32) (x4 : Vec Ideal S8x128 .f32)

open Cert.GateFwdReferenceIdeal.Read in
/-- The reference's spatial gate is the one the gradient's reference computes. -/
theorem gate_same : val_main_v46 (F := Ideal) x0 x1 x2 x3 x4 = Cert.ReferenceIdeal.Read.val_main_v52 (F := Ideal) x0 x1 x2 x3 x4 := rfl

open Cert.GateFwdReferenceIdeal.Read in
/-- The reference's result at an entry. -/
theorem ref_at (n : Fin 64) (i : Fin 128) (g : Fin 8) (e : Fin 512) :
    val_main_v50 (F := Ideal) x0 x1 x2 x3 x4 (ix2 (arow n i) (col g e)) = outAt (inputs (fun _ => (0 : EReal)) x0 x1 x2 x3 x4) n i g e := by
  unfold outAt Inputs.sil
  rw [← rsig_all, ← Ref.r52, ← gate_same, ← Ref.s2, ← Ref.r4 (fun _ => (0 : EReal)) x0 x1 x2 x3 x4, ← Ref.r2 (fun _ => (0 : EReal)) x0 x1 x2 x3 x4]
  rfl

open Cert.GateFwdReferenceIdeal.Read in
/-- The reference's result. -/
theorem ref_eq : val_main_v50 (F := Ideal) x0 x1 x2 x3 x4 = out (inputs (fun _ => (0 : EReal)) x0 x1 x2 x3 x4) := by
  funext y
  refine ((congrArg _ (eq_ix2 y)).trans ?_).trans (ref_at x0 x1 x2 x3 x4 (blkA (y 0)) (posA (y 0)) (grp (y 1)) (off (y 1)))
  exact congrArg₂ (fun r k => val_main_v50 (F := Ideal) x0 x1 x2 x3 x4 (ix2 r k)) (arow_blkA (y 0)).symm (col_grp_off (y 1)).symm

end Reference

end Cert.Sgu.Fwd

end
-- ==== Proof.Norms.Loss.lean ====
/- The loss of 8192 rows after their final norm, and its gradient: what the launch leaves, and that the reference leaves the same. A grid point
has 256 rows; all of them add up the loss and the gradient of the scale. -/
module

public import proofs.«01_k».proof.Proof.Norms.Spec
public import proofs.«01_k».proof.Proof.Gen.LossIdeal.Value
public import proofs.«01_k».proof.Proof.Gen.LossReferenceIdeal.Read
public import Idealize.ShloMosaic.Lib.Claim
public import Idealize.ShloMosaic.Lib.Pipeline.ValueKit

@[expose] public section

set_option maxRecDepth 16384

noncomputable section

namespace Cert.Norms.Loss

open Idealize.ShloMosaic Idealize.ShloMosaic.TcCoe Idealize.SL.Sem Cert.LossIdeal Cert.LossIdeal.Gen Cert.Products Cert.Norms Cert.Sgu
open Idealize.ShloMosaic.Pipeline (Dat)

section
variable (x g t : Fin 2048 → EReal)

/-- The difference of a row's norm and its target, … -/
def err (k : Fin 2048) : EReal := norm x g k - t k

/-- … the loss's gradient in the norm, … -/
def derr (k : Fin 2048) : EReal := Ideal.div (err x g t k) cD

/-- … and the row's sum of squares. -/
def sq : EReal := ∑ k, err x g t k * err x g t k

end

/-- The gradient in the norm, as the derivative has it. -/
theorem derr_eq (e : EReal) :
    Ideal.div (cHalf * Ideal.ofBits .f32 0x3F800000#32) cD * (Ideal.ofBits .f32 0x40000000#32 * e) = Ideal.div e cD := by
  have h1 : Ideal.ofBits .f32 0x3F800000#32 = ((1 : ℝ) : EReal) := by
    simp [Ideal.ofBits, Ideal.ieee, -EReal.coe_mul]; norm_num
  have h2 : Ideal.ofBits .f32 0x40000000#32 = ((2 : ℝ) : EReal) := by
    simp [Ideal.ofBits, Ideal.ieee, -EReal.coe_mul]; norm_num
  rw [h1, h2, cHalf_eq, ← EReal.coe_mul, div_cD, ← mul_assoc, ← EReal.coe_mul, cD_eq, Ideal.div_coe (by norm_num), mul_comm e]
  congr 2
  norm_num

/-- Half the mean squares of all rows is the sum of what the grid points add. -/
theorem sum_half (f : Fin 8192 → EReal) :
    ∑ b ∈ Finset.range 32, Ideal.div (cHalf * ∑ i : Fin 256, f (row32 b i)) cD = cHalf * ∑ r, Ideal.div (f r) cD := by
  rw [← sum_row32, cHalf_eq, mul_sum_pos (by norm_num)]
  refine Finset.sum_congr rfl fun b _ => ?_
  simp only [cD_eq, Ideal.div_coe (show (2048 : ℝ) ≠ 0 by norm_num)]
  simp only [mul_comm _ ((1 / 2048 : ℝ) : EReal)]
  rw [← mul_sum_pos (by norm_num)]
  exact mul_left_comm (_ : EReal) _ _

/-- A sum over the indices of a vector. -/
theorem sum_ix1 {n : ℕ} (f : (Shape.mk 1 ![n]).Idx → EReal) : ∑ j, f j = ∑ r : Fin n, f (ix1 r) :=
  (Fintype.sum_equiv (κ := (Shape.mk 1 ![n]).Idx) ⟨fun r : Fin n => ix1 r, fun j => j 0, fun _ => rfl, fun j => ext1 _ _ rfl⟩ _ _ fun _ => rfl).symm

/-- The sum of a column of 256, in an array of one entry. -/
theorem one_sum (x : FVec Ideal ⟨2, ![256, 1]⟩ .f32) (h : (Shape.mk 2 ![256, 1]).Reduces [0] ⟨1, ![1]⟩)
    (hs : (Shape.mk 1 ![1]).ShapeCasts ⟨2, ![1, 1]⟩) :
    shapeCast ⟨2, ![1, 1]⟩ (multiReduction (F := Ideal) .add [0] ⟨1, ![1]⟩ x 0x00000000#32 h (.inl rfl) rfl) hs (ix2 (0 : Fin 1) (0 : Fin 1))
      = ∑ i : Fin 256, x (ix2 i (0 : Fin 1)) := by
  refine (shapeCast_apply _ _ (ix2 (0 : Fin 1) (0 : Fin 1)) (ix1 (0 : Fin 1)) ?_).trans ?_
  · rw [Shape.rowMajor_val_one, Shape.rowMajor_val_two]; rfl
  refine (Ideal.multiReduction_add_single _ _ _ _ _ _).trans ?_
  exact Finset.sum_congr rfl fun i _ => congrArg x (ext2 (h.lift (ix1 (0 : Fin 1)) i) (ix2 i (0 : Fin 1)) rfl rfl)

section
variable (x : Vec Ideal S256x2048 .f32) (g : Vec Ideal S1x2048 .f32) (t : Vec Ideal S256x2048 .f32)

theorem pay7 (i : Fin 256) : k0_pay7 x (ix2 i (0 : Fin 1)) = rs fun l => x (ix2 i l) := by
  unfold k0_pay7 rs ms
  dsimp only
  have h : shapeCast S256x1 (multiReduction (F := Ideal) .add [1] S256 (mulf x x) 0x00000000#32 reduces_S256x2048_S256 (.inl rfl) rfl)
      shapeCasts_S256_S256x1 (ix2 i (0 : Fin 1)) = ∑ l, (x (ix2 i l) * x (ix2 i l) : EReal) :=
    row_sum (mulf x x) reduces_S256x2048_S256 shapeCasts_S256_S256x1 i 0
  rw [← h]
  generalize shapeCast S256x1 _ shapeCasts_S256_S256x1 = w
  pointwise
  rfl

theorem pay8 (i : Fin 256) (k : Fin 2048) : k0_pay8 x (ix2 i k) = x (ix2 i k) * rs fun l => x (ix2 i l) := by
  unfold k0_pay8
  rw [← pay7]
  generalize k0_pay7 x = w
  pointwise

theorem pay9 (i : Fin 256) (k : Fin 2048) :
    k0_pay9 x g t (ix2 i k) = err (fun l => x (ix2 i l)) (fun l => g (ix2 0 l)) (fun l => t (ix2 i l)) k := by
  unfold k0_pay9 k0_pay6 err norm
  dsimp only
  rw [shapeCast_self, ← pay8]
  generalize k0_pay8 x = w
  pointwise

theorem pay11 (i : Fin 256) (k : Fin 2048) :
    k0_pay11 x g t (ix2 i k) = derr (fun l => x (ix2 i l)) (fun l => g (ix2 0 l)) (fun l => t (ix2 i l)) k := by
  unfold k0_pay11 derr
  rw [← pay9]
  generalize k0_pay9 x g t = w
  pointwise
  rfl

/-- The part of the loss of a block of rows, … -/
theorem pay10 : k0_pay10 x g t (ix2 (0 : Fin 1) (0 : Fin 1))
    = Ideal.div (cHalf * ∑ i : Fin 256, sq (fun l => x (ix2 i l)) (fun l => g (ix2 0 l)) (fun l => t (ix2 i l))) cD := by
  unfold k0_pay10
  dsimp only
  have h : shapeCast S1x1 (multiReduction (F := Ideal) .add [0] S1
        (shapeCast S256x1 (multiReduction (F := Ideal) .add [1] S256 (mulf (k0_pay9 x g t) (k0_pay9 x g t)) 0x00000000#32
          reduces_S256x2048_S256 (.inl rfl) rfl) shapeCasts_S256_S256x1) 0x00000000#32 reduces_S256x1_S1 (.inl rfl) rfl) shapeCasts_S1_S1x1
        (ix2 (0 : Fin 1) (0 : Fin 1))
      = ∑ i : Fin 256, sq (fun l => x (ix2 i l)) (fun l => g (ix2 0 l)) (fun l => t (ix2 i l)) := by
    refine (one_sum _ reduces_S256x1_S1 shapeCasts_S1_S1x1).trans (Finset.sum_congr rfl fun i _ => ?_)
    refine (row_sum _ reduces_S256x2048_S256 shapeCasts_S256_S256x1 i 0).trans (Finset.sum_congr rfl fun l _ => ?_)
    rw [← pay9]
    rfl
  rw [← h]
  generalize shapeCast S1x1 _ shapeCasts_S1_S1x1 = w
  pointwise
  rfl

/-- … which every entry gets; … -/
theorem pay3 (w : FVec Ideal S1x1 .f32) (k : Fin 128) : k0_pay3 w (ix2 (0 : Fin 1) k) = w (ix2 (0 : Fin 1) (0 : Fin 1)) := by
  unfold k0_pay3
  rw [shapeCast_self]
  pointwise

theorem pay5 (w : FVec Ideal S1x1 .f32) (s : Vec Ideal S1x128 .f32) (k : Fin 128) :
    k0_pay5 w s (ix2 (0 : Fin 1) k) = s (ix2 (0 : Fin 1) k) + w (ix2 (0 : Fin 1) (0 : Fin 1)) := by
  unfold k0_pay5
  rw [shapeCast_self, ← pay3 w k]
  rfl

/-- … the gradient of the rows … -/
theorem pay12 (i : Fin 256) (k : Fin 2048) :
    k0_pay12 x g t (ix2 i k) = grad (fun l => x (ix2 i l)) (fun l => g (ix2 0 l))
      (derr (fun l => x (ix2 i l)) (fun l => g (ix2 0 l)) fun l => t (ix2 i l)) k := by
  unfold k0_pay12 grad k0_pay6
  dsimp only
  rw [shapeCast_self]
  have h : shapeCast S256x1 (multiReduction (F := Ideal) .add [1] S256
        (mulf (mulf (k0_pay11 x g t) (broadcastTo S256x2048 g broadcasts_S1x2048_S256x2048)) (k0_pay8 x)) 0x00000000#32
        reduces_S256x2048_S256 (.inl rfl) rfl) shapeCasts_S256_S256x1 (ix2 i (0 : Fin 1))
      = ∑ l, (derr (fun l => x (ix2 i l)) (fun l => g (ix2 0 l)) (fun l => t (ix2 i l)) l * g (ix2 0 l)
          * (x (ix2 i l) * rs fun l => x (ix2 i l)) : EReal) := by
    refine (row_sum _ reduces_S256x2048_S256 shapeCasts_S256_S256x1 i 0).trans (Finset.sum_congr rfl fun l _ => ?_)
    rw [← pay8, ← pay11]
    generalize k0_pay8 x = w
    generalize k0_pay11 x g t = w'
    pointwise
  rw [← h, ← pay8, ← pay7, ← pay11]
  generalize shapeCast S256x1 _ shapeCasts_S256_S256x1 = w
  generalize k0_pay8 x = u
  generalize k0_pay7 x = v
  generalize k0_pay11 x g t = w'
  pointwise
  rfl

/-- … and of the scale. -/
theorem pay2 (k : Fin 2048) : k0_pay2 (k0_pay8 x) (k0_pay11 x g t) (ix2 (0 : Fin 1) k)
    = ∑ i, derr (fun l => x (ix2 i l)) (fun l => g (ix2 0 l)) (fun l => t (ix2 i l)) k * (x (ix2 i k) * rs fun l => x (ix2 i l)) := by
  unfold k0_pay2
  dsimp only
  refine (col_sum _ reduces_S256x2048_S2048 shapeCasts_S2048_S1x2048 0 k).trans (Finset.sum_congr rfl fun i _ => ?_)
  rw [← pay8, ← pay11]
  rfl

theorem pay4 (s : Vec Ideal S1x2048 .f32) (k : Fin 2048) : k0_pay4 (k0_pay8 x) (k0_pay11 x g t) s (ix2 (0 : Fin 1) k)
    = s (ix2 (0 : Fin 1) k) + k0_pay2 (k0_pay8 x) (k0_pay11 x g t) (ix2 (0 : Fin 1) k) := by
  unfold k0_pay4
  rw [shapeCast_self]
  rfl

end

section
variable (c : Dev nD) (i : grid0.Coords)
  (arg1 : Memref sig .tc .vmem S256x2048 .f32) (harg1 : arg1.IsWhole)
  (arg2 : Memref sig .tc .vmem S1x2048 .f32) (harg2 : arg2.IsWhole)
  (arg3 : Memref sig .tc .vmem S256x2048 .f32) (harg3 : arg3.IsWhole)
  (arg4 : Memref sig .tc .vmem S1x128 .f32) (harg4 : arg4.IsWhole)
  (arg5 : Memref sig .tc .vmem S1x2048 .f32) (harg5 : arg5.IsWhole)
  (arg6 : Memref sig .tc .vmem S256x2048 .f32) (harg6 : arg6.IsWhole)
  (arg7 : Memref sig .tc .vmem S256x2048 .bf16) (harg7 : arg7.IsWhole)
  (x0 : Vec Ideal S256x2048 .f32) (x1 : Vec Ideal S1x2048 .f32) (x2 : Vec Ideal S256x2048 .f32)
  (xo3 : Vec Ideal S1x128 .f32) (xo4 : Vec Ideal S1x2048 .f32)

/-- The first grid point starts the loss and the gradient of the scale, and writes the gradient of its rows, twice; … -/
theorem first3 (h0 : cond0_0 i) (h1 : ¬cond0_1 i) :
    out0_A_3 c i arg1 harg1 arg2 harg2 arg3 harg3 arg4 harg4 arg5 harg5 arg6 harg6 arg7 harg7 h0 h1 x0 x1 x2 = k0_pay3 (k0_pay10 x0 x1 x2) := by
  unfold out0_A_3
  rw [View.read_writes_eq_canon _ _ _ (cover0_A_3 c i arg1 harg1 arg2 harg2 arg3 harg3 arg4 harg4 arg5 harg5 arg6 harg6 arg7 harg7 h0 h1 x0 x1 x2)]
  unfold kernelRun0_A
  dsimp only
  sl_unfold_words
  rw [View.canon_unit_zero zero2]
  simp only [View.readAt_eq_ld, harg1.read_unread, harg2.read_unread, harg3.read_unread,
    View.ld_unit_zero (S := S256x2048) zero2, View.ld_unit_zero (S := S1x2048) zero2]

theorem first4 (h0 : cond0_0 i) (h1 : ¬cond0_1 i) :
    out0_A_4 c i arg1 harg1 arg2 harg2 arg3 harg3 arg4 harg4 arg5 harg5 arg6 harg6 arg7 harg7 h0 h1 x0 x1 x2 = k0_pay2 (k0_pay8 x0) (k0_pay11 x0 x1 x2) := by
  unfold out0_A_4
  rw [View.read_writes_eq_canon _ _ _ (cover0_A_4 c i arg1 harg1 arg2 harg2 arg3 harg3 arg4 harg4 arg5 harg5 arg6 harg6 arg7 harg7 h0 h1 x0 x1 x2)]
  unfold kernelRun0_A
  dsimp only
  sl_unfold_words
  rw [View.canon_unit_zero zero2]
  simp only [View.readAt_eq_ld, harg1.read_unread, harg2.read_unread, harg3.read_unread,
    View.ld_unit_zero (S := S256x2048) zero2, View.ld_unit_zero (S := S1x2048) zero2]

theorem first5 (h0 : cond0_0 i) (h1 : ¬cond0_1 i) :
    out0_A_5 c i arg1 harg1 arg2 harg2 arg3 harg3 arg4 harg4 arg5 harg5 arg6 harg6 arg7 harg7 h0 h1 x0 x1 x2 = k0_pay12 x0 x1 x2 := by
  unfold out0_A_5
  rw [View.read_writes_eq_canon _ _ _ (cover0_A_5 c i arg1 harg1 arg2 harg2 arg3 harg3 arg4 harg4 arg5 harg5 arg6 harg6 arg7 harg7 h0 h1 x0 x1 x2)]
  unfold kernelRun0_A
  dsimp only
  sl_unfold_words
  rw [View.canon_unit_zero zero2]
  simp only [View.readAt_eq_ld, harg1.read_unread, harg2.read_unread, harg3.read_unread,
    View.ld_unit_zero (S := S256x2048) zero2, View.ld_unit_zero (S := S1x2048) zero2]

theorem first6 (h0 : cond0_0 i) (h1 : ¬cond0_1 i) :
    out0_A_6 c i arg1 harg1 arg2 harg2 arg3 harg3 arg4 harg4 arg5 harg5 arg6 harg6 arg7 harg7 h0 h1 x0 x1 x2 = k0_pay1 (k0_pay12 x0 x1 x2) := by
  unfold out0_A_6
  rw [View.read_writes_eq_canon _ _ _ (cover0_A_6 c i arg1 harg1 arg2 harg2 arg3 harg3 arg4 harg4 arg5 harg5 arg6 harg6 arg7 harg7 h0 h1 x0 x1 x2)]
  unfold kernelRun0_A
  dsimp only
  sl_unfold_words
  rw [View.canon_unit_zero zero2]
  simp only [View.readAt_eq_ld, harg1.read_unread, harg2.read_unread, harg3.read_unread,
    View.ld_unit_zero (S := S256x2048) zero2, View.ld_unit_zero (S := S1x2048) zero2]

/-- … the others add to the first two. -/
theorem later3 (h0 : ¬cond0_0 i) (h1 : cond0_1 i) :
    out0_B_3 c i arg1 harg1 arg2 harg2 arg3 harg3 arg4 harg4 arg5 harg5 arg6 harg6 arg7 harg7 h0 h1 x0 x1 x2 xo3 xo4 = k0_pay5 (k0_pay10 x0 x1 x2) xo3 := by
  unfold out0_B_3
  rw [View.read_writes_eq_canon _ _ _ (cover0_B_3 c i arg1 harg1 arg2 harg2 arg3 harg3 arg4 harg4 arg5 harg5 arg6 harg6 arg7 harg7 h0 h1 x0 x1 x2 xo3 xo4)]
  unfold kernelRun0_B
  dsimp only
  sl_unfold_words
  rw [View.canon_unit_zero zero2]
  simp only [View.readAt_eq_ld, harg1.read_unread, harg2.read_unread, harg3.read_unread, harg4.read_unread,
    View.ld_unit_zero (S := S256x2048) zero2, View.ld_unit_zero (S := S1x2048) zero2, View.ld_unit_zero (S := S1x128) zero2]

theorem later4 (h0 : ¬cond0_0 i) (h1 : cond0_1 i) :
    out0_B_4 c i arg1 harg1 arg2 harg2 arg3 harg3 arg4 harg4 arg5 harg5 arg6 harg6 arg7 harg7 h0 h1 x0 x1 x2 xo3 xo4 = k0_pay4 (k0_pay8 x0) (k0_pay11 x0 x1 x2) xo4 := by
  unfold out0_B_4
  rw [View.read_writes_eq_canon _ _ _ (cover0_B_4 c i arg1 harg1 arg2 harg2 arg3 harg3 arg4 harg4 arg5 harg5 arg6 harg6 arg7 harg7 h0 h1 x0 x1 x2 xo3 xo4)]
  unfold kernelRun0_B
  dsimp only
  sl_unfold_words
  rw [View.canon_unit_zero zero2]
  simp only [View.readAt_eq_ld, harg1.read_unread, harg2.read_unread, harg3.read_unread, harg5.read_unread,
    View.ld_unit_zero (S := S256x2048) zero2, View.ld_unit_zero (S := S1x2048) zero2]

theorem later5 (h0 : ¬cond0_0 i) (h1 : cond0_1 i) :
    out0_B_5 c i arg1 harg1 arg2 harg2 arg3 harg3 arg4 harg4 arg5 harg5 arg6 harg6 arg7 harg7 h0 h1 x0 x1 x2 xo3 xo4 = k0_pay12 x0 x1 x2 := by
  unfold out0_B_5
  rw [View.read_writes_eq_canon _ _ _ (cover0_B_5 c i arg1 harg1 arg2 harg2 arg3 harg3 arg4 harg4 arg5 harg5 arg6 harg6 arg7 harg7 h0 h1 x0 x1 x2 xo3 xo4)]
  unfold kernelRun0_B
  dsimp only
  sl_unfold_words
  rw [View.canon_unit_zero zero2]
  simp only [View.readAt_eq_ld, harg1.read_unread, harg2.read_unread, harg3.read_unread,
    View.ld_unit_zero (S := S256x2048) zero2, View.ld_unit_zero (S := S1x2048) zero2]

theorem later6 (h0 : ¬cond0_0 i) (h1 : cond0_1 i) :
    out0_B_6 c i arg1 harg1 arg2 harg2 arg3 harg3 arg4 harg4 arg5 harg5 arg6 harg6 arg7 harg7 h0 h1 x0 x1 x2 xo3 xo4 = k0_pay1 (k0_pay12 x0 x1 x2) := by
  unfold out0_B_6
  rw [View.read_writes_eq_canon _ _ _ (cover0_B_6 c i arg1 harg1 arg2 harg2 arg3 harg3 arg4 harg4 arg5 harg5 arg6 harg6 arg7 harg7 h0 h1 x0 x1 x2 xo3 xo4)]
  unfold kernelRun0_B
  dsimp only
  sl_unfold_words
  rw [View.canon_unit_zero zero2]
  simp only [View.readAt_eq_ld, harg1.read_unread, harg2.read_unread, harg3.read_unread,
    View.ld_unit_zero (S := S256x2048) zero2, View.ld_unit_zero (S := S1x2048) zero2]

end

theorem idx0 : ∀ t : Fin cfg0.N, win0_0.index t 0 = t.val ∧ win0_0.index t 1 = 0 := by decide +kernel
theorem idx1 : ∀ t : Fin cfg0.N, win0_1.index t 0 = 0 ∧ win0_1.index t 1 = 0 := by decide +kernel
theorem idx2 : ∀ t : Fin cfg0.N, win0_2.index t 0 = t.val ∧ win0_2.index t 1 = 0 := by decide +kernel
theorem idx3 : ∀ t : Fin cfg0.N, win0_3.index t 0 = 0 ∧ win0_3.index t 1 = 0 := by decide +kernel
theorem idx4 : ∀ t : Fin cfg0.N, win0_4.index t 0 = 0 ∧ win0_4.index t 1 = 0 := by decide +kernel
theorem idx5 : ∀ t : Fin cfg0.N, win0_5.index t 0 = t.val ∧ win0_5.index t 1 = 0 := by decide +kernel
theorem idx6 : ∀ t : Fin cfg0.N, win0_6.index t 0 = t.val ∧ win0_6.index t 1 = 0 := by decide +kernel

section
variable (x : S8192x2048.Idx → EReal) (g : S2048.Idx → EReal) (t : S8192x2048.Idx → EReal)

/-- Of a row: the gradient in its norm, … -/
def D (r : Fin 8192) : Fin 2048 → EReal := derr (fun l => x (ix2 r l)) (fun l => g (ix1 l)) fun l => t (ix2 r l)

/-- … its sum of squares, … -/
def Q (r : Fin 8192) : EReal := sq (fun l => x (ix2 r l)) (fun l => g (ix1 l)) fun l => t (ix2 r l)

/-- … and its gradient. -/
def DX : S8192x2048.Idx → EReal := fun y => grad (fun l => x (ix2 (y 0) l)) (fun l => g (ix1 l)) (D x g t (y 0)) (y 1)

/-- The loss: what the `b`-th grid point adds, and the whole. -/
def partL (b : ℕ) : EReal := Ideal.div (cHalf * ∑ i : Fin 256, Q x g t (row32 b i)) cD
def L : S1x128.Idx → EReal := fun _ => cHalf * ∑ r, Ideal.div (Q x g t r) cD

/-- The gradient of the scale, likewise. -/
def partG (b : ℕ) (k : Fin 2048) : EReal := ∑ i, D x g t (row32 b i) k * (x (ix2 (row32 b i) k) * rs fun l => x (ix2 (row32 b i) l))
def DG : S1x2048.Idx → EReal := fun y => ∑ r, D x g t r (y 1) * (x (ix2 r (y 1)) * rs fun l => x (ix2 r l))

theorem sum_partG (y : S1x2048.Idx) : ∑ b ∈ Finset.range 32, partG x g t b (y 1) = DG x g t y :=
  sum_row32 fun r => D x g t r (y 1) * (x (ix2 r (y 1)) * rs fun l => x (ix2 r l))

end

variable (m : (ℓ : Loc nD τ sig) → Buf (Elt Ideal) ℓ) (c : Dev nD)

section
variable (t : Fin cfg0.N) (i : Fin 256) (r : Fin 8192) (er : r.val = t.val * 256 + 1 * i.val)
include er

/-- The blocks a grid point reads. -/
theorem blk0 : (fun l => (iblk m c 0 t : Vec Ideal S256x2048 .f32) (ix2 i l)) = fun l => m ((c : Thread nD τ).loc main_arg0) (ix2 r l) := by
  funext l
  unfold iblk
  rw [View.read_apply]
  show V m c main_arg0 _ = m (c.tc.loc main_arg0) _
  rw [V_main_arg0]
  refine congrArg _ (ext2 _ _ ?_ ?_)
  · show win0_0.index t 0 * 256 + 1 * i.val = r.val
    rw [(idx0 t).1, er]
  · show win0_0.index t 1 * 2048 + 1 * l.val = l.val
    rw [(idx0 t).2]; omega

theorem blk2 : (fun l => (iblk m c 2 t : Vec Ideal S256x2048 .f32) (ix2 i l)) = fun l => m ((c : Thread nD τ).loc main_arg2) (ix2 r l) := by
  funext l
  unfold iblk
  rw [View.read_apply]
  show V m c main_arg2 _ = m (c.tc.loc main_arg2) _
  rw [V_main_arg2]
  refine congrArg _ (ext2 _ _ ?_ ?_)
  · show win0_2.index t 0 * 256 + 1 * i.val = r.val
    rw [(idx2 t).1, er]
  · show win0_2.index t 1 * 2048 + 1 * l.val = l.val
    rw [(idx2 t).2]; omega

end

theorem blk1 (t : Fin cfg0.N) :
    (fun l => (iblk m c 1 t : Vec Ideal S1x2048 .f32) (ix2 0 l)) = fun l => m ((c : Thread nD τ).loc main_arg1) (ix1 l) := by
  have e : V m c main_v0 = shapeCast S1x2048 (m (c.tc.loc main_arg1)) shapeCasts_S2048_S1x2048 := by
    entry_read
    rfl
  funext l
  unfold iblk
  rw [View.read_apply]
  show V m c main_v0 _ = m (c.tc.loc main_arg1) _
  rw [e]
  refine (congrArg _ (ext2 (((cfg0.win 1).blk t).view.emb (ix2 0 l)) (ix2 (0 : Fin 1) l) ?_ ?_)).trans (as_row _ _ 0 l)
  · show win0_1.index t 0 * 1 + 1 * 0 = 0
    rw [(idx1 t).1]
  · show win0_1.index t 1 * 2048 + 1 * l.val = l.val
    rw [(idx1 t).2]; omega

/-- The arrays of a device: rows, scale and targets. -/
abbrev ax : S8192x2048.Idx → EReal := m ((c : Thread nD τ).loc main_arg0)
abbrev ag : S2048.Idx → EReal := m ((c : Thread nD τ).loc main_arg1)
abbrev at' : S8192x2048.Idx → EReal := m ((c : Thread nD τ).loc main_arg2)

/-- What a grid point has of a row. -/
theorem blkD (t : Fin cfg0.N) (i : Fin 256) (r : Fin 8192) (er : r.val = t.val * 256 + 1 * i.val) :
    derr (fun l => (iblk m c 0 t : Vec Ideal S256x2048 .f32) (ix2 i l)) (fun l => (iblk m c 1 t : Vec Ideal S1x2048 .f32) (ix2 0 l))
      (fun l => (iblk m c 2 t : Vec Ideal S256x2048 .f32) (ix2 i l)) = D (ax m c) (ag m c) (at' m c) r := by
  rw [blk0 m c t i r er, blk1, blk2 m c t i r er]
  rfl

theorem row_of (t : Fin cfg0.N) (i : Fin 256) : (row32 (t.val % 32) i).val = t.val * 256 + 1 * i.val := by
  have := i.isLt
  have ht : t.val < 32 := t.isLt
  show (t.val % 32 * 256 + 1 * i.val) % 8192 = _; omega

/-- What a grid point writes of the rows. -/
theorem rows (t : Fin cfg0.N) (y : S256x2048.Idx) (z : S8192x2048.Idx) (e0 : (z 0).val = t.val * 256 + 1 * (y 0).val) (e1 : (z 1).val = (y 1).val) :
    k0_pay12 (iblk m c 0 t) (iblk m c 1 t) (iblk m c 2 t) y = DX (ax m c) (ag m c) (at' m c) z := by
  have ek : z 1 = y 1 := Fin.ext e1
  refine ((congrArg _ (eq_ix2 y)).trans (pay12 _ _ _ (y 0) (y 1))).trans ?_
  rw [blkD m c t (y 0) (z 0) e0, blk0 m c t (y 0) (z 0) e0, blk1]
  unfold DX
  rw [ek]

theorem outs5 (t : Fin cfg0.N) : (outsAt0 m c t.val t.isLt).2.2.1 = k0_pay12 (iblk m c 0 t) (iblk m c 1 t) (iblk m c 2 t) := by
  have ht : t.val < 32 := t.isLt
  by_cases h0 : t.val % 32 = 0
  · have e := congrArg (fun p => p.2.2.1) (outsAt0_A m c t h0 (by omega))
    dsimp only at e
    rw [first5] at e
    exact e
  · have e := congrArg (fun p => p.2.2.1) (outsAt0_B m c t h0 (by omega))
    dsimp only at e
    rw [later5] at e
    exact e

theorem outs6 (t : Fin cfg0.N) : (outsAt0 m c t.val t.isLt).2.2.2 = k0_pay1 (k0_pay12 (iblk m c 0 t) (iblk m c 1 t) (iblk m c 2 t)) := by
  have ht : t.val < 32 := t.isLt
  by_cases h0 : t.val % 32 = 0
  · have e := congrArg (fun p => p.2.2.2) (outsAt0_A m c t h0 (by omega))
    dsimp only at e
    rw [first6] at e
    exact e
  · have e := congrArg (fun p => p.2.2.2) (outsAt0_B m c t h0 (by omega))
    dsimp only at e
    rw [later6] at e
    exact e

/-- The gradient of the rows that the launch leaves, in float32 … -/
theorem final5 : (dats m 0 c).arrAt 5 cfg0.N = DX (ax m c) (ag m c) (at' m c) := by
  refine (dats m 0 c).arrAt_eq_of_covers 5 _ (by decide +kernel) fun t hf y => ?_
  refine (?_ : _ = (outsAt0 m c t.val t.isLt).2.2.1 y).trans ?_
  · blk_simp
    rw [after0_5]
  rw [outs5]
  refine rows m c t y (((cfg0.win 5).blk t).view.emb y) ?_ ?_
  · show win0_5.index t 0 * 256 + 1 * (y 0).val = _
    rw [(idx5 t).1]
  · show win0_5.index t 1 * 2048 + 1 * (y 1).val = _
    rw [(idx5 t).2]; omega

/-- … and in bfloat16. -/
theorem final6 : (dats m 0 c).arrAt 6 cfg0.N = DX (ax m c) (ag m c) (at' m c) := by
  refine (dats m 0 c).arrAt_eq_of_covers 6 _ (by decide +kernel) fun t hf y => ?_
  refine (?_ : _ = (outsAt0 m c t.val t.isLt).2.2.2 y).trans ?_
  · blk_simp
    rw [after0_6]
  rw [outs6]
  refine rows m c t y (((cfg0.win 6).blk t).view.emb y) ?_ ?_
  · show win0_6.index t 0 * 256 + 1 * (y 0).val = _
    rw [(idx6 t).1]
  · show win0_6.index t 1 * 2048 + 1 * (y 1).val = _
    rw [(idx6 t).2]; omega

/-- What a grid point adds to the loss, … -/
theorem adds3 (t : Fin cfg0.N) :
    k0_pay10 (iblk m c 0 t) (iblk m c 1 t) (iblk m c 2 t) (ix2 (0 : Fin 1) (0 : Fin 1)) = partL (ax m c) (ag m c) (at' m c) (t.val % 32) := by
  refine (pay10 _ _ _).trans ?_
  unfold partL Q
  refine congrArg (fun s : EReal => Ideal.div (cHalf * s) cD) (Finset.sum_congr rfl fun i _ => ?_)
  rw [blk0 m c t i _ (row_of t i), blk1, blk2 m c t i _ (row_of t i)]

/-- … and to the gradient of the scale. -/
theorem adds4 (t : Fin cfg0.N) (k : Fin 2048) :
    k0_pay2 (k0_pay8 (iblk m c 0 t)) (k0_pay11 (iblk m c 0 t) (iblk m c 1 t) (iblk m c 2 t)) (ix2 (0 : Fin 1) k)
      = partG (ax m c) (ag m c) (at' m c) (t.val % 32) k := by
  refine (pay2 _ _ _ k).trans ?_
  unfold partG
  refine Finset.sum_congr rfl fun i _ => ?_
  have e0 := blk0 m c t i _ (row_of t i)
  refine congrArg₂ (fun a b : EReal => a * b) (congrFun (blkD m c t i _ (row_of t i)) k) ?_
  exact congrArg₂ (fun (a : EReal) b => a * rs b) (congrFun e0 k) e0

/-- After a grid point the buffers hold the parts added so far. -/
theorem sums3 (n : ℕ) (hn : n < cfg0.N) (k : Fin 128) :
    (outsAt0 m c n hn).1 (ix2 (0 : Fin 1) k) = ∑ b ∈ Finset.range (n % 32 + 1), partL (ax m c) (ag m c) (at' m c) b := by
  refine carriedBy 32 (by decide) (fun n hn (k : Fin 128) => (outsAt0 m c n hn).1 (ix2 (0 : Fin 1) k)) (fun _ k l => k = l)
    (fun b _ => partL (ax m c) (ag m c) (at' m c) b) (fun n hn h0 k l h => ?_) (fun _ _ _ _ h => h) (fun n hn h0 k l h => ?_) n hn k k rfl
  · have hl : n < 32 := hn
    have e := congrArg Prod.fst (outsAt0_A m c ⟨n, hn⟩ h0 (by show ¬1 ≤ n; omega))
    rw [first3] at e
    refine (congrFun e _).trans ((pay3 _ k).trans ((adds3 m c ⟨n, hn⟩).trans ?_))
    exact congrArg (fun b => partL _ _ _ b) h0
  · refine Eq.trans ?_ (congrArg (_ + ·) (adds3 m c ⟨n + 1, hn⟩))
    have e := congrArg Prod.fst (outsAt0_B m c ⟨n + 1, hn⟩ h0 (by show 1 ≤ n + 1; omega))
    rw [later3] at e
    exact (congrFun e _).trans (pay5 _ _ k)

theorem sums4 (n : ℕ) (hn : n < cfg0.N) (k : Fin 2048) :
    (outsAt0 m c n hn).2.1 (ix2 (0 : Fin 1) k) = ∑ b ∈ Finset.range (n % 32 + 1), partG (ax m c) (ag m c) (at' m c) b k := by
  refine carriedBy 32 (by decide) (fun n hn (k : Fin 2048) => (outsAt0 m c n hn).2.1 (ix2 (0 : Fin 1) k)) (fun _ k l => k = l)
    (fun b k => partG (ax m c) (ag m c) (at' m c) b k) (fun n hn h0 k l h => ?_) (fun _ _ _ _ h => h) (fun n hn h0 k l h => ?_) n hn k k rfl
  · subst h
    have hl : n < 32 := hn
    have e := congrArg (fun p => p.2.1) (outsAt0_A m c ⟨n, hn⟩ h0 (by show ¬1 ≤ n; omega))
    dsimp only at e
    rw [first4] at e
    refine (congrFun e _).trans ((adds4 m c ⟨n, hn⟩ k).trans ?_)
    exact congrArg (fun b => partG _ _ _ b k) h0
  · subst h
    refine Eq.trans ?_ (congrArg (_ + ·) (adds4 m c ⟨n + 1, hn⟩ k))
    have e := congrArg (fun p => p.2.1) (outsAt0_B m c ⟨n + 1, hn⟩ h0 (by show 1 ≤ n + 1; omega))
    dsimp only at e
    rw [later4] at e
    exact (congrFun e _).trans (pay4 _ _ _ _ k)

/-- The loss that the launch leaves … -/
theorem final3 : (dats m 0 c).arrAt 3 cfg0.N = L (ax m c) (ag m c) (at' m c) := by
  refine (dats m 0 c).arrAt_eq_of_covers 3 _ (by decide +kernel) fun t hf y => ?_
  have h31 : t.val % 32 = 31 := (flush0_3 t).mp hf
  refine (?_ : _ = (outsAt0 m c t.val t.isLt).1 y).trans ?_
  · blk_simp
    rw [after0_3]
  have ey : y = ix2 (0 : Fin 1) (y 1) := (eq_ix2 y).trans (congrArg (fun z : Fin 1 => ix2 z (y 1)) (Subsingleton.elim _ _))
  refine ((congrArg _ ey).trans (sums3 m c t.val t.isLt (y 1))).trans ?_
  rw [h31]
  exact sum_half _

/-- … and the gradient of the scale. -/
theorem final4 : (dats m 0 c).arrAt 4 cfg0.N = DG (ax m c) (ag m c) (at' m c) := by
  refine (dats m 0 c).arrAt_eq_of_covers 4 _ (by decide +kernel) fun t hf y => ?_
  have h31 : t.val % 32 = 31 := (flush0_4 t).mp hf
  refine (?_ : _ = (outsAt0 m c t.val t.isLt).2.1 y).trans ?_
  · blk_simp
    rw [after0_4]
  have ey : y = ix2 (0 : Fin 1) (y 1) := (eq_ix2 y).trans (congrArg (fun z : Fin 1 => ix2 z (y 1)) (Subsingleton.elim _ _))
  have e1 : (((cfg0.win 4).blk t).view.emb y) 1 = y 1 := by
    apply Fin.ext
    show win0_4.index t 1 * 2048 + 1 * (y 1).val = _
    rw [(idx4 t).2]; omega
  refine ((congrArg _ ey).trans (sums4 m c t.val t.isLt (y 1))).trans ?_
  rw [h31]
  show _ = DG _ _ _ (((cfg0.win 4).blk t).view.emb y)
  rw [← sum_partG, e1]

open Cert.LossReferenceIdeal.Read

section
variable (x : S8192x2048.Idx → EReal) (g : S2048.Idx → EReal) (t : S8192x2048.Idx → EReal) (r : Fin 8192) (k : Fin 2048)

/-- The reference's sum of squares, … -/
theorem ref_sum : val_main_v1 (F := Ideal) x (ix1 r) = ∑ l, x (ix2 r l) * x (ix2 r l) := by
  refine (val_main_v1_apply x _).trans ((zero_lit _).trans ?_)
  exact Finset.sum_congr rfl fun l _ => congrArg (fun j => (x j * x j : EReal)) (ext2 (idx_main_v1 (ix1 r) l) (ix2 r l) rfl rfl)

/-- … mean square, … -/
theorem ref_ms : val_main_v6 (F := Ideal) x (ix2 r (0 : Fin 1)) = ms fun l => x (ix2 r l) := by
  rw [val_main_v6_apply, val_main_v4_apply, val_main_v5_apply, val_main_v3_apply, val_main_v2_apply,
    ext1 (idx_main_v2 (ix2 r (0 : Fin 1))) (ix1 r) rfl, ref_sum]
  rfl

/-- … reciprocal root, … -/
theorem ref_rs : val_main_v7 (F := Ideal) x (ix2 r (0 : Fin 1)) = rs fun l => x (ix2 r l) := by
  rw [val_main_v7_apply, ref_ms]
  rfl

/-- … difference from the target, … -/
theorem ref_err : val_main_v16 (F := Ideal) x g t (ix2 r k) = err (fun l => x (ix2 r l)) (fun l => g (ix1 l)) (fun l => t (ix2 r l)) k := by
  rw [val_main_v16_apply, val_main_v15_apply, val_main_v14_apply, val_main_v13_apply, val_main_v12_apply, val_main_v11_apply,
    ext2 (idx_main_v11 (ix2 r k)) (ix2 r (0 : Fin 1)) rfl rfl, ref_rs, ext1 (idx_main_v13 (idx_main_v14 (ix2 r k))) (ix1 k) rfl]
  rfl

/-- … loss, … -/
theorem ref_loss (y : S1x128.Idx) : val_main_v51 (F := Ideal) x g t y = L x g t y := by
  rw [val_main_v51_apply, val_main_v24_apply, val_main_v23_apply]
  refine congrArg (fun s : EReal => cHalf * s) ((zero_lit _).trans ((sum_ix1 (n := 8192) (val_main_v22 (F := Ideal) x g t)).trans ?_))
  refine Finset.sum_congr rfl fun r _ => ?_
  rw [val_main_v22_apply, val_main_v21_apply]
  unfold Q sq
  refine congrArg (fun s : EReal => Ideal.div s cD) ((val_main_v20_apply x g t _).trans ((zero_lit _).trans ?_))
  refine Finset.sum_congr rfl fun l _ => ?_
  rw [ext2 (idx_main_v20 (ix1 r) l) (ix2 r l) rfl rfl, val_main_v17_apply, ref_err]
  rfl

/-- … gradient in the norm … -/
theorem ref_D : val_main_v30 (F := Ideal) x g t (ix2 r k) = D x g t r k := by
  rw [val_main_v30_apply, val_main_v29_apply, val_main_v28_apply, val_main_v27_apply, val_main_v26_apply, val_main_v25_apply,
    val_main_v19_apply, val_main_v18_apply, ref_err]
  exact derr_eq _

/-- … and gradient of the scale. -/
theorem ref_v36 : val_main_v36 (F := Ideal) x g t (ix1 k) = ∑ r, D x g t r k * (x (ix2 r k) * rs fun l => x (ix2 r l)) := by
  refine (val_main_v36_apply x g t _).trans ((zero_lit _).trans ?_)
  rw [Fin.sum_univ_one, val_main_v33_apply, ext1 (idx_main_v33 (idx_main_v36 (ix1 k) 0)) (ix1 k) (by show 0 * 2048 + k.val = k.val; omega)]
  refine (val_main_v32_apply x g t _).trans ((zero_lit _).trans ?_)
  refine Finset.sum_congr rfl fun r _ => ?_
  rw [ext2 (idx_main_v32 (ix1 k) r) (ix2 r k) rfl rfl, val_main_v31_apply, ref_D, val_main_v12_apply, val_main_v11_apply,
    ext2 (idx_main_v11 (ix2 r k)) (ix2 r (0 : Fin 1)) rfl rfl, ref_rs]
  exact mul_comm (_ : EReal) _

/-- The gradient with its scale, … -/
theorem ref_v35 : val_main_v35 (F := Ideal) x g t (ix2 r k) = D x g t r k * g (ix1 k) := by
  rw [val_main_v35_apply, ref_D, val_main_v34_apply, val_main_v13_apply, ext1 (idx_main_v13 (idx_main_v34 (ix2 r k))) (ix1 k) rfl]
  rfl

/-- … the row's number … -/
theorem ref_slope : val_main_v45 (F := Ideal) x g t (ix1 r) = slope (fun l => x (ix2 r l)) (fun l => g (ix1 l)) (D x g t r) := by
  have e38 : val_main_v38 (F := Ideal) x g t (ix1 r) = ∑ l, x (ix2 r l) * (D x g t r l * g (ix1 l)) := by
    refine (val_main_v38_apply x g t _).trans ((zero_lit _).trans ?_)
    refine Finset.sum_congr rfl fun l _ => ?_
    rw [ext2 (idx_main_v38 (ix1 r) l) (ix2 r l) rfl rfl, val_main_v37_apply, ref_v35]
    rfl
  refine (val_main_v45_apply x g t _).trans ((zero_lit _).trans ?_)
  rw [Fin.sum_univ_one, ext2 (idx_main_v45 (ix1 r) 0) (ix2 r (0 : Fin 1)) rfl rfl, val_main_v44_apply, val_main_v42_apply, val_main_v43_apply,
    val_main_v39_apply, val_main_v10_apply, val_main_v9_apply, val_main_v8_apply, ref_ms, ref_rs,
    ext1 (idx_main_v39 (ix2 r (0 : Fin 1))) (ix1 r) (by show r.val * 1 + 0 = r.val; omega), e38]
  rfl

/-- … and the gradient of the rows. -/
theorem ref_v50 : val_main_v50 (F := Ideal) x g t (ix2 r k) = rgrad (fun l => x (ix2 r l)) (fun l => g (ix1 l)) (D x g t r) k := by
  rw [val_main_v50_apply, val_main_v48_apply, val_main_v49_apply, val_main_v47_apply, val_main_v46_apply, val_main_v41_apply, val_main_v40_apply,
    ref_v35, ext2 (idx_main_v40 (ix2 r k)) (ix2 r (0 : Fin 1)) rfl rfl, ref_rs, ext1 (idx_main_v46 (ix2 r k)) (ix1 r) rfl, ref_slope]
  rfl

end

theorem ref_l (x : S8192x2048.Idx → EReal) (g : S2048.Idx → EReal) (t : S8192x2048.Idx → EReal) : val_main_v51 (F := Ideal) x g t = L x g t :=
  funext (ref_loss x g t)

theorem ref_dx (x : S8192x2048.Idx → EReal) (g : S2048.Idx → EReal) (t : S8192x2048.Idx → EReal) : val_main_v50 (F := Ideal) x g t = DX x g t := by
  funext y
  obtain ⟨r, k, rfl⟩ : ∃ (r : Fin 8192) (k : Fin 2048), y = ix2 r k := ⟨y 0, y 1, eq_ix2 y⟩
  rw [ref_v50, grad_eq]
  rfl

theorem ref_dx16 (x : S8192x2048.Idx → EReal) (g : S2048.Idx → EReal) (t : S8192x2048.Idx → EReal) : val_main_v53 (F := Ideal) x g t = DX x g t :=
  (rfl : _ = val_main_v50 (F := Ideal) x g t).trans (ref_dx x g t)

theorem ref_dg (x : S8192x2048.Idx → EReal) (g : S2048.Idx → EReal) (t : S8192x2048.Idx → EReal) : val_main_v52 (F := Ideal) x g t = DG x g t := by
  funext y
  obtain ⟨z, k, rfl⟩ : ∃ (z : Fin 1) (k : Fin 2048), y = ix2 z k := ⟨y 0, y 1, eq_ix2 y⟩
  rw [val_main_v52_apply, ext1 (idx_main_v52 (ix2 z k)) (ix1 k) (by
    have h := z.isLt
    show z.val * 2048 + k.val = k.val; omega), ref_v36]
  rfl

end Cert.Norms.Loss
-- ==== Proof.Steps.Rule.lean ====
/- AdamW's step of one weight from its gradient, and of an array of weights whose gradient is the first rows of another array. -/
module

public import proofs.«01_k».proof.Proof.Products.Common
public import Idealize.ShloMosaic.Lib.Claim

@[expose] public section

noncomputable section

namespace Cert.Steps

open Idealize.ShloMosaic Cert.Products

/-- The moving average of the gradient, … -/
def mom (m g : EReal) : EReal := Ideal.ofBits .f32 0x3F666666#32 * m + Ideal.ofBits .f32 0x3DCCCCCD#32 * g

/-- … that of its square … -/
def vel (v g : EReal) : EReal := Ideal.ofBits .f32 0x3F7FBE77#32 * v + Ideal.ofBits .f32 0x3A83126F#32 * (g * g)

/-- … and the change of the weight. -/
def change (w m v g : EReal) : EReal :=
  Ideal.ofBits .f32 0xBA83126F#32 *
    (Ideal.div (Ideal.div (mom m g) (Ideal.ofBits .f32 0x3F26BD02#32))
        (Ideal.sqrt (Ideal.div (vel v g) (Ideal.ofBits .f32 0x3C231ACC#32)) + Ideal.ofBits .f32 0x322BCC77#32) +
      Ideal.ofBits .f32 0x3C23D70A#32 * w)

variable {n k r : ℕ} (h : n ≤ r) (w m v : (Shape.mk 3 ![1, n, k]).Idx → EReal) (g : (Shape.mk 2 ![r, k]).Idx → EReal)

/-- The gradient of an array of weights: the first rows of `g`. -/
def top : (Shape.mk 3 ![1, n, k]).Idx → EReal := fun y =>
  g (ix2 ⟨(y 1).val, lt_of_lt_of_le (show (y 1).val < n from (y 1).isLt) h⟩ (y 2))

/-- The step of every weight. -/
def moms : (Shape.mk 3 ![1, n, k]).Idx → EReal := fun y => mom (m y) (top h g y)
def vels : (Shape.mk 3 ![1, n, k]).Idx → EReal := fun y => vel (v y) (top h g y)
def changes : (Shape.mk 3 ![1, n, k]).Idx → EReal := fun y => change (w y) (m y) (v y) (top h g y)

/-- An index of an array with one leading row. -/
theorem ext31 (x z : (Shape.mk 3 ![1, n, k]).Idx) (e1 : (x 1).val = (z 1).val) (e2 : (x 2).val = (z 2).val) : x = z :=
  ext3 x z (by have h : (x 0).val < 1 := (x 0).isLt; have h' : (z 0).val < 1 := (z 0).isLt; omega) e1 e2

end Cert.Steps
-- ==== Proof.Steps.StepAB.lean ====
/- The step of the 2048 rows of the first layer's input weights: what the launch leaves, and that the reference leaves the same. -/
module

public import proofs.«01_k».proof.Proof.Steps.Rule
public import proofs.«01_k».proof.Proof.Gen.StepABIdeal.Value
public import proofs.«01_k».proof.Proof.Gen.StepABReferenceIdeal.Read
public import Idealize.ShloMosaic.Lib.Pipeline.ValueKit

@[expose] public section

set_option maxRecDepth 16384

noncomputable section

namespace Cert.Steps.StepAB

open Idealize.ShloMosaic Idealize.ShloMosaic.TcCoe Idealize.SL.Sem Cert.StepABIdeal Cert.StepABIdeal.Gen Cert.StepABIdeal.Value Cert.Products Cert.Steps

section
variable (w m v : Vec Ideal S1x64x3584 .f32) (g : Vec Ideal S64x3584 .f32) (y : S1x64x3584.Idx)

/-- A grid point's four blocks, an index at a time. -/
theorem out4_apply : out0_4 w m v g y = g (ix2 (y 1) (y 2)) := by
  unfold out0_4
  rw [View.ld_unit_zero (S := S64x3584) zero2, canon4_eq]
  exact congrArg g (ext2 _ _ rfl rfl)

theorem out5_apply : out0_5 w m v g y = change (w y) (m y) (v y) (g (ix2 (y 1) (y 2))) := by
  unfold out0_5
  rw [View.ld_unit_zero (S := S64x3584) zero2, View.ld_unit_zero (S := S1x64x3584) zero3, View.ld_unit_zero (S := S1x64x3584) zero3,
    View.ld_unit_zero (S := S1x64x3584) zero3, canon5_eq]
  exact congrArg₂ (fun p q => change (w p) (m p) (v p) (g q)) (ext31 (ix5_0 y) y rfl rfl) (ext2 (ix5_1 y) (ix2 (y 1) (y 2)) rfl rfl)

theorem out6_apply : out0_6 w m v g y = mom (m y) (g (ix2 (y 1) (y 2))) := by
  unfold out0_6
  rw [View.ld_unit_zero (S := S64x3584) zero2, View.ld_unit_zero (S := S1x64x3584) zero3, canon6_eq]
  exact congrArg₂ (fun p q => mom (m p) (g q)) (ext31 (ix6_0 y) y rfl rfl) (ext2 (ix6_1 y) (ix2 (y 1) (y 2)) rfl rfl)

theorem out7_apply : out0_7 w m v g y = vel (v y) (g (ix2 (y 1) (y 2))) := by
  unfold out0_7
  rw [View.ld_unit_zero (S := S64x3584) zero2, View.ld_unit_zero (S := S1x64x3584) zero3, canon7_eq]
  exact congrArg₂ (fun p q => vel (v p) (g q)) (ext31 (ix7_0 y) y rfl rfl) (ext2 (ix7_1 y) (ix2 (y 1) (y 2)) rfl rfl)
end

theorem idx : ∀ t : Fin cfg0.N, win0_4.index t 0 = 0 ∧ win0_3.index t 0 = win0_4.index t 1 ∧ win0_3.index t 1 = 0 ∧ win0_4.index t 2 = 0 := by
  decide +kernel

variable (m : (ℓ : Loc nD τ sig) → Buf (Elt Ideal) ℓ) (c : Dev nD) (t : Fin cfg0.N) (y : S1x64x3584.Idx)

/-- The index of the arrays that a grid point's index is. -/
def at' : S1x2048x3584.Idx := ((cfg0.win 4).blk t).view.emb y

/-- The blocks a grid point reads. -/
theorem blk0 : (iblk m c 0 t : Vec Ideal S1x64x3584 .f32) y = m ((c : Thread nD τ).loc main_arg0) (at' t y) := by
  unfold iblk
  rw [View.read_apply]
  show V m c main_arg0 _ = m (c.tc.loc main_arg0) _
  rw [V_main_arg0]
  rfl

theorem blk1 : (iblk m c 1 t : Vec Ideal S1x64x3584 .f32) y = m ((c : Thread nD τ).loc main_arg1) (at' t y) := by
  unfold iblk
  rw [View.read_apply]
  show V m c main_arg1 _ = m (c.tc.loc main_arg1) _
  rw [V_main_arg1]
  rfl

theorem blk2 : (iblk m c 2 t : Vec Ideal S1x64x3584 .f32) y = m ((c : Thread nD τ).loc main_arg2) (at' t y) := by
  unfold iblk
  rw [View.read_apply]
  show V m c main_arg2 _ = m (c.tc.loc main_arg2) _
  rw [V_main_arg2]
  rfl

theorem le : 2048 ≤ 2048 := le_refl _

theorem blk3 : (iblk m c 3 t : Vec Ideal S64x3584 .f32) (ix2 (y 1) (y 2)) = top le (m ((c : Thread nD τ).loc main_arg3)) (at' t y) := by
  unfold iblk
  rw [View.read_apply]
  show V m c main_arg3 _ = m (c.tc.loc main_arg3) _
  rw [V_main_arg3]
  refine congrArg _ (ext2 _ _ ?_ ?_)
  · show win0_3.index t 0 * 64 + 1 * (y 1).val = win0_4.index t 1 * 64 + 1 * (y 1).val
    rw [(idx t).2.1]
  · show win0_3.index t 1 * 3584 + 1 * (y 2).val = win0_4.index t 2 * 3584 + 1 * (y 2).val
    rw [(idx t).2.2.1, (idx t).2.2.2]

omit t y in
/-- The arrays the launch leaves. -/
theorem final4 : (dats m 0 c).arrAt 4 cfg0.N = top le (m ((c : Thread nD τ).loc main_arg3)) := by
  refine (dats m 0 c).arrAt_eq_of_covers 4 _ (by decide +kernel) fun t hf y => ?_
  refine (?_ : _ = out0_4 (iblk m c 0 t) (iblk m c 1 t) (iblk m c 2 t) (iblk m c 3 t) y).trans ?_
  · blk_simp
    rw [after0_4]
  exact (out4_apply _ _ _ _ y).trans (blk3 m c t y)

omit t y in
theorem final5 : (dats m 0 c).arrAt 5 cfg0.N = changes le (m ((c : Thread nD τ).loc main_arg0)) (m ((c : Thread nD τ).loc main_arg1))
    (m ((c : Thread nD τ).loc main_arg2)) (m ((c : Thread nD τ).loc main_arg3)) := by
  refine (dats m 0 c).arrAt_eq_of_covers 5 _ (by decide +kernel) fun t hf y => ?_
  refine (?_ : _ = out0_5 (iblk m c 0 t) (iblk m c 1 t) (iblk m c 2 t) (iblk m c 3 t) y).trans ?_
  · blk_simp
    rw [after0_5]
  refine (out5_apply _ _ _ _ y).trans ?_
  rw [blk0, blk1, blk2, blk3]
  rfl

omit t y in
theorem final6 : (dats m 0 c).arrAt 6 cfg0.N = moms le (m ((c : Thread nD τ).loc main_arg1)) (m ((c : Thread nD τ).loc main_arg3)) := by
  refine (dats m 0 c).arrAt_eq_of_covers 6 _ (by decide +kernel) fun t hf y => ?_
  refine (?_ : _ = out0_6 (iblk m c 0 t) (iblk m c 1 t) (iblk m c 2 t) (iblk m c 3 t) y).trans ?_
  · blk_simp
    rw [after0_6]
  refine (out6_apply _ _ _ _ y).trans ?_
  rw [blk1, blk3]
  rfl

omit t y in
theorem final7 : (dats m 0 c).arrAt 7 cfg0.N = vels le (m ((c : Thread nD τ).loc main_arg2)) (m ((c : Thread nD τ).loc main_arg3)) := by
  refine (dats m 0 c).arrAt_eq_of_covers 7 _ (by decide +kernel) fun t hf y => ?_
  refine (?_ : _ = out0_7 (iblk m c 0 t) (iblk m c 1 t) (iblk m c 2 t) (iblk m c 3 t) y).trans ?_
  · blk_simp
    rw [after0_7]
  refine (out7_apply _ _ _ _ y).trans ?_
  rw [blk2, blk3]
  rfl

open Cert.StepABReferenceIdeal.Read

section
variable (w m v : S1x2048x3584.Idx → EReal) (g : S2048x3584.Idx → EReal)

/-- The reference's arrays. -/
theorem ref_g : val_main_v0 (F := Ideal) g = top le g := funext fun y => by
  rw [val_main_v0_apply]
  exact congrArg g (ext2 _ _ rfl rfl)

theorem ref_m : val_main_v5 (F := Ideal) m g = moms le m g := funext fun y => by
  rw [val_main_v5_apply, val_main_v2_apply, val_main_v1_apply, val_main_v4_apply, val_main_v3_apply, ref_g]
  rfl

theorem ref_v : val_main_v11 (F := Ideal) v g = vels le v g := funext fun y => by
  rw [val_main_v11_apply, val_main_v7_apply, val_main_v6_apply, val_main_v10_apply, val_main_v9_apply, val_main_v8_apply, ref_g]
  rfl

theorem ref_d : val_main_v24 (F := Ideal) w m v g = changes le w m v g := funext fun y => by
  rw [val_main_v24_apply, val_main_v23_apply, val_main_v22_apply, val_main_v21_apply, val_main_v20_apply, val_main_v19_apply, val_main_v18_apply,
    val_main_v17_apply, val_main_v16_apply, val_main_v15_apply, val_main_v14_apply, val_main_v13_apply, val_main_v12_apply, ref_m, ref_v]
  rfl
end

end Cert.Steps.StepAB
-- ==== Proof.Steps.StepC.lean ====
/- The step of the 2048 rows of the second layer's input weights: what the launch leaves, and that the reference leaves the same. -/
module

public import proofs.«01_k».proof.Proof.Steps.Rule
public import proofs.«01_k».proof.Proof.Gen.StepCIdeal.Value
public import proofs.«01_k».proof.Proof.Gen.StepCReferenceIdeal.Read
public import Idealize.ShloMosaic.Lib.Pipeline.ValueKit

@[expose] public section

set_option maxRecDepth 16384

noncomputable section

namespace Cert.Steps.StepC

open Idealize.ShloMosaic Idealize.ShloMosaic.TcCoe Idealize.SL.Sem Cert.StepCIdeal Cert.StepCIdeal.Gen Cert.StepCIdeal.Value Cert.Products Cert.Steps

section
variable (w m v : Vec Ideal S1x64x3072 .f32) (g : Vec Ideal S64x3072 .f32) (y : S1x64x3072.Idx)

/-- A grid point's four blocks, an index at a time. -/
theorem out4_apply : out0_4 w m v g y = g (ix2 (y 1) (y 2)) := by
  unfold out0_4
  rw [View.ld_unit_zero (S := S64x3072) zero2, canon4_eq]
  exact congrArg g (ext2 _ _ rfl rfl)

theorem out5_apply : out0_5 w m v g y = change (w y) (m y) (v y) (g (ix2 (y 1) (y 2))) := by
  unfold out0_5
  rw [View.ld_unit_zero (S := S64x3072) zero2, View.ld_unit_zero (S := S1x64x3072) zero3, View.ld_unit_zero (S := S1x64x3072) zero3,
    View.ld_unit_zero (S := S1x64x3072) zero3, canon5_eq]
  exact congrArg₂ (fun p q => change (w p) (m p) (v p) (g q)) (ext31 (ix5_0 y) y rfl rfl) (ext2 (ix5_1 y) (ix2 (y 1) (y 2)) rfl rfl)

theorem out6_apply : out0_6 w m v g y = mom (m y) (g (ix2 (y 1) (y 2))) := by
  unfold out0_6
  rw [View.ld_unit_zero (S := S64x3072) zero2, View.ld_unit_zero (S := S1x64x3072) zero3, canon6_eq]
  exact congrArg₂ (fun p q => mom (m p) (g q)) (ext31 (ix6_0 y) y rfl rfl) (ext2 (ix6_1 y) (ix2 (y 1) (y 2)) rfl rfl)

theorem out7_apply : out0_7 w m v g y = vel (v y) (g (ix2 (y 1) (y 2))) := by
  unfold out0_7
  rw [View.ld_unit_zero (S := S64x3072) zero2, View.ld_unit_zero (S := S1x64x3072) zero3, canon7_eq]
  exact congrArg₂ (fun p q => vel (v p) (g q)) (ext31 (ix7_0 y) y rfl rfl) (ext2 (ix7_1 y) (ix2 (y 1) (y 2)) rfl rfl)
end

theorem idx : ∀ t : Fin cfg0.N, win0_4.index t 0 = 0 ∧ win0_3.index t 0 = win0_4.index t 1 ∧ win0_3.index t 1 = 0 ∧ win0_4.index t 2 = 0 := by
  decide +kernel

variable (m : (ℓ : Loc nD τ sig) → Buf (Elt Ideal) ℓ) (c : Dev nD) (t : Fin cfg0.N) (y : S1x64x3072.Idx)

/-- The index of the arrays that a grid point's index is. -/
def at' : S1x2048x3072.Idx := ((cfg0.win 4).blk t).view.emb y

/-- The blocks a grid point reads. -/
theorem blk0 : (iblk m c 0 t : Vec Ideal S1x64x3072 .f32) y = m ((c : Thread nD τ).loc main_arg0) (at' t y) := by
  unfold iblk
  rw [View.read_apply]
  show V m c main_arg0 _ = m (c.tc.loc main_arg0) _
  rw [V_main_arg0]
  rfl

theorem blk1 : (iblk m c 1 t : Vec Ideal S1x64x3072 .f32) y = m ((c : Thread nD τ).loc main_arg1) (at' t y) := by
  unfold iblk
  rw [View.read_apply]
  show V m c main_arg1 _ = m (c.tc.loc main_arg1) _
  rw [V_main_arg1]
  rfl

theorem blk2 : (iblk m c 2 t : Vec Ideal S1x64x3072 .f32) y = m ((c : Thread nD τ).loc main_arg2) (at' t y) := by
  unfold iblk
  rw [View.read_apply]
  show V m c main_arg2 _ = m (c.tc.loc main_arg2) _
  rw [V_main_arg2]
  rfl

theorem le : 2048 ≤ 2048 := le_refl _

theorem blk3 : (iblk m c 3 t : Vec Ideal S64x3072 .f32) (ix2 (y 1) (y 2)) = top le (m ((c : Thread nD τ).loc main_arg3)) (at' t y) := by
  unfold iblk
  rw [View.read_apply]
  show V m c main_arg3 _ = m (c.tc.loc main_arg3) _
  rw [V_main_arg3]
  refine congrArg _ (ext2 _ _ ?_ ?_)
  · show win0_3.index t 0 * 64 + 1 * (y 1).val = win0_4.index t 1 * 64 + 1 * (y 1).val
    rw [(idx t).2.1]
  · show win0_3.index t 1 * 3072 + 1 * (y 2).val = win0_4.index t 2 * 3072 + 1 * (y 2).val
    rw [(idx t).2.2.1, (idx t).2.2.2]

omit t y in
/-- The arrays the launch leaves. -/
theorem final4 : (dats m 0 c).arrAt 4 cfg0.N = top le (m ((c : Thread nD τ).loc main_arg3)) := by
  refine (dats m 0 c).arrAt_eq_of_covers 4 _ (by decide +kernel) fun t hf y => ?_
  refine (?_ : _ = out0_4 (iblk m c 0 t) (iblk m c 1 t) (iblk m c 2 t) (iblk m c 3 t) y).trans ?_
  · blk_simp
    rw [after0_4]
  exact (out4_apply _ _ _ _ y).trans (blk3 m c t y)

omit t y in
theorem final5 : (dats m 0 c).arrAt 5 cfg0.N = changes le (m ((c : Thread nD τ).loc main_arg0)) (m ((c : Thread nD τ).loc main_arg1))
    (m ((c : Thread nD τ).loc main_arg2)) (m ((c : Thread nD τ).loc main_arg3)) := by
  refine (dats m 0 c).arrAt_eq_of_covers 5 _ (by decide +kernel) fun t hf y => ?_
  refine (?_ : _ = out0_5 (iblk m c 0 t) (iblk m c 1 t) (iblk m c 2 t) (iblk m c 3 t) y).trans ?_
  · blk_simp
    rw [after0_5]
  refine (out5_apply _ _ _ _ y).trans ?_
  rw [blk0, blk1, blk2, blk3]
  rfl

omit t y in
theorem final6 : (dats m 0 c).arrAt 6 cfg0.N = moms le (m ((c : Thread nD τ).loc main_arg1)) (m ((c : Thread nD τ).loc main_arg3)) := by
  refine (dats m 0 c).arrAt_eq_of_covers 6 _ (by decide +kernel) fun t hf y => ?_
  refine (?_ : _ = out0_6 (iblk m c 0 t) (iblk m c 1 t) (iblk m c 2 t) (iblk m c 3 t) y).trans ?_
  · blk_simp
    rw [after0_6]
  refine (out6_apply _ _ _ _ y).trans ?_
  rw [blk1, blk3]
  rfl

omit t y in
theorem final7 : (dats m 0 c).arrAt 7 cfg0.N = vels le (m ((c : Thread nD τ).loc main_arg2)) (m ((c : Thread nD τ).loc main_arg3)) := by
  refine (dats m 0 c).arrAt_eq_of_covers 7 _ (by decide +kernel) fun t hf y => ?_
  refine (?_ : _ = out0_7 (iblk m c 0 t) (iblk m c 1 t) (iblk m c 2 t) (iblk m c 3 t) y).trans ?_
  · blk_simp
    rw [after0_7]
  refine (out7_apply _ _ _ _ y).trans ?_
  rw [blk2, blk3]
  rfl

open Cert.StepCReferenceIdeal.Read

section
variable (w m v : S1x2048x3072.Idx → EReal) (g : S2048x3072.Idx → EReal)

/-- The reference's arrays. -/
theorem ref_g : val_main_v0 (F := Ideal) g = top le g := funext fun y => by
  rw [val_main_v0_apply]
  exact congrArg g (ext2 _ _ rfl rfl)

theorem ref_m : val_main_v5 (F := Ideal) m g = moms le m g := funext fun y => by
  rw [val_main_v5_apply, val_main_v2_apply, val_main_v1_apply, val_main_v4_apply, val_main_v3_apply, ref_g]
  rfl

theorem ref_v : val_main_v11 (F := Ideal) v g = vels le v g := funext fun y => by
  rw [val_main_v11_apply, val_main_v7_apply, val_main_v6_apply, val_main_v10_apply, val_main_v9_apply, val_main_v8_apply, ref_g]
  rfl

theorem ref_d : val_main_v24 (F := Ideal) w m v g = changes le w m v g := funext fun y => by
  rw [val_main_v24_apply, val_main_v23_apply, val_main_v22_apply, val_main_v21_apply, val_main_v20_apply, val_main_v19_apply, val_main_v18_apply,
    val_main_v17_apply, val_main_v16_apply, val_main_v15_apply, val_main_v14_apply, val_main_v13_apply, val_main_v12_apply, ref_m, ref_v]
  rfl
end

end Cert.Steps.StepC
-- ==== Proof.Steps.StepOut.lean ====
/- The step of the 1024 rows of the output weights: what the launch leaves, and that the reference leaves the same. -/
module

public import proofs.«01_k».proof.Proof.Steps.Rule
public import proofs.«01_k».proof.Proof.Gen.StepOutIdeal.Value
public import proofs.«01_k».proof.Proof.Gen.StepOutReferenceIdeal.Read
public import Idealize.ShloMosaic.Lib.Pipeline.ValueKit

@[expose] public section

set_option maxRecDepth 16384

noncomputable section

namespace Cert.Steps.StepOut

open Idealize.ShloMosaic Idealize.ShloMosaic.TcCoe Idealize.SL.Sem Cert.StepOutIdeal Cert.StepOutIdeal.Gen Cert.StepOutIdeal.Value Cert.Products Cert.Steps

section
variable (w m v : Vec Ideal S1x128x2048 .f32) (g : Vec Ideal S128x2048 .f32) (y : S1x128x2048.Idx)

/-- A grid point's four blocks, an index at a time. -/
theorem out4_apply : out0_4 w m v g y = g (ix2 (y 1) (y 2)) := by
  unfold out0_4
  rw [View.ld_unit_zero (S := S128x2048) zero2, canon4_eq]
  exact congrArg g (ext2 _ _ rfl rfl)

theorem out5_apply : out0_5 w m v g y = change (w y) (m y) (v y) (g (ix2 (y 1) (y 2))) := by
  unfold out0_5
  rw [View.ld_unit_zero (S := S128x2048) zero2, View.ld_unit_zero (S := S1x128x2048) zero3, View.ld_unit_zero (S := S1x128x2048) zero3,
    View.ld_unit_zero (S := S1x128x2048) zero3, canon5_eq]
  exact congrArg₂ (fun p q => change (w p) (m p) (v p) (g q)) (ext31 (ix5_0 y) y rfl rfl) (ext2 (ix5_1 y) (ix2 (y 1) (y 2)) rfl rfl)

theorem out6_apply : out0_6 w m v g y = mom (m y) (g (ix2 (y 1) (y 2))) := by
  unfold out0_6
  rw [View.ld_unit_zero (S := S128x2048) zero2, View.ld_unit_zero (S := S1x128x2048) zero3, canon6_eq]
  exact congrArg₂ (fun p q => mom (m p) (g q)) (ext31 (ix6_0 y) y rfl rfl) (ext2 (ix6_1 y) (ix2 (y 1) (y 2)) rfl rfl)

theorem out7_apply : out0_7 w m v g y = vel (v y) (g (ix2 (y 1) (y 2))) := by
  unfold out0_7
  rw [View.ld_unit_zero (S := S128x2048) zero2, View.ld_unit_zero (S := S1x128x2048) zero3, canon7_eq]
  exact congrArg₂ (fun p q => vel (v p) (g q)) (ext31 (ix7_0 y) y rfl rfl) (ext2 (ix7_1 y) (ix2 (y 1) (y 2)) rfl rfl)
end

theorem idx : ∀ t : Fin cfg0.N, win0_4.index t 0 = 0 ∧ win0_3.index t 0 = win0_4.index t 1 ∧ win0_3.index t 1 = 0 ∧ win0_4.index t 2 = 0 := by
  decide +kernel

variable (m : (ℓ : Loc nD τ sig) → Buf (Elt Ideal) ℓ) (c : Dev nD) (t : Fin cfg0.N) (y : S1x128x2048.Idx)

/-- The index of the arrays that a grid point's index is. -/
def at' : S1x1024x2048.Idx := ((cfg0.win 4).blk t).view.emb y

/-- The blocks a grid point reads. -/
theorem blk0 : (iblk m c 0 t : Vec Ideal S1x128x2048 .f32) y = m ((c : Thread nD τ).loc main_arg0) (at' t y) := by
  unfold iblk
  rw [View.read_apply]
  show V m c main_arg0 _ = m (c.tc.loc main_arg0) _
  rw [V_main_arg0]
  rfl

theorem blk1 : (iblk m c 1 t : Vec Ideal S1x128x2048 .f32) y = m ((c : Thread nD τ).loc main_arg1) (at' t y) := by
  unfold iblk
  rw [View.read_apply]
  show V m c main_arg1 _ = m (c.tc.loc main_arg1) _
  rw [V_main_arg1]
  rfl

theorem blk2 : (iblk m c 2 t : Vec Ideal S1x128x2048 .f32) y = m ((c : Thread nD τ).loc main_arg2) (at' t y) := by
  unfold iblk
  rw [View.read_apply]
  show V m c main_arg2 _ = m (c.tc.loc main_arg2) _
  rw [V_main_arg2]
  rfl

theorem le : 1024 ≤ 3072 := by decide

theorem blk3 : (iblk m c 3 t : Vec Ideal S128x2048 .f32) (ix2 (y 1) (y 2)) = top le (m ((c : Thread nD τ).loc main_arg3)) (at' t y) := by
  unfold iblk
  rw [View.read_apply]
  show V m c main_arg3 _ = m (c.tc.loc main_arg3) _
  rw [V_main_arg3]
  refine congrArg _ (ext2 _ _ ?_ ?_)
  · show win0_3.index t 0 * 128 + 1 * (y 1).val = win0_4.index t 1 * 128 + 1 * (y 1).val
    rw [(idx t).2.1]
  · show win0_3.index t 1 * 2048 + 1 * (y 2).val = win0_4.index t 2 * 2048 + 1 * (y 2).val
    rw [(idx t).2.2.1, (idx t).2.2.2]

omit t y in
/-- The arrays the launch leaves. -/
theorem final4 : (dats m 0 c).arrAt 4 cfg0.N = top le (m ((c : Thread nD τ).loc main_arg3)) := by
  refine (dats m 0 c).arrAt_eq_of_covers 4 _ (by decide +kernel) fun t hf y => ?_
  refine (?_ : _ = out0_4 (iblk m c 0 t) (iblk m c 1 t) (iblk m c 2 t) (iblk m c 3 t) y).trans ?_
  · blk_simp
    rw [after0_4]
  exact (out4_apply _ _ _ _ y).trans (blk3 m c t y)

omit t y in
theorem final5 : (dats m 0 c).arrAt 5 cfg0.N = changes le (m ((c : Thread nD τ).loc main_arg0)) (m ((c : Thread nD τ).loc main_arg1))
    (m ((c : Thread nD τ).loc main_arg2)) (m ((c : Thread nD τ).loc main_arg3)) := by
  refine (dats m 0 c).arrAt_eq_of_covers 5 _ (by decide +kernel) fun t hf y => ?_
  refine (?_ : _ = out0_5 (iblk m c 0 t) (iblk m c 1 t) (iblk m c 2 t) (iblk m c 3 t) y).trans ?_
  · blk_simp
    rw [after0_5]
  refine (out5_apply _ _ _ _ y).trans ?_
  rw [blk0, blk1, blk2, blk3]
  rfl

omit t y in
theorem final6 : (dats m 0 c).arrAt 6 cfg0.N = moms le (m ((c : Thread nD τ).loc main_arg1)) (m ((c : Thread nD τ).loc main_arg3)) := by
  refine (dats m 0 c).arrAt_eq_of_covers 6 _ (by decide +kernel) fun t hf y => ?_
  refine (?_ : _ = out0_6 (iblk m c 0 t) (iblk m c 1 t) (iblk m c 2 t) (iblk m c 3 t) y).trans ?_
  · blk_simp
    rw [after0_6]
  refine (out6_apply _ _ _ _ y).trans ?_
  rw [blk1, blk3]
  rfl

omit t y in
theorem final7 : (dats m 0 c).arrAt 7 cfg0.N = vels le (m ((c : Thread nD τ).loc main_arg2)) (m ((c : Thread nD τ).loc main_arg3)) := by
  refine (dats m 0 c).arrAt_eq_of_covers 7 _ (by decide +kernel) fun t hf y => ?_
  refine (?_ : _ = out0_7 (iblk m c 0 t) (iblk m c 1 t) (iblk m c 2 t) (iblk m c 3 t) y).trans ?_
  · blk_simp
    rw [after0_7]
  refine (out7_apply _ _ _ _ y).trans ?_
  rw [blk2, blk3]
  rfl

open Cert.StepOutReferenceIdeal.Read

section
variable (w m v : S1x1024x2048.Idx → EReal) (g : S3072x2048.Idx → EReal)

/-- The reference's arrays. -/
theorem ref_g : val_main_v1 (F := Ideal) g = top le g := funext fun y => by
  rw [val_main_v1_apply, val_main_v0_apply]
  exact congrArg g (ext2 _ _ rfl rfl)

theorem ref_m : val_main_v6 (F := Ideal) m g = moms le m g := funext fun y => by
  rw [val_main_v6_apply, val_main_v3_apply, val_main_v2_apply, val_main_v5_apply, val_main_v4_apply, ref_g]
  rfl

theorem ref_v : val_main_v12 (F := Ideal) v g = vels le v g := funext fun y => by
  rw [val_main_v12_apply, val_main_v8_apply, val_main_v7_apply, val_main_v11_apply, val_main_v10_apply, val_main_v9_apply, ref_g]
  rfl

theorem ref_d : val_main_v25 (F := Ideal) w m v g = changes le w m v g := funext fun y => by
  rw [val_main_v25_apply, val_main_v24_apply, val_main_v23_apply, val_main_v22_apply, val_main_v21_apply, val_main_v20_apply, val_main_v19_apply,
    val_main_v18_apply, val_main_v17_apply, val_main_v16_apply, val_main_v15_apply, val_main_v14_apply, val_main_v13_apply, ref_m, ref_v]
  rfl
end

end Cert.Steps.StepOut
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.ReferenceIdeal
public import proofs.«01_k».proof.Proof.Gen.OutArg
public import proofs.«01_k».proof.Proof.Gen.OutArg.Skeleton
public import proofs.«01_k».proof.Proof.Gen.OutArg.Launch
public import proofs.«01_k».proof.Proof.Gen.OutArg.Points
public import proofs.«01_k».proof.Proof.Gen.OutArg.Frame
public import proofs.«01_k».proof.Proof.Gen.OutArgIdeal
public import proofs.«01_k».proof.Proof.Gen.OutArgIdeal.Skeleton
public import proofs.«01_k».proof.Proof.Gen.OutArgIdeal.Launch
public import proofs.«01_k».proof.Proof.Gen.OutArgIdeal.Points
public import proofs.«01_k».proof.Proof.Gen.OutArgIdeal.Frame
public import proofs.«01_k».proof.Proof.Gen.OutArgIdeal.Value
public import proofs.«01_k».proof.Proof.Gen.OutArgReferenceIdeal
public import proofs.«01_k».proof.Proof.Gen.OutArgReferenceIdeal.Run
public import proofs.«01_k».proof.Proof.Gen.OutArgReferenceIdeal.Read
public import proofs.«01_k».proof.Proof.Gen.OutWeights
public import proofs.«01_k».proof.Proof.Gen.OutWeights.Skeleton
public import proofs.«01_k».proof.Proof.Gen.OutWeights.Launch
public import proofs.«01_k».proof.Proof.Gen.OutWeights.Points
public import proofs.«01_k».proof.Proof.Gen.OutWeights.Frame
public import proofs.«01_k».proof.Proof.Gen.OutWeightsIdeal
public import proofs.«01_k».proof.Proof.Gen.OutWeightsIdeal.Skeleton
public import proofs.«01_k».proof.Proof.Gen.OutWeightsIdeal.Launch
public import proofs.«01_k».proof.Proof.Gen.OutWeightsIdeal.Points
public import proofs.«01_k».proof.Proof.Gen.OutWeightsIdeal.Frame
public import proofs.«01_k».proof.Proof.Gen.OutWeightsIdeal.Value
public import proofs.«01_k».proof.Proof.Gen.OutWeightsReferenceIdeal
public import proofs.«01_k».proof.Proof.Gen.OutWeightsReferenceIdeal.Run
public import proofs.«01_k».proof.Proof.Gen.OutWeightsReferenceIdeal.Read
public import proofs.«01_k».proof.Proof.Gen.CrossArg
public import proofs.«01_k».proof.Proof.Gen.CrossArg.Skeleton
public import proofs.«01_k».proof.Proof.Gen.CrossArg.Launch
public import proofs.«01_k».proof.Proof.Gen.CrossArg.Points
public import proofs.«01_k».proof.Proof.Gen.CrossArg.Frame
public import proofs.«01_k».proof.Proof.Gen.CrossArgIdeal
public import proofs.«01_k».proof.Proof.Gen.CrossArgIdeal.Skeleton
public import proofs.«01_k».proof.Proof.Gen.CrossArgIdeal.Launch
public import proofs.«01_k».proof.Proof.Gen.CrossArgIdeal.Points
public import proofs.«01_k».proof.Proof.Gen.CrossArgIdeal.Frame
public import proofs.«01_k».proof.Proof.Gen.CrossArgIdeal.Value
public import proofs.«01_k».proof.Proof.Gen.CrossArgReferenceIdeal
public import proofs.«01_k».proof.Proof.Gen.CrossArgReferenceIdeal.Run
public import proofs.«01_k».proof.Proof.Gen.CrossArgReferenceIdeal.Read
public import proofs.«01_k».proof.Proof.Gen.CrossWeights
public import proofs.«01_k».proof.Proof.Gen.CrossWeights.Skeleton
public import proofs.«01_k».proof.Proof.Gen.CrossWeights.Launch
public import proofs.«01_k».proof.Proof.Gen.CrossWeights.Points
public import proofs.«01_k».proof.Proof.Gen.CrossWeights.Frame
public import proofs.«01_k».proof.Proof.Gen.CrossWeightsIdeal
public import proofs.«01_k».proof.Proof.Gen.CrossWeightsIdeal.Skeleton
public import proofs.«01_k».proof.Proof.Gen.CrossWeightsIdeal.Launch
public import proofs.«01_k».proof.Proof.Gen.CrossWeightsIdeal.Points
public import proofs.«01_k».proof.Proof.Gen.CrossWeightsIdeal.Frame
public import proofs.«01_k».proof.Proof.Gen.CrossWeightsIdeal.Value
public import proofs.«01_k».proof.Proof.Gen.CrossWeightsReferenceIdeal
public import proofs.«01_k».proof.Proof.Gen.CrossWeightsReferenceIdeal.Run
public import proofs.«01_k».proof.Proof.Gen.CrossWeightsReferenceIdeal.Read
public import proofs.«01_k».proof.Proof.Gen.InWeights
public import proofs.«01_k».proof.Proof.Gen.InWeights.Skeleton
public import proofs.«01_k».proof.Proof.Gen.InWeights.Launch
public import proofs.«01_k».proof.Proof.Gen.InWeights.Points
public import proofs.«01_k».proof.Proof.Gen.InWeights.Frame
public import proofs.«01_k».proof.Proof.Gen.InWeightsIdeal
public import proofs.«01_k».proof.Proof.Gen.InWeightsIdeal.Skeleton
public import proofs.«01_k».proof.Proof.Gen.InWeightsIdeal.Launch
public import proofs.«01_k».proof.Proof.Gen.InWeightsIdeal.Points
public import proofs.«01_k».proof.Proof.Gen.InWeightsIdeal.Frame
public import proofs.«01_k».proof.Proof.Gen.InWeightsIdeal.Value
public import proofs.«01_k».proof.Proof.Gen.InWeightsReferenceIdeal
public import proofs.«01_k».proof.Proof.Gen.InWeightsReferenceIdeal.Run
public import proofs.«01_k».proof.Proof.Gen.InWeightsReferenceIdeal.Read
public import proofs.«01_k».proof.Proof.Gen.InC
public import proofs.«01_k».proof.Proof.Gen.InC.Skeleton
public import proofs.«01_k».proof.Proof.Gen.InC.Launch
public import proofs.«01_k».proof.Proof.Gen.InC.Points
public import proofs.«01_k».proof.Proof.Gen.InC.Frame
public import proofs.«01_k».proof.Proof.Gen.InCIdeal
public import proofs.«01_k».proof.Proof.Gen.InCIdeal.Skeleton
public import proofs.«01_k».proof.Proof.Gen.InCIdeal.Launch
public import proofs.«01_k».proof.Proof.Gen.InCIdeal.Points
public import proofs.«01_k».proof.Proof.Gen.InCIdeal.Frame
public import proofs.«01_k».proof.Proof.Gen.InCIdeal.Value
public import proofs.«01_k».proof.Proof.Gen.InCReferenceIdeal
public import proofs.«01_k».proof.Proof.Gen.InCReferenceIdeal.Run
public import proofs.«01_k».proof.Proof.Gen.InCReferenceIdeal.Read
public import proofs.«01_k».proof.Proof.Gen.OutC
public import proofs.«01_k».proof.Proof.Gen.OutC.Skeleton
public import proofs.«01_k».proof.Proof.Gen.OutC.Launch
public import proofs.«01_k».proof.Proof.Gen.OutC.Points
public import proofs.«01_k».proof.Proof.Gen.OutC.Frame
public import proofs.«01_k».proof.Proof.Gen.OutCIdeal
public import proofs.«01_k».proof.Proof.Gen.OutCIdeal.Skeleton
public import proofs.«01_k».proof.Proof.Gen.OutCIdeal.Launch
public import proofs.«01_k».proof.Proof.Gen.OutCIdeal.Points
public import proofs.«01_k».proof.Proof.Gen.OutCIdeal.Frame
public import proofs.«01_k».proof.Proof.Gen.OutCIdeal.Value
public import proofs.«01_k».proof.Proof.Gen.OutCReferenceIdeal
public import proofs.«01_k».proof.Proof.Gen.OutCReferenceIdeal.Run
public import proofs.«01_k».proof.Proof.Gen.OutCReferenceIdeal.Read
public import proofs.«01_k».proof.Proof.Gen.CrossQ
public import proofs.«01_k».proof.Proof.Gen.CrossQ.Skeleton
public import proofs.«01_k».proof.Proof.Gen.CrossQ.Launch
public import proofs.«01_k».proof.Proof.Gen.CrossQ.Points
public import proofs.«01_k».proof.Proof.Gen.CrossQ.Frame
public import proofs.«01_k».proof.Proof.Gen.CrossQIdeal
public import proofs.«01_k».proof.Proof.Gen.CrossQIdeal.Skeleton
public import proofs.«01_k».proof.Proof.Gen.CrossQIdeal.Launch
public import proofs.«01_k».proof.Proof.Gen.CrossQIdeal.Points
public import proofs.«01_k».proof.Proof.Gen.CrossQIdeal.Frame
public import proofs.«01_k».proof.Proof.Gen.CrossQIdeal.Value
public import proofs.«01_k».proof.Proof.Gen.CrossQReferenceIdeal
public import proofs.«01_k».proof.Proof.Gen.CrossQReferenceIdeal.Run
public import proofs.«01_k».proof.Proof.Gen.CrossQReferenceIdeal.Read
public import proofs.«01_k».proof.Proof.Gen.CrossO
public import proofs.«01_k».proof.Proof.Gen.CrossO.Skeleton
public import proofs.«01_k».proof.Proof.Gen.CrossO.Launch
public import proofs.«01_k».proof.Proof.Gen.CrossO.Points
public import proofs.«01_k».proof.Proof.Gen.CrossO.Frame
public import proofs.«01_k».proof.Proof.Gen.CrossOIdeal
public import proofs.«01_k».proof.Proof.Gen.CrossOIdeal.Skeleton
public import proofs.«01_k».proof.Proof.Gen.CrossOIdeal.Launch
public import proofs.«01_k».proof.Proof.Gen.CrossOIdeal.Points
public import proofs.«01_k».proof.Proof.Gen.CrossOIdeal.Frame
public import proofs.«01_k».proof.Proof.Gen.CrossOIdeal.Value
public import proofs.«01_k».proof.Proof.Gen.CrossOReferenceIdeal
public import proofs.«01_k».proof.Proof.Gen.CrossOReferenceIdeal.Run
public import proofs.«01_k».proof.Proof.Gen.CrossOReferenceIdeal.Read
public import proofs.«01_k».proof.Proof.Gen.Cross
public import proofs.«01_k».proof.Proof.Gen.Cross.Skeleton
public import proofs.«01_k».proof.Proof.Gen.Cross.Launch
public import proofs.«01_k».proof.Proof.Gen.Cross.Points
public import proofs.«01_k».proof.Proof.Gen.Cross.Frame
public import proofs.«01_k».proof.Proof.Gen.CrossIdeal
public import proofs.«01_k».proof.Proof.Gen.CrossIdeal.Skeleton
public import proofs.«01_k».proof.Proof.Gen.CrossIdeal.Launch
public import proofs.«01_k».proof.Proof.Gen.CrossIdeal.Points
public import proofs.«01_k».proof.Proof.Gen.CrossIdeal.Frame
public import proofs.«01_k».proof.Proof.Gen.CrossIdeal.Value
public import proofs.«01_k».proof.Proof.Gen.CrossReferenceIdeal
public import proofs.«01_k».proof.Proof.Gen.CrossReferenceIdeal.Run
public import proofs.«01_k».proof.Proof.Gen.CrossReferenceIdeal.Read
public import proofs.«01_k».proof.Proof.Gen.CrossGrad
public import proofs.«01_k».proof.Proof.Gen.CrossGrad.Skeleton
public import proofs.«01_k».proof.Proof.Gen.CrossGrad.Launch
public import proofs.«01_k».proof.Proof.Gen.CrossGrad.Points
public import proofs.«01_k».proof.Proof.Gen.CrossGrad.Frame
public import proofs.«01_k».proof.Proof.Gen.CrossGradIdeal
public import proofs.«01_k».proof.Proof.Gen.CrossGradIdeal.Skeleton
public import proofs.«01_k».proof.Proof.Gen.CrossGradIdeal.Launch
public import proofs.«01_k».proof.Proof.Gen.CrossGradIdeal.Points
public import proofs.«01_k».proof.Proof.Gen.CrossGradIdeal.Frame
public import proofs.«01_k».proof.Proof.Gen.CrossGradIdeal.Value
public import proofs.«01_k».proof.Proof.Gen.CrossGradReferenceIdeal
public import proofs.«01_k».proof.Proof.Gen.CrossGradReferenceIdeal.Run
public import proofs.«01_k».proof.Proof.Gen.CrossGradReferenceIdeal.Read
public import proofs.«01_k».proof.Proof.Gen.MemKeys
public import proofs.«01_k».proof.Proof.Gen.MemKeys.Skeleton
public import proofs.«01_k».proof.Proof.Gen.MemKeys.Launch
public import proofs.«01_k».proof.Proof.Gen.MemKeys.Points
public import proofs.«01_k».proof.Proof.Gen.MemKeys.Frame
public import proofs.«01_k».proof.Proof.Gen.MemKeysIdeal
public import proofs.«01_k».proof.Proof.Gen.MemKeysIdeal.Skeleton
public import proofs.«01_k».proof.Proof.Gen.MemKeysIdeal.Launch
public import proofs.«01_k».proof.Proof.Gen.MemKeysIdeal.Points
public import proofs.«01_k».proof.Proof.Gen.MemKeysIdeal.Frame
public import proofs.«01_k».proof.Proof.Gen.MemKeysIdeal.Value
public import proofs.«01_k».proof.Proof.Gen.MemKeysReferenceIdeal
public import proofs.«01_k».proof.Proof.Gen.MemKeysReferenceIdeal.Run
public import proofs.«01_k».proof.Proof.Gen.MemKeysReferenceIdeal.Read
public import proofs.«01_k».proof.Proof.Gen.MemArg
public import proofs.«01_k».proof.Proof.Gen.MemArg.Skeleton
public import proofs.«01_k».proof.Proof.Gen.MemArg.Launch
public import proofs.«01_k».proof.Proof.Gen.MemArg.Points
public import proofs.«01_k».proof.Proof.Gen.MemArg.Frame
public import proofs.«01_k».proof.Proof.Gen.MemArgIdeal
public import proofs.«01_k».proof.Proof.Gen.MemArgIdeal.Skeleton
public import proofs.«01_k».proof.Proof.Gen.MemArgIdeal.Launch
public import proofs.«01_k».proof.Proof.Gen.MemArgIdeal.Points
public import proofs.«01_k».proof.Proof.Gen.MemArgIdeal.Frame
public import proofs.«01_k».proof.Proof.Gen.MemArgIdeal.Value
public import proofs.«01_k».proof.Proof.Gen.MemArgReferenceIdeal
public import proofs.«01_k».proof.Proof.Gen.MemArgReferenceIdeal.Run
public import proofs.«01_k».proof.Proof.Gen.MemArgReferenceIdeal.Read
public import proofs.«01_k».proof.Proof.Gen.MemWeights
public import proofs.«01_k».proof.Proof.Gen.MemWeights.Skeleton
public import proofs.«01_k».proof.Proof.Gen.MemWeights.Launch
public import proofs.«01_k».proof.Proof.Gen.MemWeights.Points
public import proofs.«01_k».proof.Proof.Gen.MemWeights.Frame
public import proofs.«01_k».proof.Proof.Gen.MemWeightsIdeal
public import proofs.«01_k».proof.Proof.Gen.MemWeightsIdeal.Skeleton
public import proofs.«01_k».proof.Proof.Gen.MemWeightsIdeal.Launch
public import proofs.«01_k».proof.Proof.Gen.MemWeightsIdeal.Points
public import proofs.«01_k».proof.Proof.Gen.MemWeightsIdeal.Frame
public import proofs.«01_k».proof.Proof.Gen.MemWeightsIdeal.Value
public import proofs.«01_k».proof.Proof.Gen.MemWeightsReferenceIdeal
public import proofs.«01_k».proof.Proof.Gen.MemWeightsReferenceIdeal.Run
public import proofs.«01_k».proof.Proof.Gen.MemWeightsReferenceIdeal.Read
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.Norm.Frame
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.NormIdeal.Value
public import proofs.«01_k».proof.Proof.Gen.NormReferenceIdeal
public import proofs.«01_k».proof.Proof.Gen.NormReferenceIdeal.Run
public import proofs.«01_k».proof.Proof.Gen.NormReferenceIdeal.Read
public import proofs.«01_k».proof.Proof.Gen.MemNorm
public import proofs.«01_k».proof.Proof.Gen.MemNorm.Skeleton
public import proofs.«01_k».proof.Proof.Gen.MemNorm.Launch
public import proofs.«01_k».proof.Proof.Gen.MemNorm.Points
public import proofs.«01_k».proof.Proof.Gen.MemNorm.Frame
public import proofs.«01_k».proof.Proof.Gen.MemNormIdeal
public import proofs.«01_k».proof.Proof.Gen.MemNormIdeal.Skeleton
public import proofs.«01_k».proof.Proof.Gen.MemNormIdeal.Launch
public import proofs.«01_k».proof.Proof.Gen.MemNormIdeal.Points
public import proofs.«01_k».proof.Proof.Gen.MemNormIdeal.Frame
public import proofs.«01_k».proof.Proof.Gen.MemNormIdeal.Value
public import proofs.«01_k».proof.Proof.Gen.MemNormReferenceIdeal
public import proofs.«01_k».proof.Proof.Gen.MemNormReferenceIdeal.Run
public import proofs.«01_k».proof.Proof.Gen.MemNormReferenceIdeal.Read
public import proofs.«01_k».proof.Proof.Gen.NormGrad
public import proofs.«01_k».proof.Proof.Gen.NormGrad.Skeleton
public import proofs.«01_k».proof.Proof.Gen.NormGrad.Launch
public import proofs.«01_k».proof.Proof.Gen.NormGrad.Points
public import proofs.«01_k».proof.Proof.Gen.NormGrad.Frame
public import proofs.«01_k».proof.Proof.Gen.NormGradIdeal
public import proofs.«01_k».proof.Proof.Gen.NormGradIdeal.Skeleton
public import proofs.«01_k».proof.Proof.Gen.NormGradIdeal.Launch
public import proofs.«01_k».proof.Proof.Gen.NormGradIdeal.Points
public import proofs.«01_k».proof.Proof.Gen.NormGradIdeal.Frame
public import proofs.«01_k».proof.Proof.Gen.NormGradIdeal.Value
public import proofs.«01_k».proof.Proof.Gen.NormGradReferenceIdeal
public import proofs.«01_k».proof.Proof.Gen.NormGradReferenceIdeal.Run
public import proofs.«01_k».proof.Proof.Gen.NormGradReferenceIdeal.Read
public import proofs.«01_k».proof.Proof.Gen.MemNormGrad
public import proofs.«01_k».proof.Proof.Gen.MemNormGrad.Skeleton
public import proofs.«01_k».proof.Proof.Gen.MemNormGrad.Launch
public import proofs.«01_k».proof.Proof.Gen.MemNormGrad.Points
public import proofs.«01_k».proof.Proof.Gen.MemNormGrad.Frame
public import proofs.«01_k».proof.Proof.Gen.MemNormGradIdeal
public import proofs.«01_k».proof.Proof.Gen.MemNormGradIdeal.Skeleton
public import proofs.«01_k».proof.Proof.Gen.MemNormGradIdeal.Launch
public import proofs.«01_k».proof.Proof.Gen.MemNormGradIdeal.Points
public import proofs.«01_k».proof.Proof.Gen.MemNormGradIdeal.Frame
public import proofs.«01_k».proof.Proof.Gen.MemNormGradIdeal.Value
public import proofs.«01_k».proof.Proof.Gen.MemNormGradReferenceIdeal
public import proofs.«01_k».proof.Proof.Gen.MemNormGradReferenceIdeal.Run
public import proofs.«01_k».proof.Proof.Gen.MemNormGradReferenceIdeal.Read
public import proofs.«01_k».proof.Proof.Gen.GateFwd
public import proofs.«01_k».proof.Proof.Gen.GateFwd.Skeleton
public import proofs.«01_k».proof.Proof.Gen.GateFwd.Launch
public import proofs.«01_k».proof.Proof.Gen.GateFwd.Points
public import proofs.«01_k».proof.Proof.Gen.GateFwd.Frame
public import proofs.«01_k».proof.Proof.Gen.GateFwdIdeal
public import proofs.«01_k».proof.Proof.Gen.GateFwdIdeal.Skeleton
public import proofs.«01_k».proof.Proof.Gen.GateFwdIdeal.Launch
public import proofs.«01_k».proof.Proof.Gen.GateFwdIdeal.Points
public import proofs.«01_k».proof.Proof.Gen.GateFwdIdeal.Frame
public import proofs.«01_k».proof.Proof.Gen.GateFwdIdeal.Value
public import proofs.«01_k».proof.Proof.Gen.GateFwdReferenceIdeal
public import proofs.«01_k».proof.Proof.Gen.GateFwdReferenceIdeal.Run
public import proofs.«01_k».proof.Proof.Gen.GateFwdReferenceIdeal.Read
public import proofs.«01_k».proof.Proof.Gen.Loss
public import proofs.«01_k».proof.Proof.Gen.Loss.Skeleton
public import proofs.«01_k».proof.Proof.Gen.Loss.Launch
public import proofs.«01_k».proof.Proof.Gen.Loss.Points
public import proofs.«01_k».proof.Proof.Gen.Loss.Frame
public import proofs.«01_k».proof.Proof.Gen.LossIdeal
public import proofs.«01_k».proof.Proof.Gen.LossIdeal.Skeleton
public import proofs.«01_k».proof.Proof.Gen.LossIdeal.Launch
public import proofs.«01_k».proof.Proof.Gen.LossIdeal.Points
public import proofs.«01_k».proof.Proof.Gen.LossIdeal.Frame
public import proofs.«01_k».proof.Proof.Gen.LossIdeal.Value
public import proofs.«01_k».proof.Proof.Gen.LossReferenceIdeal
public import proofs.«01_k».proof.Proof.Gen.LossReferenceIdeal.Run
public import proofs.«01_k».proof.Proof.Gen.LossReferenceIdeal.Read
public import proofs.«01_k».proof.Proof.Gen.StepAB
public import proofs.«01_k».proof.Proof.Gen.StepAB.Skeleton
public import proofs.«01_k».proof.Proof.Gen.StepAB.Launch
public import proofs.«01_k».proof.Proof.Gen.StepAB.Points
public import proofs.«01_k».proof.Proof.Gen.StepAB.Frame
public import proofs.«01_k».proof.Proof.Gen.StepABIdeal
public import proofs.«01_k».proof.Proof.Gen.StepABIdeal.Skeleton
public import proofs.«01_k».proof.Proof.Gen.StepABIdeal.Launch
public import proofs.«01_k».proof.Proof.Gen.StepABIdeal.Points
public import proofs.«01_k».proof.Proof.Gen.StepABIdeal.Frame
public import proofs.«01_k».proof.Proof.Gen.StepABIdeal.Value
public import proofs.«01_k».proof.Proof.Gen.StepABReferenceIdeal
public import proofs.«01_k».proof.Proof.Gen.StepABReferenceIdeal.Run
public import proofs.«01_k».proof.Proof.Gen.StepABReferenceIdeal.Read
public import proofs.«01_k».proof.Proof.Gen.StepC
public import proofs.«01_k».proof.Proof.Gen.StepC.Skeleton
public import proofs.«01_k».proof.Proof.Gen.StepC.Launch
public import proofs.«01_k».proof.Proof.Gen.StepC.Points
public import proofs.«01_k».proof.Proof.Gen.StepC.Frame
public import proofs.«01_k».proof.Proof.Gen.StepCIdeal
public import proofs.«01_k».proof.Proof.Gen.StepCIdeal.Skeleton
public import proofs.«01_k».proof.Proof.Gen.StepCIdeal.Launch
public import proofs.«01_k».proof.Proof.Gen.StepCIdeal.Points
public import proofs.«01_k».proof.Proof.Gen.StepCIdeal.Frame
public import proofs.«01_k».proof.Proof.Gen.StepCIdeal.Value
public import proofs.«01_k».proof.Proof.Gen.StepCReferenceIdeal
public import proofs.«01_k».proof.Proof.Gen.StepCReferenceIdeal.Run
public import proofs.«01_k».proof.Proof.Gen.StepCReferenceIdeal.Read
public import proofs.«01_k».proof.Proof.Gen.StepOut
public import proofs.«01_k».proof.Proof.Gen.StepOut.Skeleton
public import proofs.«01_k».proof.Proof.Gen.StepOut.Launch
public import proofs.«01_k».proof.Proof.Gen.StepOut.Points
public import proofs.«01_k».proof.Proof.Gen.StepOut.Frame
public import proofs.«01_k».proof.Proof.Gen.StepOutIdeal
public import proofs.«01_k».proof.Proof.Gen.StepOutIdeal.Skeleton
public import proofs.«01_k».proof.Proof.Gen.StepOutIdeal.Launch
public import proofs.«01_k».proof.Proof.Gen.StepOutIdeal.Points
public import proofs.«01_k».proof.Proof.Gen.StepOutIdeal.Frame
public import proofs.«01_k».proof.Proof.Gen.StepOutIdeal.Value
public import proofs.«01_k».proof.Proof.Gen.StepOutReferenceIdeal
public import proofs.«01_k».proof.Proof.Gen.StepOutReferenceIdeal.Run
public import proofs.«01_k».proof.Proof.Gen.StepOutReferenceIdeal.Read
public import proofs.«01_k».proof.Proof.Match
public import proofs.«01_k».proof.Proof.Products.OutArg
public import proofs.«01_k».proof.Proof.Products.OutWeights
public import proofs.«01_k».proof.Proof.Products.CrossArg
public import proofs.«01_k».proof.Proof.Products.CrossWeights
public import proofs.«01_k».proof.Proof.Products.InWeights
public import proofs.«01_k».proof.Proof.Products.InC
public import proofs.«01_k».proof.Proof.Products.OutC
public import proofs.«01_k».proof.Proof.Products.CrossQ
public import proofs.«01_k».proof.Proof.Products.CrossO
public import proofs.«01_k».proof.Proof.Cross.GradRef
public import proofs.«01_k».proof.Proof.Products.MemKeys
public import proofs.«01_k».proof.Proof.Products.MemArg
public import proofs.«01_k».proof.Proof.Products.MemWeights
public import proofs.«01_k».proof.Proof.Norms.Norm
public import proofs.«01_k».proof.Proof.Norms.MemNorm
public import proofs.«01_k».proof.Proof.Norms.NormGrad
public import proofs.«01_k».proof.Proof.Norms.MemNormGrad
public import proofs.«01_k».proof.Proof.GateFwd
public import proofs.«01_k».proof.Proof.Norms.Loss
public import proofs.«01_k».proof.Proof.Steps.StepAB
public import proofs.«01_k».proof.Proof.Steps.StepC
public import proofs.«01_k».proof.Proof.Steps.StepOut
public import Idealize.ShloMosaic.Adequacy
public import Idealize.ShloMosaic.Init

@[expose] public section

noncomputable section

namespace Cert.Proof

open Idealize.ShloMosaic Idealize.SL.Sem Cert.Sgu

/-- The side conditions the precondition's operations take. -/
theorem preFacts : Cert.Pre_finite.Facts := by
  constructor <;> first | decide | exact fun i => i.elim0

theorem preCrossFacts : Cert.Pre_finite_cross.Facts := by
  constructor <;> first | decide | exact fun i => i.elim0

theorem preCrossGradFacts : Cert.Pre_finite_cross_grad.Facts := by
  constructor <;> first | decide | exact fun i => i.elim0

attribute [local instance] preFacts preCrossFacts preCrossGradFacts

/-- The precondition, of a device's arrays. -/
theorem real (m : (ℓ : Loc Cert.KernelIdeal.nD Cert.KernelIdeal.τ Cert.KernelIdeal.sig) → Buf (Elt Ideal) ℓ)
    (hpre : Cert.Pre_KernelIdeal_finite m) (c : Dev Cert.KernelIdeal.nD) : AllReal (inp m c) :=
  allReal _ _ _ _ _ _ (hpre c).1 (hpre c).2.1 (hpre c).2.2.1 (hpre c).2.2.2.1 (hpre c).2.2.2.2.1 (hpre c).2.2.2.2.2

set_option maxRecDepth 65536 in
open Cert.ReferenceIdeal.Read in
/-- The kernel's five arrays and the reference's agree at the ideal values, where the arguments are finite. -/
theorem algebraic : Cert.algebraic_KernelIdeal_ReferenceIdeal_pre_finite := by
  pair_intro
  · run_from Cert.KernelIdeal.Value.run_blocks m g
  · refine (θ_run Cert.ReferenceIdeal.defs _ _).mono (fun r h c => ?_) (Cert.ReferenceIdeal.Value.run m' g')
    obtain ⟨e0, e1, e2, e3, e4, e5⟩ := hagree c
    have hr := real m hpre c
    obtain ⟨h0, h1, h2, h3, h4, h5⟩ := h c
    refine ⟨(h0.trans (val_main_v107_eq m' c)).trans ?_, (h1.trans (val_main_v71_eq m' c)).trans ?_, (h2.trans (val_main_v108_eq _ _)).trans ?_,
      (h3.trans (val_main_v109_eq m' c)).trans ?_, (h4.trans (val_main_v110_eq _ _ _)).trans ?_, h5⟩
    · rw [e0, e1, e2, e3, e4, e5, final8]
      exact ref8 _ _ _ _ _ _ hr
    · rw [e0, e1, e2, e3, final9]
      exact ref9 _ _ _ _ _ _ hr
    · rw [e0, e1, final10]
      exact ref10 _ _ _ _ _ _ hr
    · rw [e0, e1, e4, final11]
      exact ref11 _ _ _ _ _ _ hr
    · rw [e0, e1, e4, final12]
      exact ref12 _ _ _ _ _ _ hr

/-- The reference leaves its arguments unchanged; it declares no semaphore. -/
theorem refFrame : Cert.quiescent_ReferenceIdeal := fun m ρ _ =>
  (θ_run Cert.ReferenceIdeal.defs _ _).mono (fun r h => ⟨fun c => (h c).2.2.2.2.2, Idealize.ShloMosaic.sem_eq_zero_of_no_sems (by decide) r.2⟩)
    (Cert.ReferenceIdeal.Value.run m ρ)

set_option maxRecDepth 65536 in
/-- The gradient of the output product, in its argument: the kernel's array is the reference's. -/
theorem algebraicOutArg : Cert.algebraic_OutArgIdeal_OutArgReferenceIdeal := by
  pair_intro
  · run_from Cert.OutArgIdeal.Value.run_blocks m g
  · refine (θ_run Cert.OutArgReferenceIdeal.defs _ _).mono (fun r h c => ?_) (Cert.OutArgReferenceIdeal.Value.run m' g')
    obtain ⟨e0, e1⟩ := hagree c
    refine ⟨((h c).1.trans (Cert.OutArgReferenceIdeal.Read.val_main_v5_eq _ _)).trans ?_, (h c).2⟩
    rw [e0, e1, Products.OutArg.final]
    exact Products.OutArg.ref_eq _ _

/-- Its reference leaves its arguments unchanged; it declares no semaphore. -/
theorem refFrameOutArg : Cert.quiescent_OutArgReferenceIdeal := fun m ρ _ =>
  (θ_run Cert.OutArgReferenceIdeal.defs _ _).mono (fun r h => ⟨fun c => (h c).2, Idealize.ShloMosaic.sem_eq_zero_of_no_sems (by decide) r.2⟩)
    (Cert.OutArgReferenceIdeal.Value.run m ρ)

set_option maxRecDepth 65536 in
/-- The gradient of the output product, in its weights: the kernel's array is the reference's. -/
theorem algebraicOutWeights : Cert.algebraic_OutWeightsIdeal_OutWeightsReferenceIdeal := by
  pair_intro
  · run_from Cert.OutWeightsIdeal.Value.run_blocks m g
  · refine (θ_run Cert.OutWeightsReferenceIdeal.defs _ _).mono (fun r h c => ?_) (Cert.OutWeightsReferenceIdeal.Value.run m' g')
    obtain ⟨e0, e1⟩ := hagree c
    refine ⟨((h c).1.trans (Cert.OutWeightsReferenceIdeal.Read.val_main_v6_eq _ _)).trans ?_, (h c).2⟩
    rw [e0, e1, Products.OutWeights.final]
    exact Products.OutWeights.ref_eq _ _

/-- Its reference leaves its arguments unchanged; it declares no semaphore. -/
theorem refFrameOutWeights : Cert.quiescent_OutWeightsReferenceIdeal := fun m ρ _ =>
  (θ_run Cert.OutWeightsReferenceIdeal.defs _ _).mono (fun r h => ⟨fun c => (h c).2, Idealize.ShloMosaic.sem_eq_zero_of_no_sems (by decide) r.2⟩)
    (Cert.OutWeightsReferenceIdeal.Value.run m ρ)

set_option maxRecDepth 65536 in
/-- The gradient of a projection of the cross-attention, in its argument: the kernel's array is the reference's. -/
theorem algebraicCrossArg : Cert.algebraic_CrossArgIdeal_CrossArgReferenceIdeal := by
  pair_intro
  · run_from Cert.CrossArgIdeal.Value.run_blocks m g
  · refine (θ_run Cert.CrossArgReferenceIdeal.defs _ _).mono (fun r h c => ?_) (Cert.CrossArgReferenceIdeal.Value.run m' g')
    obtain ⟨e0, e1⟩ := hagree c
    refine ⟨((h c).1.trans (Cert.CrossArgReferenceIdeal.Read.val_main_v5_eq _ _)).trans ?_, (h c).2⟩
    rw [e0, e1, Products.CrossArg.final]
    exact Products.CrossArg.ref_eq _ _

/-- Its reference leaves its arguments unchanged; it declares no semaphore. -/
theorem refFrameCrossArg : Cert.quiescent_CrossArgReferenceIdeal := fun m ρ _ =>
  (θ_run Cert.CrossArgReferenceIdeal.defs _ _).mono (fun r h => ⟨fun c => (h c).2, Idealize.ShloMosaic.sem_eq_zero_of_no_sems (by decide) r.2⟩)
    (Cert.CrossArgReferenceIdeal.Value.run m ρ)

set_option maxRecDepth 65536 in
/-- The gradient of a projection of the cross-attention, in its weights: the kernel's array is the reference's. -/
theorem algebraicCrossWeights : Cert.algebraic_CrossWeightsIdeal_CrossWeightsReferenceIdeal := by
  pair_intro
  · run_from Cert.CrossWeightsIdeal.Value.run_blocks m g
  · refine (θ_run Cert.CrossWeightsReferenceIdeal.defs _ _).mono (fun r h c => ?_) (Cert.CrossWeightsReferenceIdeal.Value.run m' g')
    obtain ⟨e0, e1⟩ := hagree c
    refine ⟨((h c).1.trans (Cert.CrossWeightsReferenceIdeal.Read.val_main_v6_eq _ _)).trans ?_, (h c).2⟩
    rw [e0, e1, Products.CrossWeights.final]
    exact Products.CrossWeights.ref_eq _ _

/-- Its reference leaves its arguments unchanged; it declares no semaphore. -/
theorem refFrameCrossWeights : Cert.quiescent_CrossWeightsReferenceIdeal := fun m ρ _ =>
  (θ_run Cert.CrossWeightsReferenceIdeal.defs _ _).mono (fun r h => ⟨fun c => (h c).2, Idealize.ShloMosaic.sem_eq_zero_of_no_sems (by decide) r.2⟩)
    (Cert.CrossWeightsReferenceIdeal.Value.run m ρ)

set_option maxRecDepth 65536 in
/-- The gradient of the input product, in its weights: the kernel's array is the reference's. -/
theorem algebraicInWeights : Cert.algebraic_InWeightsIdeal_InWeightsReferenceIdeal := by
  pair_intro
  · run_from Cert.InWeightsIdeal.Value.run_blocks m g
  · refine (θ_run Cert.InWeightsReferenceIdeal.defs _ _).mono (fun r h c => ?_) (Cert.InWeightsReferenceIdeal.Value.run m' g')
    obtain ⟨e0, e1⟩ := hagree c
    refine ⟨((h c).1.trans (Cert.InWeightsReferenceIdeal.Read.val_main_v8_eq _ _)).trans ?_, (h c).2⟩
    rw [e0, e1, Products.InWeights.final]
    exact Products.InWeights.ref_eq _ _

/-- Its reference leaves its arguments unchanged; it declares no semaphore. -/
theorem refFrameInWeights : Cert.quiescent_InWeightsReferenceIdeal := fun m ρ _ =>
  (θ_run Cert.InWeightsReferenceIdeal.defs _ _).mono (fun r h => ⟨fun c => (h c).2, Idealize.ShloMosaic.sem_eq_zero_of_no_sems (by decide) r.2⟩)
    (Cert.InWeightsReferenceIdeal.Value.run m ρ)

set_option maxRecDepth 65536 in
/-- The input product: the kernel's array is the reference's. -/
theorem algebraicInC : Cert.algebraic_InCIdeal_InCReferenceIdeal := by
  pair_intro
  · run_from Cert.InCIdeal.Value.run_blocks m g
  · refine (θ_run Cert.InCReferenceIdeal.defs _ _).mono (fun r h c => ?_) (Cert.InCReferenceIdeal.Value.run m' g')
    obtain ⟨e0, e1⟩ := hagree c
    refine ⟨((h c).1.trans (Cert.InCReferenceIdeal.Read.val_main_v5_eq _ _)).trans ?_, (h c).2⟩
    rw [e0, e1, Products.InC.final]
    exact Products.InC.ref_eq _ _

/-- Its reference leaves its arguments unchanged; it declares no semaphore. -/
theorem refFrameInC : Cert.quiescent_InCReferenceIdeal := fun m ρ _ =>
  (θ_run Cert.InCReferenceIdeal.defs _ _).mono (fun r h => ⟨fun c => (h c).2, Idealize.ShloMosaic.sem_eq_zero_of_no_sems (by decide) r.2⟩)
    (Cert.InCReferenceIdeal.Value.run m ρ)

set_option maxRecDepth 65536 in
/-- The output product: the kernel's array is the reference's. -/
theorem algebraicOutC : Cert.algebraic_OutCIdeal_OutCReferenceIdeal := by
  pair_intro
  · run_from Cert.OutCIdeal.Value.run_blocks m g
  · refine (θ_run Cert.OutCReferenceIdeal.defs _ _).mono (fun r h c => ?_) (Cert.OutCReferenceIdeal.Value.run m' g')
    obtain ⟨e0, e1, e2⟩ := hagree c
    refine ⟨((h c).1.trans (Cert.OutCReferenceIdeal.Read.val_main_v3_eq _ _ _)).trans ?_, (h c).2⟩
    rw [e0, e1, e2, Products.OutC.final]
    exact Products.OutC.ref_eq _ _ _

/-- Its reference leaves its arguments unchanged; it declares no semaphore. -/
theorem refFrameOutC : Cert.quiescent_OutCReferenceIdeal := fun m ρ _ =>
  (θ_run Cert.OutCReferenceIdeal.defs _ _).mono (fun r h => ⟨fun c => (h c).2, Idealize.ShloMosaic.sem_eq_zero_of_no_sems (by decide) r.2⟩)
    (Cert.OutCReferenceIdeal.Value.run m ρ)

set_option maxRecDepth 65536 in
/-- The projection of the cross-attention's queries: the kernel's array is the reference's. -/
theorem algebraicCrossQ : Cert.algebraic_CrossQIdeal_CrossQReferenceIdeal := by
  pair_intro
  · run_from Cert.CrossQIdeal.Value.run_blocks m g
  · refine (θ_run Cert.CrossQReferenceIdeal.defs _ _).mono (fun r h c => ?_) (Cert.CrossQReferenceIdeal.Value.run m' g')
    obtain ⟨e0, e1⟩ := hagree c
    refine ⟨((h c).1.trans (Cert.CrossQReferenceIdeal.Read.val_main_v3_eq _ _)).trans ?_, (h c).2⟩
    rw [e0, e1, Products.CrossQ.final]
    exact Products.CrossQ.ref_eq _ _

/-- Its reference leaves its arguments unchanged; it declares no semaphore. -/
theorem refFrameCrossQ : Cert.quiescent_CrossQReferenceIdeal := fun m ρ _ =>
  (θ_run Cert.CrossQReferenceIdeal.defs _ _).mono (fun r h => ⟨fun c => (h c).2, Idealize.ShloMosaic.sem_eq_zero_of_no_sems (by decide) r.2⟩)
    (Cert.CrossQReferenceIdeal.Value.run m ρ)

set_option maxRecDepth 65536 in
/-- The projection of the cross-attention's outputs: the kernel's array is the reference's. -/
theorem algebraicCrossO : Cert.algebraic_CrossOIdeal_CrossOReferenceIdeal := by
  pair_intro
  · run_from Cert.CrossOIdeal.Value.run_blocks m g
  · refine (θ_run Cert.CrossOReferenceIdeal.defs _ _).mono (fun r h c => ?_) (Cert.CrossOReferenceIdeal.Value.run m' g')
    obtain ⟨e0, e1, e2⟩ := hagree c
    refine ⟨((h c).1.trans (Cert.CrossOReferenceIdeal.Read.val_main_v3_eq _ _ _)).trans ?_, (h c).2⟩
    rw [e0, e1, e2, Products.CrossO.final]
    exact Products.CrossO.ref_eq _ _ _

/-- Its reference leaves its arguments unchanged; it declares no semaphore. -/
theorem refFrameCrossO : Cert.quiescent_CrossOReferenceIdeal := fun m ρ _ =>
  (θ_run Cert.CrossOReferenceIdeal.defs _ _).mono (fun r h => ⟨fun c => (h c).2, Idealize.ShloMosaic.sem_eq_zero_of_no_sems (by decide) r.2⟩)
    (Cert.CrossOReferenceIdeal.Value.run m ρ)

set_option maxRecDepth 65536 in
/-- Attention over the memory: the kernel's two arrays are the reference's, where the queries and keys are finite. -/
theorem algebraicCross : Cert.algebraic_CrossIdeal_CrossReferenceIdeal_pre_finite_cross := by
  pair_intro
  · run_from Cert.CrossIdeal.Value.run_blocks m g
  · refine (θ_run Cert.CrossReferenceIdeal.defs _ _).mono (fun r h c => ?_) (Cert.CrossReferenceIdeal.Value.run m' g')
    obtain ⟨e0, e1, e2⟩ := hagree c
    have hq : ∀ i, IsReal (m ((c.tc : Thread Cert.CrossIdeal.nD Cert.CrossIdeal.τ).loc Cert.CrossIdeal.main_arg0) i) := fun i => real_of_lt (congrFun (hpre c).1 i)
    have hk : ∀ i, IsReal (m ((c.tc : Thread Cert.CrossIdeal.nD Cert.CrossIdeal.τ).loc Cert.CrossIdeal.main_arg1) i) := fun i => real_of_lt (congrFun (hpre c).2 i)
    obtain ⟨h0, h1, h2⟩ := h c
    refine ⟨(h0.trans (Cert.CrossReferenceIdeal.Read.val_main_v23_eq _ _ _)).trans ?_, (h1.trans (Cert.CrossReferenceIdeal.Read.val_main_v32_eq _ _)).trans ?_, h2⟩
    · rw [e0, e1, e2, Cross.Fwd.final3]
      exact Cross.Fwd.ref3 _ _ _ hq hk
    · rw [e0, e1, Cross.Fwd.final4]
      exact Cross.Fwd.ref4 _ _ hq hk

/-- Its reference leaves its arguments unchanged; it declares no semaphore. -/
theorem refFrameCross : Cert.quiescent_CrossReferenceIdeal := fun m ρ _ =>
  (θ_run Cert.CrossReferenceIdeal.defs _ _).mono (fun r h => ⟨fun c => (h c).2.2, Idealize.ShloMosaic.sem_eq_zero_of_no_sems (by decide) r.2⟩)
    (Cert.CrossReferenceIdeal.Value.run m ρ)

set_option maxRecDepth 65536 in
/-- Attention over the memory, backward: the kernel's three arrays are the reference's, where the arguments are finite. -/
theorem algebraicCrossGrad : Cert.algebraic_CrossGradIdeal_CrossGradReferenceIdeal_pre_finite_cross_grad := by
  pair_intro
  · run_from Cert.CrossGradIdeal.Value.run_blocks m g
  · refine (θ_run Cert.CrossGradReferenceIdeal.defs _ _).mono (fun r h c => ?_) (Cert.CrossGradReferenceIdeal.Value.run m' g')
    obtain ⟨e0, e1, e2, e3⟩ := hagree c
    have hq : ∀ i, IsReal (Cross.Grad.aq m c i) := fun i => real_of_lt (congrFun (hpre c).1 i)
    have hk : ∀ i, IsReal (Cross.Grad.ak m c i) := fun i => real_of_lt (congrFun (hpre c).2.1 i)
    have hv : ∀ i, IsReal (Cross.Grad.av m c i) := fun i => real_of_lt (congrFun (hpre c).2.2.1 i)
    have hg : ∀ i, IsReal (Cross.Grad.ag m c i) := fun i => real_of_lt (congrFun (hpre c).2.2.2 i)
    obtain ⟨h0, h1, h2, h3⟩ := h c
    refine ⟨(h0.trans (Cert.CrossGradReferenceIdeal.Read.val_main_v67_eq m' c)).trans ?_, (h1.trans (Cert.CrossGradReferenceIdeal.Read.val_main_v65_eq m' c)).trans ?_,
      (h2.trans (Cert.CrossGradReferenceIdeal.Read.val_main_v46_eq _ _ _)).trans ?_, h3⟩
    · rw [e0, e1, e2, e3, Cross.Grad.final6, Cross.Grad.ao_eq]
      exact Cross.Grad.ref6 _ _ _ _ _ hq hk hv hg (Cross.Grad.al_eq m c)
    · rw [e0, e1, e2, e3, Cross.Grad.final7, Cross.Grad.ao_eq]
      exact Cross.Grad.ref7 _ _ _ _ _ hq hk hv hg (Cross.Grad.al_eq m c)
    · rw [e0, e1, e3, Cross.Grad.final8]
      exact Cross.Grad.ref8 _ _ _ _ hq hk (Cross.Grad.al_eq m c)

/-- Its reference leaves its arguments unchanged; it declares no semaphore. -/
theorem refFrameCrossGrad : Cert.quiescent_CrossGradReferenceIdeal := fun m ρ _ =>
  (θ_run Cert.CrossGradReferenceIdeal.defs _ _).mono (fun r h => ⟨fun c => (h c).2.2.2, Idealize.ShloMosaic.sem_eq_zero_of_no_sems (by decide) r.2⟩)
    (Cert.CrossGradReferenceIdeal.Value.run m ρ)

set_option maxRecDepth 65536 in
/-- The projection of the memory to keys or values: the kernel's array is the reference's. -/
theorem algebraicMemKeys : Cert.algebraic_MemKeysIdeal_MemKeysReferenceIdeal := by
  pair_intro
  · run_from Cert.MemKeysIdeal.Value.run_blocks m g
  · refine (θ_run Cert.MemKeysReferenceIdeal.defs _ _).mono (fun r h c => ?_) (Cert.MemKeysReferenceIdeal.Value.run m' g')
    obtain ⟨e0, e1⟩ := hagree c
    refine ⟨((h c).1.trans (Cert.MemKeysReferenceIdeal.Read.val_main_v3_eq _ _)).trans ?_, (h c).2⟩
    rw [e0, e1, Products.MemKeys.final]
    exact Products.MemKeys.ref_eq _ _

/-- Its reference leaves its arguments unchanged; it declares no semaphore. -/
theorem refFrameMemKeys : Cert.quiescent_MemKeysReferenceIdeal := fun m ρ _ =>
  (θ_run Cert.MemKeysReferenceIdeal.defs _ _).mono (fun r h => ⟨fun c => (h c).2, Idealize.ShloMosaic.sem_eq_zero_of_no_sems (by decide) r.2⟩)
    (Cert.MemKeysReferenceIdeal.Value.run m ρ)

set_option maxRecDepth 65536 in
/-- Its gradient in the memory: the kernel's array is the reference's. -/
theorem algebraicMemArg : Cert.algebraic_MemArgIdeal_MemArgReferenceIdeal := by
  pair_intro
  · run_from Cert.MemArgIdeal.Value.run_blocks m g
  · refine (θ_run Cert.MemArgReferenceIdeal.defs _ _).mono (fun r h c => ?_) (Cert.MemArgReferenceIdeal.Value.run m' g')
    obtain ⟨e0, e1⟩ := hagree c
    refine ⟨((h c).1.trans (Cert.MemArgReferenceIdeal.Read.val_main_v3_eq _ _)).trans ?_, (h c).2⟩
    rw [e0, e1, Products.MemArg.final]
    exact Products.MemArg.ref_eq _ _

/-- Its reference leaves its arguments unchanged; it declares no semaphore. -/
theorem refFrameMemArg : Cert.quiescent_MemArgReferenceIdeal := fun m ρ _ =>
  (θ_run Cert.MemArgReferenceIdeal.defs _ _).mono (fun r h => ⟨fun c => (h c).2, Idealize.ShloMosaic.sem_eq_zero_of_no_sems (by decide) r.2⟩)
    (Cert.MemArgReferenceIdeal.Value.run m ρ)

set_option maxRecDepth 65536 in
/-- Its gradient in the weights: the kernel's array is the reference's. -/
theorem algebraicMemWeights : Cert.algebraic_MemWeightsIdeal_MemWeightsReferenceIdeal := by
  pair_intro
  · run_from Cert.MemWeightsIdeal.Value.run_blocks m g
  · refine (θ_run Cert.MemWeightsReferenceIdeal.defs _ _).mono (fun r h c => ?_) (Cert.MemWeightsReferenceIdeal.Value.run m' g')
    obtain ⟨e0, e1⟩ := hagree c
    refine ⟨((h c).1.trans (Cert.MemWeightsReferenceIdeal.Read.val_main_v5_eq _ _)).trans ?_, (h c).2⟩
    rw [e0, e1, Products.MemWeights.final]
    exact Products.MemWeights.ref_eq _ _

/-- Its reference leaves its arguments unchanged; it declares no semaphore. -/
theorem refFrameMemWeights : Cert.quiescent_MemWeightsReferenceIdeal := fun m ρ _ =>
  (θ_run Cert.MemWeightsReferenceIdeal.defs _ _).mono (fun r h => ⟨fun c => (h c).2, Idealize.ShloMosaic.sem_eq_zero_of_no_sems (by decide) r.2⟩)
    (Cert.MemWeightsReferenceIdeal.Value.run m ρ)

set_option maxRecDepth 65536 in
/-- The norm of the rows: the kernel's array is the reference's. -/
theorem algebraicNorm : Cert.algebraic_NormIdeal_NormReferenceIdeal := by
  pair_intro
  · run_from Cert.NormIdeal.Value.run_blocks m g
  · refine (θ_run Cert.NormReferenceIdeal.defs _ _).mono (fun r h c => ?_) (Cert.NormReferenceIdeal.Value.run m' g')
    obtain ⟨e0, e1⟩ := hagree c
    refine ⟨((h c).1.trans (Cert.NormReferenceIdeal.Read.val_main_v13_eq _ _)).trans ?_, (h c).2⟩
    rw [e0, e1, Norms.Norm.final]
    exact Norms.Norm.ref_eq _ _

/-- Its reference leaves its arguments unchanged; it declares no semaphore. -/
theorem refFrameNorm : Cert.quiescent_NormReferenceIdeal := fun m ρ _ =>
  (θ_run Cert.NormReferenceIdeal.defs _ _).mono (fun r h => ⟨fun c => (h c).2, Idealize.ShloMosaic.sem_eq_zero_of_no_sems (by decide) r.2⟩)
    (Cert.NormReferenceIdeal.Value.run m ρ)

set_option maxRecDepth 65536 in
/-- The norm of the memory's rows: the kernel's array is the reference's. -/
theorem algebraicMemNorm : Cert.algebraic_MemNormIdeal_MemNormReferenceIdeal := by
  pair_intro
  · run_from Cert.MemNormIdeal.Value.run_blocks m g
  · refine (θ_run Cert.MemNormReferenceIdeal.defs _ _).mono (fun r h c => ?_) (Cert.MemNormReferenceIdeal.Value.run m' g')
    obtain ⟨e0, e1⟩ := hagree c
    refine ⟨((h c).1.trans (Cert.MemNormReferenceIdeal.Read.val_main_v13_eq _ _)).trans ?_, (h c).2⟩
    rw [e0, e1, Norms.MemNorm.final]
    exact Norms.MemNorm.ref_eq _ _

/-- Its reference leaves its arguments unchanged; it declares no semaphore. -/
theorem refFrameMemNorm : Cert.quiescent_MemNormReferenceIdeal := fun m ρ _ =>
  (θ_run Cert.MemNormReferenceIdeal.defs _ _).mono (fun r h => ⟨fun c => (h c).2, Idealize.ShloMosaic.sem_eq_zero_of_no_sems (by decide) r.2⟩)
    (Cert.MemNormReferenceIdeal.Value.run m ρ)

set_option maxRecDepth 65536 in
/-- The gradient of the norm of the rows: the kernel's three arrays are the reference's. -/
theorem algebraicNormGrad : Cert.algebraic_NormGradIdeal_NormGradReferenceIdeal := by
  pair_intro
  · run_from Cert.NormGradIdeal.Value.run_blocks m g
  · refine (θ_run Cert.NormGradReferenceIdeal.defs _ _).mono (fun r h c => ?_) (Cert.NormGradReferenceIdeal.Value.run m' g')
    obtain ⟨e0, e1, e2, e3⟩ := hagree c
    obtain ⟨h0, h1, h2, h3⟩ := h c
    refine ⟨(h0.trans (Cert.NormGradReferenceIdeal.Read.val_main_v37_eq _ _ _ _)).trans ?_, (h1.trans (Cert.NormGradReferenceIdeal.Read.val_main_v39_eq m' c)).trans ?_,
      (h2.trans (Cert.NormGradReferenceIdeal.Read.val_main_v40_eq _ _)).trans ?_, h3⟩
    · rw [e0, e1, e2, e3, Norms.NormGrad.final4]
      exact Norms.NormGrad.ref_dx _ _ _ _
    · rw [e0, e1, e2, e3, Norms.NormGrad.final5]
      exact Norms.NormGrad.ref_dx16 _ _ _ _
    · rw [e0, e2, Norms.NormGrad.final6]
      exact Norms.NormGrad.ref_dg _ _

/-- Its reference leaves its arguments unchanged; it declares no semaphore. -/
theorem refFrameNormGrad : Cert.quiescent_NormGradReferenceIdeal := fun m ρ _ =>
  (θ_run Cert.NormGradReferenceIdeal.defs _ _).mono (fun r h => ⟨fun c => (h c).2.2.2, Idealize.ShloMosaic.sem_eq_zero_of_no_sems (by decide) r.2⟩)
    (Cert.NormGradReferenceIdeal.Value.run m ρ)

set_option maxRecDepth 65536 in
/-- The gradient of the memory's norm: the kernel's three arrays are the reference's. -/
theorem algebraicMemNormGrad : Cert.algebraic_MemNormGradIdeal_MemNormGradReferenceIdeal := by
  pair_intro
  · run_from Cert.MemNormGradIdeal.Value.run_blocks m g
  · refine (θ_run Cert.MemNormGradReferenceIdeal.defs _ _).mono (fun r h c => ?_) (Cert.MemNormGradReferenceIdeal.Value.run m' g')
    obtain ⟨e0, e1, e2, e3⟩ := hagree c
    obtain ⟨h0, h1, h2, h3⟩ := h c
    refine ⟨(h0.trans (Cert.MemNormGradReferenceIdeal.Read.val_main_v36_eq _ _ _ _)).trans ?_, (h1.trans (Cert.MemNormGradReferenceIdeal.Read.val_main_v37_eq _ _ _ _)).trans ?_,
      (h2.trans (Cert.MemNormGradReferenceIdeal.Read.val_main_v38_eq _ _ _)).trans ?_, h3⟩
    · rw [e0, e1, e2, e3, Norms.MemNormGrad.final4]
      exact Norms.MemNormGrad.ref_dx _ _ _ _
    · rw [e0, e1, e2, e3, Norms.MemNormGrad.final5]
      exact Norms.MemNormGrad.ref_dx16 _ _ _ _
    · rw [e0, e2, e3, Norms.MemNormGrad.final6]
      exact Norms.MemNormGrad.ref_dg _ _ _

/-- Its reference leaves its arguments unchanged; it declares no semaphore. -/
theorem refFrameMemNormGrad : Cert.quiescent_MemNormGradReferenceIdeal := fun m ρ _ =>
  (θ_run Cert.MemNormGradReferenceIdeal.defs _ _).mono (fun r h => ⟨fun c => (h c).2.2.2, Idealize.ShloMosaic.sem_eq_zero_of_no_sems (by decide) r.2⟩)
    (Cert.MemNormGradReferenceIdeal.Value.run m ρ)

set_option maxRecDepth 65536 in
/-- The spatial gating unit: the kernel's array is the reference's. -/
theorem algebraicGateFwd : Cert.algebraic_GateFwdIdeal_GateFwdReferenceIdeal := by
  pair_intro
  · run_from Cert.GateFwdIdeal.Value.run_blocks m g
  · refine (θ_run Cert.GateFwdReferenceIdeal.defs _ _).mono (fun r h c => ?_) (Cert.GateFwdReferenceIdeal.Value.run m' g')
    obtain ⟨e0, e1, e2, e3, e4⟩ := hagree c
    refine ⟨((h c).1.trans (Cert.GateFwdReferenceIdeal.Read.val_main_v50_eq _ _)).trans ?_, (h c).2⟩
    rw [e0, e1, e2, e3, e4, Sgu.Fwd.final]
    exact Sgu.Fwd.ref_eq _ _ _ _ _

/-- Its reference leaves its arguments unchanged; it declares no semaphore. -/
theorem refFrameGateFwd : Cert.quiescent_GateFwdReferenceIdeal := fun m ρ _ =>
  (θ_run Cert.GateFwdReferenceIdeal.defs _ _).mono (fun r h => ⟨fun c => (h c).2, Idealize.ShloMosaic.sem_eq_zero_of_no_sems (by decide) r.2⟩)
    (Cert.GateFwdReferenceIdeal.Value.run m ρ)

set_option maxRecDepth 65536 in
/-- The final norm's loss and its gradient: the kernel's four arrays are the reference's. -/
theorem algebraicLoss : Cert.algebraic_LossIdeal_LossReferenceIdeal := by
  pair_intro
  · run_from Cert.LossIdeal.Value.run_blocks m g
  · refine (θ_run Cert.LossReferenceIdeal.defs _ _).mono (fun r h c => ?_) (Cert.LossReferenceIdeal.Value.run m' g')
    obtain ⟨e0, e1, e2⟩ := hagree c
    obtain ⟨h0, h1, h2, h3, h4⟩ := h c
    refine ⟨(h0.trans (Cert.LossReferenceIdeal.Read.val_main_v51_eq _ _ _)).trans ?_, (h1.trans (Cert.LossReferenceIdeal.Read.val_main_v52_eq _ _ _)).trans ?_,
      (h2.trans (Cert.LossReferenceIdeal.Read.val_main_v50_eq m' c)).trans ?_, (h3.trans (Cert.LossReferenceIdeal.Read.val_main_v53_eq m' c)).trans ?_, h4⟩
    · rw [e0, e1, e2, Norms.Loss.final3]
      exact Norms.Loss.ref_l _ _ _
    · rw [e0, e1, e2, Norms.Loss.final4]
      exact Norms.Loss.ref_dg _ _ _
    · rw [e0, e1, e2, Norms.Loss.final5]
      exact Norms.Loss.ref_dx _ _ _
    · rw [e0, e1, e2, Norms.Loss.final6]
      exact Norms.Loss.ref_dx16 _ _ _

/-- Its reference leaves its arguments unchanged; it declares no semaphore. -/
theorem refFrameLoss : Cert.quiescent_LossReferenceIdeal := fun m ρ _ =>
  (θ_run Cert.LossReferenceIdeal.defs _ _).mono (fun r h => ⟨fun c => (h c).2.2.2.2, Idealize.ShloMosaic.sem_eq_zero_of_no_sems (by decide) r.2⟩)
    (Cert.LossReferenceIdeal.Value.run m ρ)

set_option maxRecDepth 65536 in
/-- The step of the first layer's input weights: the kernel's four arrays are the reference's. -/
theorem algebraicStepAB : Cert.algebraic_StepABIdeal_StepABReferenceIdeal := by
  pair_intro
  · run_from Cert.StepABIdeal.Value.run_blocks m g
  · refine (θ_run Cert.StepABReferenceIdeal.defs _ _).mono (fun r h c => ?_) (Cert.StepABReferenceIdeal.Value.run m' g')
    obtain ⟨e0, e1, e2, e3⟩ := hagree c
    obtain ⟨h0, h1, h2, h3, h4⟩ := h c
    refine ⟨(h0.trans (Cert.StepABReferenceIdeal.Read.val_main_v0_eq _)).trans ?_, (h1.trans (Cert.StepABReferenceIdeal.Read.val_main_v24_eq _ _ _ _)).trans ?_,
      (h2.trans (Cert.StepABReferenceIdeal.Read.val_main_v5_eq _ _)).trans ?_, (h3.trans (Cert.StepABReferenceIdeal.Read.val_main_v11_eq _ _)).trans ?_, h4⟩
    · rw [e3, Steps.StepAB.final4]
      exact Steps.StepAB.ref_g _
    · rw [e0, e1, e2, e3, Steps.StepAB.final5]
      exact Steps.StepAB.ref_d _ _ _ _
    · rw [e1, e3, Steps.StepAB.final6]
      exact Steps.StepAB.ref_m _ _
    · rw [e2, e3, Steps.StepAB.final7]
      exact Steps.StepAB.ref_v _ _

/-- Its reference leaves its arguments unchanged; it declares no semaphore. -/
theorem refFrameStepAB : Cert.quiescent_StepABReferenceIdeal := fun m ρ _ =>
  (θ_run Cert.StepABReferenceIdeal.defs _ _).mono (fun r h => ⟨fun c => (h c).2.2.2.2, Idealize.ShloMosaic.sem_eq_zero_of_no_sems (by decide) r.2⟩)
    (Cert.StepABReferenceIdeal.Value.run m ρ)

set_option maxRecDepth 65536 in
/-- The step of the second layer's input weights: the kernel's four arrays are the reference's. -/
theorem algebraicStepC : Cert.algebraic_StepCIdeal_StepCReferenceIdeal := by
  pair_intro
  · run_from Cert.StepCIdeal.Value.run_blocks m g
  · refine (θ_run Cert.StepCReferenceIdeal.defs _ _).mono (fun r h c => ?_) (Cert.StepCReferenceIdeal.Value.run m' g')
    obtain ⟨e0, e1, e2, e3⟩ := hagree c
    obtain ⟨h0, h1, h2, h3, h4⟩ := h c
    refine ⟨(h0.trans (Cert.StepCReferenceIdeal.Read.val_main_v0_eq _)).trans ?_, (h1.trans (Cert.StepCReferenceIdeal.Read.val_main_v24_eq _ _ _ _)).trans ?_,
      (h2.trans (Cert.StepCReferenceIdeal.Read.val_main_v5_eq _ _)).trans ?_, (h3.trans (Cert.StepCReferenceIdeal.Read.val_main_v11_eq _ _)).trans ?_, h4⟩
    · rw [e3, Steps.StepC.final4]
      exact Steps.StepC.ref_g _
    · rw [e0, e1, e2, e3, Steps.StepC.final5]
      exact Steps.StepC.ref_d _ _ _ _
    · rw [e1, e3, Steps.StepC.final6]
      exact Steps.StepC.ref_m _ _
    · rw [e2, e3, Steps.StepC.final7]
      exact Steps.StepC.ref_v _ _

/-- Its reference leaves its arguments unchanged; it declares no semaphore. -/
theorem refFrameStepC : Cert.quiescent_StepCReferenceIdeal := fun m ρ _ =>
  (θ_run Cert.StepCReferenceIdeal.defs _ _).mono (fun r h => ⟨fun c => (h c).2.2.2.2, Idealize.ShloMosaic.sem_eq_zero_of_no_sems (by decide) r.2⟩)
    (Cert.StepCReferenceIdeal.Value.run m ρ)

set_option maxRecDepth 65536 in
/-- The step of the output weights: the kernel's four arrays are the reference's. -/
theorem algebraicStepOut : Cert.algebraic_StepOutIdeal_StepOutReferenceIdeal := by
  pair_intro
  · run_from Cert.StepOutIdeal.Value.run_blocks m g
  · refine (θ_run Cert.StepOutReferenceIdeal.defs _ _).mono (fun r h c => ?_) (Cert.StepOutReferenceIdeal.Value.run m' g')
    obtain ⟨e0, e1, e2, e3⟩ := hagree c
    obtain ⟨h0, h1, h2, h3, h4⟩ := h c
    refine ⟨(h0.trans (Cert.StepOutReferenceIdeal.Read.val_main_v1_eq _)).trans ?_, (h1.trans (Cert.StepOutReferenceIdeal.Read.val_main_v25_eq _ _ _ _)).trans ?_,
      (h2.trans (Cert.StepOutReferenceIdeal.Read.val_main_v6_eq _ _)).trans ?_, (h3.trans (Cert.StepOutReferenceIdeal.Read.val_main_v12_eq _ _)).trans ?_, h4⟩
    · rw [e3, Steps.StepOut.final4]
      exact Steps.StepOut.ref_g _
    · rw [e0, e1, e2, e3, Steps.StepOut.final5]
      exact Steps.StepOut.ref_d _ _ _ _
    · rw [e1, e3, Steps.StepOut.final6]
      exact Steps.StepOut.ref_m _ _
    · rw [e2, e3, Steps.StepOut.final7]
      exact Steps.StepOut.ref_v _ _

/-- Its reference leaves its arguments unchanged; it declares no semaphore. -/
theorem refFrameStepOut : Cert.quiescent_StepOutReferenceIdeal := fun m ρ _ =>
  (θ_run Cert.StepOutReferenceIdeal.defs _ _).mono (fun r h => ⟨fun c => (h c).2.2.2.2, Idealize.ShloMosaic.sem_eq_zero_of_no_sems (by decide) r.2⟩)
    (Cert.StepOutReferenceIdeal.Value.run m ρ)

/-- Everything the certificate claims. -/
theorem claim : Cert.Claim := ⟨Cert.Kernel.Gen.facts, Cert.KernelIdeal.Gen.facts, Cert.ReferenceIdeal.Gen.facts,
  Cert.OutArg.Gen.facts, Cert.OutArgIdeal.Gen.facts, Cert.OutArgReferenceIdeal.Gen.facts,
  Cert.OutWeights.Gen.facts, Cert.OutWeightsIdeal.Gen.facts, Cert.OutWeightsReferenceIdeal.Gen.facts,
  Cert.CrossArg.Gen.facts, Cert.CrossArgIdeal.Gen.facts, Cert.CrossArgReferenceIdeal.Gen.facts,
  Cert.CrossWeights.Gen.facts, Cert.CrossWeightsIdeal.Gen.facts, Cert.CrossWeightsReferenceIdeal.Gen.facts,
  Cert.InWeights.Gen.facts, Cert.InWeightsIdeal.Gen.facts, Cert.InWeightsReferenceIdeal.Gen.facts,
  Cert.InC.Gen.facts, Cert.InCIdeal.Gen.facts, Cert.InCReferenceIdeal.Gen.facts,
  Cert.OutC.Gen.facts, Cert.OutCIdeal.Gen.facts, Cert.OutCReferenceIdeal.Gen.facts,
  Cert.CrossQ.Gen.facts, Cert.CrossQIdeal.Gen.facts, Cert.CrossQReferenceIdeal.Gen.facts,
  Cert.CrossO.Gen.facts, Cert.CrossOIdeal.Gen.facts, Cert.CrossOReferenceIdeal.Gen.facts,
  Cert.Cross.Gen.facts, Cert.CrossIdeal.Gen.facts, Cert.CrossReferenceIdeal.Gen.facts,
  Cert.CrossGrad.Gen.facts, Cert.CrossGradIdeal.Gen.facts, Cert.CrossGradReferenceIdeal.Gen.facts,
  Cert.MemKeys.Gen.facts, Cert.MemKeysIdeal.Gen.facts, Cert.MemKeysReferenceIdeal.Gen.facts,
  Cert.MemArg.Gen.facts, Cert.MemArgIdeal.Gen.facts, Cert.MemArgReferenceIdeal.Gen.facts,
  Cert.MemWeights.Gen.facts, Cert.MemWeightsIdeal.Gen.facts, Cert.MemWeightsReferenceIdeal.Gen.facts,
  Cert.Norm.Gen.facts, Cert.NormIdeal.Gen.facts, Cert.NormReferenceIdeal.Gen.facts,
  Cert.MemNorm.Gen.facts, Cert.MemNormIdeal.Gen.facts, Cert.MemNormReferenceIdeal.Gen.facts,
  Cert.NormGrad.Gen.facts, Cert.NormGradIdeal.Gen.facts, Cert.NormGradReferenceIdeal.Gen.facts,
  Cert.MemNormGrad.Gen.facts, Cert.MemNormGradIdeal.Gen.facts, Cert.MemNormGradReferenceIdeal.Gen.facts,
  Cert.GateFwd.Gen.facts, Cert.GateFwdIdeal.Gen.facts, Cert.GateFwdReferenceIdeal.Gen.facts,
  Cert.Loss.Gen.facts, Cert.LossIdeal.Gen.facts, Cert.LossReferenceIdeal.Gen.facts,
  Cert.StepAB.Gen.facts, Cert.StepABIdeal.Gen.facts, Cert.StepABReferenceIdeal.Gen.facts,
  Cert.StepC.Gen.facts, Cert.StepCIdeal.Gen.facts, Cert.StepCReferenceIdeal.Gen.facts,
  Cert.StepOut.Gen.facts, Cert.StepOutIdeal.Gen.facts, Cert.StepOutReferenceIdeal.Gen.facts,
  preFacts, preCrossFacts, preCrossGradFacts,
  fun m ρ _ => Cert.Kernel.Gen.frame m ρ, fun m ρ _ => Cert.KernelIdeal.Gen.frame m ρ, fun m ρ _ => Cert.KernelIdeal.Gen.frame m ρ,
  refFrame, fun m ρ _ => refFrame m ρ trivial,
  fun m ρ _ => Cert.OutArg.Gen.frame m ρ, fun m ρ _ => Cert.OutArgIdeal.Gen.frame m ρ, refFrameOutArg,
  fun m ρ _ => Cert.OutWeights.Gen.frame m ρ, fun m ρ _ => Cert.OutWeightsIdeal.Gen.frame m ρ, refFrameOutWeights,
  fun m ρ _ => Cert.CrossArg.Gen.frame m ρ, fun m ρ _ => Cert.CrossArgIdeal.Gen.frame m ρ, refFrameCrossArg,
  fun m ρ _ => Cert.CrossWeights.Gen.frame m ρ, fun m ρ _ => Cert.CrossWeightsIdeal.Gen.frame m ρ, refFrameCrossWeights,
  fun m ρ _ => Cert.InWeights.Gen.frame m ρ, fun m ρ _ => Cert.InWeightsIdeal.Gen.frame m ρ, refFrameInWeights,
  fun m ρ _ => Cert.InC.Gen.frame m ρ, fun m ρ _ => Cert.InCIdeal.Gen.frame m ρ, refFrameInC,
  fun m ρ _ => Cert.OutC.Gen.frame m ρ, fun m ρ _ => Cert.OutCIdeal.Gen.frame m ρ, refFrameOutC,
  fun m ρ _ => Cert.CrossQ.Gen.frame m ρ, fun m ρ _ => Cert.CrossQIdeal.Gen.frame m ρ, refFrameCrossQ,
  fun m ρ _ => Cert.CrossO.Gen.frame m ρ, fun m ρ _ => Cert.CrossOIdeal.Gen.frame m ρ, refFrameCrossO,
  fun m ρ _ => Cert.Cross.Gen.frame m ρ, fun m ρ _ => Cert.CrossIdeal.Gen.frame m ρ, fun m ρ _ => Cert.CrossIdeal.Gen.frame m ρ,
  refFrameCross, fun m ρ _ => refFrameCross m ρ trivial,
  fun m ρ _ => Cert.CrossGrad.Gen.frame m ρ, fun m ρ _ => Cert.CrossGradIdeal.Gen.frame m ρ, fun m ρ _ => Cert.CrossGradIdeal.Gen.frame m ρ,
  refFrameCrossGrad, fun m ρ _ => refFrameCrossGrad m ρ trivial,
  fun m ρ _ => Cert.MemKeys.Gen.frame m ρ, fun m ρ _ => Cert.MemKeysIdeal.Gen.frame m ρ, refFrameMemKeys,
  fun m ρ _ => Cert.MemArg.Gen.frame m ρ, fun m ρ _ => Cert.MemArgIdeal.Gen.frame m ρ, refFrameMemArg,
  fun m ρ _ => Cert.MemWeights.Gen.frame m ρ, fun m ρ _ => Cert.MemWeightsIdeal.Gen.frame m ρ, refFrameMemWeights,
  fun m ρ _ => Cert.Norm.Gen.frame m ρ, fun m ρ _ => Cert.NormIdeal.Gen.frame m ρ, refFrameNorm,
  fun m ρ _ => Cert.MemNorm.Gen.frame m ρ, fun m ρ _ => Cert.MemNormIdeal.Gen.frame m ρ, refFrameMemNorm,
  fun m ρ _ => Cert.NormGrad.Gen.frame m ρ, fun m ρ _ => Cert.NormGradIdeal.Gen.frame m ρ, refFrameNormGrad,
  fun m ρ _ => Cert.MemNormGrad.Gen.frame m ρ, fun m ρ _ => Cert.MemNormGradIdeal.Gen.frame m ρ, refFrameMemNormGrad,
  fun m ρ _ => Cert.GateFwd.Gen.frame m ρ, fun m ρ _ => Cert.GateFwdIdeal.Gen.frame m ρ, refFrameGateFwd,
  fun m ρ _ => Cert.Loss.Gen.frame m ρ, fun m ρ _ => Cert.LossIdeal.Gen.frame m ρ, refFrameLoss,
  fun m ρ _ => Cert.StepAB.Gen.frame m ρ, fun m ρ _ => Cert.StepABIdeal.Gen.frame m ρ, refFrameStepAB,
  fun m ρ _ => Cert.StepC.Gen.frame m ρ, fun m ρ _ => Cert.StepCIdeal.Gen.frame m ρ, refFrameStepC,
  fun m ρ _ => Cert.StepOut.Gen.frame m ρ, fun m ρ _ => Cert.StepOutIdeal.Gen.frame m ρ, refFrameStepOut,
  trivial, algebraic,
  trivial, algebraicOutArg, trivial, algebraicOutWeights, trivial, algebraicCrossArg, trivial, algebraicCrossWeights, trivial, algebraicInWeights, trivial, algebraicInC, trivial, algebraicOutC, trivial, algebraicCrossQ, trivial, algebraicCrossO,
  trivial, algebraicCross, trivial, algebraicCrossGrad, trivial, algebraicMemKeys, trivial, algebraicMemArg, trivial, algebraicMemWeights, trivial, algebraicNorm, trivial, algebraicMemNorm, trivial, algebraicNormGrad, trivial, algebraicMemNormGrad, trivial, algebraicGateFwd, trivial, algebraicLoss, trivial, algebraicStepAB, trivial, algebraicStepC, trivial, algebraicStepOut⟩

end Cert.Proof

end
